-- ==== Defs.lean ====
def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_loss_finite [hPre_loss_finite : Cert.Pre_loss_finite.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))).1 = (fun _ => 1#1)
    ∧ (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))).2.1 = (fun _ => 1#1)
    ∧ (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))).2.2 = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_loss_finite [hPre_loss_finite : Cert.Pre_loss_finite.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))).1 = (fun _ => 1#1)
    ∧ (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))).2.1 = (fun _ => 1#1)
    ∧ (Cert.Pre_loss_finite.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))).2.2 = (fun _ => 1#1)

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_attn_finite [hPre_attn_finite : Cert.Pre_attn_finite.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))).1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))).2.1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))).2.2.1 = (fun _ => 1#1)
    ∧ (Cert.Pre_attn_finite.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3))).2.2.2 = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_attn_finite [hPre_attn_finite : Cert.Pre_attn_finite.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))).1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))).2.1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))).2.2.1 = (fun _ => 1#1)
    ∧ (Cert.Pre_attn_finite.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3))).2.2.2 = (fun _ => 1#1)

def Pre_MixInKernel (m : (ℓ : Loc Cert.MixInKernel.nD Cert.MixInKernel.τ Cert.MixInKernel.sig) → Buf (Elt Bits) ℓ) : Prop :=
  True

def Pre_MixInKernelIdeal (m : (ℓ : Loc Cert.MixInKernelIdeal.nD Cert.MixInKernelIdeal.τ Cert.MixInKernelIdeal.sig) → Buf (Elt Ideal) ℓ) : Prop :=
  True

def Pre_MixInKernelIdeal_mix_in_finite [hPre_mix_in_finite : Cert.Pre_mix_in_finite.Facts] (m : (ℓ : Loc Cert.MixInKernelIdeal.nD Cert.MixInKernelIdeal.τ Cert.MixInKernelIdeal.sig) → Buf (Elt Ideal) ℓ) : Prop :=
  ∀ c : Dev Cert.MixInKernelIdeal.nD,
    (Cert.Pre_mix_in_finite.fn (F := Ideal) (m ((c.tc : Thread Cert.MixInKernelIdeal.nD Cert.MixInKernelIdeal.τ).loc Cert.MixInKernelIdeal.main_arg0)) (m ((c.tc : Thread Cert.MixInKernelIdeal.nD Cert.MixInKernelIdeal.τ).loc Cert.MixInKernelIdeal.main_arg1)) (m ((c.tc : Thread Cert.MixInKernelIdeal.nD Cert.MixInKernelIdeal.τ).loc Cert.MixInKernelIdeal.main_arg2)) (m ((c.tc : Thread Cert.MixInKernelIdeal.nD Cert.MixInKernelIdeal.τ).loc Cert.MixInKernelIdeal.main_arg3)) (m ((c.tc : Thread Cert.MixInKernelIdeal.nD Cert.MixInKernelIdeal.τ).loc Cert.MixInKernelIdeal.main_arg4))).1 = (fun _ => 1#1)
    ∧ (Cert.Pre_mix_in_finite.fn (F := Ideal) (m ((c.tc : Thread Cert.MixInKernelIdeal.nD Cert.MixInKernelIdeal.τ).loc Cert.MixInKernelIdeal.main_arg0)) (m ((c.tc : Thread Cert.MixInKernelIdeal.nD Cert.MixInKernelIdeal.τ).loc Cert.MixInKernelIdeal.main_arg1)) (m ((c.tc : Thread Cert.MixInKernelIdeal.nD Cert.MixInKernelIdeal.τ).loc Cert.MixInKernelIdeal.main_arg2)) (m ((c.tc : Thread Cert.MixInKernelIdeal.nD Cert.MixInKernelIdeal.τ).loc Cert.MixInKernelIdeal.main_arg3)) (m ((c.tc : Thread Cert.MixInKernelIdeal.nD Cert.MixInKernelIdeal.τ).loc Cert.MixInKernelIdeal.main_arg4))).2.1 = (fun _ => 1#1)
    ∧ (Cert.Pre_mix_in_finite.fn (F := Ideal) (m ((c.tc : Thread Cert.MixInKernelIdeal.nD Cert.MixInKernelIdeal.τ).loc Cert.MixInKernelIdeal.main_arg0)) (m ((c.tc : Thread Cert.MixInKernelIdeal.nD Cert.MixInKernelIdeal.τ).loc Cert.MixInKernelIdeal.main_arg1)) (m ((c.tc : Thread Cert.MixInKernelIdeal.nD Cert.MixInKernelIdeal.τ).loc Cert.MixInKernelIdeal.main_arg2)) (m ((c.tc : Thread Cert.MixInKernelIdeal.nD Cert.MixInKernelIdeal.τ).loc Cert.MixInKernelIdeal.main_arg3)) (m ((c.tc : Thread Cert.MixInKernelIdeal.nD Cert.MixInKernelIdeal.τ).loc Cert.MixInKernelIdeal.main_arg4))).2.2.1 = (fun _ => 1#1)
    ∧ (Cert.Pre_mix_in_finite.fn (F := Ideal) (m ((c.tc : Thread Cert.MixInKernelIdeal.nD Cert.MixInKernelIdeal.τ).loc Cert.MixInKernelIdeal.main_arg0)) (m ((c.tc : Thread Cert.MixInKernelIdeal.nD Cert.MixInKernelIdeal.τ).loc Cert.MixInKernelIdeal.main_arg1)) (m ((c.tc : Thread Cert.MixInKernelIdeal.nD Cert.MixInKernelIdeal.τ).loc Cert.MixInKernelIdeal.main_arg2)) (m ((c.tc : Thread Cert.MixInKernelIdeal.nD Cert.MixInKernelIdeal.τ).loc Cert.MixInKernelIdeal.main_arg3)) (m ((c.tc : Thread Cert.MixInKernelIdeal.nD Cert.MixInKernelIdeal.τ).loc Cert.MixInKernelIdeal.main_arg4))).2.2.2.1 = (fun _ => 1#1)
    ∧ (Cert.Pre_mix_in_finite.fn (F := Ideal) (m ((c.tc : Thread Cert.MixInKernelIdeal.nD Cert.MixInKernelIdeal.τ).loc Cert.MixInKernelIdeal.main_arg0)) (m ((c.tc : Thread Cert.MixInKernelIdeal.nD Cert.MixInKernelIdeal.τ).loc Cert.MixInKernelIdeal.main_arg1)) (m ((c.tc : Thread Cert.MixInKernelIdeal.nD Cert.MixInKernelIdeal.τ).loc Cert.MixInKernelIdeal.main_arg2)) (m ((c.tc : Thread Cert.MixInKernelIdeal.nD Cert.MixInKernelIdeal.τ).loc Cert.MixInKernelIdeal.main_arg3)) (m ((c.tc : Thread Cert.MixInKernelIdeal.nD Cert.MixInKernelIdeal.τ).loc Cert.MixInKernelIdeal.main_arg4))).2.2.2.2 = (fun _ => 1#1)

def Pre_MixInReferenceIdeal (m : (ℓ : Loc Cert.MixInReferenceIdeal.nD Cert.MixInReferenceIdeal.τ Cert.MixInReferenceIdeal.sig) → Buf (Elt Ideal) ℓ) : Prop :=
  True

def Pre_MixInReferenceIdeal_mix_in_finite [hPre_mix_in_finite : Cert.Pre_mix_in_finite.Facts] (m : (ℓ : Loc Cert.MixInReferenceIdeal.nD Cert.MixInReferenceIdeal.τ Cert.MixInReferenceIdeal.sig) → Buf (Elt Ideal) ℓ) : Prop :=
  ∀ c : Dev Cert.MixInReferenceIdeal.nD,
    (Cert.Pre_mix_in_finite.fn (F := Ideal) (m ((c.tc : Thread Cert.MixInReferenceIdeal.nD Cert.MixInReferenceIdeal.τ).loc Cert.MixInReferenceIdeal.main_arg0)) (m ((c.tc : Thread Cert.MixInReferenceIdeal.nD Cert.MixInReferenceIdeal.τ).loc Cert.MixInReferenceIdeal.main_arg1)) (m ((c.tc : Thread Cert.MixInReferenceIdeal.nD Cert.MixInReferenceIdeal.τ).loc Cert.MixInReferenceIdeal.main_arg2)) (m ((c.tc : Thread Cert.MixInReferenceIdeal.nD Cert.MixInReferenceIdeal.τ).loc Cert.MixInReferenceIdeal.main_arg3)) (m ((c.tc : Thread Cert.MixInReferenceIdeal.nD Cert.MixInReferenceIdeal.τ).loc Cert.MixInReferenceIdeal.main_arg4))).1 = (fun _ => 1#1)
    ∧ (Cert.Pre_mix_in_finite.fn (F := Ideal) (m ((c.tc : Thread Cert.MixInReferenceIdeal.nD Cert.MixInReferenceIdeal.τ).loc Cert.MixInReferenceIdeal.main_arg0)) (m ((c.tc : Thread Cert.MixInReferenceIdeal.nD Cert.MixInReferenceIdeal.τ).loc Cert.MixInReferenceIdeal.main_arg1)) (m ((c.tc : Thread Cert.MixInReferenceIdeal.nD Cert.MixInReferenceIdeal.τ).loc Cert.MixInReferenceIdeal.main_arg2)) (m ((c.tc : Thread Cert.MixInReferenceIdeal.nD Cert.MixInReferenceIdeal.τ).loc Cert.MixInReferenceIdeal.main_arg3)) (m ((c.tc : Thread Cert.MixInReferenceIdeal.nD Cert.MixInReferenceIdeal.τ).loc Cert.MixInReferenceIdeal.main_arg4))).2.1 = (fun _ => 1#1)
    ∧ (Cert.Pre_mix_in_finite.fn (F := Ideal) (m ((c.tc : Thread Cert.MixInReferenceIdeal.nD Cert.MixInReferenceIdeal.τ).loc Cert.MixInReferenceIdeal.main_arg0)) (m ((c.tc : Thread Cert.MixInReferenceIdeal.nD Cert.MixInReferenceIdeal.τ).loc Cert.MixInReferenceIdeal.main_arg1)) (m ((c.tc : Thread Cert.MixInReferenceIdeal.nD Cert.MixInReferenceIdeal.τ).loc Cert.MixInReferenceIdeal.main_arg2)) (m ((c.tc : Thread Cert.MixInReferenceIdeal.nD Cert.MixInReferenceIdeal.τ).loc Cert.MixInReferenceIdeal.main_arg3)) (m ((c.tc : Thread Cert.MixInReferenceIdeal.nD Cert.MixInReferenceIdeal.τ).loc Cert.MixInReferenceIdeal.main_arg4))).2.2.1 = (fun _ => 1#1)
    ∧ (Cert.Pre_mix_in_finite.fn (F := Ideal) (m ((c.tc : Thread Cert.MixInReferenceIdeal.nD Cert.MixInReferenceIdeal.τ).loc Cert.MixInReferenceIdeal.main_arg0)) (m ((c.tc : Thread Cert.MixInReferenceIdeal.nD Cert.MixInReferenceIdeal.τ).loc Cert.MixInReferenceIdeal.main_arg1)) (m ((c.tc : Thread Cert.MixInReferenceIdeal.nD Cert.MixInReferenceIdeal.τ).loc Cert.MixInReferenceIdeal.main_arg2)) (m ((c.tc : Thread Cert.MixInReferenceIdeal.nD Cert.MixInReferenceIdeal.τ).loc Cert.MixInReferenceIdeal.main_arg3)) (m ((c.tc : Thread Cert.MixInReferenceIdeal.nD Cert.MixInReferenceIdeal.τ).loc Cert.MixInReferenceIdeal.main_arg4))).2.2.2.1 = (fun _ => 1#1)
    ∧ (Cert.Pre_mix_in_finite.fn (F := Ideal) (m ((c.tc : Thread Cert.MixInReferenceIdeal.nD Cert.MixInReferenceIdeal.τ).loc Cert.MixInReferenceIdeal.main_arg0)) (m ((c.tc : Thread Cert.MixInReferenceIdeal.nD Cert.MixInReferenceIdeal.τ).loc Cert.MixInReferenceIdeal.main_arg1)) (m ((c.tc : Thread Cert.MixInReferenceIdeal.nD Cert.MixInReferenceIdeal.τ).loc Cert.MixInReferenceIdeal.main_arg2)) (m ((c.tc : Thread Cert.MixInReferenceIdeal.nD Cert.MixInReferenceIdeal.τ).loc Cert.MixInReferenceIdeal.main_arg3)) (m ((c.tc : Thread Cert.MixInReferenceIdeal.nD Cert.MixInReferenceIdeal.τ).loc Cert.MixInReferenceIdeal.main_arg4))).2.2.2.2 = (fun _ => 1#1)

def Pre_MixOutKernel (m : (ℓ : Loc Cert.MixOutKernel.nD Cert.MixOutKernel.τ Cert.MixOutKernel.sig) → Buf (Elt Bits) ℓ) : Prop :=
  True

def Pre_MixOutKernelIdeal (m : (ℓ : Loc Cert.MixOutKernelIdeal.nD Cert.MixOutKernelIdeal.τ Cert.MixOutKernelIdeal.sig) → Buf (Elt Ideal) ℓ) : Prop :=
  True

def Pre_MixOutKernelIdeal_mix_out_finite [hPre_mix_out_finite : Cert.Pre_mix_out_finite.Facts] (m : (ℓ : Loc Cert.MixOutKernelIdeal.nD Cert.MixOutKernelIdeal.τ Cert.MixOutKernelIdeal.sig) → Buf (Elt Ideal) ℓ) : Prop :=
  ∀ c : Dev Cert.MixOutKernelIdeal.nD,
    (Cert.Pre_mix_out_finite.fn (F := Ideal) (m ((c.tc : Thread Cert.MixOutKernelIdeal.nD Cert.MixOutKernelIdeal.τ).loc Cert.MixOutKernelIdeal.main_arg0)) (m ((c.tc : Thread Cert.MixOutKernelIdeal.nD Cert.MixOutKernelIdeal.τ).loc Cert.MixOutKernelIdeal.main_arg1)) (m ((c.tc : Thread Cert.MixOutKernelIdeal.nD Cert.MixOutKernelIdeal.τ).loc Cert.MixOutKernelIdeal.main_arg2)) (m ((c.tc : Thread Cert.MixOutKernelIdeal.nD Cert.MixOutKernelIdeal.τ).loc Cert.MixOutKernelIdeal.main_arg3)) (m ((c.tc : Thread Cert.MixOutKernelIdeal.nD Cert.MixOutKernelIdeal.τ).loc Cert.MixOutKernelIdeal.main_arg4)) (m ((c.tc : Thread Cert.MixOutKernelIdeal.nD Cert.MixOutKernelIdeal.τ).loc Cert.MixOutKernelIdeal.main_arg5)) (m ((c.tc : Thread Cert.MixOutKernelIdeal.nD Cert.MixOutKernelIdeal.τ).loc Cert.MixOutKernelIdeal.main_arg6)) (m ((c.tc : Thread Cert.MixOutKernelIdeal.nD Cert.MixOutKernelIdeal.τ).loc Cert.MixOutKernelIdeal.main_arg7))).1 = (fun _ => 1#1)
    ∧ (Cert.Pre_mix_out_finite.fn (F := Ideal) (m ((c.tc : Thread Cert.MixOutKernelIdeal.nD Cert.MixOutKernelIdeal.τ).loc Cert.MixOutKernelIdeal.main_arg0)) (m ((c.tc : Thread Cert.MixOutKernelIdeal.nD Cert.MixOutKernelIdeal.τ).loc Cert.MixOutKernelIdeal.main_arg1)) (m ((c.tc : Thread Cert.MixOutKernelIdeal.nD Cert.MixOutKernelIdeal.τ).loc Cert.MixOutKernelIdeal.main_arg2)) (m ((c.tc : Thread Cert.MixOutKernelIdeal.nD Cert.MixOutKernelIdeal.τ).loc Cert.MixOutKernelIdeal.main_arg3)) (m ((c.tc : Thread Cert.MixOutKernelIdeal.nD Cert.MixOutKernelIdeal.τ).loc Cert.MixOutKernelIdeal.main_arg4)) (m ((c.tc : Thread Cert.MixOutKernelIdeal.nD Cert.MixOutKernelIdeal.τ).loc Cert.MixOutKernelIdeal.main_arg5)) (m ((c.tc : Thread Cert.MixOutKernelIdeal.nD Cert.MixOutKernelIdeal.τ).loc Cert.MixOutKernelIdeal.main_arg6)) (m ((c.tc : Thread Cert.MixOutKernelIdeal.nD Cert.MixOutKernelIdeal.τ).loc Cert.MixOutKernelIdeal.main_arg7))).2.1 = (fun _ => 1#1)
    ∧ (Cert.Pre_mix_out_finite.fn (F := Ideal) (m ((c.tc : Thread Cert.MixOutKernelIdeal.nD Cert.MixOutKernelIdeal.τ).loc Cert.MixOutKernelIdeal.main_arg0)) (m ((c.tc : Thread Cert.MixOutKernelIdeal.nD Cert.MixOutKernelIdeal.τ).loc Cert.MixOutKernelIdeal.main_arg1)) (m ((c.tc : Thread Cert.MixOutKernelIdeal.nD Cert.MixOutKernelIdeal.τ).loc Cert.MixOutKernelIdeal.main_arg2)) (m ((c.tc : Thread Cert.MixOutKernelIdeal.nD Cert.MixOutKernelIdeal.τ).loc Cert.MixOutKernelIdeal.main_arg3)) (m ((c.tc : Thread Cert.MixOutKernelIdeal.nD Cert.MixOutKernelIdeal.τ).loc Cert.MixOutKernelIdeal.main_arg4)) (m ((c.tc : Thread Cert.MixOutKernelIdeal.nD Cert.MixOutKernelIdeal.τ).loc Cert.MixOutKernelIdeal.main_arg5)) (m ((c.tc : Thread Cert.MixOutKernelIdeal.nD Cert.MixOutKernelIdeal.τ).loc Cert.MixOutKernelIdeal.main_arg6)) (m ((c.tc : Thread Cert.MixOutKernelIdeal.nD Cert.MixOutKernelIdeal.τ).loc Cert.MixOutKernelIdeal.main_arg7))).2.2.1 = (fun _ => 1#1)
    ∧ (Cert.Pre_mix_out_finite.fn (F := Ideal) (m ((c.tc : Thread Cert.MixOutKernelIdeal.nD Cert.MixOutKernelIdeal.τ).loc Cert.MixOutKernelIdeal.main_arg0)) (m ((c.tc : Thread Cert.MixOutKernelIdeal.nD Cert.MixOutKernelIdeal.τ).loc Cert.MixOutKernelIdeal.main_arg1)) (m ((c.tc : Thread Cert.MixOutKernelIdeal.nD Cert.MixOutKernelIdeal.τ).loc Cert.MixOutKernelIdeal.main_arg2)) (m ((c.tc : Thread Cert.MixOutKernelIdeal.nD Cert.MixOutKernelIdeal.τ).loc Cert.MixOutKernelIdeal.main_arg3)) (m ((c.tc : Thread Cert.MixOutKernelIdeal.nD Cert.MixOutKernelIdeal.τ).loc Cert.MixOutKernelIdeal.main_arg4)) (m ((c.tc : Thread Cert.MixOutKernelIdeal.nD Cert.MixOutKernelIdeal.τ).loc Cert.MixOutKernelIdeal.main_arg5)) (m ((c.tc : Thread Cert.MixOutKernelIdeal.nD Cert.MixOutKernelIdeal.τ).loc Cert.MixOutKernelIdeal.main_arg6)) (m ((c.tc : Thread Cert.MixOutKernelIdeal.nD Cert.MixOutKernelIdeal.τ).loc Cert.MixOutKernelIdeal.main_arg7))).2.2.2.1 = (fun _ => 1#1)
    ∧ (Cert.Pre_mix_out_finite.fn (F := Ideal) (m ((c.tc : Thread Cert.MixOutKernelIdeal.nD Cert.MixOutKernelIdeal.τ).loc Cert.MixOutKernelIdeal.main_arg0)) (m ((c.tc : Thread Cert.MixOutKernelIdeal.nD Cert.MixOutKernelIdeal.τ).loc Cert.MixOutKernelIdeal.main_arg1)) (m ((c.tc : Thread Cert.MixOutKernelIdeal.nD Cert.MixOutKernelIdeal.τ).loc Cert.MixOutKernelIdeal.main_arg2)) (m ((c.tc : Thread Cert.MixOutKernelIdeal.nD Cert.MixOutKernelIdeal.τ).loc Cert.MixOutKernelIdeal.main_arg3)) (m ((c.tc : Thread Cert.MixOutKernelIdeal.nD Cert.MixOutKernelIdeal.τ).loc Cert.MixOutKernelIdeal.main_arg4)) (m ((c.tc : Thread Cert.MixOutKernelIdeal.nD Cert.MixOutKernelIdeal.τ).loc Cert.MixOutKernelIdeal.main_arg5)) (m ((c.tc : Thread Cert.MixOutKernelIdeal.nD Cert.MixOutKernelIdeal.τ).loc Cert.MixOutKernelIdeal.main_arg6)) (m ((c.tc : Thread Cert.MixOutKernelIdeal.nD Cert.MixOutKernelIdeal.τ).loc Cert.MixOutKernelIdeal.main_arg7))).2.2.2.2.1 = (fun _ => 1#1)
    ∧ (Cert.Pre_mix_out_finite.fn (F := Ideal) (m ((c.tc : Thread Cert.MixOutKernelIdeal.nD Cert.MixOutKernelIdeal.τ).loc Cert.MixOutKernelIdeal.main_arg0)) (m ((c.tc : Thread Cert.MixOutKernelIdeal.nD Cert.MixOutKernelIdeal.τ).loc Cert.MixOutKernelIdeal.main_arg1)) (m ((c.tc : Thread Cert.MixOutKernelIdeal.nD Cert.MixOutKernelIdeal.τ).loc Cert.MixOutKernelIdeal.main_arg2)) (m ((c.tc : Thread Cert.MixOutKernelIdeal.nD Cert.MixOutKernelIdeal.τ).loc Cert.MixOutKernelIdeal.main_arg3)) (m ((c.tc : Thread Cert.MixOutKernelIdeal.nD Cert.MixOutKernelIdeal.τ).loc Cert.MixOutKernelIdeal.main_arg4)) (m ((c.tc : Thread Cert.MixOutKernelIdeal.nD Cert.MixOutKernelIdeal.τ).loc Cert.MixOutKernelIdeal.main_arg5)) (m ((c.tc : Thread Cert.MixOutKernelIdeal.nD Cert.MixOutKernelIdeal.τ).loc Cert.MixOutKernelIdeal.main_arg6)) (m ((c.tc : Thread Cert.MixOutKernelIdeal.nD Cert.MixOutKernelIdeal.τ).loc Cert.MixOutKernelIdeal.main_arg7))).2.2.2.2.2.1 = (fun _ => 1#1)
    ∧ (Cert.Pre_mix_out_finite.fn (F := Ideal) (m ((c.tc : Thread Cert.MixOutKernelIdeal.nD Cert.MixOutKernelIdeal.τ).loc Cert.MixOutKernelIdeal.main_arg0)) (m ((c.tc : Thread Cert.MixOutKernelIdeal.nD Cert.MixOutKernelIdeal.τ).loc Cert.MixOutKernelIdeal.main_arg1)) (m ((c.tc : Thread Cert.MixOutKernelIdeal.nD Cert.MixOutKernelIdeal.τ).loc Cert.MixOutKernelIdeal.main_arg2)) (m ((c.tc : Thread Cert.MixOutKernelIdeal.nD Cert.MixOutKernelIdeal.τ).loc Cert.MixOutKernelIdeal.main_arg3)) (m ((c.tc : Thread Cert.MixOutKernelIdeal.nD Cert.MixOutKernelIdeal.τ).loc Cert.MixOutKernelIdeal.main_arg4)) (m ((c.tc : Thread Cert.MixOutKernelIdeal.nD Cert.MixOutKernelIdeal.τ).loc Cert.MixOutKernelIdeal.main_arg5)) (m ((c.tc : Thread Cert.MixOutKernelIdeal.nD Cert.MixOutKernelIdeal.τ).loc Cert.MixOutKernelIdeal.main_arg6)) (m ((c.tc : Thread Cert.MixOutKernelIdeal.nD Cert.MixOutKernelIdeal.τ).loc Cert.MixOutKernelIdeal.main_arg7))).2.2.2.2.2.2.1 = (fun _ => 1#1)
    ∧ (Cert.Pre_mix_out_finite.fn (F := Ideal) (m ((c.tc : Thread Cert.MixOutKernelIdeal.nD Cert.MixOutKernelIdeal.τ).loc Cert.MixOutKernelIdeal.main_arg0)) (m ((c.tc : Thread Cert.MixOutKernelIdeal.nD Cert.MixOutKernelIdeal.τ).loc Cert.MixOutKernelIdeal.main_arg1)) (m ((c.tc : Thread Cert.MixOutKernelIdeal.nD Cert.MixOutKernelIdeal.τ).loc Cert.MixOutKernelIdeal.main_arg2)) (m ((c.tc : Thread Cert.MixOutKernelIdeal.nD Cert.MixOutKernelIdeal.τ).loc Cert.MixOutKernelIdeal.main_arg3)) (m ((c.tc : Thread Cert.MixOutKernelIdeal.nD Cert.MixOutKernelIdeal.τ).loc Cert.MixOutKernelIdeal.main_arg4)) (m ((c.tc : Thread Cert.MixOutKernelIdeal.nD Cert.MixOutKernelIdeal.τ).loc Cert.MixOutKernelIdeal.main_arg5)) (m ((c.tc : Thread Cert.MixOutKernelIdeal.nD Cert.MixOutKernelIdeal.τ).loc Cert.MixOutKernelIdeal.main_arg6)) (m ((c.tc : Thread Cert.MixOutKernelIdeal.nD Cert.MixOutKernelIdeal.τ).loc Cert.MixOutKernelIdeal.main_arg7))).2.2.2.2.2.2.2 = (fun _ => 1#1)

def Pre_MixOutReferenceIdeal (m : (ℓ : Loc Cert.MixOutReferenceIdeal.nD Cert.MixOutReferenceIdeal.τ Cert.MixOutReferenceIdeal.sig) → Buf (Elt Ideal) ℓ) : Prop :=
  True

def Pre_MixOutReferenceIdeal_mix_out_finite [hPre_mix_out_finite : Cert.Pre_mix_out_finite.Facts] (m : (ℓ : Loc Cert.MixOutReferenceIdeal.nD Cert.MixOutReferenceIdeal.τ Cert.MixOutReferenceIdeal.sig) → Buf (Elt Ideal) ℓ) : Prop :=
  ∀ c : Dev Cert.MixOutReferenceIdeal.nD,
    (Cert.Pre_mix_out_finite.fn (F := Ideal) (m ((c.tc : Thread Cert.MixOutReferenceIdeal.nD Cert.MixOutReferenceIdeal.τ).loc Cert.MixOutReferenceIdeal.main_arg0)) (m ((c.tc : Thread Cert.MixOutReferenceIdeal.nD Cert.MixOutReferenceIdeal.τ).loc Cert.MixOutReferenceIdeal.main_arg1)) (m ((c.tc : Thread Cert.MixOutReferenceIdeal.nD Cert.MixOutReferenceIdeal.τ).loc Cert.MixOutReferenceIdeal.main_arg2)) (m ((c.tc : Thread Cert.MixOutReferenceIdeal.nD Cert.MixOutReferenceIdeal.τ).loc Cert.MixOutReferenceIdeal.main_arg3)) (m ((c.tc : Thread Cert.MixOutReferenceIdeal.nD Cert.MixOutReferenceIdeal.τ).loc Cert.MixOutReferenceIdeal.main_arg4)) (m ((c.tc : Thread Cert.MixOutReferenceIdeal.nD Cert.MixOutReferenceIdeal.τ).loc Cert.MixOutReferenceIdeal.main_arg5)) (m ((c.tc : Thread Cert.MixOutReferenceIdeal.nD Cert.MixOutReferenceIdeal.τ).loc Cert.MixOutReferenceIdeal.main_arg6)) (m ((c.tc : Thread Cert.MixOutReferenceIdeal.nD Cert.MixOutReferenceIdeal.τ).loc Cert.MixOutReferenceIdeal.main_arg7))).1 = (fun _ => 1#1)
    ∧ (Cert.Pre_mix_out_finite.fn (F := Ideal) (m ((c.tc : Thread Cert.MixOutReferenceIdeal.nD Cert.MixOutReferenceIdeal.τ).loc Cert.MixOutReferenceIdeal.main_arg0)) (m ((c.tc : Thread Cert.MixOutReferenceIdeal.nD Cert.MixOutReferenceIdeal.τ).loc Cert.MixOutReferenceIdeal.main_arg1)) (m ((c.tc : Thread Cert.MixOutReferenceIdeal.nD Cert.MixOutReferenceIdeal.τ).loc Cert.MixOutReferenceIdeal.main_arg2)) (m ((c.tc : Thread Cert.MixOutReferenceIdeal.nD Cert.MixOutReferenceIdeal.τ).loc Cert.MixOutReferenceIdeal.main_arg3)) (m ((c.tc : Thread Cert.MixOutReferenceIdeal.nD Cert.MixOutReferenceIdeal.τ).loc Cert.MixOutReferenceIdeal.main_arg4)) (m ((c.tc : Thread Cert.MixOutReferenceIdeal.nD Cert.MixOutReferenceIdeal.τ).loc Cert.MixOutReferenceIdeal.main_arg5)) (m ((c.tc : Thread Cert.MixOutReferenceIdeal.nD Cert.MixOutReferenceIdeal.τ).loc Cert.MixOutReferenceIdeal.main_arg6)) (m ((c.tc : Thread Cert.MixOutReferenceIdeal.nD Cert.MixOutReferenceIdeal.τ).loc Cert.MixOutReferenceIdeal.main_arg7))).2.1 = (fun _ => 1#1)
    ∧ (Cert.Pre_mix_out_finite.fn (F := Ideal) (m ((c.tc : Thread Cert.MixOutReferenceIdeal.nD Cert.MixOutReferenceIdeal.τ).loc Cert.MixOutReferenceIdeal.main_arg0)) (m ((c.tc : Thread Cert.MixOutReferenceIdeal.nD Cert.MixOutReferenceIdeal.τ).loc Cert.MixOutReferenceIdeal.main_arg1)) (m ((c.tc : Thread Cert.MixOutReferenceIdeal.nD Cert.MixOutReferenceIdeal.τ).loc Cert.MixOutReferenceIdeal.main_arg2)) (m ((c.tc : Thread Cert.MixOutReferenceIdeal.nD Cert.MixOutReferenceIdeal.τ).loc Cert.MixOutReferenceIdeal.main_arg3)) (m ((c.tc : Thread Cert.MixOutReferenceIdeal.nD Cert.MixOutReferenceIdeal.τ).loc Cert.MixOutReferenceIdeal.main_arg4)) (m ((c.tc : Thread Cert.MixOutReferenceIdeal.nD Cert.MixOutReferenceIdeal.τ).loc Cert.MixOutReferenceIdeal.main_arg5)) (m ((c.tc : Thread Cert.MixOutReferenceIdeal.nD Cert.MixOutReferenceIdeal.τ).loc Cert.MixOutReferenceIdeal.main_arg6)) (m ((c.tc : Thread Cert.MixOutReferenceIdeal.nD Cert.MixOutReferenceIdeal.τ).loc Cert.MixOutReferenceIdeal.main_arg7))).2.2.1 = (fun _ => 1#1)
    ∧ (Cert.Pre_mix_out_finite.fn (F := Ideal) (m ((c.tc : Thread Cert.MixOutReferenceIdeal.nD Cert.MixOutReferenceIdeal.τ).loc Cert.MixOutReferenceIdeal.main_arg0)) (m ((c.tc : Thread Cert.MixOutReferenceIdeal.nD Cert.MixOutReferenceIdeal.τ).loc Cert.MixOutReferenceIdeal.main_arg1)) (m ((c.tc : Thread Cert.MixOutReferenceIdeal.nD Cert.MixOutReferenceIdeal.τ).loc Cert.MixOutReferenceIdeal.main_arg2)) (m ((c.tc : Thread Cert.MixOutReferenceIdeal.nD Cert.MixOutReferenceIdeal.τ).loc Cert.MixOutReferenceIdeal.main_arg3)) (m ((c.tc : Thread Cert.MixOutReferenceIdeal.nD Cert.MixOutReferenceIdeal.τ).loc Cert.MixOutReferenceIdeal.main_arg4)) (m ((c.tc : Thread Cert.MixOutReferenceIdeal.nD Cert.MixOutReferenceIdeal.τ).loc Cert.MixOutReferenceIdeal.main_arg5)) (m ((c.tc : Thread Cert.MixOutReferenceIdeal.nD Cert.MixOutReferenceIdeal.τ).loc Cert.MixOutReferenceIdeal.main_arg6)) (m ((c.tc : Thread Cert.MixOutReferenceIdeal.nD Cert.MixOutReferenceIdeal.τ).loc Cert.MixOutReferenceIdeal.main_arg7))).2.2.2.1 = (fun _ => 1#1)
    ∧ (Cert.Pre_mix_out_finite.fn (F := Ideal) (m ((c.tc : Thread Cert.MixOutReferenceIdeal.nD Cert.MixOutReferenceIdeal.τ).loc Cert.MixOutReferenceIdeal.main_arg0)) (m ((c.tc : Thread Cert.MixOutReferenceIdeal.nD Cert.MixOutReferenceIdeal.τ).loc Cert.MixOutReferenceIdeal.main_arg1)) (m ((c.tc : Thread Cert.MixOutReferenceIdeal.nD Cert.MixOutReferenceIdeal.τ).loc Cert.MixOutReferenceIdeal.main_arg2)) (m ((c.tc : Thread Cert.MixOutReferenceIdeal.nD Cert.MixOutReferenceIdeal.τ).loc Cert.MixOutReferenceIdeal.main_arg3)) (m ((c.tc : Thread Cert.MixOutReferenceIdeal.nD Cert.MixOutReferenceIdeal.τ).loc Cert.MixOutReferenceIdeal.main_arg4)) (m ((c.tc : Thread Cert.MixOutReferenceIdeal.nD Cert.MixOutReferenceIdeal.τ).loc Cert.MixOutReferenceIdeal.main_arg5)) (m ((c.tc : Thread Cert.MixOutReferenceIdeal.nD Cert.MixOutReferenceIdeal.τ).loc Cert.MixOutReferenceIdeal.main_arg6)) (m ((c.tc : Thread Cert.MixOutReferenceIdeal.nD Cert.MixOutReferenceIdeal.τ).loc Cert.MixOutReferenceIdeal.main_arg7))).2.2.2.2.1 = (fun _ => 1#1)
    ∧ (Cert.Pre_mix_out_finite.fn (F := Ideal) (m ((c.tc : Thread Cert.MixOutReferenceIdeal.nD Cert.MixOutReferenceIdeal.τ).loc Cert.MixOutReferenceIdeal.main_arg0)) (m ((c.tc : Thread Cert.MixOutReferenceIdeal.nD Cert.MixOutReferenceIdeal.τ).loc Cert.MixOutReferenceIdeal.main_arg1)) (m ((c.tc : Thread Cert.MixOutReferenceIdeal.nD Cert.MixOutReferenceIdeal.τ).loc Cert.MixOutReferenceIdeal.main_arg2)) (m ((c.tc : Thread Cert.MixOutReferenceIdeal.nD Cert.MixOutReferenceIdeal.τ).loc Cert.MixOutReferenceIdeal.main_arg3)) (m ((c.tc : Thread Cert.MixOutReferenceIdeal.nD Cert.MixOutReferenceIdeal.τ).loc Cert.MixOutReferenceIdeal.main_arg4)) (m ((c.tc : Thread Cert.MixOutReferenceIdeal.nD Cert.MixOutReferenceIdeal.τ).loc Cert.MixOutReferenceIdeal.main_arg5)) (m ((c.tc : Thread Cert.MixOutReferenceIdeal.nD Cert.MixOutReferenceIdeal.τ).loc Cert.MixOutReferenceIdeal.main_arg6)) (m ((c.tc : Thread Cert.MixOutReferenceIdeal.nD Cert.MixOutReferenceIdeal.τ).loc Cert.MixOutReferenceIdeal.main_arg7))).2.2.2.2.2.1 = (fun _ => 1#1)
    ∧ (Cert.Pre_mix_out_finite.fn (F := Ideal) (m ((c.tc : Thread Cert.MixOutReferenceIdeal.nD Cert.MixOutReferenceIdeal.τ).loc Cert.MixOutReferenceIdeal.main_arg0)) (m ((c.tc : Thread Cert.MixOutReferenceIdeal.nD Cert.MixOutReferenceIdeal.τ).loc Cert.MixOutReferenceIdeal.main_arg1)) (m ((c.tc : Thread Cert.MixOutReferenceIdeal.nD Cert.MixOutReferenceIdeal.τ).loc Cert.MixOutReferenceIdeal.main_arg2)) (m ((c.tc : Thread Cert.MixOutReferenceIdeal.nD Cert.MixOutReferenceIdeal.τ).loc Cert.MixOutReferenceIdeal.main_arg3)) (m ((c.tc : Thread Cert.MixOutReferenceIdeal.nD Cert.MixOutReferenceIdeal.τ).loc Cert.MixOutReferenceIdeal.main_arg4)) (m ((c.tc : Thread Cert.MixOutReferenceIdeal.nD Cert.MixOutReferenceIdeal.τ).loc Cert.MixOutReferenceIdeal.main_arg5)) (m ((c.tc : Thread Cert.MixOutReferenceIdeal.nD Cert.MixOutReferenceIdeal.τ).loc Cert.MixOutReferenceIdeal.main_arg6)) (m ((c.tc : Thread Cert.MixOutReferenceIdeal.nD Cert.MixOutReferenceIdeal.τ).loc Cert.MixOutReferenceIdeal.main_arg7))).2.2.2.2.2.2.1 = (fun _ => 1#1)
    ∧ (Cert.Pre_mix_out_finite.fn (F := Ideal) (m ((c.tc : Thread Cert.MixOutReferenceIdeal.nD Cert.MixOutReferenceIdeal.τ).loc Cert.MixOutReferenceIdeal.main_arg0)) (m ((c.tc : Thread Cert.MixOutReferenceIdeal.nD Cert.MixOutReferenceIdeal.τ).loc Cert.MixOutReferenceIdeal.main_arg1)) (m ((c.tc : Thread Cert.MixOutReferenceIdeal.nD Cert.MixOutReferenceIdeal.τ).loc Cert.MixOutReferenceIdeal.main_arg2)) (m ((c.tc : Thread Cert.MixOutReferenceIdeal.nD Cert.MixOutReferenceIdeal.τ).loc Cert.MixOutReferenceIdeal.main_arg3)) (m ((c.tc : Thread Cert.MixOutReferenceIdeal.nD Cert.MixOutReferenceIdeal.τ).loc Cert.MixOutReferenceIdeal.main_arg4)) (m ((c.tc : Thread Cert.MixOutReferenceIdeal.nD Cert.MixOutReferenceIdeal.τ).loc Cert.MixOutReferenceIdeal.main_arg5)) (m ((c.tc : Thread Cert.MixOutReferenceIdeal.nD Cert.MixOutReferenceIdeal.τ).loc Cert.MixOutReferenceIdeal.main_arg6)) (m ((c.tc : Thread Cert.MixOutReferenceIdeal.nD Cert.MixOutReferenceIdeal.τ).loc Cert.MixOutReferenceIdeal.main_arg7))).2.2.2.2.2.2.2 = (fun _ => 1#1)

def Pre_QkKernel (m : (ℓ : Loc Cert.QkKernel.nD Cert.QkKernel.τ Cert.QkKernel.sig) → Buf (Elt Bits) ℓ) : Prop :=
  True

def Pre_QkKernelIdeal (m : (ℓ : Loc Cert.QkKernelIdeal.nD Cert.QkKernelIdeal.τ Cert.QkKernelIdeal.sig) → Buf (Elt Ideal) ℓ) : Prop :=
  True

def Pre_QkKernelIdeal_qk_finite [hPre_qk_finite : Cert.Pre_qk_finite.Facts] (m : (ℓ : Loc Cert.QkKernelIdeal.nD Cert.QkKernelIdeal.τ Cert.QkKernelIdeal.sig) → Buf (Elt Ideal) ℓ) : Prop :=
  ∀ c : Dev Cert.QkKernelIdeal.nD,
    (Cert.Pre_qk_finite.fn (F := Ideal) (m ((c.tc : Thread Cert.QkKernelIdeal.nD Cert.QkKernelIdeal.τ).loc Cert.QkKernelIdeal.main_arg0)) (m ((c.tc : Thread Cert.QkKernelIdeal.nD Cert.QkKernelIdeal.τ).loc Cert.QkKernelIdeal.main_arg1)) (m ((c.tc : Thread Cert.QkKernelIdeal.nD Cert.QkKernelIdeal.τ).loc Cert.QkKernelIdeal.main_arg2)) (m ((c.tc : Thread Cert.QkKernelIdeal.nD Cert.QkKernelIdeal.τ).loc Cert.QkKernelIdeal.main_arg3)) (m ((c.tc : Thread Cert.QkKernelIdeal.nD Cert.QkKernelIdeal.τ).loc Cert.QkKernelIdeal.main_arg4)) (m ((c.tc : Thread Cert.QkKernelIdeal.nD Cert.QkKernelIdeal.τ).loc Cert.QkKernelIdeal.main_arg5))).1 = (fun _ => 1#1)
    ∧ (Cert.Pre_qk_finite.fn (F := Ideal) (m ((c.tc : Thread Cert.QkKernelIdeal.nD Cert.QkKernelIdeal.τ).loc Cert.QkKernelIdeal.main_arg0)) (m ((c.tc : Thread Cert.QkKernelIdeal.nD Cert.QkKernelIdeal.τ).loc Cert.QkKernelIdeal.main_arg1)) (m ((c.tc : Thread Cert.QkKernelIdeal.nD Cert.QkKernelIdeal.τ).loc Cert.QkKernelIdeal.main_arg2)) (m ((c.tc : Thread Cert.QkKernelIdeal.nD Cert.QkKernelIdeal.τ).loc Cert.QkKernelIdeal.main_arg3)) (m ((c.tc : Thread Cert.QkKernelIdeal.nD Cert.QkKernelIdeal.τ).loc Cert.QkKernelIdeal.main_arg4)) (m ((c.tc : Thread Cert.QkKernelIdeal.nD Cert.QkKernelIdeal.τ).loc Cert.QkKernelIdeal.main_arg5))).2.1 = (fun _ => 1#1)
    ∧ (Cert.Pre_qk_finite.fn (F := Ideal) (m ((c.tc : Thread Cert.QkKernelIdeal.nD Cert.QkKernelIdeal.τ).loc Cert.QkKernelIdeal.main_arg0)) (m ((c.tc : Thread Cert.QkKernelIdeal.nD Cert.QkKernelIdeal.τ).loc Cert.QkKernelIdeal.main_arg1)) (m ((c.tc : Thread Cert.QkKernelIdeal.nD Cert.QkKernelIdeal.τ).loc Cert.QkKernelIdeal.main_arg2)) (m ((c.tc : Thread Cert.QkKernelIdeal.nD Cert.QkKernelIdeal.τ).loc Cert.QkKernelIdeal.main_arg3)) (m ((c.tc : Thread Cert.QkKernelIdeal.nD Cert.QkKernelIdeal.τ).loc Cert.QkKernelIdeal.main_arg4)) (m ((c.tc : Thread Cert.QkKernelIdeal.nD Cert.QkKernelIdeal.τ).loc Cert.QkKernelIdeal.main_arg5))).2.2.1 = (fun _ => 1#1)
    ∧ (Cert.Pre_qk_finite.fn (F := Ideal) (m ((c.tc : Thread Cert.QkKernelIdeal.nD Cert.QkKernelIdeal.τ).loc Cert.QkKernelIdeal.main_arg0)) (m ((c.tc : Thread Cert.QkKernelIdeal.nD Cert.QkKernelIdeal.τ).loc Cert.QkKernelIdeal.main_arg1)) (m ((c.tc : Thread Cert.QkKernelIdeal.nD Cert.QkKernelIdeal.τ).loc Cert.QkKernelIdeal.main_arg2)) (m ((c.tc : Thread Cert.QkKernelIdeal.nD Cert.QkKernelIdeal.τ).loc Cert.QkKernelIdeal.main_arg3)) (m ((c.tc : Thread Cert.QkKernelIdeal.nD Cert.QkKernelIdeal.τ).loc Cert.QkKernelIdeal.main_arg4)) (m ((c.tc : Thread Cert.QkKernelIdeal.nD Cert.QkKernelIdeal.τ).loc Cert.QkKernelIdeal.main_arg5))).2.2.2.1 = (fun _ => 1#1)
    ∧ (Cert.Pre_qk_finite.fn (F := Ideal) (m ((c.tc : Thread Cert.QkKernelIdeal.nD Cert.QkKernelIdeal.τ).loc Cert.QkKernelIdeal.main_arg0)) (m ((c.tc : Thread Cert.QkKernelIdeal.nD Cert.QkKernelIdeal.τ).loc Cert.QkKernelIdeal.main_arg1)) (m ((c.tc : Thread Cert.QkKernelIdeal.nD Cert.QkKernelIdeal.τ).loc Cert.QkKernelIdeal.main_arg2)) (m ((c.tc : Thread Cert.QkKernelIdeal.nD Cert.QkKernelIdeal.τ).loc Cert.QkKernelIdeal.main_arg3)) (m ((c.tc : Thread Cert.QkKernelIdeal.nD Cert.QkKernelIdeal.τ).loc Cert.QkKernelIdeal.main_arg4)) (m ((c.tc : Thread Cert.QkKernelIdeal.nD Cert.QkKernelIdeal.τ).loc Cert.QkKernelIdeal.main_arg5))).2.2.2.2.1 = (fun _ => 1#1)
    ∧ (Cert.Pre_qk_finite.fn (F := Ideal) (m ((c.tc : Thread Cert.QkKernelIdeal.nD Cert.QkKernelIdeal.τ).loc Cert.QkKernelIdeal.main_arg0)) (m ((c.tc : Thread Cert.QkKernelIdeal.nD Cert.QkKernelIdeal.τ).loc Cert.QkKernelIdeal.main_arg1)) (m ((c.tc : Thread Cert.QkKernelIdeal.nD Cert.QkKernelIdeal.τ).loc Cert.QkKernelIdeal.main_arg2)) (m ((c.tc : Thread Cert.QkKernelIdeal.nD Cert.QkKernelIdeal.τ).loc Cert.QkKernelIdeal.main_arg3)) (m ((c.tc : Thread Cert.QkKernelIdeal.nD Cert.QkKernelIdeal.τ).loc Cert.QkKernelIdeal.main_arg4)) (m ((c.tc : Thread Cert.QkKernelIdeal.nD Cert.QkKernelIdeal.τ).loc Cert.QkKernelIdeal.main_arg5))).2.2.2.2.2 = (fun _ => 1#1)

def Pre_QkReferenceIdeal (m : (ℓ : Loc Cert.QkReferenceIdeal.nD Cert.QkReferenceIdeal.τ Cert.QkReferenceIdeal.sig) → Buf (Elt Ideal) ℓ) : Prop :=
  True

def Pre_QkReferenceIdeal_qk_finite [hPre_qk_finite : Cert.Pre_qk_finite.Facts] (m : (ℓ : Loc Cert.QkReferenceIdeal.nD Cert.QkReferenceIdeal.τ Cert.QkReferenceIdeal.sig) → Buf (Elt Ideal) ℓ) : Prop :=
  ∀ c : Dev Cert.QkReferenceIdeal.nD,
    (Cert.Pre_qk_finite.fn (F := Ideal) (m ((c.tc : Thread Cert.QkReferenceIdeal.nD Cert.QkReferenceIdeal.τ).loc Cert.QkReferenceIdeal.main_arg0)) (m ((c.tc : Thread Cert.QkReferenceIdeal.nD Cert.QkReferenceIdeal.τ).loc Cert.QkReferenceIdeal.main_arg1)) (m ((c.tc : Thread Cert.QkReferenceIdeal.nD Cert.QkReferenceIdeal.τ).loc Cert.QkReferenceIdeal.main_arg2)) (m ((c.tc : Thread Cert.QkReferenceIdeal.nD Cert.QkReferenceIdeal.τ).loc Cert.QkReferenceIdeal.main_arg3)) (m ((c.tc : Thread Cert.QkReferenceIdeal.nD Cert.QkReferenceIdeal.τ).loc Cert.QkReferenceIdeal.main_arg4)) (m ((c.tc : Thread Cert.QkReferenceIdeal.nD Cert.QkReferenceIdeal.τ).loc Cert.QkReferenceIdeal.main_arg5))).1 = (fun _ => 1#1)
    ∧ (Cert.Pre_qk_finite.fn (F := Ideal) (m ((c.tc : Thread Cert.QkReferenceIdeal.nD Cert.QkReferenceIdeal.τ).loc Cert.QkReferenceIdeal.main_arg0)) (m ((c.tc : Thread Cert.QkReferenceIdeal.nD Cert.QkReferenceIdeal.τ).loc Cert.QkReferenceIdeal.main_arg1)) (m ((c.tc : Thread Cert.QkReferenceIdeal.nD Cert.QkReferenceIdeal.τ).loc Cert.QkReferenceIdeal.main_arg2)) (m ((c.tc : Thread Cert.QkReferenceIdeal.nD Cert.QkReferenceIdeal.τ).loc Cert.QkReferenceIdeal.main_arg3)) (m ((c.tc : Thread Cert.QkReferenceIdeal.nD Cert.QkReferenceIdeal.τ).loc Cert.QkReferenceIdeal.main_arg4)) (m ((c.tc : Thread Cert.QkReferenceIdeal.nD Cert.QkReferenceIdeal.τ).loc Cert.QkReferenceIdeal.main_arg5))).2.1 = (fun _ => 1#1)
    ∧ (Cert.Pre_qk_finite.fn (F := Ideal) (m ((c.tc : Thread Cert.QkReferenceIdeal.nD Cert.QkReferenceIdeal.τ).loc Cert.QkReferenceIdeal.main_arg0)) (m ((c.tc : Thread Cert.QkReferenceIdeal.nD Cert.QkReferenceIdeal.τ).loc Cert.QkReferenceIdeal.main_arg1)) (m ((c.tc : Thread Cert.QkReferenceIdeal.nD Cert.QkReferenceIdeal.τ).loc Cert.QkReferenceIdeal.main_arg2)) (m ((c.tc : Thread Cert.QkReferenceIdeal.nD Cert.QkReferenceIdeal.τ).loc Cert.QkReferenceIdeal.main_arg3)) (m ((c.tc : Thread Cert.QkReferenceIdeal.nD Cert.QkReferenceIdeal.τ).loc Cert.QkReferenceIdeal.main_arg4)) (m ((c.tc : Thread Cert.QkReferenceIdeal.nD Cert.QkReferenceIdeal.τ).loc Cert.QkReferenceIdeal.main_arg5))).2.2.1 = (fun _ => 1#1)
    ∧ (Cert.Pre_qk_finite.fn (F := Ideal) (m ((c.tc : Thread Cert.QkReferenceIdeal.nD Cert.QkReferenceIdeal.τ).loc Cert.QkReferenceIdeal.main_arg0)) (m ((c.tc : Thread Cert.QkReferenceIdeal.nD Cert.QkReferenceIdeal.τ).loc Cert.QkReferenceIdeal.main_arg1)) (m ((c.tc : Thread Cert.QkReferenceIdeal.nD Cert.QkReferenceIdeal.τ).loc Cert.QkReferenceIdeal.main_arg2)) (m ((c.tc : Thread Cert.QkReferenceIdeal.nD Cert.QkReferenceIdeal.τ).loc Cert.QkReferenceIdeal.main_arg3)) (m ((c.tc : Thread Cert.QkReferenceIdeal.nD Cert.QkReferenceIdeal.τ).loc Cert.QkReferenceIdeal.main_arg4)) (m ((c.tc : Thread Cert.QkReferenceIdeal.nD Cert.QkReferenceIdeal.τ).loc Cert.QkReferenceIdeal.main_arg5))).2.2.2.1 = (fun _ => 1#1)
    ∧ (Cert.Pre_qk_finite.fn (F := Ideal) (m ((c.tc : Thread Cert.QkReferenceIdeal.nD Cert.QkReferenceIdeal.τ).loc Cert.QkReferenceIdeal.main_arg0)) (m ((c.tc : Thread Cert.QkReferenceIdeal.nD Cert.QkReferenceIdeal.τ).loc Cert.QkReferenceIdeal.main_arg1)) (m ((c.tc : Thread Cert.QkReferenceIdeal.nD Cert.QkReferenceIdeal.τ).loc Cert.QkReferenceIdeal.main_arg2)) (m ((c.tc : Thread Cert.QkReferenceIdeal.nD Cert.QkReferenceIdeal.τ).loc Cert.QkReferenceIdeal.main_arg3)) (m ((c.tc : Thread Cert.QkReferenceIdeal.nD Cert.QkReferenceIdeal.τ).loc Cert.QkReferenceIdeal.main_arg4)) (m ((c.tc : Thread Cert.QkReferenceIdeal.nD Cert.QkReferenceIdeal.τ).loc Cert.QkReferenceIdeal.main_arg5))).2.2.2.2.1 = (fun _ => 1#1)
    ∧ (Cert.Pre_qk_finite.fn (F := Ideal) (m ((c.tc : Thread Cert.QkReferenceIdeal.nD Cert.QkReferenceIdeal.τ).loc Cert.QkReferenceIdeal.main_arg0)) (m ((c.tc : Thread Cert.QkReferenceIdeal.nD Cert.QkReferenceIdeal.τ).loc Cert.QkReferenceIdeal.main_arg1)) (m ((c.tc : Thread Cert.QkReferenceIdeal.nD Cert.QkReferenceIdeal.τ).loc Cert.QkReferenceIdeal.main_arg2)) (m ((c.tc : Thread Cert.QkReferenceIdeal.nD Cert.QkReferenceIdeal.τ).loc Cert.QkReferenceIdeal.main_arg3)) (m ((c.tc : Thread Cert.QkReferenceIdeal.nD Cert.QkReferenceIdeal.τ).loc Cert.QkReferenceIdeal.main_arg4)) (m ((c.tc : Thread Cert.QkReferenceIdeal.nD Cert.QkReferenceIdeal.τ).loc Cert.QkReferenceIdeal.main_arg5))).2.2.2.2.2 = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_ffn_finite [hPre_ffn_finite : Cert.Pre_ffn_finite.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).2.1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).2.2.1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).2.2.2.1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).2.2.2.2.1 = (fun _ => 1#1)
    ∧ (Cert.Pre_ffn_finite.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3)) (m ((c.tc : Thread Cert.FfnKernelIdeal.nD Cert.FfnKernelIdeal.τ).loc Cert.FfnKernelIdeal.main_arg4)) (m ((c.tc : Thread Cert.FfnKernelIdeal.nD Cert.FfnKernelIdeal.τ).loc Cert.FfnKernelIdeal.main_arg5))).2.2.2.2.2 = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_ffn_finite [hPre_ffn_finite : Cert.Pre_ffn_finite.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.2.2.1 = (fun _ => 1#1)
    ∧ (Cert.Pre_ffn_finite.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))).2.2.2.2.2 = (fun _ => 1#1)

def Pre_MixInFwdKernel (m : (ℓ : Loc Cert.MixInFwdKernel.nD Cert.MixInFwdKernel.τ Cert.MixInFwdKernel.sig) → Buf (Elt Bits) ℓ) : Prop :=
  True

def Pre_MixInFwdKernelIdeal (m : (ℓ : Loc Cert.MixInFwdKernelIdeal.nD Cert.MixInFwdKernelIdeal.τ Cert.MixInFwdKernelIdeal.sig) → Buf (Elt Ideal) ℓ) : Prop :=
  True

def Pre_MixInFwdReferenceIdeal (m : (ℓ : Loc Cert.MixInFwdReferenceIdeal.nD Cert.MixInFwdReferenceIdeal.τ Cert.MixInFwdReferenceIdeal.sig) → Buf (Elt Ideal) ℓ) : Prop :=
  True

def Pre_MixOutFwdKernel (m : (ℓ : Loc Cert.MixOutFwdKernel.nD Cert.MixOutFwdKernel.τ Cert.MixOutFwdKernel.sig) → Buf (Elt Bits) ℓ) : Prop :=
  True

def Pre_MixOutFwdKernelIdeal (m : (ℓ : Loc Cert.MixOutFwdKernelIdeal.nD Cert.MixOutFwdKernelIdeal.τ Cert.MixOutFwdKernelIdeal.sig) → Buf (Elt Ideal) ℓ) : Prop :=
  True

def Pre_MixOutFwdReferenceIdeal (m : (ℓ : Loc Cert.MixOutFwdReferenceIdeal.nD Cert.MixOutFwdReferenceIdeal.τ Cert.MixOutFwdReferenceIdeal.sig) → Buf (Elt Ideal) ℓ) : Prop :=
  True

def Pre_QkFwdKernel (m : (ℓ : Loc Cert.QkFwdKernel.nD Cert.QkFwdKernel.τ Cert.QkFwdKernel.sig) → Buf (Elt Bits) ℓ) : Prop :=
  True

def Pre_QkFwdKernelIdeal (m : (ℓ : Loc Cert.QkFwdKernelIdeal.nD Cert.QkFwdKernelIdeal.τ Cert.QkFwdKernelIdeal.sig) → Buf (Elt Ideal) ℓ) : Prop :=
  True

def Pre_QkFwdKernelIdeal_qk_fwd_finite [hPre_qk_fwd_finite : Cert.Pre_qk_fwd_finite.Facts] (m : (ℓ : Loc Cert.QkFwdKernelIdeal.nD Cert.QkFwdKernelIdeal.τ Cert.QkFwdKernelIdeal.sig) → Buf (Elt Ideal) ℓ) : Prop :=
  ∀ c : Dev Cert.QkFwdKernelIdeal.nD,
    (Cert.Pre_qk_fwd_finite.fn (F := Ideal) (m ((c.tc : Thread Cert.QkFwdKernelIdeal.nD Cert.QkFwdKernelIdeal.τ).loc Cert.QkFwdKernelIdeal.main_arg0)) (m ((c.tc : Thread Cert.QkFwdKernelIdeal.nD Cert.QkFwdKernelIdeal.τ).loc Cert.QkFwdKernelIdeal.main_arg1)) (m ((c.tc : Thread Cert.QkFwdKernelIdeal.nD Cert.QkFwdKernelIdeal.τ).loc Cert.QkFwdKernelIdeal.main_arg2))).1 = (fun _ => 1#1)
    ∧ (Cert.Pre_qk_fwd_finite.fn (F := Ideal) (m ((c.tc : Thread Cert.QkFwdKernelIdeal.nD Cert.QkFwdKernelIdeal.τ).loc Cert.QkFwdKernelIdeal.main_arg0)) (m ((c.tc : Thread Cert.QkFwdKernelIdeal.nD Cert.QkFwdKernelIdeal.τ).loc Cert.QkFwdKernelIdeal.main_arg1)) (m ((c.tc : Thread Cert.QkFwdKernelIdeal.nD Cert.QkFwdKernelIdeal.τ).loc Cert.QkFwdKernelIdeal.main_arg2))).2.1 = (fun _ => 1#1)
    ∧ (Cert.Pre_qk_fwd_finite.fn (F := Ideal) (m ((c.tc : Thread Cert.QkFwdKernelIdeal.nD Cert.QkFwdKernelIdeal.τ).loc Cert.QkFwdKernelIdeal.main_arg0)) (m ((c.tc : Thread Cert.QkFwdKernelIdeal.nD Cert.QkFwdKernelIdeal.τ).loc Cert.QkFwdKernelIdeal.main_arg1)) (m ((c.tc : Thread Cert.QkFwdKernelIdeal.nD Cert.QkFwdKernelIdeal.τ).loc Cert.QkFwdKernelIdeal.main_arg2))).2.2 = (fun _ => 1#1)

def Pre_QkFwdReferenceIdeal (m : (ℓ : Loc Cert.QkFwdReferenceIdeal.nD Cert.QkFwdReferenceIdeal.τ Cert.QkFwdReferenceIdeal.sig) → Buf (Elt Ideal) ℓ) : Prop :=
  True

def Pre_QkFwdReferenceIdeal_qk_fwd_finite [hPre_qk_fwd_finite : Cert.Pre_qk_fwd_finite.Facts] (m : (ℓ : Loc Cert.QkFwdReferenceIdeal.nD Cert.QkFwdReferenceIdeal.τ Cert.QkFwdReferenceIdeal.sig) → Buf (Elt Ideal) ℓ) : Prop :=
  ∀ c : Dev Cert.QkFwdReferenceIdeal.nD,
    (Cert.Pre_qk_fwd_finite.fn (F := Ideal) (m ((c.tc : Thread Cert.QkFwdReferenceIdeal.nD Cert.QkFwdReferenceIdeal.τ).loc Cert.QkFwdReferenceIdeal.main_arg0)) (m ((c.tc : Thread Cert.QkFwdReferenceIdeal.nD Cert.QkFwdReferenceIdeal.τ).loc Cert.QkFwdReferenceIdeal.main_arg1)) (m ((c.tc : Thread Cert.QkFwdReferenceIdeal.nD Cert.QkFwdReferenceIdeal.τ).loc Cert.QkFwdReferenceIdeal.main_arg2))).1 = (fun _ => 1#1)
    ∧ (Cert.Pre_qk_fwd_finite.fn (F := Ideal) (m ((c.tc : Thread Cert.QkFwdReferenceIdeal.nD Cert.QkFwdReferenceIdeal.τ).loc Cert.QkFwdReferenceIdeal.main_arg0)) (m ((c.tc : Thread Cert.QkFwdReferenceIdeal.nD Cert.QkFwdReferenceIdeal.τ).loc Cert.QkFwdReferenceIdeal.main_arg1)) (m ((c.tc : Thread Cert.QkFwdReferenceIdeal.nD Cert.QkFwdReferenceIdeal.τ).loc Cert.QkFwdReferenceIdeal.main_arg2))).2.1 = (fun _ => 1#1)
    ∧ (Cert.Pre_qk_fwd_finite.fn (F := Ideal) (m ((c.tc : Thread Cert.QkFwdReferenceIdeal.nD Cert.QkFwdReferenceIdeal.τ).loc Cert.QkFwdReferenceIdeal.main_arg0)) (m ((c.tc : Thread Cert.QkFwdReferenceIdeal.nD Cert.QkFwdReferenceIdeal.τ).loc Cert.QkFwdReferenceIdeal.main_arg1)) (m ((c.tc : Thread Cert.QkFwdReferenceIdeal.nD Cert.QkFwdReferenceIdeal.τ).loc Cert.QkFwdReferenceIdeal.main_arg2))).2.2 = (fun _ => 1#1)

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossKernelIdeal_pre_loss_finite [hLossKernelIdeal : Cert.LossKernelIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_loss_finite m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_LossReferenceIdeal_pre_loss_finite [hLossReferenceIdeal : Cert.LossReferenceIdeal.Facts] [hPre_loss_finite : Cert.Pre_loss_finite.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_loss_finite m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ r.2.sem = fun _ => 0)

def quiescent_AttnKernelIdeal_pre_attn_finite [hAttnKernelIdeal : Cert.AttnKernelIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_attn_finite m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_AttnReferenceIdeal_pre_attn_finite [hAttnReferenceIdeal : Cert.AttnReferenceIdeal.Facts] [hPre_attn_finite : Cert.Pre_attn_finite.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_attn_finite m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3))
      ∧ r.2.sem = fun _ => 0)

def quiescent_MixInKernel [hMixInKernel : Cert.MixInKernel.Facts] : Prop :=
  ∀ (m : (ℓ : Loc Cert.MixInKernel.nD Cert.MixInKernel.τ Cert.MixInKernel.sig) → Buf (Elt Bits) ℓ) (g : Dev Cert.MixInKernel.nD → PrngReg), Pre_MixInKernel m →
    θ_run (Cert.MixInKernel.defs (F := Bits)) (onTc (τ := Cert.MixInKernel.τ) (Cert.MixInKernel.main (F := Bits))) ⟨m, fun _ => 0, g⟩ (fun r => (∀ c : Dev Cert.MixInKernel.nD,
      r.2.mem ((c.tc : Thread Cert.MixInKernel.nD Cert.MixInKernel.τ).loc Cert.MixInKernel.main_arg0) = m ((c.tc : Thread Cert.MixInKernel.nD Cert.MixInKernel.τ).loc Cert.MixInKernel.main_arg0)
      ∧ r.2.mem ((c.tc : Thread Cert.MixInKernel.nD Cert.MixInKernel.τ).loc Cert.MixInKernel.main_arg1) = m ((c.tc : Thread Cert.MixInKernel.nD Cert.MixInKernel.τ).loc Cert.MixInKernel.main_arg1)
      ∧ r.2.mem ((c.tc : Thread Cert.MixInKernel.nD Cert.MixInKernel.τ).loc Cert.MixInKernel.main_arg2) = m ((c.tc : Thread Cert.MixInKernel.nD Cert.MixInKernel.τ).loc Cert.MixInKernel.main_arg2)
      ∧ r.2.mem ((c.tc : Thread Cert.MixInKernel.nD Cert.MixInKernel.τ).loc Cert.MixInKernel.main_arg3) = m ((c.tc : Thread Cert.MixInKernel.nD Cert.MixInKernel.τ).loc Cert.MixInKernel.main_arg3)
      ∧ r.2.mem ((c.tc : Thread Cert.MixInKernel.nD Cert.MixInKernel.τ).loc Cert.MixInKernel.main_arg4) = m ((c.tc : Thread Cert.MixInKernel.nD Cert.MixInKernel.τ).loc Cert.MixInKernel.main_arg4))
      ∧ r.2.sem = fun _ => 0)

def quiescent_MixInKernelIdeal [hMixInKernelIdeal : Cert.MixInKernelIdeal.Facts] : Prop :=
  ∀ (m : (ℓ : Loc Cert.MixInKernelIdeal.nD Cert.MixInKernelIdeal.τ Cert.MixInKernelIdeal.sig) → Buf (Elt Ideal) ℓ) (g : Dev Cert.MixInKernelIdeal.nD → PrngReg), Pre_MixInKernelIdeal m →
    θ_run (Cert.MixInKernelIdeal.defs (F := Ideal)) (onTc (τ := Cert.MixInKernelIdeal.τ) (Cert.MixInKernelIdeal.main (F := Ideal))) ⟨m, fun _ => 0, g⟩ (fun r => (∀ c : Dev Cert.MixInKernelIdeal.nD,
      r.2.mem ((c.tc : Thread Cert.MixInKernelIdeal.nD Cert.MixInKernelIdeal.τ).loc Cert.MixInKernelIdeal.main_arg0) = m ((c.tc : Thread Cert.MixInKernelIdeal.nD Cert.MixInKernelIdeal.τ).loc Cert.MixInKernelIdeal.main_arg0)
      ∧ r.2.mem ((c.tc : Thread Cert.MixInKernelIdeal.nD Cert.MixInKernelIdeal.τ).loc Cert.MixInKernelIdeal.main_arg1) = m ((c.tc : Thread Cert.MixInKernelIdeal.nD Cert.MixInKernelIdeal.τ).loc Cert.MixInKernelIdeal.main_arg1)
      ∧ r.2.mem ((c.tc : Thread Cert.MixInKernelIdeal.nD Cert.MixInKernelIdeal.τ).loc Cert.MixInKernelIdeal.main_arg2) = m ((c.tc : Thread Cert.MixInKernelIdeal.nD Cert.MixInKernelIdeal.τ).loc Cert.MixInKernelIdeal.main_arg2)
      ∧ r.2.mem ((c.tc : Thread Cert.MixInKernelIdeal.nD Cert.MixInKernelIdeal.τ).loc Cert.MixInKernelIdeal.main_arg3) = m ((c.tc : Thread Cert.MixInKernelIdeal.nD Cert.MixInKernelIdeal.τ).loc Cert.MixInKernelIdeal.main_arg3)
      ∧ r.2.mem ((c.tc : Thread Cert.MixInKernelIdeal.nD Cert.MixInKernelIdeal.τ).loc Cert.MixInKernelIdeal.main_arg4) = m ((c.tc : Thread Cert.MixInKernelIdeal.nD Cert.MixInKernelIdeal.τ).loc Cert.MixInKernelIdeal.main_arg4))
      ∧ r.2.sem = fun _ => 0)

def quiescent_MixInKernelIdeal_pre_mix_in_finite [hMixInKernelIdeal : Cert.MixInKernelIdeal.Facts] [hPre_mix_in_finite : Cert.Pre_mix_in_finite.Facts] : Prop :=
  ∀ (m : (ℓ : Loc Cert.MixInKernelIdeal.nD Cert.MixInKernelIdeal.τ Cert.MixInKernelIdeal.sig) → Buf (Elt Ideal) ℓ) (g : Dev Cert.MixInKernelIdeal.nD → PrngReg), Pre_MixInKernelIdeal_mix_in_finite m →
    θ_run (Cert.MixInKernelIdeal.defs (F := Ideal)) (onTc (τ := Cert.MixInKernelIdeal.τ) (Cert.MixInKernelIdeal.main (F := Ideal))) ⟨m, fun _ => 0, g⟩ (fun r => (∀ c : Dev Cert.MixInKernelIdeal.nD,
      r.2.mem ((c.tc : Thread Cert.MixInKernelIdeal.nD Cert.MixInKernelIdeal.τ).loc Cert.MixInKernelIdeal.main_arg0) = m ((c.tc : Thread Cert.MixInKernelIdeal.nD Cert.MixInKernelIdeal.τ).loc Cert.MixInKernelIdeal.main_arg0)
      ∧ r.2.mem ((c.tc : Thread Cert.MixInKernelIdeal.nD Cert.MixInKernelIdeal.τ).loc Cert.MixInKernelIdeal.main_arg1) = m ((c.tc : Thread Cert.MixInKernelIdeal.nD Cert.MixInKernelIdeal.τ).loc Cert.MixInKernelIdeal.main_arg1)
      ∧ r.2.mem ((c.tc : Thread Cert.MixInKernelIdeal.nD Cert.MixInKernelIdeal.τ).loc Cert.MixInKernelIdeal.main_arg2) = m ((c.tc : Thread Cert.MixInKernelIdeal.nD Cert.MixInKernelIdeal.τ).loc Cert.MixInKernelIdeal.main_arg2)
      ∧ r.2.mem ((c.tc : Thread Cert.MixInKernelIdeal.nD Cert.MixInKernelIdeal.τ).loc Cert.MixInKernelIdeal.main_arg3) = m ((c.tc : Thread Cert.MixInKernelIdeal.nD Cert.MixInKernelIdeal.τ).loc Cert.MixInKernelIdeal.main_arg3)
      ∧ r.2.mem ((c.tc : Thread Cert.MixInKernelIdeal.nD Cert.MixInKernelIdeal.τ).loc Cert.MixInKernelIdeal.main_arg4) = m ((c.tc : Thread Cert.MixInKernelIdeal.nD Cert.MixInKernelIdeal.τ).loc Cert.MixInKernelIdeal.main_arg4))
      ∧ r.2.sem = fun _ => 0)

def quiescent_MixInReferenceIdeal [hMixInReferenceIdeal : Cert.MixInReferenceIdeal.Facts] : Prop :=
  ∀ (m : (ℓ : Loc Cert.MixInReferenceIdeal.nD Cert.MixInReferenceIdeal.τ Cert.MixInReferenceIdeal.sig) → Buf (Elt Ideal) ℓ) (g : Dev Cert.MixInReferenceIdeal.nD → PrngReg), Pre_MixInReferenceIdeal m →
    θ_run (Cert.MixInReferenceIdeal.defs (F := Ideal)) (onTc (τ := Cert.MixInReferenceIdeal.τ) (Cert.MixInReferenceIdeal.main (F := Ideal))) ⟨m, fun _ => 0, g⟩ (fun r => (∀ c : Dev Cert.MixInReferenceIdeal.nD,
      r.2.mem ((c.tc : Thread Cert.MixInReferenceIdeal.nD Cert.MixInReferenceIdeal.τ).loc Cert.MixInReferenceIdeal.main_arg0) = m ((c.tc : Thread Cert.MixInReferenceIdeal.nD Cert.MixInReferenceIdeal.τ).loc Cert.MixInReferenceIdeal.main_arg0)
      ∧ r.2.mem ((c.tc : Thread Cert.MixInReferenceIdeal.nD Cert.MixInReferenceIdeal.τ).loc Cert.MixInReferenceIdeal.main_arg1) = m ((c.tc : Thread Cert.MixInReferenceIdeal.nD Cert.MixInReferenceIdeal.τ).loc Cert.MixInReferenceIdeal.main_arg1)
      ∧ r.2.mem ((c.tc : Thread Cert.MixInReferenceIdeal.nD Cert.MixInReferenceIdeal.τ).loc Cert.MixInReferenceIdeal.main_arg2) = m ((c.tc : Thread Cert.MixInReferenceIdeal.nD Cert.MixInReferenceIdeal.τ).loc Cert.MixInReferenceIdeal.main_arg2)
      ∧ r.2.mem ((c.tc : Thread Cert.MixInReferenceIdeal.nD Cert.MixInReferenceIdeal.τ).loc Cert.MixInReferenceIdeal.main_arg3) = m ((c.tc : Thread Cert.MixInReferenceIdeal.nD Cert.MixInReferenceIdeal.τ).loc Cert.MixInReferenceIdeal.main_arg3)
      ∧ r.2.mem ((c.tc : Thread Cert.MixInReferenceIdeal.nD Cert.MixInReferenceIdeal.τ).loc Cert.MixInReferenceIdeal.main_arg4) = m ((c.tc : Thread Cert.MixInReferenceIdeal.nD Cert.MixInReferenceIdeal.τ).loc Cert.MixInReferenceIdeal.main_arg4))
      ∧ r.2.sem = fun _ => 0)

def quiescent_MixInReferenceIdeal_pre_mix_in_finite [hMixInReferenceIdeal : Cert.MixInReferenceIdeal.Facts] [hPre_mix_in_finite : Cert.Pre_mix_in_finite.Facts] : Prop :=
  ∀ (m : (ℓ : Loc Cert.MixInReferenceIdeal.nD Cert.MixInReferenceIdeal.τ Cert.MixInReferenceIdeal.sig) → Buf (Elt Ideal) ℓ) (g : Dev Cert.MixInReferenceIdeal.nD → PrngReg), Pre_MixInReferenceIdeal_mix_in_finite m →
    θ_run (Cert.MixInReferenceIdeal.defs (F := Ideal)) (onTc (τ := Cert.MixInReferenceIdeal.τ) (Cert.MixInReferenceIdeal.main (F := Ideal))) ⟨m, fun _ => 0, g⟩ (fun r => (∀ c : Dev Cert.MixInReferenceIdeal.nD,
      r.2.mem ((c.tc : Thread Cert.MixInReferenceIdeal.nD Cert.MixInReferenceIdeal.τ).loc Cert.MixInReferenceIdeal.main_arg0) = m ((c.tc : Thread Cert.MixInReferenceIdeal.nD Cert.MixInReferenceIdeal.τ).loc Cert.MixInReferenceIdeal.main_arg0)
      ∧ r.2.mem ((c.tc : Thread Cert.MixInReferenceIdeal.nD Cert.MixInReferenceIdeal.τ).loc Cert.MixInReferenceIdeal.main_arg1) = m ((c.tc : Thread Cert.MixInReferenceIdeal.nD Cert.MixInReferenceIdeal.τ).loc Cert.MixInReferenceIdeal.main_arg1)
      ∧ r.2.mem ((c.tc : Thread Cert.MixInReferenceIdeal.nD Cert.MixInReferenceIdeal.τ).loc Cert.MixInReferenceIdeal.main_arg2) = m ((c.tc : Thread Cert.MixInReferenceIdeal.nD Cert.MixInReferenceIdeal.τ).loc Cert.MixInReferenceIdeal.main_arg2)
      ∧ r.2.mem ((c.tc : Thread Cert.MixInReferenceIdeal.nD Cert.MixInReferenceIdeal.τ).loc Cert.MixInReferenceIdeal.main_arg3) = m ((c.tc : Thread Cert.MixInReferenceIdeal.nD Cert.MixInReferenceIdeal.τ).loc Cert.MixInReferenceIdeal.main_arg3)
      ∧ r.2.mem ((c.tc : Thread Cert.MixInReferenceIdeal.nD Cert.MixInReferenceIdeal.τ).loc Cert.MixInReferenceIdeal.main_arg4) = m ((c.tc : Thread Cert.MixInReferenceIdeal.nD Cert.MixInReferenceIdeal.τ).loc Cert.MixInReferenceIdeal.main_arg4))
      ∧ r.2.sem = fun _ => 0)

def quiescent_MixOutKernel [hMixOutKernel : Cert.MixOutKernel.Facts] : Prop :=
  ∀ (m : (ℓ : Loc Cert.MixOutKernel.nD Cert.MixOutKernel.τ Cert.MixOutKernel.sig) → Buf (Elt Bits) ℓ) (g : Dev Cert.MixOutKernel.nD → PrngReg), Pre_MixOutKernel m →
    θ_run (Cert.MixOutKernel.defs (F := Bits)) (onTc (τ := Cert.MixOutKernel.τ) (Cert.MixOutKernel.main (F := Bits))) ⟨m, fun _ => 0, g⟩ (fun r => (∀ c : Dev Cert.MixOutKernel.nD,
      r.2.mem ((c.tc : Thread Cert.MixOutKernel.nD Cert.MixOutKernel.τ).loc Cert.MixOutKernel.main_arg0) = m ((c.tc : Thread Cert.MixOutKernel.nD Cert.MixOutKernel.τ).loc Cert.MixOutKernel.main_arg0)
      ∧ r.2.mem ((c.tc : Thread Cert.MixOutKernel.nD Cert.MixOutKernel.τ).loc Cert.MixOutKernel.main_arg1) = m ((c.tc : Thread Cert.MixOutKernel.nD Cert.MixOutKernel.τ).loc Cert.MixOutKernel.main_arg1)
      ∧ r.2.mem ((c.tc : Thread Cert.MixOutKernel.nD Cert.MixOutKernel.τ).loc Cert.MixOutKernel.main_arg2) = m ((c.tc : Thread Cert.MixOutKernel.nD Cert.MixOutKernel.τ).loc Cert.MixOutKernel.main_arg2)
      ∧ r.2.mem ((c.tc : Thread Cert.MixOutKernel.nD Cert.MixOutKernel.τ).loc Cert.MixOutKernel.main_arg3) = m ((c.tc : Thread Cert.MixOutKernel.nD Cert.MixOutKernel.τ).loc Cert.MixOutKernel.main_arg3)
      ∧ r.2.mem ((c.tc : Thread Cert.MixOutKernel.nD Cert.MixOutKernel.τ).loc Cert.MixOutKernel.main_arg4) = m ((c.tc : Thread Cert.MixOutKernel.nD Cert.MixOutKernel.τ).loc Cert.MixOutKernel.main_arg4)
      ∧ r.2.mem ((c.tc : Thread Cert.MixOutKernel.nD Cert.MixOutKernel.τ).loc Cert.MixOutKernel.main_arg5) = m ((c.tc : Thread Cert.MixOutKernel.nD Cert.MixOutKernel.τ).loc Cert.MixOutKernel.main_arg5)
      ∧ r.2.mem ((c.tc : Thread Cert.MixOutKernel.nD Cert.MixOutKernel.τ).loc Cert.MixOutKernel.main_arg6) = m ((c.tc : Thread Cert.MixOutKernel.nD Cert.MixOutKernel.τ).loc Cert.MixOutKernel.main_arg6)
      ∧ r.2.mem ((c.tc : Thread Cert.MixOutKernel.nD Cert.MixOutKernel.τ).loc Cert.MixOutKernel.main_arg7) = m ((c.tc : Thread Cert.MixOutKernel.nD Cert.MixOutKernel.τ).loc Cert.MixOutKernel.main_arg7))
      ∧ r.2.sem = fun _ => 0)

def quiescent_MixOutKernelIdeal [hMixOutKernelIdeal : Cert.MixOutKernelIdeal.Facts] : Prop :=
  ∀ (m : (ℓ : Loc Cert.MixOutKernelIdeal.nD Cert.MixOutKernelIdeal.τ Cert.MixOutKernelIdeal.sig) → Buf (Elt Ideal) ℓ) (g : Dev Cert.MixOutKernelIdeal.nD → PrngReg), Pre_MixOutKernelIdeal m →
    θ_run (Cert.MixOutKernelIdeal.defs (F := Ideal)) (onTc (τ := Cert.MixOutKernelIdeal.τ) (Cert.MixOutKernelIdeal.main (F := Ideal))) ⟨m, fun _ => 0, g⟩ (fun r => (∀ c : Dev Cert.MixOutKernelIdeal.nD,
      r.2.mem ((c.tc : Thread Cert.MixOutKernelIdeal.nD Cert.MixOutKernelIdeal.τ).loc Cert.MixOutKernelIdeal.main_arg0) = m ((c.tc : Thread Cert.MixOutKernelIdeal.nD Cert.MixOutKernelIdeal.τ).loc Cert.MixOutKernelIdeal.main_arg0)
      ∧ r.2.mem ((c.tc : Thread Cert.MixOutKernelIdeal.nD Cert.MixOutKernelIdeal.τ).loc Cert.MixOutKernelIdeal.main_arg1) = m ((c.tc : Thread Cert.MixOutKernelIdeal.nD Cert.MixOutKernelIdeal.τ).loc Cert.MixOutKernelIdeal.main_arg1)
      ∧ r.2.mem ((c.tc : Thread Cert.MixOutKernelIdeal.nD Cert.MixOutKernelIdeal.τ).loc Cert.MixOutKernelIdeal.main_arg2) = m ((c.tc : Thread Cert.MixOutKernelIdeal.nD Cert.MixOutKernelIdeal.τ).loc Cert.MixOutKernelIdeal.main_arg2)
      ∧ r.2.mem ((c.tc : Thread Cert.MixOutKernelIdeal.nD Cert.MixOutKernelIdeal.τ).loc Cert.MixOutKernelIdeal.main_arg3) = m ((c.tc : Thread Cert.MixOutKernelIdeal.nD Cert.MixOutKernelIdeal.τ).loc Cert.MixOutKernelIdeal.main_arg3)
      ∧ r.2.mem ((c.tc : Thread Cert.MixOutKernelIdeal.nD Cert.MixOutKernelIdeal.τ).loc Cert.MixOutKernelIdeal.main_arg4) = m ((c.tc : Thread Cert.MixOutKernelIdeal.nD Cert.MixOutKernelIdeal.τ).loc Cert.MixOutKernelIdeal.main_arg4)
      ∧ r.2.mem ((c.tc : Thread Cert.MixOutKernelIdeal.nD Cert.MixOutKernelIdeal.τ).loc Cert.MixOutKernelIdeal.main_arg5) = m ((c.tc : Thread Cert.MixOutKernelIdeal.nD Cert.MixOutKernelIdeal.τ).loc Cert.MixOutKernelIdeal.main_arg5)
      ∧ r.2.mem ((c.tc : Thread Cert.MixOutKernelIdeal.nD Cert.MixOutKernelIdeal.τ).loc Cert.MixOutKernelIdeal.main_arg6) = m ((c.tc : Thread Cert.MixOutKernelIdeal.nD Cert.MixOutKernelIdeal.τ).loc Cert.MixOutKernelIdeal.main_arg6)
      ∧ r.2.mem ((c.tc : Thread Cert.MixOutKernelIdeal.nD Cert.MixOutKernelIdeal.τ).loc Cert.MixOutKernelIdeal.main_arg7) = m ((c.tc : Thread Cert.MixOutKernelIdeal.nD Cert.MixOutKernelIdeal.τ).loc Cert.MixOutKernelIdeal.main_arg7))
      ∧ r.2.sem = fun _ => 0)

def quiescent_MixOutKernelIdeal_pre_mix_out_finite [hMixOutKernelIdeal : Cert.MixOutKernelIdeal.Facts] [hPre_mix_out_finite : Cert.Pre_mix_out_finite.Facts] : Prop :=
  ∀ (m : (ℓ : Loc Cert.MixOutKernelIdeal.nD Cert.MixOutKernelIdeal.τ Cert.MixOutKernelIdeal.sig) → Buf (Elt Ideal) ℓ) (g : Dev Cert.MixOutKernelIdeal.nD → PrngReg), Pre_MixOutKernelIdeal_mix_out_finite m →
    θ_run (Cert.MixOutKernelIdeal.defs (F := Ideal)) (onTc (τ := Cert.MixOutKernelIdeal.τ) (Cert.MixOutKernelIdeal.main (F := Ideal))) ⟨m, fun _ => 0, g⟩ (fun r => (∀ c : Dev Cert.MixOutKernelIdeal.nD,
      r.2.mem ((c.tc : Thread Cert.MixOutKernelIdeal.nD Cert.MixOutKernelIdeal.τ).loc Cert.MixOutKernelIdeal.main_arg0) = m ((c.tc : Thread Cert.MixOutKernelIdeal.nD Cert.MixOutKernelIdeal.τ).loc Cert.MixOutKernelIdeal.main_arg0)
      ∧ r.2.mem ((c.tc : Thread Cert.MixOutKernelIdeal.nD Cert.MixOutKernelIdeal.τ).loc Cert.MixOutKernelIdeal.main_arg1) = m ((c.tc : Thread Cert.MixOutKernelIdeal.nD Cert.MixOutKernelIdeal.τ).loc Cert.MixOutKernelIdeal.main_arg1)
      ∧ r.2.mem ((c.tc : Thread Cert.MixOutKernelIdeal.nD Cert.MixOutKernelIdeal.τ).loc Cert.MixOutKernelIdeal.main_arg2) = m ((c.tc : Thread Cert.MixOutKernelIdeal.nD Cert.MixOutKernelIdeal.τ).loc Cert.MixOutKernelIdeal.main_arg2)
      ∧ r.2.mem ((c.tc : Thread Cert.MixOutKernelIdeal.nD Cert.MixOutKernelIdeal.τ).loc Cert.MixOutKernelIdeal.main_arg3) = m ((c.tc : Thread Cert.MixOutKernelIdeal.nD Cert.MixOutKernelIdeal.τ).loc Cert.MixOutKernelIdeal.main_arg3)
      ∧ r.2.mem ((c.tc : Thread Cert.MixOutKernelIdeal.nD Cert.MixOutKernelIdeal.τ).loc Cert.MixOutKernelIdeal.main_arg4) = m ((c.tc : Thread Cert.MixOutKernelIdeal.nD Cert.MixOutKernelIdeal.τ).loc Cert.MixOutKernelIdeal.main_arg4)
      ∧ r.2.mem ((c.tc : Thread Cert.MixOutKernelIdeal.nD Cert.MixOutKernelIdeal.τ).loc Cert.MixOutKernelIdeal.main_arg5) = m ((c.tc : Thread Cert.MixOutKernelIdeal.nD Cert.MixOutKernelIdeal.τ).loc Cert.MixOutKernelIdeal.main_arg5)
      ∧ r.2.mem ((c.tc : Thread Cert.MixOutKernelIdeal.nD Cert.MixOutKernelIdeal.τ).loc Cert.MixOutKernelIdeal.main_arg6) = m ((c.tc : Thread Cert.MixOutKernelIdeal.nD Cert.MixOutKernelIdeal.τ).loc Cert.MixOutKernelIdeal.main_arg6)
      ∧ r.2.mem ((c.tc : Thread Cert.MixOutKernelIdeal.nD Cert.MixOutKernelIdeal.τ).loc Cert.MixOutKernelIdeal.main_arg7) = m ((c.tc : Thread Cert.MixOutKernelIdeal.nD Cert.MixOutKernelIdeal.τ).loc Cert.MixOutKernelIdeal.main_arg7))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2)
      ∧ r.2.mem ((c.tc : Thread Cert.MixOutReferenceIdeal.nD Cert.MixOutReferenceIdeal.τ).loc Cert.MixOutReferenceIdeal.main_arg3) = m ((c.tc : Thread Cert.MixOutReferenceIdeal.nD Cert.MixOutReferenceIdeal.τ).loc Cert.MixOutReferenceIdeal.main_arg3)
      ∧ r.2.mem ((c.tc : Thread Cert.MixOutReferenceIdeal.nD Cert.MixOutReferenceIdeal.τ).loc Cert.MixOutReferenceIdeal.main_arg4) = m ((c.tc : Thread Cert.MixOutReferenceIdeal.nD Cert.MixOutReferenceIdeal.τ).loc Cert.MixOutReferenceIdeal.main_arg4)
      ∧ r.2.mem ((c.tc : Thread Cert.MixOutReferenceIdeal.nD Cert.MixOutReferenceIdeal.τ).loc Cert.MixOutReferenceIdeal.main_arg5) = m ((c.tc : Thread Cert.MixOutReferenceIdeal.nD Cert.MixOutReferenceIdeal.τ).loc Cert.MixOutReferenceIdeal.main_arg5)
      ∧ r.2.mem ((c.tc : Thread Cert.MixOutReferenceIdeal.nD Cert.MixOutReferenceIdeal.τ).loc Cert.MixOutReferenceIdeal.main_arg6) = m ((c.tc : Thread Cert.MixOutReferenceIdeal.nD Cert.MixOutReferenceIdeal.τ).loc Cert.MixOutReferenceIdeal.main_arg6)
      ∧ r.2.mem ((c.tc : Thread Cert.MixOutReferenceIdeal.nD Cert.MixOutReferenceIdeal.τ).loc Cert.MixOutReferenceIdeal.main_arg7) = m ((c.tc : Thread Cert.MixOutReferenceIdeal.nD Cert.MixOutReferenceIdeal.τ).loc Cert.MixOutReferenceIdeal.main_arg7))
      ∧ r.2.sem = fun _ => 0)

def quiescent_MixOutReferenceIdeal_pre_mix_out_finite [hMixOutReferenceIdeal : Cert.MixOutReferenceIdeal.Facts] [hPre_mix_out_finite : Cert.Pre_mix_out_finite.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal_mix_out_finite m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2)
      ∧ r.2.mem ((c.tc : Thread Cert.MixOutReferenceIdeal.nD Cert.MixOutReferenceIdeal.τ).loc Cert.MixOutReferenceIdeal.main_arg3) = m ((c.tc : Thread Cert.MixOutReferenceIdeal.nD Cert.MixOutReferenceIdeal.τ).loc Cert.MixOutReferenceIdeal.main_arg3)
      ∧ r.2.mem ((c.tc : Thread Cert.MixOutReferenceIdeal.nD Cert.MixOutReferenceIdeal.τ).loc Cert.MixOutReferenceIdeal.main_arg4) = m ((c.tc : Thread Cert.MixOutReferenceIdeal.nD Cert.MixOutReferenceIdeal.τ).loc Cert.MixOutReferenceIdeal.main_arg4)
      ∧ r.2.mem ((c.tc : Thread Cert.MixOutReferenceIdeal.nD Cert.MixOutReferenceIdeal.τ).loc Cert.MixOutReferenceIdeal.main_arg5) = m ((c.tc : Thread Cert.MixOutReferenceIdeal.nD Cert.MixOutReferenceIdeal.τ).loc Cert.MixOutReferenceIdeal.main_arg5)
      ∧ r.2.mem ((c.tc : Thread Cert.MixOutReferenceIdeal.nD Cert.MixOutReferenceIdeal.τ).loc Cert.MixOutReferenceIdeal.main_arg6) = m ((c.tc : Thread Cert.MixOutReferenceIdeal.nD Cert.MixOutReferenceIdeal.τ).loc Cert.MixOutReferenceIdeal.main_arg6)
      ∧ r.2.mem ((c.tc : Thread Cert.MixOutReferenceIdeal.nD Cert.MixOutReferenceIdeal.τ).loc Cert.MixOutReferenceIdeal.main_arg7) = m ((c.tc : Thread Cert.MixOutReferenceIdeal.nD Cert.MixOutReferenceIdeal.τ).loc Cert.MixOutReferenceIdeal.main_arg7))
      ∧ r.2.sem = fun _ => 0)

def quiescent_QkKernel [hQkKernel : Cert.QkKernel.Facts] : Prop :=
  ∀ (m : (ℓ : Loc Cert.QkKernel.nD Cert.QkKernel.τ Cert.QkKernel.sig) → Buf (Elt Bits) ℓ) (g : Dev Cert.QkKernel.nD → PrngReg), Pre_QkKernel m →
    θ_run (Cert.QkKernel.defs (F := Bits)) (onTc (τ := Cert.QkKernel.τ) (Cert.QkKernel.main (F := Bits))) ⟨m, fun _ => 0, g⟩ (fun r => (∀ c : Dev Cert.QkKernel.nD,
      r.2.mem ((c.tc : Thread Cert.QkKernel.nD Cert.QkKernel.τ).loc Cert.QkKernel.main_arg0) = m ((c.tc : Thread Cert.QkKernel.nD Cert.QkKernel.τ).loc Cert.QkKernel.main_arg0)
      ∧ r.2.mem ((c.tc : Thread Cert.QkKernel.nD Cert.QkKernel.τ).loc Cert.QkKernel.main_arg1) = m ((c.tc : Thread Cert.QkKernel.nD Cert.QkKernel.τ).loc Cert.QkKernel.main_arg1)
      ∧ r.2.mem ((c.tc : Thread Cert.QkKernel.nD Cert.QkKernel.τ).loc Cert.QkKernel.main_arg2) = m ((c.tc : Thread Cert.QkKernel.nD Cert.QkKernel.τ).loc Cert.QkKernel.main_arg2)
      ∧ r.2.mem ((c.tc : Thread Cert.QkKernel.nD Cert.QkKernel.τ).loc Cert.QkKernel.main_arg3) = m ((c.tc : Thread Cert.QkKernel.nD Cert.QkKernel.τ).loc Cert.QkKernel.main_arg3)
      ∧ r.2.mem ((c.tc : Thread Cert.QkKernel.nD Cert.QkKernel.τ).loc Cert.QkKernel.main_arg4) = m ((c.tc : Thread Cert.QkKernel.nD Cert.QkKernel.τ).loc Cert.QkKernel.main_arg4)
      ∧ r.2.mem ((c.tc : Thread Cert.QkKernel.nD Cert.QkKernel.τ).loc Cert.QkKernel.main_arg5) = m ((c.tc : Thread Cert.QkKernel.nD Cert.QkKernel.τ).loc Cert.QkKernel.main_arg5))
      ∧ r.2.sem = fun _ => 0)

def quiescent_QkKernelIdeal [hQkKernelIdeal : Cert.QkKernelIdeal.Facts] : Prop :=
  ∀ (m : (ℓ : Loc Cert.QkKernelIdeal.nD Cert.QkKernelIdeal.τ Cert.QkKernelIdeal.sig) → Buf (Elt Ideal) ℓ) (g : Dev Cert.QkKernelIdeal.nD → PrngReg), Pre_QkKernelIdeal m →
    θ_run (Cert.QkKernelIdeal.defs (F := Ideal)) (onTc (τ := Cert.QkKernelIdeal.τ) (Cert.QkKernelIdeal.main (F := Ideal))) ⟨m, fun _ => 0, g⟩ (fun r => (∀ c : Dev Cert.QkKernelIdeal.nD,
      r.2.mem ((c.tc : Thread Cert.QkKernelIdeal.nD Cert.QkKernelIdeal.τ).loc Cert.QkKernelIdeal.main_arg0) = m ((c.tc : Thread Cert.QkKernelIdeal.nD Cert.QkKernelIdeal.τ).loc Cert.QkKernelIdeal.main_arg0)
      ∧ r.2.mem ((c.tc : Thread Cert.QkKernelIdeal.nD Cert.QkKernelIdeal.τ).loc Cert.QkKernelIdeal.main_arg1) = m ((c.tc : Thread Cert.QkKernelIdeal.nD Cert.QkKernelIdeal.τ).loc Cert.QkKernelIdeal.main_arg1)
      ∧ r.2.mem ((c.tc : Thread Cert.QkKernelIdeal.nD Cert.QkKernelIdeal.τ).loc Cert.QkKernelIdeal.main_arg2) = m ((c.tc : Thread Cert.QkKernelIdeal.nD Cert.QkKernelIdeal.τ).loc Cert.QkKernelIdeal.main_arg2)
      ∧ r.2.mem ((c.tc : Thread Cert.QkKernelIdeal.nD Cert.QkKernelIdeal.τ).loc Cert.QkKernelIdeal.main_arg3) = m ((c.tc : Thread Cert.QkKernelIdeal.nD Cert.QkKernelIdeal.τ).loc Cert.QkKernelIdeal.main_arg3)
      ∧ r.2.mem ((c.tc : Thread Cert.QkKernelIdeal.nD Cert.QkKernelIdeal.τ).loc Cert.QkKernelIdeal.main_arg4) = m ((c.tc : Thread Cert.QkKernelIdeal.nD Cert.QkKernelIdeal.τ).loc Cert.QkKernelIdeal.main_arg4)
      ∧ r.2.mem ((c.tc : Thread Cert.QkKernelIdeal.nD Cert.QkKernelIdeal.τ).loc Cert.QkKernelIdeal.main_arg5) = m ((c.tc : Thread Cert.QkKernelIdeal.nD Cert.QkKernelIdeal.τ).loc Cert.QkKernelIdeal.main_arg5))
      ∧ r.2.sem = fun _ => 0)

def quiescent_QkKernelIdeal_pre_qk_finite [hQkKernelIdeal : Cert.QkKernelIdeal.Facts] [hPre_qk_finite : Cert.Pre_qk_finite.Facts] : Prop :=
  ∀ (m : (ℓ : Loc Cert.QkKernelIdeal.nD Cert.QkKernelIdeal.τ Cert.QkKernelIdeal.sig) → Buf (Elt Ideal) ℓ) (g : Dev Cert.QkKernelIdeal.nD → PrngReg), Pre_QkKernelIdeal_qk_finite m →
    θ_run (Cert.QkKernelIdeal.defs (F := Ideal)) (onTc (τ := Cert.QkKernelIdeal.τ) (Cert.QkKernelIdeal.main (F := Ideal))) ⟨m, fun _ => 0, g⟩ (fun r => (∀ c : Dev Cert.QkKernelIdeal.nD,
      r.2.mem ((c.tc : Thread Cert.QkKernelIdeal.nD Cert.QkKernelIdeal.τ).loc Cert.QkKernelIdeal.main_arg0) = m ((c.tc : Thread Cert.QkKernelIdeal.nD Cert.QkKernelIdeal.τ).loc Cert.QkKernelIdeal.main_arg0)
      ∧ r.2.mem ((c.tc : Thread Cert.QkKernelIdeal.nD Cert.QkKernelIdeal.τ).loc Cert.QkKernelIdeal.main_arg1) = m ((c.tc : Thread Cert.QkKernelIdeal.nD Cert.QkKernelIdeal.τ).loc Cert.QkKernelIdeal.main_arg1)
      ∧ r.2.mem ((c.tc : Thread Cert.QkKernelIdeal.nD Cert.QkKernelIdeal.τ).loc Cert.QkKernelIdeal.main_arg2) = m ((c.tc : Thread Cert.QkKernelIdeal.nD Cert.QkKernelIdeal.τ).loc Cert.QkKernelIdeal.main_arg2)
      ∧ r.2.mem ((c.tc : Thread Cert.QkKernelIdeal.nD Cert.QkKernelIdeal.τ).loc Cert.QkKernelIdeal.main_arg3) = m ((c.tc : Thread Cert.QkKernelIdeal.nD Cert.QkKernelIdeal.τ).loc Cert.QkKernelIdeal.main_arg3)
      ∧ r.2.mem ((c.tc : Thread Cert.QkKernelIdeal.nD Cert.QkKernelIdeal.τ).loc Cert.QkKernelIdeal.main_arg4) = m ((c.tc : Thread Cert.QkKernelIdeal.nD Cert.QkKernelIdeal.τ).loc Cert.QkKernelIdeal.main_arg4)
      ∧ r.2.mem ((c.tc : Thread Cert.QkKernelIdeal.nD Cert.QkKernelIdeal.τ).loc Cert.QkKernelIdeal.main_arg5) = m ((c.tc : Thread Cert.QkKernelIdeal.nD Cert.QkKernelIdeal.τ).loc Cert.QkKernelIdeal.main_arg5))
      ∧ r.2.sem = fun _ => 0)

def quiescent_QkReferenceIdeal [hQkReferenceIdeal : Cert.QkReferenceIdeal.Facts] : Prop :=
  ∀ (m : (ℓ : Loc Cert.QkReferenceIdeal.nD Cert.QkReferenceIdeal.τ Cert.QkReferenceIdeal.sig) → Buf (Elt Ideal) ℓ) (g : Dev Cert.QkReferenceIdeal.nD → PrngReg), Pre_QkReferenceIdeal m →
    θ_run (Cert.QkReferenceIdeal.defs (F := Ideal)) (onTc (τ := Cert.QkReferenceIdeal.τ) (Cert.QkReferenceIdeal.main (F := Ideal))) ⟨m, fun _ => 0, g⟩ (fun r => (∀ c : Dev Cert.QkReferenceIdeal.nD,
      r.2.mem ((c.tc : Thread Cert.QkReferenceIdeal.nD Cert.QkReferenceIdeal.τ).loc Cert.QkReferenceIdeal.main_arg0) = m ((c.tc : Thread Cert.QkReferenceIdeal.nD Cert.QkReferenceIdeal.τ).loc Cert.QkReferenceIdeal.main_arg0)
      ∧ r.2.mem ((c.tc : Thread Cert.QkReferenceIdeal.nD Cert.QkReferenceIdeal.τ).loc Cert.QkReferenceIdeal.main_arg1) = m ((c.tc : Thread Cert.QkReferenceIdeal.nD Cert.QkReferenceIdeal.τ).loc Cert.QkReferenceIdeal.main_arg1)
      ∧ r.2.mem ((c.tc : Thread Cert.QkReferenceIdeal.nD Cert.QkReferenceIdeal.τ).loc Cert.QkReferenceIdeal.main_arg2) = m ((c.tc : Thread Cert.QkReferenceIdeal.nD Cert.QkReferenceIdeal.τ).loc Cert.QkReferenceIdeal.main_arg2)
      ∧ r.2.mem ((c.tc : Thread Cert.QkReferenceIdeal.nD Cert.QkReferenceIdeal.τ).loc Cert.QkReferenceIdeal.main_arg3) = m ((c.tc : Thread Cert.QkReferenceIdeal.nD Cert.QkReferenceIdeal.τ).loc Cert.QkReferenceIdeal.main_arg3)
      ∧ r.2.mem ((c.tc : Thread Cert.QkReferenceIdeal.nD Cert.QkReferenceIdeal.τ).loc Cert.QkReferenceIdeal.main_arg4) = m ((c.tc : Thread Cert.QkReferenceIdeal.nD Cert.QkReferenceIdeal.τ).loc Cert.QkReferenceIdeal.main_arg4)
      ∧ r.2.mem ((c.tc : Thread Cert.QkReferenceIdeal.nD Cert.QkReferenceIdeal.τ).loc Cert.QkReferenceIdeal.main_arg5) = m ((c.tc : Thread Cert.QkReferenceIdeal.nD Cert.QkReferenceIdeal.τ).loc Cert.QkReferenceIdeal.main_arg5))
      ∧ r.2.sem = fun _ => 0)

def quiescent_QkReferenceIdeal_pre_qk_finite [hQkReferenceIdeal : Cert.QkReferenceIdeal.Facts] [hPre_qk_finite : Cert.Pre_qk_finite.Facts] : Prop :=
  ∀ (m : (ℓ : Loc Cert.QkReferenceIdeal.nD Cert.QkReferenceIdeal.τ Cert.QkReferenceIdeal.sig) → Buf (Elt Ideal) ℓ) (g : Dev Cert.QkReferenceIdeal.nD → PrngReg), Pre_QkReferenceIdeal_qk_finite m →
    θ_run (Cert.QkReferenceIdeal.defs (F := Ideal)) (onTc (τ := Cert.QkReferenceIdeal.τ) (Cert.QkReferenceIdeal.main (F := Ideal))) ⟨m, fun _ => 0, g⟩ (fun r => (∀ c : Dev Cert.QkReferenceIdeal.nD,
      r.2.mem ((c.tc : Thread Cert.QkReferenceIdeal.nD Cert.QkReferenceIdeal.τ).loc Cert.QkReferenceIdeal.main_arg0) = m ((c.tc : Thread Cert.QkReferenceIdeal.nD Cert.QkReferenceIdeal.τ).loc Cert.QkReferenceIdeal.main_arg0)
      ∧ r.2.mem ((c.tc : Thread Cert.QkReferenceIdeal.nD Cert.QkReferenceIdeal.τ).loc Cert.QkReferenceIdeal.main_arg1) = m ((c.tc : Thread Cert.QkReferenceIdeal.nD Cert.QkReferenceIdeal.τ).loc Cert.QkReferenceIdeal.main_arg1)
      ∧ r.2.mem ((c.tc : Thread Cert.QkReferenceIdeal.nD Cert.QkReferenceIdeal.τ).loc Cert.QkReferenceIdeal.main_arg2) = m ((c.tc : Thread Cert.QkReferenceIdeal.nD Cert.QkReferenceIdeal.τ).loc Cert.QkReferenceIdeal.main_arg2)
      ∧ r.2.mem ((c.tc : Thread Cert.QkReferenceIdeal.nD Cert.QkReferenceIdeal.τ).loc Cert.QkReferenceIdeal.main_arg3) = m ((c.tc : Thread Cert.QkReferenceIdeal.nD Cert.QkReferenceIdeal.τ).loc Cert.QkReferenceIdeal.main_arg3)
      ∧ r.2.mem ((c.tc : Thread Cert.QkReferenceIdeal.nD Cert.QkReferenceIdeal.τ).loc Cert.QkReferenceIdeal.main_arg4) = m ((c.tc : Thread Cert.QkReferenceIdeal.nD Cert.QkReferenceIdeal.τ).loc Cert.QkReferenceIdeal.main_arg4)
      ∧ r.2.mem ((c.tc : Thread Cert.QkReferenceIdeal.nD Cert.QkReferenceIdeal.τ).loc Cert.QkReferenceIdeal.main_arg5) = m ((c.tc : Thread Cert.QkReferenceIdeal.nD Cert.QkReferenceIdeal.τ).loc Cert.QkReferenceIdeal.main_arg5))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnKernelIdeal_pre_ffn_finite [hFfnKernelIdeal : Cert.FfnKernelIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_ffn_finite m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_FfnReferenceIdeal_pre_ffn_finite [hFfnReferenceIdeal : Cert.FfnReferenceIdeal.Facts] [hPre_ffn_finite : Cert.Pre_ffn_finite.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_ffn_finite m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_MixInFwdKernel [hMixInFwdKernel : Cert.MixInFwdKernel.Facts] : Prop :=
  ∀ (m : (ℓ : Loc Cert.MixInFwdKernel.nD Cert.MixInFwdKernel.τ Cert.MixInFwdKernel.sig) → Buf (Elt Bits) ℓ) (g : Dev Cert.MixInFwdKernel.nD → PrngReg), Pre_MixInFwdKernel m →
    θ_run (Cert.MixInFwdKernel.defs (F := Bits)) (onTc (τ := Cert.MixInFwdKernel.τ) (Cert.MixInFwdKernel.main (F := Bits))) ⟨m, fun _ => 0, g⟩ (fun r => (∀ c : Dev Cert.MixInFwdKernel.nD,
      r.2.mem ((c.tc : Thread Cert.MixInFwdKernel.nD Cert.MixInFwdKernel.τ).loc Cert.MixInFwdKernel.main_arg0) = m ((c.tc : Thread Cert.MixInFwdKernel.nD Cert.MixInFwdKernel.τ).loc Cert.MixInFwdKernel.main_arg0)
      ∧ r.2.mem ((c.tc : Thread Cert.MixInFwdKernel.nD Cert.MixInFwdKernel.τ).loc Cert.MixInFwdKernel.main_arg1) = m ((c.tc : Thread Cert.MixInFwdKernel.nD Cert.MixInFwdKernel.τ).loc Cert.MixInFwdKernel.main_arg1)
      ∧ r.2.mem ((c.tc : Thread Cert.MixInFwdKernel.nD Cert.MixInFwdKernel.τ).loc Cert.MixInFwdKernel.main_arg2) = m ((c.tc : Thread Cert.MixInFwdKernel.nD Cert.MixInFwdKernel.τ).loc Cert.MixInFwdKernel.main_arg2))
      ∧ r.2.sem = fun _ => 0)

def quiescent_MixInFwdKernelIdeal [hMixInFwdKernelIdeal : Cert.MixInFwdKernelIdeal.Facts] : Prop :=
  ∀ (m : (ℓ : Loc Cert.MixInFwdKernelIdeal.nD Cert.MixInFwdKernelIdeal.τ Cert.MixInFwdKernelIdeal.sig) → Buf (Elt Ideal) ℓ) (g : Dev Cert.MixInFwdKernelIdeal.nD → PrngReg), Pre_MixInFwdKernelIdeal m →
    θ_run (Cert.MixInFwdKernelIdeal.defs (F := Ideal)) (onTc (τ := Cert.MixInFwdKernelIdeal.τ) (Cert.MixInFwdKernelIdeal.main (F := Ideal))) ⟨m, fun _ => 0, g⟩ (fun r => (∀ c : Dev Cert.MixInFwdKernelIdeal.nD,
      r.2.mem ((c.tc : Thread Cert.MixInFwdKernelIdeal.nD Cert.MixInFwdKernelIdeal.τ).loc Cert.MixInFwdKernelIdeal.main_arg0) = m ((c.tc : Thread Cert.MixInFwdKernelIdeal.nD Cert.MixInFwdKernelIdeal.τ).loc Cert.MixInFwdKernelIdeal.main_arg0)
      ∧ r.2.mem ((c.tc : Thread Cert.MixInFwdKernelIdeal.nD Cert.MixInFwdKernelIdeal.τ).loc Cert.MixInFwdKernelIdeal.main_arg1) = m ((c.tc : Thread Cert.MixInFwdKernelIdeal.nD Cert.MixInFwdKernelIdeal.τ).loc Cert.MixInFwdKernelIdeal.main_arg1)
      ∧ r.2.mem ((c.tc : Thread Cert.MixInFwdKernelIdeal.nD Cert.MixInFwdKernelIdeal.τ).loc Cert.MixInFwdKernelIdeal.main_arg2) = m ((c.tc : Thread Cert.MixInFwdKernelIdeal.nD Cert.MixInFwdKernelIdeal.τ).loc Cert.MixInFwdKernelIdeal.main_arg2))
      ∧ r.2.sem = fun _ => 0)

def quiescent_MixInFwdReferenceIdeal [hMixInFwdReferenceIdeal : Cert.MixInFwdReferenceIdeal.Facts] : Prop :=
  ∀ (m : (ℓ : Loc Cert.MixInFwdReferenceIdeal.nD Cert.MixInFwdReferenceIdeal.τ Cert.MixInFwdReferenceIdeal.sig) → Buf (Elt Ideal) ℓ) (g : Dev Cert.MixInFwdReferenceIdeal.nD → PrngReg), Pre_MixInFwdReferenceIdeal m →
    θ_run (Cert.MixInFwdReferenceIdeal.defs (F := Ideal)) (onTc (τ := Cert.MixInFwdReferenceIdeal.τ) (Cert.MixInFwdReferenceIdeal.main (F := Ideal))) ⟨m, fun _ => 0, g⟩ (fun r => (∀ c : Dev Cert.MixInFwdReferenceIdeal.nD,
      r.2.mem ((c.tc : Thread Cert.MixInFwdReferenceIdeal.nD Cert.MixInFwdReferenceIdeal.τ).loc Cert.MixInFwdReferenceIdeal.main_arg0) = m ((c.tc : Thread Cert.MixInFwdReferenceIdeal.nD Cert.MixInFwdReferenceIdeal.τ).loc Cert.MixInFwdReferenceIdeal.main_arg0)
      ∧ r.2.mem ((c.tc : Thread Cert.MixInFwdReferenceIdeal.nD Cert.MixInFwdReferenceIdeal.τ).loc Cert.MixInFwdReferenceIdeal.main_arg1) = m ((c.tc : Thread Cert.MixInFwdReferenceIdeal.nD Cert.MixInFwdReferenceIdeal.τ).loc Cert.MixInFwdReferenceIdeal.main_arg1)
      ∧ r.2.mem ((c.tc : Thread Cert.MixInFwdReferenceIdeal.nD Cert.MixInFwdReferenceIdeal.τ).loc Cert.MixInFwdReferenceIdeal.main_arg2) = m ((c.tc : Thread Cert.MixInFwdReferenceIdeal.nD Cert.MixInFwdReferenceIdeal.τ).loc Cert.MixInFwdReferenceIdeal.main_arg2))
      ∧ r.2.sem = fun _ => 0)

def quiescent_MixOutFwdKernel [hMixOutFwdKernel : Cert.MixOutFwdKernel.Facts] : Prop :=
  ∀ (m : (ℓ : Loc Cert.MixOutFwdKernel.nD Cert.MixOutFwdKernel.τ Cert.MixOutFwdKernel.sig) → Buf (Elt Bits) ℓ) (g : Dev Cert.MixOutFwdKernel.nD → PrngReg), Pre_MixOutFwdKernel m →
    θ_run (Cert.MixOutFwdKernel.defs (F := Bits)) (onTc (τ := Cert.MixOutFwdKernel.τ) (Cert.MixOutFwdKernel.main (F := Bits))) ⟨m, fun _ => 0, g⟩ (fun r => (∀ c : Dev Cert.MixOutFwdKernel.nD,
      r.2.mem ((c.tc : Thread Cert.MixOutFwdKernel.nD Cert.MixOutFwdKernel.τ).loc Cert.MixOutFwdKernel.main_arg0) = m ((c.tc : Thread Cert.MixOutFwdKernel.nD Cert.MixOutFwdKernel.τ).loc Cert.MixOutFwdKernel.main_arg0)
      ∧ r.2.mem ((c.tc : Thread Cert.MixOutFwdKernel.nD Cert.MixOutFwdKernel.τ).loc Cert.MixOutFwdKernel.main_arg1) = m ((c.tc : Thread Cert.MixOutFwdKernel.nD Cert.MixOutFwdKernel.τ).loc Cert.MixOutFwdKernel.main_arg1)
      ∧ r.2.mem ((c.tc : Thread Cert.MixOutFwdKernel.nD Cert.MixOutFwdKernel.τ).loc Cert.MixOutFwdKernel.main_arg2) = m ((c.tc : Thread Cert.MixOutFwdKernel.nD Cert.MixOutFwdKernel.τ).loc Cert.MixOutFwdKernel.main_arg2)
      ∧ r.2.mem ((c.tc : Thread Cert.MixOutFwdKernel.nD Cert.MixOutFwdKernel.τ).loc Cert.MixOutFwdKernel.main_arg3) = m ((c.tc : Thread Cert.MixOutFwdKernel.nD Cert.MixOutFwdKernel.τ).loc Cert.MixOutFwdKernel.main_arg3)
      ∧ r.2.mem ((c.tc : Thread Cert.MixOutFwdKernel.nD Cert.MixOutFwdKernel.τ).loc Cert.MixOutFwdKernel.main_arg4) = m ((c.tc : Thread Cert.MixOutFwdKernel.nD Cert.MixOutFwdKernel.τ).loc Cert.MixOutFwdKernel.main_arg4)
      ∧ r.2.mem ((c.tc : Thread Cert.MixOutFwdKernel.nD Cert.MixOutFwdKernel.τ).loc Cert.MixOutFwdKernel.main_arg5) = m ((c.tc : Thread Cert.MixOutFwdKernel.nD Cert.MixOutFwdKernel.τ).loc Cert.MixOutFwdKernel.main_arg5)
      ∧ r.2.mem ((c.tc : Thread Cert.MixOutFwdKernel.nD Cert.MixOutFwdKernel.τ).loc Cert.MixOutFwdKernel.main_arg6) = m ((c.tc : Thread Cert.MixOutFwdKernel.nD Cert.MixOutFwdKernel.τ).loc Cert.MixOutFwdKernel.main_arg6)
      ∧ r.2.mem ((c.tc : Thread Cert.MixOutFwdKernel.nD Cert.MixOutFwdKernel.τ).loc Cert.MixOutFwdKernel.main_arg7) = m ((c.tc : Thread Cert.MixOutFwdKernel.nD Cert.MixOutFwdKernel.τ).loc Cert.MixOutFwdKernel.main_arg7))
      ∧ r.2.sem = fun _ => 0)

def quiescent_MixOutFwdKernelIdeal [hMixOutFwdKernelIdeal : Cert.MixOutFwdKernelIdeal.Facts] : Prop :=
  ∀ (m : (ℓ : Loc Cert.MixOutFwdKernelIdeal.nD Cert.MixOutFwdKernelIdeal.τ Cert.MixOutFwdKernelIdeal.sig) → Buf (Elt Ideal) ℓ) (g : Dev Cert.MixOutFwdKernelIdeal.nD → PrngReg), Pre_MixOutFwdKernelIdeal m →
    θ_run (Cert.MixOutFwdKernelIdeal.defs (F := Ideal)) (onTc (τ := Cert.MixOutFwdKernelIdeal.τ) (Cert.MixOutFwdKernelIdeal.main (F := Ideal))) ⟨m, fun _ => 0, g⟩ (fun r => (∀ c : Dev Cert.MixOutFwdKernelIdeal.nD,
      r.2.mem ((c.tc : Thread Cert.MixOutFwdKernelIdeal.nD Cert.MixOutFwdKernelIdeal.τ).loc Cert.MixOutFwdKernelIdeal.main_arg0) = m ((c.tc : Thread Cert.MixOutFwdKernelIdeal.nD Cert.MixOutFwdKernelIdeal.τ).loc Cert.MixOutFwdKernelIdeal.main_arg0)
      ∧ r.2.mem ((c.tc : Thread Cert.MixOutFwdKernelIdeal.nD Cert.MixOutFwdKernelIdeal.τ).loc Cert.MixOutFwdKernelIdeal.main_arg1) = m ((c.tc : Thread Cert.MixOutFwdKernelIdeal.nD Cert.MixOutFwdKernelIdeal.τ).loc Cert.MixOutFwdKernelIdeal.main_arg1)
      ∧ r.2.mem ((c.tc : Thread Cert.MixOutFwdKernelIdeal.nD Cert.MixOutFwdKernelIdeal.τ).loc Cert.MixOutFwdKernelIdeal.main_arg2) = m ((c.tc : Thread Cert.MixOutFwdKernelIdeal.nD Cert.MixOutFwdKernelIdeal.τ).loc Cert.MixOutFwdKernelIdeal.main_arg2)
      ∧ r.2.mem ((c.tc : Thread Cert.MixOutFwdKernelIdeal.nD Cert.MixOutFwdKernelIdeal.τ).loc Cert.MixOutFwdKernelIdeal.main_arg3) = m ((c.tc : Thread Cert.MixOutFwdKernelIdeal.nD Cert.MixOutFwdKernelIdeal.τ).loc Cert.MixOutFwdKernelIdeal.main_arg3)
      ∧ r.2.mem ((c.tc : Thread Cert.MixOutFwdKernelIdeal.nD Cert.MixOutFwdKernelIdeal.τ).loc Cert.MixOutFwdKernelIdeal.main_arg4) = m ((c.tc : Thread Cert.MixOutFwdKernelIdeal.nD Cert.MixOutFwdKernelIdeal.τ).loc Cert.MixOutFwdKernelIdeal.main_arg4)
      ∧ r.2.mem ((c.tc : Thread Cert.MixOutFwdKernelIdeal.nD Cert.MixOutFwdKernelIdeal.τ).loc Cert.MixOutFwdKernelIdeal.main_arg5) = m ((c.tc : Thread Cert.MixOutFwdKernelIdeal.nD Cert.MixOutFwdKernelIdeal.τ).loc Cert.MixOutFwdKernelIdeal.main_arg5)
      ∧ r.2.mem ((c.tc : Thread Cert.MixOutFwdKernelIdeal.nD Cert.MixOutFwdKernelIdeal.τ).loc Cert.MixOutFwdKernelIdeal.main_arg6) = m ((c.tc : Thread Cert.MixOutFwdKernelIdeal.nD Cert.MixOutFwdKernelIdeal.τ).loc Cert.MixOutFwdKernelIdeal.main_arg6)
      ∧ r.2.mem ((c.tc : Thread Cert.MixOutFwdKernelIdeal.nD Cert.MixOutFwdKernelIdeal.τ).loc Cert.MixOutFwdKernelIdeal.main_arg7) = m ((c.tc : Thread Cert.MixOutFwdKernelIdeal.nD Cert.MixOutFwdKernelIdeal.τ).loc Cert.MixOutFwdKernelIdeal.main_arg7))
      ∧ r.2.sem = fun _ => 0)

def quiescent_MixOutFwdReferenceIdeal [hMixOutFwdReferenceIdeal : Cert.MixOutFwdReferenceIdeal.Facts] : Prop :=
  ∀ (m : (ℓ : Loc Cert.MixOutFwdReferenceIdeal.nD Cert.MixOutFwdReferenceIdeal.τ Cert.MixOutFwdReferenceIdeal.sig) → Buf (Elt Ideal) ℓ) (g : Dev Cert.MixOutFwdReferenceIdeal.nD → PrngReg), Pre_MixOutFwdReferenceIdeal m →
    θ_run (Cert.MixOutFwdReferenceIdeal.defs (F := Ideal)) (onTc (τ := Cert.MixOutFwdReferenceIdeal.τ) (Cert.MixOutFwdReferenceIdeal.main (F := Ideal))) ⟨m, fun _ => 0, g⟩ (fun r => (∀ c : Dev Cert.MixOutFwdReferenceIdeal.nD,
      r.2.mem ((c.tc : Thread Cert.MixOutFwdReferenceIdeal.nD Cert.MixOutFwdReferenceIdeal.τ).loc Cert.MixOutFwdReferenceIdeal.main_arg0) = m ((c.tc : Thread Cert.MixOutFwdReferenceIdeal.nD Cert.MixOutFwdReferenceIdeal.τ).loc Cert.MixOutFwdReferenceIdeal.main_arg0)
      ∧ r.2.mem ((c.tc : Thread Cert.MixOutFwdReferenceIdeal.nD Cert.MixOutFwdReferenceIdeal.τ).loc Cert.MixOutFwdReferenceIdeal.main_arg1) = m ((c.tc : Thread Cert.MixOutFwdReferenceIdeal.nD Cert.MixOutFwdReferenceIdeal.τ).loc Cert.MixOutFwdReferenceIdeal.main_arg1)
      ∧ r.2.mem ((c.tc : Thread Cert.MixOutFwdReferenceIdeal.nD Cert.MixOutFwdReferenceIdeal.τ).loc Cert.MixOutFwdReferenceIdeal.main_arg2) = m ((c.tc : Thread Cert.MixOutFwdReferenceIdeal.nD Cert.MixOutFwdReferenceIdeal.τ).loc Cert.MixOutFwdReferenceIdeal.main_arg2)
      ∧ r.2.mem ((c.tc : Thread Cert.MixOutFwdReferenceIdeal.nD Cert.MixOutFwdReferenceIdeal.τ).loc Cert.MixOutFwdReferenceIdeal.main_arg3) = m ((c.tc : Thread Cert.MixOutFwdReferenceIdeal.nD Cert.MixOutFwdReferenceIdeal.τ).loc Cert.MixOutFwdReferenceIdeal.main_arg3)
      ∧ r.2.mem ((c.tc : Thread Cert.MixOutFwdReferenceIdeal.nD Cert.MixOutFwdReferenceIdeal.τ).loc Cert.MixOutFwdReferenceIdeal.main_arg4) = m ((c.tc : Thread Cert.MixOutFwdReferenceIdeal.nD Cert.MixOutFwdReferenceIdeal.τ).loc Cert.MixOutFwdReferenceIdeal.main_arg4)
      ∧ r.2.mem ((c.tc : Thread Cert.MixOutFwdReferenceIdeal.nD Cert.MixOutFwdReferenceIdeal.τ).loc Cert.MixOutFwdReferenceIdeal.main_arg5) = m ((c.tc : Thread Cert.MixOutFwdReferenceIdeal.nD Cert.MixOutFwdReferenceIdeal.τ).loc Cert.MixOutFwdReferenceIdeal.main_arg5)
      ∧ r.2.mem ((c.tc : Thread Cert.MixOutFwdReferenceIdeal.nD Cert.MixOutFwdReferenceIdeal.τ).loc Cert.MixOutFwdReferenceIdeal.main_arg6) = m ((c.tc : Thread Cert.MixOutFwdReferenceIdeal.nD Cert.MixOutFwdReferenceIdeal.τ).loc Cert.MixOutFwdReferenceIdeal.main_arg6)
      ∧ r.2.mem ((c.tc : Thread Cert.MixOutFwdReferenceIdeal.nD Cert.MixOutFwdReferenceIdeal.τ).loc Cert.MixOutFwdReferenceIdeal.main_arg7) = m ((c.tc : Thread Cert.MixOutFwdReferenceIdeal.nD Cert.MixOutFwdReferenceIdeal.τ).loc Cert.MixOutFwdReferenceIdeal.main_arg7))
      ∧ r.2.sem = fun _ => 0)

def quiescent_QkFwdKernel [hQkFwdKernel : Cert.QkFwdKernel.Facts] : Prop :=
  ∀ (m : (ℓ : Loc Cert.QkFwdKernel.nD Cert.QkFwdKernel.τ Cert.QkFwdKernel.sig) → Buf (Elt Bits) ℓ) (g : Dev Cert.QkFwdKernel.nD → PrngReg), Pre_QkFwdKernel m →
    θ_run (Cert.QkFwdKernel.defs (F := Bits)) (onTc (τ := Cert.QkFwdKernel.τ) (Cert.QkFwdKernel.main (F := Bits))) ⟨m, fun _ => 0, g⟩ (fun r => (∀ c : Dev Cert.QkFwdKernel.nD,
      r.2.mem ((c.tc : Thread Cert.QkFwdKernel.nD Cert.QkFwdKernel.τ).loc Cert.QkFwdKernel.main_arg0) = m ((c.tc : Thread Cert.QkFwdKernel.nD Cert.QkFwdKernel.τ).loc Cert.QkFwdKernel.main_arg0)
      ∧ r.2.mem ((c.tc : Thread Cert.QkFwdKernel.nD Cert.QkFwdKernel.τ).loc Cert.QkFwdKernel.main_arg1) = m ((c.tc : Thread Cert.QkFwdKernel.nD Cert.QkFwdKernel.τ).loc Cert.QkFwdKernel.main_arg1)
      ∧ r.2.mem ((c.tc : Thread Cert.QkFwdKernel.nD Cert.QkFwdKernel.τ).loc Cert.QkFwdKernel.main_arg2) = m ((c.tc : Thread Cert.QkFwdKernel.nD Cert.QkFwdKernel.τ).loc Cert.QkFwdKernel.main_arg2))
      ∧ r.2.sem = fun _ => 0)

def quiescent_QkFwdKernelIdeal [hQkFwdKernelIdeal : Cert.QkFwdKernelIdeal.Facts] : Prop :=
  ∀ (m : (ℓ : Loc Cert.QkFwdKernelIdeal.nD Cert.QkFwdKernelIdeal.τ Cert.QkFwdKernelIdeal.sig) → Buf (Elt Ideal) ℓ) (g : Dev Cert.QkFwdKernelIdeal.nD → PrngReg), Pre_QkFwdKernelIdeal m →
    θ_run (Cert.QkFwdKernelIdeal.defs (F := Ideal)) (onTc (τ := Cert.QkFwdKernelIdeal.τ) (Cert.QkFwdKernelIdeal.main (F := Ideal))) ⟨m, fun _ => 0, g⟩ (fun r => (∀ c : Dev Cert.QkFwdKernelIdeal.nD,
      r.2.mem ((c.tc : Thread Cert.QkFwdKernelIdeal.nD Cert.QkFwdKernelIdeal.τ).loc Cert.QkFwdKernelIdeal.main_arg0) = m ((c.tc : Thread Cert.QkFwdKernelIdeal.nD Cert.QkFwdKernelIdeal.τ).loc Cert.QkFwdKernelIdeal.main_arg0)
      ∧ r.2.mem ((c.tc : Thread Cert.QkFwdKernelIdeal.nD Cert.QkFwdKernelIdeal.τ).loc Cert.QkFwdKernelIdeal.main_arg1) = m ((c.tc : Thread Cert.QkFwdKernelIdeal.nD Cert.QkFwdKernelIdeal.τ).loc Cert.QkFwdKernelIdeal.main_arg1)
      ∧ r.2.mem ((c.tc : Thread Cert.QkFwdKernelIdeal.nD Cert.QkFwdKernelIdeal.τ).loc Cert.QkFwdKernelIdeal.main_arg2) = m ((c.tc : Thread Cert.QkFwdKernelIdeal.nD Cert.QkFwdKernelIdeal.τ).loc Cert.QkFwdKernelIdeal.main_arg2))
      ∧ r.2.sem = fun _ => 0)

def quiescent_QkFwdKernelIdeal_pre_qk_fwd_finite [hQkFwdKernelIdeal : Cert.QkFwdKernelIdeal.Facts] [hPre_qk_fwd_finite : Cert.Pre_qk_fwd_finite.Facts] : Prop :=
  ∀ (m : (ℓ : Loc Cert.QkFwdKernelIdeal.nD Cert.QkFwdKernelIdeal.τ Cert.QkFwdKernelIdeal.sig) → Buf (Elt Ideal) ℓ) (g : Dev Cert.QkFwdKernelIdeal.nD → PrngReg), Pre_QkFwdKernelIdeal_qk_fwd_finite m →
    θ_run (Cert.QkFwdKernelIdeal.defs (F := Ideal)) (onTc (τ := Cert.QkFwdKernelIdeal.τ) (Cert.QkFwdKernelIdeal.main (F := Ideal))) ⟨m, fun _ => 0, g⟩ (fun r => (∀ c : Dev Cert.QkFwdKernelIdeal.nD,
      r.2.mem ((c.tc : Thread Cert.QkFwdKernelIdeal.nD Cert.QkFwdKernelIdeal.τ).loc Cert.QkFwdKernelIdeal.main_arg0) = m ((c.tc : Thread Cert.QkFwdKernelIdeal.nD Cert.QkFwdKernelIdeal.τ).loc Cert.QkFwdKernelIdeal.main_arg0)
      ∧ r.2.mem ((c.tc : Thread Cert.QkFwdKernelIdeal.nD Cert.QkFwdKernelIdeal.τ).loc Cert.QkFwdKernelIdeal.main_arg1) = m ((c.tc : Thread Cert.QkFwdKernelIdeal.nD Cert.QkFwdKernelIdeal.τ).loc Cert.QkFwdKernelIdeal.main_arg1)
      ∧ r.2.mem ((c.tc : Thread Cert.QkFwdKernelIdeal.nD Cert.QkFwdKernelIdeal.τ).loc Cert.QkFwdKernelIdeal.main_arg2) = m ((c.tc : Thread Cert.QkFwdKernelIdeal.nD Cert.QkFwdKernelIdeal.τ).loc Cert.QkFwdKernelIdeal.main_arg2))
      ∧ r.2.sem = fun _ => 0)

def quiescent_QkFwdReferenceIdeal [hQkFwdReferenceIdeal : Cert.QkFwdReferenceIdeal.Facts] : Prop :=
  ∀ (m : (ℓ : Loc Cert.QkFwdReferenceIdeal.nD Cert.QkFwdReferenceIdeal.τ Cert.QkFwdReferenceIdeal.sig) → Buf (Elt Ideal) ℓ) (g : Dev Cert.QkFwdReferenceIdeal.nD → PrngReg), Pre_QkFwdReferenceIdeal m →
    θ_run (Cert.QkFwdReferenceIdeal.defs (F := Ideal)) (onTc (τ := Cert.QkFwdReferenceIdeal.τ) (Cert.QkFwdReferenceIdeal.main (F := Ideal))) ⟨m, fun _ => 0, g⟩ (fun r => (∀ c : Dev Cert.QkFwdReferenceIdeal.nD,
      r.2.mem ((c.tc : Thread Cert.QkFwdReferenceIdeal.nD Cert.QkFwdReferenceIdeal.τ).loc Cert.QkFwdReferenceIdeal.main_arg0) = m ((c.tc : Thread Cert.QkFwdReferenceIdeal.nD Cert.QkFwdReferenceIdeal.τ).loc Cert.QkFwdReferenceIdeal.main_arg0)
      ∧ r.2.mem ((c.tc : Thread Cert.QkFwdReferenceIdeal.nD Cert.QkFwdReferenceIdeal.τ).loc Cert.QkFwdReferenceIdeal.main_arg1) = m ((c.tc : Thread Cert.QkFwdReferenceIdeal.nD Cert.QkFwdReferenceIdeal.τ).loc Cert.QkFwdReferenceIdeal.main_arg1)
      ∧ r.2.mem ((c.tc : Thread Cert.QkFwdReferenceIdeal.nD Cert.QkFwdReferenceIdeal.τ).loc Cert.QkFwdReferenceIdeal.main_arg2) = m ((c.tc : Thread Cert.QkFwdReferenceIdeal.nD Cert.QkFwdReferenceIdeal.τ).loc Cert.QkFwdReferenceIdeal.main_arg2))
      ∧ r.2.sem = fun _ => 0)

def quiescent_QkFwdReferenceIdeal_pre_qk_fwd_finite [hQkFwdReferenceIdeal : Cert.QkFwdReferenceIdeal.Facts] [hPre_qk_fwd_finite : Cert.Pre_qk_fwd_finite.Facts] : Prop :=
  ∀ (m : (ℓ : Loc Cert.QkFwdReferenceIdeal.nD Cert.QkFwdReferenceIdeal.τ Cert.QkFwdReferenceIdeal.sig) → Buf (Elt Ideal) ℓ) (g : Dev Cert.QkFwdReferenceIdeal.nD → PrngReg), Pre_QkFwdReferenceIdeal_qk_fwd_finite m →
    θ_run (Cert.QkFwdReferenceIdeal.defs (F := Ideal)) (onTc (τ := Cert.QkFwdReferenceIdeal.τ) (Cert.QkFwdReferenceIdeal.main (F := Ideal))) ⟨m, fun _ => 0, g⟩ (fun r => (∀ c : Dev Cert.QkFwdReferenceIdeal.nD,
      r.2.mem ((c.tc : Thread Cert.QkFwdReferenceIdeal.nD Cert.QkFwdReferenceIdeal.τ).loc Cert.QkFwdReferenceIdeal.main_arg0) = m ((c.tc : Thread Cert.QkFwdReferenceIdeal.nD Cert.QkFwdReferenceIdeal.τ).loc Cert.QkFwdReferenceIdeal.main_arg0)
      ∧ r.2.mem ((c.tc : Thread Cert.QkFwdReferenceIdeal.nD Cert.QkFwdReferenceIdeal.τ).loc Cert.QkFwdReferenceIdeal.main_arg1) = m ((c.tc : Thread Cert.QkFwdReferenceIdeal.nD Cert.QkFwdReferenceIdeal.τ).loc Cert.QkFwdReferenceIdeal.main_arg1)
      ∧ r.2.mem ((c.tc : Thread Cert.QkFwdReferenceIdeal.nD Cert.QkFwdReferenceIdeal.τ).loc Cert.QkFwdReferenceIdeal.main_arg2) = m ((c.tc : Thread Cert.QkFwdReferenceIdeal.nD Cert.QkFwdReferenceIdeal.τ).loc Cert.QkFwdReferenceIdeal.main_arg2))
      ∧ r.2.sem = fun _ => 0)

def preserves_LossKernel_LossKernelIdeal : Prop :=
  True

def algebraic_LossKernelIdeal_LossReferenceIdeal_pre_loss_finite [hLossKernelIdeal : Cert.LossKernelIdeal.Facts] [hLossReferenceIdeal : Cert.LossReferenceIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossKernelIdeal_loss_finite m →
    (∀ c : Dev Cert.LossKernelIdeal.nD,
      m' ((c.tc : Thread Cert.LossReferenceIdeal.nD Cert.LossReferenceIdeal.τ).loc Cert.LossReferenceIdeal.main_arg0) = m ((c.tc : Thread Cert.LossKernelIdeal.nD Cert.LossKernelIdeal.τ).loc Cert.LossKernelIdeal.main_arg0)
      ∧ m' ((c.tc : Thread Cert.LossReferenceIdeal.nD Cert.LossReferenceIdeal.τ).loc Cert.LossReferenceIdeal.main_arg1) = m ((c.tc : Thread Cert.LossKernelIdeal.nD Cert.LossKernelIdeal.τ).loc Cert.LossKernelIdeal.main_arg1)
      ∧ m' ((c.tc : Thread Cert.LossReferenceIdeal.nD Cert.LossReferenceIdeal.τ).loc Cert.LossReferenceIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v0_0)) (v1 : (c : Dev Cert.LossKernelIdeal.nD) → Buf (Elt Ideal) ((c.tc : Thread Cert.LossKernelIdeal.nD Cert.LossKernelIdeal.τ).loc Cert.LossKernelIdeal.main_v0_1)) (v2 : (c : Dev Cert.LossKernelIdeal.nD) → Buf (Elt Ideal) ((c.tc : Thread Cert.LossKernelIdeal.nD Cert.LossKernelIdeal.τ).loc Cert.LossKernelIdeal.main_v0_2)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v0_0) = v0 c
          ∧ r.2.mem ((c.tc : Thread Cert.LossKernelIdeal.nD Cert.LossKernelIdeal.τ).loc Cert.LossKernelIdeal.main_v0_1) = v1 c
          ∧ r.2.mem ((c.tc : Thread Cert.LossKernelIdeal.nD Cert.LossKernelIdeal.τ).loc Cert.LossKernelIdeal.main_v0_2) = v2 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v48) = v0 c
          ∧ r.2.mem ((c.tc : Thread Cert.LossReferenceIdeal.nD Cert.LossReferenceIdeal.τ).loc Cert.LossReferenceIdeal.main_v49) = v1 c
          ∧ r.2.mem ((c.tc : Thread Cert.LossReferenceIdeal.nD Cert.LossReferenceIdeal.τ).loc Cert.LossReferenceIdeal.main_v32) = v2 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_AttnKernel_AttnKernelIdeal : Prop :=
  True

def algebraic_AttnKernelIdeal_AttnReferenceIdeal_pre_attn_finite [hAttnKernelIdeal : Cert.AttnKernelIdeal.Facts] [hAttnReferenceIdeal : Cert.AttnReferenceIdeal.Facts] [hPre_attn_finite : Cert.Pre_attn_finite.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_attn_finite m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)
      ∧ m' ((c.tc : Thread Cert.AttnReferenceIdeal.nD Cert.AttnReferenceIdeal.τ).loc Cert.AttnReferenceIdeal.main_arg3) = m ((c.tc : Thread Cert.AttnKernelIdeal.nD Cert.AttnKernelIdeal.τ).loc Cert.AttnKernelIdeal.main_arg3)) →
    ∃ (v0 : (c : Dev Cert.AttnKernelIdeal.nD) → Buf (Elt Ideal) ((c.tc : Thread Cert.AttnKernelIdeal.nD Cert.AttnKernelIdeal.τ).loc Cert.AttnKernelIdeal.main_v16_0)) (v1 : (c : Dev Cert.AttnKernelIdeal.nD) → Buf (Elt Ideal) ((c.tc : Thread Cert.AttnKernelIdeal.nD Cert.AttnKernelIdeal.τ).loc Cert.AttnKernelIdeal.main_v16_1)) (v2 : (c : Dev Cert.AttnKernelIdeal.nD) → Buf (Elt Ideal) ((c.tc : Thread Cert.AttnKernelIdeal.nD Cert.AttnKernelIdeal.τ).loc Cert.AttnKernelIdeal.main_v32_0)) (v3 : (c : Dev Cert.AttnKernelIdeal.nD) → Buf (Elt Ideal) ((c.tc : Thread Cert.AttnKernelIdeal.nD Cert.AttnKernelIdeal.τ).loc Cert.AttnKernelIdeal.main_v32_1)) (v4 : (c : Dev Cert.AttnKernelIdeal.nD) → Buf (Elt Ideal) ((c.tc : Thread Cert.AttnKernelIdeal.nD Cert.AttnKernelIdeal.τ).loc Cert.AttnKernelIdeal.main_v32_2)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v16_0) = v0 c
          ∧ r.2.mem ((c.tc : Thread Cert.AttnKernelIdeal.nD Cert.AttnKernelIdeal.τ).loc Cert.AttnKernelIdeal.main_v16_1) = v1 c
          ∧ r.2.mem ((c.tc : Thread Cert.AttnKernelIdeal.nD Cert.AttnKernelIdeal.τ).loc Cert.AttnKernelIdeal.main_v32_0) = v2 c
          ∧ r.2.mem ((c.tc : Thread Cert.AttnKernelIdeal.nD Cert.AttnKernelIdeal.τ).loc Cert.AttnKernelIdeal.main_v32_1) = v3 c
          ∧ r.2.mem ((c.tc : Thread Cert.AttnKernelIdeal.nD Cert.AttnKernelIdeal.τ).loc Cert.AttnKernelIdeal.main_v32_2) = v4 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v37) = v0 c
          ∧ r.2.mem ((c.tc : Thread Cert.AttnReferenceIdeal.nD Cert.AttnReferenceIdeal.τ).loc Cert.AttnReferenceIdeal.main_v70) = v1 c
          ∧ r.2.mem ((c.tc : Thread Cert.AttnReferenceIdeal.nD Cert.AttnReferenceIdeal.τ).loc Cert.AttnReferenceIdeal.main_v71) = v2 c
          ∧ r.2.mem ((c.tc : Thread Cert.AttnReferenceIdeal.nD Cert.AttnReferenceIdeal.τ).loc Cert.AttnReferenceIdeal.main_v72) = v3 c
          ∧ r.2.mem ((c.tc : Thread Cert.AttnReferenceIdeal.nD Cert.AttnReferenceIdeal.τ).loc Cert.AttnReferenceIdeal.main_v73) = v4 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3))

def preserves_MixInKernel_MixInKernelIdeal : Prop :=
  True

def algebraic_MixInKernelIdeal_MixInReferenceIdeal_pre_mix_in_finite [hMixInKernelIdeal : Cert.MixInKernelIdeal.Facts] [hMixInReferenceIdeal : Cert.MixInReferenceIdeal.Facts] [hPre_mix_in_finite : Cert.Pre_mix_in_finite.Facts] : Prop :=
  ∀ (m : (ℓ : Loc Cert.MixInKernelIdeal.nD Cert.MixInKernelIdeal.τ Cert.MixInKernelIdeal.sig) → Buf (Elt Ideal) ℓ) (g : Dev Cert.MixInKernelIdeal.nD → PrngReg)
    (m' : (ℓ : Loc Cert.MixInReferenceIdeal.nD Cert.MixInReferenceIdeal.τ Cert.MixInReferenceIdeal.sig) → Buf (Elt Ideal) ℓ) (g' : Dev Cert.MixInReferenceIdeal.nD → PrngReg), Pre_MixInKernelIdeal_mix_in_finite m →
    (∀ c : Dev Cert.MixInKernelIdeal.nD,
      m' ((c.tc : Thread Cert.MixInReferenceIdeal.nD Cert.MixInReferenceIdeal.τ).loc Cert.MixInReferenceIdeal.main_arg0) = m ((c.tc : Thread Cert.MixInKernelIdeal.nD Cert.MixInKernelIdeal.τ).loc Cert.MixInKernelIdeal.main_arg0)
      ∧ m' ((c.tc : Thread Cert.MixInReferenceIdeal.nD Cert.MixInReferenceIdeal.τ).loc Cert.MixInReferenceIdeal.main_arg1) = m ((c.tc : Thread Cert.MixInKernelIdeal.nD Cert.MixInKernelIdeal.τ).loc Cert.MixInKernelIdeal.main_arg1)
      ∧ m' ((c.tc : Thread Cert.MixInReferenceIdeal.nD Cert.MixInReferenceIdeal.τ).loc Cert.MixInReferenceIdeal.main_arg2) = m ((c.tc : Thread Cert.MixInKernelIdeal.nD Cert.MixInKernelIdeal.τ).loc Cert.MixInKernelIdeal.main_arg2)
      ∧ m' ((c.tc : Thread Cert.MixInReferenceIdeal.nD Cert.MixInReferenceIdeal.τ).loc Cert.MixInReferenceIdeal.main_arg3) = m ((c.tc : Thread Cert.MixInKernelIdeal.nD Cert.MixInKernelIdeal.τ).loc Cert.MixInKernelIdeal.main_arg3)
      ∧ m' ((c.tc : Thread Cert.MixInReferenceIdeal.nD Cert.MixInReferenceIdeal.τ).loc Cert.MixInReferenceIdeal.main_arg4) = m ((c.tc : Thread Cert.MixInKernelIdeal.nD Cert.MixInKernelIdeal.τ).loc Cert.MixInKernelIdeal.main_arg4)) →
    ∃ (v0 : (c : Dev Cert.MixInKernelIdeal.nD) → Buf (Elt Ideal) ((c.tc : Thread Cert.MixInKernelIdeal.nD Cert.MixInKernelIdeal.τ).loc Cert.MixInKernelIdeal.main_v16_0)) (v1 : (c : Dev Cert.MixInKernelIdeal.nD) → Buf (Elt Ideal) ((c.tc : Thread Cert.MixInKernelIdeal.nD Cert.MixInKernelIdeal.τ).loc Cert.MixInKernelIdeal.main_v16_1)),
      θ_run (Cert.MixInKernelIdeal.defs (F := Ideal)) (onTc (τ := Cert.MixInKernelIdeal.τ) (Cert.MixInKernelIdeal.main (F := Ideal))) ⟨m, fun _ => 0, g⟩ (fun r => ∀ c : Dev Cert.MixInKernelIdeal.nD,
          r.2.mem ((c.tc : Thread Cert.MixInKernelIdeal.nD Cert.MixInKernelIdeal.τ).loc Cert.MixInKernelIdeal.main_v16_0) = v0 c
          ∧ r.2.mem ((c.tc : Thread Cert.MixInKernelIdeal.nD Cert.MixInKernelIdeal.τ).loc Cert.MixInKernelIdeal.main_v16_1) = v1 c
          ∧ r.2.mem ((c.tc : Thread Cert.MixInKernelIdeal.nD Cert.MixInKernelIdeal.τ).loc Cert.MixInKernelIdeal.main_arg0) = m ((c.tc : Thread Cert.MixInKernelIdeal.nD Cert.MixInKernelIdeal.τ).loc Cert.MixInKernelIdeal.main_arg0)
          ∧ r.2.mem ((c.tc : Thread Cert.MixInKernelIdeal.nD Cert.MixInKernelIdeal.τ).loc Cert.MixInKernelIdeal.main_arg1) = m ((c.tc : Thread Cert.MixInKernelIdeal.nD Cert.MixInKernelIdeal.τ).loc Cert.MixInKernelIdeal.main_arg1)
          ∧ r.2.mem ((c.tc : Thread Cert.MixInKernelIdeal.nD Cert.MixInKernelIdeal.τ).loc Cert.MixInKernelIdeal.main_arg2) = m ((c.tc : Thread Cert.MixInKernelIdeal.nD Cert.MixInKernelIdeal.τ).loc Cert.MixInKernelIdeal.main_arg2)
          ∧ r.2.mem ((c.tc : Thread Cert.MixInKernelIdeal.nD Cert.MixInKernelIdeal.τ).loc Cert.MixInKernelIdeal.main_arg3) = m ((c.tc : Thread Cert.MixInKernelIdeal.nD Cert.MixInKernelIdeal.τ).loc Cert.MixInKernelIdeal.main_arg3)
          ∧ r.2.mem ((c.tc : Thread Cert.MixInKernelIdeal.nD Cert.MixInKernelIdeal.τ).loc Cert.MixInKernelIdeal.main_arg4) = m ((c.tc : Thread Cert.MixInKernelIdeal.nD Cert.MixInKernelIdeal.τ).loc Cert.MixInKernelIdeal.main_arg4))
      ∧ θ_run (Cert.MixInReferenceIdeal.defs (F := Ideal)) (onTc (τ := Cert.MixInReferenceIdeal.τ) (Cert.MixInReferenceIdeal.main (F := Ideal))) ⟨m', fun _ => 0, g'⟩ (fun r => ∀ c : Dev Cert.MixInReferenceIdeal.nD,
          r.2.mem ((c.tc : Thread Cert.MixInReferenceIdeal.nD Cert.MixInReferenceIdeal.τ).loc Cert.MixInReferenceIdeal.main_v38) = v0 c
          ∧ r.2.mem ((c.tc : Thread Cert.MixInReferenceIdeal.nD Cert.MixInReferenceIdeal.τ).loc Cert.MixInReferenceIdeal.main_v21) = v1 c
          ∧ r.2.mem ((c.tc : Thread Cert.MixInReferenceIdeal.nD Cert.MixInReferenceIdeal.τ).loc Cert.MixInReferenceIdeal.main_arg0) = m' ((c.tc : Thread Cert.MixInReferenceIdeal.nD Cert.MixInReferenceIdeal.τ).loc Cert.MixInReferenceIdeal.main_arg0)
          ∧ r.2.mem ((c.tc : Thread Cert.MixInReferenceIdeal.nD Cert.MixInReferenceIdeal.τ).loc Cert.MixInReferenceIdeal.main_arg1) = m' ((c.tc : Thread Cert.MixInReferenceIdeal.nD Cert.MixInReferenceIdeal.τ).loc Cert.MixInReferenceIdeal.main_arg1)
          ∧ r.2.mem ((c.tc : Thread Cert.MixInReferenceIdeal.nD Cert.MixInReferenceIdeal.τ).loc Cert.MixInReferenceIdeal.main_arg2) = m' ((c.tc : Thread Cert.MixInReferenceIdeal.nD Cert.MixInReferenceIdeal.τ).loc Cert.MixInReferenceIdeal.main_arg2)
          ∧ r.2.mem ((c.tc : Thread Cert.MixInReferenceIdeal.nD Cert.MixInReferenceIdeal.τ).loc Cert.MixInReferenceIdeal.main_arg3) = m' ((c.tc : Thread Cert.MixInReferenceIdeal.nD Cert.MixInReferenceIdeal.τ).loc Cert.MixInReferenceIdeal.main_arg3)
          ∧ r.2.mem ((c.tc : Thread Cert.MixInReferenceIdeal.nD Cert.MixInReferenceIdeal.τ).loc Cert.MixInReferenceIdeal.main_arg4) = m' ((c.tc : Thread Cert.MixInReferenceIdeal.nD Cert.MixInReferenceIdeal.τ).loc Cert.MixInReferenceIdeal.main_arg4))

def preserves_MixOutKernel_MixOutKernelIdeal : Prop :=
  True

def algebraic_MixOutKernelIdeal_MixOutReferenceIdeal_pre_mix_out_finite [hMixOutKernelIdeal : Cert.MixOutKernelIdeal.Facts] [hMixOutReferenceIdeal : Cert.MixOutReferenceIdeal.Facts] [hPre_mix_out_finite : Cert.Pre_mix_out_finite.Facts] : Prop :=
  ∀ (m : (ℓ : Loc Cert.MixOutKernelIdeal.nD Cert.MixOutKernelIdeal.τ Cert.MixOutKernelIdeal.sig) → Buf (Elt Ideal) ℓ) (g : Dev Cert.MixOutKernelIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutKernelIdeal_mix_out_finite m →
    (∀ c : Dev Cert.MixOutKernelIdeal.nD,
      m' ((c.tc : Thread Cert.MixOutReferenceIdeal.nD Cert.MixOutReferenceIdeal.τ).loc Cert.MixOutReferenceIdeal.main_arg0) = m ((c.tc : Thread Cert.MixOutKernelIdeal.nD Cert.MixOutKernelIdeal.τ).loc Cert.MixOutKernelIdeal.main_arg0)
      ∧ m' ((c.tc : Thread Cert.MixOutReferenceIdeal.nD Cert.MixOutReferenceIdeal.τ).loc Cert.MixOutReferenceIdeal.main_arg1) = m ((c.tc : Thread Cert.MixOutKernelIdeal.nD Cert.MixOutKernelIdeal.τ).loc Cert.MixOutKernelIdeal.main_arg1)
      ∧ m' ((c.tc : Thread Cert.MixOutReferenceIdeal.nD Cert.MixOutReferenceIdeal.τ).loc Cert.MixOutReferenceIdeal.main_arg2) = m ((c.tc : Thread Cert.MixOutKernelIdeal.nD Cert.MixOutKernelIdeal.τ).loc Cert.MixOutKernelIdeal.main_arg2)
      ∧ m' ((c.tc : Thread Cert.MixOutReferenceIdeal.nD Cert.MixOutReferenceIdeal.τ).loc Cert.MixOutReferenceIdeal.main_arg3) = m ((c.tc : Thread Cert.MixOutKernelIdeal.nD Cert.MixOutKernelIdeal.τ).loc Cert.MixOutKernelIdeal.main_arg3)
      ∧ m' ((c.tc : Thread Cert.MixOutReferenceIdeal.nD Cert.MixOutReferenceIdeal.τ).loc Cert.MixOutReferenceIdeal.main_arg4) = m ((c.tc : Thread Cert.MixOutKernelIdeal.nD Cert.MixOutKernelIdeal.τ).loc Cert.MixOutKernelIdeal.main_arg4)
      ∧ m' ((c.tc : Thread Cert.MixOutReferenceIdeal.nD Cert.MixOutReferenceIdeal.τ).loc Cert.MixOutReferenceIdeal.main_arg5) = m ((c.tc : Thread Cert.MixOutKernelIdeal.nD Cert.MixOutKernelIdeal.τ).loc Cert.MixOutKernelIdeal.main_arg5)
      ∧ m' ((c.tc : Thread Cert.MixOutReferenceIdeal.nD Cert.MixOutReferenceIdeal.τ).loc Cert.MixOutReferenceIdeal.main_arg6) = m ((c.tc : Thread Cert.MixOutKernelIdeal.nD Cert.MixOutKernelIdeal.τ).loc Cert.MixOutKernelIdeal.main_arg6)
      ∧ m' ((c.tc : Thread Cert.MixOutReferenceIdeal.nD Cert.MixOutReferenceIdeal.τ).loc Cert.MixOutReferenceIdeal.main_arg7) = m ((c.tc : Thread Cert.MixOutKernelIdeal.nD Cert.MixOutKernelIdeal.τ).loc Cert.MixOutKernelIdeal.main_arg7)) →
    ∃ (v0 : (c : Dev Cert.MixOutKernelIdeal.nD) → Buf (Elt Ideal) ((c.tc : Thread Cert.MixOutKernelIdeal.nD Cert.MixOutKernelIdeal.τ).loc Cert.MixOutKernelIdeal.main_v36_0)) (v1 : (c : Dev Cert.MixOutKernelIdeal.nD) → Buf (Elt Ideal) ((c.tc : Thread Cert.MixOutKernelIdeal.nD Cert.MixOutKernelIdeal.τ).loc Cert.MixOutKernelIdeal.main_v36_1)) (v2 : (c : Dev Cert.MixOutKernelIdeal.nD) → Buf (Elt Ideal) ((c.tc : Thread Cert.MixOutKernelIdeal.nD Cert.MixOutKernelIdeal.τ).loc Cert.MixOutKernelIdeal.main_v36_2)) (v3 : (c : Dev Cert.MixOutKernelIdeal.nD) → Buf (Elt Ideal) ((c.tc : Thread Cert.MixOutKernelIdeal.nD Cert.MixOutKernelIdeal.τ).loc Cert.MixOutKernelIdeal.main_v36_3)) (v4 : (c : Dev Cert.MixOutKernelIdeal.nD) → Buf (Elt Ideal) ((c.tc : Thread Cert.MixOutKernelIdeal.nD Cert.MixOutKernelIdeal.τ).loc Cert.MixOutKernelIdeal.main_v36_4)) (v5 : (c : Dev Cert.MixOutKernelIdeal.nD) → Buf (Elt Ideal) ((c.tc : Thread Cert.MixOutKernelIdeal.nD Cert.MixOutKernelIdeal.τ).loc Cert.MixOutKernelIdeal.main_v36_5)) (v6 : (c : Dev Cert.MixOutKernelIdeal.nD) → Buf (Elt Ideal) ((c.tc : Thread Cert.MixOutKernelIdeal.nD Cert.MixOutKernelIdeal.τ).loc Cert.MixOutKernelIdeal.main_v36_6)),
      θ_run (Cert.MixOutKernelIdeal.defs (F := Ideal)) (onTc (τ := Cert.MixOutKernelIdeal.τ) (Cert.MixOutKernelIdeal.main (F := Ideal))) ⟨m, fun _ => 0, g⟩ (fun r => ∀ c : Dev Cert.MixOutKernelIdeal.nD,
          r.2.mem ((c.tc : Thread Cert.MixOutKernelIdeal.nD Cert.MixOutKernelIdeal.τ).loc Cert.MixOutKernelIdeal.main_v36_0) = v0 c
          ∧ r.2.mem ((c.tc : Thread Cert.MixOutKernelIdeal.nD Cert.MixOutKernelIdeal.τ).loc Cert.MixOutKernelIdeal.main_v36_1) = v1 c
          ∧ r.2.mem ((c.tc : Thread Cert.MixOutKernelIdeal.nD Cert.MixOutKernelIdeal.τ).loc Cert.MixOutKernelIdeal.main_v36_2) = v2 c
          ∧ r.2.mem ((c.tc : Thread Cert.MixOutKernelIdeal.nD Cert.MixOutKernelIdeal.τ).loc Cert.MixOutKernelIdeal.main_v36_3) = v3 c
          ∧ r.2.mem ((c.tc : Thread Cert.MixOutKernelIdeal.nD Cert.MixOutKernelIdeal.τ).loc Cert.MixOutKernelIdeal.main_v36_4) = v4 c
          ∧ r.2.mem ((c.tc : Thread Cert.MixOutKernelIdeal.nD Cert.MixOutKernelIdeal.τ).loc Cert.MixOutKernelIdeal.main_v36_5) = v5 c
          ∧ r.2.mem ((c.tc : Thread Cert.MixOutKernelIdeal.nD Cert.MixOutKernelIdeal.τ).loc Cert.MixOutKernelIdeal.main_v36_6) = v6 c
          ∧ r.2.mem ((c.tc : Thread Cert.MixOutKernelIdeal.nD Cert.MixOutKernelIdeal.τ).loc Cert.MixOutKernelIdeal.main_arg0) = m ((c.tc : Thread Cert.MixOutKernelIdeal.nD Cert.MixOutKernelIdeal.τ).loc Cert.MixOutKernelIdeal.main_arg0)
          ∧ r.2.mem ((c.tc : Thread Cert.MixOutKernelIdeal.nD Cert.MixOutKernelIdeal.τ).loc Cert.MixOutKernelIdeal.main_arg1) = m ((c.tc : Thread Cert.MixOutKernelIdeal.nD Cert.MixOutKernelIdeal.τ).loc Cert.MixOutKernelIdeal.main_arg1)
          ∧ r.2.mem ((c.tc : Thread Cert.MixOutKernelIdeal.nD Cert.MixOutKernelIdeal.τ).loc Cert.MixOutKernelIdeal.main_arg2) = m ((c.tc : Thread Cert.MixOutKernelIdeal.nD Cert.MixOutKernelIdeal.τ).loc Cert.MixOutKernelIdeal.main_arg2)
          ∧ r.2.mem ((c.tc : Thread Cert.MixOutKernelIdeal.nD Cert.MixOutKernelIdeal.τ).loc Cert.MixOutKernelIdeal.main_arg3) = m ((c.tc : Thread Cert.MixOutKernelIdeal.nD Cert.MixOutKernelIdeal.τ).loc Cert.MixOutKernelIdeal.main_arg3)
          ∧ r.2.mem ((c.tc : Thread Cert.MixOutKernelIdeal.nD Cert.MixOutKernelIdeal.τ).loc Cert.MixOutKernelIdeal.main_arg4) = m ((c.tc : Thread Cert.MixOutKernelIdeal.nD Cert.MixOutKernelIdeal.τ).loc Cert.MixOutKernelIdeal.main_arg4)
          ∧ r.2.mem ((c.tc : Thread Cert.MixOutKernelIdeal.nD Cert.MixOutKernelIdeal.τ).loc Cert.MixOutKernelIdeal.main_arg5) = m ((c.tc : Thread Cert.MixOutKernelIdeal.nD Cert.MixOutKernelIdeal.τ).loc Cert.MixOutKernelIdeal.main_arg5)
          ∧ r.2.mem ((c.tc : Thread Cert.MixOutKernelIdeal.nD Cert.MixOutKernelIdeal.τ).loc Cert.MixOutKernelIdeal.main_arg6) = m ((c.tc : Thread Cert.MixOutKernelIdeal.nD Cert.MixOutKernelIdeal.τ).loc Cert.MixOutKernelIdeal.main_arg6)
          ∧ r.2.mem ((c.tc : Thread Cert.MixOutKernelIdeal.nD Cert.MixOutKernelIdeal.τ).loc Cert.MixOutKernelIdeal.main_arg7) = m ((c.tc : Thread Cert.MixOutKernelIdeal.nD Cert.MixOutKernelIdeal.τ).loc Cert.MixOutKernelIdeal.main_arg7))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v81) = v0 c
          ∧ r.2.mem ((c.tc : Thread Cert.MixOutReferenceIdeal.nD Cert.MixOutReferenceIdeal.τ).loc Cert.MixOutReferenceIdeal.main_v82) = v1 c
          ∧ r.2.mem ((c.tc : Thread Cert.MixOutReferenceIdeal.nD Cert.MixOutReferenceIdeal.τ).loc Cert.MixOutReferenceIdeal.main_v83) = v2 c
          ∧ r.2.mem ((c.tc : Thread Cert.MixOutReferenceIdeal.nD Cert.MixOutReferenceIdeal.τ).loc Cert.MixOutReferenceIdeal.main_v84) = v3 c
          ∧ r.2.mem ((c.tc : Thread Cert.MixOutReferenceIdeal.nD Cert.MixOutReferenceIdeal.τ).loc Cert.MixOutReferenceIdeal.main_v85) = v4 c
          ∧ r.2.mem ((c.tc : Thread Cert.MixOutReferenceIdeal.nD Cert.MixOutReferenceIdeal.τ).loc Cert.MixOutReferenceIdeal.main_v87) = v5 c
          ∧ r.2.mem ((c.tc : Thread Cert.MixOutReferenceIdeal.nD Cert.MixOutReferenceIdeal.τ).loc Cert.MixOutReferenceIdeal.main_v67) = v6 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2)
          ∧ r.2.mem ((c.tc : Thread Cert.MixOutReferenceIdeal.nD Cert.MixOutReferenceIdeal.τ).loc Cert.MixOutReferenceIdeal.main_arg3) = m' ((c.tc : Thread Cert.MixOutReferenceIdeal.nD Cert.MixOutReferenceIdeal.τ).loc Cert.MixOutReferenceIdeal.main_arg3)
          ∧ r.2.mem ((c.tc : Thread Cert.MixOutReferenceIdeal.nD Cert.MixOutReferenceIdeal.τ).loc Cert.MixOutReferenceIdeal.main_arg4) = m' ((c.tc : Thread Cert.MixOutReferenceIdeal.nD Cert.MixOutReferenceIdeal.τ).loc Cert.MixOutReferenceIdeal.main_arg4)
          ∧ r.2.mem ((c.tc : Thread Cert.MixOutReferenceIdeal.nD Cert.MixOutReferenceIdeal.τ).loc Cert.MixOutReferenceIdeal.main_arg5) = m' ((c.tc : Thread Cert.MixOutReferenceIdeal.nD Cert.MixOutReferenceIdeal.τ).loc Cert.MixOutReferenceIdeal.main_arg5)
          ∧ r.2.mem ((c.tc : Thread Cert.MixOutReferenceIdeal.nD Cert.MixOutReferenceIdeal.τ).loc Cert.MixOutReferenceIdeal.main_arg6) = m' ((c.tc : Thread Cert.MixOutReferenceIdeal.nD Cert.MixOutReferenceIdeal.τ).loc Cert.MixOutReferenceIdeal.main_arg6)
          ∧ r.2.mem ((c.tc : Thread Cert.MixOutReferenceIdeal.nD Cert.MixOutReferenceIdeal.τ).loc Cert.MixOutReferenceIdeal.main_arg7) = m' ((c.tc : Thread Cert.MixOutReferenceIdeal.nD Cert.MixOutReferenceIdeal.τ).loc Cert.MixOutReferenceIdeal.main_arg7))

def preserves_QkKernel_QkKernelIdeal : Prop :=
  True

def algebraic_QkKernelIdeal_QkReferenceIdeal_pre_qk_finite [hQkKernelIdeal : Cert.QkKernelIdeal.Facts] [hQkReferenceIdeal : Cert.QkReferenceIdeal.Facts] [hPre_qk_finite : Cert.Pre_qk_finite.Facts] : Prop :=
  ∀ (m : (ℓ : Loc Cert.QkKernelIdeal.nD Cert.QkKernelIdeal.τ Cert.QkKernelIdeal.sig) → Buf (Elt Ideal) ℓ) (g : Dev Cert.QkKernelIdeal.nD → PrngReg)
    (m' : (ℓ : Loc Cert.QkReferenceIdeal.nD Cert.QkReferenceIdeal.τ Cert.QkReferenceIdeal.sig) → Buf (Elt Ideal) ℓ) (g' : Dev Cert.QkReferenceIdeal.nD → PrngReg), Pre_QkKernelIdeal_qk_finite m →
    (∀ c : Dev Cert.QkKernelIdeal.nD,
      m' ((c.tc : Thread Cert.QkReferenceIdeal.nD Cert.QkReferenceIdeal.τ).loc Cert.QkReferenceIdeal.main_arg0) = m ((c.tc : Thread Cert.QkKernelIdeal.nD Cert.QkKernelIdeal.τ).loc Cert.QkKernelIdeal.main_arg0)
      ∧ m' ((c.tc : Thread Cert.QkReferenceIdeal.nD Cert.QkReferenceIdeal.τ).loc Cert.QkReferenceIdeal.main_arg1) = m ((c.tc : Thread Cert.QkKernelIdeal.nD Cert.QkKernelIdeal.τ).loc Cert.QkKernelIdeal.main_arg1)
      ∧ m' ((c.tc : Thread Cert.QkReferenceIdeal.nD Cert.QkReferenceIdeal.τ).loc Cert.QkReferenceIdeal.main_arg2) = m ((c.tc : Thread Cert.QkKernelIdeal.nD Cert.QkKernelIdeal.τ).loc Cert.QkKernelIdeal.main_arg2)
      ∧ m' ((c.tc : Thread Cert.QkReferenceIdeal.nD Cert.QkReferenceIdeal.τ).loc Cert.QkReferenceIdeal.main_arg3) = m ((c.tc : Thread Cert.QkKernelIdeal.nD Cert.QkKernelIdeal.τ).loc Cert.QkKernelIdeal.main_arg3)
      ∧ m' ((c.tc : Thread Cert.QkReferenceIdeal.nD Cert.QkReferenceIdeal.τ).loc Cert.QkReferenceIdeal.main_arg4) = m ((c.tc : Thread Cert.QkKernelIdeal.nD Cert.QkKernelIdeal.τ).loc Cert.QkKernelIdeal.main_arg4)
      ∧ m' ((c.tc : Thread Cert.QkReferenceIdeal.nD Cert.QkReferenceIdeal.τ).loc Cert.QkReferenceIdeal.main_arg5) = m ((c.tc : Thread Cert.QkKernelIdeal.nD Cert.QkKernelIdeal.τ).loc Cert.QkKernelIdeal.main_arg5)) →
    ∃ (v0 : (c : Dev Cert.QkKernelIdeal.nD) → Buf (Elt Ideal) ((c.tc : Thread Cert.QkKernelIdeal.nD Cert.QkKernelIdeal.τ).loc Cert.QkKernelIdeal.main_v64_0)) (v1 : (c : Dev Cert.QkKernelIdeal.nD) → Buf (Elt Ideal) ((c.tc : Thread Cert.QkKernelIdeal.nD Cert.QkKernelIdeal.τ).loc Cert.QkKernelIdeal.main_v64_1)) (v2 : (c : Dev Cert.QkKernelIdeal.nD) → Buf (Elt Ideal) ((c.tc : Thread Cert.QkKernelIdeal.nD Cert.QkKernelIdeal.τ).loc Cert.QkKernelIdeal.main_v64_2)),
      θ_run (Cert.QkKernelIdeal.defs (F := Ideal)) (onTc (τ := Cert.QkKernelIdeal.τ) (Cert.QkKernelIdeal.main (F := Ideal))) ⟨m, fun _ => 0, g⟩ (fun r => ∀ c : Dev Cert.QkKernelIdeal.nD,
          r.2.mem ((c.tc : Thread Cert.QkKernelIdeal.nD Cert.QkKernelIdeal.τ).loc Cert.QkKernelIdeal.main_v64_0) = v0 c
          ∧ r.2.mem ((c.tc : Thread Cert.QkKernelIdeal.nD Cert.QkKernelIdeal.τ).loc Cert.QkKernelIdeal.main_v64_1) = v1 c
          ∧ r.2.mem ((c.tc : Thread Cert.QkKernelIdeal.nD Cert.QkKernelIdeal.τ).loc Cert.QkKernelIdeal.main_v64_2) = v2 c
          ∧ r.2.mem ((c.tc : Thread Cert.QkKernelIdeal.nD Cert.QkKernelIdeal.τ).loc Cert.QkKernelIdeal.main_arg0) = m ((c.tc : Thread Cert.QkKernelIdeal.nD Cert.QkKernelIdeal.τ).loc Cert.QkKernelIdeal.main_arg0)
          ∧ r.2.mem ((c.tc : Thread Cert.QkKernelIdeal.nD Cert.QkKernelIdeal.τ).loc Cert.QkKernelIdeal.main_arg1) = m ((c.tc : Thread Cert.QkKernelIdeal.nD Cert.QkKernelIdeal.τ).loc Cert.QkKernelIdeal.main_arg1)
          ∧ r.2.mem ((c.tc : Thread Cert.QkKernelIdeal.nD Cert.QkKernelIdeal.τ).loc Cert.QkKernelIdeal.main_arg2) = m ((c.tc : Thread Cert.QkKernelIdeal.nD Cert.QkKernelIdeal.τ).loc Cert.QkKernelIdeal.main_arg2)
          ∧ r.2.mem ((c.tc : Thread Cert.QkKernelIdeal.nD Cert.QkKernelIdeal.τ).loc Cert.QkKernelIdeal.main_arg3) = m ((c.tc : Thread Cert.QkKernelIdeal.nD Cert.QkKernelIdeal.τ).loc Cert.QkKernelIdeal.main_arg3)
          ∧ r.2.mem ((c.tc : Thread Cert.QkKernelIdeal.nD Cert.QkKernelIdeal.τ).loc Cert.QkKernelIdeal.main_arg4) = m ((c.tc : Thread Cert.QkKernelIdeal.nD Cert.QkKernelIdeal.τ).loc Cert.QkKernelIdeal.main_arg4)
          ∧ r.2.mem ((c.tc : Thread Cert.QkKernelIdeal.nD Cert.QkKernelIdeal.τ).loc Cert.QkKernelIdeal.main_arg5) = m ((c.tc : Thread Cert.QkKernelIdeal.nD Cert.QkKernelIdeal.τ).loc Cert.QkKernelIdeal.main_arg5))
      ∧ θ_run (Cert.QkReferenceIdeal.defs (F := Ideal)) (onTc (τ := Cert.QkReferenceIdeal.τ) (Cert.QkReferenceIdeal.main (F := Ideal))) ⟨m', fun _ => 0, g'⟩ (fun r => ∀ c : Dev Cert.QkReferenceIdeal.nD,
          r.2.mem ((c.tc : Thread Cert.QkReferenceIdeal.nD Cert.QkReferenceIdeal.τ).loc Cert.QkReferenceIdeal.main_v174) = v0 c
          ∧ r.2.mem ((c.tc : Thread Cert.QkReferenceIdeal.nD Cert.QkReferenceIdeal.τ).loc Cert.QkReferenceIdeal.main_v175) = v1 c
          ∧ r.2.mem ((c.tc : Thread Cert.QkReferenceIdeal.nD Cert.QkReferenceIdeal.τ).loc Cert.QkReferenceIdeal.main_v176) = v2 c
          ∧ r.2.mem ((c.tc : Thread Cert.QkReferenceIdeal.nD Cert.QkReferenceIdeal.τ).loc Cert.QkReferenceIdeal.main_arg0) = m' ((c.tc : Thread Cert.QkReferenceIdeal.nD Cert.QkReferenceIdeal.τ).loc Cert.QkReferenceIdeal.main_arg0)
          ∧ r.2.mem ((c.tc : Thread Cert.QkReferenceIdeal.nD Cert.QkReferenceIdeal.τ).loc Cert.QkReferenceIdeal.main_arg1) = m' ((c.tc : Thread Cert.QkReferenceIdeal.nD Cert.QkReferenceIdeal.τ).loc Cert.QkReferenceIdeal.main_arg1)
          ∧ r.2.mem ((c.tc : Thread Cert.QkReferenceIdeal.nD Cert.QkReferenceIdeal.τ).loc Cert.QkReferenceIdeal.main_arg2) = m' ((c.tc : Thread Cert.QkReferenceIdeal.nD Cert.QkReferenceIdeal.τ).loc Cert.QkReferenceIdeal.main_arg2)
          ∧ r.2.mem ((c.tc : Thread Cert.QkReferenceIdeal.nD Cert.QkReferenceIdeal.τ).loc Cert.QkReferenceIdeal.main_arg3) = m' ((c.tc : Thread Cert.QkReferenceIdeal.nD Cert.QkReferenceIdeal.τ).loc Cert.QkReferenceIdeal.main_arg3)
          ∧ r.2.mem ((c.tc : Thread Cert.QkReferenceIdeal.nD Cert.QkReferenceIdeal.τ).loc Cert.QkReferenceIdeal.main_arg4) = m' ((c.tc : Thread Cert.QkReferenceIdeal.nD Cert.QkReferenceIdeal.τ).loc Cert.QkReferenceIdeal.main_arg4)
          ∧ r.2.mem ((c.tc : Thread Cert.QkReferenceIdeal.nD Cert.QkReferenceIdeal.τ).loc Cert.QkReferenceIdeal.main_arg5) = m' ((c.tc : Thread Cert.QkReferenceIdeal.nD Cert.QkReferenceIdeal.τ).loc Cert.QkReferenceIdeal.main_arg5))

def preserves_FfnKernel_FfnKernelIdeal : Prop :=
  True

def algebraic_FfnKernelIdeal_FfnReferenceIdeal_pre_ffn_finite [hFfnKernelIdeal : Cert.FfnKernelIdeal.Facts] [hFfnReferenceIdeal : Cert.FfnReferenceIdeal.Facts] [hPre_ffn_finite : Cert.Pre_ffn_finite.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_ffn_finite m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)) →
    ∃ (v0 : (c : Dev Cert.FfnKernelIdeal.nD) → Buf (Elt Ideal) ((c.tc : Thread Cert.FfnKernelIdeal.nD Cert.FfnKernelIdeal.τ).loc Cert.FfnKernelIdeal.main_v47_0)) (v1 : (c : Dev Cert.FfnKernelIdeal.nD) → Buf (Elt Ideal) ((c.tc : Thread Cert.FfnKernelIdeal.nD Cert.FfnKernelIdeal.τ).loc Cert.FfnKernelIdeal.main_v47_1)) (v2 : (c : Dev Cert.FfnKernelIdeal.nD) → Buf (Elt Ideal) ((c.tc : Thread Cert.FfnKernelIdeal.nD Cert.FfnKernelIdeal.τ).loc Cert.FfnKernelIdeal.main_v47_2)) (v3 : (c : Dev Cert.FfnKernelIdeal.nD) → Buf (Elt Ideal) ((c.tc : Thread Cert.FfnKernelIdeal.nD Cert.FfnKernelIdeal.τ).loc Cert.FfnKernelIdeal.main_v47_3)) (v4 : (c : Dev Cert.FfnKernelIdeal.nD) → Buf (Elt Ideal) ((c.tc : Thread Cert.FfnKernelIdeal.nD Cert.FfnKernelIdeal.τ).loc Cert.FfnKernelIdeal.main_v47_4)) (v5 : (c : Dev Cert.FfnKernelIdeal.nD) → Buf (Elt Ideal) ((c.tc : Thread Cert.FfnKernelIdeal.nD Cert.FfnKernelIdeal.τ).loc Cert.FfnKernelIdeal.main_v47_5)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v47_0) = v0 c
          ∧ r.2.mem ((c.tc : Thread Cert.FfnKernelIdeal.nD Cert.FfnKernelIdeal.τ).loc Cert.FfnKernelIdeal.main_v47_1) = v1 c
          ∧ r.2.mem ((c.tc : Thread Cert.FfnKernelIdeal.nD Cert.FfnKernelIdeal.τ).loc Cert.FfnKernelIdeal.main_v47_2) = v2 c
          ∧ r.2.mem ((c.tc : Thread Cert.FfnKernelIdeal.nD Cert.FfnKernelIdeal.τ).loc Cert.FfnKernelIdeal.main_v47_3) = v3 c
          ∧ r.2.mem ((c.tc : Thread Cert.FfnKernelIdeal.nD Cert.FfnKernelIdeal.τ).loc Cert.FfnKernelIdeal.main_v47_4) = v4 c
          ∧ r.2.mem ((c.tc : Thread Cert.FfnKernelIdeal.nD Cert.FfnKernelIdeal.τ).loc Cert.FfnKernelIdeal.main_v47_5) = v5 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v52) = v0 c
          ∧ r.2.mem ((c.tc : Thread Cert.FfnReferenceIdeal.nD Cert.FfnReferenceIdeal.τ).loc Cert.FfnReferenceIdeal.main_v55) = v1 c
          ∧ r.2.mem ((c.tc : Thread Cert.FfnReferenceIdeal.nD Cert.FfnReferenceIdeal.τ).loc Cert.FfnReferenceIdeal.main_v58) = v2 c
          ∧ r.2.mem ((c.tc : Thread Cert.FfnReferenceIdeal.nD Cert.FfnReferenceIdeal.τ).loc Cert.FfnReferenceIdeal.main_v63) = v3 c
          ∧ r.2.mem ((c.tc : Thread Cert.FfnReferenceIdeal.nD Cert.FfnReferenceIdeal.τ).loc Cert.FfnReferenceIdeal.main_v35) = v4 c
          ∧ r.2.mem ((c.tc : Thread Cert.FfnReferenceIdeal.nD Cert.FfnReferenceIdeal.τ).loc Cert.FfnReferenceIdeal.main_v66) = v5 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_MixInFwdKernel_MixInFwdKernelIdeal : Prop :=
  True

def algebraic_MixInFwdKernelIdeal_MixInFwdReferenceIdeal [hMixInFwdKernelIdeal : Cert.MixInFwdKernelIdeal.Facts] [hMixInFwdReferenceIdeal : Cert.MixInFwdReferenceIdeal.Facts] : Prop :=
  ∀ (m : (ℓ : Loc Cert.MixInFwdKernelIdeal.nD Cert.MixInFwdKernelIdeal.τ Cert.MixInFwdKernelIdeal.sig) → Buf (Elt Ideal) ℓ) (g : Dev Cert.MixInFwdKernelIdeal.nD → PrngReg)
    (m' : (ℓ : Loc Cert.MixInFwdReferenceIdeal.nD Cert.MixInFwdReferenceIdeal.τ Cert.MixInFwdReferenceIdeal.sig) → Buf (Elt Ideal) ℓ) (g' : Dev Cert.MixInFwdReferenceIdeal.nD → PrngReg), Pre_MixInFwdKernelIdeal m →
    (∀ c : Dev Cert.MixInFwdKernelIdeal.nD,
      m' ((c.tc : Thread Cert.MixInFwdReferenceIdeal.nD Cert.MixInFwdReferenceIdeal.τ).loc Cert.MixInFwdReferenceIdeal.main_arg0) = m ((c.tc : Thread Cert.MixInFwdKernelIdeal.nD Cert.MixInFwdKernelIdeal.τ).loc Cert.MixInFwdKernelIdeal.main_arg0)
      ∧ m' ((c.tc : Thread Cert.MixInFwdReferenceIdeal.nD Cert.MixInFwdReferenceIdeal.τ).loc Cert.MixInFwdReferenceIdeal.main_arg1) = m ((c.tc : Thread Cert.MixInFwdKernelIdeal.nD Cert.MixInFwdKernelIdeal.τ).loc Cert.MixInFwdKernelIdeal.main_arg1)
      ∧ m' ((c.tc : Thread Cert.MixInFwdReferenceIdeal.nD Cert.MixInFwdReferenceIdeal.τ).loc Cert.MixInFwdReferenceIdeal.main_arg2) = m ((c.tc : Thread Cert.MixInFwdKernelIdeal.nD Cert.MixInFwdKernelIdeal.τ).loc Cert.MixInFwdKernelIdeal.main_arg2)) →
    ∃ (v0 : (c : Dev Cert.MixInFwdKernelIdeal.nD) → Buf (Elt Ideal) ((c.tc : Thread Cert.MixInFwdKernelIdeal.nD Cert.MixInFwdKernelIdeal.τ).loc Cert.MixInFwdKernelIdeal.main_v2_0)) (v1 : (c : Dev Cert.MixInFwdKernelIdeal.nD) → Buf (Elt Ideal) ((c.tc : Thread Cert.MixInFwdKernelIdeal.nD Cert.MixInFwdKernelIdeal.τ).loc Cert.MixInFwdKernelIdeal.main_v2_1)) (v2 : (c : Dev Cert.MixInFwdKernelIdeal.nD) → Buf (Elt Ideal) ((c.tc : Thread Cert.MixInFwdKernelIdeal.nD Cert.MixInFwdKernelIdeal.τ).loc Cert.MixInFwdKernelIdeal.main_v2_2)) (v3 : (c : Dev Cert.MixInFwdKernelIdeal.nD) → Buf (Elt Ideal) ((c.tc : Thread Cert.MixInFwdKernelIdeal.nD Cert.MixInFwdKernelIdeal.τ).loc Cert.MixInFwdKernelIdeal.main_v2_3)),
      θ_run (Cert.MixInFwdKernelIdeal.defs (F := Ideal)) (onTc (τ := Cert.MixInFwdKernelIdeal.τ) (Cert.MixInFwdKernelIdeal.main (F := Ideal))) ⟨m, fun _ => 0, g⟩ (fun r => ∀ c : Dev Cert.MixInFwdKernelIdeal.nD,
          r.2.mem ((c.tc : Thread Cert.MixInFwdKernelIdeal.nD Cert.MixInFwdKernelIdeal.τ).loc Cert.MixInFwdKernelIdeal.main_v2_0) = v0 c
          ∧ r.2.mem ((c.tc : Thread Cert.MixInFwdKernelIdeal.nD Cert.MixInFwdKernelIdeal.τ).loc Cert.MixInFwdKernelIdeal.main_v2_1) = v1 c
          ∧ r.2.mem ((c.tc : Thread Cert.MixInFwdKernelIdeal.nD Cert.MixInFwdKernelIdeal.τ).loc Cert.MixInFwdKernelIdeal.main_v2_2) = v2 c
          ∧ r.2.mem ((c.tc : Thread Cert.MixInFwdKernelIdeal.nD Cert.MixInFwdKernelIdeal.τ).loc Cert.MixInFwdKernelIdeal.main_v2_3) = v3 c
          ∧ r.2.mem ((c.tc : Thread Cert.MixInFwdKernelIdeal.nD Cert.MixInFwdKernelIdeal.τ).loc Cert.MixInFwdKernelIdeal.main_arg0) = m ((c.tc : Thread Cert.MixInFwdKernelIdeal.nD Cert.MixInFwdKernelIdeal.τ).loc Cert.MixInFwdKernelIdeal.main_arg0)
          ∧ r.2.mem ((c.tc : Thread Cert.MixInFwdKernelIdeal.nD Cert.MixInFwdKernelIdeal.τ).loc Cert.MixInFwdKernelIdeal.main_arg1) = m ((c.tc : Thread Cert.MixInFwdKernelIdeal.nD Cert.MixInFwdKernelIdeal.τ).loc Cert.MixInFwdKernelIdeal.main_arg1)
          ∧ r.2.mem ((c.tc : Thread Cert.MixInFwdKernelIdeal.nD Cert.MixInFwdKernelIdeal.τ).loc Cert.MixInFwdKernelIdeal.main_arg2) = m ((c.tc : Thread Cert.MixInFwdKernelIdeal.nD Cert.MixInFwdKernelIdeal.τ).loc Cert.MixInFwdKernelIdeal.main_arg2))
      ∧ θ_run (Cert.MixInFwdReferenceIdeal.defs (F := Ideal)) (onTc (τ := Cert.MixInFwdReferenceIdeal.τ) (Cert.MixInFwdReferenceIdeal.main (F := Ideal))) ⟨m', fun _ => 0, g'⟩ (fun r => ∀ c : Dev Cert.MixInFwdReferenceIdeal.nD,
          r.2.mem ((c.tc : Thread Cert.MixInFwdReferenceIdeal.nD Cert.MixInFwdReferenceIdeal.τ).loc Cert.MixInFwdReferenceIdeal.main_v13) = v0 c
          ∧ r.2.mem ((c.tc : Thread Cert.MixInFwdReferenceIdeal.nD Cert.MixInFwdReferenceIdeal.τ).loc Cert.MixInFwdReferenceIdeal.main_v14) = v1 c
          ∧ r.2.mem ((c.tc : Thread Cert.MixInFwdReferenceIdeal.nD Cert.MixInFwdReferenceIdeal.τ).loc Cert.MixInFwdReferenceIdeal.main_v16) = v2 c
          ∧ r.2.mem ((c.tc : Thread Cert.MixInFwdReferenceIdeal.nD Cert.MixInFwdReferenceIdeal.τ).loc Cert.MixInFwdReferenceIdeal.main_v17) = v3 c
          ∧ r.2.mem ((c.tc : Thread Cert.MixInFwdReferenceIdeal.nD Cert.MixInFwdReferenceIdeal.τ).loc Cert.MixInFwdReferenceIdeal.main_arg0) = m' ((c.tc : Thread Cert.MixInFwdReferenceIdeal.nD Cert.MixInFwdReferenceIdeal.τ).loc Cert.MixInFwdReferenceIdeal.main_arg0)
          ∧ r.2.mem ((c.tc : Thread Cert.MixInFwdReferenceIdeal.nD Cert.MixInFwdReferenceIdeal.τ).loc Cert.MixInFwdReferenceIdeal.main_arg1) = m' ((c.tc : Thread Cert.MixInFwdReferenceIdeal.nD Cert.MixInFwdReferenceIdeal.τ).loc Cert.MixInFwdReferenceIdeal.main_arg1)
          ∧ r.2.mem ((c.tc : Thread Cert.MixInFwdReferenceIdeal.nD Cert.MixInFwdReferenceIdeal.τ).loc Cert.MixInFwdReferenceIdeal.main_arg2) = m' ((c.tc : Thread Cert.MixInFwdReferenceIdeal.nD Cert.MixInFwdReferenceIdeal.τ).loc Cert.MixInFwdReferenceIdeal.main_arg2))

def preserves_MixOutFwdKernel_MixOutFwdKernelIdeal : Prop :=
  True

def algebraic_MixOutFwdKernelIdeal_MixOutFwdReferenceIdeal [hMixOutFwdKernelIdeal : Cert.MixOutFwdKernelIdeal.Facts] [hMixOutFwdReferenceIdeal : Cert.MixOutFwdReferenceIdeal.Facts] : Prop :=
  ∀ (m : (ℓ : Loc Cert.MixOutFwdKernelIdeal.nD Cert.MixOutFwdKernelIdeal.τ Cert.MixOutFwdKernelIdeal.sig) → Buf (Elt Ideal) ℓ) (g : Dev Cert.MixOutFwdKernelIdeal.nD → PrngReg)
    (m' : (ℓ : Loc Cert.MixOutFwdReferenceIdeal.nD Cert.MixOutFwdReferenceIdeal.τ Cert.MixOutFwdReferenceIdeal.sig) → Buf (Elt Ideal) ℓ) (g' : Dev Cert.MixOutFwdReferenceIdeal.nD → PrngReg), Pre_MixOutFwdKernelIdeal m →
    (∀ c : Dev Cert.MixOutFwdKernelIdeal.nD,
      m' ((c.tc : Thread Cert.MixOutFwdReferenceIdeal.nD Cert.MixOutFwdReferenceIdeal.τ).loc Cert.MixOutFwdReferenceIdeal.main_arg0) = m ((c.tc : Thread Cert.MixOutFwdKernelIdeal.nD Cert.MixOutFwdKernelIdeal.τ).loc Cert.MixOutFwdKernelIdeal.main_arg0)
      ∧ m' ((c.tc : Thread Cert.MixOutFwdReferenceIdeal.nD Cert.MixOutFwdReferenceIdeal.τ).loc Cert.MixOutFwdReferenceIdeal.main_arg1) = m ((c.tc : Thread Cert.MixOutFwdKernelIdeal.nD Cert.MixOutFwdKernelIdeal.τ).loc Cert.MixOutFwdKernelIdeal.main_arg1)
      ∧ m' ((c.tc : Thread Cert.MixOutFwdReferenceIdeal.nD Cert.MixOutFwdReferenceIdeal.τ).loc Cert.MixOutFwdReferenceIdeal.main_arg2) = m ((c.tc : Thread Cert.MixOutFwdKernelIdeal.nD Cert.MixOutFwdKernelIdeal.τ).loc Cert.MixOutFwdKernelIdeal.main_arg2)
      ∧ m' ((c.tc : Thread Cert.MixOutFwdReferenceIdeal.nD Cert.MixOutFwdReferenceIdeal.τ).loc Cert.MixOutFwdReferenceIdeal.main_arg3) = m ((c.tc : Thread Cert.MixOutFwdKernelIdeal.nD Cert.MixOutFwdKernelIdeal.τ).loc Cert.MixOutFwdKernelIdeal.main_arg3)
      ∧ m' ((c.tc : Thread Cert.MixOutFwdReferenceIdeal.nD Cert.MixOutFwdReferenceIdeal.τ).loc Cert.MixOutFwdReferenceIdeal.main_arg4) = m ((c.tc : Thread Cert.MixOutFwdKernelIdeal.nD Cert.MixOutFwdKernelIdeal.τ).loc Cert.MixOutFwdKernelIdeal.main_arg4)
      ∧ m' ((c.tc : Thread Cert.MixOutFwdReferenceIdeal.nD Cert.MixOutFwdReferenceIdeal.τ).loc Cert.MixOutFwdReferenceIdeal.main_arg5) = m ((c.tc : Thread Cert.MixOutFwdKernelIdeal.nD Cert.MixOutFwdKernelIdeal.τ).loc Cert.MixOutFwdKernelIdeal.main_arg5)
      ∧ m' ((c.tc : Thread Cert.MixOutFwdReferenceIdeal.nD Cert.MixOutFwdReferenceIdeal.τ).loc Cert.MixOutFwdReferenceIdeal.main_arg6) = m ((c.tc : Thread Cert.MixOutFwdKernelIdeal.nD Cert.MixOutFwdKernelIdeal.τ).loc Cert.MixOutFwdKernelIdeal.main_arg6)
      ∧ m' ((c.tc : Thread Cert.MixOutFwdReferenceIdeal.nD Cert.MixOutFwdReferenceIdeal.τ).loc Cert.MixOutFwdReferenceIdeal.main_arg7) = m ((c.tc : Thread Cert.MixOutFwdKernelIdeal.nD Cert.MixOutFwdKernelIdeal.τ).loc Cert.MixOutFwdKernelIdeal.main_arg7)) →
    ∃ (v0 : (c : Dev Cert.MixOutFwdKernelIdeal.nD) → Buf (Elt Ideal) ((c.tc : Thread Cert.MixOutFwdKernelIdeal.nD Cert.MixOutFwdKernelIdeal.τ).loc Cert.MixOutFwdKernelIdeal.main_v10)),
      θ_run (Cert.MixOutFwdKernelIdeal.defs (F := Ideal)) (onTc (τ := Cert.MixOutFwdKernelIdeal.τ) (Cert.MixOutFwdKernelIdeal.main (F := Ideal))) ⟨m, fun _ => 0, g⟩ (fun r => ∀ c : Dev Cert.MixOutFwdKernelIdeal.nD,
          r.2.mem ((c.tc : Thread Cert.MixOutFwdKernelIdeal.nD Cert.MixOutFwdKernelIdeal.τ).loc Cert.MixOutFwdKernelIdeal.main_v10) = v0 c
          ∧ r.2.mem ((c.tc : Thread Cert.MixOutFwdKernelIdeal.nD Cert.MixOutFwdKernelIdeal.τ).loc Cert.MixOutFwdKernelIdeal.main_arg0) = m ((c.tc : Thread Cert.MixOutFwdKernelIdeal.nD Cert.MixOutFwdKernelIdeal.τ).loc Cert.MixOutFwdKernelIdeal.main_arg0)
          ∧ r.2.mem ((c.tc : Thread Cert.MixOutFwdKernelIdeal.nD Cert.MixOutFwdKernelIdeal.τ).loc Cert.MixOutFwdKernelIdeal.main_arg1) = m ((c.tc : Thread Cert.MixOutFwdKernelIdeal.nD Cert.MixOutFwdKernelIdeal.τ).loc Cert.MixOutFwdKernelIdeal.main_arg1)
          ∧ r.2.mem ((c.tc : Thread Cert.MixOutFwdKernelIdeal.nD Cert.MixOutFwdKernelIdeal.τ).loc Cert.MixOutFwdKernelIdeal.main_arg2) = m ((c.tc : Thread Cert.MixOutFwdKernelIdeal.nD Cert.MixOutFwdKernelIdeal.τ).loc Cert.MixOutFwdKernelIdeal.main_arg2)
          ∧ r.2.mem ((c.tc : Thread Cert.MixOutFwdKernelIdeal.nD Cert.MixOutFwdKernelIdeal.τ).loc Cert.MixOutFwdKernelIdeal.main_arg3) = m ((c.tc : Thread Cert.MixOutFwdKernelIdeal.nD Cert.MixOutFwdKernelIdeal.τ).loc Cert.MixOutFwdKernelIdeal.main_arg3)
          ∧ r.2.mem ((c.tc : Thread Cert.MixOutFwdKernelIdeal.nD Cert.MixOutFwdKernelIdeal.τ).loc Cert.MixOutFwdKernelIdeal.main_arg4) = m ((c.tc : Thread Cert.MixOutFwdKernelIdeal.nD Cert.MixOutFwdKernelIdeal.τ).loc Cert.MixOutFwdKernelIdeal.main_arg4)
          ∧ r.2.mem ((c.tc : Thread Cert.MixOutFwdKernelIdeal.nD Cert.MixOutFwdKernelIdeal.τ).loc Cert.MixOutFwdKernelIdeal.main_arg5) = m ((c.tc : Thread Cert.MixOutFwdKernelIdeal.nD Cert.MixOutFwdKernelIdeal.τ).loc Cert.MixOutFwdKernelIdeal.main_arg5)
          ∧ r.2.mem ((c.tc : Thread Cert.MixOutFwdKernelIdeal.nD Cert.MixOutFwdKernelIdeal.τ).loc Cert.MixOutFwdKernelIdeal.main_arg6) = m ((c.tc : Thread Cert.MixOutFwdKernelIdeal.nD Cert.MixOutFwdKernelIdeal.τ).loc Cert.MixOutFwdKernelIdeal.main_arg6)
          ∧ r.2.mem ((c.tc : Thread Cert.MixOutFwdKernelIdeal.nD Cert.MixOutFwdKernelIdeal.τ).loc Cert.MixOutFwdKernelIdeal.main_arg7) = m ((c.tc : Thread Cert.MixOutFwdKernelIdeal.nD Cert.MixOutFwdKernelIdeal.τ).loc Cert.MixOutFwdKernelIdeal.main_arg7))
      ∧ θ_run (Cert.MixOutFwdReferenceIdeal.defs (F := Ideal)) (onTc (τ := Cert.MixOutFwdReferenceIdeal.τ) (Cert.MixOutFwdReferenceIdeal.main (F := Ideal))) ⟨m', fun _ => 0, g'⟩ (fun r => ∀ c : Dev Cert.MixOutFwdReferenceIdeal.nD,
          r.2.mem ((c.tc : Thread Cert.MixOutFwdReferenceIdeal.nD Cert.MixOutFwdReferenceIdeal.τ).loc Cert.MixOutFwdReferenceIdeal.main_v18) = v0 c
          ∧ r.2.mem ((c.tc : Thread Cert.MixOutFwdReferenceIdeal.nD Cert.MixOutFwdReferenceIdeal.τ).loc Cert.MixOutFwdReferenceIdeal.main_arg0) = m' ((c.tc : Thread Cert.MixOutFwdReferenceIdeal.nD Cert.MixOutFwdReferenceIdeal.τ).loc Cert.MixOutFwdReferenceIdeal.main_arg0)
          ∧ r.2.mem ((c.tc : Thread Cert.MixOutFwdReferenceIdeal.nD Cert.MixOutFwdReferenceIdeal.τ).loc Cert.MixOutFwdReferenceIdeal.main_arg1) = m' ((c.tc : Thread Cert.MixOutFwdReferenceIdeal.nD Cert.MixOutFwdReferenceIdeal.τ).loc Cert.MixOutFwdReferenceIdeal.main_arg1)
          ∧ r.2.mem ((c.tc : Thread Cert.MixOutFwdReferenceIdeal.nD Cert.MixOutFwdReferenceIdeal.τ).loc Cert.MixOutFwdReferenceIdeal.main_arg2) = m' ((c.tc : Thread Cert.MixOutFwdReferenceIdeal.nD Cert.MixOutFwdReferenceIdeal.τ).loc Cert.MixOutFwdReferenceIdeal.main_arg2)
          ∧ r.2.mem ((c.tc : Thread Cert.MixOutFwdReferenceIdeal.nD Cert.MixOutFwdReferenceIdeal.τ).loc Cert.MixOutFwdReferenceIdeal.main_arg3) = m' ((c.tc : Thread Cert.MixOutFwdReferenceIdeal.nD Cert.MixOutFwdReferenceIdeal.τ).loc Cert.MixOutFwdReferenceIdeal.main_arg3)
          ∧ r.2.mem ((c.tc : Thread Cert.MixOutFwdReferenceIdeal.nD Cert.MixOutFwdReferenceIdeal.τ).loc Cert.MixOutFwdReferenceIdeal.main_arg4) = m' ((c.tc : Thread Cert.MixOutFwdReferenceIdeal.nD Cert.MixOutFwdReferenceIdeal.τ).loc Cert.MixOutFwdReferenceIdeal.main_arg4)
          ∧ r.2.mem ((c.tc : Thread Cert.MixOutFwdReferenceIdeal.nD Cert.MixOutFwdReferenceIdeal.τ).loc Cert.MixOutFwdReferenceIdeal.main_arg5) = m' ((c.tc : Thread Cert.MixOutFwdReferenceIdeal.nD Cert.MixOutFwdReferenceIdeal.τ).loc Cert.MixOutFwdReferenceIdeal.main_arg5)
          ∧ r.2.mem ((c.tc : Thread Cert.MixOutFwdReferenceIdeal.nD Cert.MixOutFwdReferenceIdeal.τ).loc Cert.MixOutFwdReferenceIdeal.main_arg6) = m' ((c.tc : Thread Cert.MixOutFwdReferenceIdeal.nD Cert.MixOutFwdReferenceIdeal.τ).loc Cert.MixOutFwdReferenceIdeal.main_arg6)
          ∧ r.2.mem ((c.tc : Thread Cert.MixOutFwdReferenceIdeal.nD Cert.MixOutFwdReferenceIdeal.τ).loc Cert.MixOutFwdReferenceIdeal.main_arg7) = m' ((c.tc : Thread Cert.MixOutFwdReferenceIdeal.nD Cert.MixOutFwdReferenceIdeal.τ).loc Cert.MixOutFwdReferenceIdeal.main_arg7))

def preserves_QkFwdKernel_QkFwdKernelIdeal : Prop :=
  True

def algebraic_QkFwdKernelIdeal_QkFwdReferenceIdeal_pre_qk_fwd_finite [hQkFwdKernelIdeal : Cert.QkFwdKernelIdeal.Facts] [hQkFwdReferenceIdeal : Cert.QkFwdReferenceIdeal.Facts] [hPre_qk_fwd_finite : Cert.Pre_qk_fwd_finite.Facts] : Prop :=
  ∀ (m : (ℓ : Loc Cert.QkFwdKernelIdeal.nD Cert.QkFwdKernelIdeal.τ Cert.QkFwdKernelIdeal.sig) → Buf (Elt Ideal) ℓ) (g : Dev Cert.QkFwdKernelIdeal.nD → PrngReg)
    (m' : (ℓ : Loc Cert.QkFwdReferenceIdeal.nD Cert.QkFwdReferenceIdeal.τ Cert.QkFwdReferenceIdeal.sig) → Buf (Elt Ideal) ℓ) (g' : Dev Cert.QkFwdReferenceIdeal.nD → PrngReg), Pre_QkFwdKernelIdeal_qk_fwd_finite m →
    (∀ c : Dev Cert.QkFwdKernelIdeal.nD,
      m' ((c.tc : Thread Cert.QkFwdReferenceIdeal.nD Cert.QkFwdReferenceIdeal.τ).loc Cert.QkFwdReferenceIdeal.main_arg0) = m ((c.tc : Thread Cert.QkFwdKernelIdeal.nD Cert.QkFwdKernelIdeal.τ).loc Cert.QkFwdKernelIdeal.main_arg0)
      ∧ m' ((c.tc : Thread Cert.QkFwdReferenceIdeal.nD Cert.QkFwdReferenceIdeal.τ).loc Cert.QkFwdReferenceIdeal.main_arg1) = m ((c.tc : Thread Cert.QkFwdKernelIdeal.nD Cert.QkFwdKernelIdeal.τ).loc Cert.QkFwdKernelIdeal.main_arg1)
      ∧ m' ((c.tc : Thread Cert.QkFwdReferenceIdeal.nD Cert.QkFwdReferenceIdeal.τ).loc Cert.QkFwdReferenceIdeal.main_arg2) = m ((c.tc : Thread Cert.QkFwdKernelIdeal.nD Cert.QkFwdKernelIdeal.τ).loc Cert.QkFwdKernelIdeal.main_arg2)) →
    ∃ (v0 : (c : Dev Cert.QkFwdKernelIdeal.nD) → Buf (Elt Ideal) ((c.tc : Thread Cert.QkFwdKernelIdeal.nD Cert.QkFwdKernelIdeal.τ).loc Cert.QkFwdKernelIdeal.main_v90_0)) (v1 : (c : Dev Cert.QkFwdKernelIdeal.nD) → Buf (Elt Ideal) ((c.tc : Thread Cert.QkFwdKernelIdeal.nD Cert.QkFwdKernelIdeal.τ).loc Cert.QkFwdKernelIdeal.main_v90_1)) (v2 : (c : Dev Cert.QkFwdKernelIdeal.nD) → Buf (Elt Ideal) ((c.tc : Thread Cert.QkFwdKernelIdeal.nD Cert.QkFwdKernelIdeal.τ).loc Cert.QkFwdKernelIdeal.main_v90_2)) (v3 : (c : Dev Cert.QkFwdKernelIdeal.nD) → Buf (Elt Ideal) ((c.tc : Thread Cert.QkFwdKernelIdeal.nD Cert.QkFwdKernelIdeal.τ).loc Cert.QkFwdKernelIdeal.main_v90_3)),
      θ_run (Cert.QkFwdKernelIdeal.defs (F := Ideal)) (onTc (τ := Cert.QkFwdKernelIdeal.τ) (Cert.QkFwdKernelIdeal.main (F := Ideal))) ⟨m, fun _ => 0, g⟩ (fun r => ∀ c : Dev Cert.QkFwdKernelIdeal.nD,
          r.2.mem ((c.tc : Thread Cert.QkFwdKernelIdeal.nD Cert.QkFwdKernelIdeal.τ).loc Cert.QkFwdKernelIdeal.main_v90_0) = v0 c
          ∧ r.2.mem ((c.tc : Thread Cert.QkFwdKernelIdeal.nD Cert.QkFwdKernelIdeal.τ).loc Cert.QkFwdKernelIdeal.main_v90_1) = v1 c
          ∧ r.2.mem ((c.tc : Thread Cert.QkFwdKernelIdeal.nD Cert.QkFwdKernelIdeal.τ).loc Cert.QkFwdKernelIdeal.main_v90_2) = v2 c
          ∧ r.2.mem ((c.tc : Thread Cert.QkFwdKernelIdeal.nD Cert.QkFwdKernelIdeal.τ).loc Cert.QkFwdKernelIdeal.main_v90_3) = v3 c
          ∧ r.2.mem ((c.tc : Thread Cert.QkFwdKernelIdeal.nD Cert.QkFwdKernelIdeal.τ).loc Cert.QkFwdKernelIdeal.main_arg0) = m ((c.tc : Thread Cert.QkFwdKernelIdeal.nD Cert.QkFwdKernelIdeal.τ).loc Cert.QkFwdKernelIdeal.main_arg0)
          ∧ r.2.mem ((c.tc : Thread Cert.QkFwdKernelIdeal.nD Cert.QkFwdKernelIdeal.τ).loc Cert.QkFwdKernelIdeal.main_arg1) = m ((c.tc : Thread Cert.QkFwdKernelIdeal.nD Cert.QkFwdKernelIdeal.τ).loc Cert.QkFwdKernelIdeal.main_arg1)
          ∧ r.2.mem ((c.tc : Thread Cert.QkFwdKernelIdeal.nD Cert.QkFwdKernelIdeal.τ).loc Cert.QkFwdKernelIdeal.main_arg2) = m ((c.tc : Thread Cert.QkFwdKernelIdeal.nD Cert.QkFwdKernelIdeal.τ).loc Cert.QkFwdKernelIdeal.main_arg2))
      ∧ θ_run (Cert.QkFwdReferenceIdeal.defs (F := Ideal)) (onTc (τ := Cert.QkFwdReferenceIdeal.τ) (Cert.QkFwdReferenceIdeal.main (F := Ideal))) ⟨m', fun _ => 0, g'⟩ (fun r => ∀ c : Dev Cert.QkFwdReferenceIdeal.nD,
          r.2.mem ((c.tc : Thread Cert.QkFwdReferenceIdeal.nD Cert.QkFwdReferenceIdeal.τ).loc Cert.QkFwdReferenceIdeal.main_v102) = v0 c
          ∧ r.2.mem ((c.tc : Thread Cert.QkFwdReferenceIdeal.nD Cert.QkFwdReferenceIdeal.τ).loc Cert.QkFwdReferenceIdeal.main_v103) = v1 c
          ∧ r.2.mem ((c.tc : Thread Cert.QkFwdReferenceIdeal.nD Cert.QkFwdReferenceIdeal.τ).loc Cert.QkFwdReferenceIdeal.main_v104) = v2 c
          ∧ r.2.mem ((c.tc : Thread Cert.QkFwdReferenceIdeal.nD Cert.QkFwdReferenceIdeal.τ).loc Cert.QkFwdReferenceIdeal.main_v105) = v3 c
          ∧ r.2.mem ((c.tc : Thread Cert.QkFwdReferenceIdeal.nD Cert.QkFwdReferenceIdeal.τ).loc Cert.QkFwdReferenceIdeal.main_arg0) = m' ((c.tc : Thread Cert.QkFwdReferenceIdeal.nD Cert.QkFwdReferenceIdeal.τ).loc Cert.QkFwdReferenceIdeal.main_arg0)
          ∧ r.2.mem ((c.tc : Thread Cert.QkFwdReferenceIdeal.nD Cert.QkFwdReferenceIdeal.τ).loc Cert.QkFwdReferenceIdeal.main_arg1) = m' ((c.tc : Thread Cert.QkFwdReferenceIdeal.nD Cert.QkFwdReferenceIdeal.τ).loc Cert.QkFwdReferenceIdeal.main_arg1)
          ∧ r.2.mem ((c.tc : Thread Cert.QkFwdReferenceIdeal.nD Cert.QkFwdReferenceIdeal.τ).loc Cert.QkFwdReferenceIdeal.main_arg2) = m' ((c.tc : Thread Cert.QkFwdReferenceIdeal.nD Cert.QkFwdReferenceIdeal.τ).loc Cert.QkFwdReferenceIdeal.main_arg2))

def Claim : Prop :=
  ∃ (hLossKernel : Cert.LossKernel.Facts) (hLossKernelIdeal : Cert.LossKernelIdeal.Facts) (hLossReferenceIdeal : Cert.LossReferenceIdeal.Facts) (hAttnKernel : Cert.AttnKernel.Facts) (hAttnKernelIdeal : Cert.AttnKernelIdeal.Facts) (hAttnReferenceIdeal : Cert.AttnReferenceIdeal.Facts) (hMixInKernel : Cert.MixInKernel.Facts) (hMixInKernelIdeal : Cert.MixInKernelIdeal.Facts) (hMixInReferenceIdeal : Cert.MixInReferenceIdeal.Facts) (hMixOutKernel : Cert.MixOutKernel.Facts) (hMixOutKernelIdeal : Cert.MixOutKernelIdeal.Facts) (hMixOutReferenceIdeal : Cert.MixOutReferenceIdeal.Facts) (hQkKernel : Cert.QkKernel.Facts) (hQkKernelIdeal : Cert.QkKernelIdeal.Facts) (hQkReferenceIdeal : Cert.QkReferenceIdeal.Facts) (hFfnKernel : Cert.FfnKernel.Facts) (hFfnKernelIdeal : Cert.FfnKernelIdeal.Facts) (hFfnReferenceIdeal : Cert.FfnReferenceIdeal.Facts) (hMixInFwdKernel : Cert.MixInFwdKernel.Facts) (hMixInFwdKernelIdeal : Cert.MixInFwdKernelIdeal.Facts) (hMixInFwdReferenceIdeal : Cert.MixInFwdReferenceIdeal.Facts) (hMixOutFwdKernel : Cert.MixOutFwdKernel.Facts) (hMixOutFwdKernelIdeal : Cert.MixOutFwdKernelIdeal.Facts) (hMixOutFwdReferenceIdeal : Cert.MixOutFwdReferenceIdeal.Facts) (hQkFwdKernel : Cert.QkFwdKernel.Facts) (hQkFwdKernelIdeal : Cert.QkFwdKernelIdeal.Facts) (hQkFwdReferenceIdeal : Cert.QkFwdReferenceIdeal.Facts) (hPre_loss_finite : Cert.Pre_loss_finite.Facts) (hPre_attn_finite : Cert.Pre_attn_finite.Facts) (hPre_mix_in_finite : Cert.Pre_mix_in_finite.Facts) (hPre_mix_out_finite : Cert.Pre_mix_out_finite.Facts) (hPre_qk_finite : Cert.Pre_qk_finite.Facts) (hPre_ffn_finite : Cert.Pre_ffn_finite.Facts) (hPre_qk_fwd_finite : Cert.Pre_qk_fwd_finite.Facts),
    quiescent_LossKernel (hLossKernel := hLossKernel)
    ∧ quiescent_LossKernelIdeal (hLossKernelIdeal := hLossKernelIdeal)
    ∧ quiescent_LossKernelIdeal_pre_loss_finite (hLossKernelIdeal := hLossKernelIdeal) (hPre_loss_finite := hPre_loss_finite)
    ∧ quiescent_LossReferenceIdeal (hLossReferenceIdeal := hLossReferenceIdeal)
    ∧ quiescent_LossReferenceIdeal_pre_loss_finite (hLossReferenceIdeal := hLossReferenceIdeal) (hPre_loss_finite := hPre_loss_finite)
    ∧ quiescent_AttnKernel (hAttnKernel := hAttnKernel)
    ∧ quiescent_AttnKernelIdeal (hAttnKernelIdeal := hAttnKernelIdeal)
    ∧ quiescent_AttnKernelIdeal_pre_attn_finite (hAttnKernelIdeal := hAttnKernelIdeal) (hPre_attn_finite := hPre_attn_finite)
    ∧ quiescent_AttnReferenceIdeal (hAttnReferenceIdeal := hAttnReferenceIdeal)
    ∧ quiescent_AttnReferenceIdeal_pre_attn_finite (hAttnReferenceIdeal := hAttnReferenceIdeal) (hPre_attn_finite := hPre_attn_finite)
    ∧ quiescent_MixInKernel (hMixInKernel := hMixInKernel)
    ∧ quiescent_MixInKernelIdeal (hMixInKernelIdeal := hMixInKernelIdeal)
    ∧ quiescent_MixInKernelIdeal_pre_mix_in_finite (hMixInKernelIdeal := hMixInKernelIdeal) (hPre_mix_in_finite := hPre_mix_in_finite)
    ∧ quiescent_MixInReferenceIdeal (hMixInReferenceIdeal := hMixInReferenceIdeal)
    ∧ quiescent_MixInReferenceIdeal_pre_mix_in_finite (hMixInReferenceIdeal := hMixInReferenceIdeal) (hPre_mix_in_finite := hPre_mix_in_finite)
    ∧ quiescent_MixOutKernel (hMixOutKernel := hMixOutKernel)
    ∧ quiescent_MixOutKernelIdeal (hMixOutKernelIdeal := hMixOutKernelIdeal)
    ∧ quiescent_MixOutKernelIdeal_pre_mix_out_finite (hMixOutKernelIdeal := hMixOutKernelIdeal) (hPre_mix_out_finite := hPre_mix_out_finite)
    ∧ quiescent_MixOutReferenceIdeal (hMixOutReferenceIdeal := hMixOutReferenceIdeal)
    ∧ quiescent_MixOutReferenceIdeal_pre_mix_out_finite (hMixOutReferenceIdeal := hMixOutReferenceIdeal) (hPre_mix_out_finite := hPre_mix_out_finite)
    ∧ quiescent_QkKernel (hQkKernel := hQkKernel)
    ∧ quiescent_QkKernelIdeal (hQkKernelIdeal := hQkKernelIdeal)
    ∧ quiescent_QkKernelIdeal_pre_qk_finite (hQkKernelIdeal := hQkKernelIdeal) (hPre_qk_finite := hPre_qk_finite)
    ∧ quiescent_QkReferenceIdeal (hQkReferenceIdeal := hQkReferenceIdeal)
    ∧ quiescent_QkReferenceIdeal_pre_qk_finite (hQkReferenceIdeal := hQkReferenceIdeal) (hPre_qk_finite := hPre_qk_finite)
    ∧ quiescent_FfnKernel (hFfnKernel := hFfnKernel)
    ∧ quiescent_FfnKernelIdeal (hFfnKernelIdeal := hFfnKernelIdeal)
    ∧ quiescent_FfnKernelIdeal_pre_ffn_finite (hFfnKernelIdeal := hFfnKernelIdeal) (hPre_ffn_finite := hPre_ffn_finite)
    ∧ quiescent_FfnReferenceIdeal (hFfnReferenceIdeal := hFfnReferenceIdeal)
    ∧ quiescent_FfnReferenceIdeal_pre_ffn_finite (hFfnReferenceIdeal := hFfnReferenceIdeal) (hPre_ffn_finite := hPre_ffn_finite)
    ∧ quiescent_MixInFwdKernel (hMixInFwdKernel := hMixInFwdKernel)
    ∧ quiescent_MixInFwdKernelIdeal (hMixInFwdKernelIdeal := hMixInFwdKernelIdeal)
    ∧ quiescent_MixInFwdReferenceIdeal (hMixInFwdReferenceIdeal := hMixInFwdReferenceIdeal)
    ∧ quiescent_MixOutFwdKernel (hMixOutFwdKernel := hMixOutFwdKernel)
    ∧ quiescent_MixOutFwdKernelIdeal (hMixOutFwdKernelIdeal := hMixOutFwdKernelIdeal)
    ∧ quiescent_MixOutFwdReferenceIdeal (hMixOutFwdReferenceIdeal := hMixOutFwdReferenceIdeal)
    ∧ quiescent_QkFwdKernel (hQkFwdKernel := hQkFwdKernel)
    ∧ quiescent_QkFwdKernelIdeal (hQkFwdKernelIdeal := hQkFwdKernelIdeal)
    ∧ quiescent_QkFwdKernelIdeal_pre_qk_fwd_finite (hQkFwdKernelIdeal := hQkFwdKernelIdeal) (hPre_qk_fwd_finite := hPre_qk_fwd_finite)
    ∧ quiescent_QkFwdReferenceIdeal (hQkFwdReferenceIdeal := hQkFwdReferenceIdeal)
    ∧ quiescent_QkFwdReferenceIdeal_pre_qk_fwd_finite (hQkFwdReferenceIdeal := hQkFwdReferenceIdeal) (hPre_qk_fwd_finite := hPre_qk_fwd_finite)
    ∧ preserves_LossKernel_LossKernelIdeal
    ∧ algebraic_LossKernelIdeal_LossReferenceIdeal_pre_loss_finite (hLossKernelIdeal := hLossKernelIdeal) (hLossReferenceIdeal := hLossReferenceIdeal) (hPre_loss_finite := hPre_loss_finite)
    ∧ preserves_AttnKernel_AttnKernelIdeal
    ∧ algebraic_AttnKernelIdeal_AttnReferenceIdeal_pre_attn_finite (hAttnKernelIdeal := hAttnKernelIdeal) (hAttnReferenceIdeal := hAttnReferenceIdeal) (hPre_attn_finite := hPre_attn_finite)
    ∧ preserves_MixInKernel_MixInKernelIdeal
    ∧ algebraic_MixInKernelIdeal_MixInReferenceIdeal_pre_mix_in_finite (hMixInKernelIdeal := hMixInKernelIdeal) (hMixInReferenceIdeal := hMixInReferenceIdeal) (hPre_mix_in_finite := hPre_mix_in_finite)
    ∧ preserves_MixOutKernel_MixOutKernelIdeal
    ∧ algebraic_MixOutKernelIdeal_MixOutReferenceIdeal_pre_mix_out_finite (hMixOutKernelIdeal := hMixOutKernelIdeal) (hMixOutReferenceIdeal := hMixOutReferenceIdeal) (hPre_mix_out_finite := hPre_mix_out_finite)
    ∧ preserves_QkKernel_QkKernelIdeal
    ∧ algebraic_QkKernelIdeal_QkReferenceIdeal_pre_qk_finite (hQkKernelIdeal := hQkKernelIdeal) (hQkReferenceIdeal := hQkReferenceIdeal) (hPre_qk_finite := hPre_qk_finite)
    ∧ preserves_FfnKernel_FfnKernelIdeal
    ∧ algebraic_FfnKernelIdeal_FfnReferenceIdeal_pre_ffn_finite (hFfnKernelIdeal := hFfnKernelIdeal) (hFfnReferenceIdeal := hFfnReferenceIdeal) (hPre_ffn_finite := hPre_ffn_finite)
    ∧ preserves_MixInFwdKernel_MixInFwdKernelIdeal
    ∧ algebraic_MixInFwdKernelIdeal_MixInFwdReferenceIdeal (hMixInFwdKernelIdeal := hMixInFwdKernelIdeal) (hMixInFwdReferenceIdeal := hMixInFwdReferenceIdeal)
    ∧ preserves_MixOutFwdKernel_MixOutFwdKernelIdeal
    ∧ algebraic_MixOutFwdKernelIdeal_MixOutFwdReferenceIdeal (hMixOutFwdKernelIdeal := hMixOutFwdKernelIdeal) (hMixOutFwdReferenceIdeal := hMixOutFwdReferenceIdeal)
    ∧ preserves_QkFwdKernel_QkFwdKernelIdeal
    ∧ algebraic_QkFwdKernelIdeal_QkFwdReferenceIdeal_pre_qk_fwd_finite (hQkFwdKernelIdeal := hQkFwdKernelIdeal) (hQkFwdReferenceIdeal := hQkFwdReferenceIdeal) (hPre_qk_fwd_finite := hPre_qk_fwd_finite)
-- ==== Pre_attn_finite.lean ====
abbrev S4096x512 : Shape := ⟨2, ![4096, 512]⟩
abbrev S4096x128 : Shape := ⟨2, ![4096, 128]⟩
abbrev S_ : Shape := ⟨0, ![]⟩

class Facts : Prop where
  bcast_S_S4096x512 : S_.BroadcastsInDim S4096x512 (![] : Fin 0 → Fin S4096x512.rank)
  bcast_S_S4096x128 : S_.BroadcastsInDim S4096x128 (![] : Fin 0 → Fin S4096x128.rank)

variable [Facts]

def fn {F : FTy → Type} [FloatOps F] (main_arg0 : FVec F S4096x512 .f32) (main_arg1 : FVec F S4096x128 .f32) (main_arg2 : FVec F S4096x128 .f32) (main_arg3 : FVec F S4096x512 .f32) : IVec S4096x512 1 × IVec S4096x128 1 × IVec S4096x128 1 × IVec S4096x512 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x128 .f32 := Host.absf main_arg1
  let main_cst_0 : FVec F S_ .f32 := constant S_ .f32 0x7F800000#32
  let main_v4 : FVec F S4096x128 .f32 := broadcastInDim S4096x128 ![] bcast_S_S4096x128 main_cst_0
  let main_v5 : IVec S4096x128 1 := cmpf .olt main_v3 main_v4
  let main_v6 : FVec F S4096x128 .f32 := Host.absf main_arg2
  let main_cst_1 : FVec F S_ .f32 := constant S_ .f32 0x7F800000#32
  let main_v7 : FVec F S4096x128 .f32 := broadcastInDim S4096x128 ![] bcast_S_S4096x128 main_cst_1
  let main_v8 : IVec S4096x128 1 := cmpf .olt main_v6 main_v7
  let main_v9 : FVec F S4096x512 .f32 := Host.absf main_arg3
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  (main_v2, main_v5, main_v8, main_v11)
-- ==== Pre_ffn_finite.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1x1024 .f32) (main_arg2 : FVec F S1024x2816 .f32) (main_arg3 : FVec F S1024x2816 .f32) (main_arg4 : FVec F S2816x1024 .f32) (main_arg5 : FVec F S4096x1024 .f32) : IVec S4096x1024 1 × IVec S1x1024 1 × IVec S1024x2816 1 × IVec S1024x2816 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Pre_loss_finite.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x1024 .f32) (main_arg1 : FVec F S1x1024 .f32) (main_arg2 : FVec F S4096x1024 .f32) : IVec S4096x1024 1 × IVec S1x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Pre_mix_in_finite.lean ====
abbrev S4096x1024 : Shape := ⟨2, ![4096, 1024]⟩
abbrev S1x1024 : Shape := ⟨2, ![1, 1024]⟩
abbrev S1024x5376 : Shape := ⟨2, ![1024, 5376]⟩
abbrev S4096x5376 : Shape := ⟨2, ![4096, 5376]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x5376 : S_.BroadcastsInDim S1024x5376 (![] : Fin 0 → Fin S1024x5376.rank)
  bcast_S_S4096x5376 : S_.BroadcastsInDim S4096x5376 (![] : Fin 0 → Fin S4096x5376.rank)

variable [Facts]

def fn {F : FTy → Type} [FloatOps F] (main_arg0 : FVec F S4096x1024 .f32) (main_arg1 : FVec F S1x1024 .f32) (main_arg2 : FVec F S1024x5376 .f32) (main_arg3 : FVec F S4096x1024 .f32) (main_arg4 : FVec F S4096x5376 .f32) : IVec S4096x1024 1 × IVec S1x1024 1 × IVec S1024x5376 1 × IVec S4096x1024 1 × IVec S4096x5376 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x5376 .f32 := Host.absf main_arg2
  let main_cst_1 : FVec F S_ .f32 := constant S_ .f32 0x7F800000#32
  let main_v7 : FVec F S1024x5376 .f32 := broadcastInDim S1024x5376 ![] bcast_S_S1024x5376 main_cst_1
  let main_v8 : IVec S1024x5376 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S4096x5376 .f32 := Host.absf main_arg4
  let main_cst_3 : FVec F S_ .f32 := constant S_ .f32 0x7F800000#32
  let main_v13 : FVec F S4096x5376 .f32 := broadcastInDim S4096x5376 ![] bcast_S_S4096x5376 main_cst_3
  let main_v14 : IVec S4096x5376 1 := cmpf .olt main_v12 main_v13
  (main_v2, main_v5, main_v8, main_v11, main_v14)
-- ==== Pre_mix_out_finite.lean ====
abbrev S4096x512 : Shape := ⟨2, ![4096, 512]⟩
abbrev S4096x1024 : Shape := ⟨2, ![4096, 1024]⟩
abbrev S512x1024 : Shape := ⟨2, ![512, 1024]⟩
abbrev S1024x1024 : Shape := ⟨2, ![1024, 1024]⟩
abbrev S_ : Shape := ⟨0, ![]⟩

class Facts : Prop where
  bcast_S_S4096x512 : S_.BroadcastsInDim S4096x512 (![] : Fin 0 → Fin S4096x512.rank)
  bcast_S_S4096x1024 : S_.BroadcastsInDim S4096x1024 (![] : Fin 0 → Fin S4096x1024.rank)
  bcast_S_S512x1024 : S_.BroadcastsInDim S512x1024 (![] : Fin 0 → Fin S512x1024.rank)
  bcast_S_S1024x1024 : S_.BroadcastsInDim S1024x1024 (![] : Fin 0 → Fin S1024x1024.rank)

variable [Facts]

def fn_part1 {F : FTy → Type} [FloatOps F] (main_arg6 : FVec F S1024x1024 .f32) (main_arg7 : FVec F S4096x1024 .f32) (main_v2 : IVec S4096x512 1) (main_v5 : IVec S4096x512 1) (main_v8 : IVec S4096x1024 1) (main_v11 : IVec S4096x1024 1) (main_v14 : IVec S512x1024 1) (main_v17 : IVec S512x1024 1) : IVec S4096x512 1 × IVec S4096x512 1 × IVec S4096x1024 1 × IVec S4096x1024 1 × IVec S512x1024 1 × IVec S512x1024 1 × IVec S1024x1024 1 × IVec S4096x1024 1 :=
  let main_v18 : FVec F S1024x1024 .f32 := Host.absf main_arg6
  let main_cst_5 : FVec F S_ .f32 := constant S_ .f32 0x7F800000#32
  let main_v19 : FVec F S1024x1024 .f32 := broadcastInDim S1024x1024 ![] bcast_S_S1024x1024 main_cst_5
  let main_v20 : IVec S1024x1024 1 := cmpf .olt main_v18 main_v19
  let main_v21 : FVec F S4096x1024 .f32 := Host.absf main_arg7
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  (main_v2, main_v5, main_v8, main_v11, main_v14, main_v17, main_v20, main_v23)

def fn {F : FTy → Type} [FloatOps F] (main_arg0 : FVec F S4096x512 .f32) (main_arg1 : FVec F S4096x512 .f32) (main_arg2 : FVec F S4096x1024 .f32) (main_arg3 : FVec F S4096x1024 .f32) (main_arg4 : FVec F S512x1024 .f32) (main_arg5 : FVec F S512x1024 .f32) (main_arg6 : FVec F S1024x1024 .f32) (main_arg7 : FVec F S4096x1024 .f32) : IVec S4096x512 1 × IVec S4096x512 1 × IVec S4096x1024 1 × IVec S4096x1024 1 × IVec S512x1024 1 × IVec S512x1024 1 × IVec S1024x1024 1 × IVec S4096x1024 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S512x1024 .f32 := Host.absf main_arg4
  let main_cst_3 : FVec F S_ .f32 := constant S_ .f32 0x7F800000#32
  let main_v13 : FVec F S512x1024 .f32 := broadcastInDim S512x1024 ![] bcast_S_S512x1024 main_cst_3
  let main_v14 : IVec S512x1024 1 := cmpf .olt main_v12 main_v13
  let main_v15 : FVec F S512x1024 .f32 := Host.absf main_arg5
  let main_cst_4 : FVec F S_ .f32 := constant S_ .f32 0x7F800000#32
  let main_v16 : FVec F S512x1024 .f32 := broadcastInDim S512x1024 ![] bcast_S_S512x1024 main_cst_4
  let main_v17 : IVec S512x1024 1 := cmpf .olt main_v15 main_v16
  fn_part1 (F := F) main_arg6 main_arg7 main_v2 main_v5 main_v8 main_v11 main_v14 main_v17
-- ==== Pre_qk_finite.lean ====
abbrev S4096x768 : Shape := ⟨2, ![4096, 768]⟩
abbrev S1x64 : Shape := ⟨2, ![1, 64]⟩
abbrev S4096x512 : Shape := ⟨2, ![4096, 512]⟩
abbrev S4096x128 : Shape := ⟨2, ![4096, 128]⟩
abbrev S_ : Shape := ⟨0, ![]⟩

class Facts : Prop where
  bcast_S_S4096x768 : S_.BroadcastsInDim S4096x768 (![] : Fin 0 → Fin S4096x768.rank)
  bcast_S_S1x64 : S_.BroadcastsInDim S1x64 (![] : Fin 0 → Fin S1x64.rank)
  bcast_S_S4096x512 : S_.BroadcastsInDim S4096x512 (![] : Fin 0 → Fin S4096x512.rank)
  bcast_S_S4096x128 : S_.BroadcastsInDim S4096x128 (![] : Fin 0 → Fin S4096x128.rank)

variable [Facts]

def fn {F : FTy → Type} [FloatOps F] (main_arg0 : FVec F S4096x768 .f32) (main_arg1 : FVec F S1x64 .f32) (main_arg2 : FVec F S1x64 .f32) (main_arg3 : FVec F S4096x512 .f32) (main_arg4 : FVec F S4096x128 .f32) (main_arg5 : FVec F S4096x128 .f32) : IVec S4096x768 1 × IVec S1x64 1 × IVec S1x64 1 × IVec S4096x512 1 × IVec S4096x128 1 × IVec S4096x128 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_v3 : FVec F S1x64 .f32 := Host.absf main_arg1
  let main_cst_0 : FVec F S_ .f32 := constant S_ .f32 0x7F800000#32
  let main_v4 : FVec F S1x64 .f32 := broadcastInDim S1x64 ![] bcast_S_S1x64 main_cst_0
  let main_v5 : IVec S1x64 1 := cmpf .olt main_v3 main_v4
  let main_v6 : FVec F S1x64 .f32 := Host.absf main_arg2
  let main_cst_1 : FVec F S_ .f32 := constant S_ .f32 0x7F800000#32
  let main_v7 : FVec F S1x64 .f32 := broadcastInDim S1x64 ![] bcast_S_S1x64 main_cst_1
  let main_v8 : IVec S1x64 1 := cmpf .olt main_v6 main_v7
  let main_v9 : FVec F S4096x512 .f32 := Host.absf main_arg3
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_v12 : FVec F S4096x128 .f32 := Host.absf main_arg4
  let main_cst_3 : FVec F S_ .f32 := constant S_ .f32 0x7F800000#32
  let main_v13 : FVec F S4096x128 .f32 := broadcastInDim S4096x128 ![] bcast_S_S4096x128 main_cst_3
  let main_v14 : IVec S4096x128 1 := cmpf .olt main_v12 main_v13
  let main_v15 : FVec F S4096x128 .f32 := Host.absf main_arg5
  let main_cst_4 : FVec F S_ .f32 := constant S_ .f32 0x7F800000#32
  let main_v16 : FVec F S4096x128 .f32 := broadcastInDim S4096x128 ![] bcast_S_S4096x128 main_cst_4
  let main_v17 : IVec S4096x128 1 := cmpf .olt main_v15 main_v16
  (main_v2, main_v5, main_v8, main_v11, main_v14, main_v17)
-- ==== Pre_qk_fwd_finite.lean ====
abbrev S4096x768 : Shape := ⟨2, ![4096, 768]⟩
abbrev S1x64 : Shape := ⟨2, ![1, 64]⟩
abbrev S_ : Shape := ⟨0, ![]⟩

class Facts : Prop where
  bcast_S_S4096x768 : S_.BroadcastsInDim S4096x768 (![] : Fin 0 → Fin S4096x768.rank)
  bcast_S_S1x64 : S_.BroadcastsInDim S1x64 (![] : Fin 0 → Fin S1x64.rank)

variable [Facts]

def fn {F : FTy → Type} [FloatOps F] (main_arg0 : FVec F S4096x768 .f32) (main_arg1 : FVec F S1x64 .f32) (main_arg2 : FVec F S1x64 .f32) : IVec S4096x768 1 × IVec S1x64 1 × IVec S1x64 1 :=
  let main_v0 : FVec F S4096x768 .f32 := Host.absf main_arg0
  let main_cst : FVec F S_ .f32 := constant S_ .f32 0x7F800000#32
  let main_v1 : FVec F S4096x768 .f32 := broadcastInDim S4096x768 ![] bcast_S_S4096x768 main_cst
  let main_v2 : IVec S4096x768 1 := cmpf .olt main_v0 main_v1
  let main_v3 : FVec F S1x64 .f32 := Host.absf main_arg1
  let main_cst_0 : FVec F S_ .f32 := constant S_ .f32 0x7F800000#32
  let main_v4 : FVec F S1x64 .f32 := broadcastInDim S1x64 ![] bcast_S_S1x64 main_cst_0
  let main_v5 : IVec S1x64 1 := cmpf .olt main_v3 main_v4
  let main_v6 : FVec F S1x64 .f32 := Host.absf main_arg2
  let main_cst_1 : FVec F S_ .f32 := constant S_ .f32 0x7F800000#32
  let main_v7 : FVec F S1x64 .f32 := broadcastInDim S1x64 ![] bcast_S_S1x64 main_cst_1
  let main_v8 : IVec S1x64 1 := cmpf .olt main_v6 main_v7
  (main_v2, main_v5, main_v8)
-- ==== LossKernel.lean ====
abbrev S4096x1024 : Shape := ⟨2, ![4096, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S8x128, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x128, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossReferenceIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x128 : Shape := ⟨2, ![8, 128]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== AttnKernel.lean ====
abbrev S4096x512 : Shape := ⟨2, ![4096, 512]⟩
abbrev S4096x128 : Shape := ⟨2, ![4096, 128]⟩
abbrev S_ : Shape := ⟨0, ![]⟩
abbrev S4096x2x4x2x64 : Shape := ⟨5, ![4096, 2, 4, 2, 64]⟩
abbrev S4096x2x4x1x64 : Shape := ⟨5, ![4096, 2, 4, 1, 64]⟩
abbrev S4096x1024 : Shape := ⟨2, ![4096, 1024]⟩
abbrev S4096x64 : Shape := ⟨2, ![4096, 64]⟩
abbrev S8x4096x1 : Shape := ⟨3, ![8, 4096, 1]⟩
abbrev S256x128 : Shape := ⟨2, ![256, 128]⟩
abbrev S256x256 : Shape := ⟨2, ![256, 256]⟩
abbrev S4x256x1 : Shape := ⟨3, ![4, 256, 1]⟩
abbrev S256x4096 : Shape := ⟨2, ![256, 4096]⟩
abbrev S256 : Shape := ⟨1, ![256]⟩
abbrev S256x1 : Shape := ⟨2, ![256, 1]⟩
abbrev S1x256x1 : Shape := ⟨3, ![1, 256, 1]⟩
abbrev S1x128 : Shape := ⟨2, ![1, 128]⟩
abbrev S4096x8x64 : Shape := ⟨3, ![4096, 8, 64]⟩
abbrev S4096x8 : Shape := ⟨2, ![4096, 8]⟩
abbrev S4096x8x1 : Shape := ⟨3, ![4096, 8, 1]⟩
abbrev S4096x8x128 : Shape := ⟨3, ![4096, 8, 128]⟩
abbrev S128x4096 : Shape := ⟨2, ![128, 4096]⟩
abbrev S512x4096 : Shape := ⟨2, ![512, 4096]⟩
abbrev S2x256x1 : Shape := ⟨3, ![2, 256, 1]⟩
abbrev S128x256 : Shape := ⟨2, ![128, 256]⟩
abbrev S2x128x256 : Shape := ⟨3, ![2, 128, 256]⟩
abbrev S64x4096 : Shape := ⟨2, ![64, 4096]⟩
abbrev S64x256 : Shape := ⟨2, ![64, 256]⟩
abbrev S1x128x256 : Shape := ⟨3, ![1, 128, 256]⟩
abbrev S1x64x256 : Shape := ⟨3, ![1, 64, 256]⟩

abbrev nBuf : Space → Nat
  | .hbm => 48
  | .vmem => 38
  | .smem => 0
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S4096x512, .f32⟩
  | .hbm, ⟨4, _⟩ => ⟨S_, .f32⟩
  | .hbm, ⟨5, _⟩ => ⟨S4096x512, .f32⟩
  | .hbm, ⟨6, _⟩ => ⟨S4096x512, .f32⟩
  | .hbm, ⟨7, _⟩ => ⟨S4096x2x4x2x64, .i32⟩
  | .hbm, ⟨8, _⟩ => ⟨S4096x2x4x2x64, .i32⟩
  | .hbm, ⟨9, _⟩ => ⟨S4096x2x4x2x64, .i1⟩
  | .hbm, ⟨10, _⟩ => ⟨S4096x2x4x1x64, .f32⟩
  | .hbm, ⟨11, _⟩ => ⟨S4096x2x4x2x64, .f32⟩
  | .hbm, ⟨12, _⟩ => ⟨S_, .f32⟩
  | .hbm, ⟨13, _⟩ => ⟨S_, .f32⟩
  | .hbm, ⟨14, _⟩ => ⟨S4096x2x4x2x64, .f32⟩
  | .hbm, ⟨15, _⟩ => ⟨S4096x2x4x2x64, .f32⟩
  | .hbm, ⟨16, _⟩ => ⟨S4096x1024, .f32⟩
  | .hbm, ⟨17, _⟩ => ⟨S4096x1024, .bf16⟩
  | .hbm, ⟨18, _⟩ => ⟨S4096x128, .bf16⟩
  | .hbm, ⟨19, _⟩ => ⟨S4096x128, .bf16⟩
  | .hbm, ⟨20, _⟩ => ⟨S4096x64, .f32⟩
  | .hbm, ⟨21, _⟩ => ⟨S4096x64, .f32⟩
  | .hbm, ⟨22, _⟩ => ⟨S4096x128, .f32⟩
  | .hbm, ⟨23, _⟩ => ⟨S4096x128, .bf16⟩
  | .hbm, ⟨24, _⟩ => ⟨S4096x512, .f32⟩
  | .hbm, ⟨25, _⟩ => ⟨S8x4096x1, .f32⟩
  | .hbm, ⟨26, _⟩ => ⟨S4096x512, .f32⟩
  | .hbm, ⟨27, _⟩ => ⟨S4096x8x64, .f32⟩
  | .hbm, ⟨28, _⟩ => ⟨S_, .f32⟩
  | .hbm, ⟨29, _⟩ => ⟨S4096x8, .f32⟩
  | .hbm, ⟨30, _⟩ => ⟨S4096x8x1, .f32⟩
  | .hbm, ⟨31, _⟩ => ⟨S4096x8x128, .f32⟩
  | .hbm, ⟨32, _⟩ => ⟨S4096x1024, .f32⟩
  | .hbm, ⟨33, _⟩ => ⟨S128x4096, .bf16⟩
  | .hbm, ⟨34, _⟩ => ⟨S4096x2x4x2x64, .i32⟩
  | .hbm, ⟨35, _⟩ => ⟨S4096x2x4x2x64, .i32⟩
  | .hbm, ⟨36, _⟩ => ⟨S4096x2x4x2x64, .i1⟩
  | .hbm, ⟨37, _⟩ => ⟨S4096x2x4x1x64, .f32⟩
  | .hbm, ⟨38, _⟩ => ⟨S4096x2x4x2x64, .f32⟩
  | .hbm, ⟨39, _⟩ => ⟨S_, .f32⟩
  | .hbm, ⟨40, _⟩ => ⟨S_, .f32⟩
  | .hbm, ⟨41, _⟩ => ⟨S4096x2x4x2x64, .f32⟩
  | .hbm, ⟨42, _⟩ => ⟨S4096x2x4x2x64, .f32⟩
  | .hbm, ⟨43, _⟩ => ⟨S4096x1024, .f32⟩
  | .hbm, ⟨44, _⟩ => ⟨S4096x1024, .bf16⟩
  | .hbm, ⟨45, _⟩ => ⟨S512x4096, .f32⟩
  | .hbm, ⟨46, _⟩ => ⟨S128x4096, .f32⟩
  | .hbm, ⟨47, _⟩ => ⟨S128x4096, .f32⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | .local _ .vmem, ⟨8, _⟩ => ⟨S4096x128, .bf16⟩
  | .local _ .vmem, ⟨9, _⟩ => ⟨S4096x128, .bf16⟩
  | .local _ .vmem, ⟨10, _⟩ => ⟨S4096x128, .bf16⟩
  | .local _ .vmem, ⟨11, _⟩ => ⟨S256x256, .f32⟩
  | .local _ .vmem, ⟨12, _⟩ => ⟨S256x256, .f32⟩
  | .local _ .vmem, ⟨13, _⟩ => ⟨S4x256x1, .f32⟩
  | .local _ .vmem, ⟨14, _⟩ => ⟨S4x256x1, .f32⟩
  | .local _ .vmem, ⟨15, _⟩ => ⟨S256x128, .bf16⟩
  | .local _ .vmem, ⟨16, _⟩ => ⟨S256x128, .bf16⟩
  | .local _ .vmem, ⟨17, _⟩ => ⟨S256x128, .bf16⟩
  | .local _ .vmem, ⟨18, _⟩ => ⟨S256x128, .bf16⟩
  | .local _ .vmem, ⟨19, _⟩ => ⟨S4096x128, .bf16⟩
  | .local _ .vmem, ⟨20, _⟩ => ⟨S128x4096, .bf16⟩
  | .local _ .vmem, ⟨21, _⟩ => ⟨S4096x128, .bf16⟩
  | .local _ .vmem, ⟨22, _⟩ => ⟨S256x128, .bf16⟩
  | .local _ .vmem, ⟨23, _⟩ => ⟨S256x128, .bf16⟩
  | .local _ .vmem, ⟨24, _⟩ => ⟨S256x128, .bf16⟩
  | .local _ .vmem, ⟨25, _⟩ => ⟨S256x128, .bf16⟩
  | .local _ .vmem, ⟨26, _⟩ => ⟨S256x128, .f32⟩
  | .local _ .vmem, ⟨27, _⟩ => ⟨S256x128, .f32⟩
  | .local _ .vmem, ⟨28, _⟩ => ⟨S256x128, .f32⟩
  | .local _ .vmem, ⟨29, _⟩ => ⟨S256x128, .f32⟩
  | .local _ .vmem, ⟨30, _⟩ => ⟨S2x256x1, .f32⟩
  | .local _ .vmem, ⟨31, _⟩ => ⟨S2x256x1, .f32⟩
  | .local _ .vmem, ⟨32, _⟩ => ⟨S128x256, .f32⟩
  | .local _ .vmem, ⟨33, _⟩ => ⟨S128x256, .f32⟩
  | .local _ .vmem, ⟨34, _⟩ => ⟨S128x4096, .f32⟩
  | .local _ .vmem, ⟨35, _⟩ => ⟨S128x4096, .f32⟩
  | .local _ .vmem, ⟨36, _⟩ => ⟨S2x128x256, .f32⟩
  | .local _ .vmem, ⟨37, _⟩ => ⟨S2x128x256, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_call0_v0 : Ref sig .tc := ⟨.hbm, 13, rfl⟩
abbrev main_call0_v1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_call1_v0 : Ref sig .tc := ⟨.hbm, 40, rfl⟩
abbrev main_call1_v1 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32_0 : Ref sig .tc := ⟨.hbm, 45, rfl⟩
abbrev main_v32_1 : Ref sig .tc := ⟨.hbm, 46, rfl⟩
abbrev main_v32_2 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc1_stg10_0 : Ref sig .tc := ⟨.vmem, 32, rfl⟩
abbrev cc1_stg10_1 : Ref sig .tc := ⟨.vmem, 33, rfl⟩
abbrev cc1_stg11_0 : Ref sig .tc := ⟨.vmem, 34, rfl⟩
abbrev cc1_stg12_0 : Ref sig .tc := ⟨.vmem, 35, rfl⟩
abbrev cc1_scratch0 : Ref sig .tc := ⟨.vmem, 36, rfl⟩
abbrev cc1_scratch1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31
abbrev cc1_sem10_0 : DmaSem sig := 32
abbrev cc1_sem10_1 : DmaSem sig := 33
abbrev cc1_sem11_0 : DmaSem sig := 34
abbrev cc1_sem12_0 : DmaSem sig := 35

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let c0_i32 : BitVec 32 := 0#32
  let v1 : BitVec 32 := Scalar.addi v0 c0_i32
  let c0_i32_0 : BitVec 32 := 0#32
  ![arg1.toNat, v1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let c1_i32 : BitVec 32 := 1#32
  let v1 : BitVec 32 := Scalar.addi v0 c1_i32
  let c0_i32 : BitVec 32 := 0#32
  ![arg1.toNat, v1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let c2_i32 : BitVec 32 := 2#32
  let v1 : BitVec 32 := Scalar.addi v0 c2_i32
  let c0_i32 : BitVec 32 := 0#32
  ![arg1.toNat, v1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli c4_i32 arg0
  let c3_i32 : BitVec 32 := 3#32
  let v1 : BitVec 32 := Scalar.addi v0 c3_i32
  let c0_i32 : BitVec 32 := 0#32
  ![arg1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4096x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4096x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![4, 16], ![false, false]⟩

def k1_mult1 (i : grid1.Coords) : BitVec 32 :=
  let c2_i32 : BitVec 32 := 2#32
  let arg0 : BitVec 32 := BitVec.ofNat 32 (i 0).val
  let v5 : BitVec 32 := Scalar.muli c2_i32 arg0
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c4_i32 : BitVec 32 := 4#32
  let c0_i32_4 : BitVec 32 := 0#32
  let v12 : BitVec 1 := Scalar.cmpi .sgt c4_i32 c0_i32_4
  let v13 : BitVec 32 := Scalar.extui v12
  let c0_i32_5 : BitVec 32 := 0#32
  let v14 : BitVec 1 := Scalar.cmpi .slt c4_i32 c0_i32_5
  let v15 : BitVec 32 := Scalar.extui v14
  let v16 : BitVec 32 := Scalar.subi v13 v15
  let v17 : BitVec 1 := Scalar.cmpi .ne v11 v16
  let v18 : BitVec 32 := Scalar.remsi v5 c4_i32
  let c0_i32_6 : BitVec 32 := 0#32
  let v19 : BitVec 1 := Scalar.cmpi .ne v18 c0_i32_6
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c64_i32 : BitVec 32 := 64#32
  let v23 : BitVec 32 := Scalar.muli v22 c64_i32
  v23
def k1_off1 (i : grid1.Coords) : Fin 2 → Nat :=
  let c2_i32 : BitVec 32 := 2#32
  let arg0 : BitVec 32 := BitVec.ofNat 32 (i 0).val
  let v5 : BitVec 32 := Scalar.muli c2_i32 arg0
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c4_i32 : BitVec 32 := 4#32
  let c0_i32_4 : BitVec 32 := 0#32
  let v12 : BitVec 1 := Scalar.cmpi .sgt c4_i32 c0_i32_4
  let v13 : BitVec 32 := Scalar.extui v12
  let c0_i32_5 : BitVec 32 := 0#32
  let v14 : BitVec 1 := Scalar.cmpi .slt c4_i32 c0_i32_5
  let v15 : BitVec 32 := Scalar.extui v14
  let v16 : BitVec 32 := Scalar.subi v13 v15
  let v17 : BitVec 1 := Scalar.cmpi .ne v11 v16
  let v18 : BitVec 32 := Scalar.remsi v5 c4_i32
  let c0_i32_6 : BitVec 32 := 0#32
  let v19 : BitVec 1 := Scalar.cmpi .ne v18 c0_i32_6
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c64_i32 : BitVec 32 := 64#32
  let v23 : BitVec 32 := Scalar.muli v22 c64_i32
  let v24 : BitVec 32 := v23
  let v25 : Index := Scalar.indexCast v24
  let c0 : Index := 0#32
  ![v25.toNat, 0]
def k1_off2 (i : grid1.Coords) : Fin 3 → Nat :=
  let c0_47 : Index := 0#32
  let c2_i32 : BitVec 32 := 2#32
  let arg0 : BitVec 32 := BitVec.ofNat 32 (i 0).val
  let v5 : BitVec 32 := Scalar.muli c2_i32 arg0
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c4_i32 : BitVec 32 := 4#32
  let c0_i32_4 : BitVec 32 := 0#32
  let v12 : BitVec 1 := Scalar.cmpi .sgt c4_i32 c0_i32_4
  let v13 : BitVec 32 := Scalar.extui v12
  let c0_i32_5 : BitVec 32 := 0#32
  let v14 : BitVec 1 := Scalar.cmpi .slt c4_i32 c0_i32_5
  let v15 : BitVec 32 := Scalar.extui v14
  let v16 : BitVec 32 := Scalar.subi v13 v15
  let v17 : BitVec 1 := Scalar.cmpi .ne v11 v16
  let v18 : BitVec 32 := Scalar.remsi v5 c4_i32
  let c0_i32_6 : BitVec 32 := 0#32
  let v19 : BitVec 1 := Scalar.cmpi .ne v18 c0_i32_6
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c64_i32 : BitVec 32 := 64#32
  let v23 : BitVec 32 := Scalar.muli v22 c64_i32
  let v24 : BitVec 32 := v23
  let v79 : Index := Scalar.indexCast v24
  let c0_48 : Index := 0#32
  ![0, v79.toNat, 0]
def k1_off3 (i : grid1.Coords) : Fin 3 → Nat :=
  let c1_70 : Index := 1#32
  let c2_i32 : BitVec 32 := 2#32
  let arg0 : BitVec 32 := BitVec.ofNat 32 (i 0).val
  let v5 : BitVec 32 := Scalar.muli c2_i32 arg0
  let c0_i32_2 : BitVec 32 := 0#32
  let v7 : BitVec 1 := Scalar.cmpi .sgt v5 c0_i32_2
  let v8 : BitVec 32 := Scalar.extui v7
  let c0_i32_3 : BitVec 32 := 0#32
  let v9 : BitVec 1 := Scalar.cmpi .slt v5 c0_i32_3
  let v10 : BitVec 32 := Scalar.extui v9
  let v11 : BitVec 32 := Scalar.subi v8 v10
  let c4_i32 : BitVec 32 := 4#32
  let c0_i32_4 : BitVec 32 := 0#32
  let v12 : BitVec 1 := Scalar.cmpi .sgt c4_i32 c0_i32_4
  let v13 : BitVec 32 := Scalar.extui v12
  let c0_i32_5 : BitVec 32 := 0#32
  let v14 : BitVec 1 := Scalar.cmpi .slt c4_i32 c0_i32_5
  let v15 : BitVec 32 := Scalar.extui v14
  let v16 : BitVec 32 := Scalar.subi v13 v15
  let v17 : BitVec 1 := Scalar.cmpi .ne v11 v16
  let v18 : BitVec 32 := Scalar.remsi v5 c4_i32
  let c0_i32_6 : BitVec 32 := 0#32
  let v19 : BitVec 1 := Scalar.cmpi .ne v18 c0_i32_6
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let c64_i32 : BitVec 32 := 64#32
  let v23 : BitVec 32 := Scalar.muli v22 c64_i32
  let v24 : BitVec 32 := v23
  let v122 : Index := Scalar.indexCast v24
  let c0_71 : Index := 0#32
  ![1, v122.toNat, 0]
def cc1_transform_0 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  ![arg1.toNat, v1.toNat]

def cc1_transform_1 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  ![arg1.toNat, v1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  ![arg1.toNat, v1.toNat]

def cc1_transform_6 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  ![arg1.toNat, v1.toNat]

def cc1_transform_7 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0_i32 : BitVec 32 := 0#32
  let v1 : BitVec 32 := Scalar.addi v0 c0_i32
  let c0_i32_0 : BitVec 32 := 0#32
  ![arg1.toNat, v1.toNat]

def cc1_transform_8 (i : grid1.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  ![arg1.toNat, v1.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S4096x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x4096 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S4096x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S256x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S256x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S256x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S256x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S2x256x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S128x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 1 → Memref sig .tc .vmem S128x4096 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S128x4096 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]
-- ==== AttnReferenceIdeal.lean ====
abbrev S4096x512 : Shape := ⟨2, ![4096, 512]⟩
abbrev S4096x128 : Shape := ⟨2, ![4096, 128]⟩
abbrev S_ : Shape := ⟨0, ![]⟩
abbrev S4096x2x4x64 : Shape := ⟨4, ![4096, 2, 4, 64]⟩
abbrev S4096x2x64 : Shape := ⟨3, ![4096, 2, 64]⟩
abbrev S2x4096x4096x4 : Shape := ⟨4, ![2, 4096, 4096, 4]⟩
abbrev S2x4x4096x4096 : Shape := ⟨4, ![2, 4, 4096, 4096]⟩
abbrev S2x4x4096 : Shape := ⟨3, ![2, 4, 4096]⟩
abbrev S2x4x4096x1 : Shape := ⟨4, ![2, 4, 4096, 1]⟩
abbrev S2x64x4x4096 : Shape := ⟨4, ![2, 64, 4, 4096]⟩
abbrev S2x64x4096 : Shape := ⟨3, ![2, 64, 4096]⟩
abbrev S2x4096x4x64 : Shape := ⟨4, ![2, 4096, 4, 64]⟩
abbrev S2x4096x64 : Shape := ⟨3, ![2, 4096, 64]⟩
abbrev S8x4096x1 : Shape := ⟨3, ![8, 4096, 1]⟩
abbrev S512x4096 : Shape := ⟨2, ![512, 4096]⟩
abbrev S128x4096 : Shape := ⟨2, ![128, 4096]⟩

abbrev nBuf : Space → Nat
  | .hbm => 92
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x128, .f32⟩
  | .hbm, ⟨2, _⟩ => ⟨S4096x128, .f32⟩
  | .hbm, ⟨3, _⟩ => ⟨S4096x512, .f32⟩
  | .hbm, ⟨4, _⟩ => ⟨S_, .f32⟩
  | .hbm, ⟨5, _⟩ => ⟨S4096x512, .f32⟩
  | .hbm, ⟨6, _⟩ => ⟨S4096x512, .f32⟩
  | .hbm, ⟨7, _⟩ => ⟨S4096x2x4x64, .f32⟩
  | .hbm, ⟨8, _⟩ => ⟨S4096x2x64, .f32⟩
  | .hbm, ⟨9, _⟩ => ⟨S2x4096x4096x4, .f32⟩
  | .hbm, ⟨10, _⟩ => ⟨S2x4x4096x4096, .f32⟩
  | .hbm, ⟨11, _⟩ => ⟨S_, .f32⟩
  | .hbm, ⟨12, _⟩ => ⟨S2x4x4096, .f32⟩
  | .hbm, ⟨13, _⟩ => ⟨S2x4x4096x1, .f32⟩
  | .hbm, ⟨14, _⟩ => ⟨S2x4x4096x4096, .f32⟩
  | .hbm, ⟨15, _⟩ => ⟨S2x4x4096x4096, .i1⟩
  | .hbm, ⟨16, _⟩ => ⟨S2x4x4096x4096, .f32⟩
  | .hbm, ⟨17, _⟩ => ⟨S_, .f32⟩
  | .hbm, ⟨18, _⟩ => ⟨S2x4x4096, .f32⟩
  | .hbm, ⟨19, _⟩ => ⟨S_, .f32⟩
  | .hbm, ⟨20, _⟩ => ⟨S2x4x4096, .f32⟩
  | .hbm, ⟨21, _⟩ => ⟨S2x4x4096, .f32⟩
  | .hbm, ⟨22, _⟩ => ⟨S_, .f32⟩
  | .hbm, ⟨23, _⟩ => ⟨S2x4x4096, .f32⟩
  | .hbm, ⟨24, _⟩ => ⟨S2x4x4096, .i1⟩
  | .hbm, ⟨25, _⟩ => ⟨S_, .f32⟩
  | .hbm, ⟨26, _⟩ => ⟨S2x4x4096, .f32⟩
  | .hbm, ⟨27, _⟩ => ⟨S2x4x4096, .i1⟩
  | .hbm, ⟨28, _⟩ => ⟨S_, .f32⟩
  | .hbm, ⟨29, _⟩ => ⟨S2x4x4096, .f32⟩
  | .hbm, ⟨30, _⟩ => ⟨S_, .f32⟩
  | .hbm, ⟨31, _⟩ => ⟨S2x4x4096, .f32⟩
  | .hbm, ⟨32, _⟩ => ⟨S_, .f32⟩
  | .hbm, ⟨33, _⟩ => ⟨S2x4x4096, .f32⟩
  | .hbm, ⟨34, _⟩ => ⟨S2x4x4096, .f32⟩
  | .hbm, ⟨35, _⟩ => ⟨S2x4x4096, .f32⟩
  | .hbm, ⟨36, _⟩ => ⟨S2x4x4096x1, .f32⟩
  | .hbm, ⟨37, _⟩ => ⟨S2x4x4096x4096, .f32⟩
  | .hbm, ⟨38, _⟩ => ⟨S2x4x4096x4096, .f32⟩
  | .hbm, ⟨39, _⟩ => ⟨S2x4x4096x4096, .f32⟩
  | .hbm, ⟨40, _⟩ => ⟨S_, .f32⟩
  | .hbm, ⟨41, _⟩ => ⟨S2x4x4096, .f32⟩
  | .hbm, ⟨42, _⟩ => ⟨S2x4x4096x1, .f32⟩
  | .hbm, ⟨43, _⟩ => ⟨S2x4x4096x4096, .f32⟩
  | .hbm, ⟨44, _⟩ => ⟨S2x4x4096x4096, .f32⟩
  | .hbm, ⟨45, _⟩ => ⟨S2x4x4096x1, .f32⟩
  | .hbm, ⟨46, _⟩ => ⟨S_, .f32⟩
  | .hbm, ⟨47, _⟩ => ⟨S2x4x4096x1, .f32⟩
  | .hbm, ⟨48, _⟩ => ⟨S2x4x4096x1, .f32⟩
  | .hbm, ⟨49, _⟩ => ⟨S4096x2x64, .f32⟩
  | .hbm, ⟨50, _⟩ => ⟨S2x64x4x4096, .f32⟩
  | .hbm, ⟨51, _⟩ => ⟨S4096x2x4x64, .f32⟩
  | .hbm, ⟨52, _⟩ => ⟨S4096x512, .f32⟩
  | .hbm, ⟨53, _⟩ => ⟨S4096x2x4x64, .f32⟩
  | .hbm, ⟨54, _⟩ => ⟨S2x64x4x4096, .f32⟩
  | .hbm, ⟨55, _⟩ => ⟨S2x4x4096x4096, .f32⟩
  | .hbm, ⟨56, _⟩ => ⟨S2x64x4096, .f32⟩
  | .hbm, ⟨57, _⟩ => ⟨S4096x2x64, .f32⟩
  | .hbm, ⟨58, _⟩ => ⟨S4096x128, .f32⟩
  | .hbm, ⟨59, _⟩ => ⟨S2x4x4096x4096, .f32⟩
  | .hbm, ⟨60, _⟩ => ⟨S2x4x4096x4096, .f32⟩
  | .hbm, ⟨61, _⟩ => ⟨S2x4x4096x4096, .f32⟩
  | .hbm, ⟨62, _⟩ => ⟨S_, .f32⟩
  | .hbm, ⟨63, _⟩ => ⟨S2x4x4096, .f32⟩
  | .hbm, ⟨64, _⟩ => ⟨S2x4x4096x1, .f32⟩
  | .hbm, ⟨65, _⟩ => ⟨S2x4x4096x1, .f32⟩
  | .hbm, ⟨66, _⟩ => ⟨S2x4x4096x4096, .f32⟩
  | .hbm, ⟨67, _⟩ => ⟨S2x4x4096x4096, .f32⟩
  | .hbm, ⟨68, _⟩ => ⟨S_, .f32⟩
  | .hbm, ⟨69, _⟩ => ⟨S2x4x4096, .f32⟩
  | .hbm, ⟨70, _⟩ => ⟨S2x4x4096x4096, .f32⟩
  | .hbm, ⟨71, _⟩ => ⟨S2x4x4096x4096, .f32⟩
  | .hbm, ⟨72, _⟩ => ⟨S2x4x4096x4096, .f32⟩
  | .hbm, ⟨73, _⟩ => ⟨S2x4096x4096x4, .f32⟩
  | .hbm, ⟨74, _⟩ => ⟨S2x4096x4x64, .f32⟩
  | .hbm, ⟨75, _⟩ => ⟨S4096x2x4x64, .f32⟩
  | .hbm, ⟨76, _⟩ => ⟨S2x4096x64, .f32⟩
  | .hbm, ⟨77, _⟩ => ⟨S4096x2x64, .f32⟩
  | .hbm, ⟨78, _⟩ => ⟨S4096x128, .f32⟩
  | .hbm, ⟨79, _⟩ => ⟨S4096x512, .f32⟩
  | .hbm, ⟨80, _⟩ => ⟨S4096x2x4x64, .f32⟩
  | .hbm, ⟨81, _⟩ => ⟨S4096x2x64, .f32⟩
  | .hbm, ⟨82, _⟩ => ⟨S2x4096x4096x4, .f32⟩
  | .hbm, ⟨83, _⟩ => ⟨S2x4x4096x4096, .f32⟩
  | .hbm, ⟨84, _⟩ => ⟨S2x4x4096x4096, .f32⟩
  | .hbm, ⟨85, _⟩ => ⟨S_, .f32⟩
  | .hbm, ⟨86, _⟩ => ⟨S2x4x4096, .f32⟩
  | .hbm, ⟨87, _⟩ => ⟨S2x4x4096, .f32⟩
  | .hbm, ⟨88, _⟩ => ⟨S8x4096x1, .f32⟩
  | .hbm, ⟨89, _⟩ => ⟨S512x4096, .f32⟩
  | .hbm, ⟨90, _⟩ => ⟨S128x4096, .f32⟩
  | .hbm, ⟨91, _⟩ => ⟨S128x4096, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_11 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_12 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩

abbrev nD : Nat := 1
abbrev τ : Topo := Topo.v7x

variable {F : FTy → Type} [FloatOps F]
-- ==== MixInKernel.lean ====
abbrev S4096x1024 : Shape := ⟨2, ![4096, 1024]⟩
abbrev S1x1024 : Shape := ⟨2, ![1, 1024]⟩
abbrev S1024x5376 : Shape := ⟨2, ![1024, 5376]⟩
abbrev S4096x5376 : Shape := ⟨2, ![4096, 5376]⟩
abbrev S4096x768 : Shape := ⟨2, ![4096, 768]⟩
abbrev S4096x512 : Shape := ⟨2, ![4096, 512]⟩
abbrev S4096x2048 : Shape := ⟨2, ![4096, 2048]⟩
abbrev S5376x1024 : Shape := ⟨2, ![5376, 1024]⟩
abbrev S256x768 : Shape := ⟨2, ![256, 768]⟩
abbrev S256x512 : Shape := ⟨2, ![256, 512]⟩
abbrev S256x2048 : Shape := ⟨2, ![256, 2048]⟩
abbrev S256x1024 : Shape := ⟨2, ![256, 1024]⟩
abbrev S768x1024 : Shape := ⟨2, ![768, 1024]⟩
abbrev S512x1024 : Shape := ⟨2, ![512, 1024]⟩
abbrev S2048x1024 : Shape := ⟨2, ![2048, 1024]⟩
abbrev S256 : Shape := ⟨1, ![256]⟩
abbrev S256x1 : Shape := ⟨2, ![256, 1]⟩
abbrev S1024 : Shape := ⟨1, ![1024]⟩

abbrev nBuf : Space → Nat
  | .hbm => 23
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5376, .f32⟩
  | .hbm, ⟨3, _⟩ => ⟨S4096x1024, .f32⟩
  | .hbm, ⟨4, _⟩ => ⟨S4096x5376, .f32⟩
  | .hbm, ⟨5, _⟩ => ⟨S4096x768, .f32⟩
  | .hbm, ⟨6, _⟩ => ⟨S4096x768, .bf16⟩
  | .hbm, ⟨7, _⟩ => ⟨S4096x512, .f32⟩
  | .hbm, ⟨8, _⟩ => ⟨S4096x512, .bf16⟩
  | .hbm, ⟨9, _⟩ => ⟨S4096x512, .f32⟩
  | .hbm, ⟨10, _⟩ => ⟨S4096x512, .bf16⟩
  | .hbm, ⟨11, _⟩ => ⟨S4096x512, .f32⟩
  | .hbm, ⟨12, _⟩ => ⟨S4096x512, .bf16⟩
  | .hbm, ⟨13, _⟩ => ⟨S4096x512, .f32⟩
  | .hbm, ⟨14, _⟩ => ⟨S4096x512, .bf16⟩
  | .hbm, ⟨15, _⟩ => ⟨S4096x512, .f32⟩
  | .hbm, ⟨16, _⟩ => ⟨S4096x512, .bf16⟩
  | .hbm, ⟨17, _⟩ => ⟨S4096x2048, .f32⟩
  | .hbm, ⟨18, _⟩ => ⟨S4096x2048, .bf16⟩
  | .hbm, ⟨19, _⟩ => ⟨S5376x1024, .f32⟩
  | .hbm, ⟨20, _⟩ => ⟨S5376x1024, .bf16⟩
  | .hbm, ⟨21, _⟩ => ⟨S4096x1024, .f32⟩
  | .hbm, ⟨22, _⟩ => ⟨S1x1024, .f32⟩
  | .local _ .vmem, ⟨0, _⟩ => ⟨S256x768, .bf16⟩
  | .local _ .vmem, ⟨1, _⟩ => ⟨S256x768, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x2048, .bf16⟩
  | .local _ .vmem, ⟨13, _⟩ => ⟨S256x2048, .bf16⟩
  | .local _ .vmem, ⟨14, _⟩ => ⟨S5376x1024, .bf16⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S1x1024, .f32⟩
  | .local _ .vmem, ⟨20, _⟩ => ⟨S256x1024, .f32⟩
  | .local _ .vmem, ⟨21, _⟩ => ⟨S256x1024, .f32⟩
  | .local _ .vmem, ⟨22, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S5376x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== MixInReferenceIdeal.lean ====
abbrev S4096x1024 : Shape := ⟨2, ![4096, 1024]⟩
abbrev S1x1024 : Shape := ⟨2, ![1, 1024]⟩
abbrev S1024x5376 : Shape := ⟨2, ![1024, 5376]⟩
abbrev S4096x5376 : Shape := ⟨2, ![4096, 5376]⟩
abbrev S_ : Shape := ⟨0, ![]⟩
abbrev S4096 : Shape := ⟨1, ![4096]⟩
abbrev S4096x1 : Shape := ⟨2, ![4096, 1]⟩
abbrev S5376x1024 : Shape := ⟨2, ![5376, 1024]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5376, .f32⟩
  | .hbm, ⟨3, _⟩ => ⟨S4096x1024, .f32⟩
  | .hbm, ⟨4, _⟩ => ⟨S4096x5376, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x5376, .f32⟩
  | .hbm, ⟨25, _⟩ => ⟨S5376x1024, .f32⟩
  | .hbm, ⟨26, _⟩ => ⟨S1024x5376, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== MixOutKernel.lean ====
abbrev S4096x512 : Shape := ⟨2, ![4096, 512]⟩
abbrev S4096x1024 : Shape := ⟨2, ![4096, 1024]⟩
abbrev S512x1024 : Shape := ⟨2, ![512, 1024]⟩
abbrev S1024x1024 : Shape := ⟨2, ![1024, 1024]⟩
abbrev S4096x2048 : Shape := ⟨2, ![4096, 2048]⟩
abbrev S512x4x256 : Shape := ⟨3, ![512, 4, 256]⟩
abbrev S4x512x256 : Shape := ⟨3, ![4, 512, 256]⟩
abbrev S_ : Shape := ⟨0, ![]⟩
abbrev S512x512 : Shape := ⟨2, ![512, 512]⟩
abbrev S512x2048 : Shape := ⟨2, ![512, 2048]⟩
abbrev S1x512x256 : Shape := ⟨3, ![1, 512, 256]⟩
abbrev S512x256 : Shape := ⟨2, ![512, 256]⟩
abbrev S1024x512 : Shape := ⟨2, ![1024, 512]⟩

abbrev nBuf : Space → Nat
  | .hbm => 66
  | .vmem => 29
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S4096x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S4096x1024, .f32⟩
  | .hbm, ⟨8, _⟩ => ⟨S4096x2048, .f32⟩
  | .hbm, ⟨9, _⟩ => ⟨S4096x2048, .bf16⟩
  | .hbm, ⟨10, _⟩ => ⟨S4096x512, .bf16⟩
  | .hbm, ⟨11, _⟩ => ⟨S512x4x256, .f32⟩
  | .hbm, ⟨12, _⟩ => ⟨S4x512x256, .f32⟩
  | .hbm, ⟨13, _⟩ => ⟨S4x512x256, .bf16⟩
  | .hbm, ⟨14, _⟩ => ⟨S512x4x256, .f32⟩
  | .hbm, ⟨15, _⟩ => ⟨S4x512x256, .f32⟩
  | .hbm, ⟨16, _⟩ => ⟨S4x512x256, .bf16⟩
  | .hbm, ⟨17, _⟩ => ⟨S1024x1024, .bf16⟩
  | .hbm, ⟨18, _⟩ => ⟨S512x1024, .i32⟩
  | .hbm, ⟨19, _⟩ => ⟨S512x1024, .i32⟩
  | .hbm, ⟨20, _⟩ => ⟨S_, .i32⟩
  | .hbm, ⟨21, _⟩ => ⟨S512x1024, .i32⟩
  | .hbm, ⟨22, _⟩ => ⟨S512x1024, .i32⟩
  | .hbm, ⟨23, _⟩ => ⟨S_, .i32⟩
  | .hbm, ⟨24, _⟩ => ⟨S512x1024, .i32⟩
  | .hbm, ⟨25, _⟩ => ⟨S512x1024, .i32⟩
  | .hbm, ⟨26, _⟩ => ⟨S_, .i32⟩
  | .hbm, ⟨27, _⟩ => ⟨S512x1024, .i32⟩
  | .hbm, ⟨28, _⟩ => ⟨S512x1024, .i32⟩
  | .hbm, ⟨29, _⟩ => ⟨S_, .i32⟩
  | .hbm, ⟨30, _⟩ => ⟨S512x1024, .i32⟩
  | .hbm, ⟨31, _⟩ => ⟨S512x1024, .i32⟩
  | .hbm, ⟨32, _⟩ => ⟨S512x1024, .i32⟩
  | .hbm, ⟨33, _⟩ => ⟨S_, .i32⟩
  | .hbm, ⟨34, _⟩ => ⟨S512x1024, .i32⟩
  | .hbm, ⟨35, _⟩ => ⟨S512x1024, .i32⟩
  | .hbm, ⟨36, _⟩ => ⟨S512x1024, .i32⟩
  | .hbm, ⟨37, _⟩ => ⟨S512x1024, .i1⟩
  | .hbm, ⟨38, _⟩ => ⟨S_, .f32⟩
  | .hbm, ⟨39, _⟩ => ⟨S_, .f32⟩
  | .hbm, ⟨40, _⟩ => ⟨S512x1024, .f32⟩
  | .hbm, ⟨41, _⟩ => ⟨S512x1024, .f32⟩
  | .hbm, ⟨42, _⟩ => ⟨S512x1024, .f32⟩
  | .hbm, ⟨43, _⟩ => ⟨S512x1024, .bf16⟩
  | .hbm, ⟨44, _⟩ => ⟨S512x1024, .i32⟩
  | .hbm, ⟨45, _⟩ => ⟨S512x1024, .i32⟩
  | .hbm, ⟨46, _⟩ => ⟨S_, .i32⟩
  | .hbm, ⟨47, _⟩ => ⟨S512x1024, .i32⟩
  | .hbm, ⟨48, _⟩ => ⟨S512x1024, .i32⟩
  | .hbm, ⟨49, _⟩ => ⟨S_, .i32⟩
  | .hbm, ⟨50, _⟩ => ⟨S512x1024, .i32⟩
  | .hbm, ⟨51, _⟩ => ⟨S512x1024, .i32⟩
  | .hbm, ⟨52, _⟩ => ⟨S512x1024, .i1⟩
  | .hbm, ⟨53, _⟩ => ⟨S_, .f32⟩
  | .hbm, ⟨54, _⟩ => ⟨S_, .f32⟩
  | .hbm, ⟨55, _⟩ => ⟨S512x1024, .f32⟩
  | .hbm, ⟨56, _⟩ => ⟨S512x1024, .f32⟩
  | .hbm, ⟨57, _⟩ => ⟨S512x1024, .f32⟩
  | .hbm, ⟨58, _⟩ => ⟨S512x1024, .bf16⟩
  | .hbm, ⟨59, _⟩ => ⟨S4096x2048, .bf16⟩
  | .hbm, ⟨60, _⟩ => ⟨S4096x1024, .bf16⟩
  | .hbm, ⟨61, _⟩ => ⟨S4096x1024, .bf16⟩
  | .hbm, ⟨62, _⟩ => ⟨S4096x1024, .bf16⟩
  | .hbm, ⟨63, _⟩ => ⟨S4096x1024, .bf16⟩
  | .hbm, ⟨64, _⟩ => ⟨S4096x1024, .f32⟩
  | .hbm, ⟨65, _⟩ => ⟨S4096x512, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S4x512x256, .bf16⟩
  | .local _ .vmem, ⟨11, _⟩ => ⟨S4x512x256, .bf16⟩
  | .local _ .vmem, ⟨12, _⟩ => ⟨S1024x1024, .bf16⟩
  | .local _ .vmem, ⟨13, _⟩ => ⟨S512x1024, .bf16⟩
  | .local _ .vmem, ⟨14, _⟩ => ⟨S512x1024, .bf16⟩
  | .local _ .vmem, ⟨15, _⟩ => ⟨S512x2048, .bf16⟩
  | .local _ .vmem, ⟨16, _⟩ => ⟨S512x2048, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .f32⟩
  | .local _ .vmem, ⟨26, _⟩ => ⟨S512x1024, .f32⟩
  | .local _ .vmem, ⟨27, _⟩ => ⟨S512x512, .f32⟩
  | .local _ .vmem, ⟨28, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst : Ref sig .tc := ⟨.hbm, 38, rfl⟩
abbrev main_cst_4 : Ref sig .tc := ⟨.hbm, 39, rfl⟩
abbrev main_call0_v0 : Ref sig .tc := ⟨.hbm, 40, rfl⟩
abbrev main_call0_v1 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_cst_8 : Ref sig .tc := ⟨.hbm, 54, rfl⟩
abbrev main_call1_v0 : Ref sig .tc := ⟨.hbm, 55, rfl⟩
abbrev main_call1_v1 : Ref sig .tc := ⟨.hbm, 56, rfl⟩
abbrev main_v34 : Ref sig .tc := ⟨.hbm, 57, rfl⟩
abbrev main_v35 : Ref sig .tc := ⟨.hbm, 58, rfl⟩
abbrev main_v36_0 : Ref sig .tc := ⟨.hbm, 59, rfl⟩
abbrev main_v36_1 : Ref sig .tc := ⟨.hbm, 60, rfl⟩
abbrev main_v36_2 : Ref sig .tc := ⟨.hbm, 61, rfl⟩
abbrev main_v36_3 : Ref sig .tc := ⟨.hbm, 62, rfl⟩
abbrev main_v36_4 : Ref sig .tc := ⟨.hbm, 63, rfl⟩
abbrev main_v36_5 : Ref sig .tc := ⟨.hbm, 64, rfl⟩
abbrev main_v36_6 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== MixOutReferenceIdeal.lean ====
abbrev S4096x512 : Shape := ⟨2, ![4096, 512]⟩
abbrev S4096x1024 : Shape := ⟨2, ![4096, 1024]⟩
abbrev S512x1024 : Shape := ⟨2, ![512, 1024]⟩
abbrev S1024x1024 : Shape := ⟨2, ![1024, 1024]⟩
abbrev S_ : Shape := ⟨0, ![]⟩
abbrev S4096x8x64 : Shape := ⟨3, ![4096, 8, 64]⟩
abbrev S4096x4x64 : Shape := ⟨3, ![4096, 4, 64]⟩
abbrev S4096x4x128 : Shape := ⟨3, ![4096, 4, 128]⟩
abbrev S4096x8x128 : Shape := ⟨3, ![4096, 8, 128]⟩
abbrev S4096x8 : Shape := ⟨2, ![4096, 8]⟩
abbrev S4096x2048 : Shape := ⟨2, ![4096, 2048]⟩

abbrev nBuf : Space → Nat
  | .hbm => 112
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x1024, .f32⟩
  | .hbm, ⟨3, _⟩ => ⟨S4096x1024, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S4096x512, .f32⟩
  | .hbm, ⟨90, _⟩ => ⟨S4096x512, .f32⟩
  | .hbm, ⟨91, _⟩ => ⟨S4096x8x64, .f32⟩
  | .hbm, ⟨92, _⟩ => ⟨S_, .f32⟩
  | .hbm, ⟨93, _⟩ => ⟨S4096x4x64, .f32⟩
  | .hbm, ⟨94, _⟩ => ⟨S4096x4x64, .f32⟩
  | .hbm, ⟨95, _⟩ => ⟨S4096x4x128, .f32⟩
  | .hbm, ⟨96, _⟩ => ⟨S4096x4x64, .f32⟩
  | .hbm, ⟨97, _⟩ => ⟨S4096x4x128, .f32⟩
  | .hbm, ⟨98, _⟩ => ⟨S4096x8x128, .f32⟩
  | .hbm, ⟨99, _⟩ => ⟨S4096x1024, .f32⟩
  | .hbm, ⟨100, _⟩ => ⟨S4096x512, .f32⟩
  | .hbm, ⟨101, _⟩ => ⟨S4096x8x64, .f32⟩
  | .hbm, ⟨102, _⟩ => ⟨S_, .f32⟩
  | .hbm, ⟨103, _⟩ => ⟨S4096x8, .f32⟩
  | .hbm, ⟨104, _⟩ => ⟨S4096x2048, .f32⟩
  | .hbm, ⟨105, _⟩ => ⟨S4096x2048, .bf16⟩
  | .hbm, ⟨106, _⟩ => ⟨S4096x1024, .bf16⟩
  | .hbm, ⟨107, _⟩ => ⟨S4096x1024, .bf16⟩
  | .hbm, ⟨108, _⟩ => ⟨S4096x1024, .bf16⟩
  | .hbm, ⟨109, _⟩ => ⟨S4096x1024, .bf16⟩
  | .hbm, ⟨110, _⟩ => ⟨S4096x8x128, .f32⟩
  | .hbm, ⟨111, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_cst_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩
abbrev main_cst_12 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_13 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_cst_14 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩

abbrev nD : Nat := 1
abbrev τ : Topo := Topo.v7x

variable {F : FTy → Type} [FloatOps F]
-- ==== QkKernel.lean ====
abbrev S4096x768 : Shape := ⟨2, ![4096, 768]⟩
abbrev S1x64 : Shape := ⟨2, ![1, 64]⟩
abbrev S4096x512 : Shape := ⟨2, ![4096, 512]⟩
abbrev S4096x128 : Shape := ⟨2, ![4096, 128]⟩
abbrev S64 : Shape := ⟨1, ![64]⟩
abbrev S64x64 : Shape := ⟨2, ![64, 64]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S1x1x1x64 : Shape := ⟨4, ![1, 1, 1, 64]⟩
abbrev S1x1x8x64 : Shape := ⟨4, ![1, 1, 8, 64]⟩
abbrev S1x512 : Shape := ⟨2, ![1, 512]⟩
abbrev S1x1x2x64 : Shape := ⟨4, ![1, 1, 2, 64]⟩
abbrev S1x128 : Shape := ⟨2, ![1, 128]⟩
abbrev S512x512 : Shape := ⟨2, ![512, 512]⟩
abbrev S512x256 : Shape := ⟨2, ![512, 256]⟩
abbrev S512x128 : Shape := ⟨2, ![512, 128]⟩
abbrev S512x768 : Shape := ⟨2, ![512, 768]⟩
abbrev S1024x512 : Shape := ⟨2, ![1024, 512]⟩
abbrev S512 : Shape := ⟨1, ![512]⟩
abbrev S128x128 : Shape := ⟨2, ![128, 128]⟩
abbrev S1024x128 : Shape := ⟨2, ![1024, 128]⟩
abbrev S128 : Shape := ⟨1, ![128]⟩

abbrev nBuf : Space → Nat
  | .hbm => 89
  | .vmem => 22
  | .smem => 0
  | _ => 0

abbrev bufTy : (tb : Table) → Fin (tcTables nBuf tb) → BufTy
  | .hbm, ⟨0, _⟩ => ⟨S4096x768, .f32⟩
  | .hbm, ⟨1, _⟩ => ⟨S1x64, .f32⟩
  | .hbm, ⟨2, _⟩ => ⟨S1x64, .f32⟩
  | .hbm, ⟨3, _⟩ => ⟨S4096x512, .f32⟩
  | .hbm, ⟨4, _⟩ => ⟨S4096x128, .f32⟩
  | .hbm, ⟨5, _⟩ => ⟨S4096x128, .f32⟩
  | .hbm, ⟨6, _⟩ => ⟨S64, .f32⟩
  | .hbm, ⟨7, _⟩ => ⟨S64x64, .f32⟩
  | .hbm, ⟨8, _⟩ => ⟨S4096, .f32⟩
  | .hbm, ⟨9, _⟩ => ⟨S64, .f32⟩
  | .hbm, ⟨10, _⟩ => ⟨S1x64, .f32⟩
  | .hbm, ⟨11, _⟩ => ⟨S64x64, .f32⟩
  | .hbm, ⟨12, _⟩ => ⟨S4096, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S4096x1, .f32⟩
  | .hbm, ⟨22, _⟩ => ⟨S1x16, .f32⟩
  | .hbm, ⟨23, _⟩ => ⟨S4096x16, .f32⟩
  | .hbm, ⟨24, _⟩ => ⟨S4096x16, .f32⟩
  | .hbm, ⟨25, _⟩ => ⟨S4096x16, .f32⟩
  | .hbm, ⟨26, _⟩ => ⟨S4096x1, .f32⟩
  | .hbm, ⟨27, _⟩ => ⟨S1x16, .f32⟩
  | .hbm, ⟨28, _⟩ => ⟨S4096x16, .f32⟩
  | .hbm, ⟨29, _⟩ => ⟨S4096x16, .f32⟩
  | .hbm, ⟨30, _⟩ => ⟨S4096x16, .f32⟩
  | .hbm, ⟨31, _⟩ => ⟨S4096x32, .f32⟩
  | .hbm, ⟨32, _⟩ => ⟨S4096x32, .f32⟩
  | .hbm, ⟨33, _⟩ => ⟨S4096x32, .f32⟩
  | .hbm, ⟨34, _⟩ => ⟨S4096x64, .f32⟩
  | .hbm, ⟨35, _⟩ => ⟨S4096x32, .f32⟩
  | .hbm, ⟨36, _⟩ => ⟨S4096x64, .f32⟩
  | .hbm, ⟨37, _⟩ => ⟨S1x4096x1x64, .f32⟩
  | .hbm, ⟨38, _⟩ => ⟨S1x4096x2x64, .f32⟩
  | .hbm, ⟨39, _⟩ => ⟨S4096x128, .f32⟩
  | .hbm, ⟨40, _⟩ => ⟨S1x4096x1x64, .f32⟩
  | .hbm, ⟨41, _⟩ => ⟨S1x4096x2x64, .f32⟩
  | .hbm, ⟨42, _⟩ => ⟨S4096x128, .f32⟩
  | .hbm, ⟨43, _⟩ => ⟨S1x1x1x64, .f32⟩
  | .hbm, ⟨44, _⟩ => ⟨S1x1x8x64, .f32⟩
  | .hbm, ⟨45, _⟩ => ⟨S1x512, .f32⟩
  | .hbm, ⟨46, _⟩ => ⟨S1x1x1x64, .f32⟩
  | .hbm, ⟨47, _⟩ => ⟨S1x1x2x64, .f32⟩
  | .hbm, ⟨48, _⟩ => ⟨S1x128, .f32⟩
  | .hbm, ⟨49, _⟩ => ⟨S512x512, .i32⟩
  | .hbm, ⟨50, _⟩ => ⟨S512x512, .i32⟩
  | .hbm, ⟨51, _⟩ => ⟨S_, .i32⟩
  | .hbm, ⟨52, _⟩ => ⟨S512x512, .i32⟩
  | .hbm, ⟨53, _⟩ => ⟨S512x512, .i32⟩
  | .hbm, ⟨54, _⟩ => ⟨S_, .i32⟩
  | .hbm, ⟨55, _⟩ => ⟨S512x512, .i32⟩
  | .hbm, ⟨56, _⟩ => ⟨S512x512, .i32⟩
  | .hbm, ⟨57, _⟩ => ⟨S512x512, .i1⟩
  | .hbm, ⟨58, _⟩ => ⟨S_, .f32⟩
  | .hbm, ⟨59, _⟩ => ⟨S_, .f32⟩
  | .hbm, ⟨60, _⟩ => ⟨S512x512, .f32⟩
  | .hbm, ⟨61, _⟩ => ⟨S512x512, .f32⟩
  | .hbm, ⟨62, _⟩ => ⟨S512x512, .f32⟩
  | .hbm, ⟨63, _⟩ => ⟨S512x512, .bf16⟩
  | .hbm, ⟨64, _⟩ => ⟨S512x512, .i32⟩
  | .hbm, ⟨65, _⟩ => ⟨S512x512, .i32⟩
  | .hbm, ⟨66, _⟩ => ⟨S_, .i32⟩
  | .hbm, ⟨67, _⟩ => ⟨S512x512, .i32⟩
  | .hbm, ⟨68, _⟩ => ⟨S512x512, .i32⟩
  | .hbm, ⟨69, _⟩ => ⟨S_, .i32⟩
  | .hbm, ⟨70, _⟩ => ⟨S512x512, .i32⟩
  | .hbm, ⟨71, _⟩ => ⟨S512x512, .i1⟩
  | .hbm, ⟨72, _⟩ => ⟨S_, .i32⟩
  | .hbm, ⟨73, _⟩ => ⟨S512x512, .i32⟩
  | .hbm, ⟨74, _⟩ => ⟨S512x512, .i32⟩
  | .hbm, ⟨75, _⟩ => ⟨S_, .i32⟩
  | .hbm, ⟨76, _⟩ => ⟨S512x512, .i32⟩
  | .hbm, ⟨77, _⟩ => ⟨S512x512, .i32⟩
  | .hbm, ⟨78, _⟩ => ⟨S512x512, .i32⟩
  | .hbm, ⟨79, _⟩ => ⟨S512x512, .i1⟩
  | .hbm, ⟨80, _⟩ => ⟨S_, .f32⟩
  | .hbm, ⟨81, _⟩ => ⟨S_, .f32⟩
  | .hbm, ⟨82, _⟩ => ⟨S512x512, .f32⟩
  | .hbm, ⟨83, _⟩ => ⟨S512x512, .f32⟩
  | .hbm, ⟨84, _⟩ => ⟨S512x512, .f32⟩
  | .hbm, ⟨85, _⟩ => ⟨S512x512, .bf16⟩
  | .hbm, ⟨86, _⟩ => ⟨S4096x768, .bf16⟩
  | .hbm, ⟨87, _⟩ => ⟨S1x512, .f32⟩
  | .hbm, ⟨88, _⟩ => ⟨S1x128, .f32⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x512, .f32⟩
  | .local _ .vmem, ⟨11, _⟩ => ⟨S1x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x512, .bf16⟩
  | .local _ .vmem, ⟨17, _⟩ => ⟨S512x512, .bf16⟩
  | .local _ .vmem, ⟨18, _⟩ => ⟨S512x768, .bf16⟩
  | .local _ .vmem, ⟨19, _⟩ => ⟨S512x768, .bf16⟩
  | .local _ .vmem, ⟨20, _⟩ => ⟨S1x512, .f32⟩
  | .local _ .vmem, ⟨21, _⟩ => ⟨S1x128, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_c : Ref sig .tc := ⟨.hbm, 51, rfl⟩
abbrev main_v43 : Ref sig .tc := ⟨.hbm, 52, rfl⟩
abbrev main_v44 : Ref sig .tc := ⟨.hbm, 53, rfl⟩
abbrev main_c_1 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_2 : Ref sig .tc := ⟨.hbm, 58, rfl⟩
abbrev main_cst_3 : Ref sig .tc := ⟨.hbm, 59, rfl⟩
abbrev main_call0_v0 : Ref sig .tc := ⟨.hbm, 60, rfl⟩
abbrev main_call0_v1 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_c_4 : Ref sig .tc := ⟨.hbm, 66, rfl⟩
abbrev main_v52 : Ref sig .tc := ⟨.hbm, 67, rfl⟩
abbrev main_v53 : Ref sig .tc := ⟨.hbm, 68, rfl⟩
abbrev main_c_5 : Ref sig .tc := ⟨.hbm, 69, rfl⟩
abbrev main_v54 : Ref sig .tc := ⟨.hbm, 70, rfl⟩
abbrev main_v55 : Ref sig .tc := ⟨.hbm, 71, rfl⟩
abbrev main_c_6 : Ref sig .tc := ⟨.hbm, 72, rfl⟩
abbrev main_v56 : Ref sig .tc := ⟨.hbm, 73, rfl⟩
abbrev main_v57 : Ref sig .tc := ⟨.hbm, 74, rfl⟩
abbrev main_c_7 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_8 : Ref sig .tc := ⟨.hbm, 80, rfl⟩
abbrev main_cst_9 : Ref sig .tc := ⟨.hbm, 81, rfl⟩
abbrev main_call2_v0 : Ref sig .tc := ⟨.hbm, 82, rfl⟩
abbrev main_call2_v1 : Ref sig .tc := ⟨.hbm, 83, rfl⟩
abbrev main_v62 : Ref sig .tc := ⟨.hbm, 84, rfl⟩
abbrev main_v63 : Ref sig .tc := ⟨.hbm, 85, rfl⟩
abbrev main_v64_0 : Ref sig .tc := ⟨.hbm, 86, rfl⟩
abbrev main_v64_1 : Ref sig .tc := ⟨.hbm, 87, rfl⟩
abbrev main_v64_2 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x768 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== QkReferenceIdeal.lean ====
abbrev S4096x768 : Shape := ⟨2, ![4096, 768]⟩
abbrev S1x64 : Shape := ⟨2, ![1, 64]⟩
abbrev S4096x512 : Shape := ⟨2, ![4096, 512]⟩
abbrev S4096x128 : Shape := ⟨2, ![4096, 128]⟩
abbrev S8x64 : Shape := ⟨2, ![8, 64]⟩
abbrev S2x64 : Shape := ⟨2, ![2, 64]⟩
abbrev S64 : Shape := ⟨1, ![64]⟩
abbrev S64x64 : Shape := ⟨2, ![64, 64]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4096x8x64 : Shape := ⟨3, ![4096, 8, 64]⟩
abbrev S4096x8 : Shape := ⟨2, ![4096, 8]⟩
abbrev S4096x8x1 : Shape := ⟨3, ![4096, 8, 1]⟩
abbrev S1x8x64 : Shape := ⟨3, ![1, 8, 64]⟩
abbrev S4096x8x32 : Shape := ⟨3, ![4096, 8, 32]⟩
abbrev S4096x1x32 : Shape := ⟨3, ![4096, 1, 32]⟩
abbrev S4096x2x64 : Shape := ⟨3, ![4096, 2, 64]⟩
abbrev S4096x2 : Shape := ⟨2, ![4096, 2]⟩
abbrev S4096x2x1 : Shape := ⟨3, ![4096, 2, 1]⟩
abbrev S1x2x64 : Shape := ⟨3, ![1, 2, 64]⟩
abbrev S4096x2x32 : Shape := ⟨3, ![4096, 2, 32]⟩
abbrev S1x512 : Shape := ⟨2, ![1, 512]⟩
abbrev S1x128 : Shape := ⟨2, ![1, 128]⟩

abbrev nBuf : Space → Nat
  | .hbm => 205
  | .vmem => 0
  | .smem => 0
  | _ => 0

abbrev hbmTy0_0 (i : Nat) : BufTy := match i % 128 with
  | 0 => ⟨S4096x768, .f32⟩
  | 1 => ⟨S1x64, .f32⟩
  | 2 => ⟨S1x64, .f32⟩
  | 3 => ⟨S4096x512, .f32⟩
  | 4 => ⟨S4096x128, .f32⟩
  | 5 => ⟨S4096x128, .f32⟩
  | 6 => ⟨S4096x512, .f32⟩
  | 7 => ⟨S4096x128, .f32⟩
  | 8 => ⟨S4096x128, .f32⟩
  | 9 => ⟨S8x64, .f32⟩
  | 10 => ⟨S2x64, .f32⟩
  | 11 => ⟨S64, .f32⟩
  | 12 => ⟨S64x64, .f32⟩
  | 13 => ⟨S4096, .f32⟩
  | 14 => ⟨S64, .f32⟩
  | 15 => ⟨S1x64, .f32⟩
  | 16 => ⟨S64x64, .f32⟩
  | 17 => ⟨S4096, .f32⟩
  | 18 => ⟨S16, .f32⟩
  | 19 => ⟨S16, .f32⟩
  | 20 => ⟨S_, .f32⟩
  | 21 => ⟨S16, .f32⟩
  | 22 => ⟨S16, .f32⟩
  | 23 => ⟨S_, .f32⟩
  | 24 => ⟨S16, .f32⟩
  | 25 => ⟨S16, .f32⟩
  | 26 => ⟨S4096x1, .f32⟩
  | 27 => ⟨S1x16, .f32⟩
  | 28 => ⟨S4096x16, .f32⟩
  | 29 => ⟨S4096x16, .f32⟩
  | 30 => ⟨S4096x16, .f32⟩
  | 31 => ⟨S4096x1, .f32⟩
  | 32 => ⟨S1x16, .f32⟩
  | 33 => ⟨S4096x16, .f32⟩
  | 34 => ⟨S4096x16, .f32⟩
  | 35 => ⟨S4096x16, .f32⟩
  | 36 => ⟨S4096x32, .f32⟩
  | 37 => ⟨S4096x32, .f32⟩
  | 38 => ⟨S4096x32, .f32⟩
  | 39 => ⟨S4096x8x64, .f32⟩
  | 40 => ⟨S4096x8x64, .f32⟩
  | 41 => ⟨S_, .f32⟩
  | 42 => ⟨S4096x8, .f32⟩
  | 43 => ⟨S4096x8x1, .f32⟩
  | 44 => ⟨S_, .f32⟩
  | 45 => ⟨S4096x8x1, .f32⟩
  | 46 => ⟨S4096x8x1, .f32⟩
  | 47 => ⟨S_, .f32⟩
  | 48 => ⟨S4096x8x1, .f32⟩
  | 49 => ⟨S4096x8x1, .f32⟩
  | 50 => ⟨S4096x8x1, .f32⟩
  | 51 => ⟨S4096x8x1, .f32⟩
  | 52 => ⟨S_, .f32⟩
  | 53 => ⟨S4096x8x1, .f32⟩
  | 54 => ⟨S4096x8x1, .f32⟩
  | 55 => ⟨S4096x8x64, .f32⟩
  | 56 => ⟨S4096x8x64, .f32⟩
  | 57 => ⟨S1x8x64, .f32⟩
  | 58 => ⟨S4096x8x64, .f32⟩
  | 59 => ⟨S4096x8x64, .f32⟩
  | 60 => ⟨S4096x8x32, .f32⟩
  | 61 => ⟨S4096x8x32, .f32⟩
  | 62 => ⟨S4096x1x32, .f32⟩
  | 63 => ⟨S4096x1x32, .f32⟩
  | 64 => ⟨S4096x8x32, .f32⟩
  | 65 => ⟨S4096x8x32, .f32⟩
  | 66 => ⟨S4096x8x32, .f32⟩
  | 67 => ⟨S4096x8x32, .f32⟩
  | 68 => ⟨S4096x8x32, .f32⟩
  | 69 => ⟨S4096x8x32, .f32⟩
  | 70 => ⟨S4096x8x32, .f32⟩
  | 71 => ⟨S4096x8x32, .f32⟩
  | 72 => ⟨S4096x8x32, .f32⟩
  | 73 => ⟨S4096x8x32, .f32⟩
  | 74 => ⟨S4096x8x64, .f32⟩
  | 75 => ⟨S4096x2x64, .f32⟩
  | 76 => ⟨S4096x2x64, .f32⟩
  | 77 => ⟨S_, .f32⟩
  | 78 => ⟨S4096x2, .f32⟩
  | 79 => ⟨S4096x2x1, .f32⟩
  | 80 => ⟨S_, .f32⟩
  | 81 => ⟨S4096x2x1, .f32⟩
  | 82 => ⟨S4096x2x1, .f32⟩
  | 83 => ⟨S_, .f32⟩
  | 84 => ⟨S4096x2x1, .f32⟩
  | 85 => ⟨S4096x2x1, .f32⟩
  | 86 => ⟨S4096x2x1, .f32⟩
  | 87 => ⟨S4096x2x1, .f32⟩
  | 88 => ⟨S_, .f32⟩
  | 89 => ⟨S4096x2x1, .f32⟩
  | 90 => ⟨S4096x2x1, .f32⟩
  | 91 => ⟨S4096x2x64, .f32⟩
  | 92 => ⟨S4096x2x64, .f32⟩
  | 93 => ⟨S1x2x64, .f32⟩
  | 94 => ⟨S4096x2x64, .f32⟩
  | 95 => ⟨S4096x2x64, .f32⟩
  | 96 => ⟨S4096x2x32, .f32⟩
  | 97 => ⟨S4096x2x32, .f32⟩
  | 98 => ⟨S4096x1x32, .f32⟩
  | 99 => ⟨S4096x1x32, .f32⟩
  | 100 => ⟨S4096x2x32, .f32⟩
  | 101 => ⟨S4096x2x32, .f32⟩
  | 102 => ⟨S4096x2x32, .f32⟩
  | 103 => ⟨S4096x2x32, .f32⟩
  | 104 => ⟨S4096x2x32, .f32⟩
  | 105 => ⟨S4096x2x32, .f32⟩
  | 106 => ⟨S4096x2x32, .f32⟩
  | 107 => ⟨S4096x2x32, .f32⟩
  | 108 => ⟨S4096x2x32, .f32⟩
  | 109 => ⟨S4096x2x32, .f32⟩
  | 110 => ⟨S4096x2x64, .f32⟩
  | 111 => ⟨S_, .f32⟩
  | 112 => ⟨S4096x8x64, .f32⟩
  | 113 => ⟨S4096x8x64, .f32⟩
  | 114 => ⟨S4096x512, .f32⟩
  | 115 => ⟨S4096x128, .f32⟩
  | 116 => ⟨S4096x2x64, .f32⟩
  | 117 => ⟨S4096x8x64, .f32⟩
  | 118 => ⟨S_, .f32⟩
  | 119 => ⟨S4096x8x64, .f32⟩
  | 120 => ⟨S4096x8x64, .f32⟩
  | 121 => ⟨S4096x2x32, .f32⟩
  | 122 => ⟨S4096x2x32, .f32⟩
  | 123 => ⟨S4096x2x32, .f32⟩
  | 124 => ⟨S4096x2x32, .f32⟩
  | 125 => ⟨S4096x2x32, .f32⟩
  | 126 => ⟨S4096x2x32, .f32⟩
  | 127 => ⟨S4096x2x32, .f32⟩
  | _ => ⟨S4096x768, .f32⟩

abbrev hbmTy0_1 (i : Nat) : BufTy := match i % 128 with
  | 0 => ⟨S4096x2x32, .f32⟩
  | 1 => ⟨S4096x2x32, .f32⟩
  | 2 => ⟨S4096x2x32, .f32⟩
  | 3 => ⟨S4096x2x32, .f32⟩
  | 4 => ⟨S4096x2x32, .f32⟩
  | 5 => ⟨S4096x2x32, .f32⟩
  | 6 => ⟨S4096x2x64, .f32⟩
  | 7 => ⟨S4096x2x64, .f32⟩
  | 8 => ⟨S_, .f32⟩
  | 9 => ⟨S2x64, .f32⟩
  | 10 => ⟨S1x2x64, .f32⟩
  | 11 => ⟨S4096x2x64, .f32⟩
  | 12 => ⟨S4096x2x64, .f32⟩
  | 13 => ⟨S_, .f32⟩
  | 14 => ⟨S2x64, .f32⟩
  | 15 => ⟨S4096x2x64, .f32⟩
  | 16 => ⟨S_, .f32⟩
  | 17 => ⟨S4096x2, .f32⟩
  | 18 => ⟨S4096x2x1, .f32⟩
  | 19 => ⟨S4096x2x64, .f32⟩
  | 20 => ⟨S4096x2x64, .f32⟩
  | 21 => ⟨S4096x2x1, .f32⟩
  | 22 => ⟨S_, .f32⟩
  | 23 => ⟨S4096x2x1, .f32⟩
  | 24 => ⟨S4096x2x1, .f32⟩
  | 25 => ⟨S_, .f32⟩
  | 26 => ⟨S4096x2, .f32⟩
  | 27 => ⟨S4096x2x64, .f32⟩
  | 28 => ⟨S4096x2x64, .f32⟩
  | 29 => ⟨S4096x2x64, .f32⟩
  | 30 => ⟨S4096x2x64, .f32⟩
  | 31 => ⟨S4096x2x64, .f32⟩
  | 32 => ⟨S4096x128, .f32⟩
  | 33 => ⟨S4096x8x32, .f32⟩
  | 34 => ⟨S4096x8x32, .f32⟩
  | 35 => ⟨S4096x8x32, .f32⟩
  | 36 => ⟨S4096x8x32, .f32⟩
  | 37 => ⟨S4096x8x32, .f32⟩
  | 38 => ⟨S4096x8x32, .f32⟩
  | 39 => ⟨S4096x8x32, .f32⟩
  | 40 => ⟨S4096x8x32, .f32⟩
  | 41 => ⟨S4096x8x32, .f32⟩
  | 42 => ⟨S4096x8x32, .f32⟩
  | 43 => ⟨S4096x8x32, .f32⟩
  | 44 => ⟨S4096x8x32, .f32⟩
  | 45 => ⟨S4096x8x32, .f32⟩
  | 46 => ⟨S4096x8x64, .f32⟩
  | 47 => ⟨S4096x8x64, .f32⟩
  | 48 => ⟨S_, .f32⟩
  | 49 => ⟨S8x64, .f32⟩
  | 50 => ⟨S1x8x64, .f32⟩
  | 51 => ⟨S4096x8x64, .f32⟩
  | 52 => ⟨S4096x8x64, .f32⟩
  | 53 => ⟨S_, .f32⟩
  | 54 => ⟨S8x64, .f32⟩
  | 55 => ⟨S4096x8x64, .f32⟩
  | 56 => ⟨S_, .f32⟩
  | 57 => ⟨S4096x8, .f32⟩
  | 58 => ⟨S4096x8x1, .f32⟩
  | 59 => ⟨S4096x8x64, .f32⟩
  | 60 => ⟨S4096x8x64, .f32⟩
  | 61 => ⟨S4096x8x1, .f32⟩
  | 62 => ⟨S_, .f32⟩
  | 63 => ⟨S4096x8x1, .f32⟩
  | 64 => ⟨S4096x8x1, .f32⟩
  | 65 => ⟨S_, .f32⟩
  | 66 => ⟨S4096x8, .f32⟩
  | 67 => ⟨S4096x8x64, .f32⟩
  | 68 => ⟨S4096x8x64, .f32⟩
  | 69 => ⟨S4096x8x64, .f32⟩
  | 70 => ⟨S4096x8x64, .f32⟩
  | 71 => ⟨S4096x8x64, .f32⟩
  | 72 => ⟨S4096x512, .f32⟩
  | 73 => ⟨S4096x768, .f32⟩
  | 74 => ⟨S4096x768, .bf16⟩
  | 75 => ⟨S1x512, .f32⟩
  | 76 => ⟨S1x128, .f32⟩
  | _ => ⟨S4096x768, .f32⟩

abbrev hbmTy (i : Nat) : BufTy := match i / 128 with
  | 0 => hbmTy0_0 i
  | 1 => hbmTy0_1 i
  | _ => ⟨S4096x768, .f32⟩

abbrev bufTy : (tb : Table) → Fin (tcTables nBuf tb) → BufTy
  | .hbm, ⟨i, _⟩ => hbmTy i
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_1 : Ref sig .tc := ⟨.hbm, 41, rfl⟩
abbrev main_v33 : Ref sig .tc := ⟨.hbm, 42, rfl⟩
abbrev main_v34 : Ref sig .tc := ⟨.hbm, 43, rfl⟩
abbrev main_cst_2 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_cst_5 : Ref sig .tc := ⟨.hbm, 77, rfl⟩
abbrev main_v65 : Ref sig .tc := ⟨.hbm, 78, rfl⟩
abbrev main_v66 : Ref sig .tc := ⟨.hbm, 79, rfl⟩
abbrev main_cst_6 : Ref sig .tc := ⟨.hbm, 80, rfl⟩
abbrev main_v67 : Ref sig .tc := ⟨.hbm, 81, rfl⟩
abbrev main_v68 : Ref sig .tc := ⟨.hbm, 82, rfl⟩
abbrev main_cst_7 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_cst_8 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_cst_9 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_cst_10 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_cst_11 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_cst_12 : Ref sig .tc := ⟨.hbm, 141, rfl⟩
abbrev main_v122 : Ref sig .tc := ⟨.hbm, 142, rfl⟩
abbrev main_v123 : Ref sig .tc := ⟨.hbm, 143, rfl⟩
abbrev main_cst_13 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_cst_14 : Ref sig .tc := ⟨.hbm, 150, rfl⟩
abbrev main_v129 : Ref sig .tc := ⟨.hbm, 151, rfl⟩
abbrev main_v130 : Ref sig .tc := ⟨.hbm, 152, rfl⟩
abbrev main_cst_15 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_cst_16 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_cst_17 : Ref sig .tc := ⟨.hbm, 181, rfl⟩
abbrev main_v157 : Ref sig .tc := ⟨.hbm, 182, rfl⟩
abbrev main_v158 : Ref sig .tc := ⟨.hbm, 183, rfl⟩
abbrev main_cst_18 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_cst_19 : Ref sig .tc := ⟨.hbm, 190, rfl⟩
abbrev main_v164 : Ref sig .tc := ⟨.hbm, 191, rfl⟩
abbrev main_v165 : Ref sig .tc := ⟨.hbm, 192, rfl⟩
abbrev main_cst_20 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩

abbrev nD : Nat := 1
abbrev τ : Topo := Topo.v7x

variable {F : FTy → Type} [FloatOps F]
-- ==== FfnKernel.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S4x704x1024 : Shape := ⟨3, ![4, 704, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S4096x4x704 : Shape := ⟨3, ![4096, 4, 704]⟩
abbrev S4x4096x704 : Shape := ⟨3, ![4, 4096, 704]⟩
abbrev S512x1024 : Shape := ⟨2, ![512, 1024]⟩
abbrev S1x512x704 : Shape := ⟨3, ![1, 512, 704]⟩
abbrev S1x704x1024 : Shape := ⟨3, ![1, 704, 1024]⟩
abbrev S256x1024 : Shape := ⟨2, ![256, 1024]⟩
abbrev S704x1024 : Shape := ⟨2, ![704, 1024]⟩
abbrev S256x704 : Shape := ⟨2, ![256, 704]⟩
abbrev S1x256x704 : Shape := ⟨3, ![1, 256, 704]⟩
abbrev S512 : Shape := ⟨1, ![512]⟩
abbrev S512x1 : Shape := ⟨2, ![512, 1]⟩
abbrev S1024 : Shape := ⟨1, ![1024]⟩

abbrev nBuf : Space → Nat
  | .hbm => 66
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S2816x1024, .f32⟩
  | .hbm, ⟨7, _⟩ => ⟨S2816x1024, .f32⟩
  | .hbm, ⟨8, _⟩ => ⟨S4x704x1024, .f32⟩
  | .hbm, ⟨9, _⟩ => ⟨S4x704x1024, .bf16⟩
  | .hbm, ⟨10, _⟩ => ⟨S4x704x1024, .f32⟩
  | .hbm, ⟨11, _⟩ => ⟨S4x704x1024, .bf16⟩
  | .hbm, ⟨12, _⟩ => ⟨S4x704x1024, .f32⟩
  | .hbm, ⟨13, _⟩ => ⟨S4x704x1024, .bf16⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .bf16⟩
  | .hbm, ⟨30, _⟩ => ⟨S2816x1024, .bf16⟩
  | .hbm, ⟨31, _⟩ => ⟨S4096x2816, .f32⟩
  | .hbm, ⟨32, _⟩ => ⟨S2816x1024, .bf16⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x4x704, .f32⟩
  | .hbm, ⟨44, _⟩ => ⟨S4x4096x704, .f32⟩
  | .hbm, ⟨45, _⟩ => ⟨S4x4096x704, .bf16⟩
  | .hbm, ⟨46, _⟩ => ⟨S_, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S_, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x4x704, .f32⟩
  | .hbm, ⟨55, _⟩ => ⟨S4x4096x704, .f32⟩
  | .hbm, ⟨56, _⟩ => ⟨S4x4096x704, .bf16⟩
  | .hbm, ⟨57, _⟩ => ⟨S4096x4x704, .f32⟩
  | .hbm, ⟨58, _⟩ => ⟨S4x4096x704, .f32⟩
  | .hbm, ⟨59, _⟩ => ⟨S4x4096x704, .bf16⟩
  | .hbm, ⟨60, _⟩ => ⟨S4096x1024, .f32⟩
  | .hbm, ⟨61, _⟩ => ⟨S4x4096x704, .bf16⟩
  | .hbm, ⟨62, _⟩ => ⟨S4x4096x704, .bf16⟩
  | .hbm, ⟨63, _⟩ => ⟨S4x4096x704, .bf16⟩
  | .hbm, ⟨64, _⟩ => ⟨S1x1024, .f32⟩
  | .hbm, ⟨65, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x512x704, .bf16⟩
  | .local _ .vmem, ⟨6, _⟩ => ⟨S1x512x704, .bf16⟩
  | .local _ .vmem, ⟨7, _⟩ => ⟨S1x512x704, .bf16⟩
  | .local _ .vmem, ⟨8, _⟩ => ⟨S1x512x704, .bf16⟩
  | .local _ .vmem, ⟨9, _⟩ => ⟨S1x512x704, .bf16⟩
  | .local _ .vmem, ⟨10, _⟩ => ⟨S1x512x704, .bf16⟩
  | .local _ .vmem, ⟨11, _⟩ => ⟨S1x704x1024, .bf16⟩
  | .local _ .vmem, ⟨12, _⟩ => ⟨S1x704x1024, .bf16⟩
  | .local _ .vmem, ⟨13, _⟩ => ⟨S1x704x1024, .bf16⟩
  | .local _ .vmem, ⟨14, _⟩ => ⟨S1x704x1024, .bf16⟩
  | .local _ .vmem, ⟨15, _⟩ => ⟨S1x704x1024, .bf16⟩
  | .local _ .vmem, ⟨16, _⟩ => ⟨S1x704x1024, .bf16⟩
  | .local _ .vmem, ⟨17, _⟩ => ⟨S512x1024, .f32⟩
  | .local _ .vmem, ⟨18, _⟩ => ⟨S512x1024, .f32⟩
  | .local _ .vmem, ⟨19, _⟩ => ⟨S1x512x704, .bf16⟩
  | .local _ .vmem, ⟨20, _⟩ => ⟨S1x512x704, .bf16⟩
  | .local _ .vmem, ⟨21, _⟩ => ⟨S1x512x704, .bf16⟩
  | .local _ .vmem, ⟨22, _⟩ => ⟨S1x512x704, .bf16⟩
  | .local _ .vmem, ⟨23, _⟩ => ⟨S1x512x704, .bf16⟩
  | .local _ .vmem, ⟨24, _⟩ => ⟨S1x512x704, .bf16⟩
  | .local _ .vmem, ⟨25, _⟩ => ⟨S1x1024, .f32⟩
  | .local _ .vmem, ⟨26, _⟩ => ⟨S512x1024, .bf16⟩
  | .local _ .vmem, ⟨27, _⟩ => ⟨S512x1024, .bf16⟩
  | .local _ .vmem, ⟨28, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47_0 : Ref sig .tc := ⟨.hbm, 60, rfl⟩
abbrev main_v47_1 : Ref sig .tc := ⟨.hbm, 61, rfl⟩
abbrev main_v47_2 : Ref sig .tc := ⟨.hbm, 62, rfl⟩
abbrev main_v47_3 : Ref sig .tc := ⟨.hbm, 63, rfl⟩
abbrev main_v47_4 : Ref sig .tc := ⟨.hbm, 64, rfl⟩
abbrev main_v47_5 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg14_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v92 : BitVec 1 := Scalar.cmpi .eq arg1 c3_i32
  let v93 : BitVec 32 := Scalar.extui v92
  let c0_i32_73 : BitVec 32 := 0#32
  let v94 : BitVec 1 := Scalar.cmpi .ne v93 c0_i32_73
  v94

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x704x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x704x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x704x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== FfnReferenceIdeal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S1024 : Shape := ⟨1, ![1024]⟩
abbrev S4096x4x704 : Shape := ⟨3, ![4096, 4, 704]⟩
abbrev S4x4096x704 : Shape := ⟨3, ![4, 4096, 704]⟩

abbrev nBuf : Space → Nat
  | .hbm => 107
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S_, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S4096x1024, .f32⟩
  | .hbm, ⟨71, _⟩ => ⟨S4096x1024, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S_, .f32⟩
  | .hbm, ⟨77, _⟩ => ⟨S4096, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S4096x1024, .f32⟩
  | .hbm, ⟨84, _⟩ => ⟨S4096x4x704, .f32⟩
  | .hbm, ⟨85, _⟩ => ⟨S4x4096x704, .f32⟩
  | .hbm, ⟨86, _⟩ => ⟨S4x4096x704, .bf16⟩
  | .hbm, ⟨87, _⟩ => ⟨S4096x4x704, .f32⟩
  | .hbm, ⟨88, _⟩ => ⟨S4x4096x704, .f32⟩
  | .hbm, ⟨89, _⟩ => ⟨S4x4096x704, .bf16⟩
  | .hbm, ⟨90, _⟩ => ⟨S4096x2816, .f32⟩
  | .hbm, ⟨91, _⟩ => ⟨S4096x2816, .f32⟩
  | .hbm, ⟨92, _⟩ => ⟨S_, .f32⟩
  | .hbm, ⟨93, _⟩ => ⟨S4096x2816, .f32⟩
  | .hbm, ⟨94, _⟩ => ⟨S4096x2816, .f32⟩
  | .hbm, ⟨95, _⟩ => ⟨S_, .f32⟩
  | .hbm, ⟨96, _⟩ => ⟨S4096x2816, .f32⟩
  | .hbm, ⟨97, _⟩ => ⟨S4096x2816, .f32⟩
  | .hbm, ⟨98, _⟩ => ⟨S4096x2816, .f32⟩
  | .hbm, ⟨99, _⟩ => ⟨S4096x2816, .f32⟩
  | .hbm, ⟨100, _⟩ => ⟨S4096x4x704, .f32⟩
  | .hbm, ⟨101, _⟩ => ⟨S4x4096x704, .f32⟩
  | .hbm, ⟨102, _⟩ => ⟨S4x4096x704, .bf16⟩
  | .hbm, ⟨103, _⟩ => ⟨S_, .f32⟩
  | .hbm, ⟨104, _⟩ => ⟨S4096x1024, .f32⟩
  | .hbm, ⟨105, _⟩ => ⟨S4096x1024, .f32⟩
  | .hbm, ⟨106, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_5 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_7 : Ref sig .tc := ⟨.hbm, 73, rfl⟩
abbrev main_v44 : Ref sig .tc := ⟨.hbm, 74, rfl⟩
abbrev main_v45 : Ref sig .tc := ⟨.hbm, 75, rfl⟩
abbrev main_cst_8 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_call2_v0 : Ref sig .tc := ⟨.hbm, 90, rfl⟩
abbrev main_call2_v1 : Ref sig .tc := ⟨.hbm, 91, rfl⟩
abbrev main_call2_cst : Ref sig .tc := ⟨.hbm, 92, rfl⟩
abbrev main_call2_v2 : Ref sig .tc := ⟨.hbm, 93, rfl⟩
abbrev main_call2_v3 : Ref sig .tc := ⟨.hbm, 94, rfl⟩
abbrev main_call2_cst_0 : Ref sig .tc := ⟨.hbm, 95, rfl⟩
abbrev main_call2_v4 : Ref sig .tc := ⟨.hbm, 96, rfl⟩
abbrev main_call2_v5 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_9 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩

abbrev nD : Nat := 1
abbrev τ : Topo := Topo.v7x

variable {F : FTy → Type} [FloatOps F]
-- ==== MixInFwdKernel.lean ====
abbrev S4096x1024 : Shape := ⟨2, ![4096, 1024]⟩
abbrev S1x1024 : Shape := ⟨2, ![1, 1024]⟩
abbrev S1024x5376 : Shape := ⟨2, ![1024, 5376]⟩
abbrev S5376x1024 : Shape := ⟨2, ![5376, 1024]⟩
abbrev S4096x768 : Shape := ⟨2, ![4096, 768]⟩
abbrev S4096x2560 : Shape := ⟨2, ![4096, 2560]⟩
abbrev S4096x2048 : Shape := ⟨2, ![4096, 2048]⟩
abbrev S256x1024 : Shape := ⟨2, ![256, 1024]⟩
abbrev S256x768 : Shape := ⟨2, ![256, 768]⟩
abbrev S256x2560 : Shape := ⟨2, ![256, 2560]⟩
abbrev S256x2048 : Shape := ⟨2, ![256, 2048]⟩
abbrev S256 : Shape := ⟨1, ![256]⟩
abbrev S256x1 : Shape := ⟨2, ![256, 1]⟩
abbrev S768x1024 : Shape := ⟨2, ![768, 1024]⟩
abbrev S512x1024 : Shape := ⟨2, ![512, 1024]⟩
abbrev S256x512 : Shape := ⟨2, ![256, 512]⟩
abbrev S1024x1024 : Shape := ⟨2, ![1024, 1024]⟩

abbrev nBuf : Space → Nat
  | .hbm => 9
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5376, .f32⟩
  | .hbm, ⟨3, _⟩ => ⟨S5376x1024, .f32⟩
  | .hbm, ⟨4, _⟩ => ⟨S5376x1024, .bf16⟩
  | .hbm, ⟨5, _⟩ => ⟨S4096x768, .f32⟩
  | .hbm, ⟨6, _⟩ => ⟨S4096x2560, .f32⟩
  | .hbm, ⟨7, _⟩ => ⟨S4096x2048, .bf16⟩
  | .hbm, ⟨8, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S5376x1024, .bf16⟩
  | .local _ .vmem, ⟨4, _⟩ => ⟨S256x768, .f32⟩
  | .local _ .vmem, ⟨5, _⟩ => ⟨S256x768, .f32⟩
  | .local _ .vmem, ⟨6, _⟩ => ⟨S256x2560, .f32⟩
  | .local _ .vmem, ⟨7, _⟩ => ⟨S256x2560, .f32⟩
  | .local _ .vmem, ⟨8, _⟩ => ⟨S256x2048, .bf16⟩
  | .local _ .vmem, ⟨9, _⟩ => ⟨S256x2048, .bf16⟩
  | .local _ .vmem, ⟨10, _⟩ => ⟨S256x1024, .bf16⟩
  | .local _ .vmem, ⟨11, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5376x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MixInFwdReferenceIdeal.lean ====
abbrev S4096x1024 : Shape := ⟨2, ![4096, 1024]⟩
abbrev S1x1024 : Shape := ⟨2, ![1, 1024]⟩
abbrev S1024x5376 : Shape := ⟨2, ![1024, 5376]⟩
abbrev S_ : Shape := ⟨0, ![]⟩
abbrev S4096 : Shape := ⟨1, ![4096]⟩
abbrev S4096x1 : Shape := ⟨2, ![4096, 1]⟩
abbrev S4096x5376 : Shape := ⟨2, ![4096, 5376]⟩
abbrev S4096x768 : Shape := ⟨2, ![4096, 768]⟩
abbrev S4096x2560 : Shape := ⟨2, ![4096, 2560]⟩
abbrev S4096x2048 : Shape := ⟨2, ![4096, 2048]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5376, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x5376, .f32⟩
  | .hbm, ⟨19, _⟩ => ⟨S4096x768, .f32⟩
  | .hbm, ⟨20, _⟩ => ⟨S4096x2560, .f32⟩
  | .hbm, ⟨21, _⟩ => ⟨S4096x2048, .f32⟩
  | .hbm, ⟨22, _⟩ => ⟨S4096x2048, .bf16⟩
  | .hbm, ⟨23, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== MixOutFwdKernel.lean ====
abbrev S4096x1024 : Shape := ⟨2, ![4096, 1024]⟩
abbrev S4096x512 : Shape := ⟨2, ![4096, 512]⟩
abbrev S512x1024 : Shape := ⟨2, ![512, 1024]⟩
abbrev S1024x1024 : Shape := ⟨2, ![1024, 1024]⟩
abbrev S4096x2048 : Shape := ⟨2, ![4096, 2048]⟩
abbrev S512x4x256 : Shape := ⟨3, ![512, 4, 256]⟩
abbrev S4x512x256 : Shape := ⟨3, ![4, 512, 256]⟩
abbrev S512x512 : Shape := ⟨2, ![512, 512]⟩
abbrev S1x512x256 : Shape := ⟨3, ![1, 512, 256]⟩
abbrev S512x256 : Shape := ⟨2, ![512, 256]⟩

abbrev nBuf : Space → Nat
  | .hbm => 19
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x1024, .f32⟩
  | .hbm, ⟨4, _⟩ => ⟨S4096x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S4096x2048, .f32⟩
  | .hbm, ⟨9, _⟩ => ⟨S4096x2048, .bf16⟩
  | .hbm, ⟨10, _⟩ => ⟨S4096x512, .bf16⟩
  | .hbm, ⟨11, _⟩ => ⟨S512x4x256, .f32⟩
  | .hbm, ⟨12, _⟩ => ⟨S4x512x256, .f32⟩
  | .hbm, ⟨13, _⟩ => ⟨S4x512x256, .bf16⟩
  | .hbm, ⟨14, _⟩ => ⟨S512x4x256, .f32⟩
  | .hbm, ⟨15, _⟩ => ⟨S4x512x256, .f32⟩
  | .hbm, ⟨16, _⟩ => ⟨S4x512x256, .bf16⟩
  | .hbm, ⟨17, _⟩ => ⟨S1024x1024, .bf16⟩
  | .hbm, ⟨18, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S4x512x256, .bf16⟩
  | .local _ .vmem, ⟨11, _⟩ => ⟨S4x512x256, .bf16⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixOutFwdReferenceIdeal.lean ====
abbrev S4096x1024 : Shape := ⟨2, ![4096, 1024]⟩
abbrev S4096x512 : Shape := ⟨2, ![4096, 512]⟩
abbrev S512x1024 : Shape := ⟨2, ![512, 1024]⟩
abbrev S1024x1024 : Shape := ⟨2, ![1024, 1024]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .f32⟩
  | .hbm, ⟨2, _⟩ => ⟨S4096x512, .f32⟩
  | .hbm, ⟨3, _⟩ => ⟨S4096x1024, .f32⟩
  | .hbm, ⟨4, _⟩ => ⟨S4096x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩

abbrev nD : Nat := 1
abbrev τ : Topo := Topo.v7x

variable {F : FTy → Type} [FloatOps F]
-- ==== QkFwdKernel.lean ====
abbrev S4096x768 : Shape := ⟨2, ![4096, 768]⟩
abbrev S1x64 : Shape := ⟨2, ![1, 64]⟩
abbrev S64 : Shape := ⟨1, ![64]⟩
abbrev S64x64 : Shape := ⟨2, ![64, 64]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S1x1x1x64 : Shape := ⟨4, ![1, 1, 1, 64]⟩
abbrev S1x1x8x64 : Shape := ⟨4, ![1, 1, 8, 64]⟩
abbrev S1x512 : Shape := ⟨2, ![1, 512]⟩
abbrev S1x1x2x64 : Shape := ⟨4, ![1, 1, 2, 64]⟩
abbrev S1x128 : Shape := ⟨2, ![1, 128]⟩
abbrev S512x512 : Shape := ⟨2, ![512, 512]⟩
abbrev S512x1024 : Shape := ⟨2, ![512, 1024]⟩
abbrev S128x128 : Shape := ⟨2, ![128, 128]⟩
abbrev S4096x1024 : Shape := ⟨2, ![4096, 1024]⟩
abbrev S512x256 : Shape := ⟨2, ![512, 256]⟩
abbrev S512x128 : Shape := ⟨2, ![512, 128]⟩
abbrev S1024x512 : Shape := ⟨2, ![1024, 512]⟩
abbrev S1024x128 : Shape := ⟨2, ![1024, 128]⟩

abbrev nBuf : Space → Nat
  | .hbm => 128
  | .vmem => 22
  | .smem => 0
  | _ => 0

abbrev bufTy : (tb : Table) → Fin (tcTables nBuf tb) → BufTy
  | .hbm, ⟨0, _⟩ => ⟨S4096x768, .f32⟩
  | .hbm, ⟨1, _⟩ => ⟨S1x64, .f32⟩
  | .hbm, ⟨2, _⟩ => ⟨S1x64, .f32⟩
  | .hbm, ⟨3, _⟩ => ⟨S64, .f32⟩
  | .hbm, ⟨4, _⟩ => ⟨S64x64, .f32⟩
  | .hbm, ⟨5, _⟩ => ⟨S4096, .f32⟩
  | .hbm, ⟨6, _⟩ => ⟨S64, .f32⟩
  | .hbm, ⟨7, _⟩ => ⟨S1x64, .f32⟩
  | .hbm, ⟨8, _⟩ => ⟨S64x64, .f32⟩
  | .hbm, ⟨9, _⟩ => ⟨S4096, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S4096x1, .f32⟩
  | .hbm, ⟨19, _⟩ => ⟨S1x16, .f32⟩
  | .hbm, ⟨20, _⟩ => ⟨S4096x16, .f32⟩
  | .hbm, ⟨21, _⟩ => ⟨S4096x16, .f32⟩
  | .hbm, ⟨22, _⟩ => ⟨S4096x16, .f32⟩
  | .hbm, ⟨23, _⟩ => ⟨S4096x1, .f32⟩
  | .hbm, ⟨24, _⟩ => ⟨S1x16, .f32⟩
  | .hbm, ⟨25, _⟩ => ⟨S4096x16, .f32⟩
  | .hbm, ⟨26, _⟩ => ⟨S4096x16, .f32⟩
  | .hbm, ⟨27, _⟩ => ⟨S4096x16, .f32⟩
  | .hbm, ⟨28, _⟩ => ⟨S4096x32, .f32⟩
  | .hbm, ⟨29, _⟩ => ⟨S4096x32, .f32⟩
  | .hbm, ⟨30, _⟩ => ⟨S4096x32, .f32⟩
  | .hbm, ⟨31, _⟩ => ⟨S4096x64, .f32⟩
  | .hbm, ⟨32, _⟩ => ⟨S4096x32, .f32⟩
  | .hbm, ⟨33, _⟩ => ⟨S4096x64, .f32⟩
  | .hbm, ⟨34, _⟩ => ⟨S1x4096x1x64, .f32⟩
  | .hbm, ⟨35, _⟩ => ⟨S1x4096x2x64, .f32⟩
  | .hbm, ⟨36, _⟩ => ⟨S4096x128, .f32⟩
  | .hbm, ⟨37, _⟩ => ⟨S1x4096x1x64, .f32⟩
  | .hbm, ⟨38, _⟩ => ⟨S1x4096x2x64, .f32⟩
  | .hbm, ⟨39, _⟩ => ⟨S4096x128, .f32⟩
  | .hbm, ⟨40, _⟩ => ⟨S1x1x1x64, .f32⟩
  | .hbm, ⟨41, _⟩ => ⟨S1x1x8x64, .f32⟩
  | .hbm, ⟨42, _⟩ => ⟨S1x512, .f32⟩
  | .hbm, ⟨43, _⟩ => ⟨S1x1x1x64, .f32⟩
  | .hbm, ⟨44, _⟩ => ⟨S1x1x2x64, .f32⟩
  | .hbm, ⟨45, _⟩ => ⟨S1x128, .f32⟩
  | .hbm, ⟨46, _⟩ => ⟨S512x512, .i32⟩
  | .hbm, ⟨47, _⟩ => ⟨S512x512, .i32⟩
  | .hbm, ⟨48, _⟩ => ⟨S_, .i32⟩
  | .hbm, ⟨49, _⟩ => ⟨S512x512, .i32⟩
  | .hbm, ⟨50, _⟩ => ⟨S512x512, .i32⟩
  | .hbm, ⟨51, _⟩ => ⟨S_, .i32⟩
  | .hbm, ⟨52, _⟩ => ⟨S512x512, .i32⟩
  | .hbm, ⟨53, _⟩ => ⟨S512x512, .i32⟩
  | .hbm, ⟨54, _⟩ => ⟨S512x512, .i1⟩
  | .hbm, ⟨55, _⟩ => ⟨S_, .f32⟩
  | .hbm, ⟨56, _⟩ => ⟨S_, .f32⟩
  | .hbm, ⟨57, _⟩ => ⟨S512x512, .f32⟩
  | .hbm, ⟨58, _⟩ => ⟨S512x512, .f32⟩
  | .hbm, ⟨59, _⟩ => ⟨S512x512, .f32⟩
  | .hbm, ⟨60, _⟩ => ⟨S512x512, .bf16⟩
  | .hbm, ⟨61, _⟩ => ⟨S512x512, .i32⟩
  | .hbm, ⟨62, _⟩ => ⟨S512x512, .i32⟩
  | .hbm, ⟨63, _⟩ => ⟨S_, .i32⟩
  | .hbm, ⟨64, _⟩ => ⟨S512x512, .i32⟩
  | .hbm, ⟨65, _⟩ => ⟨S512x512, .i32⟩
  | .hbm, ⟨66, _⟩ => ⟨S_, .i32⟩
  | .hbm, ⟨67, _⟩ => ⟨S512x512, .i32⟩
  | .hbm, ⟨68, _⟩ => ⟨S512x512, .i1⟩
  | .hbm, ⟨69, _⟩ => ⟨S_, .i32⟩
  | .hbm, ⟨70, _⟩ => ⟨S512x512, .i32⟩
  | .hbm, ⟨71, _⟩ => ⟨S512x512, .i32⟩
  | .hbm, ⟨72, _⟩ => ⟨S_, .i32⟩
  | .hbm, ⟨73, _⟩ => ⟨S512x512, .i32⟩
  | .hbm, ⟨74, _⟩ => ⟨S512x512, .i32⟩
  | .hbm, ⟨75, _⟩ => ⟨S512x512, .i32⟩
  | .hbm, ⟨76, _⟩ => ⟨S512x512, .i1⟩
  | .hbm, ⟨77, _⟩ => ⟨S_, .f32⟩
  | .hbm, ⟨78, _⟩ => ⟨S_, .f32⟩
  | .hbm, ⟨79, _⟩ => ⟨S512x512, .f32⟩
  | .hbm, ⟨80, _⟩ => ⟨S512x512, .f32⟩
  | .hbm, ⟨81, _⟩ => ⟨S512x512, .f32⟩
  | .hbm, ⟨82, _⟩ => ⟨S512x512, .bf16⟩
  | .hbm, ⟨83, _⟩ => ⟨S512x1024, .i32⟩
  | .hbm, ⟨84, _⟩ => ⟨S512x1024, .i32⟩
  | .hbm, ⟨85, _⟩ => ⟨S_, .i32⟩
  | .hbm, ⟨86, _⟩ => ⟨S512x1024, .i32⟩
  | .hbm, ⟨87, _⟩ => ⟨S512x1024, .i32⟩
  | .hbm, ⟨88, _⟩ => ⟨S_, .i32⟩
  | .hbm, ⟨89, _⟩ => ⟨S512x1024, .i32⟩
  | .hbm, ⟨90, _⟩ => ⟨S512x1024, .i32⟩
  | .hbm, ⟨91, _⟩ => ⟨S_, .i32⟩
  | .hbm, ⟨92, _⟩ => ⟨S512x1024, .i32⟩
  | .hbm, ⟨93, _⟩ => ⟨S512x1024, .i32⟩
  | .hbm, ⟨94, _⟩ => ⟨S_, .i32⟩
  | .hbm, ⟨95, _⟩ => ⟨S512x1024, .i32⟩
  | .hbm, ⟨96, _⟩ => ⟨S512x1024, .i32⟩
  | .hbm, ⟨97, _⟩ => ⟨S512x1024, .i32⟩
  | .hbm, ⟨98, _⟩ => ⟨S_, .i32⟩
  | .hbm, ⟨99, _⟩ => ⟨S512x1024, .i32⟩
  | .hbm, ⟨100, _⟩ => ⟨S512x1024, .i32⟩
  | .hbm, ⟨101, _⟩ => ⟨S512x1024, .i32⟩
  | .hbm, ⟨102, _⟩ => ⟨S512x1024, .i1⟩
  | .hbm, ⟨103, _⟩ => ⟨S_, .f32⟩
  | .hbm, ⟨104, _⟩ => ⟨S_, .f32⟩
  | .hbm, ⟨105, _⟩ => ⟨S512x1024, .f32⟩
  | .hbm, ⟨106, _⟩ => ⟨S512x1024, .f32⟩
  | .hbm, ⟨107, _⟩ => ⟨S512x1024, .f32⟩
  | .hbm, ⟨108, _⟩ => ⟨S512x1024, .bf16⟩
  | .hbm, ⟨109, _⟩ => ⟨S128x128, .i32⟩
  | .hbm, ⟨110, _⟩ => ⟨S128x128, .i32⟩
  | .hbm, ⟨111, _⟩ => ⟨S_, .i32⟩
  | .hbm, ⟨112, _⟩ => ⟨S128x128, .i32⟩
  | .hbm, ⟨113, _⟩ => ⟨S128x128, .i32⟩
  | .hbm, ⟨114, _⟩ => ⟨S_, .i32⟩
  | .hbm, ⟨115, _⟩ => ⟨S128x128, .i32⟩
  | .hbm, ⟨116, _⟩ => ⟨S128x128, .i32⟩
  | .hbm, ⟨117, _⟩ => ⟨S128x128, .i1⟩
  | .hbm, ⟨118, _⟩ => ⟨S_, .f32⟩
  | .hbm, ⟨119, _⟩ => ⟨S_, .f32⟩
  | .hbm, ⟨120, _⟩ => ⟨S128x128, .f32⟩
  | .hbm, ⟨121, _⟩ => ⟨S128x128, .f32⟩
  | .hbm, ⟨122, _⟩ => ⟨S128x128, .f32⟩
  | .hbm, ⟨123, _⟩ => ⟨S128x128, .bf16⟩
  | .hbm, ⟨124, _⟩ => ⟨S4096x1024, .bf16⟩
  | .hbm, ⟨125, _⟩ => ⟨S4096x128, .bf16⟩
  | .hbm, ⟨126, _⟩ => ⟨S4096x128, .bf16⟩
  | .hbm, ⟨127, _⟩ => ⟨S4096x128, .bf16⟩
  | .local _ .vmem, ⟨0, _⟩ => ⟨S512x512, .f32⟩
  | .local _ .vmem, ⟨1, _⟩ => ⟨S512x512, .f32⟩
  | .local _ .vmem, ⟨2, _⟩ => ⟨S512x256, .f32⟩
  | .local _ .vmem, ⟨3, _⟩ => ⟨S512x256, .f32⟩
  | .local _ .vmem, ⟨4, _⟩ => ⟨S1x512, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x512, .bf16⟩
  | .local _ .vmem, ⟨11, _⟩ => ⟨S512x512, .bf16⟩
  | .local _ .vmem, ⟨12, _⟩ => ⟨S512x1024, .bf16⟩
  | .local _ .vmem, ⟨13, _⟩ => ⟨S128x128, .bf16⟩
  | .local _ .vmem, ⟨14, _⟩ => ⟨S512x1024, .bf16⟩
  | .local _ .vmem, ⟨15, _⟩ => ⟨S512x1024, .bf16⟩
  | .local _ .vmem, ⟨16, _⟩ => ⟨S512x128, .bf16⟩
  | .local _ .vmem, ⟨17, _⟩ => ⟨S512x128, .bf16⟩
  | .local _ .vmem, ⟨18, _⟩ => ⟨S512x128, .bf16⟩
  | .local _ .vmem, ⟨19, _⟩ => ⟨S512x128, .bf16⟩
  | .local _ .vmem, ⟨20, _⟩ => ⟨S512x128, .bf16⟩
  | .local _ .vmem, ⟨21, _⟩ => ⟨S512x128, .bf16⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_c : Ref sig .tc := ⟨.hbm, 48, rfl⟩
abbrev main_v43 : Ref sig .tc := ⟨.hbm, 49, rfl⟩
abbrev main_v44 : Ref sig .tc := ⟨.hbm, 50, rfl⟩
abbrev main_c_1 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_cst_2 : Ref sig .tc := ⟨.hbm, 55, rfl⟩
abbrev main_cst_3 : Ref sig .tc := ⟨.hbm, 56, rfl⟩
abbrev main_call0_v0 : Ref sig .tc := ⟨.hbm, 57, rfl⟩
abbrev main_call0_v1 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_c_4 : Ref sig .tc := ⟨.hbm, 63, rfl⟩
abbrev main_v52 : Ref sig .tc := ⟨.hbm, 64, rfl⟩
abbrev main_v53 : Ref sig .tc := ⟨.hbm, 65, rfl⟩
abbrev main_c_5 : Ref sig .tc := ⟨.hbm, 66, rfl⟩
abbrev main_v54 : Ref sig .tc := ⟨.hbm, 67, rfl⟩
abbrev main_v55 : Ref sig .tc := ⟨.hbm, 68, rfl⟩
abbrev main_c_6 : Ref sig .tc := ⟨.hbm, 69, rfl⟩
abbrev main_v56 : Ref sig .tc := ⟨.hbm, 70, rfl⟩
abbrev main_v57 : Ref sig .tc := ⟨.hbm, 71, rfl⟩
abbrev main_c_7 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_8 : Ref sig .tc := ⟨.hbm, 77, rfl⟩
abbrev main_cst_9 : Ref sig .tc := ⟨.hbm, 78, rfl⟩
abbrev main_call2_v0 : Ref sig .tc := ⟨.hbm, 79, rfl⟩
abbrev main_call2_v1 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_c_10 : Ref sig .tc := ⟨.hbm, 85, rfl⟩
abbrev main_v66 : Ref sig .tc := ⟨.hbm, 86, rfl⟩
abbrev main_v67 : Ref sig .tc := ⟨.hbm, 87, rfl⟩
abbrev main_c_11 : Ref sig .tc := ⟨.hbm, 88, rfl⟩
abbrev main_v68 : Ref sig .tc := ⟨.hbm, 89, rfl⟩
abbrev main_v69 : Ref sig .tc := ⟨.hbm, 90, rfl⟩
abbrev main_c_12 : Ref sig .tc := ⟨.hbm, 91, rfl⟩
abbrev main_v70 : Ref sig .tc := ⟨.hbm, 92, rfl⟩
abbrev main_v71 : Ref sig .tc := ⟨.hbm, 93, rfl⟩
abbrev main_c_13 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_c_14 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_15 : Ref sig .tc := ⟨.hbm, 103, rfl⟩
abbrev main_cst_16 : Ref sig .tc := ⟨.hbm, 104, rfl⟩
abbrev main_call3_v0 : Ref sig .tc := ⟨.hbm, 105, rfl⟩
abbrev main_call3_v1 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_c_17 : Ref sig .tc := ⟨.hbm, 111, rfl⟩
abbrev main_v83 : Ref sig .tc := ⟨.hbm, 112, rfl⟩
abbrev main_v84 : Ref sig .tc := ⟨.hbm, 113, rfl⟩
abbrev main_c_18 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_cst_19 : Ref sig .tc := ⟨.hbm, 118, rfl⟩
abbrev main_cst_20 : Ref sig .tc := ⟨.hbm, 119, rfl⟩
abbrev main_call4_v0 : Ref sig .tc := ⟨.hbm, 120, rfl⟩
abbrev main_call4_v1 : Ref sig .tc := ⟨.hbm, 121, rfl⟩
abbrev main_v88 : Ref sig .tc := ⟨.hbm, 122, rfl⟩
abbrev main_v89 : Ref sig .tc := ⟨.hbm, 123, rfl⟩
abbrev main_v90_0 : Ref sig .tc := ⟨.hbm, 124, rfl⟩
abbrev main_v90_1 : Ref sig .tc := ⟨.hbm, 125, rfl⟩
abbrev main_v90_2 : Ref sig .tc := ⟨.hbm, 126, rfl⟩
abbrev main_v90_3 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== QkFwdReferenceIdeal.lean ====
abbrev S4096x768 : Shape := ⟨2, ![4096, 768]⟩
abbrev S1x64 : Shape := ⟨2, ![1, 64]⟩
abbrev S4096x512 : Shape := ⟨2, ![4096, 512]⟩
abbrev S4096x128 : Shape := ⟨2, ![4096, 128]⟩
abbrev S64 : Shape := ⟨1, ![64]⟩
abbrev S64x64 : Shape := ⟨2, ![64, 64]⟩
abbrev S4096 : Shape := ⟨1, ![4096]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x32 : Shape := ⟨2, ![4096, 32]⟩
abbrev S4096x8x64 : Shape := ⟨3, ![4096, 8, 64]⟩
abbrev S4096x8 : Shape := ⟨2, ![4096, 8]⟩
abbrev S4096x8x1 : Shape := ⟨3, ![4096, 8, 1]⟩
abbrev S1x1x64 : Shape := ⟨3, ![1, 1, 64]⟩
abbrev S4096x8x32 : Shape := ⟨3, ![4096, 8, 32]⟩
abbrev S4096x1x32 : Shape := ⟨3, ![4096, 1, 32]⟩
abbrev S4096x2x64 : Shape := ⟨3, ![4096, 2, 64]⟩
abbrev S4096x2 : Shape := ⟨2, ![4096, 2]⟩
abbrev S4096x2x1 : Shape := ⟨3, ![4096, 2, 1]⟩
abbrev S4096x2x32 : Shape := ⟨3, ![4096, 2, 32]⟩
abbrev S4096x4x64 : Shape := ⟨3, ![4096, 4, 64]⟩
abbrev S4096x4x128 : Shape := ⟨3, ![4096, 4, 128]⟩
abbrev S4096x8x128 : Shape := ⟨3, ![4096, 8, 128]⟩
abbrev S4096x1024 : Shape := ⟨2, ![4096, 1024]⟩
abbrev S4096x64 : Shape := ⟨2, ![4096, 64]⟩

abbrev nBuf : Space → Nat
  | .hbm => 119
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S1x64, .f32⟩
  | .hbm, ⟨2, _⟩ => ⟨S1x64, .f32⟩
  | .hbm, ⟨3, _⟩ => ⟨S4096x512, .f32⟩
  | .hbm, ⟨4, _⟩ => ⟨S4096x128, .f32⟩
  | .hbm, ⟨5, _⟩ => ⟨S4096x128, .f32⟩
  | .hbm, ⟨6, _⟩ => ⟨S64, .f32⟩
  | .hbm, ⟨7, _⟩ => ⟨S64x64, .f32⟩
  | .hbm, ⟨8, _⟩ => ⟨S4096, .f32⟩
  | .hbm, ⟨9, _⟩ => ⟨S64, .f32⟩
  | .hbm, ⟨10, _⟩ => ⟨S1x64, .f32⟩
  | .hbm, ⟨11, _⟩ => ⟨S64x64, .f32⟩
  | .hbm, ⟨12, _⟩ => ⟨S4096, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S4096x1, .f32⟩
  | .hbm, ⟨22, _⟩ => ⟨S1x16, .f32⟩
  | .hbm, ⟨23, _⟩ => ⟨S4096x16, .f32⟩
  | .hbm, ⟨24, _⟩ => ⟨S4096x16, .f32⟩
  | .hbm, ⟨25, _⟩ => ⟨S4096x16, .f32⟩
  | .hbm, ⟨26, _⟩ => ⟨S4096x1, .f32⟩
  | .hbm, ⟨27, _⟩ => ⟨S1x16, .f32⟩
  | .hbm, ⟨28, _⟩ => ⟨S4096x16, .f32⟩
  | .hbm, ⟨29, _⟩ => ⟨S4096x16, .f32⟩
  | .hbm, ⟨30, _⟩ => ⟨S4096x16, .f32⟩
  | .hbm, ⟨31, _⟩ => ⟨S4096x32, .f32⟩
  | .hbm, ⟨32, _⟩ => ⟨S4096x32, .f32⟩
  | .hbm, ⟨33, _⟩ => ⟨S4096x32, .f32⟩
  | .hbm, ⟨34, _⟩ => ⟨S4096x8x64, .f32⟩
  | .hbm, ⟨35, _⟩ => ⟨S4096x8x64, .f32⟩
  | .hbm, ⟨36, _⟩ => ⟨S_, .f32⟩
  | .hbm, ⟨37, _⟩ => ⟨S4096x8, .f32⟩
  | .hbm, ⟨38, _⟩ => ⟨S4096x8x1, .f32⟩
  | .hbm, ⟨39, _⟩ => ⟨S_, .f32⟩
  | .hbm, ⟨40, _⟩ => ⟨S4096x8x1, .f32⟩
  | .hbm, ⟨41, _⟩ => ⟨S4096x8x1, .f32⟩
  | .hbm, ⟨42, _⟩ => ⟨S_, .f32⟩
  | .hbm, ⟨43, _⟩ => ⟨S4096x8x1, .f32⟩
  | .hbm, ⟨44, _⟩ => ⟨S4096x8x1, .f32⟩
  | .hbm, ⟨45, _⟩ => ⟨S4096x8x1, .f32⟩
  | .hbm, ⟨46, _⟩ => ⟨S4096x8x64, .f32⟩
  | .hbm, ⟨47, _⟩ => ⟨S4096x8x64, .f32⟩
  | .hbm, ⟨48, _⟩ => ⟨S1x1x64, .f32⟩
  | .hbm, ⟨49, _⟩ => ⟨S4096x8x64, .f32⟩
  | .hbm, ⟨50, _⟩ => ⟨S4096x8x64, .f32⟩
  | .hbm, ⟨51, _⟩ => ⟨S4096x8x32, .f32⟩
  | .hbm, ⟨52, _⟩ => ⟨S4096x8x32, .f32⟩
  | .hbm, ⟨53, _⟩ => ⟨S4096x1x32, .f32⟩
  | .hbm, ⟨54, _⟩ => ⟨S4096x1x32, .f32⟩
  | .hbm, ⟨55, _⟩ => ⟨S4096x8x32, .f32⟩
  | .hbm, ⟨56, _⟩ => ⟨S4096x8x32, .f32⟩
  | .hbm, ⟨57, _⟩ => ⟨S4096x8x32, .f32⟩
  | .hbm, ⟨58, _⟩ => ⟨S4096x8x32, .f32⟩
  | .hbm, ⟨59, _⟩ => ⟨S4096x8x32, .f32⟩
  | .hbm, ⟨60, _⟩ => ⟨S4096x8x32, .f32⟩
  | .hbm, ⟨61, _⟩ => ⟨S4096x8x32, .f32⟩
  | .hbm, ⟨62, _⟩ => ⟨S4096x8x32, .f32⟩
  | .hbm, ⟨63, _⟩ => ⟨S4096x8x32, .f32⟩
  | .hbm, ⟨64, _⟩ => ⟨S4096x8x32, .f32⟩
  | .hbm, ⟨65, _⟩ => ⟨S4096x8x64, .f32⟩
  | .hbm, ⟨66, _⟩ => ⟨S4096x2x64, .f32⟩
  | .hbm, ⟨67, _⟩ => ⟨S4096x2x64, .f32⟩
  | .hbm, ⟨68, _⟩ => ⟨S_, .f32⟩
  | .hbm, ⟨69, _⟩ => ⟨S4096x2, .f32⟩
  | .hbm, ⟨70, _⟩ => ⟨S4096x2x1, .f32⟩
  | .hbm, ⟨71, _⟩ => ⟨S_, .f32⟩
  | .hbm, ⟨72, _⟩ => ⟨S4096x2x1, .f32⟩
  | .hbm, ⟨73, _⟩ => ⟨S4096x2x1, .f32⟩
  | .hbm, ⟨74, _⟩ => ⟨S_, .f32⟩
  | .hbm, ⟨75, _⟩ => ⟨S4096x2x1, .f32⟩
  | .hbm, ⟨76, _⟩ => ⟨S4096x2x1, .f32⟩
  | .hbm, ⟨77, _⟩ => ⟨S4096x2x1, .f32⟩
  | .hbm, ⟨78, _⟩ => ⟨S4096x2x64, .f32⟩
  | .hbm, ⟨79, _⟩ => ⟨S4096x2x64, .f32⟩
  | .hbm, ⟨80, _⟩ => ⟨S1x1x64, .f32⟩
  | .hbm, ⟨81, _⟩ => ⟨S4096x2x64, .f32⟩
  | .hbm, ⟨82, _⟩ => ⟨S4096x2x64, .f32⟩
  | .hbm, ⟨83, _⟩ => ⟨S4096x2x32, .f32⟩
  | .hbm, ⟨84, _⟩ => ⟨S4096x2x32, .f32⟩
  | .hbm, ⟨85, _⟩ => ⟨S4096x1x32, .f32⟩
  | .hbm, ⟨86, _⟩ => ⟨S4096x1x32, .f32⟩
  | .hbm, ⟨87, _⟩ => ⟨S4096x2x32, .f32⟩
  | .hbm, ⟨88, _⟩ => ⟨S4096x2x32, .f32⟩
  | .hbm, ⟨89, _⟩ => ⟨S4096x2x32, .f32⟩
  | .hbm, ⟨90, _⟩ => ⟨S4096x2x32, .f32⟩
  | .hbm, ⟨91, _⟩ => ⟨S4096x2x32, .f32⟩
  | .hbm, ⟨92, _⟩ => ⟨S4096x2x32, .f32⟩
  | .hbm, ⟨93, _⟩ => ⟨S4096x2x32, .f32⟩
  | .hbm, ⟨94, _⟩ => ⟨S4096x2x32, .f32⟩
  | .hbm, ⟨95, _⟩ => ⟨S4096x2x32, .f32⟩
  | .hbm, ⟨96, _⟩ => ⟨S4096x2x32, .f32⟩
  | .hbm, ⟨97, _⟩ => ⟨S4096x2x64, .f32⟩
  | .hbm, ⟨98, _⟩ => ⟨S_, .f32⟩
  | .hbm, ⟨99, _⟩ => ⟨S4096x8x64, .f32⟩
  | .hbm, ⟨100, _⟩ => ⟨S4096x8x64, .f32⟩
  | .hbm, ⟨101, _⟩ => ⟨S4096x512, .f32⟩
  | .hbm, ⟨102, _⟩ => ⟨S4096x128, .f32⟩
  | .hbm, ⟨103, _⟩ => ⟨S4096x8x64, .f32⟩
  | .hbm, ⟨104, _⟩ => ⟨S_, .f32⟩
  | .hbm, ⟨105, _⟩ => ⟨S4096x4x64, .f32⟩
  | .hbm, ⟨106, _⟩ => ⟨S4096x4x64, .f32⟩
  | .hbm, ⟨107, _⟩ => ⟨S4096x4x128, .f32⟩
  | .hbm, ⟨108, _⟩ => ⟨S4096x4x64, .f32⟩
  | .hbm, ⟨109, _⟩ => ⟨S4096x4x128, .f32⟩
  | .hbm, ⟨110, _⟩ => ⟨S4096x8x128, .f32⟩
  | .hbm, ⟨111, _⟩ => ⟨S4096x1024, .f32⟩
  | .hbm, ⟨112, _⟩ => ⟨S4096x64, .f32⟩
  | .hbm, ⟨113, _⟩ => ⟨S4096x64, .f32⟩
  | .hbm, ⟨114, _⟩ => ⟨S4096x128, .f32⟩
  | .hbm, ⟨115, _⟩ => ⟨S4096x1024, .bf16⟩
  | .hbm, ⟨116, _⟩ => ⟨S4096x128, .bf16⟩
  | .hbm, ⟨117, _⟩ => ⟨S4096x128, .bf16⟩
  | .hbm, ⟨118, _⟩ => ⟨S4096x128, .bf16⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_1 : Ref sig .tc := ⟨.hbm, 36, rfl⟩
abbrev main_v31 : Ref sig .tc := ⟨.hbm, 37, rfl⟩
abbrev main_v32 : Ref sig .tc := ⟨.hbm, 38, rfl⟩
abbrev main_cst_2 : Ref sig .tc := ⟨.hbm, 39, rfl⟩
abbrev main_v33 : Ref sig .tc := ⟨.hbm, 40, rfl⟩
abbrev main_v34 : Ref sig .tc := ⟨.hbm, 41, rfl⟩
abbrev main_cst_3 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_cst_4 : Ref sig .tc := ⟨.hbm, 68, rfl⟩
abbrev main_v60 : Ref sig .tc := ⟨.hbm, 69, rfl⟩
abbrev main_v61 : Ref sig .tc := ⟨.hbm, 70, rfl⟩
abbrev main_cst_5 : Ref sig .tc := ⟨.hbm, 71, rfl⟩
abbrev main_v62 : Ref sig .tc := ⟨.hbm, 72, rfl⟩
abbrev main_v63 : Ref sig .tc := ⟨.hbm, 73, rfl⟩
abbrev main_cst_6 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_cst_7 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_cst_8 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩

abbrev nD : Nat := 1
abbrev τ : Topo := Topo.v7x

variable {F : FTy → Type} [FloatOps F]
-- ==== Proof.RealNum.lean ====
/-
  Real numbers among the extended reals. Every gradient below is proved for arguments whose entries are real numbers:
  both programs' results are then pushed to coercions of real expressions, where the field's laws hold, and compared
  there. This module has the steps that push: a finiteness test read as a real number, sums, quotients by a nonzero
  real, reciprocal roots of a positive real, and the literals the programs use.
-/
module

public import Idealize.ShloMosaic.PureOps
public import Idealize.ShloMosaic.Lib.Pointwise
public import Idealize.ShloMosaic.Lib.IdealHost

@[expose] public section

noncomputable section

namespace Cert.RealNum

open Idealize.ShloMosaic

/-- The value the programs' `1e-6` literal has. -/
def eps : ℝ := 8796093 / 8796093022208

theorem eps_pos : 0 < eps := by unfold eps; norm_num

theorem ofBits_eps : Ideal.ofBits .f32 0x358637BD#32 = ((eps : ℝ) : EReal) := by
  unfold eps
  simp [Ideal.ofBits, Ideal.ieee, -EReal.coe_mul]
  norm_num

theorem ofBits_half : Ideal.ofBits .f32 0x3F000000#32 = ((1 / 2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_eighth : Ideal.ofBits .f32 0x3E000000#32 = ((1 / 8 : ℝ) : EReal) := by
  simp [Ideal.ofBits, Ideal.ieee, -EReal.coe_mul]; norm_num
theorem ofBits_ninf : Ideal.ofBits .f32 0xFF800000#32 = (⊥ : EReal) := by simp [Ideal.ofBits, Ideal.ieee]
theorem ofBits_1024 : Ideal.ofBits .f32 0x44800000#32 = ((1024 : ℝ) : EReal) := by
  simp [Ideal.ofBits, Ideal.ieee, -EReal.coe_mul]; norm_num
theorem ofBits_inv1024 : Ideal.ofBits .f32 0x3A800000#32 = ((1 / 1024 : ℝ) : EReal) := by
  simp [Ideal.ofBits, Ideal.ieee, -EReal.coe_mul]; norm_num

/-- A sum of real numbers is a real number. -/
theorem sum_coe {ι : Type} [Fintype ι] (f : ι → ℝ) : (∑ i, ((f i : ℝ) : EReal)) = ((∑ i, f i : ℝ) : EReal) :=
  (map_sum (⟨⟨fun x : ℝ => (x : EReal), EReal.coe_zero⟩, EReal.coe_add⟩ : ℝ →+ EReal) f Finset.univ).symm

/-- A quotient by a nonzero real number. -/
theorem div_ne {y : ℝ} (h : y ≠ 0) (x : ℝ) : Ideal.div (x : EReal) (y : EReal) = ((x / y : ℝ) : EReal) := by
  rw [Ideal.div_coe h, ← EReal.coe_mul, mul_one_div]

/-- The reciprocal root of a positive real number. -/
theorem rsqrt_pos {x : ℝ} (h : 0 < x) : Ideal.rsqrt (x : EReal) = (((Real.sqrt x)⁻¹ : ℝ) : EReal) := by
  rw [Ideal.rsqrt_coe, if_neg (not_lt.mpr h.le), if_neg h.ne']

/-- An extended real whose absolute value is below the infinity is a real number. -/
theorem real_of_abs_lt (x : EReal)
    (h : BitVec.ofBool (decide ((FloatOps.absf (F := Ideal) (φ := .f32) x : EReal) < Ideal.ofBits .f32 0x7F800000#32)) = 1#1) :
    ∃ r : ℝ, x = r := by
  have e : Ideal.ofBits .f32 0x7F800000#32 = (⊤ : EReal) := by simp [Ideal.ofBits, Ideal.ieee]
  have hlt : (max x (-x) : EReal) < ⊤ := by
    have := congrArg (fun b : BitVec 1 => b == 1#1) h
    rw [e] at this
    by_contra hn
    have hn' : ¬((FloatOps.absf (F := Ideal) (φ := .f32) x : EReal) < ⊤) := hn
    simp [hn'] at this
  induction x using EReal.rec with
  | bot => simp at hlt
  | coe a => exact ⟨a, rfl⟩
  | top => simp at hlt

/-- An array all of whose entries pass the test `|x| < ∞` is an array of real numbers. -/
theorem reals_of_test {S : Shape} (hS : (⟨0, ![]⟩ : Shape).BroadcastsInDim S (![] : Fin 0 → Fin S.rank)) (a : FVec Ideal S .f32)
    (h : cmpf .olt (Host.absf a) (broadcastInDim S ![] hS (constant ⟨0, ![]⟩ .f32 0x7F800000#32)) = fun _ => 1#1) :
    ∃ A : S.Idx → ℝ, a = fun j => ((A j : ℝ) : EReal) := by
  have key : ∀ j, ∃ r : ℝ, a j = r := fun j => real_of_abs_lt (a j) (by
    have h2 := congrFun h j
    revert h2
    pointwise
    exact id)
  exact ⟨fun j => (key j).choose, funext fun j => (key j).choose_spec⟩

/-! ## The mean square of a row and its reciprocal root -/

/-- A row's mean square plus the small constant, `d` being the number of entries. -/
def ms {n : ℕ} (d : ℝ) (x : Fin n → ℝ) : ℝ := (∑ k, x k * x k) / d + eps

/-- Its reciprocal root: what a row is multiplied by when it is normalised. -/
def rn {n : ℕ} (d : ℝ) (x : Fin n → ℝ) : ℝ := (Real.sqrt (ms d x))⁻¹

theorem ms_fold {n : ℕ} (d : ℝ) (x : Fin n → ℝ) : (∑ k, x k * x k) / d + eps = ms d x := rfl

theorem ms_pos {n : ℕ} {d : ℝ} (hd : 0 < d) (x : Fin n → ℝ) : 0 < ms d x :=
  add_pos_of_nonneg_of_pos (div_nonneg (Finset.sum_nonneg fun k _ => mul_self_nonneg (x k)) hd.le) eps_pos

theorem rsqrt_ms {n : ℕ} {d : ℝ} (hd : 0 < d) (x : Fin n → ℝ) : Ideal.rsqrt ((ms d x : ℝ) : EReal) = ((rn d x : ℝ) : EReal) :=
  rsqrt_pos (ms_pos hd x)

theorem div_ms {n : ℕ} {d : ℝ} (hd : 0 < d) (x : Fin n → ℝ) (a : ℝ) :
    Ideal.div (a : EReal) ((ms d x : ℝ) : EReal) = ((a / ms d x : ℝ) : EReal) :=
  div_ne (ms_pos hd x).ne' a

theorem rn_pos {n : ℕ} {d : ℝ} (hd : 0 < d) (x : Fin n → ℝ) : 0 < rn d x := inv_pos.mpr (Real.sqrt_pos.mpr (ms_pos hd x))

/-- Dividing by the mean square is multiplying twice by its reciprocal root. -/
theorem div_ms_eq {n : ℕ} {d : ℝ} (hd : 0 < d) (x : Fin n → ℝ) (a : ℝ) : a / ms d x = a * (rn d x * rn d x) := by
  have h := Real.mul_self_sqrt (ms_pos hd x).le
  rw [rn, ← mul_inv, h, div_eq_mul_inv]

end Cert.RealNum
end
-- ==== Proof.AttnSpec.lean ====
/-
  Attention over real numbers, head by head: the scores, the row sums of their exponentials, the probabilities, the
  output, and the gradients of the scaled queries, the keys and the values. Both programs' results are these functions
  of the arguments. Eight query heads of 64 columns; heads 0 to 3 read the first 64 columns of the keys and values,
  heads 4 to 7 the last.
-/
module

public import proofs.«01_k».proof.Proof.RealNum
public import Idealize.ShloMosaic.Lib.Pipeline.ValueKit

@[expose] public section

noncomputable section

namespace Cert.AttnSpec

open Idealize.ShloMosaic
open Cert.RealNum

/-- The column of the queries, of the output and of its cotangent that head `h` has at lane `d`. -/
def qc (h : Fin 8) (d : Fin 64) : Fin 512 := ⟨h.val * 64 + d.val, by omega⟩
/-- The column of the keys and values that head `h` reads at lane `d`. -/
def kc (h : Fin 8) (d : Fin 64) : Fin 128 := ⟨h.val / 4 * 64 + d.val, by omega⟩
/-- The head a column of the output belongs to, and its lane there. -/
def hd (c : Fin 512) : Fin 8 := ⟨c.val / 64, by omega⟩
def ln (c : Fin 512) : Fin 64 := ⟨c.val % 64, by omega⟩
/-- Head `r` of group `g`. -/
def hh (g : Fin 2) (r : Fin 4) : Fin 8 := ⟨g.val * 4 + r.val, by omega⟩
/-- The query head `r` of the group that a column of the keys belongs to, and the column's lane there. -/
def gh (c : Fin 128) (r : Fin 4) : Fin 8 := ⟨c.val / 64 * 4 + r.val, by omega⟩
def gl (c : Fin 128) : Fin 64 := ⟨c.val % 64, by omega⟩

variable (Q : Fin 4096 → Fin 512 → ℝ) (K V : Fin 4096 → Fin 128 → ℝ) (D : Fin 4096 → Fin 512 → ℝ)

/-- The score of query `i` and key `j` under head `h`. -/
def sc (h : Fin 8) (i j : Fin 4096) : ℝ := ∑ d, K j (kc h d) * (Q i (qc h d) * (1 / 8))
/-- The row sum of the exponentials. -/
def Z (h : Fin 8) (i : Fin 4096) : ℝ := ∑ j, Real.exp (sc Q K h i j)
/-- The probability. -/
def P (h : Fin 8) (i j : Fin 4096) : ℝ := Real.exp (sc Q K h i j) / Z Q K h i
/-- The output. -/
def O (h : Fin 8) (i : Fin 4096) (d : Fin 64) : ℝ := ∑ j, V j (kc h d) * P Q K h i j
/-- The probability's gradient. -/
def dP (h : Fin 8) (i j : Fin 4096) : ℝ := ∑ d, D i (qc h d) * V j (kc h d)
/-- The score's gradient. -/
def dS (h : Fin 8) (i j : Fin 4096) : ℝ := P Q K h i j * (dP V D h i j - ∑ k, dP V D h i k * P Q K h i k)
/-- The gradient of the scaled queries. -/
def dQ (h : Fin 8) (i : Fin 4096) (d : Fin 64) : ℝ := ∑ j, K j (kc h d) * dS Q K V D h i j
/-- One head's part of the gradients of the keys and of the values. -/
def dKh (h : Fin 8) (d : Fin 64) (j : Fin 4096) : ℝ := ∑ i, Q i (qc h d) * (1 / 8) * dS Q K V D h i j
def dVh (h : Fin 8) (d : Fin 64) (j : Fin 4096) : ℝ := ∑ i, D i (qc h d) * P Q K h i j

/-- The five results as arrays. -/
def oArr : FVec Ideal ⟨2, ![4096, 512]⟩ .f32 := fun y => ((O Q K V (hd (y 1)) (y 0) (ln (y 1)) : ℝ) : EReal)
def lArr : FVec Ideal ⟨3, ![8, 4096, 1]⟩ .f32 := fun y => ((Real.log (Z Q K (y 0) (y 1)) : ℝ) : EReal)
def dqArr : FVec Ideal ⟨2, ![512, 4096]⟩ .f32 := fun y => ((dQ Q K V D (hd (y 0)) (y 1) (ln (y 0)) : ℝ) : EReal)
def dkArr : FVec Ideal ⟨2, ![128, 4096]⟩ .f32 := fun y => ((∑ r, dKh Q K V D (gh (y 0) r) (gl (y 0)) (y 1) : ℝ) : EReal)
def dvArr : FVec Ideal ⟨2, ![128, 4096]⟩ .f32 := fun y => ((∑ r, dVh Q K D (gh (y 0) r) (gl (y 0)) (y 1) : ℝ) : EReal)

theorem oArr_apply (i : Fin 4096) (c : Fin 512) : oArr Q K V (ix2 i c) = ((O Q K V (hd c) i (ln c) : ℝ) : EReal) := rfl
theorem lArr_apply (h : Fin 8) (i : Fin 4096) (u : Fin 1) : lArr Q K (ix3 h i u) = ((Real.log (Z Q K h i) : ℝ) : EReal) := rfl
theorem dqArr_apply (c : Fin 512) (i : Fin 4096) : dqArr Q K V D (ix2 c i) = ((dQ Q K V D (hd c) i (ln c) : ℝ) : EReal) := rfl
theorem dkArr_apply (c : Fin 128) (j : Fin 4096) : dkArr Q K V D (ix2 c j) = ((∑ r, dKh Q K V D (gh c r) (gl c) j : ℝ) : EReal) := rfl
theorem dvArr_apply (c : Fin 128) (j : Fin 4096) : dvArr Q K D (ix2 c j) = ((∑ r, dVh Q K D (gh c r) (gl c) j : ℝ) : EReal) := rfl

/-! ## Rows of exponentials -/

/-- A row's greatest entry. -/
def rowMax {n : ℕ} [NeZero n] (f : Fin n → ℝ) : ℝ := Finset.univ.sup' Finset.univ_nonempty f

theorem fold_max_coe {n : ℕ} [NeZero n] (f : Fin n → ℝ) : Finset.univ.fold max (⊥ : EReal) (fun k => ((f k : ℝ) : EReal)) = ((rowMax f : ℝ) : EReal) := by
  unfold rowMax
  rw [Finset.comp_sup'_eq_sup'_comp (f := f) Finset.univ_nonempty (fun x : ℝ => (x : EReal)) fun x y => EReal.coe_strictMono.monotone.map_max]
  exact (Finset.sup'_eq_sup Finset.univ_nonempty fun k => ((f k : ℝ) : EReal)).symm

theorem sum_exp_pos {n : ℕ} [NeZero n] (f : Fin n → ℝ) : 0 < ∑ k, Real.exp (f k) :=
  Finset.sum_pos (fun k _ => Real.exp_pos _) ⟨0, Finset.mem_univ _⟩

theorem Z_pos (h : Fin 8) (i : Fin 4096) : 0 < Z Q K h i := sum_exp_pos _

theorem div_sum_exp {n : ℕ} [NeZero n] (a : ℝ) (f : Fin n → ℝ) :
    Ideal.div (a : EReal) ((∑ k, Real.exp (f k) : ℝ) : EReal) = ((a / ∑ k, Real.exp (f k) : ℝ) : EReal) :=
  div_ne (sum_exp_pos f).ne' a

theorem div_sum_exp_sq {n : ℕ} [NeZero n] (a : ℝ) (f : Fin n → ℝ) :
    Ideal.div (a : EReal) (((∑ k, Real.exp (f k)) * ∑ k, Real.exp (f k) : ℝ) : EReal) = ((a / ((∑ k, Real.exp (f k)) * ∑ k, Real.exp (f k)) : ℝ) : EReal) :=
  div_ne (mul_pos (sum_exp_pos f) (sum_exp_pos f)).ne' a

theorem log_sum_exp {n : ℕ} [NeZero n] (f : Fin n → ℝ) :
    Ideal.log ((∑ k, Real.exp (f k) : ℝ) : EReal) = ((Real.log (∑ k, Real.exp (f k)) : ℝ) : EReal) := by
  rw [Ideal.log_coe, if_neg (not_le.mpr (sum_exp_pos f))]

/-- Subtracting one number from a row leaves its softmax. -/
theorem softmax_shift {n : ℕ} (f : Fin n → ℝ) (M : ℝ) (j : Fin n) :
    Real.exp (f j - M) / ∑ k, Real.exp (f k - M) = Real.exp (f j) / ∑ k, Real.exp (f k) := by
  simp only [Real.exp_sub, ← Finset.sum_div]
  exact div_div_div_cancel_right₀ (Real.exp_pos M).ne' _ _

/-- The row log-sum from the greatest entry and the sum of the exponentials of the differences. -/
theorem log_sum_shift {n : ℕ} [NeZero n] (f : Fin n → ℝ) (M : ℝ) :
    M + Real.log (∑ k, Real.exp (f k - M)) = Real.log (∑ k, Real.exp (f k)) := by
  have h : ∑ k, Real.exp (f k - M) = (∑ k, Real.exp (f k)) / Real.exp M := by simp only [Real.exp_sub, ← Finset.sum_div]
  rw [h, Real.log_div (sum_exp_pos f).ne' (Real.exp_pos M).ne', Real.log_exp]
  ring

/-- The probability from the score and the row log-sum. -/
theorem exp_sub_log {n : ℕ} [NeZero n] (f : Fin n → ℝ) (j : Fin n) :
    Real.exp (f j - Real.log (∑ k, Real.exp (f k))) = Real.exp (f j) / ∑ k, Real.exp (f k) := by
  rw [Real.exp_sub, Real.exp_log (sum_exp_pos f)]

/-- The score's gradient as the derivative of the softmax's lines writes it. -/
theorem softmax_grad {n : ℕ} [NeZero n] (f g : Fin n → ℝ) (M : ℝ) (j : Fin n) :
    (g j / (∑ k, Real.exp (f k - M)) + -(∑ k, g k * (1 / ((∑ k, Real.exp (f k - M)) * ∑ k, Real.exp (f k - M))) * Real.exp (f k - M))) * Real.exp (f j - M)
      = Real.exp (f j) / (∑ k, Real.exp (f k)) * (g j - ∑ k, g k * (Real.exp (f k) / ∑ k, Real.exp (f k))) := by
  simp only [← softmax_shift f M]
  have hL := (sum_exp_pos fun k => f k - M).ne'
  generalize (∑ k, Real.exp (f k - M)) = L at hL
  have h : ∀ k, g k * (1 / (L * L)) * Real.exp (f k - M) = g k * (Real.exp (f k - M) / L) / L := fun k => by field_simp
  simp only [h, ← Finset.sum_div]
  generalize (∑ k, g k * (Real.exp (f k - M) / L)) = S
  field_simp
  ring

end Cert.AttnSpec
end
-- ==== Proof.AttnRef.lean ====
/- The attention's reference: its five results are the functions of AttnSpec.lean. -/
module

public import proofs.«01_k».proof.Proof.AttnSpec
public import proofs.«01_k».proof.Proof.Gen.AttnReferenceIdeal.Run

@[expose] public section

set_option maxRecDepth 16384

noncomputable section

namespace Cert.AttnRef

open Idealize.ShloMosaic Idealize.ShloMosaic.TcCoe Idealize.SL.Sem
open Cert.RealNum Cert.AttnSpec
open Cert.AttnReferenceIdeal Cert.AttnReferenceIdeal.Gen Cert.AttnReferenceIdeal.Value

/-! ## The program's intermediate arrays -/

/-- The queries, scaled, by group, head and lane. -/
def qsT (q : FVec Ideal S4096x512 .f32) : FVec Ideal S4096x2x4x64 .f32 :=
  shapeCast S4096x2x4x64 (mulf q (broadcastInDim S4096x512 ![] bcast_S_S4096x512 (constant S_ .f32 0x3E000000#32))) shapeCasts_S4096x512_S4096x2x4x64
/-- The scores. -/
def scT (q : FVec Ideal S4096x512 .f32) (k : FVec Ideal S4096x128 .f32) : FVec Ideal S2x4x4096x4096 .f32 :=
  transpose S2x4x4096x4096 [0, 3, 2, 1] (Host.dotGeneral dot_S4096x2x64_S4096x2x4x64_S2x4096x4096x4_2_3_0_02_1_1 none (shapeCast S4096x2x64 k shapeCasts_S4096x128_S4096x2x64) (qsT q)) transposes_S2x4096x4096x4_S2x4x4096x4096_0_3_2_1
/-- A row's greatest score. -/
def mxT (s : FVec Ideal S2x4x4096x4096 .f32) : FVec Ideal S2x4x4096 .f32 :=
  Host.reduce FloatOps.maximumf s (constant S_ .f32 0xFF800000#32) reducesTo_S2x4x4096x4096_S2x4x4096_d3 h_S_
/-- The exponentials of the scores less their row's greatest. -/
def exT (s : FVec Ideal S2x4x4096x4096 .f32) : FVec Ideal S2x4x4096x4096 .f32 :=
  Host.exp (subf s (broadcastInDim S2x4x4096x4096 ![0, 1, 2, 3] bcast_S2x4x4096x1_S2x4x4096x4096_0_1_2_3 (broadcastInDim S2x4x4096x1 ![0, 1, 2] bcast_S2x4x4096_S2x4x4096x1_0_1_2 (maximumf (broadcastInDim S2x4x4096 ![] bcast_S_S2x4x4096 (constant S_ .f32 0xFF800000#32)) (mxT s)))))
/-- Their row sums. -/
def suT (e : FVec Ideal S2x4x4096x4096 .f32) : FVec Ideal S2x4x4096x1 .f32 :=
  broadcastInDim S2x4x4096x1 ![0, 1, 2] bcast_S2x4x4096_S2x4x4096x1_0_1_2 (Host.reduceAdd e (constant S_ .f32 0x00000000#32) reducesTo_S2x4x4096x4096_S2x4x4096_d3 h_S_)
/-- The probabilities. -/
def prT (e : FVec Ideal S2x4x4096x4096 .f32) : FVec Ideal S2x4x4096x4096 .f32 :=
  Host.divf e (broadcastInDim S2x4x4096x4096 ![0, 1, 2, 3] bcast_S2x4x4096x1_S2x4x4096x4096_0_1_2_3 (suT e))
/-- The output's cotangent by group, lane, head and query. -/
def doT (d : FVec Ideal S4096x512 .f32) : FVec Ideal S2x64x4x4096 .f32 :=
  transpose S2x64x4x4096 [1, 3, 2, 0] (shapeCast S4096x2x4x64 d shapeCasts_S4096x512_S4096x2x4x64) transposes_S4096x2x4x64_S2x64x4x4096_1_3_2_0
/-- The probabilities' gradients. -/
def dpT (v : FVec Ideal S4096x128 .f32) (d : FVec Ideal S4096x512 .f32) : FVec Ideal S2x4x4096x4096 .f32 :=
  Host.dotGeneral dot_S2x64x4x4096_S4096x2x64_S2x4x4096x4096_1_2_23_0_0_1 none (doT d) (shapeCast S4096x2x64 v shapeCasts_S4096x128_S4096x2x64)
/-- The scores' gradients. -/
def dsT (e dp : FVec Ideal S2x4x4096x4096 .f32) : FVec Ideal S2x4x4096x4096 .f32 :=
  mulf (addf (Host.divf dp (broadcastInDim S2x4x4096x4096 ![0, 1, 2, 3] bcast_S2x4x4096x1_S2x4x4096x4096_0_1_2_3 (suT e)))
    (broadcastInDim S2x4x4096x4096 ![0, 1, 2] bcast_S2x4x4096_S2x4x4096x4096_0_1_2 (Host.reduceAdd (Host.negf (shapeCast S2x4x4096x1 (Host.reduceAdd
      (mulf (mulf dp (broadcastInDim S2x4x4096x4096 ![0, 1, 2, 3] bcast_S2x4x4096x1_S2x4x4096x4096_0_1_2_3 (Host.divf (broadcastInDim S2x4x4096x1 ![] bcast_S_S2x4x4096x1 (constant S_ .f32 0x3F800000#32)) (mulf (suT e) (suT e))))) e)
      (constant S_ .f32 0x00000000#32) reducesTo_S2x4x4096x4096_S2x4x4096_d3 h_S_) shapeCasts_S2x4x4096_S2x4x4096x1)) (constant S_ .f32 0x00000000#32) reducesTo_S2x4x4096x1_S2x4x4096_d3 h_S_))) e

/-- The five results. -/
def oT (v : FVec Ideal S4096x128 .f32) (p : FVec Ideal S2x4x4096x4096 .f32) : FVec Ideal S4096x512 .f32 :=
  shapeCast S4096x512 (transpose S4096x2x4x64 [3, 0, 2, 1] (Host.dotGeneral dot_S4096x2x64_S2x4x4096x4096_S2x64x4x4096_0_3_2_12_1_0 none (shapeCast S4096x2x64 v shapeCasts_S4096x128_S4096x2x64) p) transposes_S2x64x4x4096_S4096x2x4x64_3_0_2_1) shapeCasts_S4096x2x4x64_S4096x512
def lT (s : FVec Ideal S2x4x4096x4096 .f32) : FVec Ideal S8x4096x1 .f32 :=
  shapeCast S8x4096x1 (Host.log (Host.reduceAdd (Host.exp s) (constant S_ .f32 0x00000000#32) reducesTo_S2x4x4096x4096_S2x4x4096_d3 h_S_)) shapeCasts_S2x4x4096_S8x4096x1
def dqT (k : FVec Ideal S4096x128 .f32) (ds : FVec Ideal S2x4x4096x4096 .f32) : FVec Ideal S512x4096 .f32 :=
  transpose S512x4096 [1, 0] (shapeCast S4096x512 (transpose S4096x2x4x64 [1, 0, 2, 3] (Host.dotGeneral dot_S2x4096x4096x4_S4096x2x64_S2x4096x4x64_1_0_23_2_0_1 none (transpose S2x4096x4096x4 [0, 3, 2, 1] ds transposes_S2x4x4096x4096_S2x4096x4096x4_0_3_2_1) (shapeCast S4096x2x64 k shapeCasts_S4096x128_S4096x2x64)) transposes_S2x4096x4x64_S4096x2x4x64_1_0_2_3) shapeCasts_S4096x2x4x64_S4096x512) transposes_S4096x512_S512x4096_1_0
def dkT (q : FVec Ideal S4096x512 .f32) (ds : FVec Ideal S2x4x4096x4096 .f32) : FVec Ideal S128x4096 .f32 :=
  transpose S128x4096 [1, 0] (shapeCast S4096x128 (transpose S4096x2x64 [1, 0, 2] (Host.dotGeneral dot_S2x4096x4096x4_S4096x2x4x64_S2x4096x64_23_02_1_3_0_1 none (transpose S2x4096x4096x4 [0, 3, 2, 1] ds transposes_S2x4x4096x4096_S2x4096x4096x4_0_3_2_1) (qsT q)) transposes_S2x4096x64_S4096x2x64_1_0_2) shapeCasts_S4096x2x64_S4096x128) transposes_S4096x128_S128x4096_1_0
def dvT (d : FVec Ideal S4096x512 .f32) (p : FVec Ideal S2x4x4096x4096 .f32) : FVec Ideal S128x4096 .f32 :=
  transpose S128x4096 [1, 0] (shapeCast S4096x128 (transpose S4096x2x64 [2, 0, 1] (Host.dotGeneral dot_S2x64x4x4096_S2x4x4096x4096_S2x64x4096_23_12_1_3_0_0 none (doT d) p) transposes_S2x64x4096_S4096x2x64_2_0_1) shapeCasts_S4096x2x64_S4096x128) transposes_S4096x128_S128x4096_1_0

section Real
variable (q : FVec Ideal S4096x512 .f32) (k v : FVec Ideal S4096x128 .f32) (d : FVec Ideal S4096x512 .f32)
  (Q D : Fin 4096 → Fin 512 → ℝ) (K V : Fin 4096 → Fin 128 → ℝ)
  (hq : ∀ r l, q (ix2 r l) = ((Q r l : ℝ) : EReal)) (hk : ∀ r l, k (ix2 r l) = ((K r l : ℝ) : EReal))
  (hv : ∀ r l, v (ix2 r l) = ((V r l : ℝ) : EReal)) (hdo : ∀ r l, d (ix2 r l) = ((D r l : ℝ) : EReal))

/-- The column of a head of a group. -/
theorem qc_hh (g : Fin 2) (r : Fin 4) (l : Fin 64) (h) : (⟨g.val * 256 + r.val * 64 + l.val, h⟩ : Fin 512) = qc (hh g r) l :=
  Fin.ext (by simp only [qc, hh]; omega)
theorem kc_hh (g : Fin 2) (r : Fin 4) (l : Fin 64) (h) : (⟨g.val * 64 + l.val, h⟩ : Fin 128) = kc (hh g r) l :=
  Fin.ext (by simp only [kc, hh]; omega)

include hq in
theorem qs_at (i : Fin 4096) (g : Fin 2) (r : Fin 4) (l : Fin 64) : qsT q (ix4 i g r l) = ((Q i (qc (hh g r) l) * (1 / 8) : ℝ) : EReal) := by
  pointwise [qsT]
  simp only [hq, ofBits_eighth, ← EReal.coe_mul]
  rw [qc_hh]

include hq hk in
theorem sc_at (g : Fin 2) (r : Fin 4) (i j : Fin 4096) : scT q k (ix4 g r i j) = ((sc Q K (hh g r) i j : ℝ) : EReal) := by
  pointwise [scT]
  simp only [qs_at q Q hq, hk, ← EReal.coe_mul, sum_coe]
  simp only [kc_hh g r]
  rfl

theorem mx_at (s : FVec Ideal S2x4x4096x4096 .f32) (S : Fin 2 → Fin 4 → Fin 4096 → Fin 4096 → ℝ) (hs : ∀ g r i j, s (ix4 g r i j) = ((S g r i j : ℝ) : EReal))
    (g : Fin 2) (r : Fin 4) (i : Fin 4096) : mxT s (ix3 g r i) = ((rowMax (S g r i) : ℝ) : EReal) := by
  pointwise [mxT]
  rw [ofBits_ninf, ← fold_max_coe]
  simp only [hs]

/-- An array less a row's number, exponentiated. -/
theorem exSub_at (s : FVec Ideal S2x4x4096x4096 .f32) (w : FVec Ideal S2x4x4096 .f32) (g : Fin 2) (r : Fin 4) (i j : Fin 4096) :
    Host.exp (subf s (broadcastInDim S2x4x4096x4096 ![0, 1, 2, 3] bcast_S2x4x4096x1_S2x4x4096x4096_0_1_2_3 (broadcastInDim S2x4x4096x1 ![0, 1, 2] bcast_S2x4x4096_S2x4x4096x1_0_1_2 w))) (ix4 g r i j)
      = Ideal.exp (s (ix4 g r i j) - w (ix3 g r i)) := by
  pointwise

theorem floor_at (w : FVec Ideal S2x4x4096 .f32) (g : Fin 2) (r : Fin 4) (i : Fin 4096) :
    maximumf (broadcastInDim S2x4x4096 ![] bcast_S_S2x4x4096 (constant S_ .f32 0xFF800000#32)) w (ix3 g r i) = w (ix3 g r i) := by
  pointwise
  rw [ofBits_ninf, max_bot_left]

theorem ex_at (s : FVec Ideal S2x4x4096x4096 .f32) (S : Fin 2 → Fin 4 → Fin 4096 → Fin 4096 → ℝ) (hs : ∀ g r i j, s (ix4 g r i j) = ((S g r i j : ℝ) : EReal))
    (g : Fin 2) (r : Fin 4) (i j : Fin 4096) : exT s (ix4 g r i j) = ((Real.exp (S g r i j - rowMax (S g r i)) : ℝ) : EReal) := by
  unfold exT
  rw [exSub_at, floor_at, mx_at s S hs, hs, ← EReal.coe_sub, Ideal.exp_coe]

theorem su_at (e : FVec Ideal S2x4x4096x4096 .f32) (E : Fin 2 → Fin 4 → Fin 4096 → Fin 4096 → ℝ) (he : ∀ g r i j, e (ix4 g r i j) = ((E g r i j : ℝ) : EReal))
    (g : Fin 2) (r : Fin 4) (i : Fin 4096) (u : Fin 1) : suT e (ix4 g r i u) = ((∑ j, E g r i j : ℝ) : EReal) := by
  pointwise [suT]
  simp only [he, sum_coe]

include hv hdo in
theorem dp_at (g : Fin 2) (r : Fin 4) (i j : Fin 4096) : dpT v d (ix4 g r i j) = ((dP V D (hh g r) i j : ℝ) : EReal) := by
  pointwise [dpT, doT]
  simp only [hv, hdo, ← EReal.coe_mul, sum_coe]
  simp only [kc_hh g r, qc_hh]
  rfl

/-- The exponentials of the scores. -/
abbrev ex (S : Fin 2 → Fin 4 → Fin 4096 → Fin 4096 → ℝ) (g : Fin 2) (r : Fin 4) (i j : Fin 4096) : ℝ := Real.exp (S g r i j - rowMax (S g r i))

include hq hk in
theorem pr_at (g : Fin 2) (r : Fin 4) (i j : Fin 4096) : prT (exT (scT q k)) (ix4 g r i j) = ((P Q K (hh g r) i j : ℝ) : EReal) := by
  pointwise [prT]
  have he := ex_at _ _ (sc_at q k Q K hq hk)
  simp only [he, su_at _ _ he, div_sum_exp, softmax_shift]
  rfl

include hq hk hv hdo in
theorem ds_at (g : Fin 2) (r : Fin 4) (i j : Fin 4096) : dsT (exT (scT q k)) (dpT v d) (ix4 g r i j) = ((dS Q K V D (hh g r) i j : ℝ) : EReal) := by
  pointwise [dsT]
  have he := ex_at _ _ (sc_at q k Q K hq hk)
  simp only [he, su_at _ _ he, dp_at v d D V hv hdo, div_sum_exp, ← EReal.coe_one, ← EReal.coe_mul, ← EReal.coe_add, ← EReal.coe_neg, div_sum_exp_sq, sum_coe, Finset.univ_unique, Finset.sum_singleton]
  exact congrArg _ (softmax_grad _ _ _ _)

/-! ## The results at an index, from the probabilities or the scores' gradients `W` -/

theorem hh_split (c : Fin 512) (h h') : hh ⟨c.val / 256, h⟩ ⟨c.val / 64 % 4, h'⟩ = AttnSpec.hd c := Fin.ext (by simp only [hh, AttnSpec.hd]; omega)
theorem kc_split (c : Fin 512) (h) : (⟨c.val / 256 * 64 + c.val % 64, h⟩ : Fin 128) = kc (AttnSpec.hd c) (ln c) := Fin.ext (by simp only [kc, AttnSpec.hd, ln]; omega)
theorem hh_head (x : Fin 8) (h h') : hh ⟨x.val / 4, h⟩ ⟨x.val % 4, h'⟩ = x := Fin.ext (by simp only [hh]; omega)
theorem hh_gh (c : Fin 128) (r : Fin 4) (h) : hh ⟨c.val / 64, h⟩ r = gh c r := rfl
theorem qc_gh (c : Fin 128) (r : Fin 4) (h) : (⟨c.val / 64 * 256 + r.val * 64 + c.val % 64, h⟩ : Fin 512) = qc (gh c r) (gl c) := Fin.ext (by simp only [qc, gh, gl]; omega)

variable (p : FVec Ideal S2x4x4096x4096 .f32) (W : Fin 8 → Fin 4096 → Fin 4096 → ℝ) (hp : ∀ g r i j, p (ix4 g r i j) = ((W (hh g r) i j : ℝ) : EReal))
include hp

include hv in
theorem oT_at (i : Fin 4096) (c : Fin 512) : oT v p (ix2 i c) = ((∑ j, V j (kc (AttnSpec.hd c) (ln c)) * W (AttnSpec.hd c) i j : ℝ) : EReal) := by
  pointwise [oT]
  simp only [hv, hp, ← EReal.coe_mul, sum_coe, hh_split, kc_split]

theorem lT_at (h : Fin 8) (i : Fin 4096) (u : Fin 1) : lT p (ix3 h i u) = ((Real.log (∑ j, Real.exp (W h i j)) : ℝ) : EReal) := by
  pointwise [lT]
  simp only [hp, Ideal.exp_coe, sum_coe, log_sum_exp, hh_head]

include hk in
theorem dqT_at (i : Fin 4096) (c : Fin 512) : dqT k p (ix2 c i) = ((∑ j, K j (kc (AttnSpec.hd c) (ln c)) * W (AttnSpec.hd c) i j : ℝ) : EReal) := by
  pointwise [dqT]
  simp only [hk, hp, ← EReal.coe_mul, sum_coe, hh_split, kc_split, mul_comm (W _ _ _)]

include hq in
theorem dkT_at (j : Fin 4096) (c : Fin 128) : dkT q p (ix2 c j) = ((∑ r, ∑ i, Q i (qc (gh c r) (gl c)) * (1 / 8) * W (gh c r) i j : ℝ) : EReal) := by
  pointwise [dkT]
  simp only [hp, qs_at q Q hq, ← EReal.coe_mul, sum_coe, mul_comm (W _ _ _)]
  rw [Finset.sum_comm]
  rfl

include hdo in
theorem dvT_at (j : Fin 4096) (c : Fin 128) : dvT d p (ix2 c j) = ((∑ r, ∑ i, D i (qc (gh c r) (gl c)) * W (gh c r) i j : ℝ) : EReal) := by
  pointwise [dvT, doT]
  simp only [hp, hdo, ← EReal.coe_mul, sum_coe, hh_gh, qc_gh]

end Real

section Run
variable (m : (ℓ : Loc nD τ sig) → Buf (Elt Ideal) ℓ) (c : Dev nD)

abbrev a0 : FVec Ideal S4096x512 .f32 := m ((c.tc : Thread nD τ).loc main_arg0)
abbrev a1 : FVec Ideal S4096x128 .f32 := m ((c.tc : Thread nD τ).loc main_arg1)
abbrev a2 : FVec Ideal S4096x128 .f32 := m ((c.tc : Thread nD τ).loc main_arg2)
abbrev a3 : FVec Ideal S4096x512 .f32 := m ((c.tc : Thread nD τ).loc main_arg3)

theorem out2 : res_out2 m c = dqT (a1 m c) (dsT (exT (scT (a0 m c) (a1 m c))) (dpT (a2 m c) (a3 m c))) := rfl

theorem out3 : res_out3 m c = dkT (a0 m c) (dsT (exT (scT (a0 m c) (a1 m c))) (dpT (a2 m c) (a3 m c))) := rfl

/-- The run, its results by name. -/
theorem run_named (ρ : Dev nD → PrngReg) : θ_run (defs (F := Ideal)) (onTc (τ := τ) (main (F := Ideal))) ⟨m, fun _ => 0, ρ⟩ fun r => ∀ c : Dev nD,
      r.2.mem ((c.tc : Thread nD τ).loc main_v37) = oT (a2 m c) (prT (exT (scT (a0 m c) (a1 m c))))
      ∧ r.2.mem ((c.tc : Thread nD τ).loc main_v70) = lT (scT (a0 m c) (a1 m c))
      ∧ r.2.mem ((c.tc : Thread nD τ).loc main_v71) = dqT (a1 m c) (dsT (exT (scT (a0 m c) (a1 m c))) (dpT (a2 m c) (a3 m c)))
      ∧ r.2.mem ((c.tc : Thread nD τ).loc main_v72) = dkT (a0 m c) (dsT (exT (scT (a0 m c) (a1 m c))) (dpT (a2 m c) (a3 m c)))
      ∧ r.2.mem ((c.tc : Thread nD τ).loc main_v73) = dvT (a3 m c) (prT (exT (scT (a0 m c) (a1 m c))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1, (h c).2.1, (h c).2.2.1.trans (out2 m c), (h c).2.2.2.1.trans (out3 m c), (h c).2.2.2.2.1, (h c).2.2.2.2.2⟩) (run (F := Ideal) m ρ)

end Run

section Run
variable (m : (ℓ : Loc nD τ sig) → Buf (Elt Ideal) ℓ) (ρ : Dev nD → PrngReg) (q : Dev nD → FVec Ideal S4096x512 .f32) (k v : Dev nD → FVec Ideal S4096x128 .f32) (d : Dev nD → FVec Ideal S4096x512 .f32)
  (e0 : ∀ c : Dev nD, m (((c : Dev nD).tc : Thread nD τ).loc main_arg0) = q c) (e1 : ∀ c : Dev nD, m (((c : Dev nD).tc : Thread nD τ).loc main_arg1) = k c)
  (e2 : ∀ c : Dev nD, m (((c : Dev nD).tc : Thread nD τ).loc main_arg2) = v c) (e3 : ∀ c : Dev nD, m (((c : Dev nD).tc : Thread nD τ).loc main_arg3) = d c)
  (Q D : Dev nD → Fin 4096 → Fin 512 → ℝ) (K V : Dev nD → Fin 4096 → Fin 128 → ℝ)
  (hq : ∀ c r l, q c (ix2 r l) = ((Q c r l : ℝ) : EReal)) (hk : ∀ c r l, k c (ix2 r l) = ((K c r l : ℝ) : EReal))
  (hv : ∀ c r l, v c (ix2 r l) = ((V c r l : ℝ) : EReal)) (hdo : ∀ c r l, d c (ix2 r l) = ((D c r l : ℝ) : EReal))
include e0 e1 e2 e3 hq hk hv hdo

/-- The reference's run, its results as the real functions. -/
theorem ref_run : θ_run (defs (F := Ideal)) (onTc (τ := τ) (main (F := Ideal))) ⟨m, fun _ => 0, ρ⟩ fun r => ∀ c : Dev nD,
      r.2.mem ((c.tc : Thread nD τ).loc main_v37) = oArr (Q c) (K c) (V c)
      ∧ r.2.mem ((c.tc : Thread nD τ).loc main_v70) = lArr (Q c) (K c)
      ∧ r.2.mem ((c.tc : Thread nD τ).loc main_v71) = dqArr (Q c) (K c) (V c) (D c)
      ∧ r.2.mem ((c.tc : Thread nD τ).loc main_v72) = dkArr (Q c) (K c) (V c) (D c)
      ∧ r.2.mem ((c.tc : Thread nD τ).loc main_v73) = dvArr (Q c) (K c) (D c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (run_named m ρ)
  obtain ⟨h0, h1, h2, h3, h4, h5⟩ := h c
  clear h
  unfold a0 a1 at h0 h1 h2 h3 h4
  unfold a2 at h0 h2 h3
  unfold a3 at h2 h3 h4
  rw [e0] at h0 h1 h2 h3 h4
  rw [e1] at h0 h1 h2 h3 h4
  rw [e2] at h0 h2 h3
  rw [e3] at h2 h3 h4
  have hs := sc_at (q c) (k c) (Q c) (K c) (hq c) (hk c)
  have hp := pr_at (q c) (k c) (Q c) (K c) (hq c) (hk c)
  have hds := ds_at (q c) (k c) (v c) (d c) (Q c) (D c) (K c) (V c) (hq c) (hk c) (hv c) (hdo c)
  refine ⟨h0.trans ?_, h1.trans ?_, h2.trans ?_, h3.trans ?_, h4.trans ?_, h5⟩ <;> clear h0 h1 h2 h3 h4 h5 <;> funext y
  · obtain ⟨i, l, rfl⟩ : ∃ (i : Fin 4096) (l : Fin 512), y = ix2 i l := ⟨y 0, y 1, ValueIdx.eq_ix2 y⟩
    exact oT_at (v c) (V c) (hv c) _ _ hp i l
  · obtain ⟨h, i, u, rfl⟩ : ∃ (h : Fin 8) (i : Fin 4096) (u : Fin 1), y = ix3 h i u := ⟨y 0, y 1, y 2, ValueIdx.eq_ix3 y⟩
    exact lT_at _ _ hs h i u
  · obtain ⟨l, i, rfl⟩ : ∃ (l : Fin 512) (i : Fin 4096), y = ix2 l i := ⟨y 0, y 1, ValueIdx.eq_ix2 y⟩
    exact dqT_at (k c) (K c) (hk c) _ _ hds i l
  · obtain ⟨l, i, rfl⟩ : ∃ (l : Fin 128) (i : Fin 4096), y = ix2 l i := ⟨y 0, y 1, ValueIdx.eq_ix2 y⟩
    exact dkT_at (q c) (Q c) (hq c) _ _ hds i l
  · obtain ⟨l, i, rfl⟩ : ∃ (l : Fin 128) (i : Fin 4096), y = ix2 l i := ⟨y 0, y 1, ValueIdx.eq_ix2 y⟩
    exact dvT_at (d c) (D c) (hdo c) _ _ hp i l

end Run

end Cert.AttnRef
end
-- ==== Proof.AttnFwdData.lean ====
/- The attention's forward call: what its body leaves in the two outputs, the head outputs and the row log-sums, as
   functions of the blocks it reads; that the body runs to that; and the same over the grid. -/
module

public import proofs.«01_k».proof.Proof.Gen.AttnKernelIdeal.Launch
public import proofs.«01_k».proof.Proof.Gen.AttnKernelIdeal.Skeleton
public import proofs.«01_k».proof.Proof.Gen.AttnKernelIdeal.Points
public import Idealize.ShloMosaic.Lib.Pipeline.FrameBody
public import Idealize.ShloMosaic.Lib.Ring
public import Idealize.ShloMosaic.Lib.Tactic

@[expose] public section

set_option maxRecDepth 16384

noncomputable section

namespace Cert.AttnFwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.AttnKernelIdeal Cert.AttnKernelIdeal.Gen

variable {F : FTy → Type} [FloatOps F]

local notation "𝕄" => MT nD τ sig Unit (Elt F) ℕ (UR sig nD τ) ℕ

/-- The blocks the forward body reads at a point: four heads' queries, the keys, the values, and the values with their two
halves exchanged. -/
structure Blocks (F : FTy → Type) [FloatOps F] where
  q0 : Vec F S256x128 .bf16
  q1 : Vec F S256x128 .bf16
  q2 : Vec F S256x128 .bf16
  q3 : Vec F S256x128 .bf16
  k : Vec F S4096x128 .bf16
  v : Vec F S4096x128 .bf16
  vs : Vec F S4096x128 .bf16

abbrev rQ : Rect S256x128 := Rect.unit (s := S256x128) ![0, 0] S256x128.size inb_S256x128_S256x128_0_0
abbrev rK : Rect S4096x128 := Rect.unit (s := S4096x128) ![0, 0] S4096x128.size inb_S4096x128_S4096x128_0_0
abbrev rO : Rect S256x256 := Rect.unit (s := S256x256) ![0, 0] S256x256.size inb_S256x256_S256x256_0_0
abbrev rL0 : Rect S4x256x1 := Rect.unit (s := S4x256x1) ![0, 0, 0] S1x256x1.size inb_S4x256x1_S1x256x1_0_0_0
abbrev rL1 : Rect S4x256x1 := Rect.unit (s := S4x256x1) ![1, 0, 0] S1x256x1.size inb_S4x256x1_S1x256x1_1_0_0
abbrev rL2 : Rect S4x256x1 := Rect.unit (s := S4x256x1) ![2, 0, 0] S1x256x1.size inb_S4x256x1_S1x256x1_2_0_0
abbrev rL3 : Rect S4x256x1 := Rect.unit (s := S4x256x1) ![3, 0, 0] S1x256x1.size inb_S4x256x1_S1x256x1_3_0_0

/-- The exponentials of heads 2 and 3 over their rows' largest scores, and the row sums of heads 0 and 1. -/
def e2 (x : Blocks F) : FVec F S256x4096 .f32 := k0_pay13 (View.ld x.k rK) (View.ld x.q2 rQ)
def e3 (x : Blocks F) : FVec F S256x4096 .f32 := k0_pay14 (View.ld x.k rK) (View.ld x.q3 rQ)
def s0 (x : Blocks F) : FVec F S256x1 .f32 := k0_pay15 (View.ld x.k rK) (View.ld x.q0 rQ)
def s1 (x : Blocks F) : FVec F S256x1 .f32 := k0_pay16 (View.ld x.k rK) (View.ld x.q1 rQ)

/-- The head outputs' block. -/
def oPay (i : grid0.Coords) (x : Blocks F) : Vec F S256x256 .f32 :=
  k0_pay1 (k0_pay11 (View.ld x.k rK) (View.ld x.q0 rQ)) (k0_pay12 (View.ld x.k rK) (View.ld x.q1 rQ)) (e2 x) (e3 x) (s0 x) (s1 x)
    (k0_pay17 (e2 x)) (k0_pay18 (e3 x)) (k0_pay23 (BitVec.ofNat 32 (i 0).val) (View.ld x.vs rK) (View.ld x.v rK))
    (Scalar.cmpi .ne (BitVec.ofNat 32 (i 0).val) 1#32) (k0_pay24 (View.ld x.vs rK)) (View.ld x.v rK)
def oOut (i : grid0.Coords) (x : Blocks F) : Vec F S256x256 .f32 := View.canon [⟨rO, oPay i x⟩]

/-- The four heads' row log-sums. -/
def l0 (x : Blocks F) : Vec F S1x256x1 .f32 := k0_pay19 (k0_pay7 (View.ld x.k rK) (View.ld x.q0 rQ)) (s0 x)
def l1 (x : Blocks F) : Vec F S1x256x1 .f32 := k0_pay20 (k0_pay8 (View.ld x.k rK) (View.ld x.q1 rQ)) (s1 x)
def l2 (x : Blocks F) : Vec F S1x256x1 .f32 := k0_pay21 (k0_pay9 (View.ld x.k rK) (View.ld x.q2 rQ)) (e2 x)
def l3 (x : Blocks F) : Vec F S1x256x1 .f32 := k0_pay22 (k0_pay10 (View.ld x.k rK) (View.ld x.q3 rQ)) (e3 x)
def lOut (x : Blocks F) : Vec F S4x256x1 .f32 := View.canon [⟨rL3, l3 x⟩, ⟨rL2, l2 x⟩, ⟨rL1, l1 x⟩, ⟨rL0, l0 x⟩]

theorem o_cover (a : Vec F S256x256 .f32) (y : S256x256.Idx) : ∃ p ∈ ([⟨rO, a⟩] : List (View.Piece (Elt F) S256x256 .f32)), y ∈ p.1.set :=
  View.cover_of_tiled [⟨rO, a⟩] S256x256.size (by rfl) y
theorem l_cover (a b d e : Vec F S1x256x1 .f32) (y : S4x256x1.Idx) :
    ∃ p ∈ ([⟨rL3, a⟩, ⟨rL2, b⟩, ⟨rL1, d⟩, ⟨rL0, e⟩] : List (View.Piece (Elt F) S4x256x1 .f32)), y ∈ p.1.set :=
  View.cover_of_tiled [⟨rL3, a⟩, ⟨rL2, b⟩, ⟨rL1, d⟩, ⟨rL0, e⟩] S1x256x1.size (by rfl) y

section Run

variable (c : Dev nD) (E : Set ℕ) (i : grid0.Coords)
  (arg2 : Memref sig .tc .vmem S256x128 .bf16) (harg2 : arg2.IsWhole)
  (arg3 : Memref sig .tc .vmem S256x128 .bf16) (harg3 : arg3.IsWhole)
  (arg4 : Memref sig .tc .vmem S256x128 .bf16) (harg4 : arg4.IsWhole)
  (arg5 : Memref sig .tc .vmem S256x128 .bf16) (harg5 : arg5.IsWhole)
  (arg6 : Memref sig .tc .vmem S4096x128 .bf16) (harg6 : arg6.IsWhole)
  (arg7 : Memref sig .tc .vmem S4096x128 .bf16) (harg7 : arg7.IsWhole)
  (arg8 : Memref sig .tc .vmem S4096x128 .bf16) (harg8 : arg8.IsWhole)
  (arg9 : Memref sig .tc .vmem S256x256 .f32) (harg9 : arg9.IsWhole)
  (arg10 : Memref sig .tc .vmem S4x256x1 .f32) (harg10 : arg10.IsWhole)

/-- The seven input buffers at the blocks `x`. -/
abbrev inputs (x : Blocks F) : sProp 𝕄 :=
  iprop(owns (c : Thread nD τ) arg2 fullShare x.q0
    ∗ owns (c : Thread nD τ) arg3 fullShare x.q1
    ∗ owns (c : Thread nD τ) arg4 fullShare x.q2
    ∗ owns (c : Thread nD τ) arg5 fullShare x.q3
    ∗ owns (c : Thread nD τ) arg6 fullShare x.k
    ∗ owns (c : Thread nD τ) arg7 fullShare x.v
    ∗ owns (c : Thread nD τ) arg8 fullShare x.vs)

set_option maxHeartbeats 1000000 in
/-- The body from its inputs at `x` and its outputs at anything: it leaves the inputs and writes the outputs. -/
theorem sound (x : Blocks F) (K : PUnit → sProp 𝕄) :
    iprop(inputs c arg2 arg3 arg4 arg5 arg6 arg7 arg8 x ∗ (∃ d, owns (c : Thread nD τ) arg9 fullShare d) ∗ (∃ d, owns (c : Thread nD τ) arg10 fullShare d)
        ∗ (iprop(inputs c arg2 arg3 arg4 arg5 arg6 arg7 arg8 x ∗ owns (c : Thread nD τ) arg9 fullShare (oOut i x) ∗ owns (c : Thread nD τ) arg10 fullShare (lOut x)) -∗ K ⟨⟩))
      ⊢ wp frame (wpE (defs₀ (F := F)) Variants.none c none) E (cc0_attn_fwd i arg2 harg2 arg3 harg3 arg4 harg4 arg5 harg5 arg6 harg6 arg7 harg7 arg8 harg8 arg9 harg9 arg10 harg10) K := by
  simp only [cc0_attn_fwd_eq_skeleton]; unfold cc0_attn_fwd_skel
  simp only [k0_part1_eq_skeleton, k0_part2_eq_skeleton]
  obtain ⟨xq0, xq1, xq2, xq3, xk, xv, xvs⟩ := x
  unfold inputs owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩⟩, ⟨%d9, %f9, -, H9⟩, ⟨%d10, %f10, -, H10⟩, Hk⟩
  subst hf2 hf3 hf4 hf5 hf6 hf7 hf8
  sl_exec
  sl_step
  iapply Hk
  isplitl [H2 H3 H4 H5 H6 H7 H8]
  · isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    iexists f8; isplitr; · ipureintro; rfl
    iexact H8
  isplitl [H9]
  · iexists _; isplitr
    swap; · iexact H9
    ipureintro
    refine (View.read_writes_eq_canon _ _ _ (o_cover _)).trans ?_
    rfl
  iexists _; isplitr
  swap; · iexact H10
  ipureintro
  refine (View.read_writes_eq_canon _ _ _ (l_cover _ _ _ _)).trans ?_
  rfl

end Run

/-! ## Over the grid -/

variable (V : (c : Dev nD) → (b : Ref sig .tc) → Buf (Elt F) ((c : Thread nD τ).loc b))

/-- Window `w`'s block at point `t` of the array the call finds. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The seven blocks of point `t`. -/
def blocks (c : Dev nD) (t : Fin cfg0.N) : Blocks F where
  q0 := iblk0 V c 0 t
  q1 := iblk0 V c 1 t
  q2 := iblk0 V c 2 t
  q3 := iblk0 V c 3 t
  k := iblk0 V c 4 t
  v := iblk0 V c 5 t
  vs := iblk0 V c 6 t

/-- The call's proof data: the arrays as found, each input's block left in place, the outputs at the point's blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => oOut (grid0.coords t) (blocks V c t)
    | ⟨8, _⟩ => lOut (blocks V c t)
  Φ _ := Pipeline.ΦA spec0 c
  q w := Pipeline.shareOf spec0 w
  owed _ := 0

theorem A_eq0 (c : Dev nD) (w : Fin cfg0.W) : (dat0 V c).A w = V c (Pipeline.arrRef spec0 w) := by dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = oOut (grid0.coords t) (blocks V c t) := by dsimp only [dat0]
theorem after0_8 (c : Dev nD) (t : Fin cfg0.N) : (dat0 V c).after 8 t = lOut (blocks V c t) := by dsimp only [dat0]

/-- An input's buffer holds its block at every point, given that the body leaves it there. -/
theorem before0_in (c : Dev nD) (w : Fin cfg0.W) (hw : (cfg0.win w).isOut = false) (hc : ∀ t t' : Fin cfg0.N, (cfg0.win w).index t = (cfg0.win w).index t' →
      (cfg0.win w).clip (cfg0.grid.coords t) = (cfg0.win w).clip (cfg0.grid.coords t'))
    (hk : ∀ t, (cfg0.win w).cut (cfg0.grid.coords t) ((dat0 V c).after w t) = iblk0 V c w t) (t : Fin cfg0.N) (d) :
    (dat0 V c).before w t d = (dat0 V c).fetched w t d :=
  (dat0 V c).before_in_eq_fetched w hw (fun _ => rfl) hc (fun t => by rw [hk]; unfold Dat.blockOf iblk0; rw [A_eq0]) t d

theorem fetched0 (c : Dev nD) (w : Fin cfg0.W) (t : Fin cfg0.N) (d) : (dat0 V c).fetched w t d = (cfg0.win w).fill (cfg0.grid.coords t) d (iblk0 V c w t) := by
  unfold Dat.fetched Dat.blockOf iblk0; rw [A_eq0]

theorem before0_0 (c : Dev nD) (t : Fin cfg0.N) (d) : (dat0 V c).before 0 t d = iblk0 V c 0 t :=
  (before0_in V c 0 rfl (fun _ _ _ => rfl) (fun t => by rw [after0_0]) t d).trans ((fetched0 V c 0 t d).trans rfl)
theorem before0_1 (c : Dev nD) (t : Fin cfg0.N) (d) : (dat0 V c).before 1 t d = iblk0 V c 1 t :=
  (before0_in V c 1 rfl (fun _ _ _ => rfl) (fun t => by rw [after0_1]) t d).trans ((fetched0 V c 1 t d).trans rfl)
theorem before0_2 (c : Dev nD) (t : Fin cfg0.N) (d) : (dat0 V c).before 2 t d = iblk0 V c 2 t :=
  (before0_in V c 2 rfl (fun _ _ _ => rfl) (fun t => by rw [after0_2]) t d).trans ((fetched0 V c 2 t d).trans rfl)
theorem before0_3 (c : Dev nD) (t : Fin cfg0.N) (d) : (dat0 V c).before 3 t d = iblk0 V c 3 t :=
  (before0_in V c 3 rfl (fun _ _ _ => rfl) (fun t => by rw [after0_3]) t d).trans ((fetched0 V c 3 t d).trans rfl)
theorem before0_4 (c : Dev nD) (t : Fin cfg0.N) (d) : (dat0 V c).before 4 t d = iblk0 V c 4 t :=
  (before0_in V c 4 rfl (fun _ _ _ => rfl) (fun t => by rw [after0_4]) t d).trans ((fetched0 V c 4 t d).trans rfl)
theorem before0_5 (c : Dev nD) (t : Fin cfg0.N) (d) : (dat0 V c).before 5 t d = iblk0 V c 5 t :=
  (before0_in V c 5 rfl (fun _ _ _ => rfl) (fun t => by rw [after0_5]) t d).trans ((fetched0 V c 5 t d).trans rfl)
theorem before0_6 (c : Dev nD) (t : Fin cfg0.N) (d) : (dat0 V c).before 6 t d = iblk0 V c 6 t :=
  (before0_in V c 6 rfl (fun _ _ _ => rfl) (fun t => by rw [after0_6]) t d).trans ((fetched0 V c 6 t d).trans rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl, show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound c Set.univ (grid0.coords t) _ _ _ _ _ _ _ _ _ _ _ _ _ _ _ _ _ _ (blocks V c t) _)
  unfold inputs
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexists _; iexact H7
  isplitl [H8]; · iexists _; iexact H8
  iintro ⟨⟨H0, H1, H2, H3, H4, H5, H6⟩, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row0 (t : Fin cfg0.N) : defs₀ (F := F) .tc cfg0.body (cfg0.bodyArgs t (cfg0.slots t)) = bodyAt0 t := by
  unfold defs₀; rw [Defs.onTc_tc]

/-- The body keeps to the proof data at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.AttnFwd
-- ==== Proof.AttnFwdPay.lean ====
/- What the forward attention's body computes from a block of queries, the keys and the values, as real numbers. -/
module

public import proofs.«01_k».proof.Proof.AttnSpec
public import proofs.«01_k».proof.Proof.AttnFwdData
public import Idealize.ShloMosaic.Lib.WordCmp

@[expose] public section

set_option maxRecDepth 16384

noncomputable section

namespace Cert.AttnFwd

open Idealize.ShloMosaic Idealize.ShloMosaic.TcCoe
open Cert.RealNum Cert.AttnSpec
open Cert.AttnKernelIdeal Cert.AttnKernelIdeal.Gen

/-- The product of a query row and a key row. -/
def dotRow (A : Fin 256 → Fin 128 → ℝ) (B : Fin 4096 → Fin 128 → ℝ) (r : Fin 256) (j : Fin 4096) : ℝ := ∑ l, A r l * B j l

section One
variable (k : FVec Ideal S4096x128 .bf16) (q : FVec Ideal S256x128 .bf16) (A : Fin 256 → Fin 128 → ℝ) (B : Fin 4096 → Fin 128 → ℝ)
  (hk : ∀ j l, k (ix2 j l) = ((B j l : ℝ) : EReal)) (hq : ∀ r l, q (ix2 r l) = ((A r l : ℝ) : EReal))
include hk hq

theorem score_at (r : Fin 256) (j : Fin 4096) : k0_pay3 (F := Ideal) k q (ix2 r j) = ((dotRow A B r j : ℝ) : EReal) := by
  pointwise [k0_pay3, k0_pay2]
  simp only [hk, hq, ← EReal.coe_mul, sum_coe]
  rfl

theorem max_at (r : Fin 256) (u : Fin 1) : k0_pay7 (F := Ideal) k q (ix2 r u) = ((rowMax (dotRow A B r) : ℝ) : EReal) := by
  pointwise [k0_pay7]
  rw [ofBits_ninf, ← fold_max_coe]
  simp only [score_at k q A B hk hq]

theorem exp_at (r : Fin 256) (j : Fin 4096) :
    k0_pay11 (F := Ideal) k q (ix2 r j) = ((Real.exp (dotRow A B r j - rowMax (dotRow A B r)) : ℝ) : EReal) := by
  pointwise [k0_pay11]
  simp only [score_at k q A B hk hq, max_at k q A B hk hq, ← EReal.coe_sub, Ideal.exp_coe]

theorem sum_at (r : Fin 256) (u : Fin 1) :
    k0_pay15 (F := Ideal) k q (ix2 r u) = ((∑ j, Real.exp (dotRow A B r j - rowMax (dotRow A B r)) : ℝ) : EReal) := by
  pointwise [k0_pay15]
  simp only [exp_at k q A B hk hq, sum_coe]

theorem lse_at (u : Fin 1) (r : Fin 256) (w : Fin 1) :
    k0_pay19 (F := Ideal) (k0_pay7 k q) (k0_pay15 k q) (ix3 u r w) = ((Real.log (∑ j, Real.exp (dotRow A B r j)) : ℝ) : EReal) := by
  pointwise [k0_pay19]
  simp only [max_at k q A B hk hq, sum_at k q A B hk hq, log_sum_exp, ← EReal.coe_add, log_sum_shift]

end One

/-- A choice by the lane's half. -/
theorem half_sel {α : Type} (x : ℕ) (hx : x < 128) (a b : α) :
    Scalar.select (IntOp.cmpi CmpIPredicate.slt (BitVec.ofNat 32 x) 64#32) a b = if x < 64 then a else b := by
  word_cmp

/-- One head's part of the output, in a block of 256 lanes: head `a` has the lanes from `64 * a`. -/
theorem out_at (e : Fin 4 → FVec Ideal S256x4096 .f32) (s : Fin 4 → FVec Ideal S256x1 .f32) (w : FVec Ideal S4096x128 .bf16) (b : BitVec 1)
    (v70 v71 : FVec Ideal S4096x128 .bf16) (E : Fin 4 → Fin 256 → Fin 4096 → ℝ) (S : Fin 4 → Fin 256 → ℝ) (W W' : Fin 4096 → Fin 128 → ℝ)
    (he : ∀ a r j, e a (ix2 r j) = ((E a r j : ℝ) : EReal)) (hs : ∀ a r u, s a (ix2 r u) = ((S a r : ℝ) : EReal)) (hS : ∀ a r, S a r ≠ 0)
    (hw : ∀ j l, w (ix2 j l) = ((W j l : ℝ) : EReal)) (hw' : ∀ j l, (Scalar.select b (v70 (ix2 j l)) (v71 (ix2 j l)) : EReal) = ((W' j l : ℝ) : EReal))
    (r : Fin 256) (a : Fin 4) (d : Fin 64) :
    k0_pay1 (F := Ideal) (e 0) (e 1) (e 2) (e 3) (s 0) (s 1) (s 2) (s 3) w b v70 v71 (ix2 r ⟨a.val * 64 + d.val, by omega⟩)
      = (((∑ j, E a r j * (if a.val % 2 = 0 then W else W') j ⟨a.val % 2 * 64 + d.val, by omega⟩) * (1 / S a r) : ℝ) : EReal) := by
  have hd : ∀ a r u, Ideal.div (1 : EReal) (s a (ix2 r u)) = ((1 / S a r : ℝ) : EReal) := fun a r u => by
    rw [hs, ← EReal.coe_one, div_ne (hS a r)]
  fin_cases a <;> pointwise [k0_pay1]
  · rw [dif_pos (by omega), half_sel _ (by omega), if_pos (by omega)]
    simp only [he, hd, hw, ← EReal.coe_mul, sum_coe]
  · rw [dif_pos (by omega), half_sel _ (by omega), if_neg (by omega)]
    simp only [he, hd, hw', ← EReal.coe_mul, sum_coe]
  · rw [half_sel _ (by omega), if_pos (by omega)]
    simp only [he, hd, hw, ← EReal.coe_mul, sum_coe]
  · have e : 192 + d.val - 128 = 64 + d.val := by omega
    rw [dif_neg (by omega), half_sel _ (by omega), if_neg (by omega)]
    simp only [e, he, hd, hw', ← EReal.coe_mul, sum_coe]

end Cert.AttnFwd
end
-- ==== Proof.AttnBwdBody.lean ====
/- The attention's backward call, one grid point: what its body leaves in the three outputs, as functions of the blocks it
   reads and of what the two accumulators held, and the run that shows it. -/
module

public import proofs.«01_k».proof.Proof.Gen.AttnKernelIdeal.Launch
public import proofs.«01_k».proof.Proof.Gen.AttnKernelIdeal.Skeleton
public import proofs.«01_k».proof.Proof.Gen.AttnKernelIdeal.Points
public import Idealize.ShloMosaic.Lib.Pipeline.FrameBody
public import Idealize.ShloMosaic.Lib.Ring
public import Idealize.ShloMosaic.Lib.Tactic
public import Idealize.ShloMosaic.Lib.VecWindow
public import Idealize.ShloMosaic.Lib.WordCmp

@[expose] public section

set_option maxRecDepth 16384

noncomputable section

namespace Cert.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnKernelIdeal Cert.AttnKernelIdeal.Gen

variable {F : FTy → Type} [FloatOps F]

local notation "𝕄" => MT nD τ sig Unit (Elt F) ℕ (UR sig nD τ) ℕ

/-- The blocks the backward body reads at a point: two heads' queries, the keys, their transpose, the values, two heads'
output gradients, those gradients' inner products with the output, and the two heads' log-sums. -/
structure Blocks (F : FTy → Type) [FloatOps F] where
  q0 : Vec F S256x128 .bf16
  q1 : Vec F S256x128 .bf16
  k : Vec F S4096x128 .bf16
  kt : Vec F S128x4096 .bf16
  v : Vec F S4096x128 .bf16
  do0 : Vec F S256x128 .bf16
  do1 : Vec F S256x128 .bf16
  dl0 : Vec F S256x128 .f32
  dl1 : Vec F S256x128 .f32
  lse : Vec F S2x256x1 .f32

/-! ## The rows of the point's key/value head -/

/-- Row 0 for the first four query heads, row 64 for the last four. -/
abbrev row (i : grid1.Coords) : ℕ := 64 * ((i 0).val / 2)

theorem off1_eq : ∀ i : grid1.Coords, k1_off1 i = ![row i, 0] := by decide +kernel
theorem off2_eq : ∀ i : grid1.Coords, k1_off2 i = ![0, row i, 0] := by decide +kernel
theorem off3_eq : ∀ i : grid1.Coords, k1_off3 i = ![1, row i, 0] := by decide +kernel

instance (i : grid1.Coords) : ClosedOff (k1_off1 i) := ⟨![64 * ((i 0).val / 2), 0], off1_eq i⟩
instance (i : grid1.Coords) : ClosedOff (k1_off2 i) := ⟨![0, 64 * ((i 0).val / 2), 0], off2_eq i⟩
instance (i : grid1.Coords) : ClosedOff (k1_off3 i) := ⟨![1, 64 * ((i 0).val / 2), 0], off3_eq i⟩

/-- The point's 64 rows of a transposed 128 × 256 block. -/
def rows (i : grid1.Coords) (w : FVec F S1x128x256 .f32) : Vec F S1x64x256 .f32 :=
  VecWindow.window w ![0, row i, 0] S1x64x256.size (by
    have h : (i 0).val < 4 := (i 0).isLt
    intro a; fin_cases a
    · show 0 + 1 ≤ 1; omega
    · show 64 * ((i 0).val / 2) + 64 ≤ 128; omega
    · show 0 + 256 ≤ 256; omega)

/-- A read of the point's rows of a scratch slot, the slot having just been stored, is those rows of what was stored. -/
theorem read_slot (v : View sig .tc .vmem S2x128x256 .f32) (f : v.ty.Contents (Elt F)) (i : grid1.Coords) {off : Fin 3 → ℕ} {b : ℕ}
    (inb : ∀ a, off a + S1x64x256.size a ≤ S2x128x256.size a) (inb' : ∀ a, (![b, 0, 0] : Fin 3 → ℕ) a + S1x128x256.size a ≤ S2x128x256.size a)
    (w : FVec F S1x128x256 .f32) (L : List (View.Piece (Elt F) S2x128x256 .f32)) (h : off = ![b, row i, 0]) :
    v.readAt (Elt F) (Rect.unit (s := S2x128x256) off S1x64x256.size inb).toLoadRect
      (v.writes (Elt F) f (⟨Rect.unit (s := S2x128x256) ![b, 0, 0] S1x128x256.size inb', w⟩ :: L)) = rows i w := by
  subst h
  funext y
  refine View.read_writes_cons_unit_of_mem v f inb' w L _ _ rfl fun a => ?_
  fin_cases a
  · show b + 1 * (y 0).val = b + (0 + 1 * (y 0).val); omega
  · show row i + 1 * (y 1).val = 0 + (row i + 1 * (y 1).val); omega
  · show 0 + 1 * (y 2).val = 0 + (0 + 1 * (y 2).val); omega

/-! ## The body's accesses and values -/

abbrev rT : Rect S256x128 := Rect.unit (s := S256x128) ![0, 0] S256x128.size inb_S256x128_S256x128_0_0
abbrev rK : Rect S4096x128 := Rect.unit (s := S4096x128) ![0, 0] S4096x128.size inb_S4096x128_S4096x128_0_0
abbrev rL0 : Rect S2x256x1 := Rect.unit (s := S2x256x1) ![0, 0, 0] S1x256x1.size inb_S2x256x1_S1x256x1_0_0_0
abbrev rL1 : Rect S2x256x1 := Rect.unit (s := S2x256x1) ![1, 0, 0] S1x256x1.size inb_S2x256x1_S1x256x1_1_0_0
abbrev rR (i : grid1.Coords) : Rect S128x4096 := Rect.unit (s := S128x4096) (k1_off1 i) S64x4096.size (k1_off1_inb i)
abbrev rD0 : Rect S128x256 := Rect.unit (s := S128x256) ![0, 0] S64x256.size inb_S128x256_S64x256_0_0
abbrev rD1 : Rect S128x256 := Rect.unit (s := S128x256) ![64, 0] S64x256.size inb_S128x256_S64x256_64_0

/-- The point's 64 rows of the transposed keys. -/
def ktRows (i : grid1.Coords) (x : Blocks F) : FVec F S64x4096 .bf16 := k1_pay4 (View.ld x.kt (rR i))

/-- The first head's scores, softmax weights and the scores' gradient. -/
def sc0 (x : Blocks F) : FVec F S256x4096 .f32 := k1_pay7 (View.ld x.q0 rT) (View.ld x.k rK)
def p0 (x : Blocks F) : FVec F S256x4096 .f32 := k1_pay12 (sc0 x) (View.ld x.lse rL0)
def ds0 (x : Blocks F) : FVec F S256x4096 .f32 :=
  k1_pay13 (sc0 x) (View.ld x.do0 rT) (View.ld x.v rK) (View.ld x.lse rL0) (View.ld x.dl0 rT)
/-- The first head's query gradient, transposed, and its shares of the key's and the value's. -/
def dq0 (i : grid1.Coords) (x : Blocks F) : FVec F S64x256 .f32 :=
  k1_pay14 (ktRows i x) (sc0 x) (View.ld x.do0 rT) (View.ld x.v rK) (View.ld x.lse rL0) (View.ld x.dl0 rT)
def dk0 (i : grid1.Coords) (x : Blocks F) : FVec F S64x4096 .f32 :=
  k1_pay17 (k1_pay5 (F := F)) (ds0 x) (rows i (k1_pay15 (k1_pay10 (View.ld x.q0 rT))))
def dv0 (i : grid1.Coords) (x : Blocks F) : FVec F S64x4096 .f32 :=
  k1_pay18 (k1_pay6 (F := F)) (p0 x) (rows i (k1_pay16 (k1_pay11 (View.ld x.do0 rT))))

/-- The second head's: the output gradient against the values, the weights, the inner products. -/
def dp1 (x : Blocks F) : FVec F S256x4096 .f32 := k1_pay9 (View.ld x.do1 rT) (View.ld x.v rK)
def p1 (x : Blocks F) : FVec F S256x4096 .f32 := k1_pay21 (k1_pay8 (View.ld x.q1 rT) (View.ld x.k rK)) (View.ld x.lse rL1)
def dl1 (x : Blocks F) : FVec F S256x128 .f32 := k1_pay22 (View.ld x.dl1 rT)
def dq1 (i : grid1.Coords) (x : Blocks F) : FVec F S64x256 .f32 := k1_pay24 (ktRows i x) (dp1 x) (p1 x) (dl1 x)

/-- The accumulators' rows after the point, from what they held. -/
def dkRows (i : grid1.Coords) (x : Blocks F) (old : Vec F S64x4096 .f32) : FVec F S64x4096 .f32 :=
  k1_pay28 (dp1 x) (dk0 i x) (p1 x) (dl1 x) (rows i (k1_pay25 (k1_pay19 (View.ld x.q1 rT)))) old
def dvRows (i : grid1.Coords) (x : Blocks F) (old : Vec F S64x4096 .f32) : FVec F S64x4096 .f32 :=
  k1_pay1 (k1_pay27 (dv0 i x) (p1 x) (rows i (k1_pay26 (k1_pay20 (View.ld x.do1 rT))))) old

/-- The query gradient's block after the point. -/
def dqOut (i : grid1.Coords) (x : Blocks F) : Vec F S128x256 .f32 := View.canon [⟨rD1, dq1 i x⟩, ⟨rD0, dq0 i x⟩]
/-- The key gradient's buffer after the point, from what it held, and the value gradient's. -/
def dkOut (i : grid1.Coords) (x : Blocks F) (old : Vec F S128x4096 .f32) : Vec F S128x4096 .f32 :=
  VecWindow.put old ![row i, 0] S64x4096.size (dkRows i x (View.ld old (rR i)))
def dvOut (i : grid1.Coords) (x : Blocks F) (old : Vec F S128x4096 .f32) : Vec F S128x4096 .f32 :=
  VecWindow.put old ![row i, 0] S64x4096.size (dvRows i x (View.ld old (rR i)))

theorem dq_cover (a b : Vec F S64x256 .f32) (y : S128x256.Idx) :
    ∃ pc ∈ ([⟨rD1, a⟩, ⟨rD0, b⟩] : List (View.Piece (Elt F) S128x256 .f32)), y ∈ pc.1.set :=
  View.cover_of_tiled [⟨rD1, a⟩, ⟨rD0, b⟩] S64x256.size (by rfl) y

/-! ## The body's run -/

/-- The body's branch condition: the grid's first point. -/
abbrev Start (i : grid1.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

section Run

variable (c : Dev nD) (E : Set ℕ) (i : grid1.Coords)
  (arg2 : Memref sig .tc .vmem S256x128 .bf16) (harg2 : arg2.IsWhole)
  (arg3 : Memref sig .tc .vmem S256x128 .bf16) (harg3 : arg3.IsWhole)
  (arg4 : Memref sig .tc .vmem S4096x128 .bf16) (harg4 : arg4.IsWhole)
  (arg5 : Memref sig .tc .vmem S128x4096 .bf16) (harg5 : arg5.IsWhole)
  (arg6 : Memref sig .tc .vmem S4096x128 .bf16) (harg6 : arg6.IsWhole)
  (arg7 : Memref sig .tc .vmem S256x128 .bf16) (harg7 : arg7.IsWhole)
  (arg8 : Memref sig .tc .vmem S256x128 .bf16) (harg8 : arg8.IsWhole)
  (arg9 : Memref sig .tc .vmem S256x128 .f32) (harg9 : arg9.IsWhole)
  (arg10 : Memref sig .tc .vmem S256x128 .f32) (harg10 : arg10.IsWhole)
  (arg11 : Memref sig .tc .vmem S2x256x1 .f32) (harg11 : arg11.IsWhole)
  (arg12 : Memref sig .tc .vmem S128x256 .f32) (harg12 : arg12.IsWhole)
  (arg13 : Memref sig .tc .vmem S128x4096 .f32) (harg13 : arg13.IsWhole)
  (arg14 : Memref sig .tc .vmem S128x4096 .f32) (harg14 : arg14.IsWhole)
  (arg15 : Memref sig .tc .vmem S2x128x256 .f32) (harg15 : arg15.IsWhole)
  (arg16 : Memref sig .tc .vmem S2x128x256 .f32) (harg16 : arg16.IsWhole)

/-- The ten input buffers at the blocks `x`. -/
abbrev inputs (x : Blocks F) : sProp 𝕄 :=
  iprop(owns (c : Thread nD τ) arg2 fullShare x.q0
    ∗ owns (c : Thread nD τ) arg3 fullShare x.q1
    ∗ owns (c : Thread nD τ) arg4 fullShare x.k
    ∗ owns (c : Thread nD τ) arg5 fullShare x.kt
    ∗ owns (c : Thread nD τ) arg6 fullShare x.v
    ∗ owns (c : Thread nD τ) arg7 fullShare x.do0
    ∗ owns (c : Thread nD τ) arg8 fullShare x.do1
    ∗ owns (c : Thread nD τ) arg9 fullShare x.dl0
    ∗ owns (c : Thread nD τ) arg10 fullShare x.dl1
    ∗ owns (c : Thread nD τ) arg11 fullShare x.lse)

/-- The two scratch buffers at anything. -/
abbrev scratch : sProp 𝕄 :=
  iprop((∃ d, owns (c : Thread nD τ) arg15 fullShare d) ∗ (∃ d, owns (c : Thread nD τ) arg16 fullShare d))

/-- What the body gives back: the inputs as they were, the outputs at what the point leaves over `ak` and `av`. -/
abbrev given (x : Blocks F) (ak av : Vec F S128x4096 .f32) : sProp 𝕄 :=
  iprop(inputs c arg2 arg3 arg4 arg5 arg6 arg7 arg8 arg9 arg10 arg11 x
    ∗ owns (c : Thread nD τ) arg12 fullShare (dqOut i x) ∗ owns (c : Thread nD τ) arg13 fullShare (dkOut i x ak)
    ∗ owns (c : Thread nD τ) arg14 fullShare (dvOut i x av) ∗ scratch (F := F) c arg15 arg16)

set_option maxHeartbeats 1000000 in
/-- A point after the first: the accumulators add to what they held. -/
theorem later (hc : ¬ Start i) (x : Blocks F) (ak av : Vec F S128x4096 .f32) (K : PUnit → sProp 𝕄) :
    iprop(inputs c arg2 arg3 arg4 arg5 arg6 arg7 arg8 arg9 arg10 arg11 x ∗ (∃ d, owns (c : Thread nD τ) arg12 fullShare d) ∗ owns (c : Thread nD τ) arg13 fullShare ak ∗ owns (c : Thread nD τ) arg14 fullShare av ∗ scratch (F := F) c arg15 arg16
        ∗ (given c i arg2 arg3 arg4 arg5 arg6 arg7 arg8 arg9 arg10 arg11 arg12 arg13 arg14 arg15 arg16 x ak av -∗ K ⟨⟩))
      ⊢ wp frame (wpE (defs₀ (F := F)) Variants.none c none) E (cc1_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc1_attn_bwd_eq_skeleton]; unfold cc1_attn_bwd_skel
  simp only [k1_part1_eq_skeleton, k1_part2_eq_skeleton, k1_part3_eq_skeleton, k1_part4_eq_skeleton]
  obtain ⟨xq0, xq1, xk, xkt, xv, xdo0, xdo1, xdl0, xdl1, xlse⟩ := x
  unfold given inputs scratch owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨%d12, %f12, -, H12⟩, ⟨%f13, %hf13, H13⟩, ⟨%f14, %hf14, H14⟩, ⟨⟨%d15, %f15, -, H15⟩, ⟨%d16, %f16, -, H16⟩⟩, Hk⟩
  subst hf2 hf3 hf4 hf5 hf6 hf7 hf8 hf9 hf10 hf11
  sl_exec (disch := first | sl_exact hc)
  sl_step
  iapply Hk
  isplitl [H2 H3 H4 H5 H6 H7 H8 H9 H10 H11]
  · isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    iexists f11; isplitr; · ipureintro; rfl
    iexact H11
  isplitl [H12]
  · iexists _; isplitr
    swap; · iexact H12
    ipureintro
    refine (View.read_writes_eq_canon _ _ _ (dq_cover _ _)).trans ?_
    rfl
  isplitl [H13]
  · iexists _; isplitr
    swap; · iexact H13
    ipureintro
    subst hf13
    refine (View.read_writes_cons_put (s := S128x4096) (size := S64x4096.size) _ _ (k1_off1_inb i) _ _ (off1_eq i)).trans ?_
    unfold dkOut dkRows dk0
    rw [← read_slot arg15.view arg15.view.junk i (k1_off3_inb i) inb_S2x128x256_S1x128x256_1_0_0 (k1_pay25 (k1_pay19 (View.ld (arg3.view.read (Elt F) f3) rT)))
        [⟨Rect.unit (s := S2x128x256) ![0, 0, 0] S1x128x256.size inb_S2x128x256_S1x128x256_0_0_0, k1_pay15 (k1_pay10 (View.ld (arg2.view.read (Elt F) f2) rT))⟩] (off3_eq i),
      ← read_slot arg15.view f15 i (k1_off2_inb i) inb_S2x128x256_S1x128x256_0_0_0 (k1_pay15 (k1_pay10 (View.ld (arg2.view.read (Elt F) f2) rT))) [] (off2_eq i)]
    rfl
  isplitl [H14]
  · iexists _; isplitr
    swap; · iexact H14
    ipureintro
    subst hf14
    refine (View.read_writes_cons_put (s := S128x4096) (size := S64x4096.size) _ _ (k1_off1_inb i) _ _ (off1_eq i)).trans ?_
    unfold dvOut dvRows dv0
    rw [← read_slot arg16.view arg16.view.junk i (k1_off3_inb i) inb_S2x128x256_S1x128x256_1_0_0 (k1_pay26 (k1_pay20 (View.ld (arg8.view.read (Elt F) f8) rT)))
        [⟨Rect.unit (s := S2x128x256) ![0, 0, 0] S1x128x256.size inb_S2x128x256_S1x128x256_0_0_0, k1_pay16 (k1_pay11 (View.ld (arg7.view.read (Elt F) f7) rT))⟩] (off3_eq i),
      ← read_slot arg16.view f16 i (k1_off2_inb i) inb_S2x128x256_S1x128x256_0_0_0 (k1_pay16 (k1_pay11 (View.ld (arg7.view.read (Elt F) f7) rT))) [] (off2_eq i)]
    rfl
  isplitl [H15]
  · iexists _, _; isplitr
    swap; · iexact H15
    ipureintro; rfl
  iexists _, _; isplitr
  swap; · iexact H16
  ipureintro; rfl

set_option maxHeartbeats 1000000 in
/-- The first point: the accumulators are zeroed, then added to. -/
theorem first (hc : Start i) (x : Blocks F) (K : PUnit → sProp 𝕄) :
    iprop(inputs c arg2 arg3 arg4 arg5 arg6 arg7 arg8 arg9 arg10 arg11 x ∗ (∃ d, owns (c : Thread nD τ) arg12 fullShare d) ∗ (∃ d, owns (c : Thread nD τ) arg13 fullShare d) ∗ (∃ d, owns (c : Thread nD τ) arg14 fullShare d) ∗ scratch (F := F) c arg15 arg16
        ∗ (given c i arg2 arg3 arg4 arg5 arg6 arg7 arg8 arg9 arg10 arg11 arg12 arg13 arg14 arg15 arg16 x (k1_pay2 (F := F)) (k1_pay3 (F := F)) -∗ K ⟨⟩))
      ⊢ wp frame (wpE (defs₀ (F := F)) Variants.none c none) E (cc1_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc1_attn_bwd_eq_skeleton]; unfold cc1_attn_bwd_skel
  simp only [k1_part1_eq_skeleton, k1_part2_eq_skeleton, k1_part3_eq_skeleton, k1_part4_eq_skeleton]
  obtain ⟨xq0, xq1, xk, xkt, xv, xdo0, xdo1, xdl0, xdl1, xlse⟩ := x
  unfold given inputs scratch owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩⟩, ⟨%d12, %f12, -, H12⟩, ⟨%d13, %f13, -, H13⟩, ⟨%d14, %f14, -, H14⟩, ⟨⟨%d15, %f15, -, H15⟩, ⟨%d16, %f16, -, H16⟩⟩, Hk⟩
  subst hf2 hf3 hf4 hf5 hf6 hf7 hf8 hf9 hf10 hf11
  sl_exec (disch := first | sl_exact hc)
  sl_step
  iapply Hk
  isplitl [H2 H3 H4 H5 H6 H7 H8 H9 H10 H11]
  · isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    iexists f11; isplitr; · ipureintro; rfl
    iexact H11
  isplitl [H12]
  · iexists _; isplitr
    swap; · iexact H12
    ipureintro
    refine (View.read_writes_eq_canon _ _ _ (dq_cover _ _)).trans ?_
    rfl
  isplitl [H13]
  · iexists _; isplitr
    swap; · iexact H13
    ipureintro
    refine (View.read_writes_cons_put (s := S128x4096) (size := S64x4096.size) _ _ (k1_off1_inb i) _ _ (off1_eq i)).trans ?_
    rw [← View.read_writes_full (Val := Elt F) arg13.view arg13.view.junk inb_S128x4096_S128x4096_0_0 (k1_pay2 (F := F)) []]
    unfold dkOut dkRows dk0
    rw [← read_slot arg15.view arg15.view.junk i (k1_off3_inb i) inb_S2x128x256_S1x128x256_1_0_0 (k1_pay25 (k1_pay19 (View.ld (arg3.view.read (Elt F) f3) rT)))
        [⟨Rect.unit (s := S2x128x256) ![0, 0, 0] S1x128x256.size inb_S2x128x256_S1x128x256_0_0_0, k1_pay15 (k1_pay10 (View.ld (arg2.view.read (Elt F) f2) rT))⟩] (off3_eq i),
      ← read_slot arg15.view f15 i (k1_off2_inb i) inb_S2x128x256_S1x128x256_0_0_0 (k1_pay15 (k1_pay10 (View.ld (arg2.view.read (Elt F) f2) rT))) [] (off2_eq i)]
    rfl
  isplitl [H14]
  · iexists _; isplitr
    swap; · iexact H14
    ipureintro
    refine (View.read_writes_cons_put (s := S128x4096) (size := S64x4096.size) _ _ (k1_off1_inb i) _ _ (off1_eq i)).trans ?_
    rw [← View.read_writes_full (Val := Elt F) arg14.view arg14.view.junk inb_S128x4096_S128x4096_0_0 (k1_pay3 (F := F)) []]
    unfold dvOut dvRows dv0
    rw [← read_slot arg16.view arg16.view.junk i (k1_off3_inb i) inb_S2x128x256_S1x128x256_1_0_0 (k1_pay26 (k1_pay20 (View.ld (arg8.view.read (Elt F) f8) rT)))
        [⟨Rect.unit (s := S2x128x256) ![0, 0, 0] S1x128x256.size inb_S2x128x256_S1x128x256_0_0_0, k1_pay16 (k1_pay11 (View.ld (arg7.view.read (Elt F) f7) rT))⟩] (off3_eq i),
      ← read_slot arg16.view f16 i (k1_off2_inb i) inb_S2x128x256_S1x128x256_0_0_0 (k1_pay16 (k1_pay11 (View.ld (arg7.view.read (Elt F) f7) rT))) [] (off2_eq i)]
    rfl
  isplitl [H15]
  · iexists _, _; isplitr
    swap; · iexact H15
    ipureintro; rfl
  iexists _, _; isplitr
  swap; · iexact H16
  ipureintro; rfl

end Run

end Cert.AttnBwd
-- ==== Proof.AttnBwdData.lean ====
/- The attention's backward call over its grid: what every point leaves in the three outputs, and that the body keeps to it. -/
module

public import proofs.«01_k».proof.Proof.AttnBwdBody

@[expose] public section

set_option maxRecDepth 16384

noncomputable section

namespace Cert.AttnBwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.AttnKernelIdeal Cert.AttnKernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t` of the array the call finds. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The ten blocks of point `t`. -/
def blocks (c : Dev nD) (t : Fin cfg1.N) : Blocks F where
  q0 := iblk1 V c 0 t
  q1 := iblk1 V c 1 t
  k := iblk1 V c 2 t
  kt := iblk1 V c 3 t
  v := iblk1 V c 4 t
  do0 := iblk1 V c 5 t
  do1 := iblk1 V c 6 t
  dl0 := iblk1 V c 7 t
  dl1 := iblk1 V c 8 t
  lse := iblk1 V c 9 t

/-- What the two accumulators hold after point `n`: zeros before the first point, and every point adds to its rows. -/
def acc (c : Dev nD) : (n : ℕ) → n < cfg1.N → Vec F S128x4096 .f32 × Vec F S128x4096 .f32
  | 0, h => (dkOut (grid1.coords ⟨0, h⟩) (blocks V c ⟨0, h⟩) (k1_pay2 (F := F)), dvOut (grid1.coords ⟨0, h⟩) (blocks V c ⟨0, h⟩) (k1_pay3 (F := F)))
  | n + 1, h => (dkOut (grid1.coords ⟨n + 1, h⟩) (blocks V c ⟨n + 1, h⟩) (acc c n (Nat.lt_of_succ_lt h)).1,
      dvOut (grid1.coords ⟨n + 1, h⟩) (blocks V c ⟨n + 1, h⟩) (acc c n (Nat.lt_of_succ_lt h)).2)

theorem start_iff : ∀ t : Fin cfg1.N, Start (grid1.coords t) ↔ t.val = 0 :=
  (by decide +kernel : ∀ t : Fin grid1.N, Start (grid1.coords t) ↔ t.val = 0)

theorem acc_first (c : Dev nD) (t : Fin cfg1.N) (h : t.val = 0) :
    acc V c t.val t.isLt = (dkOut (grid1.coords t) (blocks V c t) (k1_pay2 (F := F)), dvOut (grid1.coords t) (blocks V c t) (k1_pay3 (F := F))) := by
  obtain ⟨n, hn⟩ := t
  obtain rfl : n = 0 := h
  rfl

theorem acc_later (c : Dev nD) (t : Fin cfg1.N) (h : t.val ≠ 0) :
    acc V c t.val t.isLt = (dkOut (grid1.coords t) (blocks V c t) (acc V c (t.val - 1) (Nat.lt_of_le_of_lt (Nat.sub_le _ _) t.isLt)).1,
      dvOut (grid1.coords t) (blocks V c t) (acc V c (t.val - 1) (Nat.lt_of_le_of_lt (Nat.sub_le _ _) t.isLt)).2) := by
  obtain ⟨n, hn⟩ := t
  cases n with
  | zero => exact absurd rfl h
  | succ n => rfl

/-- The call's proof data: the arrays as found; after the body each input buffer at its block, the query gradient's at the
point's block and the accumulators' at `acc`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => dqOut (grid1.coords t) (blocks V c t)
    | ⟨11, _⟩ => (acc V c t.val t.isLt).1
    | ⟨12, _⟩ => (acc V c t.val t.isLt).2
  Φ _ := Pipeline.ΦA spec1 c
  q w := Pipeline.shareOf spec1 w
  owed _ := 0

theorem A_eq1 (c : Dev nD) (w : Fin cfg1.W) : (dat1 V c).A w = V c (Pipeline.arrRef spec1 w) := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = dqOut (grid1.coords t) (blocks V c t) := by dsimp only [dat1]
theorem after1_11 (c : Dev nD) (t : Fin cfg1.N) : (dat1 V c).after 11 t = (acc V c t.val t.isLt).1 := by dsimp only [dat1]
theorem after1_12 (c : Dev nD) (t : Fin cfg1.N) : (dat1 V c).after 12 t = (acc V c t.val t.isLt).2 := by dsimp only [dat1]

/-- An input's buffer holds its block at every point, given that the body leaves it there. -/
theorem before1_in (c : Dev nD) (w : Fin cfg1.W) (hw : (cfg1.win w).isOut = false) (hc : ∀ t t' : Fin cfg1.N, (cfg1.win w).index t = (cfg1.win w).index t' →
      (cfg1.win w).clip (cfg1.grid.coords t) = (cfg1.win w).clip (cfg1.grid.coords t'))
    (hk : ∀ t, (cfg1.win w).cut (cfg1.grid.coords t) ((dat1 V c).after w t) = iblk1 V c w t) (t : Fin cfg1.N) (d) :
    (dat1 V c).before w t d = (dat1 V c).fetched w t d :=
  (dat1 V c).before_in_eq_fetched w hw (fun _ => rfl) hc (fun t => by rw [hk]; unfold Dat.blockOf iblk1; rw [A_eq1]) t d

theorem fetched1 (c : Dev nD) (w : Fin cfg1.W) (t : Fin cfg1.N) (d) : (dat1 V c).fetched w t d = (cfg1.win w).fill (cfg1.grid.coords t) d (iblk1 V c w t) := by
  unfold Dat.fetched Dat.blockOf iblk1; rw [A_eq1]

theorem before1_0 (c : Dev nD) (t : Fin cfg1.N) (d) : (dat1 V c).before 0 t d = iblk1 V c 0 t :=
  (before1_in V c 0 rfl (fun _ _ _ => rfl) (fun t => by rw [after1_0]) t d).trans ((fetched1 V c 0 t d).trans rfl)
theorem before1_1 (c : Dev nD) (t : Fin cfg1.N) (d) : (dat1 V c).before 1 t d = iblk1 V c 1 t :=
  (before1_in V c 1 rfl (fun _ _ _ => rfl) (fun t => by rw [after1_1]) t d).trans ((fetched1 V c 1 t d).trans rfl)
theorem before1_2 (c : Dev nD) (t : Fin cfg1.N) (d) : (dat1 V c).before 2 t d = iblk1 V c 2 t :=
  (before1_in V c 2 rfl (fun _ _ _ => rfl) (fun t => by rw [after1_2]) t d).trans ((fetched1 V c 2 t d).trans rfl)
theorem before1_3 (c : Dev nD) (t : Fin cfg1.N) (d) : (dat1 V c).before 3 t d = iblk1 V c 3 t :=
  (before1_in V c 3 rfl (fun _ _ _ => rfl) (fun t => by rw [after1_3]) t d).trans ((fetched1 V c 3 t d).trans rfl)
theorem before1_4 (c : Dev nD) (t : Fin cfg1.N) (d) : (dat1 V c).before 4 t d = iblk1 V c 4 t :=
  (before1_in V c 4 rfl (fun _ _ _ => rfl) (fun t => by rw [after1_4]) t d).trans ((fetched1 V c 4 t d).trans rfl)
theorem before1_5 (c : Dev nD) (t : Fin cfg1.N) (d) : (dat1 V c).before 5 t d = iblk1 V c 5 t :=
  (before1_in V c 5 rfl (fun _ _ _ => rfl) (fun t => by rw [after1_5]) t d).trans ((fetched1 V c 5 t d).trans rfl)
theorem before1_6 (c : Dev nD) (t : Fin cfg1.N) (d) : (dat1 V c).before 6 t d = iblk1 V c 6 t :=
  (before1_in V c 6 rfl (fun _ _ _ => rfl) (fun t => by rw [after1_6]) t d).trans ((fetched1 V c 6 t d).trans rfl)
theorem before1_7 (c : Dev nD) (t : Fin cfg1.N) (d) : (dat1 V c).before 7 t d = iblk1 V c 7 t :=
  (before1_in V c 7 rfl (fun _ _ _ => rfl) (fun t => by rw [after1_7]) t d).trans ((fetched1 V c 7 t d).trans rfl)
theorem before1_8 (c : Dev nD) (t : Fin cfg1.N) (d) : (dat1 V c).before 8 t d = iblk1 V c 8 t :=
  (before1_in V c 8 rfl (fun _ _ _ => rfl) (fun t => by rw [after1_8]) t d).trans ((fetched1 V c 8 t d).trans rfl)
theorem before1_9 (c : Dev nD) (t : Fin cfg1.N) (d) : (dat1 V c).before 9 t d = iblk1 V c 9 t :=
  (before1_in V c 9 rfl (fun _ _ _ => rfl) (fun t => by rw [after1_9]) t d).trans ((fetched1 V c 9 t d).trans rfl)

/-- After the first point the accumulators' buffers still hold what the point before left. -/
theorem before1_11 (c : Dev nD) (t : Fin cfg1.N) (h : t.val ≠ 0) (d) :
    (dat1 V c).before 11 t d = (acc V c (t.val - 1) (Nat.lt_of_le_of_lt (Nat.sub_le _ _) t.isLt)).1 := by
  have hN : t.val < 64 := lt_of_lt_of_eq t.isLt (show cfg1.N = 64 from N_1)
  rw [Dat.before_out_kept _ 11 rfl t h (Bool.eq_false_iff.mpr fun h => by have := (flush1_11 _).mp h; dsimp only at this; omega)
    (fun _ => rfl) (fun _ _ => rfl)]
  dsimp only [dat1]
theorem before1_12 (c : Dev nD) (t : Fin cfg1.N) (h : t.val ≠ 0) (d) :
    (dat1 V c).before 12 t d = (acc V c (t.val - 1) (Nat.lt_of_le_of_lt (Nat.sub_le _ _) t.isLt)).2 := by
  have hN : t.val < 64 := lt_of_lt_of_eq t.isLt (show cfg1.N = 64 from N_1)
  rw [Dat.before_out_kept _ 12 rfl t h (Bool.eq_false_iff.mpr fun h => by have := (flush1_12 _).mp h; dsimp only at this; omega)
    (fun _ => rfl) (fun _ _ => rfl)]
  dsimp only [dat1]

/-! ## The scratch inside the invariant -/

/-- The buffers the call does not use. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg7_0), ((c : Thread nD τ).loc cc0_stg7_0) ↦{fullShare} f)
    ∗ (∃ f : Buf (Elt F) ((c : Thread nD τ).loc cc0_stg7_1), ((c : Thread nD τ).loc cc0_stg7_1) ↦{fullShare} f)
    ∗ (∃ f : Buf (Elt F) ((c : Thread nD τ).loc cc0_stg8_0), ((c : Thread nD τ).loc cc0_stg8_0) ↦{fullShare} f)
    ∗ (∃ f : Buf (Elt F) ((c : Thread nD τ).loc cc0_stg8_1), ((c : Thread nD τ).loc cc0_stg8_1) ↦{fullShare} f))

/-- The two scratch buffers at anything. -/
abbrev scr (c : Dev nD) : sProp 𝕄 := scratch (F := F) c (Memref.whole cc1_scratch0) (Memref.whole cc1_scratch1)

/-- The invariant is the scratch beside what the body does not touch. -/
theorem inv_eq (c : Dev nD) : (Pipeline.ΦA spec1 c : sProp 𝕄) ⊣⊢ iprop(scr (F := F) c ∗ others (F := F) c ∗ ∃ r, prngReg c r) := by
  unfold Pipeline.ΦA others
  rw [scopedRest1_eq]
  unfold scr scratch
  simp only [owns_whole]
  constructor
  · iintro ⟨⟨G0, G1, G2, G3, G4, G5, G6, G7, G8, G9, G10, G11, G12, G13, G14, Hs0, Hs1⟩, Hp⟩
    isplitl [Hs0 Hs1]
    · isplitl [Hs0]; · iexact Hs0
      iexact Hs1
    isplitr [Hp]
    · isplitl [G0]; · iexact G0
      isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      isplitl [G9]; · iexact G9
      isplitl [G10]; · iexact G10
      isplitl [G11]; · iexact G11
      isplitl [G12]; · iexact G12
      isplitl [G13]; · iexact G13
      iexact G14
    iexact Hp
  · iintro ⟨⟨Hs0, Hs1⟩, ⟨G0, G1, G2, G3, G4, G5, G6, G7, G8, G9, G10, G11, G12, G13, G14⟩, Hp⟩
    isplitr [Hp]
    · isplitl [G0]; · iexact G0
      isplitl [G1]; · iexact G1
      isplitl [G2]; · iexact G2
      isplitl [G3]; · iexact G3
      isplitl [G4]; · iexact G4
      isplitl [G5]; · iexact G5
      isplitl [G6]; · iexact G6
      isplitl [G7]; · iexact G7
      isplitl [G8]; · iexact G8
      isplitl [G9]; · iexact G9
      isplitl [G10]; · iexact G10
      isplitl [G11]; · iexact G11
      isplitl [G12]; · iexact G12
      isplitl [G13]; · iexact G13
      isplitl [G14]; · iexact G14
      isplitl [Hs0]; · iexact Hs0
      iexact Hs1
    iexact Hp

/-! ## The body at a point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2, after1_3, after1_4, after1_5, after1_6, after1_7, after1_8, after1_9, after1_10, after1_11, after1_12]
  by_cases h : t.val = 0
  · rw [acc_first V c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    ihave HΦ := (inv_eq (F := F) c).1 $$ HΦ
    icases HΦ with ⟨Hs, Hr⟩
    iapply (first c Set.univ (grid1.coords t) _ _ _ _ _ _ _ _ _ _ _ _ _ _ _ _ _ _ _ _ _ _ _ _ _ _ _ _ _ _ ((start_iff t).mpr h) (blocks V c t) _)
    unfold given inputs
    isplitl [H0 H1 H2 H3 H4 H5 H6 H7 H8 H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]; · iexists _; iexact H10
    isplitl [H11]; · iexists _; iexact H11
    isplitl [H12]; · iexists _; iexact H12
    isplitl [Hs]; · iexact Hs
    iintro ⟨⟨H0, H1, H2, H3, H4, H5, H6, H7, H8, H9⟩, H10, H11, H12, Hs⟩
    isplitl [Hs Hr]
    · iapply (inv_eq (F := F) c).2; isplitl [Hs]; · iexact Hs
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · rw [acc_later V c t h]
    simp only [before1_11 V c t h, before1_12 V c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    ihave HΦ := (inv_eq (F := F) c).1 $$ HΦ
    icases HΦ with ⟨Hs, Hr⟩
    iapply (later c Set.univ (grid1.coords t) _ _ _ _ _ _ _ _ _ _ _ _ _ _ _ _ _ _ _ _ _ _ _ _ _ _ _ _ _ _ (fun hs => h ((start_iff t).mp hs)) (blocks V c t) _ _ _)
    unfold given inputs
    isplitl [H0 H1 H2 H3 H4 H5 H6 H7 H8 H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]; · iexists _; iexact H10
    isplitl [H11]; · iexact H11
    isplitl [H12]; · iexact H12
    isplitl [Hs]; · iexact Hs
    iintro ⟨⟨H0, H1, H2, H3, H4, H5, H6, H7, H8, H9⟩, H10, H11, H12, Hs⟩
    isplitl [Hs Hr]
    · iapply (inv_eq (F := F) c).2; isplitl [Hs]; · iexact Hs
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

theorem defs₀_row1 (t : Fin cfg1.N) : defs₀ (F := F) .tc cfg1.body (cfg1.bodyArgs t (cfg1.slots t)) = bodyAt1 t := by
  unfold defs₀; rw [Defs.onTc_tc]

/-- The body keeps to the proof data at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.AttnBwd
-- ==== Proof.AttnBwdPay.lean ====
/- What the backward attention's body computes from its blocks, as real numbers. -/
module

public import proofs.«01_k».proof.Proof.AttnFwdPay
public import proofs.«01_k».proof.Proof.AttnBwdData

@[expose] public section

set_option maxRecDepth 16384

noncomputable section

namespace Cert.AttnBwd

open Idealize.ShloMosaic Idealize.ShloMosaic.TcCoe
open Cert.RealNum Cert.AttnSpec
open Cert.AttnFwd (dotRow)
open Cert.AttnKernelIdeal Cert.AttnKernelIdeal.Gen

/-! ## One head -/

theorem dot_at (k : FVec Ideal S4096x128 .bf16) (q : FVec Ideal S256x128 .bf16) (A : Fin 256 → Fin 128 → ℝ) (B : Fin 4096 → Fin 128 → ℝ)
    (hk : ∀ j l, k (ix2 j l) = ((B j l : ℝ) : EReal)) (hq : ∀ r l, q (ix2 r l) = ((A r l : ℝ) : EReal)) (r : Fin 256) (j : Fin 4096) :
    k1_pay7 (F := Ideal) q k (ix2 r j) = ((dotRow A B r j : ℝ) : EReal) := by
  pointwise [k1_pay7]
  simp only [hk, hq, ← EReal.coe_mul, sum_coe]
  rfl

theorem p_at (s : FVec Ideal S256x4096 .f32) (w : FVec Ideal S1x256x1 .f32) (S : Fin 256 → Fin 4096 → ℝ) (L : Fin 256 → ℝ)
    (hs : ∀ r j, s (ix2 r j) = ((S r j : ℝ) : EReal)) (hw : ∀ r, w (ix3 0 r 0) = ((L r : ℝ) : EReal)) (r : Fin 256) (j : Fin 4096) :
    k1_pay12 (F := Ideal) s w (ix2 r j) = ((Real.exp (S r j - L r) : ℝ) : EReal) := by
  pointwise [k1_pay12]
  rw [hs, hw, ← EReal.coe_sub, Ideal.exp_coe]

/-- The greatest of equal numbers. -/
theorem fold_max_const (a : ℝ) : Finset.univ.fold max (⊥ : EReal) (fun _ : Fin 128 => ((a : ℝ) : EReal)) = ((a : ℝ) : EReal) := by
  rw [fold_max_coe fun _ : Fin 128 => a]
  unfold rowMax
  rw [Finset.sup'_const]

theorem ds_at (dp p : FVec Ideal S256x4096 .f32) (dl : FVec Ideal S256x128 .f32) (G P : Fin 256 → Fin 4096 → ℝ) (δ : Fin 256 → ℝ)
    (hdp : ∀ r j, dp (ix2 r j) = ((G r j : ℝ) : EReal)) (hp : ∀ r j, p (ix2 r j) = ((P r j : ℝ) : EReal))
    (hdl : ∀ r l, dl (ix2 r l) = ((δ r : ℝ) : EReal)) (r : Fin 256) (j : Fin 4096) :
    k1_pay23 (F := Ideal) dp p dl (ix2 r j) = ((P r j * (G r j - δ r) : ℝ) : EReal) := by
  pointwise [k1_pay23]
  rw [ofBits_ninf]
  simp only [hdl, hdp, hp, fold_max_const, ← EReal.coe_sub, ← EReal.coe_mul]

theorem dq_at (kt : FVec Ideal S64x4096 .bf16) (dp p : FVec Ideal S256x4096 .f32) (dl : FVec Ideal S256x128 .f32) (T : Fin 64 → Fin 4096 → ℝ) (Sg : Fin 256 → Fin 4096 → ℝ)
    (hkt : ∀ d j, kt (ix2 d j) = ((T d j : ℝ) : EReal)) (hds : ∀ r j, k1_pay23 (F := Ideal) dp p dl (ix2 r j) = ((Sg r j : ℝ) : EReal)) (d : Fin 64) (r : Fin 256) :
    k1_pay24 (F := Ideal) kt dp p dl (ix2 d r) = ((∑ j, T d j * Sg r j : ℝ) : EReal) := by
  pointwise [k1_pay24]
  simp only [hkt, hds, ← EReal.coe_mul, sum_coe]

theorem tr_at (q : FVec Ideal S256x128 .bf16) (u : Fin 1) (l : Fin 128) (r : Fin 256) : k1_pay15 (F := Ideal) q (ix3 u l r) = q (ix2 r l) := by
  pointwise [k1_pay15]

theorem rows_at (i : grid1.Coords) (g : Fin 2) (hg : (i 0).val / 2 = g.val) (w : FVec Ideal S1x128x256 .f32) (u : Fin 1) (d : Fin 64) (r : Fin 256) :
    (rows i w : FVec Ideal S1x64x256 .f32) (ix3 u d r) = w (ix3 0 ⟨g.val * 64 + d.val, by omega⟩ r) := by
  unfold rows VecWindow.window
  refine congrArg w (funext fun a => Fin.ext ?_)
  fin_cases a
  · show 0 + 1 * u.val = 0; omega
  · show 64 * ((i 0).val / 2) + 1 * d.val = g.val * 64 + d.val; omega
  · show 0 + 1 * r.val = r.val; omega

/-- A head's product with the transposed rows, added to what is there. -/
theorem acc_at (o : FVec Ideal S64x4096 .f32) (s : FVec Ideal S256x4096 .f32) (w : FVec Ideal S1x64x256 .f32) (Oo : Fin 64 → Fin 4096 → ℝ) (Sg : Fin 256 → Fin 4096 → ℝ) (W : Fin 64 → Fin 256 → ℝ)
    (ho : ∀ d j, o (ix2 d j) = ((Oo d j : ℝ) : EReal)) (hs : ∀ r j, s (ix2 r j) = ((Sg r j : ℝ) : EReal)) (hw : ∀ d r, w (ix3 0 d r) = ((W d r : ℝ) : EReal))
    (d : Fin 64) (j : Fin 4096) : k1_pay17 (F := Ideal) o s w (ix2 d j) = ((Oo d j + ∑ r, W d r * Sg r j : ℝ) : EReal) := by
  pointwise [k1_pay17]
  simp only [ho, hs, hw, ← EReal.coe_mul, sum_coe, ← EReal.coe_add]

end Cert.AttnBwd
end
-- ==== Proof.AttnBwdBlock.lean ====
/- One grid point of the backward attention: the query gradient's block and what is added to the accumulators, as real numbers. -/
module

public import proofs.«01_k».proof.Proof.AttnBwdPay

@[expose] public section

set_option maxRecDepth 16384

noncomputable section

namespace Cert.AttnBwd

open Idealize.ShloMosaic Idealize.ShloMosaic.TcCoe
open Cert.RealNum Cert.AttnSpec
open Cert.AttnFwd (dotRow)
open Cert.AttnKernelIdeal Cert.AttnKernelIdeal.Gen

/-- The real numbers a point's blocks hold: two heads' queries, output gradients, log-sums and inner products, the keys and the values. -/
structure Nums where
  A : Fin 2 → Fin 256 → Fin 128 → ℝ
  D : Fin 2 → Fin 256 → Fin 128 → ℝ
  L : Fin 2 → Fin 256 → ℝ
  δ : Fin 2 → Fin 256 → ℝ
  B : Fin 4096 → Fin 128 → ℝ
  V : Fin 4096 → Fin 128 → ℝ

/-- A head's softmax weights and its scores' gradient. -/
def Nums.P (n : Nums) (b : Fin 2) (r : Fin 256) (j : Fin 4096) : ℝ := Real.exp (dotRow (n.A b) n.B r j - n.L b r)
def Nums.S (n : Nums) (b : Fin 2) (r : Fin 256) (j : Fin 4096) : ℝ := n.P b r j * (dotRow (n.D b) n.V r j - n.δ b r)

/-- The blocks hold those numbers. -/
structure Holds (x : Blocks Ideal) (n : Nums) : Prop where
  q0 : ∀ r l, x.q0 (ix2 r l) = ((n.A 0 r l : ℝ) : EReal)
  q1 : ∀ r l, x.q1 (ix2 r l) = ((n.A 1 r l : ℝ) : EReal)
  k : ∀ j l, x.k (ix2 j l) = ((n.B j l : ℝ) : EReal)
  kt : ∀ l j, x.kt (ix2 l j) = ((n.B j l : ℝ) : EReal)
  v : ∀ j l, x.v (ix2 j l) = ((n.V j l : ℝ) : EReal)
  do0 : ∀ r l, x.do0 (ix2 r l) = ((n.D 0 r l : ℝ) : EReal)
  do1 : ∀ r l, x.do1 (ix2 r l) = ((n.D 1 r l : ℝ) : EReal)
  dl0 : ∀ r (l : Fin 128), x.dl0 (ix2 r l) = ((n.δ 0 r : ℝ) : EReal)
  dl1 : ∀ r (l : Fin 128), x.dl1 (ix2 r l) = ((n.δ 1 r : ℝ) : EReal)
  lse : ∀ b r (u : Fin 1), x.lse (ix3 b r u) = ((n.L b r : ℝ) : EReal)

theorem ldT (q : Vec Ideal S256x128 .bf16) : View.ld q rT = q := View.ld_unit_lit _ _ (by decide)
theorem ldD (q : Vec Ideal S256x128 .f32) : View.ld q rT = q := View.ld_unit_lit _ _ (by decide)
theorem ldK (k : Vec Ideal S4096x128 .bf16) : View.ld k rK = k := View.ld_unit_lit _ _ (by decide)

theorem pay4_at (w : Vec Ideal S64x4096 .bf16) (d : Fin 64) (j : Fin 4096) : k1_pay4 (F := Ideal) w (ix2 d j) = w (ix2 d j) := by
  pointwise [k1_pay4]

theorem ldL0 (w : Vec Ideal S2x256x1 .f32) (r : Fin 256) : (View.ld w rL0 : FVec Ideal S1x256x1 .f32) (ix3 0 r 0) = w (ix3 0 r 0) := by
  refine congrArg w (funext fun a => Fin.ext ?_)
  fin_cases a
  · rfl
  · show 0 + 1 * r.val = r.val; omega
  · rfl
theorem ldL1 (w : Vec Ideal S2x256x1 .f32) (r : Fin 256) : (View.ld w rL1 : FVec Ideal S1x256x1 .f32) (ix3 0 r 0) = w (ix3 1 r 0) := by
  refine congrArg w (funext fun a => Fin.ext ?_)
  fin_cases a
  · rfl
  · show 0 + 1 * r.val = r.val; omega
  · rfl

/-- The point's rows of a 128-row array. -/
theorem ldR (i : grid1.Coords) (g : Fin 2) (hg : (i 0).val / 2 = g.val) (α : EltTy) (w : Vec Ideal S128x4096 α) (d : Fin 64) (j : Fin 4096) :
    View.ld w (rR i) (ix2 d j) = w (ix2 ⟨g.val * 64 + d.val, by omega⟩ j) := by
  refine congrArg w (funext fun a => Fin.ext ?_)
  fin_cases a
  · show k1_off1 i 0 + 1 * d.val = g.val * 64 + d.val
    rw [off1_eq]; show 64 * ((i 0).val / 2) + 1 * d.val = g.val * 64 + d.val; omega
  · show k1_off1 i 1 + 1 * j.val = j.val
    rw [off1_eq]; show 0 + 1 * j.val = j.val; omega

section Block
variable {x : Blocks Ideal} {n : Nums} (h : Holds x n)
include h

theorem sc0_at (r : Fin 256) (j : Fin 4096) : sc0 x (ix2 r j) = ((dotRow (n.A 0) n.B r j : ℝ) : EReal) := by
  unfold sc0; rw [ldT, ldK]; exact dot_at _ _ _ _ h.k h.q0 r j

theorem p0_at (r : Fin 256) (j : Fin 4096) : p0 x (ix2 r j) = ((n.P 0 r j : ℝ) : EReal) := by
  unfold p0
  exact p_at _ _ _ _ (sc0_at h) (fun r => (ldL0 _ r).trans (h.lse 0 r 0)) r j

theorem p1_at (r : Fin 256) (j : Fin 4096) : p1 x (ix2 r j) = ((n.P 1 r j : ℝ) : EReal) := by
  unfold p1
  rw [ldT, ldK]
  exact p_at _ _ _ _ (fun r j => dot_at _ _ _ _ h.k h.q1 r j) (fun r => (ldL1 _ r).trans (h.lse 1 r 0)) r j

theorem dp0_at (r : Fin 256) (j : Fin 4096) : k1_pay9 (F := Ideal) x.do0 x.v (ix2 r j) = ((dotRow (n.D 0) n.V r j : ℝ) : EReal) := dot_at _ _ _ _ h.v h.do0 r j
theorem dp1_at (r : Fin 256) (j : Fin 4096) : dp1 x (ix2 r j) = ((dotRow (n.D 1) n.V r j : ℝ) : EReal) := by
  unfold dp1; rw [ldT, ldK]; exact dot_at _ _ _ _ h.v h.do1 r j

theorem dl1_at (r : Fin 256) (l : Fin 128) : dl1 x (ix2 r l) = ((n.δ 1 r : ℝ) : EReal) := by
  unfold dl1; rw [ldD]; pointwise [k1_pay22]; exact h.dl1 r l
theorem dl0_at (r : Fin 256) (l : Fin 128) : k1_pay22 (F := Ideal) x.dl0 (ix2 r l) = ((n.δ 0 r : ℝ) : EReal) := by
  pointwise [k1_pay22]; exact h.dl0 r l

theorem ds0_at (r : Fin 256) (j : Fin 4096) : k1_pay23 (F := Ideal) (k1_pay9 x.do0 x.v) (p0 x) (k1_pay22 x.dl0) (ix2 r j) = ((n.S 0 r j : ℝ) : EReal) :=
  ds_at _ _ _ _ _ _ (dp0_at h) (p0_at h) (dl0_at h) r j
theorem ds1_at (r : Fin 256) (j : Fin 4096) : k1_pay23 (F := Ideal) (dp1 x) (p1 x) (dl1 x) (ix2 r j) = ((n.S 1 r j : ℝ) : EReal) :=
  ds_at _ _ _ _ _ _ (dp1_at h) (p1_at h) (dl1_at h) r j

theorem ds0_eq : ds0 x = k1_pay23 (F := Ideal) (k1_pay9 x.do0 x.v) (p0 x) (k1_pay22 x.dl0) := by
  unfold ds0; rw [ldT, ldD, ldK]; rfl

variable (i : grid1.Coords) (g : Fin 2) (hg : (i 0).val / 2 = g.val)
include hg

theorem kt_at (d : Fin 64) (j : Fin 4096) : ktRows i x (ix2 d j) = ((n.B j ⟨g.val * 64 + d.val, by omega⟩ : ℝ) : EReal) := by
  unfold ktRows
  rw [pay4_at, ldR i g hg]
  exact h.kt _ _

theorem dq1_at (d : Fin 64) (r : Fin 256) : dq1 i x (ix2 d r) = ((∑ j, n.B j ⟨g.val * 64 + d.val, by omega⟩ * n.S 1 r j : ℝ) : EReal) :=
  dq_at _ _ _ _ _ _ (kt_at h i g hg) (ds1_at h) d r
theorem dq0_at (d : Fin 64) (r : Fin 256) : dq0 i x (ix2 d r) = ((∑ j, n.B j ⟨g.val * 64 + d.val, by omega⟩ * n.S 0 r j : ℝ) : EReal) := by
  have e : dq0 i x = k1_pay24 (F := Ideal) (ktRows i x) (k1_pay9 x.do0 x.v) (p0 x) (k1_pay22 x.dl0) := by
    unfold dq0; rw [ldT, ldD, ldK]; rfl
  rw [e]
  exact dq_at _ _ _ _ _ _ (kt_at h i g hg) (ds0_at h) d r

/-- The query gradient's block. -/
theorem dqOut_at (b : Fin 2) (d : Fin 64) (r : Fin 256) : (dqOut i x : FVec Ideal S128x256 .f32) (ix2 ⟨b.val * 64 + d.val, by omega⟩ r)
    = ((∑ j, n.B j ⟨g.val * 64 + d.val, by omega⟩ * n.S b r j : ℝ) : EReal) := by
  have piece : ∀ (b : Fin 2) (w : S64x256.Idx) (y : S128x256.Idx), (y 0).val = b.val * 64 + (w 0).val → (y 1).val = (w 1).val →
      (![dq0 i x, dq1 i x] : Fin 2 → FVec Ideal S64x256 .f32) b w
        = ((∑ j, n.B j ⟨g.val * 64 + (y 0).val % 64, by omega⟩ * n.S ⟨(y 0).val / 64, by have h : (y 0).val < 128 := (y 0).isLt; omega⟩ (y 1) j : ℝ) : EReal) := fun b w y h0 h1 => by
    obtain ⟨d, r, rfl⟩ : ∃ (d : Fin 64) (r : Fin 256), w = ix2 d r := ⟨w 0, w 1, ValueIdx.eq_ix2 w⟩
    have e1 : y 1 = r := Fin.ext h1
    have h0' : (y 0).val = b.val * 64 + d.val := h0
    have eb : (⟨(y 0).val / 64, by have h : (y 0).val < 128 := (y 0).isLt; omega⟩ : Fin 2) = b := Fin.ext (by simp only []; omega)
    have ed : (⟨g.val * 64 + (y 0).val % 64, by omega⟩ : Fin 128) = ⟨g.val * 64 + d.val, by omega⟩ := Fin.ext (by simp only []; omega)
    rw [e1, eb, ed]
    rcases b with ⟨_ | _ | k, hb⟩
    · exact dq0_at h i g hg d r
    · exact dq1_at h i g hg d r
    · omega
  have key : (dqOut i x : FVec Ideal S128x256 .f32) = fun y => ((∑ j, n.B j ⟨g.val * 64 + (y 0).val % 64, by omega⟩
      * n.S ⟨(y 0).val / 64, by have h : (y 0).val < 128 := (y 0).isLt; omega⟩ (y 1) j : ℝ) : EReal) := by
    funext y
    unfold dqOut
    canon_tiles w h
    · exact piece 1 w y h0 h1
    · exact piece 0 w y (h0.trans (by show _ = 0 * 64 + _; omega)) h1
  refine (congrFun key _).trans (congrArg _ (Finset.sum_congr rfl fun j _ => ?_))
  refine congrArg₂ (fun a b => n.B j a * n.S b r j) (Fin.ext ?_) (Fin.ext ?_)
  · show g.val * 64 + (b.val * 64 + d.val) % 64 = g.val * 64 + d.val; omega
  · show (b.val * 64 + d.val) / 64 = b.val; omega

omit h in
theorem rowsT_at (q : FVec Ideal S256x128 .bf16) (a : Fin 256 → Fin 128 → ℝ) (hq : ∀ r l, q (ix2 r l) = ((a r l : ℝ) : EReal)) (d : Fin 64) (r : Fin 256) :
    (rows i (k1_pay15 (F := Ideal) (k1_pay10 q)) : FVec Ideal S1x64x256 .f32) (ix3 0 d r) = ((a r ⟨g.val * 64 + d.val, by omega⟩ : ℝ) : EReal) := by
  rw [rows_at i g hg, tr_at]
  pointwise [k1_pay10]
  exact hq _ _

omit h hg in
theorem zero_at (d : Fin 64) (j : Fin 4096) : k1_pay5 (F := Ideal) (ix2 d j) = ((0 : ℝ) : EReal) := by
  pointwise [k1_pay5]
  exact EReal.coe_zero.symm

theorem dk0_at (d : Fin 64) (j : Fin 4096) : dk0 i x (ix2 d j) = ((∑ r, n.A 0 r ⟨g.val * 64 + d.val, by omega⟩ * n.S 0 r j : ℝ) : EReal) := by
  unfold dk0
  rw [ds0_eq h, ldT]
  refine (acc_at _ _ _ (fun _ _ => 0) (n.S 0) (fun d r => n.A 0 r ⟨g.val * 64 + d.val, by omega⟩) zero_at (ds0_at h) (rowsT_at i g hg _ _ h.q0) d j).trans ?_
  rw [zero_add]
theorem dv0_at (d : Fin 64) (j : Fin 4096) : dv0 i x (ix2 d j) = ((∑ r, n.D 0 r ⟨g.val * 64 + d.val, by omega⟩ * n.P 0 r j : ℝ) : EReal) := by
  have e : dv0 i x = k1_pay17 (F := Ideal) (k1_pay5 (F := Ideal)) (p0 x) (rows i (k1_pay15 (k1_pay10 x.do0))) := by
    unfold dv0; rw [ldT]; rfl
  rw [e]
  refine (acc_at _ _ _ (fun _ _ => 0) (n.P 0) (fun d r => n.D 0 r ⟨g.val * 64 + d.val, by omega⟩) zero_at (p0_at h) (rowsT_at i g hg _ _ h.do0) d j).trans ?_
  rw [zero_add]

/-- A product of rows with one of the point's matrices, summed over the two heads. -/
def both (R : Fin 2 → Fin 256 → Fin 128 → ℝ) (S : Fin 2 → Fin 256 → Fin 4096 → ℝ) (c : Fin 128) (j : Fin 4096) : ℝ := ∑ b, ∑ r, R b r c * S b r j

omit h hg in
theorem add_at (o : FVec Ideal S64x4096 .f32) (s : FVec Ideal S64x4096 .f32) (d : Fin 64) (j : Fin 4096) (a b : ℝ)
    (ho : o (ix2 d j) = ((a : ℝ) : EReal)) (hs : s (ix2 d j) = ((b : ℝ) : EReal)) : k1_pay1 (F := Ideal) s o (ix2 d j) = ((a + b : ℝ) : EReal) := by
  pointwise [k1_pay1]
  rw [ho, hs, ← EReal.coe_add]

theorem dkRows_at (old : Vec Ideal S64x4096 .f32) (d : Fin 64) (j : Fin 4096) (a : ℝ) (ho : old (ix2 d j) = ((a : ℝ) : EReal)) :
    dkRows i x old (ix2 d j) = ((a + both n.A n.S ⟨g.val * 64 + d.val, by omega⟩ j : ℝ) : EReal) := by
  have e : dkRows i x old = k1_pay1 (F := Ideal) (k1_pay17 (dk0 i x) (k1_pay23 (dp1 x) (p1 x) (dl1 x)) (rows i (k1_pay15 (k1_pay10 x.q1)))) old := by
    unfold dkRows; rw [ldT]; rfl
  rw [e]
  refine (add_at _ _ d j _ _ ho (acc_at _ _ _ _ (n.S 1) (fun d r => n.A 1 r ⟨g.val * 64 + d.val, by omega⟩) (dk0_at h i g hg) (ds1_at h) (rowsT_at i g hg _ _ h.q1) d j)).trans ?_
  unfold both
  rw [Fin.sum_univ_two]
theorem dvRows_at (old : Vec Ideal S64x4096 .f32) (d : Fin 64) (j : Fin 4096) (a : ℝ) (ho : old (ix2 d j) = ((a : ℝ) : EReal)) :
    dvRows i x old (ix2 d j) = ((a + both n.D n.P ⟨g.val * 64 + d.val, by omega⟩ j : ℝ) : EReal) := by
  have e : dvRows i x old = k1_pay1 (F := Ideal) (k1_pay17 (dv0 i x) (p1 x) (rows i (k1_pay15 (k1_pay10 x.do1)))) old := by
    unfold dvRows; rw [ldT]; rfl
  rw [e]
  refine (add_at _ _ d j _ _ ho (acc_at _ _ _ _ (n.P 1) (fun d r => n.D 1 r ⟨g.val * 64 + d.val, by omega⟩) (dv0_at h i g hg) (p1_at h) (rowsT_at i g hg _ _ h.do1) d j)).trans ?_
  unfold both
  rw [Fin.sum_univ_two]

omit h in
/-- Rows put into an array: the point's rows are the ones put, the others stay. -/
theorem put_at (old : FVec Ideal S128x4096 .f32) (w : FVec Ideal S64x4096 .f32) (c : Fin 128) (j : Fin 4096) (Old T : ℝ)
    (ho : old (ix2 c j) = ((Old : ℝ) : EReal)) (hw : ∀ d : Fin 64, c.val = g.val * 64 + d.val → w (ix2 d j) = ((Old + T : ℝ) : EReal)) :
    (VecWindow.put old ![row i, 0] S64x4096.size w : FVec Ideal S128x4096 .f32) (ix2 c j) = ((Old + (if c.val / 64 = g.val then T else 0) : ℝ) : EReal) := by
  unfold VecWindow.put
  have hr : row i = g.val * 64 := by unfold row; omega
  by_cases hc : c.val / 64 = g.val
  · rw [if_pos hc, dif_pos (by
      intro a; fin_cases a
      · show row i ≤ c.val ∧ c.val < row i + 64; omega
      · show 0 ≤ j.val ∧ j.val < 0 + 4096; omega)]
    refine Eq.trans (congrArg w ?_) (hw ⟨c.val - g.val * 64, by omega⟩ (by simp only []; omega))
    refine funext fun a => Fin.ext ?_
    fin_cases a
    · show c.val - row i = c.val - g.val * 64; rw [hr]
    · show j.val - 0 = j.val; rfl
  · rw [if_neg hc, add_zero, dif_neg, ho]
    intro H
    have := H 0
    have H0 : row i ≤ c.val ∧ c.val < row i + 64 := this
    omega

theorem dkOut_at (old : Vec Ideal S128x4096 .f32) (c : Fin 128) (j : Fin 4096) (a : ℝ) (ho : old (ix2 c j) = ((a : ℝ) : EReal)) :
    (dkOut i x old : FVec Ideal S128x4096 .f32) (ix2 c j) = ((a + (if c.val / 64 = g.val then both n.A n.S c j else 0) : ℝ) : EReal) := by
  unfold dkOut
  refine put_at i g hg _ _ c j a _ ho fun d hd => ?_
  have ec : (⟨g.val * 64 + d.val, by omega⟩ : Fin 128) = c := Fin.ext hd.symm
  rw [dkRows_at h i g hg _ d j a (by rw [ldR i g hg, ec, ho]), ec]
theorem dvOut_at (old : Vec Ideal S128x4096 .f32) (c : Fin 128) (j : Fin 4096) (a : ℝ) (ho : old (ix2 c j) = ((a : ℝ) : EReal)) :
    (dvOut i x old : FVec Ideal S128x4096 .f32) (ix2 c j) = ((a + (if c.val / 64 = g.val then both n.D n.P c j else 0) : ℝ) : EReal) := by
  unfold dvOut
  refine put_at i g hg _ _ c j a _ ho fun d hd => ?_
  have ec : (⟨g.val * 64 + d.val, by omega⟩ : Fin 128) = c := Fin.ext hd.symm
  rw [dvRows_at h i g hg _ d j a (by rw [ldR i g hg, ec, ho]), ec]

end Block

end Cert.AttnBwd
end
-- ==== Proof.AttnRun.lean ====
/- The attention program's run: host lines, the forward call, host lines, the backward call. It ends with the arguments
   unchanged, every semaphore at zero, and the five results at what the two calls leave. -/
module

public import proofs.«01_k».proof.Proof.AttnFwdData
public import proofs.«01_k».proof.Proof.AttnBwdData
public import Idealize.ShloMosaic.Lib.Pipeline.RegionsLoop
public import Idealize.ShloMosaic.Lib.Pipeline.FrameSuffix

@[expose] public section

set_option maxRecDepth 16384

noncomputable section

namespace Cert.AttnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnKernelIdeal Cert.AttnKernelIdeal.Gen Cert.AttnFwd Cert.AttnBwd

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's arguments. -/
abbrev argRefs : List (Ref sig .tc) := [main_arg0, main_arg1, main_arg2, main_arg3]

/-! ## What the host lines write -/

theorem hostOps0_fresh : (hostOps0 : List (HloOp τ sig (Elt F))).Forall fun op => op.fresh = ∅ := by
  simp only [List.Forall]; repeat' constructor
abbrev hostOps0_W : List (Ref sig .tc) := [main_cst, main_v0, main_v1, main_v2, main_v3, main_v4, main_v5, main_v6, main_cst_0]
theorem hostOps0_writes : (hostOps0 : List (HloOp τ sig (Elt F))).Forall fun op => op.writes ⊆ (hostOps0_W.map (Proc.devRef (τ := τ) .tc)).toFinset :=
  StableHlo.forall_writes_sub_of_map rfl

theorem hostOps0_1_fresh : (hostOps0_1 : List (HloOp τ sig (Elt F))).Forall fun op => op.fresh = ∅ := by
  simp only [List.Forall]; repeat' constructor
abbrev hostOps0_1_W : List (Ref sig .tc) := [main_call0_v0, main_call0_v1, main_v7]
theorem hostOps0_1_writes : (hostOps0_1 : List (HloOp τ sig (Elt F))).Forall fun op => op.writes ⊆ (hostOps0_1_W.map (Proc.devRef (τ := τ) .tc)).toFinset :=
  StableHlo.forall_writes_sub_of_map rfl

theorem hostOps0_2_fresh : (hostOps0_2 : List (HloOp τ sig (Elt F))).Forall fun op => op.fresh = ∅ := by
  simp only [List.Forall]; repeat' constructor
abbrev hostOps0_2_W : List (Ref sig .tc) := [main_v8, main_v9, main_v10, main_v11, main_v12, main_v13, main_v14, main_v15]
theorem hostOps0_2_writes : (hostOps0_2 : List (HloOp τ sig (Elt F))).Forall fun op => op.writes ⊆ (hostOps0_2_W.map (Proc.devRef (τ := τ) .tc)).toFinset :=
  StableHlo.forall_writes_sub_of_map rfl

theorem hostOps1_fresh : (hostOps1 : List (HloOp τ sig (Elt F))).Forall fun op => op.fresh = ∅ := by
  simp only [List.Forall]; repeat' constructor
abbrev hostOps1_W : List (Ref sig .tc) := [main_v17, main_v18, main_cst_1, main_v19, main_v20, main_v21, main_v22, main_v23, main_v24, main_v25, main_v26, main_v27, main_v28, main_cst_2]
theorem hostOps1_writes : (hostOps1 : List (HloOp τ sig (Elt F))).Forall fun op => op.writes ⊆ (hostOps1_W.map (Proc.devRef (τ := τ) .tc)).toFinset :=
  StableHlo.forall_writes_sub_of_map rfl

theorem hostOps1_1_fresh : (hostOps1_1 : List (HloOp τ sig (Elt F))).Forall fun op => op.fresh = ∅ := by
  simp only [List.Forall]; repeat' constructor
abbrev hostOps1_1_W : List (Ref sig .tc) := [main_call1_v0, main_call1_v1, main_v29]
theorem hostOps1_1_writes : (hostOps1_1 : List (HloOp τ sig (Elt F))).Forall fun op => op.writes ⊆ (hostOps1_1_W.map (Proc.devRef (τ := τ) .tc)).toFinset :=
  StableHlo.forall_writes_sub_of_map rfl

theorem hostOps1_2_fresh : (hostOps1_2 : List (HloOp τ sig (Elt F))).Forall fun op => op.fresh = ∅ := by
  simp only [List.Forall]; repeat' constructor
abbrev hostOps1_2_W : List (Ref sig .tc) := [main_v30, main_v31]
theorem hostOps1_2_writes : (hostOps1_2 : List (HloOp τ sig (Elt F))).Forall fun op => op.writes ⊆ (hostOps1_2_W.map (Proc.devRef (τ := τ) .tc)).toFinset :=
  StableHlo.forall_writes_sub_of_map rfl

/-- No argument is written by a host line. -/
theorem args_host : ∀ a ∈ argRefs, a ∉ hostOps0_W ∧ a ∉ hostOps0_1_W ∧ a ∉ hostOps0_2_W ∧ a ∉ hostOps1_W ∧ a ∉ hostOps1_1_W ∧ a ∉ hostOps1_2_W :=
  ListAll.forall_mem_of_all_decide (by decide +kernel)

/-! ## The buffers between the parts of the program -/

/-- At launch. -/
abbrev W0 : Dev nD → Valuation τ sig (Elt F) := fun c b => (s₀ m ρ).mem ((c : Dev nD), b)
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
abbrev W2 : Dev nD → Valuation τ sig (Elt F) := fun c => StableHlo.after hostOps0_1 (W1 m ρ c)
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
abbrev W3 : Dev nD → Valuation τ sig (Elt F) := fun c => StableHlo.after hostOps0_2 (W2 m ρ c)
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
/-- As the forward call finds them, and as it leaves them. -/
abbrev V3 : (c : Dev nD) → (b : Ref sig .tc) → Buf (Elt F) ((c : Thread nD τ).loc b) := fun c b => W3 m ρ c b
def W4 (c : Dev nD) : Valuation τ sig (Elt F) :=
  Pipeline.withArrays spec0 c (W3 m ρ c) fun w => (dat0 (V3 m ρ) c).arrAt w cfg0.N
abbrev V4 : (c : Dev nD) → (b : Ref sig .tc) → Buf (Elt F) ((c : Thread nD τ).loc b) := fun c b => W4 m ρ c b
theorem W4_arr (c : Dev nD) (w : Fin cfg0.W) :
    W4 m ρ c (Proc.devRef .tc (Pipeline.arrRef spec0 w)) = (dat0 (V3 m ρ) c).arrAt w cfg0.N := by
  unfold W4; exact (dat0 (V3 m ρ) c).withArrays_arrAt launch₀0.sharedIn _ (A_eq0 (V3 m ρ) c) w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- A buffer that is none of the call's outputs keeps its contents. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
theorem args_call0 : ∀ a ∈ argRefs, ∀ w : Fin cfg0.W, Pipeline.arrRef spec0 w = a → (cfg0.win w).isOut = false :=
  ListAll.forall_mem_of_all_decide (by decide +kernel)
abbrev W5 : Dev nD → Valuation τ sig (Elt F) := fun c => StableHlo.after hostOps1 (W4 m ρ c)
theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
abbrev W6 : Dev nD → Valuation τ sig (Elt F) := fun c => StableHlo.after hostOps1_1 (W5 m ρ c)
theorem W6_of (c : Dev nD) (r : Ref sig .tc) (h : r ∉ hostOps1_1_W) : W6 m ρ c (Proc.devRef .tc r) = W5 m ρ c (Proc.devRef .tc r) :=
  StableHlo.after_of_writes_sub hostOps1_1 _ hostOps1_1_writes h
abbrev W7 : Dev nD → Valuation τ sig (Elt F) := fun c => StableHlo.after hostOps1_2 (W6 m ρ c)
theorem W7_of (c : Dev nD) (r : Ref sig .tc) (h : r ∉ hostOps1_2_W) : W7 m ρ c (Proc.devRef .tc r) = W6 m ρ c (Proc.devRef .tc r) :=
  StableHlo.after_of_writes_sub hostOps1_2 _ hostOps1_2_writes h
/-- As the backward call finds them, and as it leaves them. -/
abbrev V7 : (c : Dev nD) → (b : Ref sig .tc) → Buf (Elt F) ((c : Thread nD τ).loc b) := fun c b => W7 m ρ c b
def W8 (c : Dev nD) : Valuation τ sig (Elt F) :=
  Pipeline.withArrays spec1 c (W7 m ρ c) fun w => (dat1 (V7 m ρ) c).arrAt w cfg1.N
abbrev V8 : (c : Dev nD) → (b : Ref sig .tc) → Buf (Elt F) ((c : Thread nD τ).loc b) := fun c b => W8 m ρ c b
theorem W8_arr (c : Dev nD) (w : Fin cfg1.W) :
    W8 m ρ c (Proc.devRef .tc (Pipeline.arrRef spec1 w)) = (dat1 (V7 m ρ) c).arrAt w cfg1.N := by
  unfold W8; exact (dat1 (V7 m ρ) c).withArrays_arrAt launch₀1.sharedIn _ (A_eq1 (V7 m ρ) c) w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
/-- A buffer that is none of the call's outputs keeps its contents. -/
theorem W8_of (c : Dev nD) (r : Ref sig .tc) (h : ∀ w : Fin cfg1.W, Pipeline.arrRef spec1 w = r → (cfg1.win w).isOut = false) :
    W8 m ρ c (Proc.devRef .tc r) = W7 m ρ c (Proc.devRef .tc r) := by
  by_cases hw : ∃ w : Fin cfg1.W, Pipeline.arrRef spec1 w = r
  · obtain ⟨w, rfl⟩ := hw
    exact (W8_arr m ρ c w).trans (((dat1 (V7 m ρ) c).arrAt_in w (h w rfl) _).trans (A_eq1 (V7 m ρ) c w))
  · exact W8_of_ne m ρ c r fun w e => hw ⟨w, e⟩
theorem args_call1 : ∀ a ∈ argRefs, ∀ w : Fin cfg1.W, Pipeline.arrRef spec1 w = a → (cfg1.win w).isOut = false :=
  ListAll.forall_mem_of_all_decide (by decide +kernel)

/-- Every argument is at the end what it was at launch. -/
theorem W8_args (c : Dev nD) (a : Ref sig .tc) (ha : a ∈ argRefs) : W8 m ρ c (Proc.devRef .tc a) = m ((c : Thread nD τ).loc a) := by
  obtain ⟨h0, h1, h2, h3, h4, h5⟩ := args_host a ha
  rw [W8_of m ρ c a (args_call1 a ha), W7_of m ρ c a h5, W6_of m ρ c a h4, W5_of m ρ c a h3, W4_of m ρ c a (args_call0 a ha),
    W3_of m ρ c a h2, W2_of m ρ c a h1, W1_of m ρ c a h0]

/-- The forward call's results are not touched after it. -/
theorem W8_fwd (c : Dev nD) (w : Fin cfg0.W) (h5 : Pipeline.arrRef spec0 w ∉ hostOps1_W) (h6 : Pipeline.arrRef spec0 w ∉ hostOps1_1_W)
    (h7 : Pipeline.arrRef spec0 w ∉ hostOps1_2_W) (h8 : ∀ v : Fin cfg1.W, Pipeline.arrRef spec1 v = Pipeline.arrRef spec0 w → (cfg1.win v).isOut = false) :
    W8 m ρ c (Proc.devRef .tc (Pipeline.arrRef spec0 w)) = (dat0 (V3 m ρ) c).arrAt w cfg0.N := by
  rw [W8_of m ρ c _ h8, W7_of m ρ c _ h7, W6_of m ρ c _ h6, W5_of m ρ c _ h5, W4_arr]

/-! ## The two calls and the host lines as parts of one run -/

abbrev adm : (p : Fin 2) → (pcfgs (F := F) p).Adm := fun p => (cfgs p).toPCfg_adm
/-- Both calls' proof data, each over the buffers it finds. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V7 m ρ) c
abbrev L : GSem nD τ sig → Finset Unit := fun _ => ∅
abbrev lv : GSem nD τ sig → Unit → ℕ := fun _ _ => 0
/-- Nothing is owed. -/
abbrev debt (c : Dev nD) : sProp 𝕄 := iprop(∃ W, owes (c : Thread nD τ) (0 : CellTallies nD τ sig Unit) W)
/-- What goes along with the buffers: the generator's register and that nothing is owed. -/
abbrev R (c : Dev nD) : sProp 𝕄 := iprop((∃ r, prngReg c r) ∗ debt (F := F) c)
/-- Every buffer of the program at `W`. -/
abbrev at_ (W : Dev nD → Valuation τ sig (Elt F)) (c : Dev nD) : sProp 𝕄 := StableHlo.held (c : Thread nD τ) (Pipeline.ucRefs τ sig) (W c)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state, the debt apart. -/
abbrev last (c : Dev nD) : sProp 𝕄 := iprop(at_ (W8 m ρ) c ∗ ∃ r, prngReg c r)

set_option backward.isDefEq.respectTransparency.types false in
/-- The forward call: its arrays are taken out of the buffers, its body keeps to the proof data, and they are put back. -/
def reg0 : Pipeline.RegionSeg (pcfgs (F := F)) adm (pdats m ρ) () defs₀ Variants.none L lv 0 where
  win := launch₀0.win
  block_pos := launch₀0.block_pos
  stage_whole := launch₀0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(at_ (W3 m ρ) c ∗ R (F := F) c)
  post c := iprop(at_ (W4 m ρ) c ∗ R (F := F) c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V3 m ρ c) (V4 m ρ c) ((pdats m ρ 0 c).arrAt · cfg0.N) (fun w => (W4_arr m ρ c w).symm)
      (fun b hb => W4_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The backward call: its arrays are taken out of the buffers, its body keeps to the proof data, and they are put back. -/
def reg1 : Pipeline.RegionSeg (pcfgs (F := F)) adm (pdats m ρ) () defs₀ Variants.none L lv 1 where
  win := launch₀1.win
  block_pos := launch₀1.block_pos
  stage_whole := launch₀1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(at_ (W7 m ρ) c ∗ R (F := F) c)
  post c := iprop(last m ρ c ∗ debt (F := F) c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V7 m ρ c) (A_eq1 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V7 m ρ c) (V8 m ρ c) ((pdats m ρ 1 c).arrAt · cfg1.N) (fun w => (W8_arr m ρ c w).symm)
      (fun b hb => W8_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ Variants.none L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .host (hseg hostOps1_1 hostOps1_1_sub hostOps1_1_fresh (W5 m ρ)),
    .host (hseg hostOps1_2 hostOps1_2_sub hostOps1_2_fresh (W6 m ρ)),
    .region (reg1 m ρ) ]
theorem main_run (c : Dev nD) : main (F := F) c = Pipeline.Seg.run (segs m ρ) := (main_chain c).trans (by chain_rfl)

theorem no_unscoped : ∀ sm : SemLoc sig, sm.isScoped .tc = true := by decide

/-- The state the program ends in: every buffer as the backward call left it, every semaphore at zero. -/
def Ends (r : MemSt nD τ sig (Elt F)) : Prop :=
  (∀ c : Dev nD, ∀ b ∈ Pipeline.ucRefs τ sig, r.mem (((c : Thread nD τ)).1, b) = W8 m ρ c b) ∧ r.sem = fun _ => 0

set_option backward.isDefEq.respectTransparency.types false in
/-- From any memory with all semaphores at zero the program terminates without a fault, in that state. -/
theorem run : θ_run defs (onTc (τ := τ) (main (F := F))) ⟨m, fun _ => 0, ρ⟩ (fun r => Ends m ρ r.2) :=
  Pipeline.θ_run_regions_kit_sems (pcfgs (F := F)) adm (pdats m ρ) () cellOf_inj emb₁ defs₀ Variants.none L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(at_ (W0 m ρ) c ∗ R (F := F) c)) (Tₙ := last m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold at_ StableHlo.held
      imodintro
      iapply (pointsTo_read_all (Pipeline.ucRefs τ sig) (fun b => (((c : Thread nD τ)).1, b)) (W8 m ρ c) s')
      isplitl [Hh] <;> iassumption)
    (hQ := fun s h hz => ⟨fun c => h c, funext fun g => hz g (.inr (no_unscoped g.2))⟩)

variable {m ρ}

/-- The arguments are unchanged in it. -/
theorem Ends.args {r : MemSt nD τ sig (Elt F)} (h : Ends m ρ r) (c : Dev nD) :
    r.mem ((c.tc : Thread nD τ).loc main_arg0) = m ((c.tc : Thread nD τ).loc main_arg0)
      ∧ r.mem ((c.tc : Thread nD τ).loc main_arg1) = m ((c.tc : Thread nD τ).loc main_arg1)
      ∧ r.mem ((c.tc : Thread nD τ).loc main_arg2) = m ((c.tc : Thread nD τ).loc main_arg2)
      ∧ r.mem ((c.tc : Thread nD τ).loc main_arg3) = m ((c.tc : Thread nD τ).loc main_arg3) :=
  have a (b : Ref sig .tc) (hb : ¬ (Proc.devRef .tc b : DevRef τ sig).isScoped) (hm : b ∈ argRefs) : r.mem ((c.tc : Thread nD τ).loc b) = m ((c.tc : Thread nD τ).loc b) :=
    (h.1 c _ (mem_uc b hb)).trans (W8_args m ρ c b hm)
  ⟨a main_arg0 (by decide) (by decide), a main_arg1 (by decide) (by decide), a main_arg2 (by decide) (by decide), a main_arg3 (by decide) (by decide)⟩

/-- The five results in it are what the two calls leave. -/
theorem Ends.results {r : MemSt nD τ sig (Elt F)} (h : Ends m ρ r) (c : Dev nD) :
    r.mem ((c.tc : Thread nD τ).loc main_v16_0) = (dat0 (V3 m ρ) c).arrAt 7 cfg0.N
      ∧ r.mem ((c.tc : Thread nD τ).loc main_v16_1) = (dat0 (V3 m ρ) c).arrAt 8 cfg0.N
      ∧ r.mem ((c.tc : Thread nD τ).loc main_v32_0) = (dat1 (V7 m ρ) c).arrAt 10 cfg1.N
      ∧ r.mem ((c.tc : Thread nD τ).loc main_v32_1) = (dat1 (V7 m ρ) c).arrAt 11 cfg1.N
      ∧ r.mem ((c.tc : Thread nD τ).loc main_v32_2) = (dat1 (V7 m ρ) c).arrAt 12 cfg1.N :=
  ⟨(h.1 c _ (mem_uc main_v16_0 (by decide))).trans (W8_fwd m ρ c 7 (by decide) (by decide) (by decide) (by decide)),
   (h.1 c _ (mem_uc main_v16_1 (by decide))).trans (W8_fwd m ρ c 8 (by decide) (by decide) (by decide) (by decide)),
   (h.1 c _ (mem_uc main_v32_0 (by decide))).trans (W8_arr m ρ c 10),
   (h.1 c _ (mem_uc main_v32_1 (by decide))).trans (W8_arr m ρ c 11),
   (h.1 c _ (mem_uc main_v32_2 (by decide))).trans (W8_arr m ρ c 12)⟩

end Cert.AttnRun
-- ==== Proof.AttnHost.lean ====
/- What the attention program's host lines compute: the queries and the cotangent spread over 128 lanes a head, the
   values with their halves exchanged, the keys transposed, and each row's sum of output times cotangent. -/
module

public import proofs.«01_k».proof.Proof.AttnSpec
public import proofs.«01_k».proof.Proof.AttnRun
public import Idealize.ShloMosaic.Lib.StableHlo.Run
public import Idealize.ShloMosaic.Lib.WordCmp

@[expose] public section

set_option maxRecDepth 16384

noncomputable section

namespace Cert.AttnHost

open Idealize.ShloMosaic Idealize.ShloMosaic.TcCoe Idealize.ShloMosaic.StableHlo
open Cert.RealNum Cert.AttnSpec Cert.AttnRun
open Cert.AttnKernelIdeal Cert.AttnKernelIdeal.Gen

/-! ## The arrays -/

/-- Each head's 64 columns, put at the half of 128 lanes that its keys have, zeros at the other half. -/
def spreadT (x : FVec Ideal S4096x512 .f32) : FVec Ideal S4096x1024 .bf16 :=
  truncf .bf16 (shapeCast S4096x1024 (select (cmpi .eq (iotaInDim S4096x2x4x2x64 32 1) (iotaInDim S4096x2x4x2x64 32 3))
    (broadcastInDim S4096x2x4x2x64 ![0, 1, 2, 3, 4] bcast_S4096x2x4x1x64_S4096x2x4x2x64_0_1_2_3_4 (shapeCast S4096x2x4x1x64 x shapeCasts_S4096x512_S4096x2x4x1x64))
    (broadcastInDim S4096x2x4x2x64 ![] bcast_S_S4096x2x4x2x64 (id (constant S_ .f32 0x00000000#32)))) shapeCasts_S4096x2x4x2x64_S4096x1024) bitsLt_bf16_f32
/-- Narrowed. -/
def castT (x : FVec Ideal S4096x128 .f32) : FVec Ideal S4096x128 .bf16 := truncf .bf16 x bitsLt_bf16_f32
/-- The queries, scaled. -/
def scaleT (q : FVec Ideal S4096x512 .f32) : FVec Ideal S4096x512 .f32 :=
  mulf q (broadcastInDim S4096x512 ![] bcast_S_S4096x512 (constant S_ .f32 0x3E000000#32))
/-- The values with their halves exchanged. -/
def swapT (v : FVec Ideal S4096x128 .f32) : FVec Ideal S4096x128 .bf16 :=
  truncf .bf16 (concatenate S4096x128 1 [⟨S4096x64, extractStridedSlice S4096x64 ![0, 64] v slices_S4096x128_S4096x64_0_64⟩,
    ⟨S4096x64, extractStridedSlice S4096x64 ![0, 0] v slices_S4096x128_S4096x64_0_0⟩] concatenates_S4096x64_S4096x64_S4096x128_d1) bitsLt_bf16_f32
/-- The row sums of output times cotangent, a head in 128 lanes. -/
def deltaT (d o : FVec Ideal S4096x512 .f32) : FVec Ideal S4096x1024 .f32 :=
  shapeCast S4096x1024 (broadcastInDim S4096x8x128 ![0, 1, 2] bcast_S4096x8x1_S4096x8x128_0_1_2 (broadcastInDim S4096x8x1 ![0, 1] bcast_S4096x8_S4096x8x1_0_1
    (Host.reduceAdd (shapeCast S4096x8x64 (mulf d o) shapeCasts_S4096x512_S4096x8x64) (constant S_ .f32 0x00000000#32) reducesTo_S4096x8x64_S4096x8_d2 h_S_))) shapeCasts_S4096x8x128_S4096x1024

/-- A choice by the equality of two small words. -/
theorem eq_sel {α : Type} (x y : ℕ) (hx : x < 2) (hy : y < 2) (a b : α) :
    Scalar.select (IntOp.cmpi CmpIPredicate.eq (BitVec.ofNat 32 x) (BitVec.ofNat 32 y)) a b = if x = y then a else b := by
  word_cmp

/-- A head's row over 128 lanes: the entry, or zero where the lane's half is not the head's. -/
def spread (X : Fin 4096 → Fin 512 → ℝ) (i : Fin 4096) (c : Fin 1024) : ℝ :=
  if c.val / 512 = c.val % 128 / 64 then X i ⟨c.val / 128 * 64 + c.val % 64, by omega⟩ else 0

theorem spread_at (x : FVec Ideal S4096x512 .f32) (X : Fin 4096 → Fin 512 → ℝ) (hx : ∀ r l, x (ix2 r l) = ((X r l : ℝ) : EReal)) (i : Fin 4096) (c : Fin 1024) :
    spreadT x (ix2 i c) = ((spread X i c : ℝ) : EReal) := by
  pointwise [spreadT]
  rw [eq_sel _ _ (by omega) (by omega), hx]
  unfold spread
  by_cases h : c.val / 512 = c.val / 64 % 2
  · rw [if_pos h, if_pos (by omega)]
    exact congrArg (fun k : Fin 512 => ((X i k : ℝ) : EReal)) (Fin.ext (show c.val / 512 * 256 + c.val / 128 % 4 * 64 + c.val % 64 = c.val / 128 * 64 + c.val % 64 by omega))
  · rw [if_neg h, if_neg (by omega)]
    show Ideal.ofBits .f32 0#32 = ((0 : ℝ) : EReal)
    rw [EReal.coe_zero]
    exact Ideal.ofBits_zero .f32

/-- A product with a spread row is over the head's own columns. -/
theorem spread_dot (X : Fin 4096 → Fin 512 → ℝ) (b : Fin 128 → ℝ) (i : Fin 4096) (h : Fin 8) :
    ∑ l : Fin 128, spread X i ⟨h.val * 128 + l.val, by omega⟩ * b l = ∑ d, X i (qc h d) * b (kc h d) := by
  have e : ∀ (j : Fin 2) (t : Fin 64) (p), spread X i ⟨h.val * 128 + (j.val * 64 + t.val), p⟩ = if h.val / 4 = j.val then X i (qc h t) else 0 := fun j t p => by
    have e0 : (h.val * 128 + (j.val * 64 + t.val)) % 128 = j.val * 64 + t.val := by omega
    have e1 : (h.val * 128 + (j.val * 64 + t.val)) % 128 / 64 = j.val := by omega
    have e2 : (h.val * 128 + (j.val * 64 + t.val)) / 512 = h.val / 4 := by omega
    have e3 : (h.val * 128 + (j.val * 64 + t.val)) / 128 * 64 + (h.val * 128 + (j.val * 64 + t.val)) % 64 = h.val * 64 + t.val := by omega
    simp only [spread, qc, e1, e2, e3]
  rw [Fin.sum_univ_tiles 2 64 rfl, Finset.sum_comm]
  refine Finset.sum_congr rfl fun t _ => ?_
  rw [Fin.sum_univ_two]
  rw [e 0 t, e 1 t]
  rcases (by omega : h.val / 4 = 0 ∨ h.val / 4 = 1) with h0 | h1
  · rw [if_pos (show h.val / 4 = (0 : Fin 2).val from h0), if_neg (by rw [h0]; decide), zero_mul, add_zero, show kc h t = ⟨0 * 64 + t.val, by omega⟩ from Fin.ext (by simp only [kc, h0])]
    rfl
  · rw [if_neg (by rw [h1]; decide), if_pos (show h.val / 4 = (1 : Fin 2).val from h1), zero_mul, zero_add, show kc h t = ⟨1 * 64 + t.val, by omega⟩ from Fin.ext (by simp only [kc, h1])]
    rfl

theorem scale_at (q : FVec Ideal S4096x512 .f32) (Q : Fin 4096 → Fin 512 → ℝ) (hq : ∀ r l, q (ix2 r l) = ((Q r l : ℝ) : EReal)) (i : Fin 4096) (c : Fin 512) :
    scaleT q (ix2 i c) = ((Q i c * (1 / 8) : ℝ) : EReal) := by
  pointwise [scaleT]
  rw [hq, ofBits_eighth, ← EReal.coe_mul]

theorem swap_at (v : FVec Ideal S4096x128 .f32) (i : Fin 4096) (c : Fin 128) :
    swapT v (ix2 i c) = if h : c.val < 64 then v (ix2 i ⟨64 + c.val, by omega⟩) else v (ix2 i ⟨c.val - 64, by omega⟩) := by
  pointwise [swapT]

theorem delta_at (d o : FVec Ideal S4096x512 .f32) (D : Fin 4096 → Fin 512 → ℝ) (O' : Fin 4096 → Fin 512 → ℝ)
    (hdo : ∀ r l, d (ix2 r l) = ((D r l : ℝ) : EReal)) (ho : ∀ r l, o (ix2 r l) = ((O' r l : ℝ) : EReal)) (i : Fin 4096) (h : Fin 8) (l : Fin 128) :
    deltaT d o (ix2 i ⟨h.val * 128 + l.val, by omega⟩) = ((∑ e : Fin 64, D i (qc h e) * O' i (qc h e) : ℝ) : EReal) := by
  pointwise [deltaT]
  simp only [hdo, ho, ← EReal.coe_mul, sum_coe]
  rfl

/-! ## The buffers the two calls find -/

section Bufs
variable (m : (ℓ : Loc nD τ sig) → Buf (Elt Ideal) ℓ) (ρ : Dev nD → PrngReg) (c : Dev nD)

theorem q_buf : V3 m ρ c main_v9 = spreadT (scaleT (m ((c : Thread nD τ).loc main_arg0))) := by
  show StableHlo.after hostOps0_2 (StableHlo.after hostOps0_1 (StableHlo.after hostOps0 (W0 m ρ c))) _ = _
  after_results_simp <;> rfl
theorem k_buf : V3 m ρ c main_v10 = castT (m ((c : Thread nD τ).loc main_arg1)) := by
  show StableHlo.after hostOps0_2 (StableHlo.after hostOps0_1 (StableHlo.after hostOps0 (W0 m ρ c))) _ = _
  after_results_simp <;> rfl
theorem v_buf : V3 m ρ c main_v11 = castT (m ((c : Thread nD τ).loc main_arg2)) := by
  show StableHlo.after hostOps0_2 (StableHlo.after hostOps0_1 (StableHlo.after hostOps0 (W0 m ρ c))) _ = _
  after_results_simp <;> rfl
theorem vs_buf : V3 m ρ c main_v15 = swapT (m ((c : Thread nD τ).loc main_arg2)) := by
  show StableHlo.after hostOps0_2 (StableHlo.after hostOps0_1 (StableHlo.after hostOps0 (W0 m ρ c))) _ = _
  after_results_simp <;> rfl

theorem q_buf7 : V7 m ρ c main_v9 = V3 m ρ c main_v9 := by
  show W7 m ρ c _ = _
  rw [W7_of m ρ c _ (by decide +kernel), W6_of m ρ c _ (by decide +kernel), W5_of m ρ c _ (by decide +kernel), W4_of m ρ c _ (by decide +kernel)]
theorem do_buf : V7 m ρ c main_v31 = spreadT (m ((c : Thread nD τ).loc main_arg3)) := by
  have e : W4 m ρ c (Proc.devRef .tc main_arg3) = m ((c : Thread nD τ).loc main_arg3) := by
    rw [W4_of m ρ c _ (by decide +kernel), W3_of m ρ c _ (by decide +kernel), W2_of m ρ c _ (by decide +kernel), W1_of m ρ c _ (by decide +kernel)]
  rw [← e]
  show StableHlo.after hostOps1_2 (StableHlo.after hostOps1_1 (StableHlo.after hostOps1 (W4 m ρ c))) _ = _
  after_results_simp <;> rfl
theorem delta_buf : V7 m ρ c main_v22 = deltaT (m ((c : Thread nD τ).loc main_arg3)) (W4 m ρ c (Proc.devRef .tc main_v16_0)) := by
  have e : W4 m ρ c (Proc.devRef .tc main_arg3) = m ((c : Thread nD τ).loc main_arg3) := by
    rw [W4_of m ρ c _ (by decide +kernel), W3_of m ρ c _ (by decide +kernel), W2_of m ρ c _ (by decide +kernel), W1_of m ρ c _ (by decide +kernel)]
  rw [← e]
  show StableHlo.after hostOps1_2 (StableHlo.after hostOps1_1 (StableHlo.after hostOps1 (W4 m ρ c))) _ = _
  after_results_simp <;> rfl
theorem kt_buf : V7 m ρ c main_v23 = transpose S128x4096 [1, 0] (V3 m ρ c main_v10) transposes_S4096x128_S128x4096_1_0 := by
  have e : W4 m ρ c (Proc.devRef .tc main_v10) = V3 m ρ c main_v10 := W4_of m ρ c _ (by decide +kernel)
  rw [← e]
  show StableHlo.after hostOps1_2 (StableHlo.after hostOps1_1 (StableHlo.after hostOps1 (W4 m ρ c))) _ = _
  after_results_simp <;> rfl

end Bufs

end Cert.AttnHost
end
-- ==== Proof.AttnFwdValue.lean ====
/- The forward attention call's two results: the head outputs and the row log-sums. -/
module

public import proofs.«01_k».proof.Proof.AttnFwdPay
public import proofs.«01_k».proof.Proof.AttnHost

@[expose] public section

set_option maxRecDepth 16384

noncomputable section

namespace Cert.AttnFwd

open Idealize.ShloMosaic Idealize.ShloMosaic.TcCoe
open Cert.RealNum Cert.AttnSpec Cert.AttnHost Cert.AttnRun
open Cert.AttnKernelIdeal Cert.AttnKernelIdeal.Gen

theorem idx : ∀ t : Fin cfg0.N, win0_0.index t = ![t.val % 16, t.val / 16 * 4] ∧ win0_1.index t = ![t.val % 16, t.val / 16 * 4 + 1]
    ∧ win0_2.index t = ![t.val % 16, t.val / 16 * 4 + 2] ∧ win0_3.index t = ![t.val % 16, t.val / 16 * 4 + 3]
    ∧ win0_4.index t = ![0, 0] ∧ win0_5.index t = ![0, 0] ∧ win0_6.index t = ![0, 0]
    ∧ win0_7.index t = ![t.val % 16, t.val / 16] ∧ win0_8.index t = ![t.val / 16, t.val % 16, 0] :=
  (by decide +kernel : ∀ t : Fin grid0.N, _)

theorem coord0 : ∀ t : Fin cfg0.N, ((grid0.coords t) 0).val = t.val / 16 := (by decide +kernel : ∀ t : Fin grid0.N, _)

/-! ## The block's results -/

/-- Whole reads give the block. -/
theorem ldQ (q : Vec Ideal S256x128 .bf16) : View.ld q rQ = q := View.ld_unit_lit _ _ (by decide)
theorem ldK (k : Vec Ideal S4096x128 .bf16) : View.ld k rK = k := View.ld_unit_lit _ _ (by decide)

/-- The values a head reads: as they are, or with the halves exchanged. -/
theorem pick0_at (g : Fin 2) (a b : FVec Ideal S4096x128 .bf16) (j : Fin 4096) (l : Fin 128) :
    k0_pay23 (F := Ideal) (BitVec.ofNat 32 g.val) a b (ix2 j l) = if g.val = 0 then b (ix2 j l) else a (ix2 j l) := by
  fin_cases g <;> pointwise [k0_pay23] <;> rfl
theorem pick1_at (g : Fin 2) (a b : FVec Ideal S4096x128 .bf16) (j : Fin 4096) (l : Fin 128) :
    (Scalar.select (Scalar.cmpi .ne (BitVec.ofNat 32 g.val) 1#32) (k0_pay24 (F := Ideal) a (ix2 j l)) (b (ix2 j l)) : EReal) = if g.val = 1 then b (ix2 j l) else a (ix2 j l) := by
  fin_cases g <;> pointwise [k0_pay24] <;> rfl

section Block
variable (x : Blocks Ideal) (A : Fin 4 → Fin 256 → Fin 128 → ℝ) (B Vv : Fin 4096 → Fin 128 → ℝ)

/-- The four heads' query blocks. -/
def qs : Fin 4 → FVec Ideal S256x128 .bf16 := ![x.q0, x.q1, x.q2, x.q3]

variable (hq : ∀ a r l, qs x a (ix2 r l) = ((A a r l : ℝ) : EReal))
  (hk : ∀ j l, x.k (ix2 j l) = ((B j l : ℝ) : EReal)) (hv : ∀ j l, x.v (ix2 j l) = ((Vv j l : ℝ) : EReal))
  (hvs : ∀ j (l : Fin 128), x.vs (ix2 j l) = ((Vv j ⟨(l.val + 64) % 128, by omega⟩ : ℝ) : EReal))

theorem l_eq (a : Fin 4) : (![l0 x, l1 x, l2 x, l3 x] : Fin 4 → FVec Ideal S1x256x1 .f32) a = k0_pay19 (F := Ideal) (k0_pay7 x.k (qs x a)) (k0_pay15 x.k (qs x a)) := by
  fin_cases a
  · show l0 x = k0_pay19 (F := Ideal) (k0_pay7 x.k x.q0) (k0_pay15 x.k x.q0)
    unfold l0 s0; rw [ldK, ldQ]
  · show l1 x = k0_pay19 (F := Ideal) (k0_pay7 x.k x.q1) (k0_pay15 x.k x.q1)
    unfold l1 s1; rw [ldK, ldQ]; rfl
  · show l2 x = k0_pay19 (F := Ideal) (k0_pay7 x.k x.q2) (k0_pay15 x.k x.q2)
    unfold l2 e2; rw [ldK, ldQ]; rfl
  · show l3 x = k0_pay19 (F := Ideal) (k0_pay7 x.k x.q3) (k0_pay15 x.k x.q3)
    unfold l3 e3; rw [ldK, ldQ]; rfl

include hq hk in
theorem l_at (a : Fin 4) (u : Fin 1) (r : Fin 256) (w : Fin 1) :
    (![l0 x, l1 x, l2 x, l3 x] : Fin 4 → FVec Ideal S1x256x1 .f32) a (ix3 u r w) = ((Real.log (∑ j, Real.exp (dotRow (A a) B r j)) : ℝ) : EReal) := by
  rw [l_eq]
  exact lse_at _ _ _ _ hk (hq a) u r w

theorem oPay_eq (i : grid0.Coords) : oPay i x = k0_pay1 (F := Ideal) (k0_pay11 x.k (qs x 0)) (k0_pay11 x.k (qs x 1)) (k0_pay11 x.k (qs x 2)) (k0_pay11 x.k (qs x 3))
    (k0_pay15 x.k (qs x 0)) (k0_pay15 x.k (qs x 1)) (k0_pay15 x.k (qs x 2)) (k0_pay15 x.k (qs x 3))
    (k0_pay23 (BitVec.ofNat 32 (i 0).val) x.vs x.v) (Scalar.cmpi .ne (BitVec.ofNat 32 (i 0).val) 1#32) (k0_pay24 x.vs) x.v := by
  unfold oPay e2 e3 s0 s1
  simp only [ldK, ldQ]
  rfl

include hq hk hv hvs in
theorem oPay_at (i : grid0.Coords) (g : Fin 2) (hg : (i 0).val = g.val) (r : Fin 256) (a : Fin 4) (d : Fin 64) :
    (oPay i x : FVec Ideal S256x256 .f32) (ix2 r ⟨a.val * 64 + d.val, by omega⟩) = ((∑ j, Vv j ⟨g.val * 64 + d.val, by omega⟩
      * (Real.exp (dotRow (A a) B r j) / ∑ k, Real.exp (dotRow (A a) B r k)) : ℝ) : EReal) := by
  rw [oPay_eq, hg]
  refine (out_at (fun a => k0_pay11 x.k (qs x a)) (fun a => k0_pay15 x.k (qs x a)) _ _ _ _
    (fun a r j => Real.exp (dotRow (A a) B r j - rowMax (dotRow (A a) B r))) (fun a r => ∑ j, Real.exp (dotRow (A a) B r j - rowMax (dotRow (A a) B r)))
    (fun j l => if g.val = 0 then Vv j l else Vv j ⟨(l.val + 64) % 128, by omega⟩) (fun j l => if g.val = 1 then Vv j l else Vv j ⟨(l.val + 64) % 128, by omega⟩)
    (fun a r j => exp_at _ _ _ _ hk (hq a) r j) (fun a r u => sum_at _ _ _ _ hk (hq a) r u) (fun a r => (sum_exp_pos _).ne')
    (fun j l => ?_) (fun j l => ?_) r a d).trans ?_
  · rw [pick0_at, hv, hvs]; split <;> rfl
  · rw [pick1_at, hv, hvs]; split <;> rfl
  · refine congrArg _ ?_
    rw [Finset.sum_mul]
    refine Finset.sum_congr rfl fun j _ => ?_
    have e : (if a.val % 2 = 0 then fun j (l : Fin 128) => if g.val = 0 then Vv j l else Vv j ⟨(l.val + 64) % 128, by omega⟩
        else fun j (l : Fin 128) => if g.val = 1 then Vv j l else Vv j ⟨(l.val + 64) % 128, by omega⟩) j ⟨a.val % 2 * 64 + d.val, by omega⟩ = Vv j ⟨g.val * 64 + d.val, by omega⟩ := by
      split <;> simp only [] <;> split <;> exact congrArg (Vv j) (Fin.ext (by simp only []; omega))
    rw [e, ← softmax_shift _ (rowMax (dotRow (A a) B r))]
    ring

end Block

/-! ## The arrays -/

section Run
variable (m : (ℓ : Loc nD τ sig) → Buf (Elt Ideal) ℓ) (ρ : Dev nD → PrngReg) (c : Dev nD)
  (Q : Fin 4096 → Fin 512 → ℝ) (K V : Fin 4096 → Fin 128 → ℝ)
  (hq : ∀ r l, (m ((c : Thread nD τ).loc main_arg0) : FVec Ideal S4096x512 .f32) (ix2 r l) = ((Q r l : ℝ) : EReal))
  (hk : ∀ r l, (m ((c : Thread nD τ).loc main_arg1) : FVec Ideal S4096x128 .f32) (ix2 r l) = ((K r l : ℝ) : EReal))
  (hv : ∀ r l, (m ((c : Thread nD τ).loc main_arg2) : FVec Ideal S4096x128 .f32) (ix2 r l) = ((V r l : ℝ) : EReal))

theorem lt_N (t : Fin cfg0.N) : t.val < 32 := t.isLt.trans_eq N_0
/-- A point's group, its head `a`, and the row of the arrays its row `r` is. -/
def grp (t : Fin cfg0.N) : Fin 2 := ⟨t.val / 16, by have := lt_N t; omega⟩
def row (t : Fin cfg0.N) (r : Fin 256) : Fin 4096 := ⟨t.val % 16 * 256 + r.val, by omega⟩
/-- The queries, scaled. -/
def qsc (i : Fin 4096) (l : Fin 512) : ℝ := Q i l * (1 / 8)
/-- A point's block of a head's queries. -/
def qBlk (t : Fin cfg0.N) (a : Fin 4) (r : Fin 256) (l : Fin 128) : ℝ :=
  spread (qsc Q) ⟨t.val % 16 * 256 + r.val, by omega⟩ ⟨(t.val / 16 * 4 + a.val) * 128 + l.val, by have := lt_N t; omega⟩

theorem dot_qBlk (t : Fin cfg0.N) (a : Fin 4) (r : Fin 256) (j : Fin 4096) : dotRow (qBlk Q t a) K r j = sc Q K (hh (grp t) a) (row t r) j := by
  show ∑ l : Fin 128, spread (qsc Q) (row t r) ⟨(hh (grp t) a).val * 128 + l.val, by omega⟩ * K j l = _
  rw [spread_dot]
  exact Finset.sum_congr rfl fun d _ => mul_comm _ _

include hq in
theorem q_arr (i : Fin 4096) (l : Fin 1024) : (V3 m ρ c main_v9 : FVec Ideal S4096x1024 .bf16) (ix2 i l) = ((spread (qsc Q) i l : ℝ) : EReal) := by
  rw [q_buf]
  exact spread_at _ _ (fun r l => scale_at _ Q hq r l) i l

include hq in
theorem blkQ0 (t : Fin cfg0.N) (r : Fin 256) (l : Fin 128) (k : Fin 1024) (hk : k.val = (t.val / 16 * 4) * 128 + l.val) :
    (blocks (V3 m ρ) c t).q0 (ix2 r l) = ((spread (qsc Q) ⟨t.val % 16 * 256 + r.val, by omega⟩ k : ℝ) : EReal) := by
  have hb : (t.val / 16 * 4) * 128 + l.val < 1024 := by clear hk; have := lt_N t; omega
  obtain rfl : k = ⟨(t.val / 16 * 4) * 128 + l.val, hb⟩ := Fin.ext hk
  rw [← q_arr m ρ c Q hq]
  show (iblk0 (V3 m ρ) c 0 t : FVec Ideal S256x128 .bf16) (ix2 r l) = _
  blk_point [iblk0, idx t]

include hq in
theorem blkQ1 (t : Fin cfg0.N) (r : Fin 256) (l : Fin 128) (k : Fin 1024) (hk : k.val = (t.val / 16 * 4 + 1) * 128 + l.val) :
    (blocks (V3 m ρ) c t).q1 (ix2 r l) = ((spread (qsc Q) ⟨t.val % 16 * 256 + r.val, by omega⟩ k : ℝ) : EReal) := by
  have hb : (t.val / 16 * 4 + 1) * 128 + l.val < 1024 := by clear hk; have := lt_N t; omega
  obtain rfl : k = ⟨(t.val / 16 * 4 + 1) * 128 + l.val, hb⟩ := Fin.ext hk
  rw [← q_arr m ρ c Q hq]
  show (iblk0 (V3 m ρ) c 1 t : FVec Ideal S256x128 .bf16) (ix2 r l) = _
  blk_point [iblk0, idx t]

include hq in
theorem blkQ2 (t : Fin cfg0.N) (r : Fin 256) (l : Fin 128) (k : Fin 1024) (hk : k.val = (t.val / 16 * 4 + 2) * 128 + l.val) :
    (blocks (V3 m ρ) c t).q2 (ix2 r l) = ((spread (qsc Q) ⟨t.val % 16 * 256 + r.val, by omega⟩ k : ℝ) : EReal) := by
  have hb : (t.val / 16 * 4 + 2) * 128 + l.val < 1024 := by clear hk; have := lt_N t; omega
  obtain rfl : k = ⟨(t.val / 16 * 4 + 2) * 128 + l.val, hb⟩ := Fin.ext hk
  rw [← q_arr m ρ c Q hq]
  show (iblk0 (V3 m ρ) c 2 t : FVec Ideal S256x128 .bf16) (ix2 r l) = _
  blk_point [iblk0, idx t]

include hq in
theorem blkQ3 (t : Fin cfg0.N) (r : Fin 256) (l : Fin 128) (k : Fin 1024) (hk : k.val = (t.val / 16 * 4 + 3) * 128 + l.val) :
    (blocks (V3 m ρ) c t).q3 (ix2 r l) = ((spread (qsc Q) ⟨t.val % 16 * 256 + r.val, by omega⟩ k : ℝ) : EReal) := by
  have hb : (t.val / 16 * 4 + 3) * 128 + l.val < 1024 := by clear hk; have := lt_N t; omega
  obtain rfl : k = ⟨(t.val / 16 * 4 + 3) * 128 + l.val, hb⟩ := Fin.ext hk
  rw [← q_arr m ρ c Q hq]
  show (iblk0 (V3 m ρ) c 3 t : FVec Ideal S256x128 .bf16) (ix2 r l) = _
  blk_point [iblk0, idx t]

theorem qs_eq (x : Blocks Ideal) : qs x 0 = x.q0 ∧ qs x 1 = x.q1 ∧ qs x 2 = x.q2 ∧ qs x 3 = x.q3 := ⟨rfl, rfl, rfl, rfl⟩

include hq in
theorem blkQ (t : Fin cfg0.N) (a : Fin 4) (r : Fin 256) (l : Fin 128) : qs (blocks (V3 m ρ) c t) a (ix2 r l) = ((qBlk Q t a r l : ℝ) : EReal) := by
  obtain ⟨e0, e1, e2, e3⟩ := qs_eq (blocks (V3 m ρ) c t)
  unfold qBlk
  rcases a with ⟨_ | _ | _ | _ | n, h⟩
  · exact (congrFun e0 (ix2 r l)).trans (blkQ0 m ρ c Q hq t r l _ rfl)
  · exact (congrFun e1 (ix2 r l)).trans (blkQ1 m ρ c Q hq t r l _ rfl)
  · exact (congrFun e2 (ix2 r l)).trans (blkQ2 m ρ c Q hq t r l _ rfl)
  · exact (congrFun e3 (ix2 r l)).trans (blkQ3 m ρ c Q hq t r l _ rfl)
  · omega

include hk in
theorem blkK (t : Fin cfg0.N) (j : Fin 4096) (l : Fin 128) : (blocks (V3 m ρ) c t).k (ix2 j l) = ((K j l : ℝ) : EReal) := by
  rw [← hk]
  show (iblk0 (V3 m ρ) c 4 t : FVec Ideal S4096x128 .bf16) (ix2 j l) = castT (m ((c : Thread nD τ).loc main_arg1)) (ix2 j l)
  rw [← k_buf m ρ c]
  blk_point [iblk0, idx t]

include hv in
theorem blkV (t : Fin cfg0.N) (j : Fin 4096) (l : Fin 128) : (blocks (V3 m ρ) c t).v (ix2 j l) = ((V j l : ℝ) : EReal) := by
  rw [← hv]
  show (iblk0 (V3 m ρ) c 5 t : FVec Ideal S4096x128 .bf16) (ix2 j l) = castT (m ((c : Thread nD τ).loc main_arg2)) (ix2 j l)
  rw [← v_buf m ρ c]
  blk_point [iblk0, idx t]

include hv in
theorem blkVs (t : Fin cfg0.N) (j : Fin 4096) (l : Fin 128) : (blocks (V3 m ρ) c t).vs (ix2 j l) = ((V j ⟨(l.val + 64) % 128, by omega⟩ : ℝ) : EReal) := by
  have e : swapT (m ((c : Thread nD τ).loc main_arg2)) (ix2 j l) = ((V j ⟨(l.val + 64) % 128, by omega⟩ : ℝ) : EReal) := by
    rw [swap_at]
    split <;> rw [hv] <;> exact congrArg (fun k => ((V j k : ℝ) : EReal)) (Fin.ext (by simp only []; omega))
  rw [← e]
  show (iblk0 (V3 m ρ) c 6 t : FVec Ideal S4096x128 .bf16) (ix2 j l) = _
  rw [← vs_buf m ρ c]
  blk_point [iblk0, idx t]

/-- The column of the output that a point's lane `l` is. -/
def col (t : Fin cfg0.N) (l : Fin 256) : Fin 512 := ⟨t.val / 16 * 256 + l.val, by have := lt_N t; omega⟩

include hq hk hv in
theorem point7 (t : Fin cfg0.N) (r : Fin 256) (l : Fin 256) :
    (oOut (grid0.coords t) (blocks (V3 m ρ) c t) : FVec Ideal S256x256 .f32) (ix2 r l) = ((O Q K V (hd (col t l)) (row t r) (ln (col t l)) : ℝ) : EReal) := by
  unfold oOut
  rw [View.canon_cons_unit_lit _ _ _ (by decide)]
  obtain ⟨a, d, rfl⟩ : ∃ (a : Fin 4) (d : Fin 64), l = ⟨a.val * 64 + d.val, by omega⟩ :=
    ⟨⟨l.val / 64, by omega⟩, ⟨l.val % 64, by omega⟩, Fin.ext (by simp only []; omega)⟩
  rw [oPay_at _ _ K V (blkQ m ρ c Q hq t) (blkK m ρ c K hk t) (blkV m ρ c V hv t) (blkVs m ρ c V hv t) _ (grp t) (coord0 t) r a d]
  have eh : hd (col t ⟨a.val * 64 + d.val, by omega⟩) = hh (grp t) a := Fin.ext (by simp only [hd, col, hh, grp]; omega)
  have el : ln (col t ⟨a.val * 64 + d.val, by omega⟩) = d := Fin.ext (by simp only [ln, col]; omega)
  rw [eh, el]
  refine congrArg _ (Finset.sum_congr rfl fun j _ => ?_)
  simp only [dot_qBlk]
  refine congrArg₂ (· * ·) (congrArg (V j) (Fin.ext ?_)) rfl
  simp only [kc, hh]
  omega

include hq hk hv in
/-- The head outputs. -/
theorem final7 : (dat0 (V3 m ρ) c).arrAt 7 cfg0.N = oArr Q K V := by
  refine (dat0 (V3 m ρ) c).arrAt_eq_of_covers 7 _ (by decide +kernel) fun t _ y => ?_
  blk_simp
  rw [after0_7]
  obtain ⟨r, l, rfl⟩ : ∃ (r : Fin 256) (l : Fin 256), y = ix2 r l := ⟨y 0, y 1, ValueIdx.eq_ix2 y⟩
  refine (point7 m ρ c Q K V hq hk hv t r l).trans ?_
  rw [← oArr_apply]
  blk_ext [idx t, row, col]

include hq hk in
theorem point8 (t : Fin cfg0.N) (a : Fin 4) (r : Fin 256) (u : Fin 1) :
    (lOut (blocks (V3 m ρ) c t) : FVec Ideal S4x256x1 .f32) (ix3 a r u) = ((Real.log (Z Q K (hh (grp t) a) (row t r)) : ℝ) : EReal) := by
  have piece : ∀ (b : Fin 4) (x : S1x256x1.Idx) (y : S4x256x1.Idx), (y 0).val = b.val + (x 0).val → (y 1).val = (x 1).val →
      (![l0 (blocks (V3 m ρ) c t), l1 (blocks (V3 m ρ) c t), l2 (blocks (V3 m ρ) c t), l3 (blocks (V3 m ρ) c t)] : Fin 4 → FVec Ideal S1x256x1 .f32) b x
        = ((Real.log (Z Q K (hh (grp t) (y 0)) (row t (y 1))) : ℝ) : EReal) := fun b x y h0 h1 => by
    obtain ⟨v, r, w, rfl⟩ : ∃ (v : Fin 1) (r : Fin 256) (w : Fin 1), x = ix3 v r w := ⟨x 0, x 1, x 2, ValueIdx.eq_ix3 x⟩
    have e0 : y 0 = b := Fin.ext (h0.trans (by show b.val + v.val = b.val; omega))
    have e1 : y 1 = r := Fin.ext h1
    rw [l_at _ _ K (blkQ m ρ c Q hq t) (blkK m ρ c K hk t) b v r w, e0, e1]
    simp only [dot_qBlk]
    rfl
  have key : (lOut (blocks (V3 m ρ) c t) : FVec Ideal S4x256x1 .f32) = fun y => ((Real.log (Z Q K (hh (grp t) (y 0)) (row t (y 1))) : ℝ) : EReal) := by
    funext y
    unfold lOut
    canon_tiles x h
    · exact piece 3 x y h0 h1
    · exact piece 2 x y h0 h1
    · exact piece 1 x y h0 h1
    · exact piece 0 x y (h0.trans (Nat.zero_add _).symm) h1
  exact congrFun key (ix3 a r u)

include hq hk in
/-- The row log-sums. -/
theorem final8 : (dat0 (V3 m ρ) c).arrAt 8 cfg0.N = lArr Q K := by
  refine (dat0 (V3 m ρ) c).arrAt_eq_of_covers 8 _ (by decide +kernel) fun t _ y => ?_
  blk_simp
  rw [after0_8]
  obtain ⟨a, r, u, rfl⟩ : ∃ (a : Fin 4) (r : Fin 256) (u : Fin 1), y = ix3 a r u := ⟨y 0, y 1, y 2, ValueIdx.eq_ix3 y⟩
  refine (point8 m ρ c Q K hq hk t a r u).trans ?_
  rw [← lArr_apply _ _ _ _ u]
  blk_ext [idx t, row, hh, grp]

end Run

end Cert.AttnFwd
end
-- ==== Proof.AttnBwdValue.lean ====
/- The backward attention call's three results: the gradients of the scaled queries, of the keys and of the values, each transposed. -/
module

public import proofs.«01_k».proof.Proof.AttnBwdBlock
public import proofs.«01_k».proof.Proof.AttnFwdValue

@[expose] public section

set_option maxRecDepth 16384

noncomputable section

namespace Cert.AttnBwd

open Idealize.ShloMosaic Idealize.ShloMosaic.TcCoe
open Cert.RealNum Cert.AttnSpec Cert.AttnHost Cert.AttnRun
open Cert.AttnFwd (dotRow qsc)
open Cert.AttnKernelIdeal Cert.AttnKernelIdeal.Gen

theorem idx : ∀ t : Fin cfg1.N, win1_0.index t = ![t.val % 16, t.val / 16 * 2] ∧ win1_1.index t = ![t.val % 16, t.val / 16 * 2 + 1]
    ∧ win1_2.index t = ![0, 0] ∧ win1_3.index t = ![0, 0] ∧ win1_4.index t = ![0, 0]
    ∧ win1_5.index t = ![t.val % 16, t.val / 16 * 2] ∧ win1_6.index t = ![t.val % 16, t.val / 16 * 2 + 1]
    ∧ win1_7.index t = ![t.val % 16, t.val / 16 * 2] ∧ win1_8.index t = ![t.val % 16, t.val / 16 * 2 + 1]
    ∧ win1_9.index t = ![t.val / 16, t.val % 16, 0] ∧ win1_10.index t = ![t.val / 16, t.val % 16]
    ∧ win1_11.index t = ![0, 0] ∧ win1_12.index t = ![0, 0] :=
  (by decide +kernel : ∀ t : Fin grid1.N, _)

theorem coord0 : ∀ t : Fin cfg1.N, ((grid1.coords t) 0).val = t.val / 16 := (by decide +kernel : ∀ t : Fin grid1.N, _)

theorem lt_N (t : Fin cfg1.N) : t.val < 64 := t.isLt.trans_eq N_1

/-- Point `n`'s head `b`, the row of the arrays its row `r` is, and its key/value group. -/
def hB (n : ℕ) (b : Fin 2) : Fin 8 := ⟨(n / 16 * 2 + b.val) % 8, by omega⟩
def rowB (n : ℕ) (r : Fin 256) : Fin 4096 := ⟨n % 16 * 256 + r.val, by omega⟩
def grpB (t : Fin cfg1.N) : Fin 2 := ⟨t.val / 32, by have := lt_N t; omega⟩

theorem grpB_eq (t : Fin cfg1.N) : ((grid1.coords t) 0).val / 2 = (grpB t).val := by
  rw [coord0]; show t.val / 16 / 2 = t.val / 32; omega

/-- An entry of the array whose row is spread over the padded heads. -/
theorem spread_own (X : Fin 4096 → Fin 512 → ℝ) (i : Fin 4096) (h : Fin 8) (c : Fin 128) (hc : c.val / 64 = h.val / 4) :
    spread X i ⟨h.val * 128 + c.val, by omega⟩ = X i (qc h (gl c)) := by
  have e1 : (h.val * 128 + c.val) % 128 / 64 = c.val / 64 := by omega
  have e2 : (h.val * 128 + c.val) / 512 = h.val / 4 := by omega
  have e3 : (h.val * 128 + c.val) / 128 * 64 + (h.val * 128 + c.val) % 64 = h.val * 64 + c.val % 64 := by omega
  simp only [spread, qc, gl, e1, e2, e3]
  rw [if_pos hc.symm]

/-- Two heads of a 16-point row of blocks, point after point: the sum over a group's four heads and all rows. -/
theorem sum_points (F : Fin 8 → Fin 4096 → ℝ) (c : Fin 128) :
    ∑ k ∈ Finset.range 64, (if c.val / 64 = k / 32 then ∑ b, ∑ r, F (hB k b) (rowB k r) else 0) = ∑ ρ : Fin 4, ∑ i, F (gh c ρ) i := by
  have tiles : ∀ h : Fin 8, ∑ q : Fin 16, ∑ r : Fin 256, F h ⟨q.val * 256 + r.val, by omega⟩ = ∑ i, F h i := fun h => (Fin.sum_univ_tiles 16 256 rfl (F h)).symm
  have e : ∀ p : Fin 4, ∑ q : Fin 16, (if c.val / 64 = (p.val * 16 + q.val) / 32 then ∑ b, ∑ r, F (hB (p.val * 16 + q.val) b) (rowB (p.val * 16 + q.val) r) else 0)
      = if c.val / 64 = p.val / 2 then ∑ b : Fin 2, ∑ i, F ⟨p.val * 2 + b.val, by omega⟩ i else 0 := fun p => by
    have e1 : ∀ q : Fin 16, (p.val * 16 + q.val) / 32 = p.val / 2 := fun q => by omega
    have e2 : ∀ (q : Fin 16) (b : Fin 2), hB (p.val * 16 + q.val) b = ⟨p.val * 2 + b.val, by omega⟩ := fun q b => Fin.ext (by simp only [hB]; omega)
    have e3 : ∀ (q : Fin 16) (r : Fin 256), rowB (p.val * 16 + q.val) r = ⟨q.val * 256 + r.val, by omega⟩ := fun q r => Fin.ext (by simp only [rowB]; omega)
    simp only [e1, e2, e3]
    split
    · rw [Finset.sum_comm]
      exact Finset.sum_congr rfl fun b _ => tiles _
    · exact Finset.sum_const_zero
  rw [Finset.sum_range fun k => if c.val / 64 = k / 32 then ∑ b, ∑ r, F (hB k b) (rowB k r) else 0, Fin.sum_univ_tiles 4 16 rfl]
  simp only [e]
  rcases (by omega : c.val / 64 = 0 ∨ c.val / 64 = 1) with h0 | h1
  · have g : ∀ ρ : Fin 4, gh c ρ = ⟨ρ.val, by omega⟩ := fun ρ => Fin.ext (by show c.val / 64 * 4 + ρ.val = ρ.val; omega)
    simp only [g, h0, Fin.sum_univ_four, Fin.sum_univ_two]
    norm_num
    ring
  · have g : ∀ ρ : Fin 4, gh c ρ = ⟨4 + ρ.val, by omega⟩ := fun ρ => Fin.ext (by show c.val / 64 * 4 + ρ.val = 4 + ρ.val; omega)
    simp only [g, h1, Fin.sum_univ_four, Fin.sum_univ_two]
    norm_num
    ring

section Run
variable (m : (ℓ : Loc nD τ sig) → Buf (Elt Ideal) ℓ) (ρ : Dev nD → PrngReg) (c : Dev nD)
  (Q : Fin 4096 → Fin 512 → ℝ) (K V : Fin 4096 → Fin 128 → ℝ) (D : Fin 4096 → Fin 512 → ℝ)
  (hq : ∀ r l, (m ((c : Thread nD τ).loc main_arg0) : FVec Ideal S4096x512 .f32) (ix2 r l) = ((Q r l : ℝ) : EReal))
  (hk : ∀ r l, (m ((c : Thread nD τ).loc main_arg1) : FVec Ideal S4096x128 .f32) (ix2 r l) = ((K r l : ℝ) : EReal))
  (hv : ∀ r l, (m ((c : Thread nD τ).loc main_arg2) : FVec Ideal S4096x128 .f32) (ix2 r l) = ((V r l : ℝ) : EReal))
  (hdo : ∀ r l, (m ((c : Thread nD τ).loc main_arg3) : FVec Ideal S4096x512 .f32) (ix2 r l) = ((D r l : ℝ) : EReal))

/-! ## The arrays the call reads -/

theorem k_buf7 : V7 m ρ c main_v10 = castT (m ((c : Thread nD τ).loc main_arg1)) := by
  rw [← k_buf m ρ c]
  show W7 m ρ c _ = _
  rw [W7_of m ρ c _ (by decide +kernel), W6_of m ρ c _ (by decide +kernel), W5_of m ρ c _ (by decide +kernel), W4_of m ρ c _ (by decide +kernel)]
theorem v_buf7 : V7 m ρ c main_v11 = castT (m ((c : Thread nD τ).loc main_arg2)) := by
  rw [← v_buf m ρ c]
  show W7 m ρ c _ = _
  rw [W7_of m ρ c _ (by decide +kernel), W6_of m ρ c _ (by decide +kernel), W5_of m ρ c _ (by decide +kernel), W4_of m ρ c _ (by decide +kernel)]
include hq hk in
theorem l_buf7 : V7 m ρ c main_v16_1 = lArr Q K := by
  show W7 m ρ c _ = _
  rw [W7_of m ρ c _ (by decide +kernel), W6_of m ρ c _ (by decide +kernel), W5_of m ρ c _ (by decide +kernel)]
  exact (W4_arr m ρ c 8).trans (AttnFwd.final8 m ρ c Q K hq hk)

include hq in
theorem q_arr7 (i : Fin 4096) (l : Fin 1024) : (V7 m ρ c main_v9 : FVec Ideal S4096x1024 .bf16) (ix2 i l) = ((spread (qsc Q) i l : ℝ) : EReal) := by
  rw [q_buf7]
  exact AttnFwd.q_arr m ρ c Q hq i l
include hdo in
theorem do_arr7 (i : Fin 4096) (l : Fin 1024) : (V7 m ρ c main_v31 : FVec Ideal S4096x1024 .bf16) (ix2 i l) = ((spread D i l : ℝ) : EReal) := by
  rw [do_buf]
  exact spread_at _ _ hdo i l
theorem tr_kt (w : FVec Ideal S4096x128 .bf16) (l : Fin 128) (j : Fin 4096) :
    transpose S128x4096 [1, 0] w transposes_S4096x128_S128x4096_1_0 (ix2 l j) = w (ix2 j l) := by
  pointwise []
include hk in
theorem kt_arr7 (l : Fin 128) (j : Fin 4096) : (V7 m ρ c main_v23 : FVec Ideal S128x4096 .bf16) (ix2 l j) = ((K j l : ℝ) : EReal) := by
  rw [kt_buf]
  refine (tr_kt _ l j).trans ?_
  rw [← hk, k_buf]
  rfl

/-- A row's inner product of the output gradient with the output is the sum of the output gradient against the values, weighted. -/
theorem delta_eq (h : Fin 8) (i : Fin 4096) :
    ∑ e : Fin 64, D i (qc h e) * O Q K V (hd (qc h e)) i (ln (qc h e)) = ∑ k, dP V D h i k * P Q K h i k := by
  have eh : ∀ e : Fin 64, hd (qc h e) = h := fun e => Fin.ext (by simp only [hd, qc]; omega)
  have el : ∀ e : Fin 64, ln (qc h e) = e := fun e => Fin.ext (by simp only [ln, qc]; omega)
  simp only [eh, el, O, dP, Finset.mul_sum, Finset.sum_mul]
  rw [Finset.sum_comm]
  exact Finset.sum_congr rfl fun _ _ => Finset.sum_congr rfl fun _ _ => (mul_assoc _ _ _).symm

include hq hk hv hdo in
theorem delta_arr7 (i : Fin 4096) (h : Fin 8) (l : Fin 128) (q : Fin 1024) (hl : q.val = h.val * 128 + l.val) :
    (V7 m ρ c main_v22 : FVec Ideal S4096x1024 .f32) (ix2 i q) = ((∑ k, dP V D h i k * P Q K h i k : ℝ) : EReal) := by
  have hb : h.val * 128 + l.val < 1024 := by clear hl; omega
  obtain rfl : q = ⟨h.val * 128 + l.val, hb⟩ := Fin.ext hl
  have e : W4 m ρ c (Proc.devRef .tc main_v16_0) = oArr Q K V := (W4_arr m ρ c 7).trans (AttnFwd.final7 m ρ c Q K V hq hk hv)
  rw [delta_buf, e, ← delta_eq]
  exact delta_at _ _ _ (fun i l => O Q K V (hd l) i (ln l)) hdo (fun _ _ => rfl) i h l

/-! ## A point's blocks -/

/-- The numbers of point `t`. -/
def nums (t : Fin cfg1.N) : Nums where
  A b r l := spread (qsc Q) (rowB t.val r) ⟨(hB t.val b).val * 128 + l.val, by omega⟩
  D b r l := spread D (rowB t.val r) ⟨(hB t.val b).val * 128 + l.val, by omega⟩
  L b r := Real.log (Z Q K (hB t.val b) (rowB t.val r))
  δ b r := ∑ k, dP V D (hB t.val b) (rowB t.val r) k * P Q K (hB t.val b) (rowB t.val r) k
  B := K
  V := V

theorem hB0 (t : Fin cfg1.N) : (hB t.val 0).val = t.val / 16 * 2 := by
  have := lt_N t; show (t.val / 16 * 2 + 0) % 8 = t.val / 16 * 2; omega
theorem hB1 (t : Fin cfg1.N) : (hB t.val 1).val = t.val / 16 * 2 + 1 := by
  have := lt_N t; show (t.val / 16 * 2 + 1) % 8 = t.val / 16 * 2 + 1; omega

include hq in
theorem q0_blk (t : Fin cfg1.N) (r : Fin 256) (l : Fin 128) : (blocks (V7 m ρ) c t).q0 (ix2 r l) = (((nums Q K V D t).A 0 r l : ℝ) : EReal) := by
  refine Eq.trans ?_ (q_arr7 m ρ c Q hq (rowB t.val r) ⟨(hB t.val 0).val * 128 + l.val, by omega⟩)
  show (iblk1 (V7 m ρ) c 0 t : FVec Ideal S256x128 .bf16) (ix2 r l) = _
  blk_point [iblk1, idx t, rowB, hB0]
include hq in
theorem q1_blk (t : Fin cfg1.N) (r : Fin 256) (l : Fin 128) : (blocks (V7 m ρ) c t).q1 (ix2 r l) = (((nums Q K V D t).A 1 r l : ℝ) : EReal) := by
  refine Eq.trans ?_ (q_arr7 m ρ c Q hq (rowB t.val r) ⟨(hB t.val 1).val * 128 + l.val, by omega⟩)
  show (iblk1 (V7 m ρ) c 1 t : FVec Ideal S256x128 .bf16) (ix2 r l) = _
  blk_point [iblk1, idx t, rowB, hB1]
include hk in
theorem k_blk (t : Fin cfg1.N) (j : Fin 4096) (l : Fin 128) : (blocks (V7 m ρ) c t).k (ix2 j l) = ((K j l : ℝ) : EReal) := by
  show (iblk1 (V7 m ρ) c 2 t : FVec Ideal S4096x128 .bf16) (ix2 j l) = ((K j l : ℝ) : EReal)
  rw [← hk]
  show _ = castT (m ((c : Thread nD τ).loc main_arg1)) (ix2 j l)
  rw [← k_buf7 m ρ c]
  blk_point [iblk1, idx t]
include hk in
theorem kt_blk (t : Fin cfg1.N) (l : Fin 128) (j : Fin 4096) : (blocks (V7 m ρ) c t).kt (ix2 l j) = ((K j l : ℝ) : EReal) := by
  refine Eq.trans ?_ (kt_arr7 m ρ c K hk l j)
  show (iblk1 (V7 m ρ) c 3 t : FVec Ideal S128x4096 .bf16) (ix2 l j) = _
  blk_point [iblk1, idx t]
include hv in
theorem v_blk (t : Fin cfg1.N) (j : Fin 4096) (l : Fin 128) : (blocks (V7 m ρ) c t).v (ix2 j l) = ((V j l : ℝ) : EReal) := by
  show (iblk1 (V7 m ρ) c 4 t : FVec Ideal S4096x128 .bf16) (ix2 j l) = ((V j l : ℝ) : EReal)
  rw [← hv]
  show _ = castT (m ((c : Thread nD τ).loc main_arg2)) (ix2 j l)
  rw [← v_buf7 m ρ c]
  blk_point [iblk1, idx t]
include hdo in
theorem do0_blk (t : Fin cfg1.N) (r : Fin 256) (l : Fin 128) : (blocks (V7 m ρ) c t).do0 (ix2 r l) = (((nums Q K V D t).D 0 r l : ℝ) : EReal) := by
  refine Eq.trans ?_ (do_arr7 m ρ c D hdo (rowB t.val r) ⟨(hB t.val 0).val * 128 + l.val, by omega⟩)
  show (iblk1 (V7 m ρ) c 5 t : FVec Ideal S256x128 .bf16) (ix2 r l) = _
  blk_point [iblk1, idx t, rowB, hB0]
include hdo in
theorem do1_blk (t : Fin cfg1.N) (r : Fin 256) (l : Fin 128) : (blocks (V7 m ρ) c t).do1 (ix2 r l) = (((nums Q K V D t).D 1 r l : ℝ) : EReal) := by
  refine Eq.trans ?_ (do_arr7 m ρ c D hdo (rowB t.val r) ⟨(hB t.val 1).val * 128 + l.val, by omega⟩)
  show (iblk1 (V7 m ρ) c 6 t : FVec Ideal S256x128 .bf16) (ix2 r l) = _
  blk_point [iblk1, idx t, rowB, hB1]
include hq hk hv hdo in
theorem dl0_blk (t : Fin cfg1.N) (r : Fin 256) (l : Fin 128) : (blocks (V7 m ρ) c t).dl0 (ix2 r l) = (((nums Q K V D t).δ 0 r : ℝ) : EReal) := by
  refine Eq.trans ?_ (delta_arr7 m ρ c Q K V D hq hk hv hdo (rowB t.val r) (hB t.val 0) l ⟨(hB t.val 0).val * 128 + l.val, by omega⟩ rfl)
  show (iblk1 (V7 m ρ) c 7 t : FVec Ideal S256x128 .f32) (ix2 r l) = _
  blk_point [iblk1, idx t, rowB, hB0]
include hq hk hv hdo in
theorem dl1_blk (t : Fin cfg1.N) (r : Fin 256) (l : Fin 128) : (blocks (V7 m ρ) c t).dl1 (ix2 r l) = (((nums Q K V D t).δ 1 r : ℝ) : EReal) := by
  refine Eq.trans ?_ (delta_arr7 m ρ c Q K V D hq hk hv hdo (rowB t.val r) (hB t.val 1) l ⟨(hB t.val 1).val * 128 + l.val, by omega⟩ rfl)
  show (iblk1 (V7 m ρ) c 8 t : FVec Ideal S256x128 .f32) (ix2 r l) = _
  blk_point [iblk1, idx t, rowB, hB1]
include hq hk in
theorem lse_blk (t : Fin cfg1.N) (b : Fin 2) (r : Fin 256) (u : Fin 1) : (blocks (V7 m ρ) c t).lse (ix3 b r u) = ((Real.log (Z Q K (hB t.val b) (rowB t.val r)) : ℝ) : EReal) := by
  have eh : (hB t.val b).val = t.val / 16 * 2 + b.val := by have := lt_N t; show (t.val / 16 * 2 + b.val) % 8 = _; omega
  show (iblk1 (V7 m ρ) c 9 t : FVec Ideal S2x256x1 .f32) (ix3 b r u) = ((Real.log (Z Q K (hB t.val b) (rowB t.val r)) : ℝ) : EReal)
  rw [← lArr_apply _ _ _ _ u, ← l_buf7 m ρ c Q K hq hk]
  blk_point [iblk1, idx t, rowB, eh]

include hq hk hv hdo in
theorem holds (t : Fin cfg1.N) : Holds (blocks (V7 m ρ) c t) (nums Q K V D t) where
  q0 := q0_blk m ρ c Q K V D hq t
  q1 := q1_blk m ρ c Q K V D hq t
  k := k_blk m ρ c K hk t
  kt := kt_blk m ρ c K hk t
  v := v_blk m ρ c V hv t
  do0 := do0_blk m ρ c Q K V D hdo t
  do1 := do1_blk m ρ c Q K V D hdo t
  dl0 := dl0_blk m ρ c Q K V D hq hk hv hdo t
  dl1 := dl1_blk m ρ c Q K V D hq hk hv hdo t
  lse := lse_blk m ρ c Q K hq hk t

/-! ## A point's weights and gradients -/

section Point
variable (t : Fin cfg1.N) (b : Fin 2) (r : Fin 256) (j : Fin 4096)

theorem dot_q : dotRow ((nums Q K V D t).A b) K r j = sc Q K (hB t.val b) (rowB t.val r) j := by
  show ∑ l : Fin 128, spread (qsc Q) (rowB t.val r) ⟨(hB t.val b).val * 128 + l.val, by omega⟩ * K j l = _
  rw [spread_dot]
  exact Finset.sum_congr rfl fun d _ => mul_comm _ _
theorem dot_do : dotRow ((nums Q K V D t).D b) V r j = dP V D (hB t.val b) (rowB t.val r) j := by
  show ∑ l : Fin 128, spread D (rowB t.val r) ⟨(hB t.val b).val * 128 + l.val, by omega⟩ * V j l = _
  rw [spread_dot]
  rfl

theorem nums_P : (nums Q K V D t).P b r j = P Q K (hB t.val b) (rowB t.val r) j := by
  show Real.exp (dotRow ((nums Q K V D t).A b) K r j - Real.log (Z Q K (hB t.val b) (rowB t.val r))) = _
  rw [dot_q]
  exact exp_sub_log _ _
theorem nums_S : (nums Q K V D t).S b r j = dS Q K V D (hB t.val b) (rowB t.val r) j := by
  show (nums Q K V D t).P b r j * (dotRow ((nums Q K V D t).D b) V r j - _) = _
  rw [nums_P, dot_do]
  rfl

end Point

/-! ## The query gradient -/

/-- The row of the query gradient that a point's row `l` is. -/
def colB (t : Fin cfg1.N) (l : Fin 128) : Fin 512 := ⟨t.val / 16 * 128 + l.val, by have := lt_N t; omega⟩

include hq hk hv hdo in
theorem point10 (t : Fin cfg1.N) (l : Fin 128) (r : Fin 256) : (dqOut (grid1.coords t) (blocks (V7 m ρ) c t) : FVec Ideal S128x256 .f32) (ix2 l r)
    = ((dQ Q K V D (hd (colB t l)) (rowB t.val r) (ln (colB t l)) : ℝ) : EReal) := by
  have := lt_N t
  obtain ⟨b, d, rfl⟩ : ∃ (b : Fin 2) (d : Fin 64), l = ⟨b.val * 64 + d.val, by omega⟩ :=
    ⟨⟨l.val / 64, by omega⟩, ⟨l.val % 64, by omega⟩, Fin.ext (by simp only []; omega)⟩
  have eh : hd (colB t ⟨b.val * 64 + d.val, by omega⟩) = hB t.val b := Fin.ext (by simp only [hd, colB, hB]; omega)
  have el : ln (colB t ⟨b.val * 64 + d.val, by omega⟩) = d := Fin.ext (by simp only [ln, colB]; omega)
  have ek : (⟨(grpB t).val * 64 + d.val, by omega⟩ : Fin 128) = kc (hB t.val b) d := Fin.ext (by simp only [grpB, kc, hB]; omega)
  rw [dqOut_at (holds m ρ c Q K V D hq hk hv hdo t) _ (grpB t) (grpB_eq t) b d r, eh, el, ek]
  refine congrArg _ (Finset.sum_congr rfl fun j _ => ?_)
  rw [nums_S]
  rfl

include hq hk hv hdo in
theorem final10 : (dat1 (V7 m ρ) c).arrAt 10 cfg1.N = dqArr Q K V D := by
  refine (dat1 (V7 m ρ) c).arrAt_eq_of_covers 10 _ (by decide +kernel) fun t _ y => ?_
  blk_simp
  rw [after1_10]
  obtain ⟨l, r, rfl⟩ : ∃ (l : Fin 128) (r : Fin 256), y = ix2 l r := ⟨y 0, y 1, ValueIdx.eq_ix2 y⟩
  refine (point10 m ρ c Q K V D hq hk hv hdo t l r).trans ?_
  rw [← dqArr_apply]
  blk_ext [idx t, rowB, colB]

/-! ## The key and value gradients -/

/-- What point `n` adds to a row of the key gradient and of the value gradient. -/
def addK (l : Fin 128) (j : Fin 4096) (n : ℕ) : ℝ :=
  if l.val / 64 = n / 32 then ∑ b, ∑ r, (fun h i => Q i (qc h (gl l)) * (1 / 8) * dS Q K V D h i j) (hB n b) (rowB n r) else 0
def addV (l : Fin 128) (j : Fin 4096) (n : ℕ) : ℝ :=
  if l.val / 64 = n / 32 then ∑ b, ∑ r, (fun h i => D i (qc h (gl l)) * P Q K h i j) (hB n b) (rowB n r) else 0

theorem own (t : Fin cfg1.N) (b : Fin 2) (l : Fin 128) (hl : l.val / 64 = t.val / 32) : l.val / 64 = (hB t.val b).val / 4 := by
  have := lt_N t; rw [hl]; show _ = (t.val / 16 * 2 + b.val) % 8 / 4; omega

theorem addK_eq (t : Fin cfg1.N) (l : Fin 128) (j : Fin 4096) :
    (if l.val / 64 = (grpB t).val then both (nums Q K V D t).A (nums Q K V D t).S l j else 0) = addK Q K V D l j t.val := by
  show (if l.val / 64 = t.val / 32 then _ else _) = _
  unfold addK both
  split
  · next hl =>
    refine Finset.sum_congr rfl fun b _ => Finset.sum_congr rfl fun r _ => ?_
    rw [nums_S]
    refine congrArg (· * _) ?_
    exact spread_own (qsc Q) (rowB t.val r) (hB t.val b) l (own t b l hl)
  · rfl
theorem addV_eq (t : Fin cfg1.N) (l : Fin 128) (j : Fin 4096) :
    (if l.val / 64 = (grpB t).val then both (nums Q K V D t).D (nums Q K V D t).P l j else 0) = addV Q K D l j t.val := by
  show (if l.val / 64 = t.val / 32 then _ else _) = _
  unfold addV both
  split
  · next hl =>
    refine Finset.sum_congr rfl fun b _ => Finset.sum_congr rfl fun r _ => ?_
    rw [nums_P]
    refine congrArg (· * _) ?_
    exact spread_own D (rowB t.val r) (hB t.val b) l (own t b l hl)
  · rfl

theorem zeros_at (l : Fin 128) (j : Fin 4096) : k1_pay2 (F := Ideal) (ix2 l j) = ((0 : ℝ) : EReal) := by
  pointwise [k1_pay2]
  exact EReal.coe_zero.symm

include hq hk hv hdo in
theorem acc_at_point (l : Fin 128) (j : Fin 4096) : ∀ (n : ℕ) (h : n < cfg1.N),
    ((acc (V7 m ρ) c n h).1 : FVec Ideal S128x4096 .f32) (ix2 l j) = ((∑ k ∈ Finset.range (n + 1), addK Q K V D l j k : ℝ) : EReal)
      ∧ ((acc (V7 m ρ) c n h).2 : FVec Ideal S128x4096 .f32) (ix2 l j) = ((∑ k ∈ Finset.range (n + 1), addV Q K D l j k : ℝ) : EReal)
  | 0, h => by
    have e := acc_first (V7 m ρ) c ⟨0, h⟩ rfl
    have H := holds m ρ c Q K V D hq hk hv hdo ⟨0, h⟩
    rw [Finset.sum_range_one, Finset.sum_range_one]
    refine ⟨(congrFun (congrArg Prod.fst e) (ix2 l j)).trans ?_, (congrFun (congrArg Prod.snd e) (ix2 l j)).trans ?_⟩
    · refine (dkOut_at H _ (grpB ⟨0, h⟩) (grpB_eq _) _ l j 0 (zeros_at l j)).trans ?_
      rw [addK_eq, zero_add]
    · refine (dvOut_at H _ (grpB ⟨0, h⟩) (grpB_eq _) _ l j 0 (zeros_at l j)).trans ?_
      rw [addV_eq, zero_add]
  | n + 1, h => by
    obtain ⟨ih1, ih2⟩ := acc_at_point l j n (Nat.lt_of_succ_lt h)
    have e := acc_later (V7 m ρ) c ⟨n + 1, h⟩ (Nat.succ_ne_zero n)
    have H := holds m ρ c Q K V D hq hk hv hdo ⟨n + 1, h⟩
    rw [Finset.sum_range_succ _ (n + 1), Finset.sum_range_succ _ (n + 1)]
    refine ⟨(congrFun (congrArg Prod.fst e) (ix2 l j)).trans ?_, (congrFun (congrArg Prod.snd e) (ix2 l j)).trans ?_⟩
    · refine (dkOut_at H _ (grpB ⟨n + 1, h⟩) (grpB_eq _) _ l j _ ih1).trans ?_
      rw [addK_eq]
    · refine (dvOut_at H _ (grpB ⟨n + 1, h⟩) (grpB_eq _) _ l j _ ih2).trans ?_
      rw [addV_eq]

/-- The grid's last point. -/
def last : Fin cfg1.N := ⟨63, (by decide : 63 < 64).trans_eq N_1.symm⟩

include hq hk hv hdo in
theorem final11 : (dat1 (V7 m ρ) c).arrAt 11 cfg1.N = dkArr Q K V D := by
  refine (dat1 (V7 m ρ) c).arrAt_eq_of_after_last 11 last (by decide +kernel) _ fun y => ?_
  blk_simp
  rw [after1_11]
  obtain ⟨l, j, rfl⟩ : ∃ (l : Fin 128) (j : Fin 4096), y = ix2 l j := ⟨y 0, y 1, ValueIdx.eq_ix2 y⟩
  refine ((acc_at_point m ρ c Q K V D hq hk hv hdo l j 63 last.isLt).1).trans ?_
  exact congrArg _ (sum_points (fun h i => Q i (qc h (gl l)) * (1 / 8) * dS Q K V D h i j) l)

include hq hk hv hdo in
theorem final12 : (dat1 (V7 m ρ) c).arrAt 12 cfg1.N = dvArr Q K D := by
  refine (dat1 (V7 m ρ) c).arrAt_eq_of_after_last 12 last (by decide +kernel) _ fun y => ?_
  blk_simp
  rw [after1_12]
  obtain ⟨l, j, rfl⟩ : ∃ (l : Fin 128) (j : Fin 4096), y = ix2 l j := ⟨y 0, y 1, ValueIdx.eq_ix2 y⟩
  refine ((acc_at_point m ρ c Q K V D hq hk hv hdo l j 63 last.isLt).2).trans ?_
  exact congrArg _ (sum_points (fun h i => D i (qc h (gl l)) * P Q K h i j) l)

end Run

end Cert.AttnBwd
end
-- ==== Proof.Attn.lean ====
/- The attention, forward and backward: the claim that both programs compute the same results, and the reference's frame. -/
module

public import proofs.«01_k».proof.Defs
public import proofs.«01_k».proof.Pre_attn_finite
public import proofs.«01_k».proof.Proof.AttnRef
public import proofs.«01_k».proof.Proof.AttnBwdValue

@[expose] public section

set_option maxRecDepth 16384

noncomputable section

namespace Cert.Attn

open Idealize.ShloMosaic Idealize.ShloMosaic.TcCoe Idealize.SL.Sem
open Cert.RealNum

/-- What the precondition's four tests say: every argument's entries are real numbers. -/
theorem reals [Cert.Pre_attn_finite.Facts] (q : FVec Ideal ⟨2, ![4096, 512]⟩ .f32) (k v : FVec Ideal ⟨2, ![4096, 128]⟩ .f32) (d : FVec Ideal ⟨2, ![4096, 512]⟩ .f32)
    (h : (Cert.Pre_attn_finite.fn (F := Ideal) q k v d).1 = (fun _ => 1#1) ∧ (Cert.Pre_attn_finite.fn (F := Ideal) q k v d).2.1 = (fun _ => 1#1)
      ∧ (Cert.Pre_attn_finite.fn (F := Ideal) q k v d).2.2.1 = (fun _ => 1#1) ∧ (Cert.Pre_attn_finite.fn (F := Ideal) q k v d).2.2.2 = (fun _ => 1#1)) :
    ∃ (Q : Fin 4096 → Fin 512 → ℝ) (K V : Fin 4096 → Fin 128 → ℝ) (D : Fin 4096 → Fin 512 → ℝ),
      (∀ r l, q (ix2 r l) = ((Q r l : ℝ) : EReal)) ∧ (∀ r l, k (ix2 r l) = ((K r l : ℝ) : EReal))
        ∧ (∀ r l, v (ix2 r l) = ((V r l : ℝ) : EReal)) ∧ (∀ r l, d (ix2 r l) = ((D r l : ℝ) : EReal)) := by
  obtain ⟨Q, hQ⟩ := reals_of_test _ q h.1
  obtain ⟨K, hK⟩ := reals_of_test _ k h.2.1
  obtain ⟨V, hV⟩ := reals_of_test _ v h.2.2.1
  obtain ⟨D, hD⟩ := reals_of_test _ d h.2.2.2
  exact ⟨fun r l => Q (ix2 r l), fun r l => K (ix2 r l), fun r l => V (ix2 r l), fun r l => D (ix2 r l),
    fun _ _ => by rw [hQ], fun _ _ => by rw [hK], fun _ _ => by rw [hV], fun _ _ => by rw [hD]⟩

/-- The reference's frame: the arguments unchanged, and no semaphore. -/
theorem ref_frame : Cert.quiescent_AttnReferenceIdeal := fun m ρ _ =>
  (θ_run Cert.AttnReferenceIdeal.defs _ _).mono (fun r h => ⟨fun c => (h c).2.2.2.2.2, sem_eq_zero_of_no_sems (by decide) r.2⟩)
    (Cert.AttnReferenceIdeal.Value.run (F := Ideal) m ρ)

/-- The head outputs, the row log-sums and the three gradients. -/
theorem algebraic [Cert.Pre_attn_finite.Facts] : Cert.algebraic_AttnKernelIdeal_AttnReferenceIdeal_pre_attn_finite := by
  intro m g m' g' hpre hargs
  choose Q K V D hq hk hv hdo using fun c => reals _ _ _ _ (hpre c)
  refine ⟨fun c => AttnSpec.oArr (Q c) (K c) (V c), fun c => AttnSpec.lArr (Q c) (K c), fun c => AttnSpec.dqArr (Q c) (K c) (V c) (D c),
    fun c => AttnSpec.dkArr (Q c) (K c) (V c) (D c), fun c => AttnSpec.dvArr (Q c) (K c) (D c), ?_, ?_⟩
  · refine (θ_run Cert.AttnKernelIdeal.defs _ _).mono (fun r h c => ?_) (Cert.AttnRun.run (F := Ideal) m g)
    have h' : Cert.AttnRun.Ends m g r.2 := h
    obtain ⟨h0, h1, h2, h3, h4⟩ := h'.results c
    exact ⟨h0.trans (AttnFwd.final7 m g c _ _ _ (hq c) (hk c) (hv c)), h1.trans (AttnFwd.final8 m g c _ _ (hq c) (hk c)),
      h2.trans (AttnBwd.final10 m g c _ _ _ _ (hq c) (hk c) (hv c) (hdo c)), h3.trans (AttnBwd.final11 m g c _ _ _ _ (hq c) (hk c) (hv c) (hdo c)),
      h4.trans (AttnBwd.final12 m g c _ _ _ _ (hq c) (hk c) (hv c) (hdo c)), h'.args c⟩
  · exact AttnRef.ref_run m' g' _ _ _ _ (fun c => (hargs c).1) (fun c => (hargs c).2.1) (fun c => (hargs c).2.2.1) (fun c => (hargs c).2.2.2)
      Q D K V hq hk hv hdo

end Cert.Attn
end
-- ==== Proof.AttnFrame.lean ====
/- The attention program's frames: the run, read at the bits and at the extended reals. -/
module

public import proofs.«01_k».proof.Defs
public import proofs.«01_k».proof.Proof.AttnRun
public import proofs.«01_k».proof.Proof.Gen.AttnKernel
public import proofs.«01_k».proof.Proof.Gen.AttnKernelIdeal

@[expose] public section

noncomputable section

namespace Cert.AttnFrame

open Idealize.ShloMosaic Idealize.SL.Sem

theorem frame_ideal : Cert.quiescent_AttnKernelIdeal := fun m ρ _ =>
  (θ_run Cert.AttnKernelIdeal.defs _ _).mono (fun r h => ⟨fun c => (h : Cert.AttnRun.Ends m ρ r.2).args c, h.2⟩) (Cert.AttnRun.run (F := Ideal) m ρ)

/-- The run at the bits, in the names of the program over the extended reals. -/
theorem frame_bits (m : (ℓ : Loc Cert.AttnKernelIdeal.nD Cert.AttnKernelIdeal.τ Cert.AttnKernelIdeal.sig) → Buf (Elt Bits) ℓ) (g : Dev Cert.AttnKernelIdeal.nD → PrngReg) :
    θ_run (Cert.AttnKernelIdeal.defs (F := Bits)) (onTc (τ := Cert.AttnKernelIdeal.τ) (Cert.AttnKernelIdeal.main (F := Bits))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3))
      ∧ r.2.sem = fun _ => 0) :=
  (θ_run Cert.AttnKernelIdeal.defs _ _).mono (fun r h => ⟨fun c => (h : Cert.AttnRun.Ends (F := Bits) m g r.2).args c, h.2⟩) (Cert.AttnRun.run (F := Bits) m g)

theorem frame_kernel : Cert.quiescent_AttnKernel :=
  have h := fun (m : (ℓ : Loc Cert.AttnKernelIdeal.nD Cert.AttnKernelIdeal.τ Cert.AttnKernelIdeal.sig) → Buf (Elt Bits) ℓ) (g : Dev Cert.AttnKernelIdeal.nD → PrngReg) (_ : True) => frame_bits m g
  cast (by sl_kernel_rfl) h

end Cert.AttnFrame
-- ==== Proof.Loss.lean ====
/-
  The loss head: the final norm's output against its target, the loss, and the gradients of the norm's input and gain.
  Both programs' results are the same real functions of the arguments' rows (`dxRow`, `lossOf`, `dgOf` below).
-/
module

public import proofs.«01_k».proof.Proof.RealNum
public import proofs.«01_k».proof.Pre_loss_finite
public import proofs.«01_k».proof.Proof.Gen.LossKernelIdeal.Value
public import proofs.«01_k».proof.Proof.Gen.LossReferenceIdeal.Run
public import Idealize.ShloMosaic.Lib.Pipeline.ValueKit

@[expose] public section

set_option maxRecDepth 16384

noncomputable section

namespace Cert.Loss

open Idealize.ShloMosaic Idealize.ShloMosaic.TcCoe Idealize.SL.Sem
open Cert.RealNum

/-- A token's error at lane `l`: its normalised row times the gain, less the target. -/
def err (x g t : Fin 1024 → ℝ) (l : Fin 1024) : ℝ := x l * rn 1024 x * g l - t l

/-- The gradient of the normalised row: the error over the row's width, times the gain. -/
def uRow (x g t : Fin 1024 → ℝ) (l : Fin 1024) : ℝ := err x g t l * (1 / 1024) * g l

/-- The gradient of the norm's input row. -/
def dxRow (x g t : Fin 1024 → ℝ) (l : Fin 1024) : ℝ :=
  rn 1024 x * uRow x g t l - x l * (rn 1024 x * rn 1024 x * rn 1024 x) * ((∑ k, uRow x g t k * x k) / 1024)

/-- A token's share of the gain's gradient. -/
def dgRow (x g t : Fin 1024 → ℝ) (l : Fin 1024) : ℝ := err x g t l * (1 / 1024) * x l * rn 1024 x

/-- A token's mean squared error. -/
def lossRow (x g t : Fin 1024 → ℝ) : ℝ := (∑ l, err x g t l * err x g t l) / 1024

/-- One gradient row, as the chain rule through the reciprocal root writes it, is `dxRow`. -/
theorem dx_eq (x g t : Fin 1024 → ℝ) (l : Fin 1024) :
    1 / 2 / 1024 * (2 * (x l * rn 1024 x * g l - t l)) * g l * rn 1024 x
        + x l * ((∑ i, x i * (1 / 2 / 1024 * (2 * (x i * rn 1024 x * g i - t i)) * g i)) * (-(1 / 2) * (rn 1024 x * (rn 1024 x * rn 1024 x))) / 1024)
        + (∑ i, x i * (1 / 2 / 1024 * (2 * (x i * rn 1024 x * g i - t i)) * g i)) * (-(1 / 2) * (rn 1024 x * (rn 1024 x * rn 1024 x))) / 1024 * x l
      = dxRow x g t l := by
  have h : (∑ i, x i * (1 / 2 / 1024 * (2 * (x i * rn 1024 x * g i - t i)) * g i)) = ∑ k, uRow x g t k * x k :=
    Finset.sum_congr rfl fun i _ => by unfold uRow err; ring
  rw [h]
  unfold dxRow
  generalize (∑ k, uRow x g t k * x k) = S
  unfold uRow err
  ring

/-- The gradient of the norm's input as an array. -/
def dxArr (X : Fin 4096 → Fin 1024 → ℝ) (G : Fin 1024 → ℝ) (T : Fin 4096 → Fin 1024 → ℝ) : FVec Ideal ⟨2, ![4096, 1024]⟩ .f32 :=
  fun j => ((dxRow (X (j 0)) G (T (j 0)) (j 1) : ℝ) : EReal)

theorem dxArr_apply (X : Fin 4096 → Fin 1024 → ℝ) (G : Fin 1024 → ℝ) (T : Fin 4096 → Fin 1024 → ℝ) (r : Fin 4096) (l : Fin 1024) :
    dxArr X G T (ix2 r l) = ((dxRow (X r) G (T r) l : ℝ) : EReal) := rfl

/-- The loss, in every cell of a tile. -/
def lossArr (X : Fin 4096 → Fin 1024 → ℝ) (G : Fin 1024 → ℝ) (T : Fin 4096 → Fin 1024 → ℝ) : FVec Ideal ⟨2, ![8, 128]⟩ .f32 :=
  fun _ => ((1 / 2 * ∑ r, lossRow (X r) G (T r) : ℝ) : EReal)

/-- The gain's gradient as an array. -/
def dgArr (X : Fin 4096 → Fin 1024 → ℝ) (G : Fin 1024 → ℝ) (T : Fin 4096 → Fin 1024 → ℝ) : FVec Ideal ⟨2, ![1, 1024]⟩ .f32 :=
  fun j => ((∑ r, dgRow (X r) G (T r) (j 1) : ℝ) : EReal)

section Kernel
open Cert.LossKernelIdeal Cert.LossKernelIdeal.Gen

variable (x : FVec Ideal S512x1024 .f32) (g : FVec Ideal S1x1024 .f32) (t : FVec Ideal S512x1024 .f32)
  (X T : Fin 512 → Fin 1024 → ℝ) (G : Fin 1024 → ℝ)
  (hx : ∀ r l, x (ix2 r l) = ((X r l : ℝ) : EReal)) (hg : ∀ l, g (ix2 0 l) = ((G l : ℝ) : EReal)) (ht : ∀ r l, t (ix2 r l) = ((T r l : ℝ) : EReal))
include hx hg ht

theorem pay1 (r : Fin 512) (l : Fin 1024) :
    k0_pay1 (F := Ideal) x (k0_pay5 x) (k0_pay8 x g t) g (ix2 r l) = ((dxRow (X r) G (T r) l : ℝ) : EReal) := by
  pointwise [k0_pay1, k0_pay5, k0_pay6, k0_pay8]
  simp (disch := norm_num) only [hx, hg, ht, ofBits_1024, ofBits_eps, ofBits_inv1024, ← EReal.coe_mul, ← EReal.coe_add, ← EReal.coe_sub, sum_coe, div_ne, ms_fold, rsqrt_ms]
  rfl

theorem pay2 (acc : FVec Ideal S1x1024 .f32) (l : Fin 1024) :
    k0_pay2 (F := Ideal) x (k0_pay5 x) (k0_pay8 x g t) acc (ix2 0 l) = acc (ix2 0 l) + ((∑ r, dgRow (X r) G (T r) l : ℝ) : EReal) := by
  pointwise [k0_pay2, k0_pay5, k0_pay6, k0_pay8]
  simp (disch := norm_num) only [hx, hg, ht, ofBits_1024, ofBits_eps, ofBits_inv1024, ← EReal.coe_mul, ← EReal.coe_add, ← EReal.coe_sub, sum_coe, div_ne, ms_fold, rsqrt_ms]
  rfl

theorem pay7 (acc : FVec Ideal S8x128 .f32) (j : S8x128.Idx) :
    k0_pay7 (F := Ideal) x g t acc j = acc j + ((1 / 2 * ∑ r, lossRow (X r) G (T r) : ℝ) : EReal) := by
  pointwise [k0_pay7, k0_pay5, k0_pay6]
  simp (disch := norm_num) only [hx, hg, ht, ofBits_half, ofBits_1024, ofBits_eps, ofBits_inv1024, ← EReal.coe_mul, ← EReal.coe_add, ← EReal.coe_sub, sum_coe, div_ne, ms_fold, rsqrt_ms, Finset.univ_unique, Finset.sum_singleton]
  rfl

end Kernel

section Run
open Cert.LossKernelIdeal Cert.LossKernelIdeal.Gen

variable (m : (ℓ : Loc nD τ sig) → Buf (Elt Ideal) ℓ) (c : Dev nD)

theorem zero8 (j : S8x128.Idx) : k0_pay3 (F := Ideal) j = 0 := by pointwise [k0_pay3]
theorem zero1 (j : S1x1024.Idx) : k0_pay4 (F := Ideal) j = 0 := by pointwise [k0_pay4]

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

variable (X T : Fin 4096 → Fin 1024 → ℝ) (G : Fin 1024 → ℝ)
  (hx : ∀ r l, (m ((c : Thread nD τ).loc main_arg0) : FVec Ideal S4096x1024 .f32) (ix2 r l) = ((X r l : ℝ) : EReal))
  (hg : ∀ l, (m ((c : Thread nD τ).loc main_arg1) : FVec Ideal S1x1024 .f32) (ix2 0 l) = ((G l : ℝ) : EReal))
  (ht : ∀ r l, (m ((c : Thread nD τ).loc main_arg2) : FVec Ideal S4096x1024 .f32) (ix2 r l) = ((T r l : ℝ) : EReal))
include hx hg ht

/-- The row of the arrays a tile's row `r` is at point `p`. -/
abbrev row (p : Fin cfg0.N) (r : Fin 512) : Fin 4096 := ⟨p.val * 512 + r.val, by have := p.isLt; have h : cfg0.N = 8 := N_0; omega⟩

omit hg ht in
theorem blk0 (p : Fin cfg0.N) (r : Fin 512) (l : Fin 1024) :
    (iblk m c 0 p : FVec Ideal S512x1024 .f32) (ix2 r l) = ((X (row p r) l : ℝ) : EReal) := by
  rw [← hx]
  blk_point [iblk, V, idx p]

omit hx ht in
theorem blk1 (p : Fin cfg0.N) (l : Fin 1024) : (iblk m c 1 p : FVec Ideal S1x1024 .f32) (ix2 0 l) = ((G l : ℝ) : EReal) := by
  rw [← hg]
  blk_point [iblk, V, idx p]

omit hx hg in
theorem blk2 (p : Fin cfg0.N) (r : Fin 512) (l : Fin 1024) :
    (iblk m c 2 p : FVec Ideal S512x1024 .f32) (ix2 r l) = ((T (row p r) l : ℝ) : EReal) := by
  rw [← ht]
  blk_point [iblk, V, idx p]

theorem point3 (t : Fin cfg0.N) (r : Fin 512) (l : Fin 1024) :
    ((outsAt0 m c t.val t.isLt).1 : FVec Ideal S512x1024 .f32) (ix2 r l) = ((dxRow (X (row t r)) G (T (row t r)) l : ℝ) : EReal) := by
  by_cases h : t.val % 8 = 0
  · rw [outsAt0_A m c t h]; frame_out
    exact pay1 _ _ _ _ _ G (blk0 m c X hx t) (blk1 m c G hg t) (blk2 m c T ht t) r l
  · rw [outsAt0_B m c t h]; frame_out
    exact pay1 _ _ _ _ _ G (blk0 m c X hx t) (blk1 m c G hg t) (blk2 m c T ht t) r l

theorem final3 : (dats m 0 c).arrAt 3 (cfgs 0).N = dxArr X G T := by
  refine (dats m 0 c).arrAt_eq_of_covers 3 _ (by decide +kernel) fun t _ y => ?_
  blk_simp
  rw [after0_3]
  obtain ⟨r, l, rfl⟩ : ∃ (r : Fin 512) (l : Fin 1024), y = ix2 r l := ⟨y 0, y 1, ValueIdx.eq_ix2 y⟩
  refine (point3 m c X T G hx hg ht t r l).trans ?_
  rw [← dxArr_apply]
  blk_ext [idx t]

theorem final4 : (dats m 0 c).arrAt 4 (cfgs 0).N = lossArr X G T := by
  refine (dats m 0 c).arrAt_eq_of_after_last 4 t0_7 (by decide +kernel) _ fun j => ?_
  blk_simp
  rw [after0_4, Pipeline.eq_sum_fin_of_reset_step_apply_last (fun n h => (outsAt0 m c n h).2.1) 8 (fun _ => 0)
    (fun t _ => ((1 / 2 * ∑ r, lossRow (X (row t r)) G (T (row t r)) : ℝ) : EReal))
    (fun t h j => by
      rw [outsAt0_A m c t h]; frame_out
      rw [pay7 _ _ _ _ _ G (blk0 m c X hx t) (blk1 m c G hg t) (blk2 m c T ht t), zero8])
    (fun t h j => by
      rw [outsAt0_B m c t h]; frame_out
      rw [pay7 _ _ _ _ _ G (blk0 m c X hx t) (blk1 m c G hg t) (blk2 m c T ht t)])
    (le_of_eq N_0) t0_7 rfl j, zero_add]
  show (_ : EReal) = _
  rw [sum_coe, ← Finset.mul_sum]
  show _ = ((1 / 2 * ∑ r, lossRow (X r) G (T r) : ℝ) : EReal)
  rw [Fin.sum_univ_tiles 8 512 rfl fun r => lossRow (X r) G (T r)]
  rfl

theorem final5 : (dats m 0 c).arrAt 5 (cfgs 0).N = dgArr X G T := by
  refine (dats m 0 c).arrAt_eq_of_after_last 5 t0_7 (by decide +kernel) _ fun j => ?_
  blk_simp
  obtain ⟨l, rfl⟩ : ∃ l : Fin 1024, j = ix2 0 l := ⟨j 1, by rw [ValueIdx.eq_ix2 j]; congr 1; exact Subsingleton.elim (α := Fin 1) _ _⟩
  rw [after0_5]
  have key := Pipeline.eq_sum_fin_of_reset_step_apply_last (fun n h l => ((outsAt0 m c n h).2.2 : FVec Ideal S1x1024 .f32) (ix2 0 l)) 8 (fun _ => 0)
    (fun t l => ((∑ r, dgRow (X (row t r)) G (T (row t r)) l : ℝ) : EReal))
    (fun t h l => by
      rw [outsAt0_A m c t h]; frame_out
      rw [pay2 _ _ _ _ _ G (blk0 m c X hx t) (blk1 m c G hg t) (blk2 m c T ht t), zero1])
    (fun t h l => by
      rw [outsAt0_B m c t h]; frame_out
      rw [pay2 _ _ _ _ _ G (blk0 m c X hx t) (blk1 m c G hg t) (blk2 m c T ht t)])
    (le_of_eq N_0) t0_7 rfl l
  rw [zero_add, sum_coe] at key
  refine key.trans ?_
  show _ = (((∑ r, dgRow (X r) G (T r) l : ℝ)) : EReal)
  rw [Fin.sum_univ_tiles 8 512 rfl fun r => dgRow (X r) G (T r) l]
  rfl

end Run

section Ref
open Cert.LossReferenceIdeal Cert.LossReferenceIdeal.Value

variable (m : (ℓ : Loc nD τ sig) → Buf (Elt Ideal) ℓ) (c : Dev nD) (x : FVec Ideal S4096x1024 .f32) (g : FVec Ideal S1x1024 .f32) (t : FVec Ideal S4096x1024 .f32)
  (e0 : m ((c.tc : Thread nD τ).loc main_arg0) = x) (e1 : m ((c.tc : Thread nD τ).loc main_arg1) = g) (e2 : m ((c.tc : Thread nD τ).loc main_arg2) = t)
  (X T : Fin 4096 → Fin 1024 → ℝ) (G : Fin 1024 → ℝ)
  (hx : ∀ r l, x (ix2 r l) = ((X r l : ℝ) : EReal)) (hg : ∀ l, g (ix2 0 l) = ((G l : ℝ) : EReal)) (ht : ∀ r l, t (ix2 r l) = ((T r l : ℝ) : EReal))
include e0 e1 e2 hx hg ht

theorem ref0 : res_out0 m c = dxArr X G T := by
  refine funext fun (j : S4096x1024.Idx) => ?_
  obtain ⟨r, l, rfl⟩ : ∃ (r : Fin 4096) (l : Fin 1024), j = ix2 r l := ⟨j 0, j 1, ValueIdx.eq_ix2 j⟩
  rw [dxArr_apply, ← dx_eq]
  unfold res_out0 res_main_v48
  rw [e0, e1, e2]
  pointwise
  simp (disch := norm_num) only [hx, hg, ht, ofBits_half, ofBits_neg_half, ofBits_two, ofBits_1024, ofBits_eps, ← EReal.coe_mul, ← EReal.coe_add, ← EReal.coe_sub, sum_coe, div_ne, ms_fold, rsqrt_ms, div_ms, div_ms_eq, Finset.univ_unique, Finset.sum_singleton]

end Ref

section Ref
open Cert.LossReferenceIdeal Cert.LossReferenceIdeal.Value

variable (m : (ℓ : Loc nD τ sig) → Buf (Elt Ideal) ℓ) (ρ : Dev nD → PrngReg) (x : Dev nD → FVec Ideal S4096x1024 .f32) (g : Dev nD → FVec Ideal S1x1024 .f32) (t : Dev nD → FVec Ideal S4096x1024 .f32)
  (e0 : ∀ c : Dev nD, m (((c : Dev nD).tc : Thread nD τ).loc main_arg0) = x c) (e1 : ∀ c : Dev nD, m (((c : Dev nD).tc : Thread nD τ).loc main_arg1) = g c) (e2 : ∀ c : Dev nD, m (((c : Dev nD).tc : Thread nD τ).loc main_arg2) = t c)
  (X T : Dev nD → Fin 4096 → Fin 1024 → ℝ) (G : Dev nD → Fin 1024 → ℝ)
  (hx : ∀ c r l, x c (ix2 r l) = ((X c r l : ℝ) : EReal)) (hg : ∀ c l, g c (ix2 0 l) = ((G c l : ℝ) : EReal)) (ht : ∀ c r l, t c (ix2 r l) = ((T c r l : ℝ) : EReal))
include e0 e1 e2 hx hg ht

/-- The reference's run, its results as the real functions. -/
theorem ref_run : θ_run (defs (F := Ideal)) (onTc (τ := τ) (main (F := Ideal))) ⟨m, fun _ => 0, ρ⟩ fun r => ∀ c : Dev nD,
      r.2.mem ((c.tc : Thread nD τ).loc main_v48) = dxArr (X c) (G c) (T c)
      ∧ r.2.mem ((c.tc : Thread nD τ).loc main_v49) = lossArr (X c) (G c) (T c)
      ∧ r.2.mem ((c.tc : Thread nD τ).loc main_v32) = dgArr (X c) (G c) (T c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (run (F := Ideal) m ρ)
  obtain ⟨h0, h1, h2, h3⟩ := h c
  refine ⟨h0.trans (ref0 m c _ _ _ (e0 c) (e1 c) (e2 c) (X c) (T c) (G c) (hx c) (hg c) (ht c)), h1.trans ?_, h2.trans ?_, h3⟩ <;> clear h h0 h1 h2 h3
  · refine funext fun (j : S8x128.Idx) => ?_
    rw [e0, e1, e2]
    pointwise
    simp (disch := norm_num) only [hx, hg, ht, ofBits_half, ofBits_1024, ofBits_eps, ← EReal.coe_mul, ← EReal.coe_add, ← EReal.coe_sub, sum_coe, div_ne, ms_fold, rsqrt_ms]
    rfl
  · refine funext fun (j : S1x1024.Idx) => ?_
    obtain ⟨l, rfl⟩ : ∃ l : Fin 1024, j = ix2 0 l := ⟨j 1, by rw [ValueIdx.eq_ix2 j]; congr 1; exact Subsingleton.elim (α := Fin 1) _ _⟩
    rw [e0, e1, e2]
    pointwise
    simp (disch := norm_num) only [hx, hg, ht, ofBits_half, ofBits_two, ofBits_1024, ofBits_eps, ← EReal.coe_mul, ← EReal.coe_add, ← EReal.coe_sub, sum_coe, div_ne, ms_fold, rsqrt_ms]
    show _ = ((∑ r, dgRow (X c r) (G c) (T c r) l : ℝ) : EReal)
    exact congrArg _ (Finset.sum_congr rfl fun r _ => by unfold dgRow err; ring)

end Ref

/-- Under the precondition each argument is an array of real numbers. -/
theorem reals [Cert.Pre_loss_finite.Facts] (x : FVec Ideal ⟨2, ![4096, 1024]⟩ .f32) (g : FVec Ideal ⟨2, ![1, 1024]⟩ .f32) (t : FVec Ideal ⟨2, ![4096, 1024]⟩ .f32)
    (h : (Cert.Pre_loss_finite.fn (F := Ideal) x g t).1 = (fun _ => 1#1) ∧ (Cert.Pre_loss_finite.fn (F := Ideal) x g t).2.1 = (fun _ => 1#1)
      ∧ (Cert.Pre_loss_finite.fn (F := Ideal) x g t).2.2 = (fun _ => 1#1)) :
    ∃ (X : Fin 4096 → Fin 1024 → ℝ) (G : Fin 1024 → ℝ) (T : Fin 4096 → Fin 1024 → ℝ),
      (∀ r l, x (ix2 r l) = ((X r l : ℝ) : EReal)) ∧ (∀ l, g (ix2 0 l) = ((G l : ℝ) : EReal)) ∧ (∀ r l, t (ix2 r l) = ((T r l : ℝ) : EReal)) := by
  obtain ⟨X, hX⟩ := reals_of_test _ x h.1
  obtain ⟨G, hG⟩ := reals_of_test _ g h.2.1
  obtain ⟨T, hT⟩ := reals_of_test _ t h.2.2
  exact ⟨fun r l => X (ix2 r l), fun l => G (ix2 0 l), fun r l => T (ix2 r l), fun _ _ => by rw [hX], fun _ => by rw [hG], fun _ _ => by rw [hT]⟩

end Cert.Loss
end
-- ==== Proof.MixInFwd.lean ====
/-
  The mixer's norm and input projection, forward: the residual stream through an RMS norm and a weight, the product's three
  column groups and the normed stream. Both programs' results are `cutArr` of three groups and `hArr`.
-/
module

public import proofs.«01_k».proof.Defs
public import proofs.«01_k».proof.Proof.Gen.MixInFwdKernel.Frame
public import proofs.«01_k».proof.Proof.Gen.MixInFwdKernelIdeal.Value
public import proofs.«01_k».proof.Proof.Gen.MixInFwdReferenceIdeal.Run
public import Idealize.ShloMosaic.Lib.Pipeline.ValueKit

@[expose] public section

set_option maxRecDepth 16384

noncomputable section

namespace Cert.MixInFwd

open Idealize.ShloMosaic Idealize.ShloMosaic.TcCoe Idealize.ShloMosaic.StableHlo Idealize.SL.Sem

/-- A row normed: divided by the root of its mean square (and the small constant), times the gain. -/
def nRow (x g : Fin 1024 → EReal) (l : Fin 1024) : EReal :=
  x l * Ideal.rsqrt (Ideal.div (∑ i, x i * x i) (Ideal.ofBits .f32 0x44800000#32) + Ideal.ofBits .f32 0x358637BD#32) * g l

/-- A row of the projection. -/
def pRow (h : Fin 1024 → EReal) (w : Fin 1024 → Fin 5376 → EReal) (q : Fin 5376) : EReal := ∑ k, h k * w k q

section Arrays
variable (x : FVec Ideal ⟨2, ![4096, 1024]⟩ .f32) (g : FVec Ideal ⟨2, ![1, 1024]⟩ .f32) (w : FVec Ideal ⟨2, ![1024, 5376]⟩ .f32)

/-- Column `o + q` of the projection. -/
abbrev col (o : ℕ) {n : ℕ} (h : o + n ≤ 5376) (q : Fin n) : Fin 5376 := ⟨o + q.val, by omega⟩

/-- The normed stream. -/
def hArr : FVec Ideal ⟨2, ![4096, 1024]⟩ .bf16 := fun j => nRow (fun l => x (ix2 (j 0) l)) (fun l => g (ix2 0 l)) (j 1)

/-- The projection's columns from `o`. -/
def cutArr (φ : FTy) (o n : ℕ) (h : o + n ≤ 5376) : FVec Ideal ⟨2, ![4096, n]⟩ φ :=
  fun j => pRow (nRow (fun l => x (ix2 (j 0) l)) (fun l => g (ix2 0 l))) (fun k q => w (ix2 k q)) (col o h (j 1))
end Arrays

section Run
open Cert.MixInFwdKernelIdeal Cert.MixInFwdKernelIdeal.Gen

/-! The body's values. -/

theorem norm_at (x : Vec Ideal S256x1024 .f32) (g : Vec Ideal S1x1024 .f32) (r : Fin 256) (l : Fin 1024) :
    k0_pay6 x g (ix2 r l) = nRow (fun l => x (ix2 r l)) (fun l => g (ix2 0 l)) l := by
  unfold nRow
  pointwise [k0_pay6]

section Products
variable (h : FVec Ideal S256x1024 .bf16) (x : Vec Ideal S256x1024 .f32) (g : Vec Ideal S1x1024 .f32) (r : Fin 256)

theorem pay1_at (w : Vec Ideal S512x1024 .bf16) (q : Fin 512) : k0_pay1 h w (ix2 r q) = ∑ k, h (ix2 r k) * w (ix2 q k) := by
  pointwise [k0_pay1]
theorem pay4_at (w : Vec Ideal S1024x1024 .bf16) (q : Fin 1024) : k0_pay4 h w (ix2 r q) = ∑ k, h (ix2 r k) * w (ix2 q k) := by
  pointwise [k0_pay4]
theorem pay7_at (w : Vec Ideal S768x1024 .bf16) (q : Fin 768) : k0_pay7 x g w (ix2 r q) = ∑ k, k0_pay6 x g (ix2 r k) * w (ix2 q k) := by
  pointwise [k0_pay7]
end Products

/-- The rows of the weight block from `o`. -/
theorem rows (x : Vec Ideal S5376x1024 .bf16) (o n : ℕ) (h : o + n ≤ 5376) (inb) (q : Fin n) (k : Fin 1024) :
    View.ld x (Rect.unit (s := S5376x1024) ![o, 0] ![n, 1024] inb) (ix2 q k) = x (ix2 (col o h q) k) := by
  refine congrArg x (funext fun a => Fin.ext ?_)
  fin_cases a
  · show o + 1 * q.val = o + q.val
    omega
  · show 0 + 1 * k.val = k.val
    omega

/-- A piece of a block of `W` columns: `n` columns from `o`. -/
theorem piece {φ : FTy} {W n : ℕ} (o : ℕ) (h : o + n ≤ W) (E : Fin 256 → Fin W → EReal) (inb) (v : FVec Ideal ⟨2, ![256, n]⟩ φ)
    (hv : ∀ r q, v (ix2 r q) = E r ⟨o + q.val, by omega⟩) (x : (Rect.unit (s := ⟨2, ![256, W]⟩) ![0, o] ![256, n] inb).shape.Idx) :
    v x = E ((Rect.unit (s := ⟨2, ![256, W]⟩) ![0, o] ![256, n] inb).emb x 0) ((Rect.unit (s := ⟨2, ![256, W]⟩) ![0, o] ![256, n] inb).emb x 1) := by
  obtain ⟨r, q, rfl⟩ : ∃ (r : Fin 256) (q : Fin n), x = ix2 r q := ⟨x 0, x 1, ValueIdx.eq_ix2 x⟩
  rw [hv]
  refine congrArg₂ E (Fin.ext ?_) (Fin.ext ?_)
  · show r.val = 0 + 1 * r.val
    omega
  · show o + q.val = o + 1 * q.val
    omega

variable (m : (ℓ : Loc nD τ sig) → Buf (Elt Ideal) ℓ) (c : Dev nD)

theorem idx : ∀ t : Fin cfg0.N, (win0_0.index t = ![t.val, 0] ∧ win0_1.index t = ![0, 0] ∧ win0_2.index t = ![0, 0])
    ∧ win0_3.index t = ![t.val, 0] ∧ win0_4.index t = ![t.val, 0] ∧ win0_5.index t = ![t.val, 0] ∧ win0_6.index t = ![t.val, 0] :=
  (by decide +kernel : ∀ t : Fin grid0.N, _)

/-- The row of the arrays a tile's row `r` is at point `p`. -/
abbrev row (p : Fin cfg0.N) (r : Fin 256) : Fin 4096 := ⟨p.val * 256 + r.val, by have := p.isLt; have h : cfg0.N = 16 := N_0; omega⟩

/-! The arguments by row and column. -/
def aX (r : Fin 4096) (l : Fin 1024) : EReal := (m ((c : Thread nD τ).loc main_arg0) : FVec Ideal S4096x1024 .f32) (ix2 r l)
def aG (l : Fin 1024) : EReal := (m ((c : Thread nD τ).loc main_arg1) : FVec Ideal S1x1024 .f32) (ix2 0 l)
def aW (k : Fin 1024) (q : Fin 5376) : EReal := (m ((c : Thread nD τ).loc main_arg2) : FVec Ideal S1024x5376 .f32) (ix2 k q)

/-- The transposed weight that the host leaves for the call. -/
def turned (w : FVec Ideal S1024x5376 .f32) : FVec Ideal S5376x1024 .bf16 :=
  truncf .bf16 (transpose S5376x1024 [1, 0] w transposes_S1024x5376_S5376x1024_1_0) bitsLt_bf16_f32

theorem host_w : V m c main_v1 = turned (m ((c : Thread nD τ).loc main_arg2)) := by
  show StableHlo.after hostOps0 _ _ = _
  after_results_simp <;> rfl

/-! The windows' blocks at a point. -/

theorem blk0 (p : Fin cfg0.N) (r : Fin 256) (l : Fin 1024) : (iblk m c 0 p : FVec Ideal S256x1024 .f32) (ix2 r l) = aX m c (row p r) l := by
  unfold aX
  rw [← V_main_arg0 m c]
  blk_point [iblk, idx p]

theorem blk1 (p : Fin cfg0.N) (l : Fin 1024) : (iblk m c 1 p : FVec Ideal S1x1024 .f32) (ix2 0 l) = aG m c l := by
  unfold aG
  rw [← V_main_arg1 m c]
  blk_point [iblk, idx p]

theorem blk2 (p : Fin cfg0.N) (q : Fin 5376) (k : Fin 1024) : (iblk m c 2 p : FVec Ideal S5376x1024 .bf16) (ix2 q k) = aW m c k q := by
  have h : (V m c main_v1 : FVec Ideal S5376x1024 .bf16) (ix2 q k) = aW m c k q := by
    rw [host_w]
    unfold aW
    pointwise [turned]
  rw [← h]
  blk_point [iblk, idx p]

theorem whole0 {α : EltTy} (x : Vec Ideal S256x1024 α) : View.ld x r0_0 = x := View.ld_unit_lit _ _ (by decide)
theorem whole1 {α : EltTy} (x : Vec Ideal S1x1024 α) : View.ld x r0_1 = x := View.ld_unit_lit _ _ (by decide)

/-- The normed rows of a point, and their projection. -/
abbrev hAt (t : Fin cfg0.N) (r : Fin 256) : Fin 1024 → EReal := nRow (aX m c (row t r)) (aG m c)
abbrev pAt (t : Fin cfg0.N) (r : Fin 256) : Fin 5376 → EReal := pRow (hAt m c t r) (aW m c)

theorem h_blk (t : Fin cfg0.N) (r : Fin 256) (l : Fin 1024) : k0_pay6 (iblk m c 0 t : FVec Ideal S256x1024 .f32) (iblk m c 1 t) (ix2 r l) = hAt m c t r l := by
  rw [norm_at]
  simp only [blk0, blk1]

/-- A sum over a row of the weight's rows from `o`: the projection's columns there. -/
theorem p_blk (t : Fin cfg0.N) (r : Fin 256) (o n : ℕ) (h : o + n ≤ 5376) (inb) (q : Fin n) :
    ∑ k, k0_pay6 (iblk m c 0 t : FVec Ideal S256x1024 .f32) (iblk m c 1 t) (ix2 r k)
      * View.ld (iblk m c 2 t : FVec Ideal S5376x1024 .bf16) (Rect.unit (s := S5376x1024) ![o, 0] ![n, 1024] inb) (ix2 q k) = pAt m c t r (col o h q) :=
  Finset.sum_congr rfl fun k _ => by rw [h_blk, rows _ o n h, blk2]

/-! Each output's block at a point, and the array that its blocks make up. -/

abbrev x0 : FVec Ideal S4096x1024 .f32 := m ((c : Thread nD τ).loc main_arg0)
abbrev x1 : FVec Ideal S1x1024 .f32 := m ((c : Thread nD τ).loc main_arg1)
abbrev x2 : FVec Ideal S1024x5376 .f32 := m ((c : Thread nD τ).loc main_arg2)

theorem point3 (t : Fin cfg0.N) (r : Fin 256) (q : Fin 768) :
    (out0_3 (iblk m c 0 t) (iblk m c 1 t) (iblk m c 2 t) : FVec Ideal S256x768 .f32) (ix2 r q) = pAt m c t r (col 0 (by omega) q) := by
  unfold out0_3
  refine (congrFun (View.canon_cons_unit_lit _ _ _ (by decide)) _).trans ?_
  simp only [whole0, whole1]
  exact (pay7_at _ _ r _ q).trans (p_blk m c t r 0 768 (by omega) _ q)

theorem final3 : (dats m 0 c).arrAt 3 (cfgs 0).N = cutArr (x0 m c) (x1 m c) (x2 m c) .f32 0 768 (by omega) := by
  refine (dats m 0 c).arrAt_eq_of_covers 3 _ (by decide +kernel) fun t _ y => ?_
  blk_simp
  rw [after0_3]
  obtain ⟨r, l, rfl⟩ : ∃ (r : Fin 256) (l : Fin 768), y = ix2 r l := ⟨y 0, y 1, ValueIdx.eq_ix2 y⟩
  refine (point3 m c t r l).trans ?_
  show cutArr (x0 m c) (x1 m c) (x2 m c) .f32 0 768 (by omega) (ix2 (row t r) l) = _
  blk_ext [idx t]

theorem point4 (t : Fin cfg0.N) (r : Fin 256) (q : Fin 2560) :
    (out0_4 (iblk m c 0 t) (iblk m c 1 t) (iblk m c 2 t) : FVec Ideal S256x2560 .f32) (ix2 r q) = pAt m c t r (col 768 (by omega) q) := by
  unfold_out out0_4
  simp only [whole0, whole1]
  refine View.canon_apply_of_pieces (Val := Elt Ideal) (fun j => pAt m c t (j 0) (col 768 (n := 2560) (by omega) (j 1))) _ ?_ (ix2 r q) (cover0_4 _ _ _ _ _ _)
  intro pc hpc
  have step : ∀ (o : ℕ) (h : o + 512 ≤ 2560) (inb inw) (v : FVec Ideal S256x512 .f32)
      (hv : ∀ r q, v (ix2 r q) = ∑ k, k0_pay6 (iblk m c 0 t : FVec Ideal S256x1024 .f32) (iblk m c 1 t) (ix2 r k)
        * View.ld (iblk m c 2 t : FVec Ideal S5376x1024 .bf16) (Rect.unit (s := S5376x1024) ![768 + o, 0] ![512, 1024] inw) (ix2 q k)),
      ∀ x, v x = (fun j : S256x2560.Idx => pAt m c t (j 0) (col 768 (n := 2560) (by omega) (j 1))) ((Rect.unit (s := S256x2560) ![0, o] ![256, 512] inb).emb x) := by
    intro o h inb inw v hv x
    refine piece o h (fun r q => pAt m c t r (col 768 (by omega) q)) inb v (fun r q => ?_) x
    rw [hv, p_blk m c t r (768 + o) 512 (by omega)]
    exact congrArg _ (Fin.ext (Nat.add_assoc 768 o q.val))
  rcases List.mem_cons.mp hpc with rfl | hpc
  · exact step 2048 (by omega) inb_S256x2560_S256x512_0_2048 inb_S5376x1024_S512x1024_2816_0 _ fun r q => pay1_at _ r _ q
  rcases List.mem_cons.mp hpc with rfl | hpc
  · exact step 1536 (by omega) inb_S256x2560_S256x512_0_1536 inb_S5376x1024_S512x1024_2304_0 _ fun r q => pay1_at _ r _ q
  rcases List.mem_cons.mp hpc with rfl | hpc
  · exact step 1024 (by omega) inb_S256x2560_S256x512_0_1024 inb_S5376x1024_S512x1024_1792_0 _ fun r q => pay1_at _ r _ q
  rcases List.mem_cons.mp hpc with rfl | hpc
  · exact step 512 (by omega) inb_S256x2560_S256x512_0_512 inb_S5376x1024_S512x1024_1280_0 _ fun r q => pay1_at _ r _ q
  rcases List.mem_cons.mp hpc with rfl | hpc
  · exact step 0 (by omega) inb_S256x2560_S256x512_0_0 inb_S5376x1024_S512x1024_768_0 _ fun r q => pay1_at _ r _ q
  nomatch hpc

theorem final4 : (dats m 0 c).arrAt 4 (cfgs 0).N = cutArr (x0 m c) (x1 m c) (x2 m c) .f32 768 2560 (by omega) := by
  refine (dats m 0 c).arrAt_eq_of_covers 4 _ (by decide +kernel) fun t _ y => ?_
  blk_simp
  rw [after0_4]
  obtain ⟨r, l, rfl⟩ : ∃ (r : Fin 256) (l : Fin 2560), y = ix2 r l := ⟨y 0, y 1, ValueIdx.eq_ix2 y⟩
  refine (point4 m c t r l).trans ?_
  show cutArr (x0 m c) (x1 m c) (x2 m c) .f32 768 2560 (by omega) (ix2 (row t r) l) = _
  blk_ext [idx t]

theorem point5 (t : Fin cfg0.N) (r : Fin 256) (q : Fin 2048) :
    (out0_5 (iblk m c 0 t) (iblk m c 1 t) (iblk m c 2 t) : FVec Ideal S256x2048 .bf16) (ix2 r q) = pAt m c t r (col 3328 (by omega) q) := by
  unfold_out out0_5
  simp only [whole0, whole1]
  refine View.canon_apply_of_pieces (Val := Elt Ideal) (fun j => pAt m c t (j 0) (col 3328 (n := 2048) (by omega) (j 1))) _ ?_ (ix2 r q) (cover0_5 _ _ _)
  intro pc hpc
  have step : ∀ (o : ℕ) (h : o + 1024 ≤ 2048) (inb inw) (v : FVec Ideal S256x1024 .bf16)
      (hv : ∀ r q, v (ix2 r q) = ∑ k, k0_pay6 (iblk m c 0 t : FVec Ideal S256x1024 .f32) (iblk m c 1 t) (ix2 r k)
        * View.ld (iblk m c 2 t : FVec Ideal S5376x1024 .bf16) (Rect.unit (s := S5376x1024) ![3328 + o, 0] ![1024, 1024] inw) (ix2 q k)),
      ∀ x, v x = (fun j : S256x2048.Idx => pAt m c t (j 0) (col 3328 (n := 2048) (by omega) (j 1))) ((Rect.unit (s := S256x2048) ![0, o] ![256, 1024] inb).emb x) := by
    intro o h inb inw v hv x
    refine piece o h (fun r q => pAt m c t r (col 3328 (by omega) q)) inb v (fun r q => ?_) x
    rw [hv, p_blk m c t r (3328 + o) 1024 (by omega)]
    exact congrArg _ (Fin.ext (Nat.add_assoc 3328 o q.val))
  rcases List.mem_cons.mp hpc with rfl | hpc
  · exact step 1024 (by omega) inb_S256x2048_S256x1024_0_1024 inb_S5376x1024_S1024x1024_4352_0 _ fun r q => pay4_at _ r _ q
  rcases List.mem_cons.mp hpc with rfl | hpc
  · exact step 0 (by omega) inb_S256x2048_S256x1024_0_0 inb_S5376x1024_S1024x1024_3328_0 _ fun r q => pay4_at _ r _ q
  nomatch hpc

theorem final5 : (dats m 0 c).arrAt 5 (cfgs 0).N = cutArr (x0 m c) (x1 m c) (x2 m c) .bf16 3328 2048 (by omega) := by
  refine (dats m 0 c).arrAt_eq_of_covers 5 _ (by decide +kernel) fun t _ y => ?_
  blk_simp
  rw [after0_5]
  obtain ⟨r, l, rfl⟩ : ∃ (r : Fin 256) (l : Fin 2048), y = ix2 r l := ⟨y 0, y 1, ValueIdx.eq_ix2 y⟩
  refine (point5 m c t r l).trans ?_
  show cutArr (x0 m c) (x1 m c) (x2 m c) .bf16 3328 2048 (by omega) (ix2 (row t r) l) = _
  blk_ext [idx t]

theorem point6 (t : Fin cfg0.N) (r : Fin 256) (l : Fin 1024) :
    (out0_6 (iblk m c 0 t) (iblk m c 1 t) (iblk m c 2 t) : FVec Ideal S256x1024 .bf16) (ix2 r l) = hAt m c t r l := by
  unfold out0_6
  refine (congrFun (View.canon_cons_unit_lit _ _ _ (by decide)) _).trans ?_
  simp only [whole0, whole1]
  exact h_blk m c t r l

theorem final6 : (dats m 0 c).arrAt 6 (cfgs 0).N = hArr (x0 m c) (x1 m c) := by
  refine (dats m 0 c).arrAt_eq_of_covers 6 _ (by decide +kernel) fun t _ y => ?_
  blk_simp
  rw [after0_6]
  obtain ⟨r, l, rfl⟩ : ∃ (r : Fin 256) (l : Fin 1024), y = ix2 r l := ⟨y 0, y 1, ValueIdx.eq_ix2 y⟩
  refine (point6 m c t r l).trans ?_
  show hArr (x0 m c) (x1 m c) (ix2 (row t r) l) = _
  blk_ext [idx t]
end Run

section Ref
open Cert.MixInFwdReferenceIdeal Cert.MixInFwdReferenceIdeal.Gen
variable (x : FVec Ideal S4096x1024 .f32) (g : FVec Ideal S1x1024 .f32) (w : FVec Ideal S1024x5376 .f32)

/-- The reference's norm, and its projection. -/
def normT : FVec Ideal S4096x1024 .f32 :=
  mulf (mulf x (broadcastInDim S4096x1024 ![0, 1] bcast_S4096x1_S4096x1024_0_1 (Host.rsqrt (addf (Host.divf (broadcastInDim S4096x1 ![0] bcast_S4096_S4096x1_0
    (Host.reduceAdd (mulf x x) (constant S_ .f32 0x00000000#32) reducesTo_S4096x1024_S4096_d1 h_S_)) (broadcastInDim S4096x1 ![] bcast_S_S4096x1 (constant S_ .f32 0x44800000#32)))
    (broadcastInDim S4096x1 ![] bcast_S_S4096x1 (constant S_ .f32 0x358637BD#32)))))) (broadcastInDim S4096x1024 ![0, 1] bcast_S1x1024_S4096x1024_0_1 g)

def projT : FVec Ideal S4096x5376 .f32 := Host.dotGeneral dot_S4096x1024_S1024x5376_S4096x5376_1_0_0_1_n_n none (normT x g) w

theorem normT_at (r : Fin 4096) (l : Fin 1024) : normT x g (ix2 r l) = nRow (fun l => x (ix2 r l)) (fun l => g (ix2 0 l)) l := by
  unfold nRow
  pointwise [normT]

theorem projT_at (r : Fin 4096) (q : Fin 5376) :
    projT x g w (ix2 r q) = pRow (nRow (fun l => x (ix2 r l)) (fun l => g (ix2 0 l))) (fun k q => w (ix2 k q)) q := by
  have e : projT x g w (ix2 r q) = ∑ k, normT x g (ix2 r k) * w (ix2 k q) := by pointwise [projT]
  rw [e]
  exact Finset.sum_congr rfl fun k _ => by rw [normT_at]

theorem ref13 : extractStridedSlice S4096x768 ![0, 0] (projT x g w) slices_S4096x5376_S4096x768_0_0 = cutArr x g w .f32 0 768 (by omega) := by
  funext j
  obtain ⟨r, q, rfl⟩ : ∃ (r : Fin 4096) (q : Fin 768), j = ix2 r q := ⟨j 0, j 1, ValueIdx.eq_ix2 j⟩
  refine Eq.trans ?_ (projT_at x g w r (col 0 (by omega) q))
  refine congrArg (projT x g w) (funext fun a => Fin.ext ?_)
  fin_cases a
  · exact Nat.zero_add r.val
  · rfl

theorem ref14 : extractStridedSlice S4096x2560 ![0, 768] (projT x g w) slices_S4096x5376_S4096x2560_0_768 = cutArr x g w .f32 768 2560 (by omega) := by
  funext j
  obtain ⟨r, q, rfl⟩ : ∃ (r : Fin 4096) (q : Fin 2560), j = ix2 r q := ⟨j 0, j 1, ValueIdx.eq_ix2 j⟩
  refine Eq.trans ?_ (projT_at x g w r (col 768 (by omega) q))
  refine congrArg (projT x g w) (funext fun a => Fin.ext ?_)
  fin_cases a
  · exact Nat.zero_add r.val
  · rfl

theorem ref16 : truncf (F := Ideal) .bf16 (extractStridedSlice S4096x2048 ![0, 3328] (projT x g w) slices_S4096x5376_S4096x2048_0_3328) bitsLt_bf16_f32
    = cutArr x g w .bf16 3328 2048 (by omega) := by
  funext j
  obtain ⟨r, q, rfl⟩ : ∃ (r : Fin 4096) (q : Fin 2048), j = ix2 r q := ⟨j 0, j 1, ValueIdx.eq_ix2 j⟩
  refine Eq.trans ?_ (projT_at x g w r (col 3328 (by omega) q))
  refine congrArg (projT x g w) (funext fun a => Fin.ext ?_)
  fin_cases a
  · exact Nat.zero_add r.val
  · rfl

theorem ref17 : truncf (F := Ideal) .bf16 (normT x g) bitsLt_bf16_f32 = hArr x g := by
  funext j
  obtain ⟨r, l, rfl⟩ : ∃ (r : Fin 4096) (l : Fin 1024), j = ix2 r l := ⟨j 0, j 1, ValueIdx.eq_ix2 j⟩
  exact normT_at x g r l

/-- The reference's frame: the arguments unchanged, and no semaphore. -/
theorem ref_frame : Cert.quiescent_MixInFwdReferenceIdeal := fun m ρ _ =>
  (θ_run Cert.MixInFwdReferenceIdeal.defs _ _).mono (fun r h => ⟨fun c => (h c).2.2.2.2, sem_eq_zero_of_no_sems (by decide) r.2⟩)
    (Cert.MixInFwdReferenceIdeal.Value.run (F := Ideal) m ρ)
end Ref

/-- The input projection: both programs leave the same four arrays. -/
theorem algebraic : Cert.algebraic_MixInFwdKernelIdeal_MixInFwdReferenceIdeal := by
  intro m g m' g' _ hargs
  refine ⟨fun c => cutArr (x0 m c) (x1 m c) (x2 m c) .f32 0 768 (by omega), fun c => cutArr (x0 m c) (x1 m c) (x2 m c) .f32 768 2560 (by omega),
    fun c => cutArr (x0 m c) (x1 m c) (x2 m c) .bf16 3328 2048 (by omega), fun c => hArr (x0 m c) (x1 m c), ?_, ?_⟩
  · refine (θ_run Cert.MixInFwdKernelIdeal.defs _ _).mono (fun r h c => ?_) (Cert.MixInFwdKernelIdeal.Value.run_blocks (F := Ideal) m g)
    obtain ⟨h0, h1, h2, h3, h4⟩ := h c
    exact ⟨h0.trans (final3 m c), h1.trans (final4 m c), h2.trans (final5 m c), h3.trans (final6 m c), h4⟩
  · refine (θ_run Cert.MixInFwdReferenceIdeal.defs _ _).mono (fun r h c => ?_) (Cert.MixInFwdReferenceIdeal.Value.run (F := Ideal) m' g')
    obtain ⟨e0, e1, e2⟩ := hargs c
    obtain ⟨h0, h1, h2, h3, h4⟩ := h c
    refine ⟨h0.trans ((ref13 _ _ _).trans ?_), h1.trans ((ref14 _ _ _).trans ?_), h2.trans ((ref16 _ _ _).trans ?_), h3.trans ((ref17 _ _).trans ?_), h4⟩
    · rw [e0, e1, e2]
    · rw [e0, e1, e2]
    · rw [e0, e1, e2]
    · rw [e0, e1]

end Cert.MixInFwd

end
-- ==== Proof.MixOutFwd.lean ====
/-
  The mixer output, forward: the two branches' outputs through their projections, each times the logistic function of its
  gate's logits, added, through the output projection and onto the residual stream. Both programs' result is `xArr`.
-/
module

public import proofs.«01_k».proof.Defs
public import proofs.«01_k».proof.Proof.Gen.MixOutFwdKernel.Frame
public import proofs.«01_k».proof.Proof.Gen.MixOutFwdKernelIdeal.Value
public import proofs.«01_k».proof.Proof.Gen.MixOutFwdReferenceIdeal.Run
public import Idealize.ShloMosaic.Lib.Pipeline.ValueKit

@[expose] public section

set_option maxRecDepth 16384

noncomputable section

namespace Cert.MixOutFwd

open Idealize.ShloMosaic Idealize.ShloMosaic.TcCoe Idealize.ShloMosaic.StableHlo Idealize.SL.Sem

/-- A row through a projection. -/
def yRow (o : Fin 512 → EReal) (w : Fin 512 → Fin 1024 → EReal) (l : Fin 1024) : EReal := ∑ k, o k * w k l

/-- The gated mix of a row's two branches. -/
def mRow (oa ob : Fin 512 → EReal) (ga gb : Fin 1024 → EReal) (wa wb : Fin 512 → Fin 1024 → EReal) (l : Fin 1024) : EReal :=
  Ideal.logistic (ga l) * yRow oa wa l + Ideal.logistic (gb l) * yRow ob wb l

/-- A row of the residual stream after the mixer. -/
def xRow (x : Fin 1024 → EReal) (oa ob : Fin 512 → EReal) (ga gb : Fin 1024 → EReal) (wa wb : Fin 512 → Fin 1024 → EReal) (wo : Fin 1024 → Fin 1024 → EReal)
    (l : Fin 1024) : EReal := x l + ∑ k, mRow oa ob ga gb wa wb k * wo k l

/-- The result as an array of the arguments. -/
def xArr (x : FVec Ideal ⟨2, ![4096, 1024]⟩ .f32) (oa ob : FVec Ideal ⟨2, ![4096, 512]⟩ .f32) (ga gb : FVec Ideal ⟨2, ![4096, 1024]⟩ .f32)
    (wa wb : FVec Ideal ⟨2, ![512, 1024]⟩ .f32) (wo : FVec Ideal ⟨2, ![1024, 1024]⟩ .f32) : FVec Ideal ⟨2, ![4096, 1024]⟩ .f32 :=
  fun j => xRow (fun l => x (ix2 (j 0) l)) (fun k => oa (ix2 (j 0) k)) (fun k => ob (ix2 (j 0) k)) (fun l => ga (ix2 (j 0) l)) (fun l => gb (ix2 (j 0) l))
    (fun k l => wa (ix2 k l)) (fun k l => wb (ix2 k l)) (fun k l => wo (ix2 k l)) (j 1)

section Run
open Cert.MixOutFwdKernelIdeal Cert.MixOutFwdKernelIdeal.Gen

/-- Column `n` of block `j`. -/
abbrev bcol (j : Fin 4) (n : Fin 256) : Fin 1024 := ⟨j.val * 256 + n.val, by omega⟩

section Proj
variable (w0 w1 w2 w3 : Vec Ideal S1x512x256 .bf16) (W : Fin 512 → Fin 1024 → EReal)
  (h0 : ∀ k n, w0 (ix3 0 k n) = W k (bcol 0 n)) (h1 : ∀ k n, w1 (ix3 0 k n) = W k (bcol 1 n))
  (h2 : ∀ k n, w2 (ix3 0 k n) = W k (bcol 2 n)) (h3 : ∀ k n, w3 (ix3 0 k n) = W k (bcol 3 n))
include h0 h1 h2 h3

/-- The first branch's projection, from the weight's four blocks of columns. -/
theorem ya_at (o : Vec Ideal S512x512 .f32) (r : Fin 512) (l : Fin 1024) :
    k0_pay2 o w0 w1 w2 w3 (ix2 r l) = yRow (fun k => o (ix2 r k)) W l := by
  unfold yRow
  pointwise [k0_pay2]
  simp only [h0, h1, h2, h3]
  split_ifs <;> refine Finset.sum_congr rfl fun k _ => congrArg (fun q => o (ix2 r k) * W k q) (Fin.ext ?_) <;> simp <;> omega

/-- The second branch's projection, the gates, the mix and the output projection. -/
theorem out_at (ya : FVec Ideal S512x1024 .f32) (o : Vec Ideal S512x512 .bf16) (ga gb : Vec Ideal S512x1024 .bf16) (x : Vec Ideal S512x1024 .f32)
    (wo : Vec Ideal S1024x1024 .bf16) (YA : Fin 512 → Fin 1024 → EReal) (hya : ∀ r l, ya (ix2 r l) = YA r l) (r : Fin 512) (l : Fin 1024) :
    k0_pay1 ya (k0_pay3 o) (k0_pay4 o w0) (k0_pay5 o w1) (k0_pay6 o w2) w3 ga gb x wo (ix2 r l)
      = x (ix2 r l) + ∑ k, (Ideal.logistic (ga (ix2 r k)) * YA r k + Ideal.logistic (gb (ix2 r k)) * yRow (fun q => o (ix2 r q)) W k) * wo (ix2 k l) := by
  unfold yRow
  pointwise [k0_pay1, k0_pay3, k0_pay4, k0_pay5, k0_pay6]
  simp only [h0, h1, h2, h3, hya]
  refine congrArg _ (Finset.sum_congr rfl fun k _ => congrArg (· * _) (congrArg _ (congrArg _ ?_)))
  split_ifs <;> refine Finset.sum_congr rfl fun j _ => congrArg (fun q => o (ix2 r j) * W j q) (Fin.ext ?_) <;> simp <;> omega
end Proj

variable (m : (ℓ : Loc nD τ sig) → Buf (Elt Ideal) ℓ) (c : Dev nD)

theorem idx : ∀ t : Fin cfg0.N, (win0_0.index t = ![t.val, 0] ∧ win0_1.index t = ![t.val, 0] ∧ win0_2.index t = ![t.val, 0] ∧ win0_3.index t = ![t.val, 0])
    ∧ win0_4.index t = ![t.val, 1] ∧ win0_5.index t = ![0, 0, 0] ∧ win0_6.index t = ![0, 0, 0] ∧ win0_7.index t = ![0, 0] ∧ win0_8.index t = ![t.val, 0] :=
  (by decide +kernel : ∀ t : Fin grid0.N, _)

/-- The row of the arrays a tile's row `r` is at point `p`. -/
abbrev row (p : Fin cfg0.N) (r : Fin 512) : Fin 4096 := ⟨p.val * 512 + r.val, by have := p.isLt; have h : cfg0.N = 8 := N_0; omega⟩

/-! The arguments by row and column. -/
def aX (r : Fin 4096) (l : Fin 1024) : EReal := (m ((c : Thread nD τ).loc main_arg0) : FVec Ideal S4096x1024 .f32) (ix2 r l)
def aOa (r : Fin 4096) (k : Fin 512) : EReal := (m ((c : Thread nD τ).loc main_arg1) : FVec Ideal S4096x512 .f32) (ix2 r k)
def aOb (r : Fin 4096) (k : Fin 512) : EReal := (m ((c : Thread nD τ).loc main_arg2) : FVec Ideal S4096x512 .f32) (ix2 r k)
def aGa (r : Fin 4096) (l : Fin 1024) : EReal := (m ((c : Thread nD τ).loc main_arg3) : FVec Ideal S4096x1024 .f32) (ix2 r l)
def aGb (r : Fin 4096) (l : Fin 1024) : EReal := (m ((c : Thread nD τ).loc main_arg4) : FVec Ideal S4096x1024 .f32) (ix2 r l)
def aWa (k : Fin 512) (l : Fin 1024) : EReal := (m ((c : Thread nD τ).loc main_arg5) : FVec Ideal S512x1024 .f32) (ix2 k l)
def aWb (k : Fin 512) (l : Fin 1024) : EReal := (m ((c : Thread nD τ).loc main_arg6) : FVec Ideal S512x1024 .f32) (ix2 k l)
def aWo (k l : Fin 1024) : EReal := (m ((c : Thread nD τ).loc main_arg7) : FVec Ideal S1024x1024 .f32) (ix2 k l)

/-- The gates' logits side by side, and a weight in four blocks of columns. -/
def gatesT (a b : FVec Ideal S4096x1024 .f32) : FVec Ideal S4096x2048 .bf16 :=
  truncf .bf16 (concatenate S4096x2048 1 [⟨S4096x1024, a⟩, ⟨S4096x1024, b⟩] concatenates_S4096x1024_S4096x1024_S4096x2048_d1) bitsLt_bf16_f32

def blocksT (w : FVec Ideal S512x1024 .f32) : FVec Ideal S4x512x256 .bf16 :=
  truncf .bf16 (transpose S4x512x256 [1, 0, 2] (shapeCast S512x4x256 w shapeCasts_S512x1024_S512x4x256) transposes_S512x4x256_S4x512x256_1_0_2) bitsLt_bf16_f32

theorem blocksT_at (w : FVec Ideal S512x1024 .f32) (j : Fin 4) (k : Fin 512) (q : Fin 256) : blocksT w (ix3 j k q) = w (ix2 k (bcol j q)) := by
  pointwise [blocksT]

/-! What the host leaves in the buffers that the windows read. -/

theorem host_ob : V m c main_v2 = (truncf (F := Ideal) .bf16 (m ((c : Thread nD τ).loc main_arg2) : FVec Ideal S4096x512 .f32) bitsLt_bf16_f32) := by
  show StableHlo.after hostOps0 _ _ = _
  after_results_simp <;> rfl

theorem host_gates : V m c main_v1 = gatesT (m ((c : Thread nD τ).loc main_arg3)) (m ((c : Thread nD τ).loc main_arg4)) := by
  show StableHlo.after hostOps0 _ _ = _
  after_results_simp <;> rfl

theorem host_wa : V m c main_v5 = blocksT (m ((c : Thread nD τ).loc main_arg5)) := by
  show StableHlo.after hostOps0 _ _ = _
  after_results_simp <;> rfl

theorem host_wb : V m c main_v8 = blocksT (m ((c : Thread nD τ).loc main_arg6)) := by
  show StableHlo.after hostOps0 _ _ = _
  after_results_simp <;> rfl

theorem host_wo : V m c main_v9 = (truncf (F := Ideal) .bf16 (m ((c : Thread nD τ).loc main_arg7) : FVec Ideal S1024x1024 .f32) bitsLt_bf16_f32) := by
  show StableHlo.after hostOps0 _ _ = _
  after_results_simp <;> rfl

theorem gates (R : Fin 4096) (l : Fin 2048) : (V m c main_v1 : FVec Ideal S4096x2048 .bf16) (ix2 R l)
    = if hl : l.val < 1024 then aGa m c R ⟨l.val, hl⟩ else aGb m c R ⟨l.val - 1024, by omega⟩ := by
  rw [host_gates]
  unfold aGa aGb
  pointwise [gatesT]

/-! The windows' blocks at a point. -/

theorem blk0 (p : Fin cfg0.N) (r : Fin 512) (l : Fin 1024) : (iblk m c 0 p : FVec Ideal S512x1024 .f32) (ix2 r l) = aX m c (row p r) l := by
  unfold aX
  rw [← V_main_arg0 m c]
  blk_point [iblk, idx p]

theorem blk1 (p : Fin cfg0.N) (r k : Fin 512) : (iblk m c 1 p : FVec Ideal S512x512 .f32) (ix2 r k) = aOa m c (row p r) k := by
  unfold aOa
  rw [← V_main_arg1 m c]
  blk_point [iblk, idx p]

theorem blk2 (p : Fin cfg0.N) (r k : Fin 512) : (iblk m c 2 p : FVec Ideal S512x512 .bf16) (ix2 r k) = aOb m c (row p r) k := by
  have h : (V m c main_v2 : FVec Ideal S4096x512 .bf16) (ix2 (row p r) k) = aOb m c (row p r) k := by
    rw [host_ob]
    unfold aOb
    pointwise
  rw [← h]
  blk_point [iblk, idx p]

theorem blk3 (p : Fin cfg0.N) (r : Fin 512) (l : Fin 1024) : (iblk m c 3 p : FVec Ideal S512x1024 .bf16) (ix2 r l) = aGa m c (row p r) l := by
  have h := gates m c (row p r) ⟨l.val, by omega⟩
  rw [dif_pos l.isLt] at h
  rw [← h]
  blk_point [iblk, idx p]

theorem blk4 (p : Fin cfg0.N) (r : Fin 512) (l : Fin 1024) : (iblk m c 4 p : FVec Ideal S512x1024 .bf16) (ix2 r l) = aGb m c (row p r) l := by
  have h := gates m c (row p r) ⟨1024 + l.val, by omega⟩
  rw [dif_neg (by show ¬ (1024 + l.val < 1024); omega), show (⟨(1024 + l.val) - 1024, by omega⟩ : Fin 1024) = l from Fin.ext (by show 1024 + l.val - 1024 = l.val; omega)] at h
  rw [← h]
  blk_point [iblk, idx p]

theorem blk5 (p : Fin cfg0.N) (j : Fin 4) (k : Fin 512) (q : Fin 256) : (iblk m c 5 p : FVec Ideal S4x512x256 .bf16) (ix3 j k q) = aWa m c k (bcol j q) := by
  have h : (V m c main_v5 : FVec Ideal S4x512x256 .bf16) (ix3 j k q) = aWa m c k (bcol j q) := by
    rw [host_wa, blocksT_at]
    rfl
  rw [← h]
  blk_point [iblk, idx p]

theorem blk6 (p : Fin cfg0.N) (j : Fin 4) (k : Fin 512) (q : Fin 256) : (iblk m c 6 p : FVec Ideal S4x512x256 .bf16) (ix3 j k q) = aWb m c k (bcol j q) := by
  have h : (V m c main_v8 : FVec Ideal S4x512x256 .bf16) (ix3 j k q) = aWb m c k (bcol j q) := by
    rw [host_wb, blocksT_at]
    rfl
  rw [← h]
  blk_point [iblk, idx p]

theorem blk7 (p : Fin cfg0.N) (k l : Fin 1024) : (iblk m c 7 p : FVec Ideal S1024x1024 .bf16) (ix2 k l) = aWo m c k l := by
  have h : (V m c main_v9 : FVec Ideal S1024x1024 .bf16) (ix2 k l) = aWo m c k l := by
    rw [host_wo]
    unfold aWo
    pointwise
  rw [← h]
  blk_point [iblk, idx p]

/-- A weight block's slab. -/
theorem slab (x : Vec Ideal S4x512x256 .bf16) (j : Fin 4) (o : ℕ) (e : o = j.val) (inb) (k : Fin 512) (q : Fin 256) :
    View.ld x (Rect.unit (s := S4x512x256) ![o, 0, 0] ![1, 512, 256] inb) (ix3 0 k q) = x (ix3 j k q) := by
  refine congrArg x (funext fun a => Fin.ext ?_)
  fin_cases a
  · show o + 1 * 0 = j.val
    omega
  · show 0 + 1 * k.val = k.val
    omega
  · show 0 + 1 * q.val = q.val
    omega

theorem whole0 {α : EltTy} (x : Vec Ideal S512x512 α) : View.ld x r0_0 = x := View.ld_unit_lit _ _ (by decide)
theorem whole5 {α : EltTy} (x : Vec Ideal S512x1024 α) : View.ld x r0_5 = x := View.ld_unit_lit _ _ (by decide)
theorem whole6 {α : EltTy} (x : Vec Ideal S1024x1024 α) : View.ld x r0_6 = x := View.ld_unit_lit _ _ (by decide)

theorem wa_slab (p : Fin cfg0.N) (j : Fin 4) (o : ℕ) (e : o = j.val) (inb) (k : Fin 512) (q : Fin 256) :
    View.ld (iblk m c 5 p : FVec Ideal S4x512x256 .bf16) (Rect.unit (s := S4x512x256) ![o, 0, 0] ![1, 512, 256] inb) (ix3 0 k q) = aWa m c k (bcol j q) := by
  rw [slab _ j o e, blk5]

theorem wb_slab (p : Fin cfg0.N) (j : Fin 4) (o : ℕ) (e : o = j.val) (inb) (k : Fin 512) (q : Fin 256) :
    View.ld (iblk m c 6 p : FVec Ideal S4x512x256 .bf16) (Rect.unit (s := S4x512x256) ![o, 0, 0] ![1, 512, 256] inb) (ix3 0 k q) = aWb m c k (bcol j q) := by
  rw [slab _ j o e, blk6]

/-- The result's block at a point, and the array that the blocks make up. -/
theorem point8 (t : Fin cfg0.N) (r : Fin 512) (l : Fin 1024) :
    (out0_8 (iblk m c 0 t) (iblk m c 1 t) (iblk m c 2 t) (iblk m c 3 t) (iblk m c 4 t) (iblk m c 5 t) (iblk m c 6 t) (iblk m c 7 t) : FVec Ideal S512x1024 .f32) (ix2 r l)
      = xRow (aX m c (row t r)) (aOa m c (row t r)) (aOb m c (row t r)) (aGa m c (row t r)) (aGb m c (row t r)) (aWa m c) (aWb m c) (aWo m c) l := by
  unfold out0_8
  refine (congrFun (View.canon_cons_unit_lit _ _ _ (by decide)) _).trans ?_
  simp only [whole0, whole5, whole6]
  refine (out_at _ _ _ _ (aWb m c) (wb_slab m c t 0 0 rfl _) (wb_slab m c t 1 1 rfl _) (wb_slab m c t 2 2 rfl _) (wb_slab m c t 3 3 rfl _) _ _ _ _ _ _ _
    (ya_at _ _ _ _ (aWa m c) (wa_slab m c t 0 0 rfl _) (wa_slab m c t 1 1 rfl _) (wa_slab m c t 2 2 rfl _) (wa_slab m c t 3 3 rfl _) _) r l).trans ?_
  unfold xRow mRow
  simp only [blk0, blk1, blk2, blk3, blk4, blk7]

/-- The kernel's result. -/
abbrev outArr : FVec Ideal ⟨2, ![4096, 1024]⟩ .f32 := xArr (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6)) (m ((c : Thread nD τ).loc main_arg7))

theorem final8 : (dats m 0 c).arrAt 8 (cfgs 0).N = outArr m c := by
  refine (dats m 0 c).arrAt_eq_of_covers 8 _ (by decide +kernel) fun t _ y => ?_
  blk_simp
  rw [after0_8]
  obtain ⟨r, l, rfl⟩ : ∃ (r : Fin 512) (l : Fin 1024), y = ix2 r l := ⟨y 0, y 1, ValueIdx.eq_ix2 y⟩
  refine (point8 m c t r l).trans ?_
  show outArr m c (ix2 (row t r) l) = _
  blk_ext [idx t]
end Run

section Ref
open Cert.MixOutFwdReferenceIdeal Cert.MixOutFwdReferenceIdeal.Gen

/-- The gate's logistic function as the reference writes it. -/
def sgT (v : FVec Ideal S4096x1024 .f32) : FVec Ideal S4096x1024 .f32 :=
  Host.divf (broadcastInDim S4096x1024 ![] bcast_S_S4096x1024 (constant S_ .f32 0x3F800000#32))
    (addf (broadcastInDim S4096x1024 ![] bcast_S_S4096x1024 (constant S_ .f32 0x3F800000#32)) (Host.exp (Host.negf v)))

theorem sgT_at (v : FVec Ideal S4096x1024 .f32) (r : Fin 4096) (l : Fin 1024) : sgT v (ix2 r l) = Ideal.logistic (v (ix2 r l)) := by
  pointwise [sgT]
  rfl

/-- The reference's term of its arguments is the same array. -/
theorem ref_eq (x : FVec Ideal S4096x1024 .f32) (oa ob : FVec Ideal S4096x512 .f32) (ga gb : FVec Ideal S4096x1024 .f32) (wa wb : FVec Ideal S512x1024 .f32)
    (wo : FVec Ideal S1024x1024 .f32) :
    addf x (Host.dotGeneral dot_S4096x1024_S1024x1024_S4096x1024_1_0_0_1_n_n none (addf (mulf (sgT ga) (Host.dotGeneral dot_S4096x512_S512x1024_S4096x1024_1_0_0_1_n_n none oa wa))
      (mulf (sgT gb) (Host.dotGeneral dot_S4096x512_S512x1024_S4096x1024_1_0_0_1_n_n none ob wb))) wo) = xArr x oa ob ga gb wa wb wo := by
  funext j
  obtain ⟨r, l, rfl⟩ : ∃ (r : Fin 4096) (l : Fin 1024), j = ix2 r l := ⟨j 0, j 1, ValueIdx.eq_ix2 j⟩
  show _ = xRow (fun l => x (ix2 r l)) (fun k => oa (ix2 r k)) (fun k => ob (ix2 r k)) (fun l => ga (ix2 r l)) (fun l => gb (ix2 r l))
    (fun k l => wa (ix2 k l)) (fun k l => wb (ix2 k l)) (fun k l => wo (ix2 k l)) l
  unfold xRow mRow yRow
  pointwise
  simp only [sgT_at]

/-- The reference's frame: the arguments unchanged, and no semaphore. -/
theorem ref_frame : Cert.quiescent_MixOutFwdReferenceIdeal := fun m ρ _ =>
  (θ_run Cert.MixOutFwdReferenceIdeal.defs _ _).mono (fun r h => ⟨fun c => (h c).2, sem_eq_zero_of_no_sems (by decide) r.2⟩)
    (Cert.MixOutFwdReferenceIdeal.Value.run (F := Ideal) m ρ)
end Ref

/-- The mixer output: both programs leave the same array. -/
theorem algebraic : Cert.algebraic_MixOutFwdKernelIdeal_MixOutFwdReferenceIdeal := by
  intro m g m' g' _ hargs
  refine ⟨fun c => outArr m c, ?_, ?_⟩
  · refine (θ_run Cert.MixOutFwdKernelIdeal.defs _ _).mono (fun r h c => ?_) (Cert.MixOutFwdKernelIdeal.Value.run_blocks (F := Ideal) m g)
    obtain ⟨h0, h1⟩ := h c
    exact ⟨h0.trans (final8 m c), h1⟩
  · refine (θ_run Cert.MixOutFwdReferenceIdeal.defs _ _).mono (fun r h c => ?_) (Cert.MixOutFwdReferenceIdeal.Value.run (F := Ideal) m' g')
    obtain ⟨e0, e1, e2, e3, e4, e5, e6, e7⟩ := hargs c
    obtain ⟨h0, h1⟩ := h c
    refine ⟨h0.trans ((ref_eq _ _ _ _ _ _ _ _).trans ?_), h1⟩
    rw [e0, e1, e2, e3, e4, e5, e6, e7]

end Cert.MixOutFwd

end
-- ==== Proof.QkPay.lean ====
/-
  The head norms and the rotary embedding, backward: one head of one row over the reals, and the call's arithmetic at a tile.
  A head's 64 columns are the columns `h * 64 + k`.
-/
module

public import proofs.«01_k».proof.Proof.RealNum
public import proofs.«01_k».proof.Proof.Gen.QkKernelIdeal.Skeleton
public import Idealize.ShloMosaic.Lib.Pipeline.ValueKit

@[expose] public section

set_option maxRecDepth 16384

noncomputable section

namespace Cert.Qk

open Idealize.ShloMosaic Cert.RealNum Cert.QkKernelIdeal Cert.QkKernelIdeal.Gen

/-! ## One head of one row -/

/-- The rotation by the angles of cosines `c` and sines `s`, transposed. -/
def rot (z : Fin 64 → ℝ) (c s : Fin 32 → ℝ) (k : Fin 64) : ℝ :=
  if h : k.val < 32 then z ⟨k.val + 32, by omega⟩ * s ⟨k.val, h⟩ + z k * c ⟨k.val, h⟩
  else z k * c ⟨k.val - 32, by omega⟩ + -z ⟨k.val - 32, by omega⟩ * s ⟨k.val - 32, by omega⟩

/-- The gradient of the head norm's input, `y` being the gradient of its output. -/
def hdx (x g y : Fin 64 → ℝ) (k : Fin 64) : ℝ :=
  rn 64 x * (y k * g k) - x k * (rn 64 x * rn 64 x * rn 64 x) * ((∑ q, y q * g q * x q) / 64)

/-- A row's share of the gain's gradient. -/
def hdg (x y : Fin 64 → ℝ) (k : Fin 64) : ℝ := y k * x k * rn 64 x

/-- The gradient as the chain rule through the reciprocal root writes it. -/
theorem hdx_eq (x g y : Fin 64 → ℝ) (k : Fin 64) :
    y k * g k * rn 64 x + x k * ((∑ i, x i * (y i * g i)) * (-(1 / 2) * (rn 64 x * (rn 64 x * rn 64 x))) / 64)
      + (∑ i, x i * (y i * g i)) * (-(1 / 2) * (rn 64 x * (rn 64 x * rn 64 x))) / 64 * x k = hdx x g y k := by
  rw [show (∑ i, x i * (y i * g i)) = ∑ q, y q * g q * x q from Finset.sum_congr rfl fun i _ => by ring]
  unfold hdx
  ring

/-- The column of a head's half exchanged with the other half. -/
def half (k : Fin 64) : Fin 64 := if h : k.val < 32 then ⟨k.val + 32, by omega⟩ else ⟨k.val - 32, by omega⟩

/-- The sine table's entry of a column. -/
def sgn (s : Fin 32 → ℝ) (k : Fin 64) : ℝ := if h : k.val < 32 then -s ⟨k.val, h⟩ else s ⟨k.val - 32, by omega⟩

/-- The cosine table's entry of a column. -/
def dbl (c : Fin 32 → ℝ) (k : Fin 64) : ℝ := if h : k.val < 32 then c ⟨k.val, h⟩ else c ⟨k.val - 32, by omega⟩

theorem rot_eq (z : Fin 64 → ℝ) (c s : Fin 32 → ℝ) (k : Fin 64) : z k * dbl c k + z (half k) * sgn s (half k) = rot z c s k := by
  unfold dbl sgn rot half
  have hk := k.isLt
  by_cases h : k.val < 32
  · have e : ¬ (k.val + 32 < 32) := by omega
    have e' : (⟨k.val + 32 - 32, by omega⟩ : Fin 32) = ⟨k.val, h⟩ := Fin.ext (Nat.add_sub_cancel _ _)
    simp only [h, ↓reduceDIte, e, e']
    rw [add_comm]
  · have e : k.val - 32 < 32 := by omega
    simp only [h, ↓reduceDIte, e]
    ring

/-- One on a head's own columns. -/
def same {n : ℕ} (h' h : Fin n) : ℝ := if h' = h then 1 else 0

/-- One on the exchanged column of a head. -/
def swapped {n : ℕ} (h' : Fin n) (k' : Fin 64) (h : Fin n) (k : Fin 64) : ℝ := if h' = h ∧ k' = half k then 1 else 0

theorem sum_same {n : ℕ} (f : Fin n → Fin 64 → ℝ) (h : Fin n) : ∑ h', ∑ k', f h' k' * same h' h = ∑ k', f h k' := by
  rw [Finset.sum_eq_single h]
  · simp [same]
  · intro b _ hb
    simp [same, hb]
  · exact fun q => absurd (Finset.mem_univ _) q

theorem sum_swapped {n : ℕ} (f : Fin n → Fin 64 → ℝ) (h : Fin n) (k : Fin 64) : ∑ h', ∑ k', f h' k' * swapped h' k' h k = f h (half k) := by
  rw [Finset.sum_eq_single h, Finset.sum_eq_single (half k)]
  · simp [swapped]
  · intro b _ hb
    simp [swapped, hb]
  · exact fun q => absurd (Finset.mem_univ _) q
  · intro b _ hb
    simp [swapped, hb]
  · exact fun q => absurd (Finset.mem_univ _) q

/-- A column of the queries' array. -/
abbrev cq (h : Fin 8) (k : Fin 64) : Fin 512 := ⟨h.val * 64 + k.val, by omega⟩

/-- A key's column among the keys' and values'. -/
abbrev ckv (h : Fin 2) (k : Fin 64) : Fin 256 := ⟨h.val * 64 + k.val, by omega⟩

/-- A column of the keys' array. -/
abbrev ck (h : Fin 2) (k : Fin 64) : Fin 128 := ⟨h.val * 64 + k.val, by omega⟩

theorem ofBits_inv64 : Ideal.ofBits .f32 0x3C800000#32 = ((1 / 64 : ℝ) : EReal) := by
  simp [Ideal.ofBits, Ideal.ieee, -EReal.coe_mul]; norm_num
theorem ofBits_64 : Ideal.ofBits .f32 0x42800000#32 = ((64 : ℝ) : EReal) := by
  simp [Ideal.ofBits, Ideal.ieee, -EReal.coe_mul]; norm_num

theorem ms_inv (x : Fin 64 → ℝ) : (∑ k, x k * x k) * (1 / 64) + eps = ms 64 x := by unfold ms; ring

/-- Four copies of a table of two heads, read at a column. -/
theorem tiled (f : Fin 128 → EReal) (d : Fin 64 → ℝ) (hf : ∀ h k, f (ck h k) = ((d k : ℝ) : EReal)) (h : Fin 8) (k : Fin 64) :
    (if h1 : h.val * 64 + k.val < 128 then f ⟨h.val * 64 + k.val, h1⟩
      else if h2 : h.val * 64 + k.val - 128 < 128 then f ⟨h.val * 64 + k.val - 128, h2⟩
      else if h3 : h.val * 64 + k.val - 128 - 128 < 128 then f ⟨h.val * 64 + k.val - 128 - 128, h3⟩
      else f ⟨h.val * 64 + k.val - 128 - 128 - 128, by omega⟩) = ((d k : ℝ) : EReal) := by
  have key : ∀ i : Fin 128, i.val % 64 = k.val → f i = ((d k : ℝ) : EReal) := fun i hi => by
    rw [← hf ⟨i.val / 64, by omega⟩ k]
    exact congrArg f (Fin.ext (by show i.val = i.val / 64 * 64 + k.val; omega))
  split_ifs
  · exact key _ (by show (h.val * 64 + k.val) % 64 = k.val; omega)
  · exact key _ (by show (h.val * 64 + k.val - 128) % 64 = k.val; omega)
  · exact key _ (by show (h.val * 64 + k.val - 128 - 128) % 64 = k.val; omega)
  · exact key _ (by show (h.val * 64 + k.val - 128 - 128 - 128) % 64 = k.val; omega)

/-- A row of the result: the queries' columns, the keys', the values'. -/
def outRow (q : Fin 8 → Fin 64 → ℝ) (k : Fin 2 → Fin 64 → ℝ) (v : Fin 128 → ℝ) (l : Fin 768) : ℝ :=
  if _h : l.val < 512 then q ⟨l.val / 64, by omega⟩ ⟨l.val % 64, by omega⟩
  else if _h : l.val - 512 < 128 then k ⟨(l.val - 512) / 64, by omega⟩ ⟨(l.val - 512) % 64, by omega⟩
  else v ⟨l.val - 512 - 128, by omega⟩

theorem out_cases (a : Fin 512 → EReal) (b d : Fin 128 → EReal) (q : Fin 8 → Fin 64 → ℝ) (k : Fin 2 → Fin 64 → ℝ) (v : Fin 128 → ℝ)
    (ha : ∀ h e, a (cq h e) = ((q h e : ℝ) : EReal)) (hb : ∀ h e, b (ck h e) = ((k h e : ℝ) : EReal)) (hd : ∀ e, d e = ((v e : ℝ) : EReal)) (l : Fin 768) :
    (if h : l.val < 512 then a ⟨l.val, h⟩ else if h' : l.val - 512 < 128 then b ⟨l.val - 512, h'⟩ else d ⟨l.val - 512 - 128, by omega⟩)
      = ((outRow q k v l : ℝ) : EReal) := by
  unfold outRow
  split_ifs with h h'
  · rw [← ha]
    exact congrArg a (Fin.ext (by show l.val = l.val / 64 * 64 + l.val % 64; omega))
  · rw [← hb]
    exact congrArg b (Fin.ext (by show l.val - 512 = (l.val - 512) / 64 * 64 + (l.val - 512) % 64; omega))
  · exact hd _

/-! ## The tile's arithmetic -/

section Tile
variable (bs sw : Vec Ideal S512x512 .bf16) (hbs : ∀ h' k' h k, bs (ix2 (cq h' k') (cq h k)) = ((same h' h : ℝ) : EReal))
  (hsw : ∀ h' k' h k, sw (ix2 (cq h' k') (cq h k)) = ((swapped h' k' h k : ℝ) : EReal))
  (c s : Vec Ideal S512x128 .f32) (C S : Fin 512 → Fin 32 → ℝ)
  (hc : ∀ r h k, c (ix2 r (ck h k)) = ((dbl (C r) k : ℝ) : EReal)) (hs : ∀ r h k, s (ix2 r (ck h k)) = ((sgn (S r) k : ℝ) : EReal))

section Q
variable (x : Vec Ideal S512x512 .f32) (X : Fin 512 → Fin 8 → Fin 64 → ℝ) (hx : ∀ r h k, x (ix2 r (cq h k)) = ((X r h k : ℝ) : EReal))
  (g : Vec Ideal S1x512 .f32) (G : Fin 8 → Fin 64 → ℝ) (hg : ∀ h k, g (ix2 0 (cq h k)) = ((G h k : ℝ) : EReal))
  (z : Vec Ideal S512x512 .f32) (Z : Fin 512 → Fin 8 → Fin 64 → ℝ) (hz : ∀ r h k, z (ix2 r (cq h k)) = ((Z r h k : ℝ) : EReal))

include hbs hx in
theorem rq_at (r : Fin 512) (h : Fin 8) (k : Fin 64) : k0_pay9 bs x (ix2 r (cq h k)) = ((rn 64 (X r h) : ℝ) : EReal) := by
  pointwise [k0_pay9, k0_pay6]
  simp only [Fin.sum_univ_tiles 8 64 rfl]
  simp only [hx, hbs, ofBits_inv64, ofBits_eps, ← EReal.coe_mul, ← EReal.coe_sub, ← EReal.coe_add, sum_coe, sub_self, zero_mul, Finset.sum_const_zero, add_zero]
  rw [sum_same (fun a b => X r a b * X r a b), ms_inv, rsqrt_ms (by norm_num)]

include hc hz in
theorem zc_at (r : Fin 512) (h : Fin 8) (k : Fin 64) : k0_pay10 c z (ix2 r (cq h k)) = ((Z r h k * (1 / 8) * dbl (C r) k : ℝ) : EReal) := by
  pointwise [k0_pay10, k0_pay8, k0_pay4]
  rw [tiled (fun i => c (ix2 r i)) (dbl (C r)) (hc r), hz, ofBits_eighth, ← EReal.coe_mul, ← EReal.coe_mul]

include hs hz in
theorem zs_at (r : Fin 512) (h : Fin 8) (k : Fin 64) : k0_pay11 s z (ix2 r (cq h k)) = ((Z r h k * (1 / 8) * sgn (S r) k : ℝ) : EReal) := by
  pointwise [k0_pay11, k0_pay8, k0_pay5]
  rw [tiled (fun i => s (ix2 r i)) (sgn (S r)) (hs r), hz, ofBits_eighth, ← EReal.coe_mul, ← EReal.coe_mul]

include hsw hc hs hz in
/-- The gradient of the head norm's output. -/
theorem yq_at (r : Fin 512) (h : Fin 8) (k : Fin 64) :
    k0_pay14 (k0_pay7 sw) (k0_pay10 c z) (k0_pay12 s z) (k0_pay13 s z) (ix2 r (cq h k)) = ((rot (fun q => Z r h q * (1 / 8)) (C r) (S r) k : ℝ) : EReal) := by
  pointwise [k0_pay14, k0_pay12, k0_pay13, k0_pay7]
  simp only [Fin.sum_univ_tiles 8 64 rfl]
  simp only [hsw, zc_at c C hc z Z hz, zs_at s S hs z Z hz, ← EReal.coe_mul, ← EReal.coe_sub, ← EReal.coe_add, sum_coe, sub_self, zero_mul, Finset.sum_const_zero, add_zero]
  rw [sum_swapped (fun a b => Z r a b * (1 / 8) * sgn (S r) b)]
  exact congrArg _ (rot_eq (fun q => Z r h q * (1 / 8)) (C r) (S r) k)

include hbs hsw hc hs hx hg hz in
/-- The gradient of the head norm's input. -/
theorem dxq_at (r : Fin 512) (h : Fin 8) (k : Fin 64) :
    k0_pay15 (k0_pay6 bs) (k0_pay7 sw) x g (k0_pay9 bs x) (k0_pay10 c z) (k0_pay12 s z) (k0_pay13 s z) (ix2 r (cq h k))
      = ((hdx (X r h) (G h) (rot (fun q => Z r h q * (1 / 8)) (C r) (S r)) k : ℝ) : EReal) := by
  pointwise [k0_pay15, k0_pay6]
  simp only [Fin.sum_univ_tiles 8 64 rfl]
  simp only [hx, hg, hbs, yq_at sw hsw c s C S hc hs z Z hz, rq_at bs hbs x X hx, ofBits_inv64, ← EReal.coe_mul, ← EReal.coe_sub, ← EReal.coe_add, sum_coe, sub_self, zero_mul, Finset.sum_const_zero, add_zero]
  rw [sum_same (fun a b => rot (fun q => Z r a q * (1 / 8)) (C r) (S r) b * G a b * X r a b)]
  unfold hdx
  congr 3
  ring

include hbs hsw hc hs hx hz in
/-- The tile's share of the gain's gradient. -/
theorem dgq_at (h : Fin 8) (k : Fin 64) (a : Vec Ideal S1x512 .f32) :
    k0_pay26 (k0_pay16 (k0_pay7 sw) x (k0_pay9 bs x) (k0_pay10 c z) (k0_pay12 s z) (k0_pay13 s z)) a (ix2 0 (cq h k))
      = a (ix2 0 (cq h k)) + ((∑ r, hdg (X r h) (rot (fun q => Z r h q * (1 / 8)) (C r) (S r)) k : ℝ) : EReal) := by
  pointwise [k0_pay26, k0_pay16]
  simp only [hx, yq_at sw hsw c s C S hc hs z Z hz, rq_at bs hbs x X hx, ← EReal.coe_mul, sum_coe]
  rfl

end Q

section K
variable (w : Vec Ideal S512x256 .f32) (X : Fin 512 → Fin 2 → Fin 64 → ℝ) (hw : ∀ r h k, w (ix2 r (ckv h k)) = ((X r h k : ℝ) : EReal))
  (g : Vec Ideal S1x128 .f32) (G : Fin 2 → Fin 64 → ℝ) (hg : ∀ h k, g (ix2 0 (ck h k)) = ((G h k : ℝ) : EReal))
  (z : Vec Ideal S512x128 .f32) (Z : Fin 512 → Fin 2 → Fin 64 → ℝ) (hz : ∀ r h k, z (ix2 r (ck h k)) = ((Z r h k : ℝ) : EReal))

include hw in
theorem xk_at (r : Fin 512) (h : Fin 2) (k : Fin 64) : k0_pay17 w (ix2 r (ck h k)) = ((X r h k : ℝ) : EReal) := by
  rw [← hw]
  pointwise [k0_pay17]
  try rfl

include hbs in
theorem bsk_at (h' : Fin 2) (k' : Fin 64) (h : Fin 2) (k : Fin 64) : k0_pay18 (k0_pay6 bs) (ix2 (ck h' k') (ck h k)) = ((same h' h : ℝ) : EReal) := by
  have e : same h' h = same (⟨h'.val, by omega⟩ : Fin 8) ⟨h.val, by omega⟩ := by simp [same, Fin.ext_iff]
  rw [e, ← hbs _ k' _ k]
  pointwise [k0_pay18, k0_pay6]
  try rfl

include hsw in
theorem swk_at (h' : Fin 2) (k' : Fin 64) (h : Fin 2) (k : Fin 64) : k0_pay19 (k0_pay7 sw) (ix2 (ck h' k') (ck h k)) = ((swapped h' k' h k : ℝ) : EReal) := by
  have e : swapped h' k' h k = swapped (⟨h'.val, by omega⟩ : Fin 8) k' ⟨h.val, by omega⟩ k := by simp [swapped, Fin.ext_iff]
  rw [e, ← hsw]
  pointwise [k0_pay19, k0_pay7]
  try rfl

include hbs hw in
theorem rk_at (r : Fin 512) (h : Fin 2) (k : Fin 64) : k0_pay22 (k0_pay20 (k0_pay6 bs) w) k0_pay21 (ix2 r (ck h k)) = ((rn 64 (X r h) : ℝ) : EReal) := by
  pointwise [k0_pay22, k0_pay21, k0_pay20]
  simp only [Fin.sum_univ_tiles 2 64 rfl]
  simp only [xk_at w X hw, bsk_at bs hbs, ofBits_inv64, ofBits_eps, ← EReal.coe_mul, ← EReal.coe_sub, ← EReal.coe_add, sum_coe, sub_self, zero_mul, Finset.sum_const_zero, add_zero]
  rw [sum_same (fun a b => X r a b * X r a b), ms_inv, rsqrt_ms (by norm_num)]

include hsw hc hs hz in
theorem yk_at (r : Fin 512) (h : Fin 2) (k : Fin 64) :
    k0_pay23 (k0_pay4 c) (k0_pay5 s) z (k0_pay19 (k0_pay7 sw)) (ix2 r (ck h k)) = ((rot (Z r h) (C r) (S r) k : ℝ) : EReal) := by
  pointwise [k0_pay23, k0_pay4, k0_pay5]
  simp only [Fin.sum_univ_tiles 2 64 rfl]
  simp only [swk_at sw hsw, hc, hs, hz, ← EReal.coe_mul, ← EReal.coe_sub, ← EReal.coe_add, sum_coe, sub_self, zero_mul, Finset.sum_const_zero, add_zero]
  rw [sum_swapped (fun a b => Z r a b * sgn (S r) b)]
  exact congrArg _ (rot_eq (Z r h) (C r) (S r) k)

include hbs hsw hc hs hw hz in
theorem dgk_at (h : Fin 2) (k : Fin 64) (a : Vec Ideal S1x128 .f32) :
    k0_pay1 (k0_pay24 (k0_pay4 c) (k0_pay5 s) z (k0_pay17 w) (k0_pay19 (k0_pay7 sw)) (k0_pay20 (k0_pay6 bs) w) k0_pay21) a (ix2 0 (ck h k))
      = a (ix2 0 (ck h k)) + ((∑ r, hdg (X r h) (rot (Z r h) (C r) (S r)) k : ℝ) : EReal) := by
  pointwise [k0_pay1, k0_pay24]
  simp only [xk_at w X hw, yk_at sw hsw c s C S hc hs z Z hz, rk_at bs hbs w X hw, ← EReal.coe_mul, sum_coe]
  rfl

/-- The gradient of a head norm's input as the tile writes it, at a column. -/
def dxTile (y x g ri : Fin 128 → EReal) (b : Fin 128 → Fin 128 → EReal) (i : Fin 128) : EReal :=
  ri i * (y i * g i) - x i * (ri i * ri i * ri i) * ((∑ q, y q * g q * x q * b q i + ∑ q, (y q * g q * x q - y q * g q * x q) * b q i) * Ideal.ofBits FTy.f32 1015021568#32)

/-- The keys' columns of the result's tile. -/
abbrev keysTile (c s : Vec Ideal S512x128 .f32) (bs sw : Vec Ideal S512x512 .bf16) (w : Vec Ideal S512x256 .f32) (g : Vec Ideal S1x128 .f32) (z : Vec Ideal S512x128 .f32)
    (r : Fin 512) : Fin 128 → EReal :=
  dxTile (fun i => k0_pay23 (k0_pay4 c) (k0_pay5 s) z (k0_pay19 (k0_pay7 sw)) (ix2 r i)) (fun i => k0_pay17 w (ix2 r i)) (fun i => g (ix2 0 i))
    (fun i => k0_pay22 (k0_pay20 (k0_pay6 bs) w) k0_pay21 (ix2 r i)) (fun q i => k0_pay18 (k0_pay6 bs) (ix2 q i))

include hbs hsw hc hs hw hg hz in
/-- The gradient of the keys' head norm's input. -/
theorem dxk_at (r : Fin 512) (h : Fin 2) (k : Fin 64) :
    keysTile c s bs sw w g z r (ck h k) = ((hdx (X r h) (G h) (rot (Z r h) (C r) (S r)) k : ℝ) : EReal) := by
  unfold keysTile dxTile
  simp only [Fin.sum_univ_tiles 2 64 rfl]
  simp only [xk_at w X hw, hg, bsk_at bs hbs, yk_at sw hsw c s C S hc hs z Z hz, rk_at bs hbs w X hw, ofBits_inv64, ← EReal.coe_mul, ← EReal.coe_sub, ← EReal.coe_add, sum_coe, sub_self, zero_mul, Finset.sum_const_zero, add_zero]
  rw [sum_same (fun a b => rot (Z r a) (C r) (S r) b * G a b * X r a b)]
  unfold hdx
  congr 3
  ring

include hbs hsw hc hs hw hg hz in
/-- The tile of the result: the queries' columns, then the keys', then the values' as they came. -/
theorem dp_at (u : FVec Ideal S512x512 .f32) (U : Fin 512 → Fin 8 → Fin 64 → ℝ) (hu : ∀ r h k, u (ix2 r (cq h k)) = ((U r h k : ℝ) : EReal))
    (v : Vec Ideal S512x128 .f32) (W : Fin 512 → Fin 128 → ℝ) (hv : ∀ r l, v (ix2 r l) = ((W r l : ℝ) : EReal)) (r : Fin 512) (l : Fin 768) :
    k0_pay25 (k0_pay4 c) (k0_pay5 s) u z (k0_pay17 w) g (k0_pay18 (k0_pay6 bs)) (k0_pay19 (k0_pay7 sw)) (k0_pay20 (k0_pay6 bs) w) k0_pay21 v (ix2 r l)
      = ((outRow (U r) (fun h => hdx (X r h) (G h) (rot (Z r h) (C r) (S r))) (W r) l : ℝ) : EReal) := by
  have key := out_cases (fun i => u (ix2 r i)) (keysTile c s bs sw w g z r) _ (U r) (fun h => hdx (X r h) (G h) (rot (Z r h) (C r) (S r))) (W r) (hu r) (dxk_at bs sw hbs hsw c s C S hc hs w X hw g G hg z Z hz r) (hv r) l
  refine Eq.trans ?_ key
  pointwise [k0_pay25]
  rfl

end K
end Tile
end Cert.Qk
end
-- ==== Proof.Word.lean ====
/-
  Words of 0/1 matrices built by comparisons.
-/
module

public import Idealize.ShloMosaic.Lib.Pipeline.ValueKit

@[expose] public section

noncomputable section

namespace Cert.RealNum

open Idealize.ShloMosaic

/-- Small words are equal where their numbers are. -/
theorem pick (a b : ℕ) (ha : a < 4096) (hb : b < 4096) :
    Scalar.select (IntOp.cmpi .eq (BitVec.ofNat 32 a) (BitVec.ofNat 32 b)) (1 : EReal) 0 = ((if a = b then 1 else 0 : ℝ) : EReal) := by
  by_cases h : a = b
  · subst h
    simp [Scalar.select, IntOp.cmpi]
  · have q : ¬ (BitVec.ofNat 32 a = BitVec.ofNat 32 b) := fun e => h (by
      have e' := congrArg BitVec.toNat e
      rw [BitVec.toNat_ofNat, BitVec.toNat_ofNat, Nat.mod_eq_of_lt (by omega), Nat.mod_eq_of_lt (by omega)] at e'
      exact e')
    simp [Scalar.select, IntOp.cmpi, h, beq_eq_false_iff_ne.mpr q]

end Cert.RealNum
end
-- ==== Proof.QkTable.lean ====
/-
  The host's arrays of the head norms' and rotary embedding's backward call, entry by entry: the angles, the cosine and sine
  tables doubled for a lane tile, the gains repeated for each head, and the two 0/1 matrices.
-/
module

public import proofs.«01_k».proof.Proof.QkPay
public import proofs.«01_k».proof.Proof.Word
public import Idealize.ShloMosaic.Lib.Pipeline.ValueKit

@[expose] public section

set_option maxRecDepth 16384

noncomputable section

namespace Cert.Qk

open Idealize.ShloMosaic Cert.RealNum Cert.QkKernelIdeal Cert.QkKernelIdeal.Gen

/-! ## The angles -/

/-- The frequencies. -/
def invT : FVec Ideal S16 .f32 :=
  Host.powf (broadcastInDim S16 ![] bcast_S_S16 (constant S_ .f32 0x461C4000#32)) (Host.divf (Host.negf (sitofp .f32 (iotaInDim S16 32 0))) (broadcastInDim S16 ![] bcast_S_S16 (constant S_ .f32 0x41800000#32)))

def rowT : FVec Ideal S4096 .f32 := shapeCast _ (broadcastInDim S64x64 ![0] bcast_S64_S64x64_0 (sitofp .f32 (iotaInDim S64 32 0) : FVec Ideal S64 .f32)) shapeCasts_S64x64_S4096
def colT : FVec Ideal S4096 .f32 :=
  shapeCast _ (broadcastInDim S64x64 ![0, 1] bcast_S1x64_S64x64_0_1 (shapeCast _ (sitofp .f32 (iotaInDim S64 32 0) : FVec Ideal S64 .f32) shapeCasts_S64_S1x64)) shapeCasts_S64x64_S4096

/-- A coordinate times the frequencies. -/
def byInv (v : FVec Ideal S4096 .f32) : FVec Ideal S4096x16 .f32 :=
  mulf (broadcastInDim S4096x16 ![0, 1] bcast_S4096x1_S4096x16_0_1 (broadcastInDim S4096x1 ![0] bcast_S4096_S4096x1_0 v))
    (broadcastInDim S4096x16 ![0, 1] bcast_S1x16_S4096x16_0_1 (broadcastInDim S1x16 ![1] bcast_S16_S1x16_1 invT))

def angT : FVec Ideal S4096x32 .f32 := concatenate S4096x32 1 [⟨S4096x16, byInv rowT⟩, ⟨S4096x16, byInv colT⟩] concatenates_S4096x16_S4096x16_S4096x32_d1

theorem ofBits_16 : Ideal.ofBits .f32 0x41800000#32 = ((16 : ℝ) : EReal) := by
  simp [Ideal.ofBits, Ideal.ieee, -EReal.coe_mul]; norm_num
theorem ofBits_10000 : Ideal.ofBits .f32 0x461C4000#32 = ((10000 : ℝ) : EReal) := by
  simp [Ideal.ofBits, Ideal.ieee, -EReal.coe_mul]; norm_num

theorem inv_real (k : Fin 16) : ∃ a : ℝ, invT (ix1 k) = (a : EReal) := by
  pointwise [invT]
  have e : (FloatOps.sitofp FTy.f32 (BitVec.ofNat 32 k.val) : Ideal .f32) = (((BitVec.ofNat 32 k.val).toInt : ℝ) : EReal) := rfl
  rw [e, ofBits_16, ofBits_10000, ← EReal.coe_neg, div_ne (by norm_num), Ideal.pow_coe_coe]
  exact ⟨_, rfl⟩

theorem row_real (r : Fin 4096) : ∃ a : ℝ, rowT (ix1 r) = (a : EReal) := by
  pointwise [rowT]
  exact ⟨_, rfl⟩

theorem col_real (r : Fin 4096) : ∃ a : ℝ, colT (ix1 r) = (a : EReal) := by
  pointwise [colT]
  exact ⟨_, rfl⟩

theorem byInv_real (v : FVec Ideal S4096 .f32) (hv : ∀ r, ∃ a : ℝ, v (ix1 r) = (a : EReal)) (r : Fin 4096) (k : Fin 16) : ∃ a : ℝ, byInv v (ix2 r k) = (a : EReal) := by
  obtain ⟨a, ha⟩ := hv r
  obtain ⟨b, hb⟩ := inv_real k
  refine ⟨a * b, ?_⟩
  pointwise [byInv]
  rw [ha, hb, EReal.coe_mul]

theorem cat_real (x y : FVec Ideal S4096x16 .f32) (hx : ∀ r k, ∃ a : ℝ, x (ix2 r k) = (a : EReal)) (hy : ∀ r k, ∃ a : ℝ, y (ix2 r k) = (a : EReal)) (r : Fin 4096) (k : Fin 32) :
    ∃ a : ℝ, (concatenate S4096x32 1 [⟨S4096x16, x⟩, ⟨S4096x16, y⟩] concatenates_S4096x16_S4096x16_S4096x32_d1 : FVec Ideal S4096x32 .f32) (ix2 r k) = (a : EReal) := by
  pointwise
  split_ifs
  all_goals first | apply hx | apply hy

theorem ang_real (r : Fin 4096) (k : Fin 32) : ∃ a : ℝ, angT (ix2 r k) = (a : EReal) :=
  cat_real (byInv rowT) (byInv colT) (byInv_real _ row_real) (byInv_real _ col_real) r k

/-- The angle of a row and a frequency. -/
def ang (r : Fin 4096) (k : Fin 32) : ℝ := (ang_real r k).choose
theorem angT_at (r : Fin 4096) (k : Fin 32) : angT (ix2 r k) = ((ang r k : ℝ) : EReal) := (ang_real r k).choose_spec

/-- Its cosine and sine. -/
def cs (r : Fin 4096) (k : Fin 32) : ℝ := Real.cos (ang r k)
def sn (r : Fin 4096) (k : Fin 32) : ℝ := Real.sin (ang r k)

def cosT : FVec Ideal S4096x32 .f32 := Host.cos angT
def sinT : FVec Ideal S4096x32 .f32 := Host.sin angT

theorem cosT_at (r : Fin 4096) (k : Fin 32) : cosT (ix2 r k) = ((cs r k : ℝ) : EReal) := by
  pointwise [cosT]
  rw [angT_at]
  exact Ideal.cos_coe _
theorem sinT_at (r : Fin 4096) (k : Fin 32) : sinT (ix2 r k) = ((sn r k : ℝ) : EReal) := by
  pointwise [sinT]
  rw [angT_at]
  exact Ideal.sin_coe _

/-! ## The tables of a lane tile -/

theorem col_mod (h : ℕ) (k : Fin 64) : (⟨(h * 64 + k.val) % 64, Nat.mod_lt _ (by norm_num)⟩ : Fin 64) = k := Fin.ext (by show (h * 64 + k.val) % 64 = k.val; omega)

theorem head_div {n : ℕ} (h : Fin n) (k : Fin 64) (p : (h.val * 64 + k.val) / 64 < n) : (⟨(h.val * 64 + k.val) / 64, p⟩ : Fin n) = h := Fin.ext (by show (h.val * 64 + k.val) / 64 = h.val; omega)

/-- A table of 64 columns, twice. -/
def twice (x : FVec Ideal S4096x64 .f32) : FVec Ideal S4096x128 .f32 :=
  shapeCast _ (broadcastInDim S1x4096x2x64 ![0, 1, 2, 3] bcast_S1x4096x1x64_S1x4096x2x64_0_1_2_3 (shapeCast _ x shapeCasts_S4096x64_S1x4096x1x64)) shapeCasts_S1x4096x2x64_S4096x128

theorem twice_at (x : FVec Ideal S4096x64 .f32) (r : Fin 4096) (h : Fin 2) (k : Fin 64) : twice x (ix2 r (ck h k)) = x (ix2 r k) := by
  pointwise [twice]
  exact congrArg (fun j => x (ix2 r j)) (col_mod h.val k)

def cos2T : FVec Ideal S4096x128 .f32 := twice (concatenate S4096x64 1 [⟨S4096x32, cosT⟩, ⟨S4096x32, cosT⟩] concatenates_S4096x32_S4096x32_S4096x64_d1)
def sin2T : FVec Ideal S4096x128 .f32 := twice (concatenate S4096x64 1 [⟨S4096x32, Host.negf sinT⟩, ⟨S4096x32, sinT⟩] concatenates_S4096x32_S4096x32_S4096x64_d1)

theorem cos2T_at (r : Fin 4096) (h : Fin 2) (k : Fin 64) : cos2T (ix2 r (ck h k)) = ((dbl (cs r) k : ℝ) : EReal) := by
  unfold cos2T
  rw [twice_at]
  pointwise
  unfold dbl
  split_ifs <;> exact cosT_at _ _

theorem sin2T_at (r : Fin 4096) (h : Fin 2) (k : Fin 64) : sin2T (ix2 r (ck h k)) = ((sgn (sn r) k : ℝ) : EReal) := by
  unfold sin2T
  rw [twice_at]
  pointwise
  unfold sgn
  split_ifs <;> first | exact sinT_at _ _ | rw [sinT_at, EReal.coe_neg]

/-! ## The gains -/

def gqT (g : FVec Ideal S1x64 .f32) : FVec Ideal S1x512 .f32 :=
  shapeCast _ (broadcastInDim S1x1x8x64 ![0, 1, 2, 3] bcast_S1x1x1x64_S1x1x8x64_0_1_2_3 (shapeCast _ g shapeCasts_S1x64_S1x1x1x64)) shapeCasts_S1x1x8x64_S1x512
def gkT (g : FVec Ideal S1x64 .f32) : FVec Ideal S1x128 .f32 :=
  shapeCast _ (broadcastInDim S1x1x2x64 ![0, 1, 2, 3] bcast_S1x1x1x64_S1x1x2x64_0_1_2_3 (shapeCast _ g shapeCasts_S1x64_S1x1x1x64)) shapeCasts_S1x1x2x64_S1x128

theorem gqT_at (g : FVec Ideal S1x64 .f32) (h : Fin 8) (k : Fin 64) : gqT g (ix2 0 (cq h k)) = g (ix2 0 k) := by
  pointwise [gqT]
  exact congrArg (fun j => g (ix2 0 j)) (col_mod h.val k)
theorem gkT_at (g : FVec Ideal S1x64 .f32) (h : Fin 2) (k : Fin 64) : gkT g (ix2 0 (ck h k)) = g (ix2 0 k) := by
  pointwise [gkT]
  exact congrArg (fun j => g (ix2 0 j)) (col_mod h.val k)

/-! ## The 0/1 matrices -/

def wd (w : BitVec 32) : IVec S512x512 32 := broadcastInDim S512x512 ![] bcast_S_S512x512 (constantI S_ 32 w)
def at01 (q : IVec S512x512 1) : FVec Ideal S512x512 .bf16 :=
  truncf .bf16 (select q (broadcastInDim S512x512 ![] bcast_S_S512x512 (constant S_ .f32 0x3F800000#32) : FVec Ideal S512x512 .f32)
    (broadcastInDim S512x512 ![] bcast_S_S512x512 (constant S_ .f32 0x00000000#32))) bitsLt_bf16_f32
def sumT : FVec Ideal S512x512 .bf16 := at01 (cmpi .eq (Host.divsi (iotaInDim S512x512 32 0) (wd 64#32)) (Host.divsi (iotaInDim S512x512 32 1) (wd 64#32)))
def swapT : FVec Ideal S512x512 .bf16 :=
  at01 (cmpi .eq (iotaInDim S512x512 32 1) (select (cmpi .slt (Host.remsi (iotaInDim S512x512 32 0) (wd 64#32)) (wd 32#32))
    (addi (iotaInDim S512x512 32 0) (wd 32#32)) (subi (iotaInDim S512x512 32 0) (wd 32#32))))

theorem head_word : ∀ k : Fin 512, IntOp.divsi .host (BitVec.ofNat 32 k.val) 64#32 = BitVec.ofNat 32 (k.val / 64) := by decide +kernel

theorem swap_word : ∀ k : Fin 512, Scalar.select (IntOp.cmpi .slt (IntOp.remsi .host (BitVec.ofNat 32 k.val) 64#32) 32#32)
    (IntOp.addi (BitVec.ofNat 32 k.val) 32#32) (IntOp.subi (BitVec.ofNat 32 k.val) 32#32)
      = BitVec.ofNat 32 (if k.val % 64 < 32 then k.val + 32 else k.val - 32) := by decide +kernel

theorem sumT_at (h' : Fin 8) (k' : Fin 64) (h : Fin 8) (k : Fin 64) : sumT (ix2 (cq h' k') (cq h k)) = ((same h' h : ℝ) : EReal) := by
  pointwise [sumT, at01, wd]
  rw [head_word (cq h' k'), head_word (cq h k), pick _ _ (by omega) (by omega)]
  have e : ∀ (a : Fin 8) (b : Fin 64), (cq a b).val / 64 = a.val := fun a b => by show (a.val * 64 + b.val) / 64 = a.val; omega
  rw [e, e]
  unfold same
  simp only [Fin.ext_iff]

theorem swap_cases (h' : Fin 8) (k' : Fin 64) (h : Fin 8) (k : Fin 64) :
    (h.val * 64 + k.val = if (h'.val * 64 + k'.val) % 64 < 32 then h'.val * 64 + k'.val + 32 else h'.val * 64 + k'.val - 32) ↔ (h' = h ∧ k' = half k) := by
  rw [Fin.ext_iff, Fin.ext_iff]
  have hh : (half k).val = if k.val < 32 then k.val + 32 else k.val - 32 := by unfold half; split_ifs <;> rfl
  rw [hh]
  split_ifs <;> omega

theorem swapT_at (h' : Fin 8) (k' : Fin 64) (h : Fin 8) (k : Fin 64) : swapT (ix2 (cq h' k') (cq h k)) = ((swapped h' k' h k : ℝ) : EReal) := by
  pointwise [swapT, at01, wd]
  rw [swap_word (cq h' k'), pick _ _ (by omega) (by split_ifs <;> omega)]
  unfold swapped
  simp only [← swap_cases]

/-! ## The results, as arrays over the reals -/

/-- The arguments as real arrays. -/
structure Nums where
  x : Fin 4096 → Fin 768 → ℝ
  gq : Fin 64 → ℝ
  gk : Fin 64 → ℝ
  dq : Fin 4096 → Fin 512 → ℝ
  dk : Fin 4096 → Fin 128 → ℝ
  dv : Fin 4096 → Fin 128 → ℝ

/-- The arrays that hold these numbers. -/
structure Holds (x : FVec Ideal ⟨2, ![4096, 768]⟩ .f32) (gq gk : FVec Ideal ⟨2, ![1, 64]⟩ .f32) (dq : FVec Ideal ⟨2, ![4096, 512]⟩ .f32)
    (dk dv : FVec Ideal ⟨2, ![4096, 128]⟩ .f32) (n : Nums) : Prop where
  x : ∀ r k, x (ix2 r k) = ((n.x r k : ℝ) : EReal)
  gq : ∀ k, gq (ix2 0 k) = ((n.gq k : ℝ) : EReal)
  gk : ∀ k, gk (ix2 0 k) = ((n.gk k : ℝ) : EReal)
  dq : ∀ r k, dq (ix2 r k) = ((n.dq r k : ℝ) : EReal)
  dk : ∀ r k, dk (ix2 r k) = ((n.dk r k : ℝ) : EReal)
  dv : ∀ r k, dv (ix2 r k) = ((n.dv r k : ℝ) : EReal)

namespace Nums
variable (n : Nums) (r : Fin 4096)

/-- A head of a row of the queries and of the keys, and the gradients of its norm's output. -/
def xq (h : Fin 8) (k : Fin 64) : ℝ := n.x r ⟨h.val * 64 + k.val, by omega⟩
def xk (h : Fin 2) (k : Fin 64) : ℝ := n.x r ⟨512 + (h.val * 64 + k.val), by omega⟩
def yq (h : Fin 8) : Fin 64 → ℝ := rot (fun q => n.dq r (cq h q) * (1 / 8)) (cs r) (sn r)
def yk (h : Fin 2) : Fin 64 → ℝ := rot (fun q => n.dk r (ck h q)) (cs r) (sn r)

/-- The gradients of the norms' inputs. -/
def dxq (h : Fin 8) : Fin 64 → ℝ := hdx (n.xq r h) n.gq (n.yq r h)
def dxk (h : Fin 2) : Fin 64 → ℝ := hdx (n.xk r h) n.gk (n.yk r h)

end Nums

def dpArr (n : Nums) : FVec Ideal ⟨2, ![4096, 768]⟩ .bf16 := fun j => ((outRow (n.dxq (j 0)) (n.dxk (j 0)) (n.dv (j 0)) (j 1) : ℝ) : EReal)
def dgqArr (n : Nums) : FVec Ideal ⟨2, ![1, 512]⟩ .f32 := fun j =>
  let l : Fin 512 := j 1
  ((∑ r, hdg (n.xq r ⟨l.val / 64, by omega⟩) (n.yq r ⟨l.val / 64, by omega⟩) ⟨l.val % 64, by omega⟩ : ℝ) : EReal)
def dgkArr (n : Nums) : FVec Ideal ⟨2, ![1, 128]⟩ .f32 := fun j =>
  let l : Fin 128 := j 1
  ((∑ r, hdg (n.xk r ⟨l.val / 64, by omega⟩) (n.yk r ⟨l.val / 64, by omega⟩) ⟨l.val % 64, by omega⟩ : ℝ) : EReal)

theorem dgqArr_at (n : Nums) (h : Fin 8) (k : Fin 64) : dgqArr n (ix2 0 (cq h k)) = ((∑ r, hdg (n.xq r h) (n.yq r h) k : ℝ) : EReal) := by
  show ((∑ r, hdg (n.xq r ⟨(h.val * 64 + k.val) / 64, by omega⟩) (n.yq r ⟨(h.val * 64 + k.val) / 64, by omega⟩) ⟨(h.val * 64 + k.val) % 64, by omega⟩ : ℝ) : EReal) = _
  rw [col_mod h.val k, show (⟨(h.val * 64 + k.val) / 64, by omega⟩ : Fin 8) = h from Fin.ext (by show (h.val * 64 + k.val) / 64 = h.val; omega)]

theorem dgkArr_at (n : Nums) (h : Fin 2) (k : Fin 64) : dgkArr n (ix2 0 (ck h k)) = ((∑ r, hdg (n.xk r h) (n.yk r h) k : ℝ) : EReal) := by
  show ((∑ r, hdg (n.xk r ⟨(h.val * 64 + k.val) / 64, by omega⟩) (n.yk r ⟨(h.val * 64 + k.val) / 64, by omega⟩) ⟨(h.val * 64 + k.val) % 64, by omega⟩ : ℝ) : EReal) = _
  rw [col_mod h.val k, show (⟨(h.val * 64 + k.val) / 64, by omega⟩ : Fin 2) = h from Fin.ext (by show (h.val * 64 + k.val) / 64 = h.val; omega)]

/-- A column of the queries, or of the keys, is a head's. -/
theorem col_q (l : Fin 512) : ∃ h k, l = cq h k := ⟨⟨l.val / 64, by omega⟩, ⟨l.val % 64, by omega⟩, Fin.ext (by show l.val = l.val / 64 * 64 + l.val % 64; omega)⟩
theorem col_k (l : Fin 128) : ∃ h k, l = ck h k := ⟨⟨l.val / 64, by omega⟩, ⟨l.val % 64, by omega⟩, Fin.ext (by show l.val = l.val / 64 * 64 + l.val % 64; omega)⟩

end Cert.Qk
end
-- ==== Proof.MixOutPay.lean ====
/-
  The mixer output's backward call, a block of 512 tokens over the reals: the branches' projections, the gates, and the
  gradients which the call leaves of them, row by row.
-/
module

public import proofs.«01_k».proof.Proof.RealNum
public import proofs.«01_k».proof.Proof.Gen.MixOutKernelIdeal.Skeleton

@[expose] public section

set_option maxRecDepth 16384

noncomputable section

namespace Cert.MixOut

open Idealize.ShloMosaic Idealize.ShloMosaic.TcCoe Idealize.SL.Sem
open Cert.RealNum Cert.MixOutKernelIdeal Cert.MixOutKernelIdeal.Gen

/-! ## The mathematics of a row -/

/-- The logistic function. -/
def sg (x : ℝ) : ℝ := (1 + Real.exp (-x))⁻¹

/-- A branch's projection. -/
def yRow (o : Fin 512 → ℝ) (w : Fin 512 → Fin 1024 → ℝ) (l : Fin 1024) : ℝ := ∑ k, o k * w k l

/-- The gradient of the merged branches. -/
def dmRow (dx : Fin 1024 → ℝ) (wo : Fin 1024 → Fin 1024 → ℝ) (l : Fin 1024) : ℝ := ∑ j, dx j * wo l j

/-- The gated sum of both branches. -/
def mgRow (oa ob : Fin 512 → ℝ) (ga gb : Fin 1024 → ℝ) (wa wb : Fin 512 → Fin 1024 → ℝ) (l : Fin 1024) : ℝ :=
  sg (ga l) * yRow oa wa l + sg (gb l) * yRow ob wb l

/-- The gradient of a gate's logit. -/
def dgRow (dx : Fin 1024 → ℝ) (wo : Fin 1024 → Fin 1024 → ℝ) (o : Fin 512 → ℝ) (w : Fin 512 → Fin 1024 → ℝ) (g : Fin 1024 → ℝ) (l : Fin 1024) : ℝ :=
  dmRow dx wo l * yRow o w l * (sg (g l) * (1 - sg (g l)))

/-- The gradient of a branch's projection. -/
def dyRow (dx : Fin 1024 → ℝ) (wo : Fin 1024 → Fin 1024 → ℝ) (g : Fin 1024 → ℝ) (l : Fin 1024) : ℝ := dmRow dx wo l * sg (g l)

/-- The gradient of a branch's output. -/
def doRow (dy : Fin 1024 → ℝ) (w : Fin 512 → Fin 1024 → ℝ) (k : Fin 512) : ℝ := ∑ l, dy l * w k l

/-- The row with every head in its half of a tile of 128 columns, the other half zero. -/
def wideRow (d : Fin 512 → ℝ) (c : Fin 1024) : ℝ :=
  if c.val % 128 / 64 = c.val / 128 / 4 then d ⟨c.val / 128 * 64 + c.val % 64, by omega⟩ else 0

/-- Each head's inner product of the gradient and the output, in every column of the head's tile. -/
def deltaRow (d o : Fin 512 → ℝ) (c : Fin 1024) : ℝ := ∑ e : Fin 64, d ⟨c.val / 128 * 64 + e.val, by omega⟩ * o ⟨c.val / 128 * 64 + e.val, by omega⟩

/-! ## The 0/1 matrices -/

/-- One where the head's column lands. -/
def placed (k : Fin 512) (c : Fin 1024) : ℝ := if c.val = k.val / 64 * 128 + k.val / 256 * 64 + k.val % 64 then 1 else 0

/-- One on the tile of the column's head. -/
def spread (k : Fin 512) (c : Fin 1024) : ℝ := if c.val / 128 = k.val / 64 then 1 else 0

theorem sum_placed (d : Fin 512 → ℝ) (c : Fin 1024) : ∑ k, d k * placed k c = wideRow d c := by
  unfold wideRow placed
  have hc := c.isLt
  split_ifs with h
  · rw [Finset.sum_eq_single ⟨c.val / 128 * 64 + c.val % 64, by omega⟩]
    · rw [if_pos (by show c.val = (c.val / 128 * 64 + c.val % 64) / 64 * 128 + (c.val / 128 * 64 + c.val % 64) / 256 * 64 + (c.val / 128 * 64 + c.val % 64) % 64; omega), mul_one]
    · intro k _ hk
      rw [if_neg, mul_zero]
      intro e
      exact hk (Fin.ext (by show k.val = c.val / 128 * 64 + c.val % 64; omega))
    · exact fun h => absurd (Finset.mem_univ _) h
  · refine Finset.sum_eq_zero fun k _ => ?_
    rw [if_neg, mul_zero]
    intro e
    have := k.isLt
    have e1 : c.val / 128 = k.val / 64 := by omega
    have e2 : c.val % 128 = k.val / 256 * 64 + k.val % 64 := by omega
    have e3 : c.val % 128 / 64 = k.val / 256 := by omega
    exact h (by omega)

theorem sum_spread (d o : Fin 512 → ℝ) (c : Fin 1024) : ∑ k, d k * o k * spread k c = deltaRow d o c := by
  rw [Fin.sum_univ_tiles 8 64 rfl fun k => d k * o k * spread k c, Finset.sum_eq_single ⟨c.val / 128, by have := c.isLt; omega⟩]
  · refine Finset.sum_congr rfl fun e _ => ?_
    unfold spread
    rw [if_pos (by show c.val / 128 = (c.val / 128 * 64 + e.val) / 64; have := e.isLt; omega), mul_one]
  · intro h _ hh
    refine Finset.sum_eq_zero fun e _ => ?_
    unfold spread
    rw [if_neg, mul_zero]
    intro q
    have q' : c.val / 128 = (h.val * 64 + e.val) / 64 := q
    exact hh (Fin.ext (by show h.val = c.val / 128; have := e.isLt; omega))
  · exact fun h => absurd (Finset.mem_univ _) h

/-! ## The products over the weights' four blocks of columns -/

/-- Column `n` of block `j`. -/
abbrev bcol (j : Fin 4) (n : Fin 256) : Fin 1024 := ⟨j.val * 256 + n.val, by omega⟩

theorem sum_blocks (f : Fin 1024 → ℝ) : ∑ n, f (bcol 0 n) + ∑ n, f (bcol 1 n) + ∑ n, f (bcol 2 n) + ∑ n, f (bcol 3 n) = ∑ l, f l := by
  rw [Fin.sum_univ_tiles 4 256 rfl f, Fin.sum_univ_four]

section Proj
variable (w0 w1 w2 w3 : Vec Ideal S1x512x256 .bf16) (W : Fin 512 → Fin 1024 → ℝ)
  (h0 : ∀ k n, w0 (ix3 0 k n) = ((W k (bcol 0 n) : ℝ) : EReal)) (h1 : ∀ k n, w1 (ix3 0 k n) = ((W k (bcol 1 n) : ℝ) : EReal))
  (h2 : ∀ k n, w2 (ix3 0 k n) = ((W k (bcol 2 n) : ℝ) : EReal)) (h3 : ∀ k n, w3 (ix3 0 k n) = ((W k (bcol 3 n) : ℝ) : EReal))
include h0 h1 h2 h3

/-- The first branch's projection. -/
theorem ya_at (o : Vec Ideal S512x512 .f32) (O : Fin 512 → Fin 512 → ℝ) (ho : ∀ r k, o (ix2 r k) = ((O r k : ℝ) : EReal)) (r : Fin 512) (l : Fin 1024) :
    k0_pay2 o w0 w1 w2 w3 (ix2 r l) = ((yRow (O r) W l : ℝ) : EReal) := by
  pointwise [k0_pay2]
  simp only [ho, h0, h1, h2, h3, ← EReal.coe_mul, sum_coe]
  split_ifs <;> refine congrArg _ (Finset.sum_congr rfl fun k _ => congrArg (fun q => O r k * W k q) (Fin.ext ?_)) <;> simp <;> omega

/-- The second branch's projection. -/
theorem yb_at (o : Vec Ideal S512x512 .bf16) (O : Fin 512 → Fin 512 → ℝ) (ho : ∀ r k, o (ix2 r k) = ((O r k : ℝ) : EReal)) (r : Fin 512) (l : Fin 1024) :
    k0_pay7 (k0_pay3 o) (k0_pay4 o w0) (k0_pay5 o w1) (k0_pay6 o w2) w3 (ix2 r l) = ((yRow (O r) W l : ℝ) : EReal) := by
  pointwise [k0_pay7, k0_pay3, k0_pay4, k0_pay5, k0_pay6]
  simp only [ho, h0, h1, h2, h3, ← EReal.coe_mul, sum_coe]
  split_ifs <;> refine congrArg _ (Finset.sum_congr rfl fun k _ => congrArg (fun q => O r k * W k q) (Fin.ext ?_)) <;> simp <;> omega

variable (dy : FVec Ideal S512x1024 .f32) (Y : Fin 512 → Fin 1024 → ℝ) (hy : ∀ r l, dy (ix2 r l) = ((Y r l : ℝ) : EReal))
include hy

theorem dy_col (j : Fin 4) (n : Fin 256) (r : Fin 512) (q : Fin 1024) (e : q.val = j.val * 256 + n.val) : dy (ix2 r q) = ((Y r (bcol j n) : ℝ) : EReal) := by
  rw [hy, show q = bcol j n from Fin.ext e]

/-- The gradient of the first branch's output. -/
theorem doa_at (r : Fin 512) (k : Fin 512) :
    k0_pay20 dy (k0_pay17 dy w0 w1) (k0_pay19 dy w2) w3 (ix2 r k) = ((doRow (Y r) W k : ℝ) : EReal) := by
  pointwise [k0_pay20, k0_pay17, k0_pay19]
  have c := dy_col w0 w1 w2 w3 W h0 h1 h2 h3 dy Y hy
  simp only [h0, h1, h2, h3, fun n : Fin 256 => c 0 n r ⟨n.val, by omega⟩ (by simp), fun n : Fin 256 => c 1 n r ⟨256 + n.val, by omega⟩ (by simp),
    fun n : Fin 256 => c 2 n r ⟨512 + n.val, by omega⟩ (by simp), fun n : Fin 256 => c 3 n r ⟨768 + n.val, by omega⟩ (by simp),
    ← EReal.coe_mul, sum_coe, ← EReal.coe_add]
  exact congrArg _ (sum_blocks fun l => Y r l * W k l)

/-- The gradient of the second branch's output. -/
theorem dob_at (r : Fin 512) (k : Fin 512) :
    k0_pay21 dy (k0_pay18 dy w0 w1) w2 w3 (ix2 r k) = ((doRow (Y r) W k : ℝ) : EReal) := by
  pointwise [k0_pay21, k0_pay18]
  have c := dy_col w0 w1 w2 w3 W h0 h1 h2 h3 dy Y hy
  simp only [h0, h1, h2, h3, fun n : Fin 256 => c 0 n r ⟨n.val, by omega⟩ (by simp), fun n : Fin 256 => c 1 n r ⟨256 + n.val, by omega⟩ (by simp),
    fun n : Fin 256 => c 2 n r ⟨512 + n.val, by omega⟩ (by simp), fun n : Fin 256 => c 3 n r ⟨768 + n.val, by omega⟩ (by simp),
    ← EReal.coe_mul, sum_coe, ← EReal.coe_add]
  exact congrArg _ (sum_blocks fun l => Y r l * W k l)

/-- Every head in its half of a tile. -/
theorem doe_at (e : Vec Ideal S512x1024 .bf16) (he : ∀ k c, e (ix2 k c) = ((placed k c : ℝ) : EReal)) (r : Fin 512) (l : Fin 1024) :
    k0_pay22 dy (k0_pay17 dy w0 w1) (k0_pay19 dy w2) w3 e (ix2 r l) = ((wideRow (doRow (Y r) W) l : ℝ) : EReal) := by
  pointwise [k0_pay22]
  simp only [he, doa_at w0 w1 w2 w3 W h0 h1 h2 h3 dy Y hy, ← EReal.coe_mul, sum_coe]
  exact congrArg _ (sum_placed _ _)

/-- Each head's inner product, from the product's two parts: the second is zero. -/
theorem delta_at (o : Vec Ideal S512x512 .f32) (O : Fin 512 → Fin 512 → ℝ) (ho : ∀ r k, o (ix2 r k) = ((O r k : ℝ) : EReal))
    (e : Vec Ideal S512x1024 .bf16) (he : ∀ k c, e (ix2 k c) = ((spread k c : ℝ) : EReal)) (r : Fin 512) (l : Fin 1024) :
    k0_pay1 (k0_pay23 o dy (k0_pay17 dy w0 w1) (k0_pay19 dy w2) w3 e) (k0_pay24 o dy (k0_pay17 dy w0 w1) (k0_pay19 dy w2) w3 e) (ix2 r l)
      = ((deltaRow (doRow (Y r) W) (O r) l : ℝ) : EReal) := by
  pointwise [k0_pay1, k0_pay23, k0_pay24]
  simp only [he, ho, doa_at w0 w1 w2 w3 W h0 h1 h2 h3 dy Y hy, ← EReal.coe_mul, ← EReal.coe_sub, ← EReal.coe_add, sum_coe, sub_self, zero_mul, Finset.sum_const_zero, add_zero]
  exact congrArg _ (sum_spread _ _ _)

end Proj

section Gates
variable (dx : Vec Ideal S512x1024 .f32) (wo : Vec Ideal S1024x1024 .bf16) (g : Vec Ideal S512x1024 .bf16)
  (D G : Fin 512 → Fin 1024 → ℝ) (WO : Fin 1024 → Fin 1024 → ℝ)
  (hd : ∀ r l, dx (ix2 r l) = ((D r l : ℝ) : EReal)) (hwo : ∀ k l, wo (ix2 k l) = ((WO k l : ℝ) : EReal)) (hg : ∀ r l, g (ix2 r l) = ((G r l : ℝ) : EReal))

include hg in
theorem sga_at (r : Fin 512) (l : Fin 1024) : k0_pay8 g (ix2 r l) = ((sg (G r l) : ℝ) : EReal) := by
  pointwise [k0_pay8]
  simp only [hg, Ideal.logistic_coe]
  rfl

include hg in
theorem sgb_at (r : Fin 512) (l : Fin 1024) : k0_pay9 g (ix2 r l) = ((sg (G r l) : ℝ) : EReal) := by
  pointwise [k0_pay9]
  simp only [hg, Ideal.logistic_coe]
  rfl

include hd hwo in
theorem dm_at (r : Fin 512) (l : Fin 1024) : k0_pay11 dx wo (ix2 r l) = ((dmRow (D r) WO l : ℝ) : EReal) := by
  pointwise [k0_pay11]
  simp only [hd, hwo, ← EReal.coe_mul, sum_coe]
  rfl

include hd hwo hg in
theorem dya_at (r : Fin 512) (l : Fin 1024) : k0_pay13 g dx wo (ix2 r l) = ((dyRow (D r) WO (G r) l : ℝ) : EReal) := by
  pointwise [k0_pay13]
  simp only [sga_at g G hg, dm_at dx wo D WO hd hwo, ← EReal.coe_mul]
  rfl

include hd hwo hg in
theorem dyb_at (r : Fin 512) (l : Fin 1024) : k0_pay14 g dx wo (ix2 r l) = ((dyRow (D r) WO (G r) l : ℝ) : EReal) := by
  pointwise [k0_pay14]
  simp only [sgb_at g G hg, dm_at dx wo D WO hd hwo, ← EReal.coe_mul]
  rfl

variable (h : Vec Ideal S512x1024 .bf16) (H YA YB : Fin 512 → Fin 1024 → ℝ) (hh : ∀ r l, h (ix2 r l) = ((H r l : ℝ) : EReal))
  (ya : FVec Ideal S512x1024 .f32) (v16 : FVec Ideal S512x512 .bf16) (v19 v22 v25 : FVec Ideal S512x256 .f32) (v26 : Vec Ideal S1x512x256 .bf16)
  (ha : ∀ r l, ya (ix2 r l) = ((YA r l : ℝ) : EReal)) (hb : ∀ r l, k0_pay7 v16 v19 v22 v25 v26 (ix2 r l) = ((YB r l : ℝ) : EReal))

include hg hh ha hb in
theorem mg_at (r : Fin 512) (l : Fin 1024) :
    k0_pay10 ya v16 v19 v22 v25 v26 g h (ix2 r l) = ((sg (G r l) * YA r l + sg (H r l) * YB r l : ℝ) : EReal) := by
  pointwise [k0_pay10]
  simp only [sga_at g G hg, sgb_at h H hh, ha, hb, ← EReal.coe_mul, ← EReal.coe_add]

include hd hwo hg hh ha hb in
/-- The gates' logits: the first branch's in the first 1024 columns. -/
theorem dpg_at (r : Fin 512) (l : Fin 2048) :
    k0_pay12 ya v16 v19 v22 v25 v26 g h dx wo (ix2 r l) = if hl : l.val < 1024
      then ((dmRow (D r) WO ⟨l.val, hl⟩ * YA r ⟨l.val, hl⟩ * (sg (G r ⟨l.val, hl⟩) * (1 - sg (G r ⟨l.val, hl⟩))) : ℝ) : EReal)
      else ((dmRow (D r) WO ⟨l.val - 1024, by omega⟩ * YB r ⟨l.val - 1024, by omega⟩ * (sg (H r ⟨l.val - 1024, by omega⟩) * (1 - sg (H r ⟨l.val - 1024, by omega⟩))) : ℝ) : EReal) := by
  pointwise [k0_pay12]
  simp only [sga_at g G hg, sgb_at h H hh, dm_at dx wo D WO hd hwo, ha, hb, ← EReal.coe_one, ← EReal.coe_mul, ← EReal.coe_add, ← EReal.coe_sub]
  split_ifs <;> refine congrArg _ (by ring)

end Gates
end Cert.MixOut
end
-- ==== Proof.QkFwdPay.lean ====
/-
  The head norms and the rotary embedding, forward: one head of one row over the reals, and the call's arithmetic at a tile.
  A head's 64 columns are the columns `h * 64 + k`.
-/
module

public import proofs.«01_k».proof.Proof.QkTable
public import proofs.«01_k».proof.Proof.MixOutPay
public import proofs.«01_k».proof.Proof.Gen.QkFwdKernelIdeal.Skeleton
public import Idealize.ShloMosaic.Lib.Pipeline.ValueKit

@[expose] public section

set_option maxRecDepth 16384

noncomputable section

namespace Cert.QkFwd

open Idealize.ShloMosaic Cert.RealNum Cert.QkFwdKernelIdeal Cert.QkFwdKernelIdeal.Gen
open Cert.Qk (cq ck ckv half dbl sgn same swapped sum_same sum_swapped tiled ms_inv ofBits_inv64)
open Cert.MixOut (placed sum_placed wideRow)

/-! ## One head of one row -/

/-- A head normed: divided by the root of its mean square (and the small constant), times the gain. -/
def normed (x g : Fin 64 → ℝ) (k : Fin 64) : ℝ := x k * rn 64 x * g k

/-- A head rotated by the angles of cosines `c` and sines `s`: each column with the one of the other half. -/
def spin (y : Fin 64 → ℝ) (c s : Fin 32 → ℝ) (k : Fin 64) : ℝ := y k * dbl c k + y (half k) * sgn s k

/-- All the heads' columns side by side, scaled. -/
def scaled (z : Fin 8 → Fin 64 → ℝ) (l : Fin 512) : ℝ := z ⟨l.val / 64, by omega⟩ ⟨l.val % 64, by omega⟩ * (1 / 8)

/-- A value's column in the other half. -/
abbrev other (l : Fin 128) : Fin 128 := ⟨(l.val + 64) % 128, Nat.mod_lt _ (by norm_num)⟩

/-- One where a column's other half is. -/
def flipped (k l : Fin 128) : ℝ := if l = other k then 1 else 0

theorem sum_flipped (f : Fin 128 → ℝ) (l : Fin 128) : ∑ k, f k * flipped k l = f (other l) := by
  rw [Finset.sum_eq_single (other l)]
  · rw [flipped, if_pos (Fin.ext (by show l.val = ((l.val + 64) % 128 + 64) % 128; omega)), mul_one]
  · intro k _ hk
    rw [flipped, if_neg, mul_zero]
    rintro rfl
    exact hk (Fin.ext (by show k.val = ((k.val + 64) % 128 + 64) % 128; omega))
  · exact fun h => absurd (Finset.mem_univ _) h

/-! ## The tile's arithmetic -/

section Tile
variable (bs sw : Vec Ideal S512x512 .bf16) (hbs : ∀ h' k' h k, bs (ix2 (cq h' k') (cq h k)) = ((same h' h : ℝ) : EReal))
  (hsw : ∀ h' k' h k, sw (ix2 (cq h' k') (cq h k)) = ((swapped h' k' h k : ℝ) : EReal))
  (c s : Vec Ideal S512x128 .f32) (C S : Fin 512 → Fin 32 → ℝ)
  (hc : ∀ r h k, c (ix2 r (ck h k)) = ((dbl (C r) k : ℝ) : EReal)) (hs : ∀ r h k, s (ix2 r (ck h k)) = ((sgn (S r) k : ℝ) : EReal))

section Q
variable (x : Vec Ideal S512x512 .f32) (X : Fin 512 → Fin 8 → Fin 64 → ℝ) (hx : ∀ r h k, x (ix2 r (cq h k)) = ((X r h k : ℝ) : EReal))
  (g : Vec Ideal S1x512 .f32) (G : Fin 64 → ℝ) (hg : ∀ h k, g (ix2 0 (cq h k)) = ((G k : ℝ) : EReal))

include hbs hsw hc hs hx hg in
/-- The queries normed and rotated. -/
theorem zq_at (r : Fin 512) (h : Fin 8) (k : Fin 64) : k0_pay8 c s bs sw x g (ix2 r (cq h k)) = ((spin (normed (X r h) G) (C r) (S r) k : ℝ) : EReal) := by
  pointwise [k0_pay8, k0_pay4, k0_pay5, k0_pay6, k0_pay7]
  rw [tiled (fun i => c (ix2 r i)) (dbl (C r)) (hc r), tiled (fun i => s (ix2 r i)) (sgn (S r)) (hs r)]
  simp only [Fin.sum_univ_tiles 8 64 rfl]
  simp only [hx, hg, hbs, hsw, ofBits_inv64, ofBits_eps, ← EReal.coe_mul, ← EReal.coe_sub, ← EReal.coe_add, sum_coe, sub_self, zero_mul, Finset.sum_const_zero, add_zero,
    fun h => sum_same (fun a b => X r a b * X r a b) h, ms_inv, rsqrt_ms (show (64 : ℝ) > 0 by norm_num)]
  rw [sum_swapped (fun a b => X r a b * rn 64 (X r a) * G b)]
  rfl
end Q

/-- Each head's scaled columns in their half of a tile. -/
theorem qe_at (z : FVec Ideal S512x512 .f32) (Z : Fin 512 → Fin 8 → Fin 64 → ℝ) (hz : ∀ r h k, z (ix2 r (cq h k)) = ((Z r h k : ℝ) : EReal))
    (e : Vec Ideal S512x1024 .bf16) (he : ∀ k l, e (ix2 k l) = ((placed k l : ℝ) : EReal)) (r : Fin 512) (l : Fin 1024) :
    k0_pay9 z (Scalar.ofBits .f32 0x3E000000#32) e (ix2 r l) = ((wideRow (scaled (Z r)) l : ℝ) : EReal) := by
  have hz' : ∀ k : Fin 512, z (ix2 r k) = ((Z r ⟨k.val / 64, by omega⟩ ⟨k.val % 64, by omega⟩ : ℝ) : EReal) := fun k => by
    rw [← hz]
    exact congrArg (fun j => z (ix2 r j)) (Fin.ext (by show k.val = k.val / 64 * 64 + k.val % 64; omega))
  pointwise [k0_pay9]
  simp only [he, hz', ofBits_eighth, ← EReal.coe_mul, sum_coe]
  exact congrArg _ (sum_placed (scaled (Z r)) l)

section K
variable (w : Vec Ideal S512x256 .f32) (X : Fin 512 → Fin 2 → Fin 64 → ℝ) (hw : ∀ r h k, w (ix2 r (ckv h k)) = ((X r h k : ℝ) : EReal))
  (g : Vec Ideal S1x128 .f32) (G : Fin 64 → ℝ) (hg : ∀ h k, g (ix2 0 (ck h k)) = ((G k : ℝ) : EReal))

/-- The keys' corner of a 0/1 matrix. -/
def cut (b : Vec Ideal S512x512 .bf16) : FVec Ideal S128x128 .bf16 := extractStridedSlice S128x128 ![0, 0] b slices_S512x512_o0_0_S128x128

include hbs in
theorem bsk_at (h' : Fin 2) (k' : Fin 64) (h : Fin 2) (k : Fin 64) : cut bs (ix2 (ck h' k') (ck h k)) = ((same h' h : ℝ) : EReal) := by
  have e : same h' h = same (⟨h'.val, by omega⟩ : Fin 8) ⟨h.val, by omega⟩ := by simp [same, Fin.ext_iff]
  rw [e, ← hbs _ k' _ k]
  pointwise [cut]

include hsw in
theorem swk_at (h' : Fin 2) (k' : Fin 64) (h : Fin 2) (k : Fin 64) : cut sw (ix2 (ck h' k') (ck h k)) = ((swapped h' k' h k : ℝ) : EReal) := by
  have e : swapped h' k' h k = swapped (⟨h'.val, by omega⟩ : Fin 8) k' ⟨h.val, by omega⟩ k := by simp [swapped, Fin.ext_iff]
  rw [e, ← hsw]
  pointwise [cut]

/-- The keys' columns of the tile. -/
def keys (w : Vec Ideal S512x256 .f32) : FVec Ideal S512x128 .f32 := extractStridedSlice S512x128 ![0, 0] w slices_S512x256_o0_0_S512x128

include hw in
theorem keys_at (r : Fin 512) (h : Fin 2) (k : Fin 64) : keys w (ix2 r (ck h k)) = ((X r h k : ℝ) : EReal) := by
  rw [← hw]
  pointwise [keys]

/-- A row's norm and rotation as the tile writes them, at a column. -/
def tileRow (x g c s : Fin 128 → EReal) (b p : Fin 128 → Fin 128 → EReal) (i : Fin 128) : EReal :=
  let n := fun l => x l * Ideal.rsqrt ((∑ q, x q * x q * b q l + ∑ q, (x q * x q - x q * x q) * b q l) * Ideal.ofBits .f32 0x3C800000#32 + Ideal.ofBits .f32 0x358637BD#32) * g l
  n i * c i + (∑ q, n q * p q i + ∑ q, (n q - n q) * p q i) * s i

theorem pay10_at (r : Fin 512) (i : Fin 128) : k0_pay10 (k0_pay4 c) (k0_pay5 s) (k0_pay6 bs) (k0_pay7 sw) w g (ix2 r i)
    = tileRow (fun l => keys w (ix2 r l)) (fun l => g (ix2 0 l)) (fun l => c (ix2 r l)) (fun l => s (ix2 r l)) (fun q l => cut bs (ix2 q l)) (fun q l => cut sw (ix2 q l)) i := by
  unfold tileRow
  pointwise [k0_pay10, k0_pay4, k0_pay5, k0_pay6, k0_pay7, keys, cut]

include hbs hsw hc hs hw hg in
/-- The keys normed and rotated. -/
theorem zk_at (r : Fin 512) (h : Fin 2) (k : Fin 64) :
    k0_pay10 (k0_pay4 c) (k0_pay5 s) (k0_pay6 bs) (k0_pay7 sw) w g (ix2 r (ck h k)) = ((spin (normed (X r h) G) (C r) (S r) k : ℝ) : EReal) := by
  rw [pay10_at]
  unfold tileRow
  simp only [Fin.sum_univ_tiles 2 64 rfl]
  simp only [keys_at w X hw, hg, hc, hs, bsk_at bs hbs, swk_at sw hsw, ofBits_inv64, ofBits_eps, ← EReal.coe_mul, ← EReal.coe_sub, ← EReal.coe_add, sum_coe, sub_self, zero_mul,
    Finset.sum_const_zero, add_zero, fun h => sum_same (fun a b => X r a b * X r a b) h, ms_inv, rsqrt_ms (show (64 : ℝ) > 0 by norm_num)]
  rw [sum_swapped (fun a b => X r a b * rn 64 (X r a) * G b)]
  rfl

/-- The values as they came. -/
theorem v_at (r : Fin 512) (l : Fin 128) : k0_pay2 w (ix2 r l) = w (ix2 r ⟨128 + l.val, by omega⟩) := by
  pointwise [k0_pay2, k0_pay1]

/-- The values with their halves exchanged. -/
theorem vs_at (W : Fin 512 → Fin 128 → ℝ) (hv : ∀ r (l : Fin 128), w (ix2 r ⟨128 + l.val, by omega⟩) = ((W r l : ℝ) : EReal))
    (e : Vec Ideal S128x128 .bf16) (he : ∀ k l, e (ix2 k l) = ((flipped k l : ℝ) : EReal)) (r : Fin 512) (l : Fin 128) :
    k0_pay3 w e (ix2 r l) = ((W r (other l) : ℝ) : EReal) := by
  pointwise [k0_pay3, k0_pay1]
  simp only [he, hv, ← EReal.coe_mul, sum_coe]
  exact congrArg _ (sum_flipped (W r) l)
end K
end Tile

end Cert.QkFwd
end
-- ==== Proof.MixOut.lean ====
/-
  The mixer output, backward: from the branches' outputs, the gates' logits, the projections' weights and the cotangent of
  the residual stream, the gradients of the gates' logits, of the branches' projections and of the branches' outputs. Both
  programs' results are the arrays named here.
-/
module

public import proofs.«01_k».proof.Proof.MixOutPay
public import proofs.«01_k».proof.Proof.Word
public import proofs.«01_k».proof.Pre_mix_out_finite
public import proofs.«01_k».proof.Defs
public import proofs.«01_k».proof.Proof.Gen.MixOutKernel.Frame
public import proofs.«01_k».proof.Proof.Gen.MixOutKernelIdeal.Value
public import proofs.«01_k».proof.Proof.Gen.MixOutReferenceIdeal.Run
public import Idealize.ShloMosaic.Lib.Pipeline.ValueKit

@[expose] public section

set_option maxRecDepth 16384

noncomputable section

namespace Cert.MixOut

open Idealize.ShloMosaic Idealize.ShloMosaic.TcCoe Idealize.ShloMosaic.StableHlo Idealize.SL.Sem
open Cert.RealNum

/-- The arguments as real arrays. -/
structure Nums where
  oa : Fin 4096 → Fin 512 → ℝ
  ob : Fin 4096 → Fin 512 → ℝ
  ga : Fin 4096 → Fin 1024 → ℝ
  gb : Fin 4096 → Fin 1024 → ℝ
  wa : Fin 512 → Fin 1024 → ℝ
  wb : Fin 512 → Fin 1024 → ℝ
  wo : Fin 1024 → Fin 1024 → ℝ
  dx : Fin 4096 → Fin 1024 → ℝ

/-- The arrays that hold these numbers. -/
structure Holds (oa ob : FVec Ideal ⟨2, ![4096, 512]⟩ .f32) (ga gb : FVec Ideal ⟨2, ![4096, 1024]⟩ .f32) (wa wb : FVec Ideal ⟨2, ![512, 1024]⟩ .f32)
    (wo : FVec Ideal ⟨2, ![1024, 1024]⟩ .f32) (dx : FVec Ideal ⟨2, ![4096, 1024]⟩ .f32) (n : Nums) : Prop where
  oa : ∀ r k, oa (ix2 r k) = ((n.oa r k : ℝ) : EReal)
  ob : ∀ r k, ob (ix2 r k) = ((n.ob r k : ℝ) : EReal)
  ga : ∀ r k, ga (ix2 r k) = ((n.ga r k : ℝ) : EReal)
  gb : ∀ r k, gb (ix2 r k) = ((n.gb r k : ℝ) : EReal)
  wa : ∀ r k, wa (ix2 r k) = ((n.wa r k : ℝ) : EReal)
  wb : ∀ r k, wb (ix2 r k) = ((n.wb r k : ℝ) : EReal)
  wo : ∀ r k, wo (ix2 r k) = ((n.wo r k : ℝ) : EReal)
  dx : ∀ r k, dx (ix2 r k) = ((n.dx r k : ℝ) : EReal)

namespace Nums
variable (n : Nums) (r : Fin 4096)

/-- The gradients of the two gates' logits, side by side. -/
def dpg (l : Fin 2048) : ℝ := if hl : l.val < 1024 then dgRow (n.dx r) n.wo (n.oa r) n.wa (n.ga r) ⟨l.val, hl⟩
  else dgRow (n.dx r) n.wo (n.ob r) n.wb (n.gb r) ⟨l.val - 1024, by omega⟩

/-- The gradients of the branches' outputs. -/
def doa : Fin 512 → ℝ := doRow (dyRow (n.dx r) n.wo (n.ga r)) n.wa
def dob : Fin 512 → ℝ := doRow (dyRow (n.dx r) n.wo (n.gb r)) n.wb

end Nums

def dpgArr (n : Nums) : FVec Ideal ⟨2, ![4096, 2048]⟩ .bf16 := fun j => ((n.dpg (j 0) (j 1) : ℝ) : EReal)
def mgArr (n : Nums) : FVec Ideal ⟨2, ![4096, 1024]⟩ .bf16 := fun j => ((mgRow (n.oa (j 0)) (n.ob (j 0)) (n.ga (j 0)) (n.gb (j 0)) n.wa n.wb (j 1) : ℝ) : EReal)
def dyaArr (n : Nums) : FVec Ideal ⟨2, ![4096, 1024]⟩ .bf16 := fun j => ((dyRow (n.dx (j 0)) n.wo (n.ga (j 0)) (j 1) : ℝ) : EReal)
def dybArr (n : Nums) : FVec Ideal ⟨2, ![4096, 1024]⟩ .bf16 := fun j => ((dyRow (n.dx (j 0)) n.wo (n.gb (j 0)) (j 1) : ℝ) : EReal)
def doeArr (n : Nums) : FVec Ideal ⟨2, ![4096, 1024]⟩ .bf16 := fun j => ((wideRow (n.doa (j 0)) (j 1) : ℝ) : EReal)
def dlArr (n : Nums) : FVec Ideal ⟨2, ![4096, 1024]⟩ .f32 := fun j => ((deltaRow (n.doa (j 0)) (n.oa (j 0)) (j 1) : ℝ) : EReal)
def dobArr (n : Nums) : FVec Ideal ⟨2, ![4096, 512]⟩ .f32 := fun j => ((n.dob (j 0) (j 1) : ℝ) : EReal)

section Run
open Cert.MixOutKernelIdeal Cert.MixOutKernelIdeal.Gen

variable (m : (ℓ : Loc nD τ sig) → Buf (Elt Ideal) ℓ) (c : Dev nD)

theorem idx : ∀ t : Fin cfg0.N, (win0_0.index t = ![t.val, 0] ∧ win0_1.index t = ![t.val, 0] ∧ win0_2.index t = ![t.val, 0] ∧ win0_3.index t = ![t.val, 0]
    ∧ win0_4.index t = ![t.val, 1] ∧ win0_5.index t = ![0, 0, 0] ∧ win0_6.index t = ![0, 0, 0]) ∧ win0_7.index t = ![0, 0] ∧ win0_8.index t = ![0, 0]
    ∧ win0_9.index t = ![0, 0] ∧ win0_10.index t = ![t.val, 0] ∧ win0_11.index t = ![t.val, 0] ∧ win0_12.index t = ![t.val, 0] ∧ win0_13.index t = ![t.val, 0]
    ∧ win0_14.index t = ![t.val, 0] ∧ win0_15.index t = ![t.val, 0] ∧ win0_16.index t = ![t.val, 0] :=
  (by decide +kernel : ∀ t : Fin grid0.N, _)

/-- The row of the arrays a tile's row `r` is at point `p`. -/
abbrev row (p : Fin cfg0.N) (r : Fin 512) : Fin 4096 := ⟨p.val * 512 + r.val, by have := p.isLt; have h : cfg0.N = 8 := N_0; omega⟩

variable (n : Nums) (H : Holds (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) (m ((c : Thread nD τ).loc main_arg6)) (m ((c : Thread nD τ).loc main_arg7)) n)

/-! The blocks of the arguments, from the buffers that the host operations leave. -/

include H in
theorem blk0 (p : Fin cfg0.N) (r : Fin 512) (l : Fin 1024) : (iblk m c 0 p : FVec Ideal S512x1024 .f32) (ix2 r l) = ((n.dx (row p r) l : ℝ) : EReal) := by
  rw [← H.dx, ← V_main_arg7 m c]
  blk_point [iblk, idx p]

include H in
theorem blk1 (p : Fin cfg0.N) (r : Fin 512) (l : Fin 512) : (iblk m c 1 p : FVec Ideal S512x512 .f32) (ix2 r l) = ((n.oa (row p r) l : ℝ) : EReal) := by
  rw [← H.oa, ← V_main_arg0 m c]
  blk_point [iblk, idx p]

include H in
theorem blk2 (p : Fin cfg0.N) (r : Fin 512) (l : Fin 512) : (iblk m c 2 p : FVec Ideal S512x512 .bf16) (ix2 r l) = ((n.ob (row p r) l : ℝ) : EReal) := by
  have e : (V m c main_v2 : FVec Ideal S4096x512 .bf16) = (truncf (F := Ideal) .bf16 (m ((c : Thread nD τ).loc main_arg1) : FVec Ideal S4096x512 .f32) bitsLt_bf16_f32) := by
    unfold V
    simp only [List.flatten_cons, List.flatten_nil, List.append_nil, List.cons_append, List.nil_append]
    after_results_simp <;> rfl
  have h : ∀ R : Fin 4096, (V m c main_v2 : FVec Ideal S4096x512 .bf16) (ix2 R l) = ((n.ob R l : ℝ) : EReal) := fun R => by
    rw [e, ← H.ob]
    pointwise
  rw [← h]
  blk_point [iblk, idx p]

/-- The gates' logits as the host packs them, and a weight in four blocks of columns. -/
def gatesT (a b : FVec Ideal S4096x1024 .f32) : FVec Ideal S4096x2048 .bf16 :=
  truncf .bf16 (concatenate S4096x2048 1 [⟨S4096x1024, a⟩, ⟨S4096x1024, b⟩] concatenates_S4096x1024_S4096x1024_S4096x2048_d1) bitsLt_bf16_f32

def blocksT (w : FVec Ideal S512x1024 .f32) : FVec Ideal S4x512x256 .bf16 :=
  truncf .bf16 (transpose S4x512x256 [1, 0, 2] (shapeCast S512x4x256 w shapeCasts_S512x1024_S512x4x256) transposes_S512x4x256_S4x512x256_1_0_2) bitsLt_bf16_f32

theorem blocksT_at (w : FVec Ideal S512x1024 .f32) (j : Fin 4) (k : Fin 512) (q : Fin 256) : blocksT w (ix3 j k q) = w (ix2 k (bcol j q)) := by
  pointwise [blocksT]

/-- The two gates' logits, side by side. -/
theorem gates (R : Fin 4096) (l : Fin 2048) : (V m c main_v1 : FVec Ideal S4096x2048 .bf16) (ix2 R l)
    = if hl : l.val < 1024 then (m ((c : Thread nD τ).loc main_arg2) : FVec Ideal S4096x1024 .f32) (ix2 R ⟨l.val, hl⟩)
      else (m ((c : Thread nD τ).loc main_arg3) : FVec Ideal S4096x1024 .f32) (ix2 R ⟨l.val - 1024, by omega⟩) := by
  have e : V m c main_v1 = gatesT (m ((c : Thread nD τ).loc main_arg2)) (m ((c : Thread nD τ).loc main_arg3)) := by
    unfold V
    simp only [List.flatten_cons, List.flatten_nil, List.append_nil, List.cons_append, List.nil_append]
    after_results_simp <;> rfl
  rw [e]
  pointwise [gatesT]

include H in
theorem blk3 (p : Fin cfg0.N) (r : Fin 512) (l : Fin 1024) : (iblk m c 3 p : FVec Ideal S512x1024 .bf16) (ix2 r l) = ((n.ga (row p r) l : ℝ) : EReal) := by
  have h := gates m c (row p r) ⟨l.val, by omega⟩
  rw [dif_pos l.isLt, H.ga] at h
  rw [← h]
  blk_point [iblk, idx p]

include H in
theorem blk4 (p : Fin cfg0.N) (r : Fin 512) (l : Fin 1024) : (iblk m c 4 p : FVec Ideal S512x1024 .bf16) (ix2 r l) = ((n.gb (row p r) l : ℝ) : EReal) := by
  have h := gates m c (row p r) ⟨1024 + l.val, by omega⟩
  rw [dif_neg (by show ¬ (1024 + l.val < 1024); omega), show (⟨(1024 + l.val) - 1024, by omega⟩ : Fin 1024) = l from Fin.ext (by show 1024 + l.val - 1024 = l.val; omega), H.gb] at h
  rw [← h]
  blk_point [iblk, idx p]

include H in
theorem blk5 (p : Fin cfg0.N) (j : Fin 4) (k : Fin 512) (q : Fin 256) : (iblk m c 5 p : FVec Ideal S4x512x256 .bf16) (ix3 j k q) = ((n.wa k (bcol j q) : ℝ) : EReal) := by
  have e : V m c main_v5 = blocksT (m ((c : Thread nD τ).loc main_arg4)) := by
    unfold V
    simp only [List.flatten_cons, List.flatten_nil, List.append_nil, List.cons_append, List.nil_append]
    after_results_simp <;> rfl
  have h : (V m c main_v5 : FVec Ideal S4x512x256 .bf16) (ix3 j k q) = ((n.wa k (bcol j q) : ℝ) : EReal) := by
    rw [e, blocksT_at, ← H.wa]
  rw [← h]
  blk_point [iblk, idx p]

include H in
theorem blk6 (p : Fin cfg0.N) (j : Fin 4) (k : Fin 512) (q : Fin 256) : (iblk m c 6 p : FVec Ideal S4x512x256 .bf16) (ix3 j k q) = ((n.wb k (bcol j q) : ℝ) : EReal) := by
  have e : V m c main_v8 = blocksT (m ((c : Thread nD τ).loc main_arg5)) := by
    unfold V
    simp only [List.flatten_cons, List.flatten_nil, List.append_nil, List.cons_append, List.nil_append]
    after_results_simp <;> rfl
  have h : (V m c main_v8 : FVec Ideal S4x512x256 .bf16) (ix3 j k q) = ((n.wb k (bcol j q) : ℝ) : EReal) := by
    rw [e, blocksT_at, ← H.wb]
  rw [← h]
  blk_point [iblk, idx p]

include H in
theorem blk7 (p : Fin cfg0.N) (k l : Fin 1024) : (iblk m c 7 p : FVec Ideal S1024x1024 .bf16) (ix2 k l) = ((n.wo k l : ℝ) : EReal) := by
  have e : (V m c main_v9 : FVec Ideal S1024x1024 .bf16) = (truncf (F := Ideal) .bf16 (m ((c : Thread nD τ).loc main_arg6) : FVec Ideal S1024x1024 .f32) bitsLt_bf16_f32) := by
    unfold V
    simp only [List.flatten_cons, List.flatten_nil, List.append_nil, List.cons_append, List.nil_append]
    after_results_simp <;> rfl
  have h : (V m c main_v9 : FVec Ideal S1024x1024 .bf16) (ix2 k l) = ((n.wo k l : ℝ) : EReal) := by
    rw [e, ← H.wo]
    pointwise
  rw [← h]
  blk_point [iblk, idx p]

/-- The 0/1 matrices as the host builds them. -/
def wd (w : BitVec 32) : IVec S512x1024 32 := broadcastInDim S512x1024 ![] bcast_S_S512x1024 (constantI S_ 32 w)
def at01 (q : IVec S512x1024 1) : FVec Ideal S512x1024 .bf16 :=
  truncf .bf16 (select q (broadcastInDim S512x1024 ![] bcast_S_S512x1024 (constant S_ .f32 0x3F800000#32) : FVec Ideal S512x1024 .f32)
    (broadcastInDim S512x1024 ![] bcast_S_S512x1024 (constant S_ .f32 0x00000000#32))) bitsLt_bf16_f32
def placedT : FVec Ideal S512x1024 .bf16 :=
  at01 (cmpi .eq (iotaInDim S512x1024 32 1) (addi (addi (muli (Host.divsi (iotaInDim S512x1024 32 0) (wd 64#32)) (wd 128#32))
    (muli (Host.divsi (iotaInDim S512x1024 32 0) (wd 256#32)) (wd 64#32))) (Host.remsi (iotaInDim S512x1024 32 0) (wd 64#32))))
def spreadT : FVec Ideal S512x1024 .bf16 :=
  at01 (cmpi .eq (Host.divsi (iotaInDim S512x1024 32 1) (wd 128#32)) (Host.divsi (iotaInDim S512x1024 32 0) (wd 64#32)))

theorem place_word : ∀ k : Fin 512, IntOp.addi (IntOp.addi (IntOp.muli (IntOp.divsi .host (BitVec.ofNat 32 k.val) 64#32) 128#32)
    (IntOp.muli (IntOp.divsi .host (BitVec.ofNat 32 k.val) 256#32) 64#32)) (IntOp.remsi .host (BitVec.ofNat 32 k.val) 64#32)
      = BitVec.ofNat 32 (k.val / 64 * 128 + k.val / 256 * 64 + k.val % 64) := by decide +kernel

theorem tile_word : ∀ l : Fin 1024, IntOp.divsi .host (BitVec.ofNat 32 l.val) 128#32 = BitVec.ofNat 32 (l.val / 128) := by decide +kernel

theorem head_word : ∀ k : Fin 512, IntOp.divsi .host (BitVec.ofNat 32 k.val) 64#32 = BitVec.ofNat 32 (k.val / 64) := by decide +kernel

theorem placedT_at (k : Fin 512) (l : Fin 1024) : placedT (ix2 k l) = ((placed k l : ℝ) : EReal) := by
  pointwise [placedT, at01, wd]
  rw [place_word, pick _ _ (by omega) (by omega)]
  rfl

theorem spreadT_at (k : Fin 512) (l : Fin 1024) : spreadT (ix2 k l) = ((spread k l : ℝ) : EReal) := by
  pointwise [spreadT, at01, wd]
  rw [tile_word, head_word, pick _ _ (by omega) (by omega)]
  rfl

theorem blk8 (p : Fin cfg0.N) (k : Fin 512) (l : Fin 1024) : (iblk m c 8 p : FVec Ideal S512x1024 .bf16) (ix2 k l) = ((placed k l : ℝ) : EReal) := by
  have e : V m c main_v26 = placedT := by
    unfold V
    simp only [List.flatten_cons, List.flatten_nil, List.append_nil, List.cons_append, List.nil_append]
    after_results_simp <;> rfl
  have h : (V m c main_v26 : FVec Ideal S512x1024 .bf16) (ix2 k l) = ((placed k l : ℝ) : EReal) := by rw [e, placedT_at]
  rw [← h]
  blk_point [iblk, idx p]

theorem blk9 (p : Fin cfg0.N) (k : Fin 512) (l : Fin 1024) : (iblk m c 9 p : FVec Ideal S512x1024 .bf16) (ix2 k l) = ((spread k l : ℝ) : EReal) := by
  have e : V m c main_v35 = spreadT := by
    unfold V
    simp only [List.flatten_cons, List.flatten_nil, List.append_nil, List.cons_append, List.nil_append]
    after_results_simp <;> rfl
  have h : (V m c main_v35 : FVec Ideal S512x1024 .bf16) (ix2 k l) = ((spread k l : ℝ) : EReal) := by rw [e, spreadT_at]
  rw [← h]
  blk_point [iblk, idx p]

/-- A weight block's slab. -/
theorem slab (x : Vec Ideal S4x512x256 .bf16) (j : Fin 4) (o : ℕ) (e : o = j.val) (inb) (k : Fin 512) (q : Fin 256) :
    View.ld x (Rect.unit (s := S4x512x256) ![o, 0, 0] ![1, 512, 256] inb) (ix3 0 k q) = x (ix3 j k q) := by
  refine congrArg x (funext fun a => Fin.ext ?_)
  fin_cases a
  · show o + 1 * 0 = j.val
    omega
  · show 0 + 1 * k.val = k.val
    omega
  · show 0 + 1 * q.val = q.val
    omega

include H in
theorem wa_slab (p : Fin cfg0.N) (j : Fin 4) (o : ℕ) (e : o = j.val) (inb) (k : Fin 512) (q : Fin 256) :
    View.ld (iblk m c 5 p : FVec Ideal S4x512x256 .bf16) (Rect.unit (s := S4x512x256) ![o, 0, 0] ![1, 512, 256] inb) (ix3 0 k q) = ((n.wa k (bcol j q) : ℝ) : EReal) := by
  rw [slab _ j o e, blk5 m c n H]

include H in
theorem wb_slab (p : Fin cfg0.N) (j : Fin 4) (o : ℕ) (e : o = j.val) (inb) (k : Fin 512) (q : Fin 256) :
    View.ld (iblk m c 6 p : FVec Ideal S4x512x256 .bf16) (Rect.unit (s := S4x512x256) ![o, 0, 0] ![1, 512, 256] inb) (ix3 0 k q) = ((n.wb k (bcol j q) : ℝ) : EReal) := by
  rw [slab _ j o e, blk6 m c n H]

theorem whole0 {α : EltTy} (x : Vec Ideal S512x512 α) : View.ld x r0_0 = x := View.ld_unit_lit _ _ (by decide)
theorem whole5 {α : EltTy} (x : Vec Ideal S512x1024 α) : View.ld x r0_5 = x := View.ld_unit_lit _ _ (by decide)
theorem whole6 {α : EltTy} (x : Vec Ideal S1024x1024 α) : View.ld x r0_6 = x := View.ld_unit_lit _ _ (by decide)

/-! Each output's block at a point, and the array that its blocks make up. -/

include H in
theorem point10 (t : Fin cfg0.N) (r : Fin 512) (l : Fin 2048) : (out0_10 (iblk m c 0 t) (iblk m c 1 t) (iblk m c 2 t) (iblk m c 3 t) (iblk m c 4 t) (iblk m c 5 t) (iblk m c 6 t) (iblk m c 7 t) (iblk m c 8 t) (iblk m c 9 t) : FVec Ideal S512x2048 .bf16) (ix2 r l)
    = ((n.dpg (row t r) l : ℝ) : EReal) := by
  unfold_out out0_10
  refine (congrFun (View.canon_cons_unit_lit _ _ _ (by decide)) _).trans ?_
  simp only [whole0, whole5, whole6]
  refine (dpg_at _ _ _ (fun r => n.dx (row t r)) (fun r => n.ga (row t r)) n.wo (blk0 m c n H t) (blk7 m c n H t) (blk3 m c n H t) _ (fun r => n.gb (row t r)) (fun r => yRow (n.oa (row t r)) n.wa) (fun r => yRow (n.ob (row t r)) n.wb)
    (blk4 m c n H t) _ _ _ _ _ _
    (ya_at _ _ _ _ n.wa (wa_slab m c n H t 0 0 rfl _) (wa_slab m c n H t 1 1 rfl _) (wa_slab m c n H t 2 2 rfl _) (wa_slab m c n H t 3 3 rfl _) _ (fun r => n.oa (row t r)) (blk1 m c n H t))
    (yb_at _ _ _ _ n.wb (wb_slab m c n H t 0 0 rfl _) (wb_slab m c n H t 1 1 rfl _) (wb_slab m c n H t 2 2 rfl _) (wb_slab m c n H t 3 3 rfl _) _ (fun r => n.ob (row t r)) (blk2 m c n H t)) r l).trans ?_
  unfold Nums.dpg dgRow
  split_ifs <;> rfl

include H in
theorem final10 : (dats m 0 c).arrAt 10 (cfgs 0).N = dpgArr n := by
  refine (dats m 0 c).arrAt_eq_of_covers 10 _ (by decide +kernel) fun t _ y => ?_
  blk_simp
  rw [after0_10]
  obtain ⟨r, l, rfl⟩ : ∃ (r : Fin 512) (l : Fin 2048), y = ix2 r l := ⟨y 0, y 1, ValueIdx.eq_ix2 y⟩
  refine (point10 m c n H t r l).trans ?_
  show dpgArr n (ix2 (row t r) l) = _
  blk_ext [idx t]

include H in
theorem point11 (t : Fin cfg0.N) (r : Fin 512) (l : Fin 1024) : (out0_11 (iblk m c 0 t) (iblk m c 1 t) (iblk m c 2 t) (iblk m c 3 t) (iblk m c 4 t) (iblk m c 5 t) (iblk m c 6 t) (iblk m c 7 t) (iblk m c 8 t) (iblk m c 9 t) : FVec Ideal S512x1024 .bf16) (ix2 r l)
    = ((mgRow (n.oa (row t r)) (n.ob (row t r)) (n.ga (row t r)) (n.gb (row t r)) n.wa n.wb l : ℝ) : EReal) := by
  unfold_out out0_11
  refine (congrFun (View.canon_cons_unit_lit _ _ _ (by decide)) _).trans ?_
  simp only [whole0, whole5, whole6]
  exact mg_at _ (fun r => n.ga (row t r)) (blk3 m c n H t) _ (fun r => n.gb (row t r)) (fun r => yRow (n.oa (row t r)) n.wa) (fun r => yRow (n.ob (row t r)) n.wb)
    (blk4 m c n H t) _ _ _ _ _ _
    (ya_at _ _ _ _ n.wa (wa_slab m c n H t 0 0 rfl _) (wa_slab m c n H t 1 1 rfl _) (wa_slab m c n H t 2 2 rfl _) (wa_slab m c n H t 3 3 rfl _) _ (fun r => n.oa (row t r)) (blk1 m c n H t))
    (yb_at _ _ _ _ n.wb (wb_slab m c n H t 0 0 rfl _) (wb_slab m c n H t 1 1 rfl _) (wb_slab m c n H t 2 2 rfl _) (wb_slab m c n H t 3 3 rfl _) _ (fun r => n.ob (row t r)) (blk2 m c n H t)) r l

include H in
theorem final11 : (dats m 0 c).arrAt 11 (cfgs 0).N = mgArr n := by
  refine (dats m 0 c).arrAt_eq_of_covers 11 _ (by decide +kernel) fun t _ y => ?_
  blk_simp
  rw [after0_11]
  obtain ⟨r, l, rfl⟩ : ∃ (r : Fin 512) (l : Fin 1024), y = ix2 r l := ⟨y 0, y 1, ValueIdx.eq_ix2 y⟩
  refine (point11 m c n H t r l).trans ?_
  show mgArr n (ix2 (row t r) l) = _
  blk_ext [idx t]

include H in
theorem point12 (t : Fin cfg0.N) (r : Fin 512) (l : Fin 1024) : (out0_12 (iblk m c 0 t) (iblk m c 1 t) (iblk m c 2 t) (iblk m c 3 t) (iblk m c 4 t) (iblk m c 5 t) (iblk m c 6 t) (iblk m c 7 t) (iblk m c 8 t) (iblk m c 9 t) : FVec Ideal S512x1024 .bf16) (ix2 r l)
    = ((dyRow (n.dx (row t r)) n.wo (n.ga (row t r)) l : ℝ) : EReal) := by
  unfold_out out0_12
  refine (congrFun (View.canon_cons_unit_lit _ _ _ (by decide)) _).trans ?_
  simp only [whole0, whole5, whole6]
  show k0_pay13 (F := Ideal) _ _ _ (ix2 r l) = _
  exact (dya_at _ _ _ (fun r => n.dx (row t r)) (fun r => n.ga (row t r)) n.wo (blk0 m c n H t) (blk7 m c n H t) (blk3 m c n H t)) r l

include H in
theorem final12 : (dats m 0 c).arrAt 12 (cfgs 0).N = dyaArr n := by
  refine (dats m 0 c).arrAt_eq_of_covers 12 _ (by decide +kernel) fun t _ y => ?_
  blk_simp
  rw [after0_12]
  obtain ⟨r, l, rfl⟩ : ∃ (r : Fin 512) (l : Fin 1024), y = ix2 r l := ⟨y 0, y 1, ValueIdx.eq_ix2 y⟩
  refine (point12 m c n H t r l).trans ?_
  show dyaArr n (ix2 (row t r) l) = _
  blk_ext [idx t]

include H in
theorem point13 (t : Fin cfg0.N) (r : Fin 512) (l : Fin 1024) : (out0_13 (iblk m c 0 t) (iblk m c 1 t) (iblk m c 2 t) (iblk m c 3 t) (iblk m c 4 t) (iblk m c 5 t) (iblk m c 6 t) (iblk m c 7 t) (iblk m c 8 t) (iblk m c 9 t) : FVec Ideal S512x1024 .bf16) (ix2 r l)
    = ((dyRow (n.dx (row t r)) n.wo (n.gb (row t r)) l : ℝ) : EReal) := by
  unfold_out out0_13
  refine (congrFun (View.canon_cons_unit_lit _ _ _ (by decide)) _).trans ?_
  simp only [whole0, whole5, whole6]
  show k0_pay14 (F := Ideal) _ _ _ (ix2 r l) = _
  exact (dyb_at _ _ _ (fun r => n.dx (row t r)) (fun r => n.gb (row t r)) n.wo (blk0 m c n H t) (blk7 m c n H t) (blk4 m c n H t)) r l

include H in
theorem final13 : (dats m 0 c).arrAt 13 (cfgs 0).N = dybArr n := by
  refine (dats m 0 c).arrAt_eq_of_covers 13 _ (by decide +kernel) fun t _ y => ?_
  blk_simp
  rw [after0_13]
  obtain ⟨r, l, rfl⟩ : ∃ (r : Fin 512) (l : Fin 1024), y = ix2 r l := ⟨y 0, y 1, ValueIdx.eq_ix2 y⟩
  refine (point13 m c n H t r l).trans ?_
  show dybArr n (ix2 (row t r) l) = _
  blk_ext [idx t]

include H in
theorem point14 (t : Fin cfg0.N) (r : Fin 512) (l : Fin 1024) : (out0_14 (iblk m c 0 t) (iblk m c 1 t) (iblk m c 2 t) (iblk m c 3 t) (iblk m c 4 t) (iblk m c 5 t) (iblk m c 6 t) (iblk m c 7 t) (iblk m c 8 t) (iblk m c 9 t) : FVec Ideal S512x1024 .bf16) (ix2 r l)
    = ((wideRow (n.doa (row t r)) l : ℝ) : EReal) := by
  unfold_out out0_14
  refine (congrFun (View.canon_cons_unit_lit _ _ _ (by decide)) _).trans ?_
  simp only [whole0, whole5, whole6]
  exact doe_at _ _ _ _ n.wa (wa_slab m c n H t 0 0 rfl _) (wa_slab m c n H t 1 1 rfl _) (wa_slab m c n H t 2 2 rfl _) (wa_slab m c n H t 3 3 rfl _) _ (fun r => dyRow (n.dx (row t r)) n.wo (n.ga (row t r))) (dya_at _ _ _ (fun r => n.dx (row t r)) (fun r => n.ga (row t r)) n.wo (blk0 m c n H t) (blk7 m c n H t) (blk3 m c n H t)) _ (blk8 m c t) r l

include H in
theorem final14 : (dats m 0 c).arrAt 14 (cfgs 0).N = doeArr n := by
  refine (dats m 0 c).arrAt_eq_of_covers 14 _ (by decide +kernel) fun t _ y => ?_
  blk_simp
  rw [after0_14]
  obtain ⟨r, l, rfl⟩ : ∃ (r : Fin 512) (l : Fin 1024), y = ix2 r l := ⟨y 0, y 1, ValueIdx.eq_ix2 y⟩
  refine (point14 m c n H t r l).trans ?_
  show doeArr n (ix2 (row t r) l) = _
  blk_ext [idx t]

include H in
theorem point15 (t : Fin cfg0.N) (r : Fin 512) (l : Fin 1024) : (out0_15 (iblk m c 0 t) (iblk m c 1 t) (iblk m c 2 t) (iblk m c 3 t) (iblk m c 4 t) (iblk m c 5 t) (iblk m c 6 t) (iblk m c 7 t) (iblk m c 8 t) (iblk m c 9 t) : FVec Ideal S512x1024 .f32) (ix2 r l)
    = ((deltaRow (n.doa (row t r)) (n.oa (row t r)) l : ℝ) : EReal) := by
  unfold_out out0_15
  refine (congrFun (View.canon_cons_unit_lit _ _ _ (by decide)) _).trans ?_
  simp only [whole0, whole5, whole6]
  exact delta_at _ _ _ _ n.wa (wa_slab m c n H t 0 0 rfl _) (wa_slab m c n H t 1 1 rfl _) (wa_slab m c n H t 2 2 rfl _) (wa_slab m c n H t 3 3 rfl _) _ (fun r => dyRow (n.dx (row t r)) n.wo (n.ga (row t r))) (dya_at _ _ _ (fun r => n.dx (row t r)) (fun r => n.ga (row t r)) n.wo (blk0 m c n H t) (blk7 m c n H t) (blk3 m c n H t)) _ (fun r => n.oa (row t r)) (blk1 m c n H t) _ (blk9 m c t) r l

include H in
theorem final15 : (dats m 0 c).arrAt 15 (cfgs 0).N = dlArr n := by
  refine (dats m 0 c).arrAt_eq_of_covers 15 _ (by decide +kernel) fun t _ y => ?_
  blk_simp
  rw [after0_15]
  obtain ⟨r, l, rfl⟩ : ∃ (r : Fin 512) (l : Fin 1024), y = ix2 r l := ⟨y 0, y 1, ValueIdx.eq_ix2 y⟩
  refine (point15 m c n H t r l).trans ?_
  show dlArr n (ix2 (row t r) l) = _
  blk_ext [idx t]

include H in
theorem point16 (t : Fin cfg0.N) (r : Fin 512) (l : Fin 512) : (out0_16 (iblk m c 0 t) (iblk m c 1 t) (iblk m c 2 t) (iblk m c 3 t) (iblk m c 4 t) (iblk m c 5 t) (iblk m c 6 t) (iblk m c 7 t) (iblk m c 8 t) (iblk m c 9 t) : FVec Ideal S512x512 .f32) (ix2 r l)
    = ((n.dob (row t r) l : ℝ) : EReal) := by
  unfold_out out0_16
  refine (congrFun (View.canon_cons_unit_lit _ _ _ (by decide)) _).trans ?_
  simp only [whole0, whole5, whole6]
  exact dob_at _ _ _ _ n.wb (wb_slab m c n H t 0 0 rfl _) (wb_slab m c n H t 1 1 rfl _) (wb_slab m c n H t 2 2 rfl _) (wb_slab m c n H t 3 3 rfl _) _ (fun r => dyRow (n.dx (row t r)) n.wo (n.gb (row t r))) (dyb_at _ _ _ (fun r => n.dx (row t r)) (fun r => n.gb (row t r)) n.wo (blk0 m c n H t) (blk7 m c n H t) (blk4 m c n H t)) r l

include H in
theorem final16 : (dats m 0 c).arrAt 16 (cfgs 0).N = dobArr n := by
  refine (dats m 0 c).arrAt_eq_of_covers 16 _ (by decide +kernel) fun t _ y => ?_
  blk_simp
  rw [after0_16]
  obtain ⟨r, l, rfl⟩ : ∃ (r : Fin 512) (l : Fin 512), y = ix2 r l := ⟨y 0, y 1, ValueIdx.eq_ix2 y⟩
  refine (point16 m c n H t r l).trans ?_
  show dobArr n (ix2 (row t r) l) = _
  blk_ext [idx t]

end Run

/-- A head's 64 columns in their own half of 128, as two cases over the half. -/
theorem wide_cases (D : Fin 512 → ℝ) (l : Fin 1024) :
    (if h : l.val / 128 < 4 then if h' : l.val % 128 < 64 then ((D ⟨l.val / 128 * 64 + l.val % 128, by omega⟩ : ℝ) : EReal) else 0
      else if h' : l.val % 128 < 64 then 0 else ((D ⟨(4 + (l.val / 128 - 4)) * 64 + (l.val % 128 - 64), by omega⟩ : ℝ) : EReal)) = ((wideRow D l : ℝ) : EReal) := by
  have hl := l.isLt
  by_cases hc : l.val % 128 / 64 = l.val / 128 / 4
  · rw [show wideRow D l = D ⟨l.val / 128 * 64 + l.val % 64, by omega⟩ from if_pos hc]
    split_ifs with h1 h2 h2
    · exact congrArg (fun q : Fin 512 => ((D q : ℝ) : EReal)) (Fin.ext (by show l.val / 128 * 64 + l.val % 128 = l.val / 128 * 64 + l.val % 64; omega))
    · exact absurd hc (by omega)
    · exact absurd hc (by omega)
    · exact congrArg (fun q : Fin 512 => ((D q : ℝ) : EReal)) (Fin.ext (by show (4 + (l.val / 128 - 4)) * 64 + (l.val % 128 - 64) = l.val / 128 * 64 + l.val % 64; omega))
  · rw [show wideRow D l = 0 from if_neg hc]
    split_ifs with h1 h2 h2
    · exact absurd (show l.val % 128 / 64 = l.val / 128 / 4 by omega) hc
    · exact EReal.coe_zero.symm
    · exact EReal.coe_zero.symm
    · exact absurd (show l.val % 128 / 64 = l.val / 128 / 4 by omega) hc

section Ref
open Cert.MixOutReferenceIdeal Cert.MixOutReferenceIdeal.Gen

/-! ## The reference's terms, piece by piece -/

def oneT : FVec Ideal S4096x1024 .f32 := broadcastInDim S4096x1024 ![] bcast_S_S4096x1024 (constant S_ .f32 0x3F800000#32)
def sgT (g : FVec Ideal S4096x1024 .f32) : FVec Ideal S4096x1024 .f32 := Host.divf oneT (addf oneT (Host.exp (Host.negf g)))
def yT (o : FVec Ideal S4096x512 .f32) (w : FVec Ideal S512x1024 .f32) : FVec Ideal S4096x1024 .f32 :=
  Host.dotGeneral dot_S4096x512_S512x1024_S4096x1024_1_0_0_1_n_n none o w
def dmT (dx : FVec Ideal S4096x1024 .f32) (wo : FVec Ideal S1024x1024 .f32) : FVec Ideal S4096x1024 .f32 :=
  Host.dotGeneral dot_S4096x1024_S1024x1024_S4096x1024_1_1_0_0_n_n none dx wo
def dyT (dx : FVec Ideal S4096x1024 .f32) (wo : FVec Ideal S1024x1024 .f32) (g : FVec Ideal S4096x1024 .f32) : FVec Ideal S4096x1024 .f32 :=
  mulf (sgT g) (dmT dx wo)
def doT (dy : FVec Ideal S4096x1024 .f32) (w : FVec Ideal S512x1024 .f32) : FVec Ideal S4096x512 .f32 :=
  Host.dotGeneral dot_S4096x1024_S512x1024_S4096x512_1_1_0_0_n_n none dy w
def dgT (dx : FVec Ideal S4096x1024 .f32) (wo : FVec Ideal S1024x1024 .f32) (o : FVec Ideal S4096x512 .f32) (w : FVec Ideal S512x1024 .f32) (g : FVec Ideal S4096x1024 .f32) :
    FVec Ideal S4096x1024 .f32 := mulf (mulf (dmT dx wo) (yT o w)) (mulf (sgT g) (subf oneT (sgT g)))
def dpgT (a b : FVec Ideal S4096x1024 .f32) : FVec Ideal S4096x2048 .bf16 :=
  truncf .bf16 (concatenate S4096x2048 1 [⟨S4096x1024, a⟩, ⟨S4096x1024, b⟩] concatenates_S4096x1024_S4096x1024_S4096x2048_d1) bitsLt_bf16_f32
def zeroT : FVec Ideal S4096x4x64 .f32 := broadcastInDim S4096x4x64 ![] bcast_S_S4096x4x64 (constant S_ .f32 0x00000000#32)
def headsT (d : FVec Ideal S4096x512 .f32) : FVec Ideal S4096x8x64 .f32 := shapeCast _ d shapeCasts_S4096x512_S4096x8x64
def halfT (a b : FVec Ideal S4096x4x64 .f32) : FVec Ideal S4096x4x128 .f32 :=
  concatenate S4096x4x128 2 [⟨S4096x4x64, a⟩, ⟨S4096x4x64, b⟩] concatenates_S4096x4x64_S4096x4x64_S4096x4x128_d2
def doeT (d : FVec Ideal S4096x512 .f32) : FVec Ideal S4096x1024 .bf16 :=
  truncf .bf16 (shapeCast _ (concatenate S4096x8x128 1 [⟨S4096x4x128, halfT (extractStridedSlice S4096x4x64 ![0, 0, 0] (headsT d) slices_S4096x8x64_S4096x4x64_0_0_0) zeroT⟩,
    ⟨S4096x4x128, halfT zeroT (extractStridedSlice S4096x4x64 ![0, 4, 0] (headsT d) slices_S4096x8x64_S4096x4x64_0_4_0)⟩] concatenates_S4096x4x128_S4096x4x128_S4096x8x128_d1
    : FVec Ideal S4096x8x128 .f32) shapeCasts_S4096x8x128_S4096x1024) bitsLt_bf16_f32
def dlT (d o : FVec Ideal S4096x512 .f32) : FVec Ideal S4096x1024 .f32 :=
  shapeCast _ (broadcastInDim S4096x8x128 ![0, 1] bcast_S4096x8_S4096x8x128_0_1 (Host.reduceAdd (headsT (mulf d o)) (constant S_ .f32 0x00000000#32) reducesTo_S4096x8x64_S4096x8_d2 h_S_))
    shapeCasts_S4096x8x128_S4096x1024

section At
variable (dx g : FVec Ideal S4096x1024 .f32) (wo : FVec Ideal S1024x1024 .f32) (o d : FVec Ideal S4096x512 .f32) (w : FVec Ideal S512x1024 .f32)
  (DX G : Fin 4096 → Fin 1024 → ℝ) (WO : Fin 1024 → Fin 1024 → ℝ) (O D : Fin 4096 → Fin 512 → ℝ) (W : Fin 512 → Fin 1024 → ℝ)
  (hdx : ∀ r k, dx (ix2 r k) = ((DX r k : ℝ) : EReal)) (hg : ∀ r k, g (ix2 r k) = ((G r k : ℝ) : EReal)) (hwo : ∀ r k, wo (ix2 r k) = ((WO r k : ℝ) : EReal))
  (ho : ∀ r k, o (ix2 r k) = ((O r k : ℝ) : EReal)) (hd : ∀ r k, d (ix2 r k) = ((D r k : ℝ) : EReal)) (hw : ∀ r k, w (ix2 r k) = ((W r k : ℝ) : EReal))

include hg in
theorem sgT_at (r : Fin 4096) (l : Fin 1024) : sgT g (ix2 r l) = ((sg (G r l) : ℝ) : EReal) := by
  pointwise [sgT, oneT]
  simp only [hg, ← EReal.coe_neg, Ideal.exp_coe, ← EReal.coe_one, ← EReal.coe_add]
  rw [div_ne (by positivity)]
  exact congrArg _ (one_div _)

include ho hw in
theorem yT_at (r : Fin 4096) (l : Fin 1024) : yT o w (ix2 r l) = ((yRow (O r) W l : ℝ) : EReal) := by
  pointwise [yT]
  simp only [ho, hw, ← EReal.coe_mul, sum_coe]
  rfl

include hdx hwo in
theorem dmT_at (r : Fin 4096) (l : Fin 1024) : dmT dx wo (ix2 r l) = ((dmRow (DX r) WO l : ℝ) : EReal) := by
  pointwise [dmT]
  simp only [hdx, hwo, ← EReal.coe_mul, sum_coe]
  rfl

include hdx hwo hg in
theorem dyT_at (r : Fin 4096) (l : Fin 1024) : dyT dx wo g (ix2 r l) = ((dyRow (DX r) WO (G r) l : ℝ) : EReal) := by
  pointwise [dyT]
  rw [sgT_at g G hg, dmT_at dx wo DX WO hdx hwo, ← EReal.coe_mul]
  exact congrArg _ (mul_comm _ _)

include hdx hwo hg ho hw in
theorem dgT_at (r : Fin 4096) (l : Fin 1024) : dgT dx wo o w g (ix2 r l) = ((dgRow (DX r) WO (O r) W (G r) l : ℝ) : EReal) := by
  pointwise [dgT, oneT]
  rw [sgT_at g G hg, dmT_at dx wo DX WO hdx hwo, yT_at o w O W ho hw]
  simp only [← EReal.coe_one, ← EReal.coe_mul, ← EReal.coe_sub]
  rfl

include hw in
theorem doT_at (dy : FVec Ideal S4096x1024 .f32) (Y : Fin 4096 → Fin 1024 → ℝ) (hy : ∀ r l, dy (ix2 r l) = ((Y r l : ℝ) : EReal)) (r : Fin 4096) (k : Fin 512) :
    doT dy w (ix2 r k) = ((doRow (Y r) W k : ℝ) : EReal) := by
  pointwise [doT]
  simp only [hy, hw, ← EReal.coe_mul, sum_coe]
  rfl

theorem dpgT_at (a b : FVec Ideal S4096x1024 .f32) (r : Fin 4096) (l : Fin 2048) :
    dpgT a b (ix2 r l) = if hl : l.val < 1024 then a (ix2 r ⟨l.val, hl⟩) else b (ix2 r ⟨l.val - 1024, by omega⟩) := by
  pointwise [dpgT]

include hd in
theorem doeT_at (r : Fin 4096) (l : Fin 1024) : doeT d (ix2 r l) = ((wideRow (D r) l : ℝ) : EReal) := by
  pointwise [doeT, halfT, headsT, zeroT]
  simp only [hd]
  exact wide_cases (D r) l

include hd ho in
theorem dlT_at (r : Fin 4096) (l : Fin 1024) : dlT d o (ix2 r l) = ((deltaRow (D r) (O r) l : ℝ) : EReal) := by
  pointwise [dlT, headsT]
  simp only [hd, ho, ← EReal.coe_mul, sum_coe]
  rfl

end At

/-! ## The reference's run -/

section RefRun
variable (m : (ℓ : Loc nD τ sig) → Buf (Elt Ideal) ℓ) (ρ : Dev nD → PrngReg) (n : Dev nD → Nums)
  (H : ∀ c : Dev nD, Holds (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (n c))
include H

theorem ref_run : θ_run (defs (F := Ideal)) (onTc (τ := τ) (main (F := Ideal))) ⟨m, fun _ => 0, ρ⟩ fun r => ∀ c : Dev nD,
      r.2.mem ((c.tc : Thread nD τ).loc main_v81) = dpgArr (n c)
      ∧ r.2.mem ((c.tc : Thread nD τ).loc main_v82) = mgArr (n c)
      ∧ r.2.mem ((c.tc : Thread nD τ).loc main_v83) = dyaArr (n c)
      ∧ r.2.mem ((c.tc : Thread nD τ).loc main_v84) = dybArr (n c)
      ∧ r.2.mem ((c.tc : Thread nD τ).loc main_v85) = doeArr (n c)
      ∧ r.2.mem ((c.tc : Thread nD τ).loc main_v87) = dlArr (n c)
      ∧ r.2.mem ((c.tc : Thread nD τ).loc main_v67) = dobArr (n c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (Value.run (F := Ideal) m ρ)
  obtain ⟨h0, h1, h2, h3, h4, h5, h6, h7⟩ := h c
  refine ⟨h0.trans ?_, h1.trans ?_, h2.trans ?_, h3.trans ?_, h4.trans ?_, h5.trans ?_, h6.trans ?_, h7⟩ <;> clear h h0 h1 h2 h3 h4 h5 h6 h7 r
  · show dpgT (dgT (m ((c.tc : Thread nD τ).loc main_arg7)) (m ((c.tc : Thread nD τ).loc main_arg6)) (m ((c.tc : Thread nD τ).loc main_arg0)) (m ((c.tc : Thread nD τ).loc main_arg4)) (m ((c.tc : Thread nD τ).loc main_arg2))) (dgT (m ((c.tc : Thread nD τ).loc main_arg7)) (m ((c.tc : Thread nD τ).loc main_arg6)) (m ((c.tc : Thread nD τ).loc main_arg1)) (m ((c.tc : Thread nD τ).loc main_arg5)) (m ((c.tc : Thread nD τ).loc main_arg3))) = dpgArr (n c)
    refine funext fun (j : S4096x2048.Idx) => ?_
    obtain ⟨r, l, rfl⟩ : ∃ (r : Fin 4096) (l : Fin 2048), j = ix2 r l := ⟨j 0, j 1, ValueIdx.eq_ix2 j⟩
    rw [dpgT_at]
    show _ = (((n c).dpg r l : ℝ) : EReal)
    unfold Nums.dpg
    split_ifs
    · exact dgT_at _ _ _ _ _ _ _ _ _ _ (H c).dx (H c).ga (H c).wo (H c).oa (H c).wa r _
    · exact dgT_at _ _ _ _ _ _ _ _ _ _ (H c).dx (H c).gb (H c).wo (H c).ob (H c).wb r _
  · show (truncf (F := Ideal) .bf16 (addf (mulf (sgT (m ((c.tc : Thread nD τ).loc main_arg2))) (yT (m ((c.tc : Thread nD τ).loc main_arg0)) (m ((c.tc : Thread nD τ).loc main_arg4)))) (mulf (sgT (m ((c.tc : Thread nD τ).loc main_arg3))) (yT (m ((c.tc : Thread nD τ).loc main_arg1)) (m ((c.tc : Thread nD τ).loc main_arg5))))) bitsLt_bf16_f32 : FVec Ideal S4096x1024 .bf16) = mgArr (n c)
    refine funext fun (j : S4096x1024.Idx) => ?_
    obtain ⟨r, l, rfl⟩ : ∃ (r : Fin 4096) (l : Fin 1024), j = ix2 r l := ⟨j 0, j 1, ValueIdx.eq_ix2 j⟩
    pointwise
    rw [sgT_at _ _ (H c).ga, sgT_at _ _ (H c).gb, yT_at _ _ _ _ (H c).oa (H c).wa, yT_at _ _ _ _ (H c).ob (H c).wb, ← EReal.coe_mul, ← EReal.coe_mul, ← EReal.coe_add]
    rfl
  · show (truncf (F := Ideal) .bf16 (dyT (m ((c.tc : Thread nD τ).loc main_arg7)) (m ((c.tc : Thread nD τ).loc main_arg6)) (m ((c.tc : Thread nD τ).loc main_arg2))) bitsLt_bf16_f32 : FVec Ideal S4096x1024 .bf16) = dyaArr (n c)
    refine funext fun (j : S4096x1024.Idx) => ?_
    obtain ⟨r, l, rfl⟩ : ∃ (r : Fin 4096) (l : Fin 1024), j = ix2 r l := ⟨j 0, j 1, ValueIdx.eq_ix2 j⟩
    pointwise
    exact dyT_at _ _ _ _ _ _ (H c).dx (H c).ga (H c).wo r l
  · show (truncf (F := Ideal) .bf16 (dyT (m ((c.tc : Thread nD τ).loc main_arg7)) (m ((c.tc : Thread nD τ).loc main_arg6)) (m ((c.tc : Thread nD τ).loc main_arg3))) bitsLt_bf16_f32 : FVec Ideal S4096x1024 .bf16) = dybArr (n c)
    refine funext fun (j : S4096x1024.Idx) => ?_
    obtain ⟨r, l, rfl⟩ : ∃ (r : Fin 4096) (l : Fin 1024), j = ix2 r l := ⟨j 0, j 1, ValueIdx.eq_ix2 j⟩
    pointwise
    exact dyT_at _ _ _ _ _ _ (H c).dx (H c).gb (H c).wo r l
  · show doeT (doT (dyT (m ((c.tc : Thread nD τ).loc main_arg7)) (m ((c.tc : Thread nD τ).loc main_arg6)) (m ((c.tc : Thread nD τ).loc main_arg2))) (m ((c.tc : Thread nD τ).loc main_arg4))) = doeArr (n c)
    refine funext fun (j : S4096x1024.Idx) => ?_
    obtain ⟨r, l, rfl⟩ : ∃ (r : Fin 4096) (l : Fin 1024), j = ix2 r l := ⟨j 0, j 1, ValueIdx.eq_ix2 j⟩
    exact doeT_at _ _ (doT_at _ _ (H c).wa _ _ (dyT_at _ _ _ _ _ _ (H c).dx (H c).ga (H c).wo)) r l
  · show dlT (doT (dyT (m ((c.tc : Thread nD τ).loc main_arg7)) (m ((c.tc : Thread nD τ).loc main_arg6)) (m ((c.tc : Thread nD τ).loc main_arg2))) (m ((c.tc : Thread nD τ).loc main_arg4))) (m ((c.tc : Thread nD τ).loc main_arg0)) = dlArr (n c)
    refine funext fun (j : S4096x1024.Idx) => ?_
    obtain ⟨r, l, rfl⟩ : ∃ (r : Fin 4096) (l : Fin 1024), j = ix2 r l := ⟨j 0, j 1, ValueIdx.eq_ix2 j⟩
    exact dlT_at _ _ _ _ (H c).oa (doT_at _ _ (H c).wa _ _ (dyT_at _ _ _ _ _ _ (H c).dx (H c).ga (H c).wo)) r l
  · show doT (dyT (m ((c.tc : Thread nD τ).loc main_arg7)) (m ((c.tc : Thread nD τ).loc main_arg6)) (m ((c.tc : Thread nD τ).loc main_arg3))) (m ((c.tc : Thread nD τ).loc main_arg5)) = dobArr (n c)
    refine funext fun (j : S4096x512.Idx) => ?_
    obtain ⟨r, l, rfl⟩ : ∃ (r : Fin 4096) (l : Fin 512), j = ix2 r l := ⟨j 0, j 1, ValueIdx.eq_ix2 j⟩
    exact doT_at _ _ (H c).wb _ _ (dyT_at _ _ _ _ _ _ (H c).dx (H c).gb (H c).wo) r l

end RefRun
end Ref

/-- Finite arguments are real arrays. -/
theorem reals [Cert.Pre_mix_out_finite.Facts] (oa ob : FVec Ideal ⟨2, ![4096, 512]⟩ .f32) (ga gb : FVec Ideal ⟨2, ![4096, 1024]⟩ .f32) (wa wb : FVec Ideal ⟨2, ![512, 1024]⟩ .f32)
    (wo : FVec Ideal ⟨2, ![1024, 1024]⟩ .f32) (dx : FVec Ideal ⟨2, ![4096, 1024]⟩ .f32)
    (h : (Cert.Pre_mix_out_finite.fn (F := Ideal) oa ob ga gb wa wb wo dx).1 = (fun _ => 1#1)
      ∧ (Cert.Pre_mix_out_finite.fn (F := Ideal) oa ob ga gb wa wb wo dx).2.1 = (fun _ => 1#1)
      ∧ (Cert.Pre_mix_out_finite.fn (F := Ideal) oa ob ga gb wa wb wo dx).2.2.1 = (fun _ => 1#1)
      ∧ (Cert.Pre_mix_out_finite.fn (F := Ideal) oa ob ga gb wa wb wo dx).2.2.2.1 = (fun _ => 1#1)
      ∧ (Cert.Pre_mix_out_finite.fn (F := Ideal) oa ob ga gb wa wb wo dx).2.2.2.2.1 = (fun _ => 1#1)
      ∧ (Cert.Pre_mix_out_finite.fn (F := Ideal) oa ob ga gb wa wb wo dx).2.2.2.2.2.1 = (fun _ => 1#1)
      ∧ (Cert.Pre_mix_out_finite.fn (F := Ideal) oa ob ga gb wa wb wo dx).2.2.2.2.2.2.1 = (fun _ => 1#1)
      ∧ (Cert.Pre_mix_out_finite.fn (F := Ideal) oa ob ga gb wa wb wo dx).2.2.2.2.2.2.2 = (fun _ => 1#1)) :
    ∃ n : Nums, Holds oa ob ga gb wa wb wo dx n := by
  obtain ⟨X0, h0⟩ := reals_of_test _ oa h.1
  obtain ⟨X1, h1⟩ := reals_of_test _ ob h.2.1
  obtain ⟨X2, h2⟩ := reals_of_test _ ga h.2.2.1
  obtain ⟨X3, h3⟩ := reals_of_test _ gb h.2.2.2.1
  obtain ⟨X4, h4⟩ := reals_of_test _ wa h.2.2.2.2.1
  obtain ⟨X5, h5⟩ := reals_of_test _ wb h.2.2.2.2.2.1
  obtain ⟨X6, h6⟩ := reals_of_test _ wo h.2.2.2.2.2.2.1
  obtain ⟨X7, h7⟩ := reals_of_test _ dx h.2.2.2.2.2.2.2
  exact ⟨⟨fun r k => X0 (ix2 r k), fun r k => X1 (ix2 r k), fun r k => X2 (ix2 r k), fun r k => X3 (ix2 r k), fun r k => X4 (ix2 r k), fun r k => X5 (ix2 r k), fun r k => X6 (ix2 r k), fun r k => X7 (ix2 r k)⟩, fun _ _ => by rw [h0], fun _ _ => by rw [h1], fun _ _ => by rw [h2], fun _ _ => by rw [h3], fun _ _ => by rw [h4], fun _ _ => by rw [h5], fun _ _ => by rw [h6], fun _ _ => by rw [h7]⟩

end Cert.MixOut
end
-- ==== Proof.QkFwdRun.lean ====
/-
  The head norms and the rotary embedding, forward: the kernel's results are `qeArr`, `kArr`, `vArr` and `vsArr`.
-/
module

public import proofs.«01_k».proof.Proof.QkFwdPay
public import proofs.«01_k».proof.Proof.MixOut
public import proofs.«01_k».proof.Proof.Gen.QkFwdKernelIdeal.Value
public import Idealize.ShloMosaic.Lib.Pipeline.ValueKit

@[expose] public section

set_option maxRecDepth 16384

noncomputable section

namespace Cert.QkFwd

open Idealize.ShloMosaic Idealize.ShloMosaic.TcCoe Idealize.ShloMosaic.StableHlo Idealize.SL.Sem
open Cert.RealNum
open Cert.Qk (cq ck ckv half dbl sgn same swapped cs sn cos2T cos2T_at sin2T sin2T_at gqT gqT_at gkT gkT_at sumT sumT_at swapT swapT_at col_k head_div col_mod)
open Cert.MixOut (placed placedT placedT_at wideRow)

/-! ## The results, as arrays over the reals -/

/-- The arguments as real arrays. -/
structure Nums where
  x : Fin 4096 → Fin 768 → ℝ
  gq : Fin 64 → ℝ
  gk : Fin 64 → ℝ

/-- The arrays that hold these numbers. -/
structure Holds (x : FVec Ideal ⟨2, ![4096, 768]⟩ .f32) (gq gk : FVec Ideal ⟨2, ![1, 64]⟩ .f32) (n : Nums) : Prop where
  x : ∀ r k, x (ix2 r k) = ((n.x r k : ℝ) : EReal)
  gq : ∀ k, gq (ix2 0 k) = ((n.gq k : ℝ) : EReal)
  gk : ∀ k, gk (ix2 0 k) = ((n.gk k : ℝ) : EReal)

namespace Nums
variable (n : Nums) (r : Fin 4096)

/-- A head of a row of the queries and of the keys, and a row of the values. -/
def xq (h : Fin 8) (k : Fin 64) : ℝ := n.x r ⟨h.val * 64 + k.val, by omega⟩
def xk (h : Fin 2) (k : Fin 64) : ℝ := n.x r ⟨512 + (h.val * 64 + k.val), by omega⟩
def xv (l : Fin 128) : ℝ := n.x r ⟨640 + l.val, by omega⟩

/-- The heads normed and rotated. -/
def zq (h : Fin 8) : Fin 64 → ℝ := spin (normed (n.xq r h) n.gq) (cs r) (sn r)
def zk (h : Fin 2) : Fin 64 → ℝ := spin (normed (n.xk r h) n.gk) (cs r) (sn r)
end Nums

def qeArr (n : Nums) : FVec Ideal ⟨2, ![4096, 1024]⟩ .bf16 := fun j => ((wideRow (scaled (n.zq (j 0))) (j 1) : ℝ) : EReal)
def kArr (n : Nums) : FVec Ideal ⟨2, ![4096, 128]⟩ .bf16 := fun j =>
  let l : Fin 128 := j 1
  ((n.zk (j 0) ⟨l.val / 64, by omega⟩ ⟨l.val % 64, by omega⟩ : ℝ) : EReal)
def vArr (n : Nums) : FVec Ideal ⟨2, ![4096, 128]⟩ .bf16 := fun j => ((n.xv (j 0) (j 1) : ℝ) : EReal)
def vsArr (n : Nums) : FVec Ideal ⟨2, ![4096, 128]⟩ .bf16 := fun j => ((n.xv (j 0) (other (j 1)) : ℝ) : EReal)

theorem kArr_at (n : Nums) (r : Fin 4096) (h : Fin 2) (k : Fin 64) : kArr n (ix2 r (ck h k)) = ((n.zk r h k : ℝ) : EReal) := by
  show ((n.zk r ⟨(h.val * 64 + k.val) / 64, by omega⟩ ⟨(h.val * 64 + k.val) % 64, by omega⟩ : ℝ) : EReal) = _
  rw [col_mod h.val k, head_div h k]

section Run
open Cert.QkFwdKernelIdeal Cert.QkFwdKernelIdeal.Gen

/-! ## The 0/1 matrix of the exchanged halves -/

def flippedT : FVec Ideal S128x128 .bf16 :=
  truncf .bf16 (select (cmpi .eq (iotaInDim S128x128 32 1) (Host.remsi (addi (iotaInDim S128x128 32 0) (broadcastInDim S128x128 ![] bcast_S_S128x128 (constantI S_ 32 64#32)))
      (broadcastInDim S128x128 ![] bcast_S_S128x128 (constantI S_ 32 128#32))))
    (broadcastInDim S128x128 ![] bcast_S_S128x128 (constant S_ .f32 0x3F800000#32) : FVec Ideal S128x128 .f32)
    (broadcastInDim S128x128 ![] bcast_S_S128x128 (constant S_ .f32 0x00000000#32))) bitsLt_bf16_f32

theorem other_word : ∀ k : Fin 128, IntOp.remsi .host (IntOp.addi (BitVec.ofNat 32 k.val) 64#32) 128#32 = BitVec.ofNat 32 ((k.val + 64) % 128) := by decide +kernel

theorem flippedT_at (k l : Fin 128) : flippedT (ix2 k l) = ((flipped k l : ℝ) : EReal) := by
  pointwise [flippedT]
  rw [other_word, pick _ _ (by omega) (by omega)]
  unfold flipped
  simp only [Fin.ext_iff]

variable (m : (ℓ : Loc nD τ sig) → Buf (Elt Ideal) ℓ) (c : Dev nD)

theorem idx : ∀ t : Fin cfg0.N, (win0_0.index t = ![t.val, 0] ∧ win0_1.index t = ![t.val, 2] ∧ win0_2.index t = ![0, 0] ∧ win0_3.index t = ![0, 0]
    ∧ win0_4.index t = ![t.val, 0] ∧ win0_5.index t = ![t.val, 0] ∧ win0_6.index t = ![0, 0]) ∧ win0_7.index t = ![0, 0] ∧ win0_8.index t = ![0, 0]
    ∧ win0_9.index t = ![0, 0] ∧ win0_10.index t = ![t.val, 0] ∧ win0_11.index t = ![t.val, 0] ∧ win0_12.index t = ![t.val, 0] ∧ win0_13.index t = ![t.val, 0] :=
  (by decide +kernel : ∀ t : Fin grid0.N, _)

/-- The row of the arrays a tile's row `r` is at point `p`. -/
abbrev row (p : Fin cfg0.N) (r : Fin 512) : Fin 4096 := ⟨p.val * 512 + r.val, by have := p.isLt; have h : cfg0.N = 8 := N_0; omega⟩

variable (n : Nums) (H : Holds (m ((c : Thread nD τ).loc main_arg0)) (m ((c : Thread nD τ).loc main_arg1)) (m ((c : Thread nD τ).loc main_arg2)) n)

/-! The blocks of the arguments, from the buffers that the host operations leave. -/

include H in
theorem blk0 (p : Fin cfg0.N) (r : Fin 512) (h : Fin 8) (k : Fin 64) : (X0_0 m c p : FVec Ideal S512x512 .f32) (ix2 r (cq h k)) = ((n.xq (row p r) h k : ℝ) : EReal) := by
  unfold Nums.xq
  rw [← H.x, ← V_main_arg0 m c]
  unfold X0_0 Pipeline.Window.fill
  rw [dif_pos (moved0_0 p _)]
  blk_point [iblk, idx p]

include H in
theorem blk1 (p : Fin cfg0.N) (r : Fin 512) (h : Fin 2) (k : Fin 64) : (iblk m c 1 p : FVec Ideal S512x256 .f32) (ix2 r (ckv h k)) = ((n.xk (row p r) h k : ℝ) : EReal) := by
  unfold Nums.xk
  rw [← H.x, ← V_main_arg0 m c]
  blk_point [iblk, idx p]

include H in
theorem blk1v (p : Fin cfg0.N) (r : Fin 512) (l : Fin 128) : (iblk m c 1 p : FVec Ideal S512x256 .f32) (ix2 r ⟨128 + l.val, by omega⟩) = ((n.xv (row p r) l : ℝ) : EReal) := by
  unfold Nums.xv
  rw [← H.x, ← V_main_arg0 m c]
  blk_point [iblk, idx p]

include H in
theorem blk2 (p : Fin cfg0.N) (h : Fin 8) (k : Fin 64) : (iblk m c 2 p : FVec Ideal S1x512 .f32) (ix2 0 (cq h k)) = ((n.gq k : ℝ) : EReal) := by
  have e : V m c main_v37 = gqT (m ((c : Thread nD τ).loc main_arg1)) := by
    unfold V
    simp only [List.flatten_cons, List.flatten_nil, List.append_nil, List.cons_append, List.nil_append]
    after_results_simp <;> rfl
  rw [← H.gq, ← gqT_at (m ((c : Thread nD τ).loc main_arg1)) h k, ← e]
  blk_point [iblk, idx p]

include H in
theorem blk3 (p : Fin cfg0.N) (h : Fin 2) (k : Fin 64) : (iblk m c 3 p : FVec Ideal S1x128 .f32) (ix2 0 (ck h k)) = ((n.gk k : ℝ) : EReal) := by
  have e : V m c main_v40 = gkT (m ((c : Thread nD τ).loc main_arg2)) := by
    unfold V
    simp only [List.flatten_cons, List.flatten_nil, List.append_nil, List.cons_append, List.nil_append]
    after_results_simp <;> rfl
  rw [← H.gk, ← gkT_at (m ((c : Thread nD τ).loc main_arg2)) h k, ← e]
  blk_point [iblk, idx p]

theorem blk4 (p : Fin cfg0.N) (r : Fin 512) (h : Fin 2) (k : Fin 64) : (iblk m c 4 p : FVec Ideal S512x128 .f32) (ix2 r (ck h k)) = ((dbl (cs (row p r)) k : ℝ) : EReal) := by
  have e : V m c main_v31 = cos2T := by
    unfold V
    simp only [List.flatten_cons, List.flatten_nil, List.append_nil, List.cons_append, List.nil_append]
    after_results_simp <;> rfl
  rw [← cos2T_at _ h k, ← e]
  blk_point [iblk, idx p]

theorem blk5 (p : Fin cfg0.N) (r : Fin 512) (h : Fin 2) (k : Fin 64) : (iblk m c 5 p : FVec Ideal S512x128 .f32) (ix2 r (ck h k)) = ((sgn (sn (row p r)) k : ℝ) : EReal) := by
  have e : V m c main_v34 = sin2T := by
    unfold V
    simp only [List.flatten_cons, List.flatten_nil, List.append_nil, List.cons_append, List.nil_append]
    after_results_simp <;> rfl
  rw [← sin2T_at _ h k, ← e]
  blk_point [iblk, idx p]

theorem blk6 (p : Fin cfg0.N) (h' : Fin 8) (k' : Fin 64) (h : Fin 8) (k : Fin 64) : (iblk m c 6 p : FVec Ideal S512x512 .bf16) (ix2 (cq h' k') (cq h k)) = ((same h' h : ℝ) : EReal) := by
  have e : V m c main_v49 = sumT := by
    unfold V
    simp only [List.flatten_cons, List.flatten_nil, List.append_nil, List.cons_append, List.nil_append]
    after_results_simp <;> rfl
  rw [← sumT_at h' k' h k, ← e]
  blk_point [iblk, idx p]

theorem blk7 (p : Fin cfg0.N) (h' : Fin 8) (k' : Fin 64) (h : Fin 8) (k : Fin 64) : (iblk m c 7 p : FVec Ideal S512x512 .bf16) (ix2 (cq h' k') (cq h k)) = ((swapped h' k' h k : ℝ) : EReal) := by
  have e : V m c main_v63 = swapT := by
    unfold V
    simp only [List.flatten_cons, List.flatten_nil, List.append_nil, List.cons_append, List.nil_append]
    after_results_simp <;> rfl
  rw [← swapT_at h' k' h k, ← e]
  blk_point [iblk, idx p]

theorem blk8 (p : Fin cfg0.N) (k : Fin 512) (l : Fin 1024) : (iblk m c 8 p : FVec Ideal S512x1024 .bf16) (ix2 k l) = ((placed k l : ℝ) : EReal) := by
  have e : V m c main_v80 = placedT := by
    unfold V
    simp only [List.flatten_cons, List.flatten_nil, List.append_nil, List.cons_append, List.nil_append]
    after_results_simp <;> rfl
  have h : (V m c main_v80 : FVec Ideal S512x1024 .bf16) (ix2 k l) = ((placed k l : ℝ) : EReal) := by rw [e, placedT_at]
  rw [← h]
  blk_point [iblk, idx p]

theorem blk9 (p : Fin cfg0.N) (k l : Fin 128) : (iblk m c 9 p : FVec Ideal S128x128 .bf16) (ix2 k l) = ((flipped k l : ℝ) : EReal) := by
  have e : V m c main_v89 = flippedT := by
    unfold V
    simp only [List.flatten_cons, List.flatten_nil, List.append_nil, List.cons_append, List.nil_append]
    after_results_simp <;> rfl
  have h : (V m c main_v89 : FVec Ideal S128x128 .bf16) (ix2 k l) = ((flipped k l : ℝ) : EReal) := by rw [e, flippedT_at]
  rw [← h]
  blk_point [iblk, idx p]

/-! Each output at a point, and the array that its blocks make up. -/

include H in
theorem point10 (t : Fin cfg0.N) (r : Fin 512) (l : Fin 1024) :
    ((outsAt0 m c t).1 : FVec Ideal S512x1024 .bf16) (ix2 r l) = ((wideRow (scaled (n.zq (row t r))) l : ℝ) : EReal) := by
  unfold outsAt0
  frame_out
  exact qe_at _ (fun r => n.zq (row t r)) (zq_at _ _ (blk6 m c t) (blk7 m c t) _ _ (fun r => cs (row t r)) (fun r => sn (row t r)) (blk4 m c t) (blk5 m c t) _
    (fun r => n.xq (row t r)) (blk0 m c n H t) _ n.gq (blk2 m c n H t)) _ (blk8 m c t) r l

include H in
theorem final10 : (dats m 0 c).arrAt 10 (cfgs 0).N = qeArr n := by
  refine (dats m 0 c).arrAt_eq_of_covers 10 _ (by decide +kernel) fun t _ y => ?_
  blk_simp
  rw [after0_10]
  obtain ⟨r, l, rfl⟩ : ∃ (r : Fin 512) (l : Fin 1024), y = ix2 r l := ⟨y 0, y 1, ValueIdx.eq_ix2 y⟩
  refine (point10 m c n H t r l).trans ?_
  show qeArr n (ix2 (row t r) l) = _
  blk_ext [idx t]

include H in
theorem point11 (t : Fin cfg0.N) (r : Fin 512) (l : Fin 128) : ((outsAt0 m c t).2.1 : FVec Ideal S512x128 .bf16) (ix2 r l) = kArr n (ix2 (row t r) l) := by
  obtain ⟨h, k, rfl⟩ := col_k l
  rw [kArr_at]
  unfold outsAt0
  frame_out
  exact zk_at _ _ (blk6 m c t) (blk7 m c t) _ _ (fun r => cs (row t r)) (fun r => sn (row t r)) (blk4 m c t) (blk5 m c t) _
    (fun r => n.xk (row t r)) (blk1 m c n H t) _ n.gk (blk3 m c n H t) r h k

include H in
theorem final11 : (dats m 0 c).arrAt 11 (cfgs 0).N = kArr n := by
  refine (dats m 0 c).arrAt_eq_of_covers 11 _ (by decide +kernel) fun t _ y => ?_
  blk_simp
  rw [after0_11]
  obtain ⟨r, l, rfl⟩ : ∃ (r : Fin 512) (l : Fin 128), y = ix2 r l := ⟨y 0, y 1, ValueIdx.eq_ix2 y⟩
  refine (point11 m c n H t r l).trans ?_
  blk_ext [idx t]

include H in
theorem point12 (t : Fin cfg0.N) (r : Fin 512) (l : Fin 128) : ((outsAt0 m c t).2.2.1 : FVec Ideal S512x128 .bf16) (ix2 r l) = ((n.xv (row t r) l : ℝ) : EReal) := by
  unfold outsAt0
  frame_out
  exact (v_at _ r l).trans (blk1v m c n H t r l)

include H in
theorem final12 : (dats m 0 c).arrAt 12 (cfgs 0).N = vArr n := by
  refine (dats m 0 c).arrAt_eq_of_covers 12 _ (by decide +kernel) fun t _ y => ?_
  blk_simp
  rw [after0_12]
  obtain ⟨r, l, rfl⟩ : ∃ (r : Fin 512) (l : Fin 128), y = ix2 r l := ⟨y 0, y 1, ValueIdx.eq_ix2 y⟩
  refine (point12 m c n H t r l).trans ?_
  show vArr n (ix2 (row t r) l) = _
  blk_ext [idx t]

include H in
theorem point13 (t : Fin cfg0.N) (r : Fin 512) (l : Fin 128) : ((outsAt0 m c t).2.2.2 : FVec Ideal S512x128 .bf16) (ix2 r l) = ((n.xv (row t r) (other l) : ℝ) : EReal) := by
  unfold outsAt0
  frame_out
  exact vs_at _ (fun r => n.xv (row t r)) (blk1v m c n H t) _ (blk9 m c t) r l

include H in
theorem final13 : (dats m 0 c).arrAt 13 (cfgs 0).N = vsArr n := by
  refine (dats m 0 c).arrAt_eq_of_covers 13 _ (by decide +kernel) fun t _ y => ?_
  blk_simp
  rw [after0_13]
  obtain ⟨r, l, rfl⟩ : ∃ (r : Fin 512) (l : Fin 128), y = ix2 r l := ⟨y 0, y 1, ValueIdx.eq_ix2 y⟩
  refine (point13 m c n H t r l).trans ?_
  show vsArr n (ix2 (row t r) l) = _
  blk_ext [idx t]

end Run
end Cert.QkFwd
end
-- ==== Proof.QkFwd.lean ====
/-
  The head norms and the rotary embedding, forward: the reference's results are `qeArr`, `kArr`, `vArr` and `vsArr`, and both
  programs' results agree.
-/
module

public import proofs.«01_k».proof.Defs
public import proofs.«01_k».proof.Proof.QkFwdRun
public import proofs.«01_k».proof.Proof.MixOut
public import proofs.«01_k».proof.Proof.Gen.QkFwdReferenceIdeal.Run
public import proofs.«01_k».proof.Proof.Gen.QkFwdKernel.Frame
public import proofs.«01_k».proof.Proof.Gen.Pre_qk_fwd_finite
public import Idealize.ShloMosaic.Lib.Pipeline.ValueKit

@[expose] public section

set_option maxRecDepth 16384

noncomputable section

namespace Cert.QkFwd

open Idealize.ShloMosaic Idealize.ShloMosaic.TcCoe Idealize.ShloMosaic.StableHlo Idealize.SL.Sem
open Cert.RealNum
open Cert.Qk (cq ck half dbl sgn cs sn cosT cosT_at sinT sinT_at ofBits_64 col_k head_div col_mod)
open Cert.MixOut (wideRow)

namespace Ref
open Cert.QkFwdReferenceIdeal Cert.QkFwdReferenceIdeal.Gen

/-- The rotation as two cases over the halves. -/
theorem spin_cases (y : Fin 64 → ℝ) (c s : Fin 32 → ℝ) (k : Fin 64) :
    (if h : k.val < 32 then y ⟨k.val, k.isLt⟩ * c ⟨k.val, h⟩ - y ⟨32 + k.val, by omega⟩ * s ⟨k.val, h⟩
      else y ⟨32 + (k.val - 32), by omega⟩ * c ⟨k.val - 32, by omega⟩ + y ⟨k.val - 32, by omega⟩ * s ⟨k.val - 32, by omega⟩) = spin y c s k := by
  unfold spin dbl sgn half
  split_ifs with h
  · rw [show (⟨k.val + 32, by omega⟩ : Fin 64) = ⟨32 + k.val, by omega⟩ from Fin.ext (Nat.add_comm _ _)]
    ring
  · rw [show (⟨32 + (k.val - 32), by omega⟩ : Fin 64) = k from Fin.ext (by show 32 + (k.val - 32) = k.val; omega)]

variable (x : FVec Ideal S4096x768 .f32) (gq gk : FVec Ideal S1x64 .f32) (n : Nums) (H : Holds x gq gk n)

/-- A table beside one head. -/
def tabT (a : FVec Ideal S4096x32 .f32) : FVec Ideal S4096x1x32 .f32 := broadcastInDim S4096x1x32 ![0, 2] bcast_S4096x32_S4096x1x32_0_2 a

theorem tabT_at (a : FVec Ideal S4096x32 .f32) (r : Fin 4096) (k : Fin 32) : tabT a (ix3 r 0 k) = a (ix2 r k) := by
  pointwise [tabT]

/-! ## The queries -/

def xqT : FVec Ideal S4096x8x64 .f32 := shapeCast _ (extractStridedSlice S4096x512 ![0, 0] x slices_S4096x768_S4096x512_0_0) shapeCasts_S4096x512_S4096x8x64

def rqT (y : FVec Ideal S4096x8x64 .f32) : FVec Ideal S4096x8x1 .f32 :=
  Host.rsqrt (addf (Host.divf (broadcastInDim S4096x8x1 ![0, 1] bcast_S4096x8_S4096x8x1_0_1 (Host.reduceAdd (mulf y y) (constant S_ .f32 0x00000000#32) reducesTo_S4096x8x64_S4096x8_d2 h_S_))
    (broadcastInDim S4096x8x1 ![] bcast_S_S4096x8x1 (constant S_ .f32 0x42800000#32))) (broadcastInDim S4096x8x1 ![] bcast_S_S4096x8x1 (constant S_ .f32 0x358637BD#32)))

def nqT (y : FVec Ideal S4096x8x64 .f32) (g : FVec Ideal S1x64 .f32) : FVec Ideal S4096x8x64 .f32 :=
  mulf (mulf y (broadcastInDim S4096x8x64 ![0, 1, 2] bcast_S4096x8x1_S4096x8x64_0_1_2 (rqT y)))
    (broadcastInDim S4096x8x64 ![0, 1, 2] bcast_S1x1x64_S4096x8x64_0_1_2 (broadcastInDim S1x1x64 ![1, 2] bcast_S1x64_S1x1x64_1_2 g))

/-- One half of the columns times a table. -/
def loqT (y : FVec Ideal S4096x8x64 .f32) (a : FVec Ideal S4096x32 .f32) : FVec Ideal S4096x8x32 .f32 :=
  mulf (extractStridedSlice S4096x8x32 ![0, 0, 0] y slices_S4096x8x64_S4096x8x32_0_0_0) (broadcastInDim S4096x8x32 ![0, 1, 2] bcast_S4096x1x32_S4096x8x32_0_1_2 (tabT a))
def hiqT (y : FVec Ideal S4096x8x64 .f32) (a : FVec Ideal S4096x32 .f32) : FVec Ideal S4096x8x32 .f32 :=
  mulf (extractStridedSlice S4096x8x32 ![0, 0, 32] y slices_S4096x8x64_S4096x8x32_0_0_32) (broadcastInDim S4096x8x32 ![0, 1, 2] bcast_S4096x1x32_S4096x8x32_0_1_2 (tabT a))

def zqT (y : FVec Ideal S4096x8x64 .f32) : FVec Ideal S4096x8x64 .f32 :=
  concatenate S4096x8x64 2 [⟨S4096x8x32, subf (loqT y cosT) (hiqT y sinT)⟩, ⟨S4096x8x32, addf (hiqT y cosT) (loqT y sinT)⟩] concatenates_S4096x8x32_S4096x8x32_S4096x8x64_d2

include H in
theorem xqT_at (r : Fin 4096) (h : Fin 8) (k : Fin 64) : xqT x (ix3 r h k) = ((n.xq r h k : ℝ) : EReal) := by
  unfold Nums.xq
  rw [← H.x]
  pointwise [xqT]
  try rfl

include H in
theorem rqT_at (r : Fin 4096) (h : Fin 8) : rqT (xqT x) (ix3 r h 0) = ((rn 64 (n.xq r h) : ℝ) : EReal) := by
  pointwise [rqT]
  simp (disch := norm_num) only [xqT_at x gq gk n H, ofBits_64, ofBits_eps, ← EReal.coe_mul, ← EReal.coe_add, sum_coe, div_ne, ms_fold]
  rw [rsqrt_ms (by norm_num)]

include H in
theorem nqT_at (r : Fin 4096) (h : Fin 8) (k : Fin 64) : nqT (xqT x) gq (ix3 r h k) = ((normed (n.xq r h) n.gq k : ℝ) : EReal) := by
  pointwise [nqT]
  rw [xqT_at x gq gk n H, rqT_at x gq gk n H, H.gq, ← EReal.coe_mul, ← EReal.coe_mul]
  rfl

include H in
theorem zqT_at (r : Fin 4096) (h : Fin 8) (k : Fin 64) : zqT (nqT (xqT x) gq) (ix3 r h k) = ((n.zq r h k : ℝ) : EReal) := by
  pointwise [zqT, loqT, hiqT, tabT]
  simp only [nqT_at x gq gk n H, cosT_at, sinT_at, ← EReal.coe_mul, ← EReal.coe_add, ← EReal.coe_sub]
  unfold Nums.zq
  rw [← spin_cases]
  split_ifs <;> rfl

/-! ## The keys -/

def xkT : FVec Ideal S4096x2x64 .f32 := shapeCast _ (extractStridedSlice S4096x128 ![0, 512] x slices_S4096x768_S4096x128_0_512) shapeCasts_S4096x128_S4096x2x64

def rkT (y : FVec Ideal S4096x2x64 .f32) : FVec Ideal S4096x2x1 .f32 :=
  Host.rsqrt (addf (Host.divf (broadcastInDim S4096x2x1 ![0, 1] bcast_S4096x2_S4096x2x1_0_1 (Host.reduceAdd (mulf y y) (constant S_ .f32 0x00000000#32) reducesTo_S4096x2x64_S4096x2_d2 h_S_))
    (broadcastInDim S4096x2x1 ![] bcast_S_S4096x2x1 (constant S_ .f32 0x42800000#32))) (broadcastInDim S4096x2x1 ![] bcast_S_S4096x2x1 (constant S_ .f32 0x358637BD#32)))

def nkT (y : FVec Ideal S4096x2x64 .f32) (g : FVec Ideal S1x64 .f32) : FVec Ideal S4096x2x64 .f32 :=
  mulf (mulf y (broadcastInDim S4096x2x64 ![0, 1, 2] bcast_S4096x2x1_S4096x2x64_0_1_2 (rkT y)))
    (broadcastInDim S4096x2x64 ![0, 1, 2] bcast_S1x1x64_S4096x2x64_0_1_2 (broadcastInDim S1x1x64 ![1, 2] bcast_S1x64_S1x1x64_1_2 g))

/-- One half of the columns times a table. -/
def lokT (y : FVec Ideal S4096x2x64 .f32) (a : FVec Ideal S4096x32 .f32) : FVec Ideal S4096x2x32 .f32 :=
  mulf (extractStridedSlice S4096x2x32 ![0, 0, 0] y slices_S4096x2x64_S4096x2x32_0_0_0) (broadcastInDim S4096x2x32 ![0, 1, 2] bcast_S4096x1x32_S4096x2x32_0_1_2 (tabT a))
def hikT (y : FVec Ideal S4096x2x64 .f32) (a : FVec Ideal S4096x32 .f32) : FVec Ideal S4096x2x32 .f32 :=
  mulf (extractStridedSlice S4096x2x32 ![0, 0, 32] y slices_S4096x2x64_S4096x2x32_0_0_32) (broadcastInDim S4096x2x32 ![0, 1, 2] bcast_S4096x1x32_S4096x2x32_0_1_2 (tabT a))

def zkT (y : FVec Ideal S4096x2x64 .f32) : FVec Ideal S4096x2x64 .f32 :=
  concatenate S4096x2x64 2 [⟨S4096x2x32, subf (lokT y cosT) (hikT y sinT)⟩, ⟨S4096x2x32, addf (hikT y cosT) (lokT y sinT)⟩] concatenates_S4096x2x32_S4096x2x32_S4096x2x64_d2

include H in
theorem xkT_at (r : Fin 4096) (h : Fin 2) (k : Fin 64) : xkT x (ix3 r h k) = ((n.xk r h k : ℝ) : EReal) := by
  unfold Nums.xk
  rw [← H.x]
  pointwise [xkT]
  try rfl

include H in
theorem rkT_at (r : Fin 4096) (h : Fin 2) : rkT (xkT x) (ix3 r h 0) = ((rn 64 (n.xk r h) : ℝ) : EReal) := by
  pointwise [rkT]
  simp (disch := norm_num) only [xkT_at x gq gk n H, ofBits_64, ofBits_eps, ← EReal.coe_mul, ← EReal.coe_add, sum_coe, div_ne, ms_fold]
  rw [rsqrt_ms (by norm_num)]

include H in
theorem nkT_at (r : Fin 4096) (h : Fin 2) (k : Fin 64) : nkT (xkT x) gk (ix3 r h k) = ((normed (n.xk r h) n.gk k : ℝ) : EReal) := by
  pointwise [nkT]
  rw [xkT_at x gq gk n H, rkT_at x gq gk n H, H.gk, ← EReal.coe_mul, ← EReal.coe_mul]
  rfl

include H in
theorem zkT_at (r : Fin 4096) (h : Fin 2) (k : Fin 64) : zkT (nkT (xkT x) gk) (ix3 r h k) = ((n.zk r h k : ℝ) : EReal) := by
  pointwise [zkT, lokT, hikT, tabT]
  simp only [nkT_at x gq gk n H, cosT_at, sinT_at, ← EReal.coe_mul, ← EReal.coe_add, ← EReal.coe_sub]
  unfold Nums.zk
  rw [← spin_cases]
  split_ifs <;> rfl

/-! ## The results -/

/-- The queries' heads scaled, side by side. -/
def sqT (z : FVec Ideal S4096x8x64 .f32) : FVec Ideal S4096x512 .f32 :=
  shapeCast _ (mulf z (broadcastInDim S4096x8x64 ![] bcast_S_S4096x8x64 (constant S_ .f32 0x3E000000#32))) shapeCasts_S4096x8x64_S4096x512

theorem sqT_at (z : FVec Ideal S4096x8x64 .f32) (Z : Fin 4096 → Fin 8 → Fin 64 → ℝ) (hz : ∀ r h k, z (ix3 r h k) = ((Z r h k : ℝ) : EReal)) (r : Fin 4096) (l : Fin 512) :
    sqT z (ix2 r l) = ((scaled (Z r) l : ℝ) : EReal) := by
  pointwise [sqT]
  rw [hz, ofBits_eighth, ← EReal.coe_mul]
  rfl

include H in
theorem qe_eq : Cert.MixOut.doeT (sqT (zqT (nqT (xqT x) gq))) = qeArr n := by
  refine funext fun (j : S4096x1024.Idx) => ?_
  obtain ⟨r, l, rfl⟩ : ∃ (r : Fin 4096) (l : Fin 1024), j = ix2 r l := ⟨j 0, j 1, ValueIdx.eq_ix2 j⟩
  exact Cert.MixOut.doeT_at _ _ (sqT_at _ n.zq (zqT_at x gq gk n H)) r l

def kT (z : FVec Ideal S4096x2x64 .f32) : FVec Ideal S4096x128 .bf16 := truncf .bf16 (shapeCast _ z shapeCasts_S4096x2x64_S4096x128 : FVec Ideal S4096x128 .f32) bitsLt_bf16_f32

include H in
theorem k_eq : kT (zkT (nkT (xkT x) gk)) = kArr n := by
  refine funext fun (j : S4096x128.Idx) => ?_
  obtain ⟨r, l, rfl⟩ : ∃ (r : Fin 4096) (l : Fin 128), j = ix2 r l := ⟨j 0, j 1, ValueIdx.eq_ix2 j⟩
  obtain ⟨h, k, rfl⟩ := col_k l
  rw [kArr_at, ← zkT_at x gq gk n H]
  pointwise [kT]
  rw [col_mod h.val k, head_div h k]

def vT : FVec Ideal S4096x128 .f32 := extractStridedSlice S4096x128 ![0, 640] x slices_S4096x768_S4096x128_0_640

include H in
theorem vT_at (r : Fin 4096) (l : Fin 128) : vT x (ix2 r l) = ((n.xv r l : ℝ) : EReal) := by
  unfold Nums.xv
  rw [← H.x]
  pointwise [vT]

include H in
theorem v_eq : (truncf .bf16 (vT x) bitsLt_bf16_f32 : FVec Ideal S4096x128 .bf16) = vArr n := by
  refine funext fun (j : S4096x128.Idx) => ?_
  obtain ⟨r, l, rfl⟩ : ∃ (r : Fin 4096) (l : Fin 128), j = ix2 r l := ⟨j 0, j 1, ValueIdx.eq_ix2 j⟩
  exact vT_at x gq gk n H r l

/-- The values' halves exchanged. -/
def vsT (v : FVec Ideal S4096x128 .f32) : FVec Ideal S4096x128 .bf16 :=
  truncf .bf16 (concatenate S4096x128 1 [⟨S4096x64, extractStridedSlice S4096x64 ![0, 64] v slices_S4096x128_S4096x64_0_64⟩,
    ⟨S4096x64, extractStridedSlice S4096x64 ![0, 0] v slices_S4096x128_S4096x64_0_0⟩] concatenates_S4096x64_S4096x64_S4096x128_d1 : FVec Ideal S4096x128 .f32) bitsLt_bf16_f32

include H in
theorem vs_eq : vsT (vT x) = vsArr n := by
  refine funext fun (j : S4096x128.Idx) => ?_
  obtain ⟨r, l, rfl⟩ : ∃ (r : Fin 4096) (l : Fin 128), j = ix2 r l := ⟨j 0, j 1, ValueIdx.eq_ix2 j⟩
  show _ = ((n.xv r (other l) : ℝ) : EReal)
  pointwise [vsT]
  simp only [vT_at x gq gk n H]
  split_ifs with h
  · exact congrArg (fun q => ((n.xv r q : ℝ) : EReal)) (Fin.ext (by show 64 + l.val = (l.val + 64) % 128; omega))
  all_goals first
    | exact congrArg (fun q => ((n.xv r q : ℝ) : EReal)) (Fin.ext (by show l.val - 64 = (l.val + 64) % 128; omega))
    | exact absurd rfl ‹_›

/-- The reference's frame: the arguments unchanged, and no semaphore. -/
theorem frame : Cert.quiescent_QkFwdReferenceIdeal := fun m ρ _ =>
  (θ_run Cert.QkFwdReferenceIdeal.defs _ _).mono (fun r h => ⟨fun c => (h c).2.2.2.2, sem_eq_zero_of_no_sems (by decide) r.2⟩)
    (Cert.QkFwdReferenceIdeal.Value.run (F := Ideal) m ρ)

section RefRun
variable (m : (ℓ : Loc nD τ sig) → Buf (Elt Ideal) ℓ) (c : Dev nD)

theorem res_qe : Value.res_main_v102 m c = Cert.MixOut.doeT (sqT (zqT (nqT (xqT (m ((c.tc : Thread nD τ).loc main_arg0))) (m ((c.tc : Thread nD τ).loc main_arg1))))) := by
  unfold Value.res_main_v102
  rfl

theorem res_k : Value.res_main_v103 m c = kT (zkT (nkT (xkT (m ((c.tc : Thread nD τ).loc main_arg0))) (m ((c.tc : Thread nD τ).loc main_arg2)))) := by
  unfold Value.res_main_v103
  rfl
end RefRun
end Ref

/-- Finite arguments are real arrays. -/
theorem reals [Cert.Pre_qk_fwd_finite.Facts] (x : FVec Ideal ⟨2, ![4096, 768]⟩ .f32) (gq gk : FVec Ideal ⟨2, ![1, 64]⟩ .f32)
    (h : (Cert.Pre_qk_fwd_finite.fn (F := Ideal) x gq gk).1 = (fun _ => 1#1)
      ∧ (Cert.Pre_qk_fwd_finite.fn (F := Ideal) x gq gk).2.1 = (fun _ => 1#1)
      ∧ (Cert.Pre_qk_fwd_finite.fn (F := Ideal) x gq gk).2.2 = (fun _ => 1#1)) :
    ∃ n : Nums, Holds x gq gk n := by
  obtain ⟨X0, h0⟩ := reals_of_test _ x h.1
  obtain ⟨X1, h1⟩ := reals_of_test _ gq h.2.1
  obtain ⟨X2, h2⟩ := reals_of_test _ gk h.2.2
  exact ⟨⟨fun r k => X0 (ix2 r k), fun k => X1 (ix2 0 k), fun k => X2 (ix2 0 k)⟩, fun _ _ => by rw [h0], fun _ => by rw [h1], fun _ => by rw [h2]⟩

/-- The head norms and the rotary embedding: both programs leave the same four arrays. -/
theorem algebraic : Cert.algebraic_QkFwdKernelIdeal_QkFwdReferenceIdeal_pre_qk_fwd_finite := by
  intro m g m' g' hpre hargs
  choose n H using fun c => reals _ _ _ (hpre c)
  refine ⟨fun c => qeArr (n c), fun c => kArr (n c), fun c => vArr (n c), fun c => vsArr (n c), ?_, ?_⟩
  · refine (θ_run Cert.QkFwdKernelIdeal.defs _ _).mono (fun r h c => ?_) (Cert.QkFwdKernelIdeal.Value.run_blocks (F := Ideal) m g)
    obtain ⟨h0, h1, h2, h3, h4⟩ := h c
    exact ⟨h0.trans (final10 m c _ (H c)), h1.trans (final11 m c _ (H c)), h2.trans (final12 m c _ (H c)), h3.trans (final13 m c _ (H c)), h4⟩
  · refine (θ_run Cert.QkFwdReferenceIdeal.defs _ _).mono (fun r h c => ?_) (Cert.QkFwdReferenceIdeal.Value.run (F := Ideal) m' g')
    obtain ⟨e0, e1, e2⟩ := hargs c
    have K := H c
    rw [← e0, ← e1, ← e2] at K
    obtain ⟨h0, h1, h2, h3, h4⟩ := h c
    exact ⟨h0.trans ((Ref.res_qe m' c).trans (Ref.qe_eq _ _ _ _ K)), h1.trans ((Ref.res_k m' c).trans (Ref.k_eq _ _ _ _ K)), h2.trans (Ref.v_eq _ _ _ _ K), h3.trans (Ref.vs_eq _ _ _ _ K), h4⟩

end Cert.QkFwd
end
-- ==== Proof.NormBwd.lean ====
/-
  The gradient of a normalised row, over the reals: what the mixer's and the feed-forward's backward calls compute of a
  row of the residual stream, a gain and the gradient of the norm's output.
-/
module

public import proofs.«01_k».proof.Proof.RealNum

@[expose] public section

noncomputable section

namespace Cert.NormBwd

open Idealize.ShloMosaic Cert.RealNum

/-- The gradient of the norm's input row, `h` being the gradient of its output. -/
def nbRow (x g h : Fin 1024 → ℝ) (l : Fin 1024) : ℝ :=
  rn 1024 x * (h l * g l) - x l * (rn 1024 x * rn 1024 x * rn 1024 x) * ((∑ k, h k * g k * x k) / 1024)

/-- A row's share of the gain's gradient. -/
def ngRow (x h : Fin 1024 → ℝ) (l : Fin 1024) : ℝ := h l * x l * rn 1024 x

/-- The gradient as the chain rule through the reciprocal root writes it, beside a residual `d`. -/
theorem nb_eq (x g h : Fin 1024 → ℝ) (d : ℝ) (l : Fin 1024) :
    d + h l * g l * rn 1024 x + x l * ((∑ i, x i * (h i * g i)) * (-(1 / 2) * (rn 1024 x * (rn 1024 x * rn 1024 x))) / 1024)
      + (∑ i, x i * (h i * g i)) * (-(1 / 2) * (rn 1024 x * (rn 1024 x * rn 1024 x))) / 1024 * x l = d + nbRow x g h l := by
  rw [show (∑ i, x i * (h i * g i)) = ∑ k, h k * g k * x k from Finset.sum_congr rfl fun i _ => by ring]
  unfold nbRow
  ring

end Cert.NormBwd
end
-- ==== Proof.MixInPay.lean ====
/-
  The mixer's backward call, a block of 256 tokens: the gradient of the norm's output is the seven column groups of the
  cotangent times the matching rows of the transposed weight; then the norm's gradient, and its gain's.
-/
module

public import proofs.«01_k».proof.Proof.NormBwd
public import proofs.«01_k».proof.Proof.Gen.MixInKernelIdeal.Skeleton

@[expose] public section

set_option maxRecDepth 16384

noncomputable section

namespace Cert.MixIn

open Idealize.ShloMosaic Idealize.ShloMosaic.TcCoe Idealize.SL.Sem
open Cert.RealNum Cert.NormBwd Cert.MixInKernelIdeal Cert.MixInKernelIdeal.Gen

/-- Column `k` of the group of `n` columns that starts at `off`. -/
abbrev col {n : ℕ} (off : ℕ) (h : off + n ≤ 5376) (k : Fin n) : Fin 5376 := ⟨off + k.val, by omega⟩

/-- A sum over the columns, group by group in the order of the call. -/
theorem sum_cols (f : Fin 5376 → ℝ) :
    (∑ k : Fin 768, f (col 0 (by omega) k)) + (∑ k : Fin 512, f (col 768 (by omega) k)) + (∑ k : Fin 512, f (col 1280 (by omega) k))
      + (∑ k : Fin 512, f (col 1792 (by omega) k)) + (∑ k : Fin 512, f (col 2304 (by omega) k)) + (∑ k : Fin 512, f (col 2816 (by omega) k))
      + (∑ k : Fin 2048, f (col 3328 (by omega) k)) = ∑ k, f k := by
  have e : ∀ (a b : ℕ) (h : a + b ≤ 5376), (∑ k : Fin (a + b), f ⟨k.val, by omega⟩) = (∑ k : Fin a, f ⟨k.val, by omega⟩) + ∑ k : Fin b, f (col a h k) :=
    fun a b h => Fin.sum_univ_add fun k : Fin (a + b) => f ⟨k.val, by omega⟩
  have e6 := e 3328 2048 (by omega)
  have e5 := e 2816 512 (by omega)
  have e4 := e 2304 512 (by omega)
  have e3 := e 1792 512 (by omega)
  have e2 := e 1280 512 (by omega)
  have e1 := e 768 512 (by omega)
  norm_num only at e1 e2 e3 e4 e5 e6
  rw [e6, e5, e4, e3, e2, e1]
  simp only [col, Nat.zero_add]

section Dot
variable (p0 : Vec Ideal S256x768 .bf16) (p1 p2 p3 p4 p5 : Vec Ideal S256x512 .bf16) (p6 : Vec Ideal S256x2048 .bf16)
  (w0 : Vec Ideal S768x1024 .bf16) (w1 w2 w3 w4 w5 : Vec Ideal S512x1024 .bf16) (w6 : Vec Ideal S2048x1024 .bf16)

/-- The product as the call writes it. -/
def dh : FVec Ideal S256x1024 .f32 := k0_pay6 (k0_pay4 p0 w0 p1 w1 p2 w2 p3 w3) (k0_pay5 p4) w4 p5 w5 p6 w6

variable (P : Fin 256 → Fin 5376 → ℝ) (W : Fin 1024 → Fin 5376 → ℝ)

theorem dh_at (h0 : ∀ r k, p0 (ix2 r k) = ((P r (col 0 (by omega) k) : ℝ) : EReal)) (h1 : ∀ r k, p1 (ix2 r k) = ((P r (col 768 (by omega) k) : ℝ) : EReal))
    (h2 : ∀ r k, p2 (ix2 r k) = ((P r (col 1280 (by omega) k) : ℝ) : EReal)) (h3 : ∀ r k, p3 (ix2 r k) = ((P r (col 1792 (by omega) k) : ℝ) : EReal))
    (h4 : ∀ r k, p4 (ix2 r k) = ((P r (col 2304 (by omega) k) : ℝ) : EReal)) (h5 : ∀ r k, p5 (ix2 r k) = ((P r (col 2816 (by omega) k) : ℝ) : EReal))
    (h6 : ∀ r k, p6 (ix2 r k) = ((P r (col 3328 (by omega) k) : ℝ) : EReal))
    (g0 : ∀ k l, w0 (ix2 k l) = ((W l (col 0 (by omega) k) : ℝ) : EReal)) (g1 : ∀ k l, w1 (ix2 k l) = ((W l (col 768 (by omega) k) : ℝ) : EReal))
    (g2 : ∀ k l, w2 (ix2 k l) = ((W l (col 1280 (by omega) k) : ℝ) : EReal)) (g3 : ∀ k l, w3 (ix2 k l) = ((W l (col 1792 (by omega) k) : ℝ) : EReal))
    (g4 : ∀ k l, w4 (ix2 k l) = ((W l (col 2304 (by omega) k) : ℝ) : EReal)) (g5 : ∀ k l, w5 (ix2 k l) = ((W l (col 2816 (by omega) k) : ℝ) : EReal))
    (g6 : ∀ k l, w6 (ix2 k l) = ((W l (col 3328 (by omega) k) : ℝ) : EReal)) (r : Fin 256) (l : Fin 1024) :
    dh p0 p1 p2 p3 p4 p5 p6 w0 w1 w2 w3 w4 w5 w6 (ix2 r l) = ((∑ k, P r k * W l k : ℝ) : EReal) := by
  pointwise [dh, k0_pay6, k0_pay4, k0_pay5]
  simp only [h0, h1, h2, h3, h4, h5, h6, g0, g1, g2, g3, g4, g5, g6, ← EReal.coe_mul, sum_coe, ← EReal.coe_add]
  exact congrArg _ (sum_cols fun k => P r k * W l k)

end Dot

section Norm
variable (v27 : FVec Ideal S256x1024 .f32) (v29 : FVec Ideal S256x512 .bf16) (v30 : Vec Ideal S512x1024 .bf16) (v34 : Vec Ideal S256x512 .bf16)
  (v36 : Vec Ideal S512x1024 .bf16) (v40 : Vec Ideal S256x2048 .bf16) (v42 : Vec Ideal S2048x1024 .bf16)
  (x d : Vec Ideal S256x1024 .f32) (g : Vec Ideal S1x1024 .f32)
  (X D H : Fin 256 → Fin 1024 → ℝ) (G : Fin 1024 → ℝ)
  (hh : ∀ r l, k0_pay6 v27 v29 v30 v34 v36 v40 v42 (ix2 r l) = ((H r l : ℝ) : EReal))
  (hx : ∀ r l, x (ix2 r l) = ((X r l : ℝ) : EReal)) (hd : ∀ r l, d (ix2 r l) = ((D r l : ℝ) : EReal)) (hg : ∀ l, g (ix2 0 l) = ((G l : ℝ) : EReal))
include hh hx

/-- The gradient of the residual stream. -/
theorem dx_at (hd : ∀ r l, d (ix2 r l) = ((D r l : ℝ) : EReal)) (hg : ∀ l, g (ix2 0 l) = ((G l : ℝ) : EReal)) (r : Fin 256) (l : Fin 1024) :
    k0_pay1 (k0_pay9 v27 v29 v30 v34 v36 v40 v42 x g d) (k0_pay10 x) (k0_pay11 v27 v29 v30 v34 v36 v40 v42 x g) (Scalar.ofBits .f32 0x44800000#32) (ix2 r l)
      = ((D r l + nbRow (X r) G (H r) l : ℝ) : EReal) := by
  pointwise [k0_pay1, k0_pay9, k0_pay8, k0_pay10, k0_pay11, k0_pay7]
  simp (disch := norm_num) only [hh, hx, hd, hg, ofBits_1024, ofBits_eps, ← EReal.coe_mul, ← EReal.coe_add, ← EReal.coe_sub, sum_coe, div_ne, ms_fold, rsqrt_ms]
  refine congrArg _ ?_
  unfold nbRow
  ring

/-- The gain's gradient, added to what the tokens before have left. -/
theorem dg_at (acc : Vec Ideal S1x1024 .f32) (l : Fin 1024) :
    k0_pay2 (k0_pay6 v27 v29 v30 v34 v36 v40 v42) x (k0_pay7 x) acc (ix2 0 l) = acc (ix2 0 l) + ((∑ r, ngRow (X r) (H r) l : ℝ) : EReal) := by
  pointwise [k0_pay2, k0_pay7]
  simp (disch := norm_num) only [hh, hx, ofBits_1024, ofBits_eps, ← EReal.coe_mul, ← EReal.coe_add, ← EReal.coe_sub, sum_coe, div_ne, ms_fold, rsqrt_ms]
  rfl

end Norm
end Cert.MixIn
end
-- ==== Proof.MixIn.lean ====
/-
  The mixer's norm and input projection, backward: the gradient of the residual stream and of the norm's gain, from the
  cotangents of the projection and of the residual stream. Both programs' results are `dxArr` and `dgArr`.
-/
module

public import proofs.«01_k».proof.Proof.MixInPay
public import proofs.«01_k».proof.Pre_mix_in_finite
public import proofs.«01_k».proof.Defs
public import proofs.«01_k».proof.Proof.Gen.MixInKernel.Frame
public import proofs.«01_k».proof.Proof.Gen.MixInKernelIdeal.Value
public import proofs.«01_k».proof.Proof.Gen.MixInReferenceIdeal.Run
public import Idealize.ShloMosaic.Lib.Pipeline.ValueKit

@[expose] public section

set_option maxRecDepth 16384

noncomputable section

namespace Cert.MixIn

open Idealize.ShloMosaic Idealize.ShloMosaic.TcCoe Idealize.ShloMosaic.StableHlo Idealize.SL.Sem
open Cert.RealNum Cert.NormBwd

/-- The gradient of the norm's output: the cotangent times the transposed weight. -/
def dhRow (p : Fin 5376 → ℝ) (W : Fin 1024 → Fin 5376 → ℝ) (l : Fin 1024) : ℝ := ∑ k, p k * W l k

/-- The gradient of the residual stream as an array. -/
def dxArr (X : Fin 4096 → Fin 1024 → ℝ) (G : Fin 1024 → ℝ) (W : Fin 1024 → Fin 5376 → ℝ) (D : Fin 4096 → Fin 1024 → ℝ) (P : Fin 4096 → Fin 5376 → ℝ) :
    FVec Ideal ⟨2, ![4096, 1024]⟩ .f32 :=
  fun j => ((D (j 0) (j 1) + nbRow (X (j 0)) G (dhRow (P (j 0)) W) (j 1) : ℝ) : EReal)

theorem dxArr_apply (X : Fin 4096 → Fin 1024 → ℝ) (G : Fin 1024 → ℝ) (W : Fin 1024 → Fin 5376 → ℝ) (D : Fin 4096 → Fin 1024 → ℝ) (P : Fin 4096 → Fin 5376 → ℝ)
    (r : Fin 4096) (l : Fin 1024) : dxArr X G W D P (ix2 r l) = ((D r l + nbRow (X r) G (dhRow (P r) W) l : ℝ) : EReal) := rfl

/-- The gain's gradient as an array. -/
def dgArr (X : Fin 4096 → Fin 1024 → ℝ) (W : Fin 1024 → Fin 5376 → ℝ) (P : Fin 4096 → Fin 5376 → ℝ) : FVec Ideal ⟨2, ![1, 1024]⟩ .f32 :=
  fun j => ((∑ r, ngRow (X r) (dhRow (P r) W) (j 1) : ℝ) : EReal)

section Run
open Cert.MixInKernelIdeal Cert.MixInKernelIdeal.Gen

variable (m : (ℓ : Loc nD τ sig) → Buf (Elt Ideal) ℓ) (c : Dev nD)

theorem idx : ∀ t : Fin cfg0.N, (win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0]) ∧ win0_7.index t = ![0, 0] ∧ win0_8.index t = ![t.val, 0]
    ∧ win0_9.index t = ![t.val, 0] ∧ win0_10.index t = ![0, 0] ∧ win0_11.index t = ![t.val, 0] :=
  (by decide +kernel : ∀ t : Fin grid0.N, _)

/-- The row of the arrays a tile's row `r` is at point `p`. -/
abbrev row (p : Fin cfg0.N) (r : Fin 256) : Fin 4096 := ⟨p.val * 256 + r.val, by have := p.isLt; have h : cfg0.N = 16 := N_0; omega⟩

variable (X D : Fin 4096 → Fin 1024 → ℝ) (G : Fin 1024 → ℝ) (W : Fin 1024 → Fin 5376 → ℝ) (P : Fin 4096 → Fin 5376 → ℝ)

section Blocks
variable (hx : ∀ r l, (m ((c : Thread nD τ).loc main_arg0) : FVec Ideal S4096x1024 .f32) (ix2 r l) = ((X r l : ℝ) : EReal))
  (hg : ∀ l, (m ((c : Thread nD τ).loc main_arg1) : FVec Ideal S1x1024 .f32) (ix2 0 l) = ((G l : ℝ) : EReal))
  (hw : ∀ k l, (m ((c : Thread nD τ).loc main_arg2) : FVec Ideal S1024x5376 .f32) (ix2 k l) = ((W k l : ℝ) : EReal))
  (hd : ∀ r l, (m ((c : Thread nD τ).loc main_arg3) : FVec Ideal S4096x1024 .f32) (ix2 r l) = ((D r l : ℝ) : EReal))
  (hp : ∀ r k, (m ((c : Thread nD τ).loc main_arg4) : FVec Ideal S4096x5376 .f32) (ix2 r k) = ((P r k : ℝ) : EReal))

/-! Each column group's block, from the group's buffer: a slice of the cotangent. -/

include hp in
theorem blk0 (p : Fin cfg0.N) (r : Fin 256) (k : Fin 768) : (iblk m c 0 p : FVec Ideal S256x768 .bf16) (ix2 r k) = ((P (row p r) (col 0 (by omega) k) : ℝ) : EReal) := by
  have e : (V m c main_v1 : FVec Ideal S4096x768 .bf16) = (truncf .bf16 (extractStridedSlice S4096x768 ![0, 0] (m ((c : Thread nD τ).loc main_arg4) : FVec Ideal S4096x5376 .f32) slices_S4096x5376_S4096x768_0_0 : FVec Ideal S4096x768 .f32) bitsLt_bf16_f32) := by
    show StableHlo.after hostOps0 _ _ = _
    after_results_simp <;> rfl
  have h : ∀ R : Fin 4096, (V m c main_v1 : FVec Ideal S4096x768 .bf16) (ix2 R k) = ((P R (col 0 (by omega) k) : ℝ) : EReal) := fun R => by
    rw [e, ← hp]
    pointwise
    exact congrArg (m ((c : Thread nD τ).loc main_arg4) : FVec Ideal S4096x5376 .f32) (congrArg (ix2 R) (Fin.ext (Nat.zero_add k.val).symm))
  rw [← h]
  blk_point [iblk, idx p]

include hp in
theorem blk1 (p : Fin cfg0.N) (r : Fin 256) (k : Fin 512) : (iblk m c 1 p : FVec Ideal S256x512 .bf16) (ix2 r k) = ((P (row p r) (col 768 (by omega) k) : ℝ) : EReal) := by
  have e : (V m c main_v3 : FVec Ideal S4096x512 .bf16) = (truncf .bf16 (extractStridedSlice S4096x512 ![0, 768] (m ((c : Thread nD τ).loc main_arg4) : FVec Ideal S4096x5376 .f32) slices_S4096x5376_S4096x512_0_768 : FVec Ideal S4096x512 .f32) bitsLt_bf16_f32) := by
    show StableHlo.after hostOps0 _ _ = _
    after_results_simp <;> rfl
  have h : ∀ R : Fin 4096, (V m c main_v3 : FVec Ideal S4096x512 .bf16) (ix2 R k) = ((P R (col 768 (by omega) k) : ℝ) : EReal) := fun R => by
    rw [e, ← hp]
    pointwise
  rw [← h]
  blk_point [iblk, idx p]

include hp in
theorem blk2 (p : Fin cfg0.N) (r : Fin 256) (k : Fin 512) : (iblk m c 2 p : FVec Ideal S256x512 .bf16) (ix2 r k) = ((P (row p r) (col 1280 (by omega) k) : ℝ) : EReal) := by
  have e : (V m c main_v5 : FVec Ideal S4096x512 .bf16) = (truncf .bf16 (extractStridedSlice S4096x512 ![0, 1280] (m ((c : Thread nD τ).loc main_arg4) : FVec Ideal S4096x5376 .f32) slices_S4096x5376_S4096x512_0_1280 : FVec Ideal S4096x512 .f32) bitsLt_bf16_f32) := by
    show StableHlo.after hostOps0 _ _ = _
    after_results_simp <;> rfl
  have h : ∀ R : Fin 4096, (V m c main_v5 : FVec Ideal S4096x512 .bf16) (ix2 R k) = ((P R (col 1280 (by omega) k) : ℝ) : EReal) := fun R => by
    rw [e, ← hp]
    pointwise
  rw [← h]
  blk_point [iblk, idx p]

include hp in
theorem blk3 (p : Fin cfg0.N) (r : Fin 256) (k : Fin 512) : (iblk m c 3 p : FVec Ideal S256x512 .bf16) (ix2 r k) = ((P (row p r) (col 1792 (by omega) k) : ℝ) : EReal) := by
  have e : (V m c main_v7 : FVec Ideal S4096x512 .bf16) = (truncf .bf16 (extractStridedSlice S4096x512 ![0, 1792] (m ((c : Thread nD τ).loc main_arg4) : FVec Ideal S4096x5376 .f32) slices_S4096x5376_S4096x512_0_1792 : FVec Ideal S4096x512 .f32) bitsLt_bf16_f32) := by
    show StableHlo.after hostOps0 _ _ = _
    after_results_simp <;> rfl
  have h : ∀ R : Fin 4096, (V m c main_v7 : FVec Ideal S4096x512 .bf16) (ix2 R k) = ((P R (col 1792 (by omega) k) : ℝ) : EReal) := fun R => by
    rw [e, ← hp]
    pointwise
  rw [← h]
  blk_point [iblk, idx p]

include hp in
theorem blk4 (p : Fin cfg0.N) (r : Fin 256) (k : Fin 512) : (iblk m c 4 p : FVec Ideal S256x512 .bf16) (ix2 r k) = ((P (row p r) (col 2304 (by omega) k) : ℝ) : EReal) := by
  have e : (V m c main_v9 : FVec Ideal S4096x512 .bf16) = (truncf .bf16 (extractStridedSlice S4096x512 ![0, 2304] (m ((c : Thread nD τ).loc main_arg4) : FVec Ideal S4096x5376 .f32) slices_S4096x5376_S4096x512_0_2304 : FVec Ideal S4096x512 .f32) bitsLt_bf16_f32) := by
    show StableHlo.after hostOps0 _ _ = _
    after_results_simp <;> rfl
  have h : ∀ R : Fin 4096, (V m c main_v9 : FVec Ideal S4096x512 .bf16) (ix2 R k) = ((P R (col 2304 (by omega) k) : ℝ) : EReal) := fun R => by
    rw [e, ← hp]
    pointwise
  rw [← h]
  blk_point [iblk, idx p]

include hp in
theorem blk5 (p : Fin cfg0.N) (r : Fin 256) (k : Fin 512) : (iblk m c 5 p : FVec Ideal S256x512 .bf16) (ix2 r k) = ((P (row p r) (col 2816 (by omega) k) : ℝ) : EReal) := by
  have e : (V m c main_v11 : FVec Ideal S4096x512 .bf16) = (truncf .bf16 (extractStridedSlice S4096x512 ![0, 2816] (m ((c : Thread nD τ).loc main_arg4) : FVec Ideal S4096x5376 .f32) slices_S4096x5376_S4096x512_0_2816 : FVec Ideal S4096x512 .f32) bitsLt_bf16_f32) := by
    show StableHlo.after hostOps0 _ _ = _
    after_results_simp <;> rfl
  have h : ∀ R : Fin 4096, (V m c main_v11 : FVec Ideal S4096x512 .bf16) (ix2 R k) = ((P R (col 2816 (by omega) k) : ℝ) : EReal) := fun R => by
    rw [e, ← hp]
    pointwise
  rw [← h]
  blk_point [iblk, idx p]

include hp in
theorem blk6 (p : Fin cfg0.N) (r : Fin 256) (k : Fin 2048) : (iblk m c 6 p : FVec Ideal S256x2048 .bf16) (ix2 r k) = ((P (row p r) (col 3328 (by omega) k) : ℝ) : EReal) := by
  have e : (V m c main_v13 : FVec Ideal S4096x2048 .bf16) = (truncf .bf16 (extractStridedSlice S4096x2048 ![0, 3328] (m ((c : Thread nD τ).loc main_arg4) : FVec Ideal S4096x5376 .f32) slices_S4096x5376_S4096x2048_0_3328 : FVec Ideal S4096x2048 .f32) bitsLt_bf16_f32) := by
    show StableHlo.after hostOps0 _ _ = _
    after_results_simp <;> rfl
  have h : ∀ R : Fin 4096, (V m c main_v13 : FVec Ideal S4096x2048 .bf16) (ix2 R k) = ((P R (col 3328 (by omega) k) : ℝ) : EReal) := fun R => by
    rw [e, ← hp]
    pointwise
  rw [← h]
  blk_point [iblk, idx p]

/-- The weight's block is the whole transposed weight; the rows of a group from their offset. -/
theorem wblk (p : Fin cfg0.N) (k : Fin 5376) (l : Fin 1024)
    (hw : ∀ k l, (m ((c : Thread nD τ).loc main_arg2) : FVec Ideal S1024x5376 .f32) (ix2 k l) = ((W k l : ℝ) : EReal)) :
    (iblk m c 7 p : FVec Ideal S5376x1024 .bf16) (ix2 k l) = ((W l k : ℝ) : EReal) := by
  have e : (V m c main_v15 : FVec Ideal S5376x1024 .bf16) = (truncf .bf16 (transpose S5376x1024 [1, 0] (m ((c : Thread nD τ).loc main_arg2) : FVec Ideal S1024x5376 .f32) transposes_S1024x5376_S5376x1024_1_0 : FVec Ideal S5376x1024 .f32) bitsLt_bf16_f32) := by
    show StableHlo.after hostOps0 _ _ = _
    after_results_simp <;> rfl
  have h : (V m c main_v15 : FVec Ideal S5376x1024 .bf16) (ix2 k l) = ((W l k : ℝ) : EReal) := by
    rw [e, ← hw]
    pointwise
  rw [← h]
  blk_point [iblk, idx p]

include hw in
theorem wrows (p : Fin cfg0.N) (n off : ℕ) (h : off + n ≤ 5376) (inb) (k : Fin n) (l : Fin 1024) :
    View.ld (iblk m c 7 p : FVec Ideal S5376x1024 .bf16) (Rect.unit (s := S5376x1024) ![off, 0] ![n, 1024] inb) (ix2 k l) = ((W l (col off h k) : ℝ) : EReal) := by
  rw [← wblk m c W p (col off h k) l hw]
  refine congrArg (iblk m c 7 p : FVec Ideal S5376x1024 .bf16) (funext fun a => Fin.ext ?_)
  fin_cases a
  · show off + 1 * k.val = off + k.val
    omega
  · show 0 + 1 * l.val = l.val
    omega

include hx in
theorem blk8 (p : Fin cfg0.N) (r : Fin 256) (l : Fin 1024) : (iblk m c 8 p : FVec Ideal S256x1024 .f32) (ix2 r l) = ((X (row p r) l : ℝ) : EReal) := by
  rw [← hx, ← V_main_arg0 m c]
  blk_point [iblk, idx p]

include hd in
theorem blk9 (p : Fin cfg0.N) (r : Fin 256) (l : Fin 1024) : (iblk m c 9 p : FVec Ideal S256x1024 .f32) (ix2 r l) = ((D (row p r) l : ℝ) : EReal) := by
  rw [← hd, ← V_main_arg3 m c]
  blk_point [iblk, idx p]

include hg in
theorem blk10 (p : Fin cfg0.N) (l : Fin 1024) : (iblk m c 10 p : FVec Ideal S1x1024 .f32) (ix2 0 l) = ((G l : ℝ) : EReal) := by
  rw [← hg, ← V_main_arg1 m c]
  blk_point [iblk, idx p]

include hp hw in
/-- The gradient of the norm's output at a point. -/
theorem dh_point (p : Fin cfg0.N) (i0 i1 i2 i3 i4 i5 i6) (r : Fin 256) (l : Fin 1024) :
    k0_pay6 (F := Ideal) (k0_pay4 (iblk m c 0 p) (View.ld (iblk m c 7 p : FVec Ideal S5376x1024 .bf16) (Rect.unit (s := S5376x1024) ![0, 0] ![768, 1024] i0))
        (iblk m c 1 p) (View.ld (iblk m c 7 p : FVec Ideal S5376x1024 .bf16) (Rect.unit (s := S5376x1024) ![768, 0] ![512, 1024] i1))
        (iblk m c 2 p) (View.ld (iblk m c 7 p : FVec Ideal S5376x1024 .bf16) (Rect.unit (s := S5376x1024) ![1280, 0] ![512, 1024] i2))
        (iblk m c 3 p) (View.ld (iblk m c 7 p : FVec Ideal S5376x1024 .bf16) (Rect.unit (s := S5376x1024) ![1792, 0] ![512, 1024] i3)))
      (k0_pay5 (iblk m c 4 p)) (View.ld (iblk m c 7 p : FVec Ideal S5376x1024 .bf16) (Rect.unit (s := S5376x1024) ![2304, 0] ![512, 1024] i4))
      (iblk m c 5 p) (View.ld (iblk m c 7 p : FVec Ideal S5376x1024 .bf16) (Rect.unit (s := S5376x1024) ![2816, 0] ![512, 1024] i5))
      (iblk m c 6 p) (View.ld (iblk m c 7 p : FVec Ideal S5376x1024 .bf16) (Rect.unit (s := S5376x1024) ![3328, 0] ![2048, 1024] i6)) (ix2 r l)
      = ((dhRow (P (row p r)) W l : ℝ) : EReal) :=
  dh_at _ _ _ _ _ _ _ _ _ _ _ _ _ _ (fun r k => P (row p r) k) W (blk0 m c P hp p) (blk1 m c P hp p) (blk2 m c P hp p) (blk3 m c P hp p) (blk4 m c P hp p)
    (blk5 m c P hp p) (blk6 m c P hp p) (wrows m c W hw p 768 0 _ i0) (wrows m c W hw p 512 768 _ i1) (wrows m c W hw p 512 1280 _ i2)
    (wrows m c W hw p 512 1792 _ i3) (wrows m c W hw p 512 2304 _ i4) (wrows m c W hw p 512 2816 _ i5) (wrows m c W hw p 2048 3328 _ i6) r l

include hx hg hw hd hp in
theorem point11 (t : Fin cfg0.N) (r : Fin 256) (l : Fin 1024) :
    ((outsAt0 m c t.val t.isLt).1 : FVec Ideal S256x1024 .f32) (ix2 r l) = ((D (row t r) l + nbRow (X (row t r)) G (dhRow (P (row t r)) W) l : ℝ) : EReal) := by
  by_cases h : t.val % 16 = 0
  · rw [outsAt0_A m c t h]; frame_out
    exact dx_at _ _ _ _ _ _ _ _ _ _ (fun r => X (row t r)) (fun r => D (row t r)) (fun r => dhRow (P (row t r)) W) G
      (dh_point m c W P hw hp t _ _ _ _ _ _ _) (blk8 m c X hx t) (blk9 m c D hd t) (blk10 m c G hg t) r l
  · rw [outsAt0_B m c t h]; frame_out
    exact dx_at _ _ _ _ _ _ _ _ _ _ (fun r => X (row t r)) (fun r => D (row t r)) (fun r => dhRow (P (row t r)) W) G
      (dh_point m c W P hw hp t _ _ _ _ _ _ _) (blk8 m c X hx t) (blk9 m c D hd t) (blk10 m c G hg t) r l

include hx hg hw hd hp in
theorem final11 : (dats m 0 c).arrAt 11 (cfgs 0).N = dxArr X G W D P := by
  refine (dats m 0 c).arrAt_eq_of_covers 11 _ (by decide +kernel) fun t _ y => ?_
  blk_simp
  rw [after0_11]
  obtain ⟨r, l, rfl⟩ : ∃ (r : Fin 256) (l : Fin 1024), y = ix2 r l := ⟨y 0, y 1, ValueIdx.eq_ix2 y⟩
  refine (point11 m c X D G W P hx hg hw hd hp t r l).trans ?_
  rw [← dxArr_apply]
  blk_ext [idx t]

theorem zero1 (j : S1x1024.Idx) : k0_pay3 (F := Ideal) j = 0 := by pointwise [k0_pay3]

/-- The last point. -/
def last : Fin cfg0.N := ⟨15, (by decide : 15 < 16).trans_eq N_0.symm⟩

include hx hw hp in
theorem final12 : (dats m 0 c).arrAt 12 (cfgs 0).N = dgArr X W P := by
  refine (dats m 0 c).arrAt_eq_of_after_last 12 last (by decide +kernel) _ fun j => ?_
  blk_simp
  obtain ⟨l, rfl⟩ : ∃ l : Fin 1024, j = ix2 0 l := ⟨j 1, by rw [ValueIdx.eq_ix2 j]; congr 1; exact Subsingleton.elim (α := Fin 1) _ _⟩
  rw [after0_12]
  have key := Pipeline.eq_sum_fin_of_reset_step_apply_last (fun n h l => ((outsAt0 m c n h).2 : FVec Ideal S1x1024 .f32) (ix2 0 l)) 16 (fun _ => 0)
    (fun t l => ((∑ r, ngRow (X (row t r)) (dhRow (P (row t r)) W) l : ℝ) : EReal))
    (fun t h l => by
      rw [outsAt0_A m c t h]; frame_out
      exact (dg_at _ _ _ _ _ _ _ _ (fun r => X (row t r)) (fun r => dhRow (P (row t r)) W) (dh_point m c W P hw hp t _ _ _ _ _ _ _) (blk8 m c X hx t) _ l).trans
        (by rw [zero1]))
    (fun t h l => by
      rw [outsAt0_B m c t h]; frame_out
      exact dg_at _ _ _ _ _ _ _ _ (fun r => X (row t r)) (fun r => dhRow (P (row t r)) W) (dh_point m c W P hw hp t _ _ _ _ _ _ _) (blk8 m c X hx t) _ l)
    (le_of_eq N_0) last rfl l
  rw [zero_add, sum_coe] at key
  refine key.trans ?_
  show _ = (((∑ r, ngRow (X r) (dhRow (P r) W) l : ℝ)) : EReal)
  rw [Fin.sum_univ_tiles 16 256 rfl fun r => ngRow (X r) (dhRow (P r) W) l]
  rfl

end Blocks
end Run

section Ref
open Cert.MixInReferenceIdeal Cert.MixInReferenceIdeal.Value

variable (m : (ℓ : Loc nD τ sig) → Buf (Elt Ideal) ℓ) (c : Dev nD)
  (X D : Fin 4096 → Fin 1024 → ℝ) (G : Fin 1024 → ℝ) (W : Fin 1024 → Fin 5376 → ℝ) (P : Fin 4096 → Fin 5376 → ℝ)
  (x : FVec Ideal S4096x1024 .f32) (g : FVec Ideal S1x1024 .f32) (w : FVec Ideal S1024x5376 .f32) (d : FVec Ideal S4096x1024 .f32) (p : FVec Ideal S4096x5376 .f32)
  (e0 : m ((c.tc : Thread nD τ).loc main_arg0) = x) (e1 : m ((c.tc : Thread nD τ).loc main_arg1) = g) (e2 : m ((c.tc : Thread nD τ).loc main_arg2) = w)
  (e3 : m ((c.tc : Thread nD τ).loc main_arg3) = d) (e4 : m ((c.tc : Thread nD τ).loc main_arg4) = p)
  (hx : ∀ r l, x (ix2 r l) = ((X r l : ℝ) : EReal)) (hg : ∀ l, g (ix2 0 l) = ((G l : ℝ) : EReal)) (hw : ∀ k l, w (ix2 k l) = ((W k l : ℝ) : EReal))
  (hd : ∀ r l, d (ix2 r l) = ((D r l : ℝ) : EReal)) (hp : ∀ r l, p (ix2 r l) = ((P r l : ℝ) : EReal))
include e0 e1 e2 e3 e4 hx hg hw hd hp

theorem ref0 : res_out0 m c = dxArr X G W D P := by
  refine funext fun (j : S4096x1024.Idx) => ?_
  obtain ⟨r, l, rfl⟩ : ∃ (r : Fin 4096) (l : Fin 1024), j = ix2 r l := ⟨j 0, j 1, ValueIdx.eq_ix2 j⟩
  rw [dxArr_apply, ← nb_eq]
  unfold res_out0 res_main_v38
  rw [e0, e1, e2, e3, e4]
  pointwise
  simp (disch := norm_num) only [hx, hg, hw, hd, hp, ofBits_neg_half, ofBits_1024, ofBits_eps, ← EReal.coe_mul, ← EReal.coe_add, ← EReal.coe_sub, sum_coe, div_ne, ms_fold, rsqrt_ms, div_ms, div_ms_eq, Finset.univ_unique, Finset.sum_singleton]
  rfl

end Ref

section RefRun
open Cert.MixInReferenceIdeal Cert.MixInReferenceIdeal.Value

variable (m : (ℓ : Loc nD τ sig) → Buf (Elt Ideal) ℓ) (ρ : Dev nD → PrngReg)
  (X D : Dev nD → Fin 4096 → Fin 1024 → ℝ) (G : Dev nD → Fin 1024 → ℝ) (W : Dev nD → Fin 1024 → Fin 5376 → ℝ) (P : Dev nD → Fin 4096 → Fin 5376 → ℝ)
  (x : Dev nD → FVec Ideal S4096x1024 .f32) (g : Dev nD → FVec Ideal S1x1024 .f32) (w : Dev nD → FVec Ideal S1024x5376 .f32) (d : Dev nD → FVec Ideal S4096x1024 .f32) (p : Dev nD → FVec Ideal S4096x5376 .f32)
  (e0 : ∀ c : Dev nD, m ((c.tc : Thread nD τ).loc main_arg0) = x c) (e1 : ∀ c : Dev nD, m ((c.tc : Thread nD τ).loc main_arg1) = g c) (e2 : ∀ c : Dev nD, m ((c.tc : Thread nD τ).loc main_arg2) = w c)
  (e3 : ∀ c : Dev nD, m ((c.tc : Thread nD τ).loc main_arg3) = d c) (e4 : ∀ c : Dev nD, m ((c.tc : Thread nD τ).loc main_arg4) = p c)
  (hx : ∀ c r l, x c (ix2 r l) = ((X c r l : ℝ) : EReal)) (hg : ∀ c l, g c (ix2 0 l) = ((G c l : ℝ) : EReal)) (hw : ∀ c k l, w c (ix2 k l) = ((W c k l : ℝ) : EReal))
  (hd : ∀ c r l, d c (ix2 r l) = ((D c r l : ℝ) : EReal)) (hp : ∀ c r l, p c (ix2 r l) = ((P c r l : ℝ) : EReal))
include e0 e1 e2 e3 e4 hx hg hw hd hp

/-- The reference's run: both results at the same arrays. -/
theorem ref_run : θ_run (defs (F := Ideal)) (onTc (τ := τ) (main (F := Ideal))) ⟨m, fun _ => 0, ρ⟩ fun r => ∀ c : Dev nD,
      r.2.mem ((c.tc : Thread nD τ).loc main_v38) = dxArr (X c) (G c) (W c) (D c) (P c)
      ∧ r.2.mem ((c.tc : Thread nD τ).loc main_v21) = dgArr (X c) (W c) (P c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (run (F := Ideal) m ρ)
  obtain ⟨h0, h1, h2⟩ := h c
  refine ⟨h0.trans (ref0 m c (X c) (D c) (G c) (W c) (P c) _ _ _ _ _ (e0 c) (e1 c) (e2 c) (e3 c) (e4 c) (hx c) (hg c) (hw c) (hd c) (hp c)), h1.trans ?_, h2⟩
  clear h h0 h1 h2
  refine funext fun (j : S1x1024.Idx) => ?_
  obtain ⟨l, rfl⟩ : ∃ l : Fin 1024, j = ix2 0 l := ⟨j 1, by rw [ValueIdx.eq_ix2 j]; congr 1; exact Subsingleton.elim (α := Fin 1) _ _⟩
  rw [e0, e2, e4]
  pointwise
  simp (disch := norm_num) only [hx, hg, hw, hd, hp, ofBits_1024, ofBits_eps, ← EReal.coe_mul, ← EReal.coe_add, ← EReal.coe_sub, sum_coe, div_ne, ms_fold, rsqrt_ms]
  exact congrArg ((↑) : ℝ → EReal) (Finset.sum_congr rfl fun i _ => by
    show _ = dhRow (P c i) (W c) l * X c i l * rn 1024 (X c i)
    unfold dhRow
    ring)

end RefRun

/-- Finite arguments are real arrays. -/
theorem reals [Cert.Pre_mix_in_finite.Facts] (x : FVec Ideal ⟨2, ![4096, 1024]⟩ .f32) (g : FVec Ideal ⟨2, ![1, 1024]⟩ .f32) (w : FVec Ideal ⟨2, ![1024, 5376]⟩ .f32)
    (d : FVec Ideal ⟨2, ![4096, 1024]⟩ .f32) (p : FVec Ideal ⟨2, ![4096, 5376]⟩ .f32)
    (h : (Cert.Pre_mix_in_finite.fn (F := Ideal) x g w d p).1 = (fun _ => 1#1) ∧ (Cert.Pre_mix_in_finite.fn (F := Ideal) x g w d p).2.1 = (fun _ => 1#1)
      ∧ (Cert.Pre_mix_in_finite.fn (F := Ideal) x g w d p).2.2.1 = (fun _ => 1#1) ∧ (Cert.Pre_mix_in_finite.fn (F := Ideal) x g w d p).2.2.2.1 = (fun _ => 1#1)
      ∧ (Cert.Pre_mix_in_finite.fn (F := Ideal) x g w d p).2.2.2.2 = (fun _ => 1#1)) :
    ∃ (X D : Fin 4096 → Fin 1024 → ℝ) (G : Fin 1024 → ℝ) (W : Fin 1024 → Fin 5376 → ℝ) (P : Fin 4096 → Fin 5376 → ℝ),
      (∀ r l, x (ix2 r l) = ((X r l : ℝ) : EReal)) ∧ (∀ l, g (ix2 0 l) = ((G l : ℝ) : EReal)) ∧ (∀ k l, w (ix2 k l) = ((W k l : ℝ) : EReal))
        ∧ (∀ r l, d (ix2 r l) = ((D r l : ℝ) : EReal)) ∧ (∀ r k, p (ix2 r k) = ((P r k : ℝ) : EReal)) := by
  obtain ⟨X, hX⟩ := reals_of_test _ x h.1
  obtain ⟨G, hG⟩ := reals_of_test _ g h.2.1
  obtain ⟨W, hW⟩ := reals_of_test _ w h.2.2.1
  obtain ⟨D, hD⟩ := reals_of_test _ d h.2.2.2.1
  obtain ⟨P, hP⟩ := reals_of_test _ p h.2.2.2.2
  exact ⟨fun r l => X (ix2 r l), fun r l => D (ix2 r l), fun l => G (ix2 0 l), fun k l => W (ix2 k l), fun r k => P (ix2 r k),
    fun _ _ => by rw [hX], fun _ => by rw [hG], fun _ _ => by rw [hW], fun _ _ => by rw [hD], fun _ _ => by rw [hP]⟩

end Cert.MixIn
end
-- ==== Proof.QkRun.lean ====
/-
  The head norms and the rotary embedding, backward: the kernel's results are `dpArr`, `dgqArr` and `dgkArr`.
-/
module

public import proofs.«01_k».proof.Proof.QkTable
public import proofs.«01_k».proof.Proof.Gen.QkKernelIdeal.Value
public import Idealize.ShloMosaic.Lib.Pipeline.ValueKit

@[expose] public section

set_option maxRecDepth 16384

noncomputable section

namespace Cert.Qk

open Idealize.ShloMosaic Idealize.ShloMosaic.TcCoe Idealize.ShloMosaic.StableHlo Idealize.SL.Sem
open Cert.RealNum

section Run
open Cert.QkKernelIdeal Cert.QkKernelIdeal.Gen

variable (m : (ℓ : Loc nD τ sig) → Buf (Elt Ideal) ℓ) (c : Dev nD)

theorem idx : ∀ t : Fin cfg0.N, (win0_0.index t = ![t.val, 0] ∧ win0_1.index t = ![t.val, 2] ∧ win0_2.index t = ![t.val, 0] ∧ win0_3.index t = ![t.val, 0]
    ∧ win0_4.index t = ![t.val, 0] ∧ win0_5.index t = ![0, 0] ∧ win0_6.index t = ![0, 0]) ∧ win0_7.index t = ![t.val, 0] ∧ win0_8.index t = ![t.val, 0]
    ∧ win0_9.index t = ![0, 0] ∧ win0_10.index t = ![0, 0] ∧ win0_11.index t = ![t.val, 0] ∧ win0_12.index t = ![0, 0] ∧ win0_13.index t = ![0, 0] :=
  (by decide +kernel : ∀ t : Fin grid0.N, _)

/-- The row of the arrays a tile's row `r` is at point `p`. -/
abbrev row (p : Fin cfg0.N) (r : Fin 512) : Fin 4096 := ⟨p.val * 512 + r.val, by have := p.isLt; have h : cfg0.N = 8 := N_0; omega⟩

variable (n : Nums) (H : Holds (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5)) n)

/-! The blocks of the arguments, from the buffers that the host operations leave. -/

include H in
theorem blk0 (p : Fin cfg0.N) (r : Fin 512) (h : Fin 8) (k : Fin 64) : (X0_0 m c p : FVec Ideal S512x512 .f32) (ix2 r (cq h k)) = ((n.xq (row p r) h k : ℝ) : EReal) := by
  unfold Nums.xq
  rw [← H.x, ← V_main_arg0 m c]
  unfold X0_0 Pipeline.Window.fill
  rw [dif_pos (moved0_0 p _)]
  blk_point [iblk, idx p]

include H in
theorem blk1 (p : Fin cfg0.N) (r : Fin 512) (h : Fin 2) (k : Fin 64) : (iblk m c 1 p : FVec Ideal S512x256 .f32) (ix2 r (ckv h k)) = ((n.xk (row p r) h k : ℝ) : EReal) := by
  unfold Nums.xk
  rw [← H.x, ← V_main_arg0 m c]
  blk_point [iblk, idx p]

include H in
theorem blk2 (p : Fin cfg0.N) (r : Fin 512) (h : Fin 8) (k : Fin 64) : (iblk m c 2 p : FVec Ideal S512x512 .f32) (ix2 r (cq h k)) = ((n.dq (row p r) (cq h k) : ℝ) : EReal) := by
  rw [← H.dq, ← V_main_arg3 m c]
  blk_point [iblk, idx p]

include H in
theorem blk3 (p : Fin cfg0.N) (r : Fin 512) (h : Fin 2) (k : Fin 64) : (iblk m c 3 p : FVec Ideal S512x128 .f32) (ix2 r (ck h k)) = ((n.dk (row p r) (ck h k) : ℝ) : EReal) := by
  rw [← H.dk, ← V_main_arg4 m c]
  blk_point [iblk, idx p]

include H in
theorem blk4 (p : Fin cfg0.N) (r : Fin 512) (l : Fin 128) : (iblk m c 4 p : FVec Ideal S512x128 .f32) (ix2 r l) = ((n.dv (row p r) l : ℝ) : EReal) := by
  rw [← H.dv, ← V_main_arg5 m c]
  blk_point [iblk, idx p]

include H in
theorem blk5 (p : Fin cfg0.N) (h : Fin 8) (k : Fin 64) : (iblk m c 5 p : FVec Ideal S1x512 .f32) (ix2 0 (cq h k)) = ((n.gq k : ℝ) : EReal) := by
  have e : V m c main_v37 = gqT (m ((c : Thread nD τ).loc main_arg1)) := by
    unfold V
    simp only [List.flatten_cons, List.flatten_nil, List.append_nil, List.cons_append, List.nil_append]
    after_results_simp <;> rfl
  rw [← H.gq, ← gqT_at (m ((c : Thread nD τ).loc main_arg1)) h k, ← e]
  blk_point [iblk, idx p]

include H in
theorem blk6 (p : Fin cfg0.N) (h : Fin 2) (k : Fin 64) : (iblk m c 6 p : FVec Ideal S1x128 .f32) (ix2 0 (ck h k)) = ((n.gk k : ℝ) : EReal) := by
  have e : V m c main_v40 = gkT (m ((c : Thread nD τ).loc main_arg2)) := by
    unfold V
    simp only [List.flatten_cons, List.flatten_nil, List.append_nil, List.cons_append, List.nil_append]
    after_results_simp <;> rfl
  rw [← H.gk, ← gkT_at (m ((c : Thread nD τ).loc main_arg2)) h k, ← e]
  blk_point [iblk, idx p]

theorem blk7 (p : Fin cfg0.N) (r : Fin 512) (h : Fin 2) (k : Fin 64) : (iblk m c 7 p : FVec Ideal S512x128 .f32) (ix2 r (ck h k)) = ((dbl (cs (row p r)) k : ℝ) : EReal) := by
  have e : V m c main_v31 = cos2T := by
    unfold V
    simp only [List.flatten_cons, List.flatten_nil, List.append_nil, List.cons_append, List.nil_append]
    after_results_simp <;> rfl
  rw [← cos2T_at _ h k, ← e]
  blk_point [iblk, idx p]

theorem blk8 (p : Fin cfg0.N) (r : Fin 512) (h : Fin 2) (k : Fin 64) : (iblk m c 8 p : FVec Ideal S512x128 .f32) (ix2 r (ck h k)) = ((sgn (sn (row p r)) k : ℝ) : EReal) := by
  have e : V m c main_v34 = sin2T := by
    unfold V
    simp only [List.flatten_cons, List.flatten_nil, List.append_nil, List.cons_append, List.nil_append]
    after_results_simp <;> rfl
  rw [← sin2T_at _ h k, ← e]
  blk_point [iblk, idx p]

theorem blk9 (p : Fin cfg0.N) (h' : Fin 8) (k' : Fin 64) (h : Fin 8) (k : Fin 64) : (iblk m c 9 p : FVec Ideal S512x512 .bf16) (ix2 (cq h' k') (cq h k)) = ((same h' h : ℝ) : EReal) := by
  have e : V m c main_v49 = sumT := by
    unfold V
    simp only [List.flatten_cons, List.flatten_nil, List.append_nil, List.cons_append, List.nil_append]
    after_results_simp <;> rfl
  rw [← sumT_at h' k' h k, ← e]
  blk_point [iblk, idx p]

theorem blk10 (p : Fin cfg0.N) (h' : Fin 8) (k' : Fin 64) (h : Fin 8) (k : Fin 64) : (iblk m c 10 p : FVec Ideal S512x512 .bf16) (ix2 (cq h' k') (cq h k)) = ((swapped h' k' h k : ℝ) : EReal) := by
  have e : V m c main_v63 = swapT := by
    unfold V
    simp only [List.flatten_cons, List.flatten_nil, List.append_nil, List.cons_append, List.nil_append]
    after_results_simp <;> rfl
  rw [← swapT_at h' k' h k, ← e]
  blk_point [iblk, idx p]

/-! Each output at a point. -/

include H in
theorem dxq_point (t : Fin cfg0.N) (r : Fin 512) (h : Fin 8) (k : Fin 64) :
    k0_pay15 (F := Ideal) (k0_pay6 (iblk m c 9 t)) (k0_pay7 (iblk m c 10 t)) (X0_0 m c t) (iblk m c 5 t) (k0_pay9 (iblk m c 9 t) (X0_0 m c t)) (k0_pay10 (iblk m c 7 t) (iblk m c 2 t))
        (k0_pay12 (iblk m c 8 t) (iblk m c 2 t)) (k0_pay13 (iblk m c 8 t) (iblk m c 2 t)) (ix2 r (cq h k)) = ((n.dxq (row t r) h k : ℝ) : EReal) :=
  dxq_at _ _ (blk9 m c t) (blk10 m c t) _ _ (fun r => cs (row t r)) (fun r => sn (row t r)) (blk7 m c t) (blk8 m c t) _ (fun r => n.xq (row t r)) (blk0 m c n H t)
    _ (fun _ => n.gq) (blk5 m c n H t) _ (fun r h k => n.dq (row t r) (cq h k)) (blk2 m c n H t) r h k

include H in
theorem dp_point (t : Fin cfg0.N) (r : Fin 512) (l : Fin 768) (u : FVec Ideal S512x512 .f32) (hu : ∀ r h k, u (ix2 r (cq h k)) = ((n.dxq (row t r) h k : ℝ) : EReal)) :
    k0_pay25 (F := Ideal) (k0_pay4 (iblk m c 7 t)) (k0_pay5 (iblk m c 8 t)) u (iblk m c 3 t) (k0_pay17 (iblk m c 1 t)) (iblk m c 6 t) (k0_pay18 (k0_pay6 (iblk m c 9 t)))
        (k0_pay19 (k0_pay7 (iblk m c 10 t))) (k0_pay20 (k0_pay6 (iblk m c 9 t)) (iblk m c 1 t)) k0_pay21 (iblk m c 4 t) (ix2 r l)
      = ((outRow (n.dxq (row t r)) (n.dxk (row t r)) (n.dv (row t r)) l : ℝ) : EReal) :=
  dp_at _ _ (blk9 m c t) (blk10 m c t) _ _ (fun r => cs (row t r)) (fun r => sn (row t r)) (blk7 m c t) (blk8 m c t) _ (fun r => n.xk (row t r)) (blk1 m c n H t)
    _ (fun _ => n.gk) (blk6 m c n H t) _ (fun r h k => n.dk (row t r) (ck h k)) (blk3 m c n H t) u (fun r => n.dxq (row t r)) hu _ (fun r => n.dv (row t r)) (blk4 m c n H t) r l

include H in
theorem point11 (t : Fin cfg0.N) (r : Fin 512) (l : Fin 768) :
    ((outsAt0 m c t.val t.isLt).1 : FVec Ideal S512x768 .bf16) (ix2 r l) = ((outRow (n.dxq (row t r)) (n.dxk (row t r)) (n.dv (row t r)) l : ℝ) : EReal) := by
  by_cases h : t.val % 8 = 0
  · rw [outsAt0_A m c t h]; frame_out
    exact dp_point m c n H t r l _ (dxq_point m c n H t)
  · rw [outsAt0_B m c t h]; frame_out
    exact dp_point m c n H t r l _ (dxq_point m c n H t)

include H in
theorem final11 : (dats m 0 c).arrAt 11 (cfgs 0).N = dpArr n := by
  refine (dats m 0 c).arrAt_eq_of_covers 11 _ (by decide +kernel) fun t _ y => ?_
  blk_simp
  rw [after0_11]
  obtain ⟨r, l, rfl⟩ : ∃ (r : Fin 512) (l : Fin 768), y = ix2 r l := ⟨y 0, y 1, ValueIdx.eq_ix2 y⟩
  refine (point11 m c n H t r l).trans ?_
  show dpArr n (ix2 (row t r) l) = _
  blk_ext [idx t]

theorem zero_q (j : S1x512.Idx) : k0_pay2 (F := Ideal) j = 0 := by pointwise [k0_pay2]
theorem zero_k (j : S1x128.Idx) : k0_pay3 (F := Ideal) j = 0 := by pointwise [k0_pay3]

/-- The last point. -/
def last : Fin cfg0.N := ⟨7, (by decide : 7 < 8).trans_eq N_0.symm⟩

include H in
theorem dgq_point (t : Fin cfg0.N) (h : Fin 8) (k : Fin 64) (a : Vec Ideal S1x512 .f32) :
    k0_pay26 (F := Ideal) (k0_pay16 (k0_pay7 (iblk m c 10 t)) (X0_0 m c t) (k0_pay9 (iblk m c 9 t) (X0_0 m c t)) (k0_pay10 (iblk m c 7 t) (iblk m c 2 t))
        (k0_pay12 (iblk m c 8 t) (iblk m c 2 t)) (k0_pay13 (iblk m c 8 t) (iblk m c 2 t))) a (ix2 0 (cq h k))
      = a (ix2 0 (cq h k)) + ((∑ r, hdg (n.xq (row t r) h) (n.yq (row t r) h) k : ℝ) : EReal) :=
  dgq_at _ _ (blk9 m c t) (blk10 m c t) _ _ (fun r => cs (row t r)) (fun r => sn (row t r)) (blk7 m c t) (blk8 m c t) _ (fun r => n.xq (row t r)) (blk0 m c n H t)
    _ (fun r h k => n.dq (row t r) (cq h k)) (blk2 m c n H t) h k a

include H in
theorem dgk_point (t : Fin cfg0.N) (h : Fin 2) (k : Fin 64) (a : Vec Ideal S1x128 .f32) :
    k0_pay1 (F := Ideal) (k0_pay24 (k0_pay4 (iblk m c 7 t)) (k0_pay5 (iblk m c 8 t)) (iblk m c 3 t) (k0_pay17 (iblk m c 1 t)) (k0_pay19 (k0_pay7 (iblk m c 10 t)))
        (k0_pay20 (k0_pay6 (iblk m c 9 t)) (iblk m c 1 t)) k0_pay21) a (ix2 0 (ck h k))
      = a (ix2 0 (ck h k)) + ((∑ r, hdg (n.xk (row t r) h) (n.yk (row t r) h) k : ℝ) : EReal) :=
  dgk_at _ _ (blk9 m c t) (blk10 m c t) _ _ (fun r => cs (row t r)) (fun r => sn (row t r)) (blk7 m c t) (blk8 m c t) _ (fun r => n.xk (row t r)) (blk1 m c n H t)
    _ (fun r h k => n.dk (row t r) (ck h k)) (blk3 m c n H t) h k a

include H in
theorem final12 : (dats m 0 c).arrAt 12 (cfgs 0).N = dgqArr n := by
  refine (dats m 0 c).arrAt_eq_of_after_last 12 last (by decide +kernel) _ fun j => ?_
  blk_simp
  obtain ⟨l, rfl⟩ : ∃ l : Fin 512, j = ix2 0 l := ⟨j 1, by rw [ValueIdx.eq_ix2 j]; congr 1; exact Subsingleton.elim (α := Fin 1) _ _⟩
  obtain ⟨h, k, rfl⟩ := col_q l
  rw [after0_12]
  have key := Pipeline.eq_sum_fin_of_reset_step_apply_last (fun n h (l : Fin 8 × Fin 64) => ((outsAt0 m c n h).2.1 : FVec Ideal S1x512 .f32) (ix2 0 (cq l.1 l.2))) 8 (fun _ => 0)
    (fun t l => ((∑ r, hdg (n.xq (row t r) l.1) (n.yq (row t r) l.1) l.2 : ℝ) : EReal))
    (fun t h l => by
      rw [outsAt0_A m c t h]; frame_out
      exact (dgq_point m c n H t l.1 l.2 _).trans (by rw [zero_q]))
    (fun t h l => by
      rw [outsAt0_B m c t h]; frame_out
      exact dgq_point m c n H t l.1 l.2 _)
    (le_of_eq N_0) last rfl (h, k)
  rw [zero_add, sum_coe] at key
  refine key.trans ?_
  show _ = dgqArr n (ix2 0 (cq h k))
  rw [dgqArr_at, Fin.sum_univ_tiles 8 512 rfl fun r => hdg (n.xq r h) (n.yq r h) k]
  rfl

include H in
theorem final13 : (dats m 0 c).arrAt 13 (cfgs 0).N = dgkArr n := by
  refine (dats m 0 c).arrAt_eq_of_after_last 13 last (by decide +kernel) _ fun j => ?_
  blk_simp
  obtain ⟨l, rfl⟩ : ∃ l : Fin 128, j = ix2 0 l := ⟨j 1, by rw [ValueIdx.eq_ix2 j]; congr 1; exact Subsingleton.elim (α := Fin 1) _ _⟩
  obtain ⟨h, k, rfl⟩ := col_k l
  rw [after0_13]
  have key := Pipeline.eq_sum_fin_of_reset_step_apply_last (fun n h (l : Fin 2 × Fin 64) => ((outsAt0 m c n h).2.2 : FVec Ideal S1x128 .f32) (ix2 0 (ck l.1 l.2))) 8 (fun _ => 0)
    (fun t l => ((∑ r, hdg (n.xk (row t r) l.1) (n.yk (row t r) l.1) l.2 : ℝ) : EReal))
    (fun t h l => by
      rw [outsAt0_A m c t h]; frame_out
      exact (dgk_point m c n H t l.1 l.2 _).trans (by rw [zero_k]))
    (fun t h l => by
      rw [outsAt0_B m c t h]; frame_out
      exact dgk_point m c n H t l.1 l.2 _)
    (le_of_eq N_0) last rfl (h, k)
  rw [zero_add, sum_coe] at key
  refine key.trans ?_
  show _ = dgkArr n (ix2 0 (ck h k))
  rw [dgkArr_at, Fin.sum_univ_tiles 8 512 rfl fun r => hdg (n.xk r h) (n.yk r h) k]
  rfl

end Run
end Cert.Qk
end
-- ==== Proof.QkRef.lean ====
/-
  The head norms and the rotary embedding, backward: the reference's results are `dpArr`, `dgqArr` and `dgkArr`. Its
  intermediate arrays are read one over the other, each at an entry.
-/
module

public import proofs.«01_k».proof.Proof.QkTable
public import proofs.«01_k».proof.Proof.Gen.QkReferenceIdeal.Run
public import Idealize.ShloMosaic.Lib.Pipeline.ValueKit

@[expose] public section

set_option maxRecDepth 16384

noncomputable section

namespace Cert.Qk.Ref

open Idealize.ShloMosaic Idealize.ShloMosaic.TcCoe Idealize.ShloMosaic.StableHlo Idealize.SL.Sem
open Cert.RealNum Cert.QkReferenceIdeal Cert.QkReferenceIdeal.Gen Cert.QkReferenceIdeal.Value

variable (V : Valuation τ sig (Elt Ideal)) (n : Nums)
  (H : Holds (V (Proc.devRef .tc main_arg0)) (V (Proc.devRef .tc main_arg1)) (V (Proc.devRef .tc main_arg2)) (V (Proc.devRef .tc main_arg3))
    (V (Proc.devRef .tc main_arg4)) (V (Proc.devRef .tc main_arg5)) n)

theorem only : (default : Fin 1) = 0 := rfl

/-- The rotation, the halves numbered from the other end. -/
theorem rot_eq (z : Fin 64 → ℝ) (c s : Fin 32 → ℝ) (k : Fin 64) : rot z c s k
    = if h : k.val < 32 then z ⟨32 + k.val, by omega⟩ * s ⟨k.val, h⟩ + z k * c ⟨k.val, h⟩
      else z ⟨32 + (k.val - 32), by omega⟩ * c ⟨k.val - 32, by omega⟩ + -z ⟨k.val - 32, by omega⟩ * s ⟨k.val - 32, by omega⟩ := by
  unfold rot
  split_ifs with h
  · rw [show (⟨k.val + 32, by omega⟩ : Fin 64) = ⟨32 + k.val, by omega⟩ from Fin.ext (Nat.add_comm _ _)]
  · rw [show (⟨32 + (k.val - 32), by omega⟩ : Fin 64) = k from Fin.ext (by show 32 + (k.val - 32) = k.val; omega)]

/-! ## The tables -/

theorem ang_eq : res_main_v28 V = angT := rfl

theorem cos_at (r : Fin 4096) (k : Fin 32) : (res_main_v29 V : FVec Ideal S4096x32 .f32) (ix2 r k) = ((cs r k : ℝ) : EReal) := by
  rw [← cosT_at]
  unfold res_main_v29
  rw [ang_eq]
  rfl
theorem sin_at (r : Fin 4096) (k : Fin 32) : (res_main_v30 V : FVec Ideal S4096x32 .f32) (ix2 r k) = ((sn r k : ℝ) : EReal) := by
  rw [← sinT_at]
  unfold res_main_v30
  rw [ang_eq]
  rfl

/-! ## The queries -/

include H in
theorem xq_at (r : Fin 4096) (h : Fin 8) (k : Fin 64) : (res_main_v31 V : FVec Ideal S4096x8x64 .f32) (ix3 r h k) = ((n.xq r h k : ℝ) : EReal) := by
  unfold Nums.xq
  rw [← H.x]
  pointwise [res_main_v31]
  try rfl

include H in
theorem mq_at (r : Fin 4096) (h : Fin 8) : (res_main_v38 V : FVec Ideal S4096x8x1 .f32) (ix3 r h 0) = ((ms 64 (n.xq r h) : ℝ) : EReal) := by
  pointwise [res_main_v38]
  simp (disch := norm_num) only [xq_at V n H, ofBits_64, ofBits_eps, ← EReal.coe_mul, ← EReal.coe_add, sum_coe, div_ne, ms_fold]

include H in
theorem rq_at (r : Fin 4096) (h : Fin 8) : (res_main_v39 V : FVec Ideal S4096x8x1 .f32) (ix3 r h 0) = ((rn 64 (n.xq r h) : ℝ) : EReal) := by
  pointwise [res_main_v39]
  rw [mq_at V n H, rsqrt_ms (by norm_num)]

include H in
theorem nq_at (r : Fin 4096) (h : Fin 8) (k : Fin 64) : (res_main_v44 V : FVec Ideal S4096x8x64 .f32) (ix3 r h k) = ((n.xq r h k * rn 64 (n.xq r h) : ℝ) : EReal) := by
  pointwise [res_main_v44]
  rw [xq_at V n H, rq_at V n H, EReal.coe_mul]

include H in
theorem gq_at (h : Fin 8) (k : Fin 64) : (res_main_v45 V : FVec Ideal S1x8x64 .f32) (ix3 0 h k) = ((n.gq k : ℝ) : EReal) := by
  rw [← H.gq]
  pointwise [res_main_v45]

include H in
theorem zq_at (r : Fin 4096) (h : Fin 8) (k : Fin 64) : (res_main_v102 V : FVec Ideal S4096x8x64 .f32) (ix3 r h k) = ((n.dq r (cq h k) * (1 / 8) : ℝ) : EReal) := by
  rw [EReal.coe_mul, ← H.dq, ← ofBits_eighth]
  pointwise [res_main_v102]
  try rfl

include H in
theorem yq_at (r : Fin 4096) (h : Fin 8) (k : Fin 64) : (res_main_v151 V : FVec Ideal S4096x8x64 .f32) (ix3 r h k) = ((n.yq r h k : ℝ) : EReal) := by
  pointwise [res_main_v151, res_main_v138, res_main_v139, res_main_v50, res_main_v51]
  simp only [zq_at V n H, cos_at, sin_at, ← EReal.coe_mul, ← EReal.coe_add, ← EReal.coe_neg]
  unfold Nums.yq
  rw [rot_eq]
  split_ifs <;> rfl

include H in
theorem uq_at (r : Fin 4096) (h : Fin 8) (k : Fin 64) : (res_main_v156 V : FVec Ideal S4096x8x64 .f32) (ix3 r h k) = ((n.yq r h k * n.gq k : ℝ) : EReal) := by
  pointwise [res_main_v156]
  rw [yq_at V n H, gq_at V n H, EReal.coe_mul]

include H in
theorem tq_at (r : Fin 4096) (h : Fin 8) (k : Fin 64) : (res_main_v167 V : FVec Ideal S4096x8x64 .f32) (ix3 r h k)
    = (((∑ i, n.xq r h i * (n.yq r h i * n.gq i)) * (-(1 / 2) * (rn 64 (n.xq r h) * (rn 64 (n.xq r h) * rn 64 (n.xq r h)))) / 64 : ℝ) : EReal) := by
  pointwise [res_main_v167]
  simp (disch := norm_num) only [only, xq_at V n H, uq_at V n H, mq_at V n H, rq_at V n H, ofBits_64, ofBits_neg_half, ← EReal.coe_mul, sum_coe, div_ne, div_ms, div_ms_eq, Finset.univ_unique, Finset.sum_singleton]

/-- The gradient of the norm's input. -/
def dxqT : FVec Ideal S4096x512 .f32 :=
  shapeCast _ (addf (addf (mulf (res_main_v156 V) (broadcastInDim S4096x8x64 ![0, 1, 2] bcast_S4096x8x1_S4096x8x64_0_1_2 (res_main_v39 V))) (mulf (res_main_v31 V) (res_main_v167 V)))
    (mulf (res_main_v167 V) (res_main_v31 V)) : FVec Ideal S4096x8x64 .f32) shapeCasts_S4096x8x64_S4096x512

include H in
theorem dxqT_at (r : Fin 4096) (h : Fin 8) (k : Fin 64) : dxqT V (ix2 r (cq h k)) = ((n.dxq r h k : ℝ) : EReal) := by
  unfold Nums.dxq
  rw [← hdx_eq]
  pointwise [dxqT]
  rw [head_div h k, col_mod h.val k, uq_at V n H, rq_at V n H, xq_at V n H, tq_at V n H, ← EReal.coe_mul, ← EReal.coe_mul, ← EReal.coe_mul, ← EReal.coe_add, ← EReal.coe_add]

include H in
theorem dgq_at (j : S1x512.Idx) : (shapeCast _ (Host.reduceAdd (shapeCast _ (Host.reduceAdd (mulf (res_main_v44 V) (res_main_v151 V)) (constant S_ .f32 0x00000000#32) reducesTo_S4096x8x64_S8x64_d0 h_S_) shapeCasts_S8x64_S1x8x64)
      (constant S_ .f32 0x00000000#32) reducesTo_S1x8x64_S8x64_d0 h_S_) shapeCasts_S8x64_S1x512 : FVec Ideal S1x512 .f32) j = dgqArr n j := by
  obtain ⟨l, rfl⟩ : ∃ l : Fin 512, j = ix2 0 l := ⟨j 1, by rw [ValueIdx.eq_ix2 j]; congr 1; exact Subsingleton.elim (α := Fin 1) _ _⟩
  obtain ⟨h, k, rfl⟩ := col_q l
  rw [dgqArr_at]
  pointwise
  simp only [nq_at V n H, yq_at V n H, ← EReal.coe_mul, sum_coe, Finset.univ_unique, Finset.sum_singleton]
  refine congrArg _ (Finset.sum_congr rfl fun i _ => ?_)
  rw [head_div h k, col_mod h.val k]
  unfold hdg
  ring

/-! ## The keys -/

include H in
theorem xk_at (r : Fin 4096) (h : Fin 2) (k : Fin 64) : (res_main_v63 V : FVec Ideal S4096x2x64 .f32) (ix3 r h k) = ((n.xk r h k : ℝ) : EReal) := by
  unfold Nums.xk
  rw [← H.x]
  pointwise [res_main_v63]
  try rfl

include H in
theorem mk_at (r : Fin 4096) (h : Fin 2) : (res_main_v70 V : FVec Ideal S4096x2x1 .f32) (ix3 r h 0) = ((ms 64 (n.xk r h) : ℝ) : EReal) := by
  pointwise [res_main_v70]
  simp (disch := norm_num) only [xk_at V n H, ofBits_64, ofBits_eps, ← EReal.coe_mul, ← EReal.coe_add, sum_coe, div_ne, ms_fold]

include H in
theorem rk_at (r : Fin 4096) (h : Fin 2) : (res_main_v71 V : FVec Ideal S4096x2x1 .f32) (ix3 r h 0) = ((rn 64 (n.xk r h) : ℝ) : EReal) := by
  pointwise [res_main_v71]
  rw [mk_at V n H, rsqrt_ms (by norm_num)]

include H in
theorem nk_at (r : Fin 4096) (h : Fin 2) (k : Fin 64) : (res_main_v76 V : FVec Ideal S4096x2x64 .f32) (ix3 r h k) = ((n.xk r h k * rn 64 (n.xk r h) : ℝ) : EReal) := by
  pointwise [res_main_v76]
  rw [xk_at V n H, rk_at V n H, EReal.coe_mul]

include H in
theorem gk_at (h : Fin 2) (k : Fin 64) : (res_main_v77 V : FVec Ideal S1x2x64 .f32) (ix3 0 h k) = ((n.gk k : ℝ) : EReal) := by
  rw [← H.gk]
  pointwise [res_main_v77]

include H in
theorem zk_at (r : Fin 4096) (h : Fin 2) (k : Fin 64) : (res_main_v99 V : FVec Ideal S4096x2x64 .f32) (ix3 r h k) = ((n.dk r (ck h k) : ℝ) : EReal) := by
  rw [← H.dk]
  pointwise [res_main_v99]
  try rfl

include H in
theorem yk_at (r : Fin 4096) (h : Fin 2) (k : Fin 64) : (res_main_v116 V : FVec Ideal S4096x2x64 .f32) (ix3 r h k) = ((n.yk r h k : ℝ) : EReal) := by
  pointwise [res_main_v116, res_main_v103, res_main_v104, res_main_v82, res_main_v83]
  simp only [zk_at V n H, cos_at, sin_at, ← EReal.coe_mul, ← EReal.coe_add, ← EReal.coe_neg]
  unfold Nums.yk
  rw [rot_eq]
  split_ifs <;> rfl

include H in
theorem uk_at (r : Fin 4096) (h : Fin 2) (k : Fin 64) : (res_main_v121 V : FVec Ideal S4096x2x64 .f32) (ix3 r h k) = ((n.yk r h k * n.gk k : ℝ) : EReal) := by
  pointwise [res_main_v121]
  rw [yk_at V n H, gk_at V n H, EReal.coe_mul]

include H in
theorem tk_at (r : Fin 4096) (h : Fin 2) (k : Fin 64) : (res_main_v132 V : FVec Ideal S4096x2x64 .f32) (ix3 r h k)
    = (((∑ i, n.xk r h i * (n.yk r h i * n.gk i)) * (-(1 / 2) * (rn 64 (n.xk r h) * (rn 64 (n.xk r h) * rn 64 (n.xk r h)))) / 64 : ℝ) : EReal) := by
  pointwise [res_main_v132]
  simp (disch := norm_num) only [only, xk_at V n H, uk_at V n H, mk_at V n H, rk_at V n H, ofBits_64, ofBits_neg_half, ← EReal.coe_mul, sum_coe, div_ne, div_ms, div_ms_eq, Finset.univ_unique, Finset.sum_singleton]

/-- The gradient of the norm's input. -/
def dxkT : FVec Ideal S4096x128 .f32 :=
  shapeCast _ (addf (addf (mulf (res_main_v121 V) (broadcastInDim S4096x2x64 ![0, 1, 2] bcast_S4096x2x1_S4096x2x64_0_1_2 (res_main_v71 V))) (mulf (res_main_v63 V) (res_main_v132 V)))
    (mulf (res_main_v132 V) (res_main_v63 V)) : FVec Ideal S4096x2x64 .f32) shapeCasts_S4096x2x64_S4096x128

include H in
theorem dxkT_at (r : Fin 4096) (h : Fin 2) (k : Fin 64) : dxkT V (ix2 r (ck h k)) = ((n.dxk r h k : ℝ) : EReal) := by
  unfold Nums.dxk
  rw [← hdx_eq]
  pointwise [dxkT]
  rw [head_div h k, col_mod h.val k, uk_at V n H, rk_at V n H, xk_at V n H, tk_at V n H, ← EReal.coe_mul, ← EReal.coe_mul, ← EReal.coe_mul, ← EReal.coe_add, ← EReal.coe_add]

include H in
theorem dgk_at (j : S1x128.Idx) : (shapeCast _ (Host.reduceAdd (shapeCast _ (Host.reduceAdd (mulf (res_main_v76 V) (res_main_v116 V)) (constant S_ .f32 0x00000000#32) reducesTo_S4096x2x64_S2x64_d0 h_S_) shapeCasts_S2x64_S1x2x64)
      (constant S_ .f32 0x00000000#32) reducesTo_S1x2x64_S2x64_d0 h_S_) shapeCasts_S2x64_S1x128 : FVec Ideal S1x128 .f32) j = dgkArr n j := by
  obtain ⟨l, rfl⟩ : ∃ l : Fin 128, j = ix2 0 l := ⟨j 1, by rw [ValueIdx.eq_ix2 j]; congr 1; exact Subsingleton.elim (α := Fin 1) _ _⟩
  obtain ⟨h, k, rfl⟩ := col_k l
  rw [dgkArr_at]
  pointwise
  simp only [nk_at V n H, yk_at V n H, ← EReal.coe_mul, sum_coe, Finset.univ_unique, Finset.sum_singleton]
  refine congrArg _ (Finset.sum_congr rfl fun i _ => ?_)
  rw [head_div h k, col_mod h.val k]
  unfold hdg
  ring

end Cert.Qk.Ref
end
-- ==== Proof.Qk.lean ====
/-
  The head norms and the rotary embedding, backward: the reference's run, and what the precondition gives.
-/
module

public import proofs.«01_k».proof.Proof.QkRun
public import proofs.«01_k».proof.Proof.QkRef
public import proofs.«01_k».proof.Pre_qk_finite

@[expose] public section

set_option maxRecDepth 16384

noncomputable section

namespace Cert.Qk

open Idealize.ShloMosaic Idealize.ShloMosaic.TcCoe Idealize.ShloMosaic.StableHlo Idealize.SL.Sem
open Cert.RealNum

section RefRun
open Cert.QkReferenceIdeal Cert.QkReferenceIdeal.Gen Cert.QkReferenceIdeal.Value

/-- The three gradients side by side. -/
theorem cat_eq (a : FVec Ideal S4096x512 .f32) (b d : FVec Ideal S4096x128 .f32) (n : Nums)
    (ha : ∀ r h e, a (ix2 r (cq h e)) = ((n.dxq r h e : ℝ) : EReal)) (hb : ∀ r h e, b (ix2 r (ck h e)) = ((n.dxk r h e : ℝ) : EReal))
    (hd : ∀ r e, d (ix2 r e) = ((n.dv r e : ℝ) : EReal)) :
    (truncf (F := Ideal) .bf16 (concatenate S4096x768 1 [⟨S4096x512, a⟩, ⟨S4096x128, b⟩, ⟨S4096x128, d⟩]
      concatenates_S4096x512_S4096x128_S4096x128_S4096x768_d1 : FVec Ideal S4096x768 .f32) bitsLt_bf16_f32 : FVec Ideal S4096x768 .bf16) = dpArr n := by
  refine funext fun (j : S4096x768.Idx) => ?_
  obtain ⟨r, l, rfl⟩ : ∃ (r : Fin 4096) (l : Fin 768), j = ix2 r l := ⟨j 0, j 1, ValueIdx.eq_ix2 j⟩
  refine Eq.trans ?_ (out_cases (fun i => a (ix2 r i)) (fun i => b (ix2 r i)) (fun i => d (ix2 r i)) (n.dxq r) (n.dxk r) (n.dv r) (ha r) (hb r) (hd r) l)
  pointwise

variable (m : (ℓ : Loc nD τ sig) → Buf (Elt Ideal) ℓ) (ρ : Dev nD → PrngReg) (n : Dev nD → Nums)
  (H : ∀ c : Dev nD, Holds (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (n c))

include H in
/-- The reference ends at the three gradients, its arguments as they were. -/
theorem ref_run : θ_run defs (onTc (τ := τ) (main (F := Ideal))) ⟨m, fun _ => 0, ρ⟩ fun r => ∀ c : Dev nD,
      r.2.mem ((c.tc : Thread nD τ).loc main_v174) = dpArr (n c)
      ∧ r.2.mem ((c.tc : Thread nD τ).loc main_v175) = dgqArr (n c)
      ∧ r.2.mem ((c.tc : Thread nD τ).loc main_v176) = dgkArr (n c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Value.run (F := Ideal) m ρ)
  obtain ⟨h0, h1, h2, h3⟩ := h c
  refine ⟨h0.trans ?_, h1.trans ?_, h2.trans ?_, h3⟩ <;> clear h h0 h1 h2 h3 r
  · exact cat_eq (Ref.dxqT (launchContents m c)) (Ref.dxkT (launchContents m c)) (m ((c.tc : Thread nD τ).loc main_arg5)) (n c)
      (fun r h e => Ref.dxqT_at (launchContents m c) (n c) (H c) r h e) (fun r h e => Ref.dxkT_at (launchContents m c) (n c) (H c) r h e) (H c).dv
  · exact funext fun j => Ref.dgq_at (launchContents m c) (n c) (H c) j
  · exact funext fun j => Ref.dgk_at (launchContents m c) (n c) (H c) j

end RefRun

/-- Finite arguments are real arrays. -/
theorem reals [Cert.Pre_qk_finite.Facts] (x : FVec Ideal ⟨2, ![4096, 768]⟩ .f32) (gq gk : FVec Ideal ⟨2, ![1, 64]⟩ .f32)
    (dq : FVec Ideal ⟨2, ![4096, 512]⟩ .f32) (dk dv : FVec Ideal ⟨2, ![4096, 128]⟩ .f32)
    (h : (Cert.Pre_qk_finite.fn (F := Ideal) x gq gk dq dk dv).1 = (fun _ => 1#1)
      ∧ (Cert.Pre_qk_finite.fn (F := Ideal) x gq gk dq dk dv).2.1 = (fun _ => 1#1)
      ∧ (Cert.Pre_qk_finite.fn (F := Ideal) x gq gk dq dk dv).2.2.1 = (fun _ => 1#1)
      ∧ (Cert.Pre_qk_finite.fn (F := Ideal) x gq gk dq dk dv).2.2.2.1 = (fun _ => 1#1)
      ∧ (Cert.Pre_qk_finite.fn (F := Ideal) x gq gk dq dk dv).2.2.2.2.1 = (fun _ => 1#1)
      ∧ (Cert.Pre_qk_finite.fn (F := Ideal) x gq gk dq dk dv).2.2.2.2.2 = (fun _ => 1#1)) :
    ∃ n : Nums, Holds x gq gk dq dk dv n := by
  obtain ⟨X0, h0⟩ := reals_of_test _ x h.1
  obtain ⟨X1, h1⟩ := reals_of_test _ gq h.2.1
  obtain ⟨X2, h2⟩ := reals_of_test _ gk h.2.2.1
  obtain ⟨X3, h3⟩ := reals_of_test _ dq h.2.2.2.1
  obtain ⟨X4, h4⟩ := reals_of_test _ dk h.2.2.2.2.1
  obtain ⟨X5, h5⟩ := reals_of_test _ dv h.2.2.2.2.2
  exact ⟨⟨fun r k => X0 (ix2 r k), fun k => X1 (ix2 0 k), fun k => X2 (ix2 0 k), fun r k => X3 (ix2 r k), fun r k => X4 (ix2 r k), fun r k => X5 (ix2 r k)⟩,
    fun _ _ => by rw [h0], fun _ => by rw [h1], fun _ => by rw [h2], fun _ _ => by rw [h3], fun _ _ => by rw [h4], fun _ _ => by rw [h5]⟩

end Cert.Qk
end
-- ==== Proof.FfnBody.lean ====
/- The feed-forward layer's backward call, one grid point: what its body leaves in the six outputs and in its scratch, as
   functions of the blocks it reads and of what it carries, and the run that shows it. -/
module

public import proofs.«01_k».proof.Proof.Gen.FfnKernelIdeal.Launch
public import proofs.«01_k».proof.Proof.Gen.FfnKernelIdeal.Skeleton
public import proofs.«01_k».proof.Proof.Gen.FfnKernelIdeal.Points
public import Idealize.ShloMosaic.Lib.Pipeline.FrameBody
public import Idealize.ShloMosaic.Lib.Ring
public import Idealize.ShloMosaic.Lib.Tactic
public import Idealize.ShloMosaic.Lib.VecWindow

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnKernelIdeal Cert.FfnKernelIdeal.Gen

variable {F : FTy → Type} [FloatOps F]

local notation "𝕄" => MT nD τ sig Unit (Elt F) ℕ (UR sig nD τ) ℕ

/-- The blocks the body reads at a point: the output's gradient, the layer's input, the norm's weight, the gate's value and
derivative and the other factor that the forward pass saved, and the point's columns of the three weights. -/
structure Blocks (F : FTy → Type) [FloatOps F] where
  dout : Vec F S512x1024 .f32
  x : Vec F S512x1024 .f32
  g : Vec F S1x1024 .f32
  silu : Vec F S1x512x704 .bf16
  dsilu : Vec F S1x512x704 .bf16
  b : Vec F S1x512x704 .bf16
  wg : Vec F S1x704x1024 .bf16
  wu : Vec F S1x704x1024 .bf16
  wd : Vec F S1x704x1024 .bf16

/-- What the body carries from point to point: the gradient at the normed input summed so far, the halved output gradient, and
the norm weight's gradient summed so far. -/
structure Carried (F : FTy → Type) [FloatOps F] where
  dh : Vec F S512x1024 .f32
  half : Vec F S512x1024 .bf16
  dg : Vec F S1x1024 .f32

/-! ## The body's accesses and values -/

abbrev rA : Rect S512x1024 := Rect.unit (s := S512x1024) ![0, 0] S512x1024.size inb_S512x1024_S512x1024_0_0
abbrev rG : Rect S1x1024 := Rect.unit (s := S1x1024) ![0, 0] S1x1024.size inb_S1x1024_S1x1024_0_0
abbrev rW : Rect S1x704x1024 := Rect.unit (s := S1x704x1024) ![0, 0, 0] S1x704x1024.size inb_S1x704x1024_S1x704x1024_0_0_0
/-- The upper and the lower 256 rows of a block. -/
abbrev r0 : Rect S512x1024 := Rect.unit (s := S512x1024) ![0, 0] S256x1024.size inb_S512x1024_S256x1024_0_0
abbrev r1 : Rect S512x1024 := Rect.unit (s := S512x1024) ![256, 0] S256x1024.size inb_S512x1024_S256x1024_256_0
abbrev s0 : Rect S1x512x704 := Rect.unit (s := S1x512x704) ![0, 0, 0] S1x256x704.size inb_S1x512x704_S1x256x704_0_0_0
abbrev s1 : Rect S1x512x704 := Rect.unit (s := S1x512x704) ![0, 256, 0] S1x256x704.size inb_S1x512x704_S1x256x704_0_256_0

/-- The gradient at the layer's inner product, of the upper and of the lower rows. -/
def dp0 (x : Blocks F) (h : Vec F S512x1024 .bf16) : FVec F S256x704 .f32 := k0_pay7 (View.ld h r0) (View.ld x.wd rW)
def dp1 (x : Blocks F) (h : Vec F S512x1024 .bf16) : FVec F S256x704 .f32 := k0_pay8 (View.ld h r1) (View.ld x.wd rW)
/-- The gate's gradient and the other factor's, of the upper and of the lower rows. -/
def da0 (x : Blocks F) (h : Vec F S512x1024 .bf16) : FVec F S256x704 .bf16 :=
  k0_pay11 (View.ld h r0) (View.ld x.wd rW) (View.ld x.b s0) (View.ld x.dsilu s0)
def da1 (x : Blocks F) (h : Vec F S512x1024 .bf16) : FVec F S256x704 .bf16 :=
  k0_pay18 (dp1 x h) (View.ld x.b s1) (View.ld x.dsilu s1)
def db0 (x : Blocks F) (h : Vec F S512x1024 .bf16) : FVec F S256x704 .bf16 := k0_pay12 (dp0 x h) (k0_pay9 (View.ld x.silu s0))
def db1 (x : Blocks F) (h : Vec F S512x1024 .bf16) : FVec F S256x704 .bf16 := k0_pay19 (dp1 x h) (View.ld x.silu s1)

/-- The three outputs of every point. -/
def daOut (x : Blocks F) (h : Vec F S512x1024 .bf16) : Vec F S1x512x704 .bf16 :=
  View.canon [⟨s1, k0_pay20 (dp1 x h) (View.ld x.b s1) (View.ld x.dsilu s1)⟩, ⟨s0, k0_pay13 (da0 x h)⟩]
def dbOut (x : Blocks F) (h : Vec F S512x1024 .bf16) : Vec F S1x512x704 .bf16 :=
  View.canon [⟨s1, k0_pay21 (db1 x h)⟩, ⟨s0, k0_pay14 (dp0 x h) (k0_pay9 (View.ld x.silu s0))⟩]
def fOut (x : Blocks F) : Vec F S1x512x704 .bf16 :=
  View.canon [⟨s1, k0_pay22 (k0_pay16 (View.ld x.silu s1)) (k0_pay17 (View.ld x.b s1))⟩,
    ⟨s0, k0_pay15 (k0_pay9 (View.ld x.silu s0)) (k0_pay10 (View.ld x.b s0))⟩]

/-- What the point starts its sum from, and the halved output gradient it uses: the first of a row block's four points
begins anew. -/
def dhIn (i : grid0.Coords) (dh : Vec F S512x1024 .f32) : Vec F S512x1024 .f32 := if k0_cond1 i = 1#1 then k0_pay4 else dh
def halfOut (i : grid0.Coords) (dout : Vec F S512x1024 .f32) (h : Vec F S512x1024 .bf16) : Vec F S512x1024 .bf16 :=
  if k0_cond1 i = 1#1 then k0_pay5 (View.ld dout rA) else h
/-- The sum after the point, over the halved output gradient it uses. -/
def dhOut (i : grid0.Coords) (x : Blocks F) (h : Vec F S512x1024 .bf16) (dh : Vec F S512x1024 .f32) : Vec F S512x1024 .f32 :=
  View.canon [⟨r1, k0_pay24 (da1 x h) (db1 x h) (View.ld (dhIn i dh) r1) (View.ld x.wg rW) (View.ld x.wu rW)⟩,
    ⟨r0, k0_pay23 (da0 x h) (db0 x h) (View.ld (dhIn i dh) r0) (View.ld x.wg rW) (View.ld x.wu rW)⟩]
/-- The norm weight's sum as the point finds it, the grid's first point beginning anew, and after the point: the last of a
row block's four points adds. -/
def dgIn (i : grid0.Coords) (dg : Vec F S1x1024 .f32) : Vec F S1x1024 .f32 := if k0_cond2 i = 1#1 then k0_pay6 else dg
def dgOut (i : grid0.Coords) (x : Blocks F) (dh : Vec F S512x1024 .f32) (dg : Vec F S1x1024 .f32) : Vec F S1x1024 .f32 :=
  if k0_cond3 i = 1#1 then k0_pay3 (View.ld x.x rA) (View.ld dh rA) (View.ld (dgIn i dg) rG) else dgIn i dg
/-- The input's gradient, from the finished sum. -/
def dxOut (x : Blocks F) (dh : Vec F S512x1024 .f32) : Vec F S512x1024 .f32 :=
  k0_pay2 (View.ld x.x rA) (View.ld dh rA) (View.ld x.g rG) (View.ld x.dout rA)

/-- What the body carries on from a point. -/
def step (i : grid0.Coords) (x : Blocks F) (s : Carried F) : Carried F where
  dh := dhOut i x (halfOut i x.dout s.half) s.dh
  half := halfOut i x.dout s.half
  dg := dgOut i x (dhOut i x (halfOut i x.dout s.half) s.dh) s.dg

theorem cover (a b : Vec F S1x256x704 .bf16) (y : S1x512x704.Idx) :
    ∃ pc ∈ ([⟨s1, a⟩, ⟨s0, b⟩] : List (View.Piece (Elt F) S1x512x704 .bf16)), y ∈ pc.1.set :=
  View.cover_of_tiled [⟨s1, a⟩, ⟨s0, b⟩] S1x256x704.size (by rfl) y

theorem halves (a b : Vec F S256x1024 .f32) (y : S512x1024.Idx) :
    ∃ pc ∈ ([⟨r1, a⟩, ⟨r0, b⟩] : List (View.Piece (Elt F) S512x1024 .f32)), y ∈ pc.1.set :=
  View.cover_of_tiled [⟨r1, a⟩, ⟨r0, b⟩] S256x1024.size (by rfl) y

/-- A buffer stored whole where a condition holds. -/
theorem read_stored {sp : Space} {sh : Shape} {e : EltTy} {C : Prop} [Decidable C] (v : View sig .tc sp sh e) (f : v.ty.Contents (Elt F))
    {off : Fin sh.rank → ℕ} (h : ∀ a, off a + sh.size a ≤ sh.size a) (w : sh.Idx → Elt F e) :
    v.read (Elt F) (if _ : C then v.writes (Elt F) f [⟨Rect.unit off sh.size h, w⟩] else f) = if C then w else v.read (Elt F) f := by
  split
  · exact View.read_writes_full _ _ _ _ _
  · rfl

/-! ## The body's run -/

section Run

variable (c : Dev nD) (E : Set ℕ) (i : grid0.Coords)
  (arg2 : Memref sig .tc .vmem S512x1024 .f32) (harg2 : arg2.IsWhole)
  (arg3 : Memref sig .tc .vmem S512x1024 .f32) (harg3 : arg3.IsWhole)
  (arg4 : Memref sig .tc .vmem S1x1024 .f32) (harg4 : arg4.IsWhole)
  (arg5 : Memref sig .tc .vmem S1x512x704 .bf16) (harg5 : arg5.IsWhole)
  (arg6 : Memref sig .tc .vmem S1x512x704 .bf16) (harg6 : arg6.IsWhole)
  (arg7 : Memref sig .tc .vmem S1x512x704 .bf16) (harg7 : arg7.IsWhole)
  (arg8 : Memref sig .tc .vmem S1x704x1024 .bf16) (harg8 : arg8.IsWhole)
  (arg9 : Memref sig .tc .vmem S1x704x1024 .bf16) (harg9 : arg9.IsWhole)
  (arg10 : Memref sig .tc .vmem S1x704x1024 .bf16) (harg10 : arg10.IsWhole)
  (arg11 : Memref sig .tc .vmem S512x1024 .f32) (harg11 : arg11.IsWhole)
  (arg12 : Memref sig .tc .vmem S1x512x704 .bf16) (harg12 : arg12.IsWhole)
  (arg13 : Memref sig .tc .vmem S1x512x704 .bf16) (harg13 : arg13.IsWhole)
  (arg14 : Memref sig .tc .vmem S1x512x704 .bf16) (harg14 : arg14.IsWhole)
  (arg15 : Memref sig .tc .vmem S1x1024 .f32) (harg15 : arg15.IsWhole)
  (arg16 : Memref sig .tc .vmem S512x1024 .bf16) (harg16 : arg16.IsWhole)
  (arg17 : Memref sig .tc .vmem S512x1024 .f32) (harg17 : arg17.IsWhole)

/-- The nine input buffers at the blocks `x`. -/
abbrev inputs (x : Blocks F) : sProp 𝕄 :=
  iprop(owns (c : Thread nD τ) arg2 fullShare x.dout
    ∗ owns (c : Thread nD τ) arg3 fullShare x.x
    ∗ owns (c : Thread nD τ) arg4 fullShare x.g
    ∗ owns (c : Thread nD τ) arg5 fullShare x.silu
    ∗ owns (c : Thread nD τ) arg6 fullShare x.dsilu
    ∗ owns (c : Thread nD τ) arg7 fullShare x.b
    ∗ owns (c : Thread nD τ) arg8 fullShare x.wg
    ∗ owns (c : Thread nD τ) arg9 fullShare x.wu
    ∗ owns (c : Thread nD τ) arg10 fullShare x.wd)

/-- What the body gives back: the inputs as they were, the outputs and the scratch at what the point leaves over `s` and `dx`. -/
abbrev given (x : Blocks F) (s : Carried F) (dx : Vec F S512x1024 .f32) : sProp 𝕄 :=
  iprop(inputs c arg2 arg3 arg4 arg5 arg6 arg7 arg8 arg9 arg10 x
    ∗ owns (c : Thread nD τ) arg11 fullShare (if k0_cond3 i = 1#1 then dxOut x (step i x s).dh else dx)
    ∗ owns (c : Thread nD τ) arg12 fullShare (daOut x (step i x s).half)
    ∗ owns (c : Thread nD τ) arg13 fullShare (dbOut x (step i x s).half)
    ∗ owns (c : Thread nD τ) arg14 fullShare (fOut x)
    ∗ owns (c : Thread nD τ) arg15 fullShare (step i x s).dg
    ∗ owns (c : Thread nD τ) arg16 fullShare (step i x s).half
    ∗ owns (c : Thread nD τ) arg17 fullShare (step i x s).dh)

set_option maxHeartbeats 4000000 in
/-- One point of the grid. -/
theorem body (x : Blocks F) (s : Carried F) (dx : Vec F S512x1024 .f32) (K : PUnit → sProp 𝕄) :
    iprop(inputs c arg2 arg3 arg4 arg5 arg6 arg7 arg8 arg9 arg10 x ∗ owns (c : Thread nD τ) arg11 fullShare dx
        ∗ (∃ d, owns (c : Thread nD τ) arg12 fullShare d) ∗ (∃ d, owns (c : Thread nD τ) arg13 fullShare d) ∗ (∃ d, owns (c : Thread nD τ) arg14 fullShare d)
        ∗ owns (c : Thread nD τ) arg15 fullShare s.dg ∗ owns (c : Thread nD τ) arg16 fullShare s.half ∗ owns (c : Thread nD τ) arg17 fullShare s.dh
        ∗ (given c i arg2 arg3 arg4 arg5 arg6 arg7 arg8 arg9 arg10 arg11 arg12 arg13 arg14 arg15 arg16 arg17 x s dx -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_ffn_bwd_eq_skeleton]; unfold cc0_ffn_bwd_skel
  simp only [k0_part1_eq_skeleton, k0_part2_eq_skeleton, k0_part3_eq_skeleton, k0_part4_eq_skeleton]
  obtain ⟨xdout, xx, xg, xsilu, xdsilu, xb, xwg, xwu, xwd⟩ := x
  obtain ⟨sdh, shalf, sdg⟩ := s
  unfold given inputs owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩⟩, ⟨%f11, %hf11, H11⟩, ⟨%d12, %f12, -, H12⟩, ⟨%d13, %f13, -, H13⟩, ⟨%d14, %f14, -, H14⟩, ⟨%f15, %hf15, H15⟩, ⟨%f16, %hf16, H16⟩, ⟨%f17, %hf17, H17⟩, Hk⟩
  subst hf2 hf3 hf4 hf5 hf6 hf7 hf8 hf9 hf10 hf11 hf15 hf16 hf17
  sl_exec
  sl_step
  have e16 : arg16.view.read (Elt F) (if _ : k0_cond1 i = 1#1 then arg16.view.writes (Elt F) f16 [⟨rA, k0_pay5 (arg2.view.readAt (Elt F) rA.toLoadRect f2)⟩] else f16)
      = halfOut i (arg2.view.read (Elt F) f2) (arg16.view.read (Elt F) f16) := read_stored ..
  have e17 : arg17.view.read (Elt F) (if _ : k0_cond1 i = 1#1 then arg17.view.writes (Elt F) f17 [⟨rA, k0_pay4⟩] else f17)
      = dhIn i (arg17.view.read (Elt F) f17) := read_stored ..
  have e15 : arg15.view.read (Elt F) (if _ : k0_cond2 i = 1#1 then arg15.view.writes (Elt F) f15 [⟨rG, k0_pay6⟩] else f15)
      = dgIn i (arg15.view.read (Elt F) f15) := read_stored ..
  iapply Hk
  isplitl [H2 H3 H4 H5 H6 H7 H8 H9 H10]
  · isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    iexists f10; isplitr; · ipureintro; rfl
    iexact H10
  isplitl [H11]
  · iexists _; isplitr
    swap; · iexact H11
    ipureintro
    unfold step dhOut
    rw [← e16, ← e17, read_stored]
    refine if_congr .rfl ?_ rfl
    exact congrArg (fun dh => k0_pay2 _ dh _ _) (View.readCov_eq_canon_ld arg17.view _ rA (halves _ _))
  isplitl [H12]
  · iexists _; isplitr
    swap; · iexact H12
    ipureintro
    unfold step
    rw [← e16]
    exact (View.read_writes_eq_canon _ _ _ (cover _ _)).trans rfl
  isplitl [H13]
  · iexists _; isplitr
    swap; · iexact H13
    ipureintro
    unfold step
    rw [← e16]
    exact (View.read_writes_eq_canon _ _ _ (cover _ _)).trans rfl
  isplitl [H14]
  · iexists _; isplitr
    swap; · iexact H14
    ipureintro
    exact (View.read_writes_eq_canon _ _ _ (cover _ _)).trans rfl
  isplitl [H15]
  · iexists _; isplitr
    swap; · iexact H15
    ipureintro
    unfold step dgOut dhOut
    rw [← e15, ← e16, ← e17]
    split
    · refine (View.read_writes_full _ _ _ _ _).trans ?_
      exact congrArg (fun dh => k0_pay3 _ dh _) (View.readCov_eq_canon_ld arg17.view _ rA (halves _ _))
    · rfl
  isplitl [H16]
  · iexists _; isplitr
    swap; · iexact H16
    ipureintro
    exact e16
  · iexists _; isplitr
    swap; · iexact H17
    ipureintro
    unfold step dhOut
    rw [← e16, ← e17]
    exact (View.read_writes_eq_canon _ _ _ (halves _ _)).trans rfl

end Run

end Cert.Ffn
-- ==== Proof.FfnPay.lean ====
/- The feed-forward layer's backward call, one grid point: the values of its body's outputs, entry by entry, where the blocks
   it reads hold real numbers. -/
module

public import proofs.«01_k».proof.Proof.NormBwd
public import proofs.«01_k».proof.Proof.FfnBody
public import Idealize.ShloMosaic.Lib.Pipeline.ValueKit

@[expose] public section

set_option maxRecDepth 16384

noncomputable section

namespace Cert.Ffn

open Idealize.ShloMosaic Idealize.ShloMosaic.TcCoe
open Cert.RealNum Cert.NormBwd Cert.FfnKernelIdeal Cert.FfnKernelIdeal.Gen

/-! ## Reading and writing the halves of a block -/

/-- A row of the upper and of the lower half. -/
abbrev up (r : Fin 256) : Fin 512 := ⟨r.val, by omega⟩
abbrev lo (r : Fin 256) : Fin 512 := ⟨256 + r.val, by omega⟩

theorem up_or_lo (r : Fin 512) : (∃ q, r = up q) ∨ ∃ q, r = lo q := by
  rcases Nat.lt_or_ge r.val 256 with h | h
  · exact .inl ⟨⟨r.val, h⟩, rfl⟩
  · exact .inr ⟨⟨r.val - 256, by omega⟩, Fin.ext (by show r.val = 256 + (r.val - 256); omega)⟩

theorem r0_emb (r : Fin 256) (l : Fin 1024) : r0.emb (ix2 r l) = (ix2 (up r) l : S512x1024.Idx) := by
  refine funext fun a => Fin.ext ?_
  fin_cases a
  · show 0 + 1 * r.val = r.val
    omega
  · show 0 + 1 * l.val = l.val
    omega

theorem r1_emb (r : Fin 256) (l : Fin 1024) : r1.emb (ix2 r l) = (ix2 (lo r) l : S512x1024.Idx) := by
  refine funext fun a => Fin.ext ?_
  fin_cases a
  · show 256 + 1 * r.val = 256 + r.val
    omega
  · show 0 + 1 * l.val = l.val
    omega

theorem s0_emb (r : Fin 256) (k : Fin 704) : s0.emb (ix3 (0 : Fin 1) r k) = (ix3 0 (up r) k : S1x512x704.Idx) := by
  refine funext fun a => Fin.ext ?_
  fin_cases a
  · rfl
  · show 0 + 1 * r.val = r.val
    omega
  · show 0 + 1 * k.val = k.val
    omega

theorem s1_emb (r : Fin 256) (k : Fin 704) : s1.emb (ix3 (0 : Fin 1) r k) = (ix3 0 (lo r) k : S1x512x704.Idx) := by
  refine funext fun a => Fin.ext ?_
  fin_cases a
  · rfl
  · show 256 + 1 * r.val = 256 + r.val
    omega
  · show 0 + 1 * k.val = k.val
    omega

section Read
variable {e : EltTy}

theorem ld_r0 (x : Vec Ideal S512x1024 e) (r : Fin 256) (l : Fin 1024) : View.ld x r0 (ix2 r l) = x (ix2 (up r) l) := congrArg x (r0_emb r l)
theorem ld_r1 (x : Vec Ideal S512x1024 e) (r : Fin 256) (l : Fin 1024) : View.ld x r1 (ix2 r l) = x (ix2 (lo r) l) := congrArg x (r1_emb r l)
theorem ld_s0 (x : Vec Ideal S1x512x704 e) (r : Fin 256) (k : Fin 704) : View.ld x s0 (ix3 0 r k) = x (ix3 0 (up r) k) := congrArg x (s0_emb r k)
theorem ld_s1 (x : Vec Ideal S1x512x704 e) (r : Fin 256) (k : Fin 704) : View.ld x s1 (ix3 0 r k) = x (ix3 0 (lo r) k) := congrArg x (s1_emb r k)
theorem ld_rA (x : Vec Ideal S512x1024 e) : View.ld x rA = x := View.ld_unit_lit _ _ (by decide)
theorem ld_rG (x : Vec Ideal S1x1024 e) : View.ld x rG = x := View.ld_unit_lit _ _ (by decide)
theorem ld_rW (x : Vec Ideal S1x704x1024 e) : View.ld x rW = x := View.ld_unit_lit _ _ (by decide)

end Read

theorem up_not_mem (q : Fin 256) (l : Fin 1024) : (ix2 (up q) l : S512x1024.Idx) ∉ r1.set := fun h => by
  have h' : (Rect.unit (s := S512x1024) ![256, 0] S256x1024.size inb_S512x1024_S256x1024_256_0).off 0 ≤ (ix2 (up q) l : S512x1024.Idx) 0 := (Rect.mem_set_unit.mp h 0).1
  have e : 256 ≤ q.val := h'
  have := q.isLt
  omega

theorem up_not_mem_shard (q : Fin 256) (k : Fin 704) : (ix3 0 (up q) k : S1x512x704.Idx) ∉ s1.set := fun h => by
  have h' : (Rect.unit (s := S1x512x704) ![0, 256, 0] S1x256x704.size inb_S1x512x704_S1x256x704_0_256_0).off 1 ≤ (ix3 0 (up q) k : S1x512x704.Idx) 1 := (Rect.mem_set_unit.mp h 1).1
  have e : 256 ≤ q.val := h'
  have := q.isLt
  omega

/-- A block written half by half. -/
theorem halves_at (a b : Vec Ideal S256x1024 .f32) (Z : Fin 512 → Fin 1024 → EReal) (ha : ∀ r l, a (ix2 r l) = Z (up r) l)
    (hb : ∀ r l, b (ix2 r l) = Z (lo r) l) (r : Fin 512) (l : Fin 1024) :
    View.canon ([⟨r1, b⟩, ⟨r0, a⟩] : List (View.Piece (Elt Ideal) S512x1024 .f32)) (ix2 r l) = Z r l := by
  rcases up_or_lo r with ⟨q, rfl⟩ | ⟨q, rfl⟩
  · refine (View.canon_cons_of_not_mem (⟨r1, b⟩ : View.Piece (Elt Ideal) S512x1024 .f32) _ (up_not_mem q l)).trans ?_
    rw [← r0_emb]
    exact (View.canon_cons_emb r0 a [] _).trans (ha q l)
  · rw [← r1_emb]
    exact (View.canon_cons_emb r1 b _ _).trans (hb q l)

theorem shard_at (a b : Vec Ideal S1x256x704 .bf16) (Z : Fin 512 → Fin 704 → EReal) (ha : ∀ r k, a (ix3 0 r k) = Z (up r) k)
    (hb : ∀ r k, b (ix3 0 r k) = Z (lo r) k) (r : Fin 512) (k : Fin 704) :
    View.canon ([⟨s1, b⟩, ⟨s0, a⟩] : List (View.Piece (Elt Ideal) S1x512x704 .bf16)) (ix3 0 r k) = Z r k := by
  rcases up_or_lo r with ⟨q, rfl⟩ | ⟨q, rfl⟩
  · refine (View.canon_cons_of_not_mem (⟨s1, b⟩ : View.Piece (Elt Ideal) S1x512x704 .bf16) _ (up_not_mem_shard q k)).trans ?_
    rw [← s0_emb]
    exact (View.canon_cons_emb s0 a [] _).trans (ha q k)
  · rw [← s1_emb]
    exact (View.canon_cons_emb s1 b _ _).trans (hb q k)

/-! ## The real numbers of a point's blocks -/

/-- The blocks' entries: `s`, `t`, `b` the gate's value, its derivative and the other factor. -/
structure Tile where
  d : Fin 512 → Fin 1024 → ℝ
  x : Fin 512 → Fin 1024 → ℝ
  g : Fin 1024 → ℝ
  s : Fin 512 → Fin 704 → ℝ
  t : Fin 512 → Fin 704 → ℝ
  b : Fin 512 → Fin 704 → ℝ
  wg : Fin 704 → Fin 1024 → ℝ
  wu : Fin 704 → Fin 1024 → ℝ
  wd : Fin 704 → Fin 1024 → ℝ

structure Holds (y : Blocks Ideal) (n : Tile) : Prop where
  d : ∀ r l, y.dout (ix2 r l) = ((n.d r l : ℝ) : EReal)
  x : ∀ r l, y.x (ix2 r l) = ((n.x r l : ℝ) : EReal)
  g : ∀ l, y.g (ix2 0 l) = ((n.g l : ℝ) : EReal)
  s : ∀ r k, y.silu (ix3 0 r k) = ((n.s r k : ℝ) : EReal)
  t : ∀ r k, y.dsilu (ix3 0 r k) = ((n.t r k : ℝ) : EReal)
  b : ∀ r k, y.b (ix3 0 r k) = ((n.b r k : ℝ) : EReal)
  wg : ∀ k l, y.wg (ix3 0 k l) = ((n.wg k l : ℝ) : EReal)
  wu : ∀ k l, y.wu (ix3 0 k l) = ((n.wu k l : ℝ) : EReal)
  wd : ∀ k l, y.wd (ix3 0 k l) = ((n.wd k l : ℝ) : EReal)

namespace Tile
variable (n : Tile)

/-- The gradient at the inner product of gate and factor, at the gate's logit, at the factor; the product; and the point's
share of the gradient at the normed input. -/
def dp (r : Fin 512) (k : Fin 704) : ℝ := ∑ l, 1 / 2 * n.d r l * n.wd k l
def da (r : Fin 512) (k : Fin 704) : ℝ := n.dp r k * n.b r k * n.t r k
def db (r : Fin 512) (k : Fin 704) : ℝ := n.dp r k * n.s r k
def f (r : Fin 512) (k : Fin 704) : ℝ := n.s r k * n.b r k
def part (r : Fin 512) (l : Fin 1024) : ℝ := (∑ k, n.da r k * n.wg k l) + ∑ k, n.db r k * n.wu k l

end Tile

section Pay
variable (p : FVec Ideal S256x704 .f32) (P : Fin 256 → Fin 704 → ℝ) (hp : ∀ r k, p (ix2 r k) = ((P r k : ℝ) : EReal))
  (b t : Vec Ideal S1x256x704 .bf16) (B T : Fin 256 → Fin 704 → ℝ) (hb : ∀ r k, b (ix3 0 r k) = ((B r k : ℝ) : EReal))
  (ht : ∀ r k, t (ix3 0 r k) = ((T r k : ℝ) : EReal))

theorem pay7_at (v : Vec Ideal S256x1024 .bf16) (w : Vec Ideal S1x704x1024 .bf16) (D : Fin 256 → Fin 1024 → ℝ) (W : Fin 704 → Fin 1024 → ℝ)
    (hv : ∀ r l, v (ix2 r l) = ((D r l : ℝ) : EReal)) (hw : ∀ k l, w (ix3 0 k l) = ((W k l : ℝ) : EReal)) (r : Fin 256) (k : Fin 704) :
    k0_pay7 v w (ix2 r k) = ((∑ l, D r l * W k l : ℝ) : EReal) := by
  pointwise [k0_pay7]
  simp only [hv, hw, ← EReal.coe_mul, sum_coe]

include hb in
theorem pay9_at (r : Fin 256) (k : Fin 704) : k0_pay9 b (ix2 r k) = ((B r k : ℝ) : EReal) := by
  pointwise [k0_pay9]
  exact hb r k

include hp hb ht in
theorem pay18_at (r : Fin 256) (k : Fin 704) : k0_pay18 p b t (ix2 r k) = ((P r k * B r k * T r k : ℝ) : EReal) := by
  pointwise [k0_pay18, k0_pay17]
  rw [hp, hb, ht, ← EReal.coe_mul, ← EReal.coe_mul]

include hp hb in
theorem pay19_at (r : Fin 256) (k : Fin 704) : k0_pay19 p b (ix2 r k) = ((P r k * B r k : ℝ) : EReal) := by
  pointwise [k0_pay19, k0_pay16]
  rw [hp, hb, ← EReal.coe_mul]

include hb ht in
theorem pay22_at (r : Fin 256) (k : Fin 704) : k0_pay22 (k0_pay16 t) (k0_pay17 b) (ix3 0 r k) = ((T r k * B r k : ℝ) : EReal) := by
  pointwise [k0_pay22, k0_pay16, k0_pay17]
  rw [hb, ht, ← EReal.coe_mul]

theorem pay23_at (u v : FVec Ideal S256x704 .bf16) (a : Vec Ideal S256x1024 .f32) (w z : Vec Ideal S1x704x1024 .bf16) (U V : Fin 256 → Fin 704 → ℝ)
    (A : Fin 256 → Fin 1024 → ℝ) (W Z : Fin 704 → Fin 1024 → ℝ) (hu : ∀ r k, u (ix2 r k) = ((U r k : ℝ) : EReal)) (hv : ∀ r k, v (ix2 r k) = ((V r k : ℝ) : EReal))
    (ha : ∀ r l, a (ix2 r l) = ((A r l : ℝ) : EReal)) (hw : ∀ k l, w (ix3 0 k l) = ((W k l : ℝ) : EReal)) (hz : ∀ k l, z (ix3 0 k l) = ((Z k l : ℝ) : EReal))
    (r : Fin 256) (l : Fin 1024) :
    k0_pay23 u v a w z (ix2 r l) = ((A r l + ((∑ k, U r k * W k l) + ∑ k, V r k * Z k l) : ℝ) : EReal) := by
  pointwise [k0_pay23]
  simp only [hu, hv, ha, hw, hz, ← EReal.coe_mul, sum_coe, ← EReal.coe_add]

/-- A product laid out as a shard. -/
theorem pay13_at (v : FVec Ideal S256x704 .bf16) (r : Fin 256) (k : Fin 704) : k0_pay13 v (ix3 0 r k) = v (ix2 r k) := by
  pointwise [k0_pay13]

end Pay

section Point
variable (x : Blocks Ideal) (n : Tile) (H : Holds x n) (h : Vec Ideal S512x1024 .bf16)
  (hh : ∀ r l, h (ix2 r l) = ((1 / 2 * n.d r l : ℝ) : EReal))
include H

theorem wd_at (k : Fin 704) (l : Fin 1024) : View.ld x.wd rW (ix3 0 k l) = ((n.wd k l : ℝ) : EReal) := by rw [ld_rW, H.wd]
theorem wg_at (k : Fin 704) (l : Fin 1024) : View.ld x.wg rW (ix3 0 k l) = ((n.wg k l : ℝ) : EReal) := by rw [ld_rW, H.wg]
theorem wu_at (k : Fin 704) (l : Fin 1024) : View.ld x.wu rW (ix3 0 k l) = ((n.wu k l : ℝ) : EReal) := by rw [ld_rW, H.wu]
theorem s_up (r : Fin 256) (k : Fin 704) : View.ld x.silu s0 (ix3 0 r k) = ((n.s (up r) k : ℝ) : EReal) := by rw [ld_s0, H.s]
theorem s_lo (r : Fin 256) (k : Fin 704) : View.ld x.silu s1 (ix3 0 r k) = ((n.s (lo r) k : ℝ) : EReal) := by rw [ld_s1, H.s]
theorem t_up (r : Fin 256) (k : Fin 704) : View.ld x.dsilu s0 (ix3 0 r k) = ((n.t (up r) k : ℝ) : EReal) := by rw [ld_s0, H.t]
theorem t_lo (r : Fin 256) (k : Fin 704) : View.ld x.dsilu s1 (ix3 0 r k) = ((n.t (lo r) k : ℝ) : EReal) := by rw [ld_s1, H.t]
theorem b_up (r : Fin 256) (k : Fin 704) : View.ld x.b s0 (ix3 0 r k) = ((n.b (up r) k : ℝ) : EReal) := by rw [ld_s0, H.b]
theorem b_lo (r : Fin 256) (k : Fin 704) : View.ld x.b s1 (ix3 0 r k) = ((n.b (lo r) k : ℝ) : EReal) := by rw [ld_s1, H.b]

include hh in
theorem dp0_at (r : Fin 256) (k : Fin 704) : dp0 x h (ix2 r k) = ((n.dp (up r) k : ℝ) : EReal) :=
  pay7_at _ _ (fun r l => 1 / 2 * n.d (up r) l) n.wd (fun r l => (ld_r0 h r l).trans (hh _ _)) (wd_at x n H) r k

include hh in
theorem dp1_at (r : Fin 256) (k : Fin 704) : dp1 x h (ix2 r k) = ((n.dp (lo r) k : ℝ) : EReal) :=
  pay7_at _ _ (fun r l => 1 / 2 * n.d (lo r) l) n.wd (fun r l => (ld_r1 h r l).trans (hh _ _)) (wd_at x n H) r k

include hh in
theorem da0_at (r : Fin 256) (k : Fin 704) : da0 x h (ix2 r k) = ((n.da (up r) k : ℝ) : EReal) :=
  pay18_at (dp0 x h) (fun r => n.dp (up r)) (dp0_at x n H h hh) _ _ (fun r => n.b (up r)) (fun r => n.t (up r)) (b_up x n H) (t_up x n H) r k

include hh in
theorem da1_at (r : Fin 256) (k : Fin 704) : da1 x h (ix2 r k) = ((n.da (lo r) k : ℝ) : EReal) :=
  pay18_at (dp1 x h) (fun r => n.dp (lo r)) (dp1_at x n H h hh) _ _ (fun r => n.b (lo r)) (fun r => n.t (lo r)) (b_lo x n H) (t_lo x n H) r k

include hh in
theorem db0_at (r : Fin 256) (k : Fin 704) : db0 x h (ix2 r k) = ((n.db (up r) k : ℝ) : EReal) :=
  pay19_at (dp0 x h) (fun r => n.dp (up r)) (dp0_at x n H h hh) _ (fun r => n.s (up r)) (s_up x n H) r k

include hh in
theorem db1_at (r : Fin 256) (k : Fin 704) : db1 x h (ix2 r k) = ((n.db (lo r) k : ℝ) : EReal) :=
  pay19_at (dp1 x h) (fun r => n.dp (lo r)) (dp1_at x n H h hh) _ (fun r => n.s (lo r)) (s_lo x n H) r k

include hh in
theorem daOut_at (r : Fin 512) (k : Fin 704) : daOut x h (ix3 0 r k) = ((n.da r k : ℝ) : EReal) :=
  shard_at _ _ (fun r k => ((n.da r k : ℝ) : EReal)) (fun r k => (pay13_at (da0 x h) r k).trans (da0_at x n H h hh r k))
    (fun r k => (pay13_at (da1 x h) r k).trans (da1_at x n H h hh r k)) r k

include hh in
theorem dbOut_at (r : Fin 512) (k : Fin 704) : dbOut x h (ix3 0 r k) = ((n.db r k : ℝ) : EReal) :=
  shard_at _ _ (fun r k => ((n.db r k : ℝ) : EReal)) (fun r k => (pay13_at (db0 x h) r k).trans (db0_at x n H h hh r k))
    (fun r k => (pay13_at (db1 x h) r k).trans (db1_at x n H h hh r k)) r k

theorem fOut_at (r : Fin 512) (k : Fin 704) : fOut x (ix3 0 r k) = ((n.f r k : ℝ) : EReal) :=
  shard_at _ _ (fun r k => ((n.f r k : ℝ) : EReal)) (fun r k => pay22_at _ _ (fun r => n.b (up r)) (fun r => n.s (up r)) (b_up x n H) (s_up x n H) r k)
    (fun r k => pay22_at _ _ (fun r => n.b (lo r)) (fun r => n.s (lo r)) (b_lo x n H) (s_lo x n H) r k) r k

include hh in
/-- The sum of the gradient at the normed input, after the point. -/
theorem dhOut_at (i : grid0.Coords) (dh : Vec Ideal S512x1024 .f32) (A : Fin 512 → Fin 1024 → ℝ)
    (ha : ∀ r l, dhIn i dh (ix2 r l) = ((A r l : ℝ) : EReal)) (r : Fin 512) (l : Fin 1024) :
    dhOut i x h dh (ix2 r l) = ((A r l + n.part r l : ℝ) : EReal) :=
  halves_at _ _ (fun r l => ((A r l + n.part r l : ℝ) : EReal))
    (fun r l => pay23_at _ _ _ _ _ (fun r => n.da (up r)) (fun r => n.db (up r)) (fun r => A (up r)) n.wg n.wu (da0_at x n H h hh) (db0_at x n H h hh)
      (fun r l => (ld_r0 _ r l).trans (ha _ _)) (wg_at x n H) (wu_at x n H) r l)
    (fun r l => pay23_at _ _ _ _ _ (fun r => n.da (lo r)) (fun r => n.db (lo r)) (fun r => A (lo r)) n.wg n.wu (da1_at x n H h hh) (db1_at x n H h hh)
      (fun r l => (ld_r1 _ r l).trans (ha _ _)) (wg_at x n H) (wu_at x n H) r l) r l

/-- The halved output gradient. -/
theorem half_at (r : Fin 512) (l : Fin 1024) : (k0_pay5 (View.ld x.dout rA) : FVec Ideal S512x1024 .bf16) (ix2 r l) = ((1 / 2 * n.d r l : ℝ) : EReal) := by
  rw [ld_rA]
  pointwise [k0_pay5]
  rw [H.d, ofBits_half, ← EReal.coe_mul]

section Norm
variable (dh : Vec Ideal S512x1024 .f32) (A : Fin 512 → Fin 1024 → ℝ) (ha : ∀ r l, dh (ix2 r l) = ((A r l : ℝ) : EReal))
include ha

/-- The input's gradient. -/
theorem dxOut_at (r : Fin 512) (l : Fin 1024) : dxOut x dh (ix2 r l) = ((n.d r l + nbRow (n.x r) n.g (A r) l : ℝ) : EReal) := by
  unfold dxOut
  rw [ld_rA, ld_rA, ld_rA, ld_rG]
  pointwise [k0_pay2, k0_pay1]
  simp (disch := norm_num) only [ha, H.x, H.d, H.g, ofBits_1024, ofBits_eps, ← EReal.coe_mul, ← EReal.coe_add, ← EReal.coe_sub, sum_coe, div_ne, ms_fold, rsqrt_ms]
  refine congrArg _ ?_
  unfold nbRow
  ring

/-- The norm weight's gradient, added to what the rows before have left. -/
theorem dg_at (acc : Vec Ideal S1x1024 .f32) (l : Fin 1024) :
    k0_pay3 (View.ld x.x rA) (View.ld dh rA) (View.ld acc rG) (ix2 0 l) = acc (ix2 0 l) + ((∑ r, ngRow (n.x r) (A r) l : ℝ) : EReal) := by
  rw [ld_rA, ld_rA, ld_rG]
  pointwise [k0_pay3, k0_pay1]
  simp (disch := norm_num) only [ha, H.x, ofBits_1024, ofBits_eps, ← EReal.coe_mul, ← EReal.coe_add, ← EReal.coe_sub, sum_coe, div_ne, ms_fold, rsqrt_ms]
  rfl

end Norm
end Point
end Cert.Ffn
end
-- ==== Proof.FfnSpec.lean ====
/- The feed-forward layer's gradient over the reals, token by token: the normed input's two projections, the gate's value and
   derivative, the gradients at the two projections, at the normed input, at the input and at the norm's weight. -/
module

public import proofs.«01_k».proof.Proof.FfnPay

@[expose] public section

noncomputable section

namespace Cert.Ffn

open Idealize.ShloMosaic Idealize.ShloMosaic.TcCoe
open Cert.RealNum Cert.NormBwd

/-- Row `r` of row block `i`, and hidden column `k` of shard `j`. -/
def row (i : ℕ) (r : Fin 512) : Fin 4096 := ⟨i % 8 * 512 + r.val, by omega⟩
def col (j : ℕ) (k : Fin 704) : Fin 2816 := ⟨j % 4 * 704 + k.val, by omega⟩

/-- The logistic function. -/
def sg (a : ℝ) : ℝ := 1 / (1 + Real.exp (-a))

/-- The arguments' entries. -/
structure Nums where
  X : Fin 4096 → Fin 1024 → ℝ
  G : Fin 1024 → ℝ
  Wg : Fin 1024 → Fin 2816 → ℝ
  Wu : Fin 1024 → Fin 2816 → ℝ
  Wd : Fin 2816 → Fin 1024 → ℝ
  D : Fin 4096 → Fin 1024 → ℝ

namespace Nums
variable (n : Nums)

/-- The normed input and its two projections. -/
def nrm (r : Fin 4096) (l : Fin 1024) : ℝ := n.X r l * rn 1024 (n.X r) * n.G l
def a (r : Fin 4096) (h : Fin 2816) : ℝ := ∑ l, n.nrm r l * n.Wg l h
def b (r : Fin 4096) (h : Fin 2816) : ℝ := ∑ l, n.nrm r l * n.Wu l h
/-- The gate's value and derivative. -/
def s (r : Fin 4096) (h : Fin 2816) : ℝ := n.a r h * sg (n.a r h)
def t (r : Fin 4096) (h : Fin 2816) : ℝ := sg (n.a r h) * (1 + n.a r h * (1 - sg (n.a r h)))
/-- The gradients at the product, at the gate's logit and at the other factor; and the product. -/
def dp (r : Fin 4096) (h : Fin 2816) : ℝ := ∑ l, 1 / 2 * n.D r l * n.Wd h l
def da (r : Fin 4096) (h : Fin 2816) : ℝ := n.dp r h * n.b r h * n.t r h
def db (r : Fin 4096) (h : Fin 2816) : ℝ := n.dp r h * n.s r h
def f (r : Fin 4096) (h : Fin 2816) : ℝ := n.s r h * n.b r h
/-- The gradient at the normed input, and a shard's part of it. -/
def dh (r : Fin 4096) (l : Fin 1024) : ℝ := (∑ h, n.da r h * n.Wg l h) + ∑ h, n.db r h * n.Wu l h
def part (r : Fin 4096) (j : ℕ) (l : Fin 1024) : ℝ := (∑ k, n.da r (col j k) * n.Wg l (col j k)) + ∑ k, n.db r (col j k) * n.Wu l (col j k)
/-- A row block's part of the norm weight's gradient. -/
def ng (i : ℕ) (l : Fin 1024) : ℝ := ∑ r, ngRow (n.X (row i r)) (n.dh (row i r)) l

/-- A grid point's blocks. -/
def tile (p : ℕ) : Tile where
  d r l := n.D (row (p / 4) r) l
  x r l := n.X (row (p / 4) r) l
  g l := n.G l
  s r k := n.s (row (p / 4) r) (col p k)
  t r k := n.t (row (p / 4) r) (col p k)
  b r k := n.b (row (p / 4) r) (col p k)
  wg k l := n.Wg l (col p k)
  wu k l := n.Wu l (col p k)
  wd k l := n.Wd (col p k) l

/-- The shards' parts make up the gradient at the normed input. -/
theorem parts (r : Fin 4096) (l : Fin 1024) : ∑ j ∈ Finset.range 4, n.part r j l = n.dh r l := by
  have key : ∀ u : Fin 2816 → ℝ, ∑ j ∈ Finset.range 4, ∑ k, u (col j k) = ∑ h, u h := fun u => by
    rw [Finset.sum_range, Fin.sum_univ_tiles 4 704 rfl u]
    refine Finset.sum_congr rfl fun j _ => Finset.sum_congr rfl fun k _ => congrArg u (Fin.ext ?_)
    show j.val % 4 * 704 + k.val = j.val * 704 + k.val
    rw [Nat.mod_eq_of_lt j.isLt]
  unfold part dh
  rw [Finset.sum_add_distrib, key fun h => n.da r h * n.Wg l h, key fun h => n.db r h * n.Wu l h]

/-- The row blocks' parts make up the norm weight's gradient. -/
theorem blocks_sum (l : Fin 1024) : ∑ i ∈ Finset.range 8, n.ng i l = ∑ r, ngRow (n.X r) (n.dh r) l := by
  unfold ng
  rw [Finset.sum_range, Fin.sum_univ_tiles 8 512 rfl fun r => ngRow (n.X r) (n.dh r) l]
  refine Finset.sum_congr rfl fun i _ => Finset.sum_congr rfl fun r _ => ?_
  rw [show row i.val r = ⟨i.val * 512 + r.val, by omega⟩ from Fin.ext (by
    show i.val % 8 * 512 + r.val = i.val * 512 + r.val
    rw [Nat.mod_eq_of_lt i.isLt])]

/-! ## The results -/

/-- The input's gradient; a per-token hidden array in shards; the norm weight's gradient; the halved output gradient. -/
def dxArr : FVec Ideal ⟨2, ![4096, 1024]⟩ .f32 := fun y => ((n.D (y 0) (y 1) + nbRow (n.X (y 0)) n.G (n.dh (y 0)) (y 1) : ℝ) : EReal)
def shards (u : Fin 4096 → Fin 2816 → ℝ) : FVec Ideal ⟨3, ![4, 4096, 704]⟩ .bf16 := fun y => ((u (y 1) (col (y 0).val (y 2)) : ℝ) : EReal)
def dgArr : FVec Ideal ⟨2, ![1, 1024]⟩ .f32 := fun y => ((∑ r, ngRow (n.X r) (n.dh r) (y 1) : ℝ) : EReal)
def halfArr : FVec Ideal ⟨2, ![4096, 1024]⟩ .bf16 := fun y => ((1 / 2 * n.D (y 0) (y 1) : ℝ) : EReal)

theorem dxArr_apply (r : Fin 4096) (l : Fin 1024) : n.dxArr (ix2 r l) = ((n.D r l + nbRow (n.X r) n.G (n.dh r) l : ℝ) : EReal) := rfl
theorem shards_apply (u : Fin 4096 → Fin 2816 → ℝ) (j : Fin 4) (r : Fin 4096) (k : Fin 704) : shards u (ix3 j r k) = ((u r (col j.val k) : ℝ) : EReal) := rfl
theorem dgArr_apply (l : Fin 1024) : n.dgArr (ix2 0 l) = ((∑ r, ngRow (n.X r) (n.dh r) l : ℝ) : EReal) := rfl
theorem halfArr_apply (r : Fin 4096) (l : Fin 1024) : n.halfArr (ix2 r l) = ((1 / 2 * n.D r l : ℝ) : EReal) := rfl

end Nums

/-! ## The logistic function of a real number -/

theorem sg_ne (a : ℝ) : 1 + Real.exp (-a) ≠ 0 := (add_pos_of_pos_of_nonneg one_pos (Real.exp_pos _).le).ne'

theorem sg_fold (a : ℝ) : 1 / (1 + Real.exp (-a)) = sg a := rfl

theorem sg_div (a : ℝ) : Ideal.div ((1 : ℝ) : EReal) ((1 + Real.exp (-a) : ℝ) : EReal) = ((sg a : ℝ) : EReal) := div_ne (sg_ne a) 1

end Cert.Ffn
end
-- ==== Proof.FfnData.lean ====
/- The feed-forward layer's backward call over its grid: what every point leaves in the six outputs and in the scratch, that the
   body keeps to it, and the run of the whole program. -/
module

public import proofs.«01_k».proof.Proof.FfnBody
public import proofs.«01_k».proof.Proof.Gen.FfnKernelIdeal.Frame
public import Idealize.ShloMosaic.Lib.Claim

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.FfnKernelIdeal Cert.FfnKernelIdeal.Gen

variable {F : FTy → Type} [FloatOps F]

local notation "𝕄" => MT nD τ sig Unit (Elt F) ℕ (UR sig nD τ) ℕ

/-! ## The grid's points -/

theorem cond1_iff : ∀ t : Fin cfg0.N, k0_cond1 (grid0.coords t) = 1#1 ↔ t.val % 4 = 0 :=
  (by decide +kernel : ∀ t : Fin grid0.N, k0_cond1 (grid0.coords t) = 1#1 ↔ t.val % 4 = 0)
theorem cond2_iff : ∀ t : Fin cfg0.N, k0_cond2 (grid0.coords t) = 1#1 ↔ t.val = 0 :=
  (by decide +kernel : ∀ t : Fin grid0.N, k0_cond2 (grid0.coords t) = 1#1 ↔ t.val = 0)
theorem cond3_iff : ∀ t : Fin cfg0.N, k0_cond3 (grid0.coords t) = 1#1 ↔ t.val % 4 = 3 :=
  (by decide +kernel : ∀ t : Fin grid0.N, k0_cond3 (grid0.coords t) = 1#1 ↔ t.val % 4 = 3)

/-- A window is idle at the points whose body stores nothing into it. -/
theorem idle_9 : ∀ t : Fin cfg0.N, cfg0.idle 9 (cfg0.grid.coords t) = !decide (t.val % 4 = 3) :=
  (by decide +kernel : ∀ t : Fin grid0.N, cfg0.idle 9 (grid0.coords t) = !decide (t.val % 4 = 3))
theorem idle_13 : ∀ t : Fin cfg0.N, cfg0.idle 13 (cfg0.grid.coords t) = !decide (t.val = 0 ∨ t.val % 4 = 3) :=
  (by decide +kernel : ∀ t : Fin grid0.N, cfg0.idle 13 (grid0.coords t) = !decide (t.val = 0 ∨ t.val % 4 = 3))
theorem idle_14 : ∀ t : Fin cfg0.N, cfg0.idle 14 (cfg0.grid.coords t) = !decide (t.val % 4 = 0) :=
  (by decide +kernel : ∀ t : Fin grid0.N, cfg0.idle 14 (grid0.coords t) = !decide (t.val % 4 = 0))

/-- A step does not look at what it begins anew. -/
theorem step_congr (i : grid0.Coords) (x : Blocks F) (s s' : Carried F) (h1 : ¬k0_cond1 i = 1#1 → s.dh = s'.dh ∧ s.half = s'.half)
    (h2 : ¬k0_cond2 i = 1#1 → s.dg = s'.dg) : step i x s = step i x s' := by
  have hh : halfOut i x.dout s.half = halfOut i x.dout s'.half := by
    unfold halfOut; split; · rfl
    exact (h1 ‹_›).2
  have hd : dhIn i s.dh = dhIn i s'.dh := by
    unfold dhIn; split; · rfl
    exact (h1 ‹_›).1
  have hg : dgIn i s.dg = dgIn i s'.dg := by
    unfold dgIn; split; · rfl
    exact h2 ‹_›
  unfold step dgOut dhOut
  rw [hh, hd, hg]

section Data

variable (m : (ℓ : Loc nD τ sig) → Buf (Elt F) ℓ) (c : Dev nD)

/-- The nine blocks of point `t`. -/
def blocks (t : Fin cfg0.N) : Blocks F where
  dout := iblk m c 0 t
  x := iblk m c 1 t
  g := iblk m c 2 t
  silu := iblk m c 3 t
  dsilu := iblk m c 4 t
  b := iblk m c 5 t
  wg := iblk m c 6 t
  wu := iblk m c 7 t
  wd := iblk m c 8 t

/-- What the body has carried on from point `n`. -/
def st : (n : ℕ) → n < cfg0.N → Carried F
  | 0, h => step (grid0.coords ⟨0, h⟩) (blocks m c ⟨0, h⟩) ⟨k0_pay4, k0_pay5 (blocks m c ⟨0, h⟩).dout, k0_pay6⟩
  | n + 1, h => step (grid0.coords ⟨n + 1, h⟩) (blocks m c ⟨n + 1, h⟩) (st n (Nat.lt_of_succ_lt h))

/-- The state after a point, and after the one before it. -/
abbrev now (t : Fin cfg0.N) : Carried F := st m c t.val t.isLt
abbrev last (t : Fin cfg0.N) : Carried F := st m c (t.val - 1) (Nat.lt_of_le_of_lt (Nat.sub_le _ _) t.isLt)

theorem now_later (t : Fin cfg0.N) (h : t.val ≠ 0) : now m c t = step (grid0.coords t) (blocks m c t) (last m c t) := by
  obtain ⟨n, hn⟩ := t
  cases n with
  | zero => exact absurd rfl h
  | succ n => rfl

/-- Whatever a step finds where it does not begin anew being the state before, it leaves the state after. -/
theorem now_eq (t : Fin cfg0.N) (s : Carried F) (hd : t.val ≠ 0 → s.dh = (last m c t).dh) (hh : t.val % 4 ≠ 0 → s.half = (last m c t).half)
    (hg : t.val ≠ 0 → s.dg = (last m c t).dg) : step (grid0.coords t) (blocks m c t) s = now m c t := by
  by_cases h : t.val = 0
  · obtain ⟨n, hn⟩ := t
    obtain rfl : n = 0 := h
    exact step_congr _ _ _ _ (fun hc => absurd ((cond1_iff _).mpr rfl) hc) (fun hc => absurd ((cond2_iff _).mpr rfl) hc)
  · rw [now_later m c t h]
    exact step_congr _ _ _ _ (fun hc => ⟨hd h, hh fun e => hc ((cond1_iff t).mpr e)⟩) (fun _ => hg h)

theorem now_half (t : Fin cfg0.N) (h : t.val % 4 ≠ 0) : (now m c t).half = (last m c t).half := by
  rw [now_later m c t (by omega)]
  exact if_neg fun e => h ((cond1_iff t).mp e)
theorem now_dg (t : Fin cfg0.N) (h : t.val ≠ 0) (h' : t.val % 4 ≠ 3) : (now m c t).dg = (last m c t).dg := by
  rw [now_later m c t h]
  exact (if_neg fun e => h' ((cond3_iff t).mp e)).trans (if_neg fun e => h ((cond2_iff t).mp e))

/-- The scratch at the sum so far, once there is one. -/
def Φ (n : Fin (cfg0.N + 1)) : sProp 𝕄 :=
  iprop((∃ d, ⌜∀ h : n.val ≠ 0, d = (st m c (n.val - 1) (by have := n.isLt; omega)).dh⌝ ∗ owns (c : Thread nD τ) (Memref.whole cc0_scratch0) fullShare d) ∗ ∃ r, prngReg c r)

/-- The call's proof data: the arrays as found; after the body each input buffer at its block, the outputs at the point's values
and the two carried ones at the state. -/
def dat : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => dxOut (blocks m c t) (now m c t).dh
    | ⟨10, _⟩ => daOut (blocks m c t) (now m c t).half
    | ⟨11, _⟩ => dbOut (blocks m c t) (now m c t).half
    | ⟨12, _⟩ => fOut (blocks m c t)
    | ⟨13, _⟩ => (now m c t).dg
    | ⟨14, _⟩ => (now m c t).half
  Φ n := Φ m c n
  q _ := fullShare
  owed _ := 0

theorem A_eq (w : Fin cfg0.W) : (dat m c).A w = V m c (Pipeline.arrRef spec0 w) := by dsimp only [dat]

theorem after_0 (t : Fin cfg0.N) : (dat m c).after 0 t = iblk m c 0 t := by dsimp only [dat]
theorem after_1 (t : Fin cfg0.N) : (dat m c).after 1 t = iblk m c 1 t := by dsimp only [dat]
theorem after_2 (t : Fin cfg0.N) : (dat m c).after 2 t = iblk m c 2 t := by dsimp only [dat]
theorem after_3 (t : Fin cfg0.N) : (dat m c).after 3 t = iblk m c 3 t := by dsimp only [dat]
theorem after_4 (t : Fin cfg0.N) : (dat m c).after 4 t = iblk m c 4 t := by dsimp only [dat]
theorem after_5 (t : Fin cfg0.N) : (dat m c).after 5 t = iblk m c 5 t := by dsimp only [dat]
theorem after_6 (t : Fin cfg0.N) : (dat m c).after 6 t = iblk m c 6 t := by dsimp only [dat]
theorem after_7 (t : Fin cfg0.N) : (dat m c).after 7 t = iblk m c 7 t := by dsimp only [dat]
theorem after_8 (t : Fin cfg0.N) : (dat m c).after 8 t = iblk m c 8 t := by dsimp only [dat]
theorem after_9 (t : Fin cfg0.N) : (dat m c).after 9 t = dxOut (blocks m c t) (now m c t).dh := by dsimp only [dat]
theorem after_10 (t : Fin cfg0.N) : (dat m c).after 10 t = daOut (blocks m c t) (now m c t).half := by dsimp only [dat]
theorem after_11 (t : Fin cfg0.N) : (dat m c).after 11 t = dbOut (blocks m c t) (now m c t).half := by dsimp only [dat]
theorem after_12 (t : Fin cfg0.N) : (dat m c).after 12 t = fOut (blocks m c t) := by dsimp only [dat]
theorem after_13 (t : Fin cfg0.N) : (dat m c).after 13 t = (now m c t).dg := by dsimp only [dat]
theorem after_14 (t : Fin cfg0.N) : (dat m c).after 14 t = (now m c t).half := by dsimp only [dat]

theorem before_0 (t : Fin cfg0.N) (d) : (dat m c).before 0 t d = iblk m c 0 t := before0_0_of m (dat m c) (A_eq m c 0) (after_0 m c) t d
theorem before_1 (t : Fin cfg0.N) (d) : (dat m c).before 1 t d = iblk m c 1 t := before0_1_of m (dat m c) (A_eq m c 1) (after_1 m c) t d
theorem before_2 (t : Fin cfg0.N) (d) : (dat m c).before 2 t d = iblk m c 2 t := before0_2_of m (dat m c) (A_eq m c 2) (after_2 m c) t d
theorem before_3 (t : Fin cfg0.N) (d) : (dat m c).before 3 t d = iblk m c 3 t := before0_3_of m (dat m c) (A_eq m c 3) (after_3 m c) t d
theorem before_4 (t : Fin cfg0.N) (d) : (dat m c).before 4 t d = iblk m c 4 t := before0_4_of m (dat m c) (A_eq m c 4) (after_4 m c) t d
theorem before_5 (t : Fin cfg0.N) (d) : (dat m c).before 5 t d = iblk m c 5 t := before0_5_of m (dat m c) (A_eq m c 5) (after_5 m c) t d
theorem before_6 (t : Fin cfg0.N) (d) : (dat m c).before 6 t d = iblk m c 6 t := before0_6_of m (dat m c) (A_eq m c 6) (after_6 m c) t d
theorem before_7 (t : Fin cfg0.N) (d) : (dat m c).before 7 t d = iblk m c 7 t := before0_7_of m (dat m c) (A_eq m c 7) (after_7 m c) t d
theorem before_8 (t : Fin cfg0.N) (d) : (dat m c).before 8 t d = iblk m c 8 t := before0_8_of m (dat m c) (A_eq m c 8) (after_8 m c) t d

/-- The halved gradient's buffer holds it from the first point of a row block on. -/
theorem before_14 (n : ℕ) : ∀ (hn : n < cfg0.N) (h : n % 4 ≠ 0) (d), (dat m c).before 14 ⟨n, hn⟩ d = (last m c ⟨n, hn⟩).half := by
  induction n with
  | zero => intro _ h; exact absurd rfl h
  | succ n ih =>
    intro hn h d
    have hf : (cfg0.win 14).flush ⟨n, Nat.lt_of_succ_lt hn⟩ = false := Bool.eq_false_iff.mpr fun e => by have := (flush0_14 _).mp e; dsimp only at this; omega
    rw [Dat.before_of_pos _ 14 ⟨n + 1, hn⟩ (Nat.succ_ne_zero n) rfl d]
    refine (if_neg (by rw [show (⟨(⟨n + 1, hn⟩ : Fin cfg0.N).val - 1, _⟩ : Fin cfg0.N) = ⟨n, Nat.lt_of_succ_lt hn⟩ from rfl, hf]; exact Bool.false_ne_true)).trans ?_
    show (dat m c).left 14 ⟨n, Nat.lt_of_succ_lt hn⟩ d = (now m c ⟨n, Nat.lt_of_succ_lt hn⟩).half
    unfold Dat.left
    rw [idle_14]
    by_cases h0 : n % 4 = 0
    · rw [show (!decide ((⟨n, Nat.lt_of_succ_lt hn⟩ : Fin cfg0.N).val % 4 = 0)) = false by simp [h0]]
      exact (Window.fill_cut ..).trans (after_14 m c _)
    · rw [show (!decide ((⟨n, Nat.lt_of_succ_lt hn⟩ : Fin cfg0.N).val % 4 = 0)) = true by simp [h0]]
      exact (ih (Nat.lt_of_succ_lt hn) h0 d).trans (now_half m c ⟨n, Nat.lt_of_succ_lt hn⟩ h0).symm

/-- The norm weight's sum stays in its buffer. -/
theorem before_13 (n : ℕ) : ∀ (hn : n < cfg0.N) (h : n ≠ 0) (d), (dat m c).before 13 ⟨n, hn⟩ d = (last m c ⟨n, hn⟩).dg := by
  induction n with
  | zero => intro _ h; exact absurd rfl h
  | succ n ih =>
    intro hn h d
    have hN : n + 1 < 32 := lt_of_lt_of_eq hn (show cfg0.N = 32 from N_0)
    have hf : (cfg0.win 13).flush ⟨n, Nat.lt_of_succ_lt hn⟩ = false := Bool.eq_false_iff.mpr fun e => by have := (flush0_13 _).mp e; dsimp only at this; omega
    rw [Dat.before_of_pos _ 13 ⟨n + 1, hn⟩ (Nat.succ_ne_zero n) rfl d]
    refine (if_neg (by rw [show (⟨(⟨n + 1, hn⟩ : Fin cfg0.N).val - 1, _⟩ : Fin cfg0.N) = ⟨n, Nat.lt_of_succ_lt hn⟩ from rfl, hf]; exact Bool.false_ne_true)).trans ?_
    show (dat m c).left 13 ⟨n, Nat.lt_of_succ_lt hn⟩ d = (now m c ⟨n, Nat.lt_of_succ_lt hn⟩).dg
    unfold Dat.left
    rw [idle_13]
    by_cases h0 : n = 0 ∨ n % 4 = 3
    · rw [show (!decide ((⟨n, Nat.lt_of_succ_lt hn⟩ : Fin cfg0.N).val = 0 ∨ (⟨n, Nat.lt_of_succ_lt hn⟩ : Fin cfg0.N).val % 4 = 3)) = false by simp [h0]]
      exact (Window.fill_cut ..).trans (after_13 m c _)
    · rw [show (!decide ((⟨n, Nat.lt_of_succ_lt hn⟩ : Fin cfg0.N).val = 0 ∨ (⟨n, Nat.lt_of_succ_lt hn⟩ : Fin cfg0.N).val % 4 = 3)) = true by simp [h0]]
      exact (ih (Nat.lt_of_succ_lt hn) (fun e => h0 (.inl e)) d).trans (now_dg m c ⟨n, Nat.lt_of_succ_lt hn⟩ (fun e => h0 (.inl e)) fun e => h0 (.inr e)).symm

/-! ## What a point must leave -/

theorem leaves_9 (t : Fin cfg0.N) (d) :
    owns (c : Thread nD τ) (st0_9 t) fullShare (if k0_cond3 (grid0.coords t) = 1#1 then dxOut (blocks m c t) (now m c t).dh else (dat m c).before 9 t d) ⊢ ((dat m c).leavesExact 9 t : sProp 𝕄) := by
  unfold Dat.leavesExact
  by_cases h : t.val % 4 = 3
  · rw [idle_9, show (!decide (t.val % 4 = 3)) = false by simp [h], if_pos ((cond3_iff t).mpr h)]
    dsimp only
    rw [after_9]
  · have hf : (cfg0.win 9).flush t = false := Bool.eq_false_iff.mpr fun e => h ((flush0_9 t).mp e)
    rw [idle_9, show (!decide (t.val % 4 = 3)) = true by simp [h], hf, if_neg fun e => h ((cond3_iff t).mp e)]
    iintro H; iexists d; iexact H

theorem leaves_13 (t : Fin cfg0.N) : owns (c : Thread nD τ) (st0_13 t) fullShare (now m c t).dg ⊢ ((dat m c).leavesExact 13 t : sProp 𝕄) := by
  unfold Dat.leavesExact
  by_cases h : t.val = 0 ∨ t.val % 4 = 3
  · rw [idle_13, show (!decide (t.val = 0 ∨ t.val % 4 = 3)) = false by simp [h]]
    dsimp only
    rw [after_13]
  · have hf : (cfg0.win 13).flush t = false := Bool.eq_false_iff.mpr fun e => by have := (flush0_13 t).mp e; omega
    rw [idle_13, show (!decide (t.val = 0 ∨ t.val % 4 = 3)) = true by simp [h], hf]
    have e : (now m c t).dg = (last m c t).dg := now_dg m c t (fun e => h (.inl e)) fun e => h (.inr e)
    iintro H; iexists (last m c t).dg
    rw [show (dat m c).before 13 t (last m c t).dg = (last m c t).dg from before_13 m c t.val t.isLt (fun e => h (.inl e)) _, ← e]
    iexact H

theorem leaves_14 (t : Fin cfg0.N) : owns (c : Thread nD τ) (st0_14 t) fullShare (now m c t).half ⊢ ((dat m c).leavesExact 14 t : sProp 𝕄) := by
  unfold Dat.leavesExact
  by_cases h : t.val % 4 = 0
  · rw [idle_14, show (!decide (t.val % 4 = 0)) = false by simp [h]]
    dsimp only
    rw [after_14]
  · rw [idle_14, show (!decide (t.val % 4 = 0)) = true by simp [h]]
    by_cases h' : t.val % 4 = 3
    · rw [(flush0_14 t).mpr h']
      dsimp only
      rw [after_14]
    · have hf : (cfg0.win 14).flush t = false := Bool.eq_false_iff.mpr fun e => h' ((flush0_14 t).mp e)
      rw [hf]
      have e : (now m c t).half = (last m c t).half := now_half m c t h
      iintro H; iexists (last m c t).half
      rw [show (dat m c).before 14 t (last m c t).half = (last m c t).half from before_14 m c t.val t.isLt h _, ← e]
      iexact H

/-! ## The body at a point -/

def bodyPre (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d))
    ∗ (∃ d, owns (c : Thread nD τ) (st0_3 t) fullShare ((dat m c).before 3 t d))
    ∗ (∃ d, owns (c : Thread nD τ) (st0_4 t) fullShare ((dat m c).before 4 t d))
    ∗ (∃ d, owns (c : Thread nD τ) (st0_5 t) fullShare ((dat m c).before 5 t d))
    ∗ (∃ d, owns (c : Thread nD τ) (st0_6 t) fullShare ((dat m c).before 6 t d))
    ∗ (∃ d, owns (c : Thread nD τ) (st0_7 t) fullShare ((dat m c).before 7 t d))
    ∗ (∃ d, owns (c : Thread nD τ) (st0_8 t) fullShare ((dat m c).before 8 t d))
    ∗ (∃ d, owns (c : Thread nD τ) (st0_9 t) fullShare ((dat m c).before 9 t d))
    ∗ (∃ d, owns (c : Thread nD τ) (st0_10 t) fullShare ((dat m c).before 10 t d))
    ∗ (∃ d, owns (c : Thread nD τ) (st0_11 t) fullShare ((dat m c).before 11 t d))
    ∗ (∃ d, owns (c : Thread nD τ) (st0_12 t) fullShare ((dat m c).before 12 t d))
    ∗ (∃ d, owns (c : Thread nD τ) (st0_13 t) fullShare ((dat m c).before 13 t d))
    ∗ (∃ d, owns (c : Thread nD τ) (st0_14 t) fullShare ((dat m c).before 14 t d)))

def bodyPost (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t)
    ∗ owns (c : Thread nD τ) (st0_3 t) fullShare ((dat m c).after 3 t)
    ∗ owns (c : Thread nD τ) (st0_4 t) fullShare ((dat m c).after 4 t)
    ∗ owns (c : Thread nD τ) (st0_5 t) fullShare ((dat m c).after 5 t)
    ∗ owns (c : Thread nD τ) (st0_6 t) fullShare ((dat m c).after 6 t)
    ∗ owns (c : Thread nD τ) (st0_7 t) fullShare ((dat m c).after 7 t)
    ∗ owns (c : Thread nD τ) (st0_8 t) fullShare ((dat m c).after 8 t)
    ∗ (dat m c).leavesExact 9 t
    ∗ owns (c : Thread nD τ) (st0_10 t) fullShare ((dat m c).after 10 t)
    ∗ owns (c : Thread nD τ) (st0_11 t) fullShare ((dat m c).after 11 t)
    ∗ owns (c : Thread nD τ) (st0_12 t) fullShare ((dat m c).after 12 t)
    ∗ (dat m c).leavesExact 13 t
    ∗ (dat m c).leavesExact 14 t)

set_option maxHeartbeats 2000000 in
theorem sound_body (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dat m c).Φ t.succ = Φ m c t.succ from rfl, show (dat m c).Φ t.castSucc = Φ m c t.castSucc from rfl,
    show (dat m c).owesAt () t.succ = (dat m c).owesAt () t.castSucc from rfl,
    after_0, after_1, after_2, after_3, after_4, after_5, after_6, after_7, after_8, after_10, after_11, after_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  unfold Φ
  icases HΦ with ⟨⟨%dh, %hdh, Hs⟩, Hr⟩
  have key : step (grid0.coords t) (blocks m c t) ⟨dh, (dat m c).before 14 t d14, (dat m c).before 13 t d13⟩ = now m c t :=
    now_eq m c t _ (fun h => hdh h) (fun h => before_14 m c t.val t.isLt h d14) (fun h => before_13 m c t.val t.isLt h d13)
  iapply (body c Set.univ (grid0.coords t) _ _ _ _ _ _ _ _ _ _ _ _ _ _ _ _ _ _ _ _ _ _ _ _ _ _ _ _ _ _ _ _ (blocks m c t) ⟨dh, (dat m c).before 14 t d14, (dat m c).before 13 t d13⟩ ((dat m c).before 9 t d9) _)
  unfold given inputs
  rw [key]
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  isplitl [H9]; · iexact H9
  isplitl [H10]; · iexists _; iexact H10
  isplitl [H11]; · iexists _; iexact H11
  isplitl [H12]; · iexists _; iexact H12
  isplitl [H13]; · iexact H13
  isplitl [H14]; · iexact H14
  isplitl [Hs]; · iexact Hs
  iintro ⟨⟨H0, H1, H2, H3, H4, H5, H6, H7, H8⟩, H9, H10, H11, H12, H13, H14, Hs⟩
  isplitl [Hs Hr]
  · isplitl [Hs]
    · iexists (now m c t).dh; isplitr
      · ipureintro; intro _; rfl
      iexact Hs
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iapply (leaves_9 m c t d9); iexact H9
  isplitl [H10]; · iexact H10
  isplitl [H11]; · iexact H11
  isplitl [H12]; · iexact H12
  isplitl [H13]; · iapply (leaves_13 m c t); iexact H13
  iapply (leaves_14 m c t); iexact H14

theorem defs₀_row (t : Fin cfg0.N) : defs₀ (F := F) .tc cfg0.body (cfg0.bodyArgs t (cfg0.slots t)) = bodyAt0 t := by
  unfold defs₀; rw [Defs.onTc_tc]

/-- The body keeps to the proof data at every point. -/
theorem body_obligation : BodyObligation (dat m c) (defs₀ (F := F)) Variants.none () Set.univ := fun t => by
  rw [bigSep_W0, bigSep_W0, defs₀_row]
  exact triple_restated (sound_body m c t) rfl .rfl fun _ => .rfl

theorem Φ_first : (Pipeline.ΦA spec0 c : sProp 𝕄) ⊢ (dat m c).Φ 0 := by
  rw [show (dat m c).Φ 0 = Φ m c 0 from rfl]
  unfold Pipeline.ΦA Φ
  rw [scopedRest0_eq]
  iintro ⟨⟨%f, Hs⟩, Hp⟩
  isplitl [Hs]
  · iexists f; isplitr
    · ipureintro; intro h; exact absurd rfl h
    rw [owns_whole]; iexact Hs
  iexact Hp

theorem Φ_last : (dat m c).Φ (Fin.last cfg0.N) ⊢ (Pipeline.ΦA spec0 c : sProp 𝕄) := by
  rw [show (dat m c).Φ (Fin.last cfg0.N) = Φ m c (Fin.last cfg0.N) from rfl]
  unfold Pipeline.ΦA Φ
  rw [scopedRest0_eq]
  simp only [owns_whole]
  iintro ⟨⟨%d, -, Hs⟩, Hp⟩
  isplitl [Hs]
  · iexists d; iexact Hs
  iexact Hp

end Data

/-! ## The run -/

variable (m : (ℓ : Loc nD τ sig) → Buf (Elt F) ℓ) (ρ : Dev nD → PrngReg)

def dats (p : Fin 1) (c : Dev nD) : Dat τ (Elt F) Unit ℕ (UR sig nD τ) ℕ (cfgs p) c := match p with
  | ⟨0, _⟩ => dat m c

set_option backward.isDefEq.respectTransparency.types false in
theorem run : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := Φ_first m) (hout := Φ_last m)

/-- The arguments are unchanged in it and every semaphore is at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run m ρ))) ((θ_run defs _ _).mono (fun _ h => h.2) (run m ρ))

end Cert.Ffn
-- ==== Proof.FfnValue.lean ====
/- The feed-forward layer's backward call: the arrays its blocks come from, what the blocks hold, what is carried from point to
   point, and the six result arrays. -/
module

public import proofs.«01_k».proof.Proof.FfnSpec
public import proofs.«01_k».proof.Proof.FfnData

@[expose] public section

set_option maxRecDepth 16384

noncomputable section

namespace Cert.Ffn

open Idealize.ShloMosaic Idealize.ShloMosaic.TcCoe Idealize.ShloMosaic.StableHlo Idealize.SL.Sem
open Cert.RealNum Cert.NormBwd Cert.FfnKernelIdeal Cert.FfnKernelIdeal.Gen

/-! ## The host's arrays -/

/-- A weight in four shards of hidden columns: of a projection, and of the way out. -/
def inT (w : FVec Ideal S1024x2816 .f32) : FVec Ideal S4x704x1024 .bf16 :=
  truncf .bf16 (shapeCast S4x704x1024 (transpose S2816x1024 [1, 0] w transposes_S1024x2816_S2816x1024_1_0) shapeCasts_S2816x1024_S4x704x1024) bitsLt_bf16_f32
def outT (w : FVec Ideal S2816x1024 .f32) : FVec Ideal S4x704x1024 .bf16 :=
  truncf .bf16 (shapeCast S4x704x1024 w shapeCasts_S2816x1024_S4x704x1024) bitsLt_bf16_f32
/-- The normed input. -/
def nrmT (x : FVec Ideal S4096x1024 .f32) (g : FVec Ideal S1x1024 .f32) : FVec Ideal S4096x1024 .bf16 :=
  truncf .bf16 (mulf (mulf x (broadcastInDim S4096x1024 ![0, 1] bcast_S4096x1_S4096x1024_0_1
    (Host.rsqrt (addf (Host.divf (broadcastInDim S4096x1 ![0] bcast_S4096_S4096x1_0 (Host.reduceAdd (mulf x x) (constant S_ .f32 0x00000000#32) reducesTo_S4096x1024_S4096_d1 h_S_))
      (broadcastInDim S4096x1 ![] bcast_S_S4096x1 (constant S_ .f32 0x44800000#32))) (broadcastInDim S4096x1 ![] bcast_S_S4096x1 (constant S_ .f32 0x358637BD#32))))))
    (broadcastInDim S4096x1024 ![0, 1] bcast_S1x1024_S4096x1024_0_1 g)) bitsLt_bf16_f32
/-- A projection of it. -/
def projT (y : FVec Ideal S4096x1024 .bf16) (w : FVec Ideal S4x704x1024 .bf16) : FVec Ideal S4096x2816 .f32 :=
  Host.dotGeneral dot_S4096x1024_S2816x1024_S4096x2816_1_1_0_0_n_n none y (shapeCast S2816x1024 w shapeCasts_S4x704x1024_S2816x1024)
def oneT : FVec Ideal S4096x2816 .f32 := broadcastInDim S4096x2816 ![] bcast_S_S4096x2816 (constant S_ .f32 0x3F800000#32)
/-- The logistic function of a logit, and the gate's value and derivative. -/
def sgT (a : FVec Ideal S4096x2816 .f32) : FVec Ideal S4096x2816 .f32 := Host.divf oneT (addf oneT (Host.exp (Host.negf a)))
def valT (a : FVec Ideal S4096x2816 .f32) : FVec Ideal S4096x2816 .f32 := mulf a (sgT a)
def derT (a : FVec Ideal S4096x2816 .f32) : FVec Ideal S4096x2816 .f32 := mulf (sgT a) (addf oneT (mulf a (subf oneT (sgT a))))
/-- A hidden array in four shards. -/
def shardT (a : FVec Ideal S4096x2816 .f32) : FVec Ideal S4x4096x704 .bf16 :=
  truncf .bf16 (transpose S4x4096x704 [1, 0, 2] (shapeCast S4096x4x704 a shapeCasts_S4096x2816_S4096x4x704) transposes_S4096x4x704_S4x4096x704_1_0_2) bitsLt_bf16_f32

theorem col_eq (j : Fin 4) (k : Fin 704) (h) : (⟨j.val * 704 + k.val, h⟩ : Fin 2816) = col j.val k := Fin.ext (by
  show j.val * 704 + k.val = j.val % 4 * 704 + k.val
  rw [Nat.mod_eq_of_lt j.isLt])

theorem inT_at (w : FVec Ideal S1024x2816 .f32) (j : Fin 4) (k : Fin 704) (l : Fin 1024) : inT w (ix3 j k l) = w (ix2 l (col j.val k)) := by
  rw [← col_eq j k (by omega)]
  pointwise [inT]

theorem outT_at (w : FVec Ideal S2816x1024 .f32) (j : Fin 4) (k : Fin 704) (l : Fin 1024) : outT w (ix3 j k l) = w (ix2 (col j.val k) l) := by
  rw [← col_eq j k (by omega)]
  pointwise [outT]

theorem shardT_at (a : FVec Ideal S4096x2816 .f32) (j : Fin 4) (r : Fin 4096) (k : Fin 704) : shardT a (ix3 j r k) = a (ix2 r (col j.val k)) := by
  rw [← col_eq j k (by omega)]
  pointwise [shardT]

theorem col_split (h : Fin 2816) (q) : col (h.val / 704) ⟨h.val % 704, q⟩ = h := Fin.ext (by
  show h.val / 704 % 4 * 704 + h.val % 704 = h.val
  have := h.isLt
  omega)

section Layers
variable (n : Nums) (x : FVec Ideal S4096x1024 .f32) (g : FVec Ideal S1x1024 .f32) (w : FVec Ideal S1024x2816 .f32)
  (hx : ∀ r l, x (ix2 r l) = ((n.X r l : ℝ) : EReal)) (hg : ∀ l, g (ix2 0 l) = ((n.G l : ℝ) : EReal))

include hx hg in
theorem nrmT_at (r : Fin 4096) (l : Fin 1024) : nrmT x g (ix2 r l) = ((n.nrm r l : ℝ) : EReal) := by
  pointwise [nrmT]
  simp (disch := norm_num) only [hx, hg, ofBits_1024, ofBits_eps, ← EReal.coe_mul, ← EReal.coe_add, sum_coe, div_ne, ms_fold, rsqrt_ms]
  rfl

include hx hg in
theorem projT_at (W : Fin 1024 → Fin 2816 → ℝ) (hw : ∀ l h, w (ix2 l h) = ((W l h : ℝ) : EReal)) (r : Fin 4096) (h : Fin 2816) :
    projT (nrmT x g) (inT w) (ix2 r h) = ((∑ l, n.nrm r l * W l h : ℝ) : EReal) := by
  have e : ∀ (y : FVec Ideal S4096x1024 .bf16) (z : FVec Ideal S4x704x1024 .bf16),
      projT y z (ix2 r h) = ∑ l, y (ix2 r l) * z (ix3 ⟨h.val / 704, by omega⟩ ⟨h.val % 704, by omega⟩ l) := fun y z => by
    pointwise [projT]
  rw [e]
  simp only [nrmT_at n x g hx hg, inT_at, col_split, hw, ← EReal.coe_mul, sum_coe]

end Layers

theorem sgT_at (a : FVec Ideal S4096x2816 .f32) (A : Fin 4096 → Fin 2816 → ℝ) (ha : ∀ r h, a (ix2 r h) = ((A r h : ℝ) : EReal)) (r : Fin 4096) (h : Fin 2816) :
    sgT a (ix2 r h) = ((sg (A r h) : ℝ) : EReal) := by
  pointwise [sgT, oneT]
  rw [ha, ← EReal.coe_neg, Ideal.exp_coe, ← EReal.coe_one, ← EReal.coe_add, sg_div]

theorem valT_at (a : FVec Ideal S4096x2816 .f32) (A : Fin 4096 → Fin 2816 → ℝ) (ha : ∀ r h, a (ix2 r h) = ((A r h : ℝ) : EReal)) (r : Fin 4096) (h : Fin 2816) :
    valT a (ix2 r h) = ((A r h * sg (A r h) : ℝ) : EReal) := by
  pointwise [valT]
  rw [ha, sgT_at a A ha, ← EReal.coe_mul]

theorem derT_at (a : FVec Ideal S4096x2816 .f32) (A : Fin 4096 → Fin 2816 → ℝ) (ha : ∀ r h, a (ix2 r h) = ((A r h : ℝ) : EReal)) (r : Fin 4096) (h : Fin 2816) :
    derT a (ix2 r h) = ((sg (A r h) * (1 + A r h * (1 - sg (A r h))) : ℝ) : EReal) := by
  pointwise [derT, oneT]
  rw [ha, sgT_at a A ha, ← EReal.coe_one, ← EReal.coe_sub, ← EReal.coe_mul, ← EReal.coe_add, ← EReal.coe_mul]

theorem zeroA (j : S512x1024.Idx) : k0_pay4 (F := Ideal) j = ((0 : ℝ) : EReal) := by
  pointwise [k0_pay4]
  rw [EReal.coe_zero]
theorem zeroG (j : S1x1024.Idx) : k0_pay6 (F := Ideal) j = ((0 : ℝ) : EReal) := by
  pointwise [k0_pay6]
  rw [EReal.coe_zero]

/-! ## The blocks -/

variable (m : (ℓ : Loc nD τ sig) → Buf (Elt Ideal) ℓ) (c : Dev nD)

/-- The argument arrays hold the numbers. -/
structure Args (n : Nums) : Prop where
  x : ∀ r l, (m ((c : Thread nD τ).loc main_arg0) : FVec Ideal S4096x1024 .f32) (ix2 r l) = ((n.X r l : ℝ) : EReal)
  g : ∀ l, (m ((c : Thread nD τ).loc main_arg1) : FVec Ideal S1x1024 .f32) (ix2 0 l) = ((n.G l : ℝ) : EReal)
  wg : ∀ l h, (m ((c : Thread nD τ).loc main_arg2) : FVec Ideal S1024x2816 .f32) (ix2 l h) = ((n.Wg l h : ℝ) : EReal)
  wu : ∀ l h, (m ((c : Thread nD τ).loc main_arg3) : FVec Ideal S1024x2816 .f32) (ix2 l h) = ((n.Wu l h : ℝ) : EReal)
  wd : ∀ h l, (m ((c : Thread nD τ).loc main_arg4) : FVec Ideal S2816x1024 .f32) (ix2 h l) = ((n.Wd h l : ℝ) : EReal)
  d : ∀ r l, (m ((c : Thread nD τ).loc main_arg5) : FVec Ideal S4096x1024 .f32) (ix2 r l) = ((n.D r l : ℝ) : EReal)

theorem idx : ∀ t : Fin cfg0.N, (win0_0.index t = ![t.val / 4, 0] ∧ win0_1.index t = ![t.val / 4, 0] ∧ win0_2.index t = ![0, 0]
    ∧ win0_3.index t = ![t.val % 4, t.val / 4, 0] ∧ win0_4.index t = ![t.val % 4, t.val / 4, 0] ∧ win0_5.index t = ![t.val % 4, t.val / 4, 0]
    ∧ win0_6.index t = ![t.val % 4, 0, 0] ∧ win0_7.index t = ![t.val % 4, 0, 0]) ∧ win0_8.index t = ![t.val % 4, 0, 0]
    ∧ win0_9.index t = ![t.val / 4, 0] ∧ win0_10.index t = ![t.val % 4, t.val / 4, 0] ∧ win0_11.index t = ![t.val % 4, t.val / 4, 0]
    ∧ win0_12.index t = ![t.val % 4, t.val / 4, 0] ∧ win0_13.index t = ![0, 0] ∧ win0_14.index t = ![t.val / 4, 0] :=
  (by decide +kernel : ∀ t : Fin grid0.N, _)

/-- A point's row in the arrays and its shard. -/
abbrev rowF (p : Fin cfg0.N) (r : Fin 512) : Fin 4096 := ⟨p.val / 4 * 512 + r.val, by have := p.isLt; have h : cfg0.N = 32 := N_0; omega⟩
abbrev shF (p : Fin cfg0.N) : Fin 4 := ⟨p.val % 4, by omega⟩

theorem rowF_eq (p : Fin cfg0.N) (r : Fin 512) : rowF p r = row (p.val / 4) r := Fin.ext (by
  show p.val / 4 * 512 + r.val = p.val / 4 % 8 * 512 + r.val
  have := p.isLt
  have h : cfg0.N = 32 := N_0
  omega)

theorem colF_eq (p : ℕ) (k : Fin 704) : col (p % 4) k = col p k := Fin.ext (by
  show p % 4 % 4 * 704 + k.val = p % 4 * 704 + k.val
  rw [Nat.mod_mod])

section Blk
variable (p : Fin cfg0.N)

theorem blk0 (r : Fin 512) (l : Fin 1024) : (iblk m c 0 p : FVec Ideal S512x1024 .f32) (ix2 r l) = (m ((c : Thread nD τ).loc main_arg5) : FVec Ideal S4096x1024 .f32) (ix2 (rowF p r) l) := by
  rw [← V_main_arg5 m c]
  blk_point [iblk, idx p]
theorem blk1 (r : Fin 512) (l : Fin 1024) : (iblk m c 1 p : FVec Ideal S512x1024 .f32) (ix2 r l) = (m ((c : Thread nD τ).loc main_arg0) : FVec Ideal S4096x1024 .f32) (ix2 (rowF p r) l) := by
  rw [← V_main_arg0 m c]
  blk_point [iblk, idx p]
theorem blk2 (l : Fin 1024) : (iblk m c 2 p : FVec Ideal S1x1024 .f32) (ix2 0 l) = (m ((c : Thread nD τ).loc main_arg1) : FVec Ideal S1x1024 .f32) (ix2 0 l) := by
  rw [← V_main_arg1 m c]
  blk_point [iblk, idx p]
theorem blk3 (r : Fin 512) (k : Fin 704) : (iblk m c 3 p : FVec Ideal S1x512x704 .bf16) (ix3 0 r k) = (V m c main_v34 : FVec Ideal S4x4096x704 .bf16) (ix3 (shF p) (rowF p r) k) := by
  blk_point [iblk, idx p]
theorem blk4 (r : Fin 512) (k : Fin 704) : (iblk m c 4 p : FVec Ideal S1x512x704 .bf16) (ix3 0 r k) = (V m c main_v43 : FVec Ideal S4x4096x704 .bf16) (ix3 (shF p) (rowF p r) k) := by
  blk_point [iblk, idx p]
theorem blk5 (r : Fin 512) (k : Fin 704) : (iblk m c 5 p : FVec Ideal S1x512x704 .bf16) (ix3 0 r k) = (V m c main_v46 : FVec Ideal S4x4096x704 .bf16) (ix3 (shF p) (rowF p r) k) := by
  blk_point [iblk, idx p]
theorem blk6 (k : Fin 704) (l : Fin 1024) : (iblk m c 6 p : FVec Ideal S1x704x1024 .bf16) (ix3 0 k l) = (V m c main_v3 : FVec Ideal S4x704x1024 .bf16) (ix3 (shF p) k l) := by
  blk_point [iblk, idx p]
theorem blk7 (k : Fin 704) (l : Fin 1024) : (iblk m c 7 p : FVec Ideal S1x704x1024 .bf16) (ix3 0 k l) = (V m c main_v5 : FVec Ideal S4x704x1024 .bf16) (ix3 (shF p) k l) := by
  blk_point [iblk, idx p]
theorem blk8 (k : Fin 704) (l : Fin 1024) : (iblk m c 8 p : FVec Ideal S1x704x1024 .bf16) (ix3 0 k l) = (V m c main_v7 : FVec Ideal S4x704x1024 .bf16) (ix3 (shF p) k l) := by
  blk_point [iblk, idx p]

end Blk

/-! The host's buffers. -/

def gateA : FVec Ideal S4096x2816 .f32 :=
  projT (nrmT (m ((c : Thread nD τ).loc main_arg0)) (m ((c : Thread nD τ).loc main_arg1))) (inT (m ((c : Thread nD τ).loc main_arg2)))
def gateB : FVec Ideal S4096x2816 .f32 :=
  projT (nrmT (m ((c : Thread nD τ).loc main_arg0)) (m ((c : Thread nD τ).loc main_arg1))) (inT (m ((c : Thread nD τ).loc main_arg3)))

theorem buf3 : V m c main_v3 = inT (m ((c : Thread nD τ).loc main_arg2)) := by
  show StableHlo.after hostOps0 _ _ = _
  after_results_simp <;> rfl
theorem buf5 : V m c main_v5 = inT (m ((c : Thread nD τ).loc main_arg3)) := by
  show StableHlo.after hostOps0 _ _ = _
  after_results_simp <;> rfl
theorem buf7 : V m c main_v7 = outT (m ((c : Thread nD τ).loc main_arg4)) := by
  show StableHlo.after hostOps0 _ _ = _
  after_results_simp <;> rfl
theorem buf34 : V m c main_v34 = shardT (valT (gateA m c)) := by
  show StableHlo.after hostOps0 _ _ = _
  after_results_simp <;> rfl
theorem buf43 : V m c main_v43 = shardT (derT (gateA m c)) := by
  show StableHlo.after hostOps0 _ _ = _
  after_results_simp <;> rfl
theorem buf46 : V m c main_v46 = shardT (gateB m c) := by
  show StableHlo.after hostOps0 _ _ = _
  after_results_simp <;> rfl

variable (n : Nums) (H : Args m c n)
include H

theorem gateA_at (r : Fin 4096) (h : Fin 2816) : gateA m c (ix2 r h) = ((n.a r h : ℝ) : EReal) := projT_at n _ _ _ H.x H.g n.Wg H.wg r h
theorem gateB_at (r : Fin 4096) (h : Fin 2816) : gateB m c (ix2 r h) = ((n.b r h : ℝ) : EReal) := projT_at n _ _ _ H.x H.g n.Wu H.wu r h

section Entries
variable (p : Fin cfg0.N)

theorem ent0 (r : Fin 512) (l : Fin 1024) : (iblk m c 0 p : FVec Ideal S512x1024 .f32) (ix2 r l) = ((n.D (row (p.val / 4) r) l : ℝ) : EReal) := by
  rw [blk0, H.d, rowF_eq]
theorem ent1 (r : Fin 512) (l : Fin 1024) : (iblk m c 1 p : FVec Ideal S512x1024 .f32) (ix2 r l) = ((n.X (row (p.val / 4) r) l : ℝ) : EReal) := by
  rw [blk1, H.x, rowF_eq]
theorem ent3 (r : Fin 512) (k : Fin 704) : (iblk m c 3 p : FVec Ideal S1x512x704 .bf16) (ix3 0 r k) = ((n.s (row (p.val / 4) r) (col p.val k) : ℝ) : EReal) := by
  rw [blk3, buf34, shardT_at, valT_at _ n.a (gateA_at m c n H), rowF_eq, colF_eq]
  rfl
theorem ent4 (r : Fin 512) (k : Fin 704) : (iblk m c 4 p : FVec Ideal S1x512x704 .bf16) (ix3 0 r k) = ((n.t (row (p.val / 4) r) (col p.val k) : ℝ) : EReal) := by
  rw [blk4, buf43, shardT_at, derT_at _ n.a (gateA_at m c n H), rowF_eq, colF_eq]
  rfl
theorem ent5 (r : Fin 512) (k : Fin 704) : (iblk m c 5 p : FVec Ideal S1x512x704 .bf16) (ix3 0 r k) = ((n.b (row (p.val / 4) r) (col p.val k) : ℝ) : EReal) := by
  rw [blk5, buf46, shardT_at, gateB_at m c n H, rowF_eq, colF_eq]
theorem ent6 (k : Fin 704) (l : Fin 1024) : (iblk m c 6 p : FVec Ideal S1x704x1024 .bf16) (ix3 0 k l) = ((n.Wg l (col p.val k) : ℝ) : EReal) := by
  rw [blk6, buf3, inT_at, H.wg, colF_eq]
theorem ent7 (k : Fin 704) (l : Fin 1024) : (iblk m c 7 p : FVec Ideal S1x704x1024 .bf16) (ix3 0 k l) = ((n.Wu l (col p.val k) : ℝ) : EReal) := by
  rw [blk7, buf5, inT_at, H.wu, colF_eq]
theorem ent8 (k : Fin 704) (l : Fin 1024) : (iblk m c 8 p : FVec Ideal S1x704x1024 .bf16) (ix3 0 k l) = ((n.Wd (col p.val k) l : ℝ) : EReal) := by
  rw [blk8, buf7, outT_at, H.wd, colF_eq]

end Entries

set_option maxHeartbeats 2000000 in
theorem holds (p : Fin cfg0.N) : Holds (blocks m c p) (n.tile p.val) := by
  constructor
  · exact ent0 m c n H p
  · exact ent1 m c n H p
  · exact fun l => (blk2 m c p l).trans (H.g l)
  · exact ent3 m c n H p
  · exact ent4 m c n H p
  · exact ent5 m c n H p
  · exact ent6 m c n H p
  · exact ent7 m c n H p
  · exact ent8 m c n H p

/-! ## What is carried -/

/-- The carried arrays after point `p`: the halved gradient of its rows, the sum over the shards so far, and the sum over the
finished row blocks. -/
structure After (p : ℕ) (s : Carried Ideal) : Prop where
  half : ∀ r l, s.half (ix2 r l) = ((1 / 2 * n.D (row (p / 4) r) l : ℝ) : EReal)
  dh : ∀ r l, s.dh (ix2 r l) = ((∑ j ∈ Finset.range (p % 4 + 1), n.part (row (p / 4) r) j l : ℝ) : EReal)
  dg : ∀ l, s.dg (ix2 0 l) = ((∑ i ∈ Finset.range ((p + 1) / 4), n.ng i l : ℝ) : EReal)

/-- A step's sum over the shards. -/
theorem dh_step (t : Fin cfg0.N) (s : Carried Ideal) (hh : ∀ r l, halfOut (grid0.coords t) (blocks m c t).dout s.half (ix2 r l) = ((1 / 2 * n.D (row (t.val / 4) r) l : ℝ) : EReal))
    (hd : t.val % 4 ≠ 0 → ∀ r l, s.dh (ix2 r l) = ((∑ j ∈ Finset.range (t.val % 4), n.part (row (t.val / 4) r) j l : ℝ) : EReal)) (r : Fin 512) (l : Fin 1024) :
    dhOut (grid0.coords t) (blocks m c t) (halfOut (grid0.coords t) (blocks m c t).dout s.half) s.dh (ix2 r l)
      = ((∑ j ∈ Finset.range (t.val % 4 + 1), n.part (row (t.val / 4) r) j l : ℝ) : EReal) := by
  rw [Finset.sum_range_succ]
  refine (dhOut_at _ (n.tile t.val) (holds m c n H t) _ hh _ _ (fun r l => ∑ j ∈ Finset.range (t.val % 4), n.part (row (t.val / 4) r) j l) (fun r l => ?_) r l).trans
    (congrArg _ (congrArg _ ?_))
  · unfold dhIn
    by_cases h : t.val % 4 = 0
    · rw [if_pos ((cond1_iff t).mpr h), zeroA, h, Finset.sum_range_zero]
    · rw [if_neg fun e => h ((cond1_iff t).mp e)]
      exact hd h r l
  · unfold Tile.part Nums.part
    have e : ∀ k, col (t.val % 4) k = col t.val k := colF_eq t.val
    simp only [e]
    rfl

theorem half_step (t : Fin cfg0.N) (h : Vec Ideal S512x1024 .bf16)
    (hh : t.val % 4 ≠ 0 → ∀ r l, h (ix2 r l) = ((1 / 2 * n.D (row (t.val / 4) r) l : ℝ) : EReal)) (r : Fin 512) (l : Fin 1024) :
    halfOut (grid0.coords t) (blocks m c t).dout h (ix2 r l) = ((1 / 2 * n.D (row (t.val / 4) r) l : ℝ) : EReal) := by
  unfold halfOut
  by_cases e : t.val % 4 = 0
  · rw [if_pos ((cond1_iff t).mpr e)]
    exact half_at _ (n.tile t.val) (holds m c n H t) r l
  · rw [if_neg fun e' => e ((cond1_iff t).mp e')]
    exact hh e r l

theorem dg_step (t : Fin cfg0.N) (dh : Vec Ideal S512x1024 .f32) (dg : Vec Ideal S1x1024 .f32)
    (hd : ∀ r l, dh (ix2 r l) = ((∑ j ∈ Finset.range (t.val % 4 + 1), n.part (row (t.val / 4) r) j l : ℝ) : EReal))
    (hg : t.val ≠ 0 → ∀ l, dg (ix2 0 l) = ((∑ i ∈ Finset.range (t.val / 4), n.ng i l : ℝ) : EReal)) (l : Fin 1024) :
    dgOut (grid0.coords t) (blocks m c t) dh dg (ix2 0 l) = ((∑ i ∈ Finset.range ((t.val + 1) / 4), n.ng i l : ℝ) : EReal) := by
  have e : dgIn (grid0.coords t) dg (ix2 0 l) = ((∑ i ∈ Finset.range (t.val / 4), n.ng i l : ℝ) : EReal) := by
    unfold dgIn
    by_cases h : t.val = 0
    · rw [if_pos ((cond2_iff t).mpr h), zeroG, h, Nat.zero_div, Finset.sum_range_zero]
    · rw [if_neg fun e => h ((cond2_iff t).mp e)]
      exact hg h l
  unfold dgOut
  by_cases h : t.val % 4 = 3
  · rw [if_pos ((cond3_iff t).mpr h), show (t.val + 1) / 4 = t.val / 4 + 1 by omega, Finset.sum_range_succ, EReal.coe_add, ← e]
    rw [h] at hd
    refine (dg_at _ (n.tile t.val) (holds m c n H t) dh (fun r => n.dh (row (t.val / 4) r)) (fun r l => ?_) _ l).trans rfl
    rw [hd, n.parts]
  · rw [if_neg fun e => h ((cond3_iff t).mp e), show (t.val + 1) / 4 = t.val / 4 by omega]
    exact e

set_option maxHeartbeats 2000000 in
theorem after_step (t : Fin cfg0.N) (s : Carried Ideal) (hh : t.val % 4 ≠ 0 → ∀ r l, s.half (ix2 r l) = ((1 / 2 * n.D (row (t.val / 4) r) l : ℝ) : EReal))
    (hd : t.val % 4 ≠ 0 → ∀ r l, s.dh (ix2 r l) = ((∑ j ∈ Finset.range (t.val % 4), n.part (row (t.val / 4) r) j l : ℝ) : EReal))
    (hg : t.val ≠ 0 → ∀ l, s.dg (ix2 0 l) = ((∑ i ∈ Finset.range (t.val / 4), n.ng i l : ℝ) : EReal)) :
    After n t.val (step (grid0.coords t) (blocks m c t) s)   := by
  have a := half_step m c n H t s.half hh
  have b := dh_step m c n H t s a hd
  have d := dg_step m c n H t _ s.dg b hg
  constructor
  · exact a
  · exact b
  · exact d

theorem after_st : ∀ (p : ℕ) (h : p < cfg0.N), After n p (st m c p h)
  | 0, h => after_step m c n H ⟨0, h⟩ _ (fun e => absurd rfl e) (fun e => absurd rfl e) (fun e => absurd rfl e)
  | p + 1, h => by
    have ih := after_st p (Nat.lt_of_succ_lt h)
    refine after_step m c n H ⟨p + 1, h⟩ (st m c p (Nat.lt_of_succ_lt h)) (fun e r l => ?_) (fun e r l => ?_) (fun _ l => ih.dg l)
    · have e' : (p + 1) / 4 = p / 4 := by dsimp only at e; omega
      exact (ih.half r l).trans (by dsimp only; rw [e'])
    · have e' : (p + 1) / 4 = p / 4 := by dsimp only at e; omega
      have e2 : (p + 1) % 4 = p % 4 + 1 := by dsimp only at e; omega
      exact (ih.dh r l).trans (by dsimp only; rw [e', e2])

theorem after_now (t : Fin cfg0.N) : After n t.val (now m c t) := after_st m c n H t.val t.isLt

/-! ## The results -/

theorem final9 : (dats m 0 c).arrAt 9 (cfgs 0).N = n.dxArr := by
  refine (dats m 0 c).arrAt_eq_of_covers 9 _ (by decide +kernel) fun t ht y => ?_
  blk_simp
  rw [show (dats m 0 c).after 9 t = _ from after_9 m c t]
  obtain ⟨r, l, rfl⟩ : ∃ (r : Fin 512) (l : Fin 1024), y = ix2 r l := ⟨y 0, y 1, ValueIdx.eq_ix2 y⟩
  have h3 : t.val % 4 = 3 := (flush0_9 t).mp ht
  refine (dxOut_at _ (n.tile t.val) (holds m c n H t) _ (fun r => n.dh (row (t.val / 4) r)) (fun r l => by
    rw [(after_now m c n H t).dh, h3, n.parts]) r l).trans ?_
  show ((n.D (row (t.val / 4) r) l + nbRow (n.X (row (t.val / 4) r)) n.G (n.dh (row (t.val / 4) r)) l : ℝ) : EReal) = _
  rw [← n.dxArr_apply, ← rowF_eq]
  blk_ext [idx t]

theorem final10 : (dats m 0 c).arrAt 10 (cfgs 0).N = Nums.shards n.da := by
  refine (dats m 0 c).arrAt_eq_of_covers 10 _ (by decide +kernel) fun t _ y => ?_
  blk_simp
  rw [show (dats m 0 c).after 10 t = _ from after_10 m c t]
  obtain ⟨u, r, k, rfl⟩ : ∃ (u : Fin 1) (r : Fin 512) (k : Fin 704), y = ix3 u r k := ⟨y 0, y 1, y 2, ValueIdx.eq_ix3 y⟩
  obtain rfl : u = 0 := Subsingleton.elim _ _
  refine (daOut_at _ (n.tile t.val) (holds m c n H t) _ (after_now m c n H t).half r k).trans ?_
  show ((n.da (row (t.val / 4) r) (col t.val k) : ℝ) : EReal) = _
  rw [← rowF_eq, ← colF_eq, show t.val % 4 = (shF t).val from rfl, ← Nums.shards_apply]
  blk_ext [idx t]

theorem final11 : (dats m 0 c).arrAt 11 (cfgs 0).N = Nums.shards n.db := by
  refine (dats m 0 c).arrAt_eq_of_covers 11 _ (by decide +kernel) fun t _ y => ?_
  blk_simp
  rw [show (dats m 0 c).after 11 t = _ from after_11 m c t]
  obtain ⟨u, r, k, rfl⟩ : ∃ (u : Fin 1) (r : Fin 512) (k : Fin 704), y = ix3 u r k := ⟨y 0, y 1, y 2, ValueIdx.eq_ix3 y⟩
  obtain rfl : u = 0 := Subsingleton.elim _ _
  refine (dbOut_at _ (n.tile t.val) (holds m c n H t) _ (after_now m c n H t).half r k).trans ?_
  show ((n.db (row (t.val / 4) r) (col t.val k) : ℝ) : EReal) = _
  rw [← rowF_eq, ← colF_eq, show t.val % 4 = (shF t).val from rfl, ← Nums.shards_apply]
  blk_ext [idx t]

theorem final12 : (dats m 0 c).arrAt 12 (cfgs 0).N = Nums.shards n.f := by
  refine (dats m 0 c).arrAt_eq_of_covers 12 _ (by decide +kernel) fun t _ y => ?_
  blk_simp
  rw [show (dats m 0 c).after 12 t = _ from after_12 m c t]
  obtain ⟨u, r, k, rfl⟩ : ∃ (u : Fin 1) (r : Fin 512) (k : Fin 704), y = ix3 u r k := ⟨y 0, y 1, y 2, ValueIdx.eq_ix3 y⟩
  obtain rfl : u = 0 := Subsingleton.elim _ _
  refine (fOut_at _ (n.tile t.val) (holds m c n H t) r k).trans ?_
  show ((n.f (row (t.val / 4) r) (col t.val k) : ℝ) : EReal) = _
  rw [← rowF_eq, ← colF_eq, show t.val % 4 = (shF t).val from rfl, ← Nums.shards_apply]
  blk_ext [idx t]

/-- The last point. -/
def end_ : Fin cfg0.N := ⟨31, (by decide : 31 < 32).trans_eq N_0.symm⟩

theorem final13 : (dats m 0 c).arrAt 13 (cfgs 0).N = n.dgArr := by
  refine (dats m 0 c).arrAt_eq_of_after_last 13 end_ (by decide +kernel) _ fun j => ?_
  blk_simp
  obtain ⟨l, rfl⟩ : ∃ l : Fin 1024, j = ix2 0 l := ⟨j 1, by rw [ValueIdx.eq_ix2 j]; congr 1; exact Subsingleton.elim (α := Fin 1) _ _⟩
  rw [show (dats m 0 c).after 13 end_ = _ from after_13 m c end_]
  refine ((after_now m c n H end_).dg l).trans ?_
  rw [n.dgArr_apply, ← n.blocks_sum]
  rfl

theorem final14 : (dats m 0 c).arrAt 14 (cfgs 0).N = n.halfArr := by
  refine (dats m 0 c).arrAt_eq_of_covers 14 _ (by decide +kernel) fun t _ y => ?_
  blk_simp
  rw [show (dats m 0 c).after 14 t = _ from after_14 m c t]
  obtain ⟨r, l, rfl⟩ : ∃ (r : Fin 512) (l : Fin 1024), y = ix2 r l := ⟨y 0, y 1, ValueIdx.eq_ix2 y⟩
  refine ((after_now m c n H t).half r l).trans ?_
  rw [← n.halfArr_apply, ← rowF_eq]
  blk_ext [idx t]

end Cert.Ffn
end
-- ==== Proof.FfnRef.lean ====
/- The feed-forward layer's backward call, the reference: the derivative of the forward lines, array by array, at the real numbers
   that the specification names. -/
module

public import proofs.«01_k».proof.Proof.FfnSpec
public import proofs.«01_k».proof.Proof.Gen.FfnReferenceIdeal.Run

@[expose] public section

set_option maxRecDepth 16384

noncomputable section

namespace Cert.Ffn.Ref

open Idealize.ShloMosaic Idealize.ShloMosaic.TcCoe Idealize.ShloMosaic.StableHlo Idealize.SL.Sem
open Cert.RealNum Cert.NormBwd Cert.FfnReferenceIdeal Cert.FfnReferenceIdeal.Gen

/-! ## The terms, piece by piece -/

/-- A row's mean square with the small constant, its reciprocal root, the row times it, and the normed input. -/
def msT (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))
def unitT (x : FVec Ideal S4096x1024 .f32) : FVec Ideal S4096x1024 .f32 :=
  mulf x (broadcastInDim S4096x1024 ![0, 1] bcast_S4096x1_S4096x1024_0_1 (Host.rsqrt (msT x)))
def nrmT (x : FVec Ideal S4096x1024 .f32) (g : FVec Ideal S1x1024 .f32) : FVec Ideal S4096x1024 .f32 :=
  mulf (unitT x) (broadcastInDim S4096x1024 ![0, 1] bcast_S1x1024_S4096x1024_0_1 g)
/-- A projection. -/
def projT (y : FVec Ideal S4096x1024 .f32) (w : FVec Ideal S1024x2816 .f32) : FVec Ideal S4096x2816 .f32 :=
  Host.dotGeneral dot_S4096x1024_S1024x2816_S4096x2816_1_0_0_1_n_n none y w
def oneT : FVec Ideal S4096x2816 .f32 := broadcastInDim S4096x2816 ![] bcast_S_S4096x2816 (constant S_ .f32 0x3F800000#32)
def sgT (a : FVec Ideal S4096x2816 .f32) : FVec Ideal S4096x2816 .f32 := Host.divf oneT (addf oneT (Host.exp (Host.negf a)))
/-- The halved output gradient and the gradient at the product. -/
def halfT (d : FVec Ideal S4096x1024 .f32) : FVec Ideal S4096x1024 .f32 :=
  mulf (broadcastInDim S4096x1024 ![] bcast_S_S4096x1024 (constant S_ .f32 0x3F000000#32)) d
def dpT (d : FVec Ideal S4096x1024 .f32) (w : FVec Ideal S2816x1024 .f32) : FVec Ideal S4096x2816 .f32 :=
  Host.dotGeneral dot_S4096x1024_S2816x1024_S4096x2816_1_1_0_0_n_n none (halfT (shapeCast _ d shapeCasts_S4096x1024_S4096x1024)) w
/-- The gradients at the two projections. -/
def dbT (a p : FVec Ideal S4096x2816 .f32) : FVec Ideal S4096x2816 .f32 := mulf (mulf a (sgT a)) p
def daT (a b p : FVec Ideal S4096x2816 .f32) : FVec Ideal S4096x2816 .f32 :=
  addf (mulf (mulf p b) (sgT a)) (mulf (mulf a (mulf p b)) (mulf (sgT a) (subf oneT (sgT a))))
/-- The gradient at the normed input. -/
def dhT (da db : FVec Ideal S4096x2816 .f32) (wg wu : FVec Ideal S1024x2816 .f32) : FVec Ideal S4096x1024 .f32 :=
  addf (Host.dotGeneral dot_S4096x2816_S1024x2816_S4096x1024_1_1_0_0_n_n none db wu) (Host.dotGeneral dot_S4096x2816_S1024x2816_S4096x1024_1_1_0_0_n_n none da wg)
/-- The norm weight's gradient and the input's. -/
def dgT (x h : FVec Ideal S4096x1024 .f32) : FVec Ideal S1x1024 .f32 :=
  shapeCast _ (Host.reduceAdd (mulf (unitT x) h) (constant S_ .f32 0x00000000#32) reducesTo_S4096x1024_S1024_d0 h_S_) shapeCasts_S1024_S1x1024
def ghT (g : FVec Ideal S1x1024 .f32) (h : FVec Ideal S4096x1024 .f32) : FVec Ideal S4096x1024 .f32 :=
  mulf h (broadcastInDim S4096x1024 ![0, 1] bcast_S1x1024_S4096x1024_0_1 g)
def cfT (x u : FVec Ideal S4096x1024 .f32) : FVec Ideal S4096x1024 .f32 :=
  broadcastInDim S4096x1024 ![0] bcast_S4096_S4096x1024_0 (Host.reduceAdd (Host.divf
    (mulf (shapeCast S4096x1 (Host.reduceAdd (mulf x u) (constant S_ .f32 0x00000000#32) reducesTo_S4096x1024_S4096_d1 h_S_) shapeCasts_S4096_S4096x1)
      (mulf (broadcastInDim S4096x1 ![] bcast_S_S4096x1 (constant S_ .f32 0xBF000000#32)) (Host.divf (Host.rsqrt (msT x)) (msT x))))
    (broadcastInDim S4096x1 ![] bcast_S_S4096x1 (constant S_ .f32 0x44800000#32))) (constant S_ .f32 0x00000000#32) reducesTo_S4096x1_S4096_d1 h_S_)
def dxT (x : FVec Ideal S4096x1024 .f32) (g : FVec Ideal S1x1024 .f32) (h d : FVec Ideal S4096x1024 .f32) : FVec Ideal S4096x1024 .f32 :=
  addf d (addf (addf (mulf (ghT g h) (broadcastInDim S4096x1024 ![0, 1] bcast_S4096x1_S4096x1024_0_1 (Host.rsqrt (msT x)))) (mulf x (cfT x (ghT g h))))
    (mulf (cfT x (ghT g h)) x))
/-- A hidden array in four shards. -/
def shardT (a : FVec Ideal S4096x2816 .f32) : FVec Ideal S4x4096x704 .bf16 :=
  truncf .bf16 (transpose S4x4096x704 [1, 0, 2] (shapeCast S4096x4x704 a shapeCasts_S4096x2816_S4096x4x704) transposes_S4096x4x704_S4x4096x704_1_0_2) bitsLt_bf16_f32

theorem col_eq (j : Fin 4) (k : Fin 704) (h) : (⟨j.val * 704 + k.val, h⟩ : Fin 2816) = col j.val k := Fin.ext (by
  show j.val * 704 + k.val = j.val % 4 * 704 + k.val
  rw [Nat.mod_eq_of_lt j.isLt])

theorem shardT_eq (a : FVec Ideal S4096x2816 .f32) (A : Fin 4096 → Fin 2816 → ℝ) (ha : ∀ r h, a (ix2 r h) = ((A r h : ℝ) : EReal)) :
    shardT a = Nums.shards A := by
  refine funext fun (y : S4x4096x704.Idx) => ?_
  obtain ⟨j, r, k, rfl⟩ : ∃ (j : Fin 4) (r : Fin 4096) (k : Fin 704), y = ix3 j r k := ⟨y 0, y 1, y 2, ValueIdx.eq_ix3 y⟩
  rw [Nums.shards_apply, ← ha, ← col_eq j k (by omega)]
  pointwise [shardT]

section At
variable (x d : FVec Ideal S4096x1024 .f32) (g : FVec Ideal S1x1024 .f32) (X D : Fin 4096 → Fin 1024 → ℝ) (G : Fin 1024 → ℝ)
  (hx : ∀ r l, x (ix2 r l) = ((X r l : ℝ) : EReal)) (hd : ∀ r l, d (ix2 r l) = ((D r l : ℝ) : EReal)) (hg : ∀ l, g (ix2 0 l) = ((G l : ℝ) : EReal))
  (h : FVec Ideal S4096x1024 .f32) (Z : Fin 4096 → Fin 1024 → ℝ) (hh : ∀ r l, h (ix2 r l) = ((Z r l : ℝ) : EReal))

include hx in
theorem msT_at (r : Fin 4096) (u : Fin 1) : msT x (ix2 r u) = ((ms 1024 (X r) : ℝ) : EReal) := by
  pointwise [msT]
  simp (disch := norm_num) only [hx, ofBits_1024, ofBits_eps, ← EReal.coe_mul, ← EReal.coe_add, sum_coe, div_ne, ms_fold]

include hx in
theorem unitT_at (r : Fin 4096) (l : Fin 1024) : unitT x (ix2 r l) = ((X r l * rn 1024 (X r) : ℝ) : EReal) := by
  pointwise [unitT]
  rw [hx, msT_at x X hx, rsqrt_ms (by norm_num), ← EReal.coe_mul]

include hx hg in
theorem nrmT_at (r : Fin 4096) (l : Fin 1024) : nrmT x g (ix2 r l) = ((X r l * rn 1024 (X r) * G l : ℝ) : EReal) := by
  pointwise [nrmT]
  rw [unitT_at x X hx, hg, ← EReal.coe_mul]

include hh in
theorem projT_at (w : FVec Ideal S1024x2816 .f32) (W : Fin 1024 → Fin 2816 → ℝ) (hw : ∀ l k, w (ix2 l k) = ((W l k : ℝ) : EReal)) (r : Fin 4096) (k : Fin 2816) :
    projT h w (ix2 r k) = ((∑ l, Z r l * W l k : ℝ) : EReal) := by
  pointwise [projT]
  simp only [hh, hw, ← EReal.coe_mul, sum_coe]

include hd in
theorem halfT_at (r : Fin 4096) (l : Fin 1024) : halfT d (ix2 r l) = ((1 / 2 * D r l : ℝ) : EReal) := by
  pointwise [halfT]
  rw [hd, ofBits_half, ← EReal.coe_mul]

include hd in
theorem dpT_at (w : FVec Ideal S2816x1024 .f32) (W : Fin 2816 → Fin 1024 → ℝ) (hw : ∀ k l, w (ix2 k l) = ((W k l : ℝ) : EReal)) (r : Fin 4096) (k : Fin 2816) :
    dpT d w (ix2 r k) = ((∑ l, 1 / 2 * D r l * W k l : ℝ) : EReal) := by
  pointwise [dpT, halfT]
  simp only [hd, hw, ofBits_half, ← EReal.coe_mul, sum_coe]

include hx hh in
theorem dgT_at (l : Fin 1024) : dgT x h (ix2 0 l) = ((∑ r, ngRow (X r) (Z r) l : ℝ) : EReal) := by
  pointwise [dgT]
  simp only [unitT_at x X hx, hh, ← EReal.coe_mul, sum_coe]
  refine congrArg _ (Finset.sum_congr rfl fun r _ => ?_)
  unfold ngRow
  ring

include hg hh in
theorem ghT_at (r : Fin 4096) (l : Fin 1024) : ghT g h (ix2 r l) = ((Z r l * G l : ℝ) : EReal) := by
  pointwise [ghT]
  rw [hg, hh, ← EReal.coe_mul]

include hx hh in
theorem cfT_at (r : Fin 4096) (l : Fin 1024) :
    cfT x h (ix2 r l) = (((∑ i, X r i * Z r i) * (-(1 / 2) * (rn 1024 (X r) * (rn 1024 (X r) * rn 1024 (X r)))) / 1024 : ℝ) : EReal) := by
  pointwise [cfT]
  simp (disch := norm_num) only [msT_at x X hx, hx, hh, ofBits_neg_half, ofBits_1024, ← EReal.coe_mul, sum_coe, div_ne, rsqrt_ms, div_ms, div_ms_eq, Finset.univ_unique, Finset.sum_singleton]

include hx hg hh hd in
theorem dxT_at (r : Fin 4096) (l : Fin 1024) : dxT x g h d (ix2 r l) = ((D r l + nbRow (X r) G (Z r) l : ℝ) : EReal) := by
  pointwise [dxT]
  simp (disch := norm_num) only [ghT_at g G hg h Z hh, cfT_at x X hx _ (fun r l => Z r l * G l) (ghT_at g G hg h Z hh), msT_at x X hx, hx, hd, rsqrt_ms, ← EReal.coe_mul, ← EReal.coe_add]
  rw [← nb_eq]
  exact congrArg _ (by ring)

end At

section Hidden
variable (a b p : FVec Ideal S4096x2816 .f32) (A B P : Fin 4096 → Fin 2816 → ℝ) (ha : ∀ r k, a (ix2 r k) = ((A r k : ℝ) : EReal))
  (hb : ∀ r k, b (ix2 r k) = ((B r k : ℝ) : EReal)) (hp : ∀ r k, p (ix2 r k) = ((P r k : ℝ) : EReal))

include ha in
theorem sgT_at (r : Fin 4096) (k : Fin 2816) : sgT a (ix2 r k) = ((sg (A r k) : ℝ) : EReal) := by
  pointwise [sgT, oneT]
  rw [ha, ← EReal.coe_neg, Ideal.exp_coe, ← EReal.coe_one, ← EReal.coe_add, sg_div]

include ha hp in
theorem dbT_at (r : Fin 4096) (k : Fin 2816) : dbT a p (ix2 r k) = ((P r k * (A r k * sg (A r k)) : ℝ) : EReal) := by
  pointwise [dbT]
  rw [ha, hp, sgT_at a A ha, ← EReal.coe_mul, ← EReal.coe_mul, mul_comm]

include ha hb hp in
theorem daT_at (r : Fin 4096) (k : Fin 2816) : daT a b p (ix2 r k) = ((P r k * B r k * (sg (A r k) * (1 + A r k * (1 - sg (A r k)))) : ℝ) : EReal) := by
  pointwise [daT, oneT]
  rw [ha, hb, hp, sgT_at a A ha]
  simp only [← EReal.coe_one, ← EReal.coe_sub, ← EReal.coe_mul, ← EReal.coe_add]
  exact congrArg _ (by ring)

include ha hb in
theorem fT_at (r : Fin 4096) (k : Fin 2816) : (mulf (mulf a (sgT a)) b : FVec Ideal S4096x2816 .f32) (ix2 r k) = ((A r k * sg (A r k) * B r k : ℝ) : EReal) := by
  pointwise
  rw [ha, hb, sgT_at a A ha, ← EReal.coe_mul, ← EReal.coe_mul]

include ha hb in
theorem dhT_at (wg wu : FVec Ideal S1024x2816 .f32) (Wg Wu : Fin 1024 → Fin 2816 → ℝ) (hg : ∀ l k, wg (ix2 l k) = ((Wg l k : ℝ) : EReal))
    (hu : ∀ l k, wu (ix2 l k) = ((Wu l k : ℝ) : EReal)) (r : Fin 4096) (l : Fin 1024) :
    dhT a b wg wu (ix2 r l) = (((∑ k, A r k * Wg l k) + ∑ k, B r k * Wu l k : ℝ) : EReal) := by
  pointwise [dhT]
  simp only [ha, hb, hg, hu, ← EReal.coe_mul, sum_coe, ← EReal.coe_add]
  exact congrArg _ (add_comm _ _)

end Hidden

/-! ## The whole reference -/

/-- Six arrays of the arguments' shapes hold the numbers. -/
structure Args (n : Nums) (x : FVec Ideal S4096x1024 .f32) (g : FVec Ideal S1x1024 .f32) (wg wu : FVec Ideal S1024x2816 .f32) (wd : FVec Ideal S2816x1024 .f32)
    (d : FVec Ideal S4096x1024 .f32) : Prop where
  x : ∀ r l, x (ix2 r l) = ((n.X r l : ℝ) : EReal)
  g : ∀ l, g (ix2 0 l) = ((n.G l : ℝ) : EReal)
  wg : ∀ l h, wg (ix2 l h) = ((n.Wg l h : ℝ) : EReal)
  wu : ∀ l h, wu (ix2 l h) = ((n.Wu l h : ℝ) : EReal)
  wd : ∀ h l, wd (ix2 h l) = ((n.Wd h l : ℝ) : EReal)
  d : ∀ r l, d (ix2 r l) = ((n.D r l : ℝ) : EReal)

section Whole
variable (n : Nums) (x : FVec Ideal S4096x1024 .f32) (g : FVec Ideal S1x1024 .f32) (wg wu : FVec Ideal S1024x2816 .f32) (wd : FVec Ideal S2816x1024 .f32)
  (d : FVec Ideal S4096x1024 .f32)

/-- The two projections, the gradients at them and at the normed input. -/
def aT : FVec Ideal S4096x2816 .f32 := projT (nrmT x g) wg
def bT : FVec Ideal S4096x2816 .f32 := projT (nrmT x g) wu
def da : FVec Ideal S4096x2816 .f32 := daT (aT x g wg) (bT x g wu) (dpT d wd)
def db : FVec Ideal S4096x2816 .f32 := dbT (aT x g wg) (dpT d wd)
def dh : FVec Ideal S4096x1024 .f32 := dhT (da x g wg wu wd d) (db x g wg wd d) wg wu

variable (H : Args n x g wg wu wd d)
include H

theorem aT_at (r : Fin 4096) (h : Fin 2816) : aT x g wg (ix2 r h) = ((n.a r h : ℝ) : EReal) :=
  projT_at _ n.nrm (nrmT_at x g n.X n.G H.x H.g) wg n.Wg H.wg r h
theorem bT_at (r : Fin 4096) (h : Fin 2816) : bT x g wu (ix2 r h) = ((n.b r h : ℝ) : EReal) :=
  projT_at _ n.nrm (nrmT_at x g n.X n.G H.x H.g) wu n.Wu H.wu r h
theorem dp_at (r : Fin 4096) (h : Fin 2816) : dpT d wd (ix2 r h) = ((n.dp r h : ℝ) : EReal) := dpT_at d n.D H.d wd n.Wd H.wd r h
theorem da_at (r : Fin 4096) (h : Fin 2816) : da x g wg wu wd d (ix2 r h) = ((n.da r h : ℝ) : EReal) :=
  daT_at _ _ _ n.a n.b n.dp (aT_at n x g wg wu wd d H) (bT_at n x g wg wu wd d H) (dp_at n x g wg wu wd d H) r h
theorem db_at (r : Fin 4096) (h : Fin 2816) : db x g wg wd d (ix2 r h) = ((n.db r h : ℝ) : EReal) :=
  dbT_at _ _ n.a n.dp (aT_at n x g wg wu wd d H) (dp_at n x g wg wu wd d H) r h
theorem dh_at (r : Fin 4096) (l : Fin 1024) : dh x g wg wu wd d (ix2 r l) = ((n.dh r l : ℝ) : EReal) :=
  dhT_at _ _ n.da n.db (da_at n x g wg wu wd d H) (db_at n x g wg wu wd d H) wg wu n.Wg n.Wu H.wg H.wu r l

theorem dx_eq : dxT x g (dh x g wg wu wd d) d = n.dxArr := by
  refine funext fun (y : S4096x1024.Idx) => ?_
  obtain ⟨r, l, rfl⟩ : ∃ (r : Fin 4096) (l : Fin 1024), y = ix2 r l := ⟨y 0, y 1, ValueIdx.eq_ix2 y⟩
  exact dxT_at x d g n.X n.D n.G H.x H.d H.g _ n.dh (dh_at n x g wg wu wd d H) r l
theorem dg_eq : dgT x (dh x g wg wu wd d) = n.dgArr := by
  refine funext fun (y : S1x1024.Idx) => ?_
  obtain ⟨l, rfl⟩ : ∃ l : Fin 1024, y = ix2 0 l := ⟨y 1, by rw [ValueIdx.eq_ix2 y]; congr 1; exact Subsingleton.elim (α := Fin 1) _ _⟩
  exact dgT_at x n.X H.x _ n.dh (dh_at n x g wg wu wd d H) l
theorem da_eq : shardT (da x g wg wu wd d) = Nums.shards n.da := shardT_eq _ _ (da_at n x g wg wu wd d H)
theorem db_eq : shardT (db x g wg wd d) = Nums.shards n.db := shardT_eq _ _ (db_at n x g wg wu wd d H)
theorem f_eq : shardT (mulf (mulf (aT x g wg) (sgT (aT x g wg))) (bT x g wu)) = Nums.shards n.f :=
  shardT_eq _ _ (fT_at _ _ n.a n.b (aT_at n x g wg wu wd d H) (bT_at n x g wg wu wd d H))
theorem half_eq : (truncf .bf16 (halfT d) bitsLt_bf16_f32 : FVec Ideal S4096x1024 .bf16) = n.halfArr := by
  refine funext fun (y : S4096x1024.Idx) => ?_
  obtain ⟨r, l, rfl⟩ : ∃ (r : Fin 4096) (l : Fin 1024), y = ix2 r l := ⟨y 0, y 1, ValueIdx.eq_ix2 y⟩
  pointwise
  exact halfT_at d n.D H.d r l

end Whole

/-! ## The run -/

section RefRun
variable (m : (ℓ : Loc nD τ sig) → Buf (Elt Ideal) ℓ) (ρ : Dev nD → PrngReg) (n : Dev nD → Nums)
  (H : ∀ c : Dev nD, Args (n c) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)))
include H

theorem ref_run : θ_run (defs (F := Ideal)) (onTc (τ := τ) (main (F := Ideal))) ⟨m, fun _ => 0, ρ⟩ fun r => ∀ c : Dev nD,
      r.2.mem ((c.tc : Thread nD τ).loc main_v52) = (n c).dxArr
      ∧ r.2.mem ((c.tc : Thread nD τ).loc main_v55) = Nums.shards (n c).da
      ∧ r.2.mem ((c.tc : Thread nD τ).loc main_v58) = Nums.shards (n c).db
      ∧ r.2.mem ((c.tc : Thread nD τ).loc main_v63) = Nums.shards (n c).f
      ∧ r.2.mem ((c.tc : Thread nD τ).loc main_v35) = (n c).dgArr
      ∧ r.2.mem ((c.tc : Thread nD τ).loc main_v66) = (n c).halfArr
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Value.run (F := Ideal) m ρ)
  obtain ⟨h0, h1, h2, h3, h4, h5, h6⟩ := h c
  exact ⟨h0.trans (dx_eq (n c) _ _ _ _ _ _ (H c)), h1.trans (da_eq (n c) _ _ _ _ _ _ (H c)), h2.trans (db_eq (n c) _ _ _ _ _ _ (H c)),
    h3.trans (f_eq (n c) _ _ _ _ _ _ (H c)), h4.trans (dg_eq (n c) _ _ _ _ _ _ (H c)), h5.trans (half_eq (n c) _ _ _ _ _ _ (H c)), h6⟩

end RefRun

end Cert.Ffn.Ref
end
-- ==== Proof.Ffn.lean ====
/- The feed-forward layer's backward call is the derivative of the forward lines: the run of the kernel and of the reference, their
   results one by one. -/
module

public import proofs.«01_k».proof.Defs
public import proofs.«01_k».proof.Proof.FfnValue
public import proofs.«01_k».proof.Proof.FfnRef
public import proofs.«01_k».proof.Proof.Gen.Pre_ffn_finite
public import Idealize.ShloMosaic.Lib.Claim

@[expose] public section

noncomputable section

namespace Cert.Ffn

open Idealize.ShloMosaic Idealize.ShloMosaic.TcCoe Idealize.SL.Sem
open Cert.RealNum

/-- Finite arguments are real arrays. -/
theorem reals [Cert.Pre_ffn_finite.Facts] (x : FVec Ideal ⟨2, ![4096, 1024]⟩ .f32) (g : FVec Ideal ⟨2, ![1, 1024]⟩ .f32) (wg wu : FVec Ideal ⟨2, ![1024, 2816]⟩ .f32)
    (wd : FVec Ideal ⟨2, ![2816, 1024]⟩ .f32) (d : FVec Ideal ⟨2, ![4096, 1024]⟩ .f32)
    (h : (Cert.Pre_ffn_finite.fn (F := Ideal) x g wg wu wd d).1 = (fun _ => 1#1)
      ∧ (Cert.Pre_ffn_finite.fn (F := Ideal) x g wg wu wd d).2.1 = (fun _ => 1#1)
      ∧ (Cert.Pre_ffn_finite.fn (F := Ideal) x g wg wu wd d).2.2.1 = (fun _ => 1#1)
      ∧ (Cert.Pre_ffn_finite.fn (F := Ideal) x g wg wu wd d).2.2.2.1 = (fun _ => 1#1)
      ∧ (Cert.Pre_ffn_finite.fn (F := Ideal) x g wg wu wd d).2.2.2.2.1 = (fun _ => 1#1)
      ∧ (Cert.Pre_ffn_finite.fn (F := Ideal) x g wg wu wd d).2.2.2.2.2 = (fun _ => 1#1)) :
    ∃ n : Nums, Ref.Args n x g wg wu wd d := by
  obtain ⟨X0, h0⟩ := reals_of_test _ x h.1
  obtain ⟨X1, h1⟩ := reals_of_test _ g h.2.1
  obtain ⟨X2, h2⟩ := reals_of_test _ wg h.2.2.1
  obtain ⟨X3, h3⟩ := reals_of_test _ wu h.2.2.2.1
  obtain ⟨X4, h4⟩ := reals_of_test _ wd h.2.2.2.2.1
  obtain ⟨X5, h5⟩ := reals_of_test _ d h.2.2.2.2.2
  exact ⟨⟨fun r k => X0 (ix2 r k), fun k => X1 (ix2 0 k), fun r k => X2 (ix2 r k), fun r k => X3 (ix2 r k), fun r k => X4 (ix2 r k), fun r k => X5 (ix2 r k)⟩,
    fun _ _ => by rw [h0], fun _ => by rw [h1], fun _ _ => by rw [h2], fun _ _ => by rw [h3], fun _ _ => by rw [h4], fun _ _ => by rw [h5]⟩

section Kernel
open Cert.FfnKernelIdeal Cert.FfnKernelIdeal.Gen
variable (m : (ℓ : Loc nD τ sig) → Buf (Elt Ideal) ℓ) (ρ : Dev nD → PrngReg)

/-- A result's array after the run, window by window. -/
theorem post {r : PUnit × MemSt nD τ sig (Elt Ideal)} (h : Pipeline.FramePost cfgs (dats m) 0 (V m) r) (c : Dev nD) :
    r.2.mem ((c.tc : Thread nD τ).loc main_v47_0) = (dats m 0 c).arrAt 9 (cfgs 0).N
      ∧ r.2.mem ((c.tc : Thread nD τ).loc main_v47_1) = (dats m 0 c).arrAt 10 (cfgs 0).N
      ∧ r.2.mem ((c.tc : Thread nD τ).loc main_v47_2) = (dats m 0 c).arrAt 11 (cfgs 0).N
      ∧ r.2.mem ((c.tc : Thread nD τ).loc main_v47_3) = (dats m 0 c).arrAt 12 (cfgs 0).N
      ∧ r.2.mem ((c.tc : Thread nD τ).loc main_v47_4) = (dats m 0 c).arrAt 13 (cfgs 0).N
      ∧ r.2.mem ((c.tc : Thread nD τ).loc main_v47_5) = (dats m 0 c).arrAt 14 (cfgs 0).N :=
  ⟨(h c).1 9, (h c).1 10, (h c).1 11, (h c).1 12, (h c).1 13, (h c).1 14⟩

/-- The kernel's run: its six result arrays, and its arguments unchanged. -/
theorem run_arrays (n : Dev nD → Nums) (H : ∀ c, Args m c (n c)) : θ_run defs (onTc (τ := τ) (main (F := Ideal))) ⟨m, fun _ => 0, ρ⟩ fun r => ∀ c : Dev nD,
      r.2.mem ((c.tc : Thread nD τ).loc main_v47_0) = (n c).dxArr
      ∧ r.2.mem ((c.tc : Thread nD τ).loc main_v47_1) = Nums.shards (n c).da
      ∧ r.2.mem ((c.tc : Thread nD τ).loc main_v47_2) = Nums.shards (n c).db
      ∧ r.2.mem ((c.tc : Thread nD τ).loc main_v47_3) = Nums.shards (n c).f
      ∧ r.2.mem ((c.tc : Thread nD τ).loc main_v47_4) = (n c).dgArr
      ∧ r.2.mem ((c.tc : Thread nD τ).loc main_v47_5) = (n c).halfArr
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (θ_run_and (run m ρ) (frame_run m ρ))
  obtain ⟨h0, h1, h2, h3, h4, h5⟩ := post m h.1.1 c
  exact ⟨h0.trans (final9 m c (n c) (H c)), h1.trans (final10 m c (n c) (H c)), h2.trans (final11 m c (n c) (H c)), h3.trans (final12 m c (n c) (H c)),
    h4.trans (final13 m c (n c) (H c)), h5.trans (final14 m c (n c) (H c)), h.2.1 c⟩

end Kernel

/-- The reference's frame: the arguments unchanged, and no semaphore. -/
theorem ref_frame : Cert.quiescent_FfnReferenceIdeal := fun m ρ _ =>
  (θ_run Cert.FfnReferenceIdeal.defs _ _).mono (fun r h => ⟨fun c => (h c).2.2.2.2.2.2, sem_eq_zero_of_no_sems (by decide) r.2⟩)
    (Cert.FfnReferenceIdeal.Value.run (F := Ideal) m ρ)

/-- The input's gradient, the hidden arrays in shards, the norm weight's gradient and the halved output gradient. -/
theorem algebraic [Cert.Pre_ffn_finite.Facts] : Cert.algebraic_FfnKernelIdeal_FfnReferenceIdeal_pre_ffn_finite := by
  intro m g m' g' hpre hargs
  choose n H using fun c => reals _ _ _ _ _ _ (hpre c)
  refine ⟨fun c => (n c).dxArr, fun c => Nums.shards (n c).da, fun c => Nums.shards (n c).db, fun c => Nums.shards (n c).f, fun c => (n c).dgArr,
    fun c => (n c).halfArr, ?_, ?_⟩
  · exact run_arrays m g n fun c => ⟨(H c).x, (H c).g, (H c).wg, (H c).wu, (H c).wd, (H c).d⟩
  · refine Ref.ref_run m' g' n fun c => ?_
    obtain ⟨e0, e1, e2, e3, e4, e5⟩ := hargs c
    rw [e0, e1, e2, e3, e4, e5]
    exact H c

end Cert.Ffn
end
-- ==== Proof.FfnFrame.lean ====
/- The feed-forward layer's backward call: the program's frames, the run read at the bits and at the extended reals. -/
module

public import proofs.«01_k».proof.Defs
public import proofs.«01_k».proof.Proof.FfnData
public import proofs.«01_k».proof.Proof.Gen.FfnKernel
public import proofs.«01_k».proof.Proof.Gen.FfnKernelIdeal

@[expose] public section

noncomputable section

namespace Cert.FfnFrame

open Idealize.ShloMosaic Idealize.SL.Sem

theorem frame_ideal : Cert.quiescent_FfnKernelIdeal := fun m ρ _ => Cert.Ffn.frame_run (F := Ideal) m ρ

/-- The run at the bits, in the names of the program over the extended reals. -/
theorem frame_bits (m : (ℓ : Loc Cert.FfnKernelIdeal.nD Cert.FfnKernelIdeal.τ Cert.FfnKernelIdeal.sig) → Buf (Elt Bits) ℓ) (g : Dev Cert.FfnKernelIdeal.nD → PrngReg) :
    θ_run (Cert.FfnKernelIdeal.defs (F := Bits)) (onTc (τ := Cert.FfnKernelIdeal.τ) (Cert.FfnKernelIdeal.main (F := Bits))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0) := Cert.Ffn.frame_run (F := Bits) m g

theorem frame_kernel : Cert.quiescent_FfnKernel :=
  have h := fun (m : (ℓ : Loc Cert.FfnKernelIdeal.nD Cert.FfnKernelIdeal.τ Cert.FfnKernelIdeal.sig) → Buf (Elt Bits) ℓ) (g : Dev Cert.FfnKernelIdeal.nD → PrngReg) (_ : True) => frame_bits m g
  cast (by sl_kernel_rfl) h

end Cert.FfnFrame
-- ==== Proof.lean ====
module

public import proofs.«01_k».proof.Proof.Gen.AttnKernel
public import proofs.«01_k».proof.Proof.Gen.AttnKernelIdeal
public import proofs.«01_k».proof.Proof.Gen.AttnKernelIdeal.Launch
public import proofs.«01_k».proof.Proof.Gen.AttnKernelIdeal.Skeleton
public import proofs.«01_k».proof.Proof.Gen.AttnKernelIdeal.Points
public import proofs.«01_k».proof.Proof.Gen.AttnReferenceIdeal.Run
public import proofs.«01_k».proof.Proof.Gen.Pre_attn_finite
public import proofs.«01_k».proof.Defs
public import proofs.«01_k».proof.Proof.Attn
public import proofs.«01_k».proof.Proof.AttnFrame
public import proofs.«01_k».proof.Proof.Loss
public import proofs.«01_k».proof.Proof.Gen.LossKernel.Frame
public import proofs.«01_k».proof.Proof.Gen.LossKernelIdeal.Frame
public import proofs.«01_k».proof.Proof.Gen.LossKernelIdeal.Value
public import proofs.«01_k».proof.Proof.Gen.LossReferenceIdeal.Run
public import proofs.«01_k».proof.Proof.Gen.Pre_loss_finite
public import proofs.«01_k».proof.Proof.Gen.MixInKernel.Frame
public import proofs.«01_k».proof.Proof.Gen.MixInKernelIdeal.Frame
public import proofs.«01_k».proof.Proof.Gen.MixOutKernel.Frame
public import proofs.«01_k».proof.Proof.Gen.MixOutKernelIdeal.Frame
public import proofs.«01_k».proof.Proof.Gen.Pre_mix_in_finite
public import proofs.«01_k».proof.Proof.Gen.Pre_mix_out_finite
public import proofs.«01_k».proof.Proof.Gen.QkKernelIdeal.Value
public import proofs.«01_k».proof.Proof.Gen.QkReferenceIdeal.Run
public import proofs.«01_k».proof.Proof.Gen.QkKernel.Frame
public import proofs.«01_k».proof.Proof.Gen.QkKernelIdeal.Frame
public import proofs.«01_k».proof.Proof.Gen.Pre_qk_finite
public import proofs.«01_k».proof.Proof.Gen.FfnKernel
public import proofs.«01_k».proof.Proof.Gen.FfnKernelIdeal.Frame
public import proofs.«01_k».proof.Proof.Gen.FfnKernelIdeal.Skeleton
public import proofs.«01_k».proof.Proof.Gen.FfnReferenceIdeal.Run
public import proofs.«01_k».proof.Proof.Gen.Pre_ffn_finite
public import proofs.«01_k».proof.Proof.Gen.MixInFwdKernel.Frame
public import proofs.«01_k».proof.Proof.Gen.MixInFwdKernelIdeal.Frame
public import proofs.«01_k».proof.Proof.Gen.MixInFwdKernelIdeal.Value
public import proofs.«01_k».proof.Proof.Gen.MixInFwdReferenceIdeal.Run
public import proofs.«01_k».proof.Proof.Gen.MixOutFwdKernel.Frame
public import proofs.«01_k».proof.Proof.Gen.MixOutFwdKernelIdeal.Frame
public import proofs.«01_k».proof.Proof.Gen.MixOutFwdKernelIdeal.Value
public import proofs.«01_k».proof.Proof.Gen.MixOutFwdReferenceIdeal.Run
public import proofs.«01_k».proof.Proof.MixInFwd
public import proofs.«01_k».proof.Proof.MixOutFwd
public import proofs.«01_k».proof.Proof.Gen.QkFwdKernel.Frame
public import proofs.«01_k».proof.Proof.Gen.QkFwdKernelIdeal.Frame
public import proofs.«01_k».proof.Proof.Gen.QkFwdKernelIdeal.Value
public import proofs.«01_k».proof.Proof.Gen.QkFwdReferenceIdeal.Run
public import proofs.«01_k».proof.Proof.Gen.Pre_qk_fwd_finite
public import proofs.«01_k».proof.Proof.QkFwd
public import proofs.«01_k».proof.Proof.MixIn
public import proofs.«01_k».proof.Proof.MixOut
public import proofs.«01_k».proof.Proof.Qk
public import proofs.«01_k».proof.Proof.Ffn
public import proofs.«01_k».proof.Proof.FfnFrame
public import Idealize.ShloMosaic.Lib.Claim

@[expose] public section

noncomputable section

namespace Cert.Proof

open Idealize.ShloMosaic Idealize.SL.Sem

/-- The reference's frame: the arguments unchanged, and no semaphore. -/
theorem loss_ref_frame : Cert.quiescent_LossReferenceIdeal := fun m ρ _ =>
  (θ_run Cert.LossReferenceIdeal.defs _ _).mono (fun r h => ⟨fun c => (h c).2.2.2, sem_eq_zero_of_no_sems (by decide) r.2⟩)
    (Cert.LossReferenceIdeal.Value.run (F := Ideal) m ρ)

/-- The loss head and its gradients. -/
theorem loss_algebraic : Cert.algebraic_LossKernelIdeal_LossReferenceIdeal_pre_loss_finite := by
  intro m g m' g' hpre hargs
  choose X G T hx hg ht using fun c => Cert.Loss.reals _ _ _ (hpre c)
  refine ⟨fun c => Cert.Loss.dxArr (X c) (G c) (T c), fun c => Cert.Loss.lossArr (X c) (G c) (T c), fun c => Cert.Loss.dgArr (X c) (G c) (T c), ?_, ?_⟩
  · refine (θ_run Cert.LossKernelIdeal.defs _ _).mono (fun r h c => ?_) (Cert.LossKernelIdeal.Value.run_blocks (F := Ideal) m g)
    obtain ⟨h0, h1, h2, h3⟩ := h c
    exact ⟨h0.trans (Cert.Loss.final3 m c _ _ _ (hx c) (hg c) (ht c)), h1.trans (Cert.Loss.final4 m c _ _ _ (hx c) (hg c) (ht c)),
      h2.trans (Cert.Loss.final5 m c _ _ _ (hx c) (hg c) (ht c)), h3⟩
  · exact Cert.Loss.ref_run m' g' _ _ _ (fun c => (hargs c).1) (fun c => (hargs c).2.1) (fun c => (hargs c).2.2) X T G hx hg ht

/-- The reference's frame: the arguments unchanged, and no semaphore. -/
theorem mix_in_ref_frame : Cert.quiescent_MixInReferenceIdeal := fun m ρ _ =>
  (θ_run Cert.MixInReferenceIdeal.defs _ _).mono (fun r h => ⟨fun c => (h c).2.2, sem_eq_zero_of_no_sems (by decide) r.2⟩)
    (Cert.MixInReferenceIdeal.Value.run (F := Ideal) m ρ)

/-- The gradient through the input projection and its norm. -/
theorem mix_in_algebraic : Cert.algebraic_MixInKernelIdeal_MixInReferenceIdeal_pre_mix_in_finite := by
  intro m g m' g' hpre hargs
  choose X D G W P hx hg hw hd hp using fun c => Cert.MixIn.reals _ _ _ _ _ (hpre c)
  refine ⟨fun c => Cert.MixIn.dxArr (X c) (G c) (W c) (D c) (P c), fun c => Cert.MixIn.dgArr (X c) (W c) (P c), ?_, ?_⟩
  · refine (θ_run Cert.MixInKernelIdeal.defs _ _).mono (fun r h c => ?_) (Cert.MixInKernelIdeal.Value.run_blocks (F := Ideal) m g)
    obtain ⟨h0, h1, h2⟩ := h c
    exact ⟨h0.trans (Cert.MixIn.final11 m c _ _ _ _ _ (hx c) (hg c) (hw c) (hd c) (hp c)), h1.trans (Cert.MixIn.final12 m c _ _ _ (hx c) (hw c) (hp c)), h2⟩
  · exact Cert.MixIn.ref_run m' g' X D G W P _ _ _ _ _ (fun c => (hargs c).1) (fun c => (hargs c).2.1) (fun c => (hargs c).2.2.1)
      (fun c => (hargs c).2.2.2.1) (fun c => (hargs c).2.2.2.2) hx hg hw hd hp

/-- The reference's frame: the arguments unchanged, and no semaphore. -/
theorem mix_out_ref_frame : Cert.quiescent_MixOutReferenceIdeal := fun m ρ _ =>
  (θ_run Cert.MixOutReferenceIdeal.defs _ _).mono (fun r h => ⟨fun c => (h c).2.2.2.2.2.2.2, sem_eq_zero_of_no_sems (by decide) r.2⟩)
    (Cert.MixOutReferenceIdeal.Value.run (F := Ideal) m ρ)

/-- The gradient through the gated mix of the two branches and the output projections. -/
theorem mix_out_algebraic : Cert.algebraic_MixOutKernelIdeal_MixOutReferenceIdeal_pre_mix_out_finite := by
  intro m g m' g' hpre hargs
  choose n H using fun c => Cert.MixOut.reals _ _ _ _ _ _ _ _ (hpre c)
  refine ⟨fun c => Cert.MixOut.dpgArr (n c), fun c => Cert.MixOut.mgArr (n c), fun c => Cert.MixOut.dyaArr (n c), fun c => Cert.MixOut.dybArr (n c),
    fun c => Cert.MixOut.doeArr (n c), fun c => Cert.MixOut.dlArr (n c), fun c => Cert.MixOut.dobArr (n c), ?_, ?_⟩
  · refine (θ_run Cert.MixOutKernelIdeal.defs _ _).mono (fun r h c => ?_) (Cert.MixOutKernelIdeal.Value.run_blocks (F := Ideal) m g)
    obtain ⟨h0, h1, h2, h3, h4, h5, h6, h7⟩ := h c
    exact ⟨h0.trans (Cert.MixOut.final10 m c _ (H c)), h1.trans (Cert.MixOut.final11 m c _ (H c)), h2.trans (Cert.MixOut.final12 m c _ (H c)),
      h3.trans (Cert.MixOut.final13 m c _ (H c)), h4.trans (Cert.MixOut.final14 m c _ (H c)), h5.trans (Cert.MixOut.final15 m c _ (H c)),
      h6.trans (Cert.MixOut.final16 m c _ (H c)), h7⟩
  · refine Cert.MixOut.ref_run m' g' n fun c => ?_
    obtain ⟨e0, e1, e2, e3, e4, e5, e6, e7⟩ := hargs c
    rw [e0, e1, e2, e3, e4, e5, e6, e7]
    exact H c

/-- The reference's frame: the arguments unchanged, and no semaphore. -/
theorem qk_ref_frame : Cert.quiescent_QkReferenceIdeal := fun m ρ _ =>
  (θ_run Cert.QkReferenceIdeal.defs _ _).mono (fun r h => ⟨fun c => (h c).2.2.2, sem_eq_zero_of_no_sems (by decide) r.2⟩)
    (Cert.QkReferenceIdeal.Value.run (F := Ideal) m ρ)

/-- The gradient through the rotary embedding and the head norms. -/
theorem qk_algebraic : Cert.algebraic_QkKernelIdeal_QkReferenceIdeal_pre_qk_finite := by
  intro m g m' g' hpre hargs
  choose n H using fun c => Cert.Qk.reals _ _ _ _ _ _ (hpre c)
  refine ⟨fun c => Cert.Qk.dpArr (n c), fun c => Cert.Qk.dgqArr (n c), fun c => Cert.Qk.dgkArr (n c), ?_, ?_⟩
  · refine (θ_run Cert.QkKernelIdeal.defs _ _).mono (fun r h c => ?_) (Cert.QkKernelIdeal.Value.run_blocks (F := Ideal) m g)
    obtain ⟨h0, h1, h2, h3⟩ := h c
    exact ⟨h0.trans (Cert.Qk.final11 m c _ (H c)), h1.trans (Cert.Qk.final12 m c _ (H c)), h2.trans (Cert.Qk.final13 m c _ (H c)), h3⟩
  · refine Cert.Qk.ref_run m' g' n fun c => ?_
    obtain ⟨e0, e1, e2, e3, e4, e5⟩ := hargs c
    rw [e0, e1, e2, e3, e4, e5]
    exact H c

theorem claim : Cert.Claim := ⟨Cert.LossKernel.Gen.facts, Cert.LossKernelIdeal.Gen.facts, Cert.LossReferenceIdeal.Gen.facts,
  Cert.AttnKernel.Gen.facts, Cert.AttnKernelIdeal.Gen.facts, Cert.AttnReferenceIdeal.Gen.facts,
  Cert.MixInKernel.Gen.facts, Cert.MixInKernelIdeal.Gen.facts, Cert.MixInReferenceIdeal.Gen.facts,
  Cert.MixOutKernel.Gen.facts, Cert.MixOutKernelIdeal.Gen.facts, Cert.MixOutReferenceIdeal.Gen.facts,
  Cert.QkKernel.Gen.facts, Cert.QkKernelIdeal.Gen.facts, Cert.QkReferenceIdeal.Gen.facts,
  Cert.FfnKernel.Gen.facts, Cert.FfnKernelIdeal.Gen.facts, Cert.FfnReferenceIdeal.Gen.facts,
  Cert.MixInFwdKernel.Gen.facts, Cert.MixInFwdKernelIdeal.Gen.facts, Cert.MixInFwdReferenceIdeal.Gen.facts,
  Cert.MixOutFwdKernel.Gen.facts, Cert.MixOutFwdKernelIdeal.Gen.facts, Cert.MixOutFwdReferenceIdeal.Gen.facts,
  Cert.QkFwdKernel.Gen.facts, Cert.QkFwdKernelIdeal.Gen.facts, Cert.QkFwdReferenceIdeal.Gen.facts,
  Cert.Pre_loss_finite.Gen.facts, Cert.Pre_attn_finite.Gen.facts, Cert.Pre_mix_in_finite.Gen.facts, Cert.Pre_mix_out_finite.Gen.facts, Cert.Pre_qk_finite.Gen.facts, Cert.Pre_ffn_finite.Gen.facts,
  Cert.Pre_qk_fwd_finite.Gen.facts,
  fun m ρ _ => Cert.LossKernel.Gen.frame m ρ,
  fun m ρ _ => Cert.LossKernelIdeal.Gen.frame m ρ,
  fun m ρ _ => Cert.LossKernelIdeal.Gen.frame m ρ,
  loss_ref_frame,
  fun m ρ _ => loss_ref_frame m ρ trivial,
  Cert.AttnFrame.frame_kernel,
  Cert.AttnFrame.frame_ideal,
  fun m ρ _ => Cert.AttnFrame.frame_ideal m ρ trivial,
  Cert.Attn.ref_frame,
  fun m ρ _ => Cert.Attn.ref_frame m ρ trivial,
  fun m ρ _ => Cert.MixInKernel.Gen.frame m ρ,
  fun m ρ _ => Cert.MixInKernelIdeal.Gen.frame m ρ,
  fun m ρ _ => Cert.MixInKernelIdeal.Gen.frame m ρ,
  mix_in_ref_frame,
  fun m ρ _ => mix_in_ref_frame m ρ trivial,
  fun m ρ _ => Cert.MixOutKernel.Gen.frame m ρ,
  fun m ρ _ => Cert.MixOutKernelIdeal.Gen.frame m ρ,
  fun m ρ _ => Cert.MixOutKernelIdeal.Gen.frame m ρ,
  mix_out_ref_frame,
  fun m ρ _ => mix_out_ref_frame m ρ trivial,
  fun m ρ _ => Cert.QkKernel.Gen.frame m ρ,
  fun m ρ _ => Cert.QkKernelIdeal.Gen.frame m ρ,
  fun m ρ _ => Cert.QkKernelIdeal.Gen.frame m ρ,
  qk_ref_frame,
  fun m ρ _ => qk_ref_frame m ρ trivial,
  Cert.FfnFrame.frame_kernel,
  Cert.FfnFrame.frame_ideal,
  fun m ρ _ => Cert.FfnFrame.frame_ideal m ρ trivial,
  Cert.Ffn.ref_frame,
  fun m ρ _ => Cert.Ffn.ref_frame m ρ trivial,
  fun m ρ _ => Cert.MixInFwdKernel.Gen.frame m ρ,
  fun m ρ _ => Cert.MixInFwdKernelIdeal.Gen.frame m ρ,
  Cert.MixInFwd.ref_frame,
  fun m ρ _ => Cert.MixOutFwdKernel.Gen.frame m ρ,
  fun m ρ _ => Cert.MixOutFwdKernelIdeal.Gen.frame m ρ,
  Cert.MixOutFwd.ref_frame,
  fun m ρ _ => Cert.QkFwdKernel.Gen.frame m ρ,
  fun m ρ _ => Cert.QkFwdKernelIdeal.Gen.frame m ρ,
  fun m ρ _ => Cert.QkFwdKernelIdeal.Gen.frame m ρ,
  Cert.QkFwd.Ref.frame,
  fun m ρ _ => Cert.QkFwd.Ref.frame m ρ trivial,
  trivial,
  loss_algebraic,
  trivial,
  Cert.Attn.algebraic,
  trivial,
  mix_in_algebraic,
  trivial,
  mix_out_algebraic,
  trivial,
  qk_algebraic,
  trivial,
  Cert.Ffn.algebraic,
  trivial,
  Cert.MixInFwd.algebraic,
  trivial,
  Cert.MixOutFwd.algebraic,
  trivial,
  Cert.QkFwd.algebraic⟩

end Cert.Proof

end
